-- ==== Defs.lean ====
def Pre_Gather (m : (ℓ : Loc Cert.Gather.nD Cert.Gather.τ Cert.Gather.sig) → Buf (Elt Bits) ℓ) : Prop :=
  True

def Pre_GatherIdeal (m : (ℓ : Loc Cert.GatherIdeal.nD Cert.GatherIdeal.τ Cert.GatherIdeal.sig) → Buf (Elt Ideal) ℓ) : Prop :=
  True

def Pre_GatherRefIdeal (m : (ℓ : Loc Cert.GatherRefIdeal.nD Cert.GatherRefIdeal.τ Cert.GatherRefIdeal.sig) → Buf (Elt Ideal) ℓ) : Prop :=
  True

def Pre_Scatter (m : (ℓ : Loc Cert.Scatter.nD Cert.Scatter.τ Cert.Scatter.sig) → Buf (Elt Bits) ℓ) : Prop :=
  True

def Pre_ScatterIdeal (m : (ℓ : Loc Cert.ScatterIdeal.nD Cert.ScatterIdeal.τ Cert.ScatterIdeal.sig) → Buf (Elt Ideal) ℓ) : Prop :=
  True

def Pre_ScatterRefIdeal (m : (ℓ : Loc Cert.ScatterRefIdeal.nD Cert.ScatterRefIdeal.τ Cert.ScatterRefIdeal.sig) → Buf (Elt Ideal) ℓ) : Prop :=
  True

def Pre_Update (m : (ℓ : Loc Cert.Update.nD Cert.Update.τ Cert.Update.sig) → Buf (Elt Bits) ℓ) : Prop :=
  True

def Pre_UpdateIdeal (m : (ℓ : Loc Cert.UpdateIdeal.nD Cert.UpdateIdeal.τ Cert.UpdateIdeal.sig) → Buf (Elt Ideal) ℓ) : Prop :=
  True

def Pre_UpdateRefIdeal (m : (ℓ : Loc Cert.UpdateRefIdeal.nD Cert.UpdateRefIdeal.τ Cert.UpdateRefIdeal.sig) → Buf (Elt Ideal) ℓ) : Prop :=
  True

def Pre_GatherRef (m : (ℓ : Loc Cert.GatherRef.nD Cert.GatherRef.τ Cert.GatherRef.sig) → Buf (Elt Bits) ℓ) : Prop :=
  True

def Pre_ScatterRef (m : (ℓ : Loc Cert.ScatterRef.nD Cert.ScatterRef.τ Cert.ScatterRef.sig) → Buf (Elt Bits) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_GradX (m : (ℓ : Loc Cert.GradX.nD Cert.GradX.τ Cert.GradX.sig) → Buf (Elt Bits) ℓ) : Prop :=
  True

def Pre_GradXIdeal (m : (ℓ : Loc Cert.GradXIdeal.nD Cert.GradXIdeal.τ Cert.GradXIdeal.sig) → Buf (Elt Ideal) ℓ) : Prop :=
  True

def Pre_GradXRefIdeal (m : (ℓ : Loc Cert.GradXRefIdeal.nD Cert.GradXRefIdeal.τ Cert.GradXRefIdeal.sig) → Buf (Elt Ideal) ℓ) : Prop :=
  True

def Pre_Prenorm (m : (ℓ : Loc Cert.Prenorm.nD Cert.Prenorm.τ Cert.Prenorm.sig) → Buf (Elt Bits) ℓ) : Prop :=
  True

def Pre_PrenormIdeal (m : (ℓ : Loc Cert.PrenormIdeal.nD Cert.PrenormIdeal.τ Cert.PrenormIdeal.sig) → Buf (Elt Ideal) ℓ) : Prop :=
  True

def Pre_PrenormRefIdeal (m : (ℓ : Loc Cert.PrenormRefIdeal.nD Cert.PrenormRefIdeal.τ Cert.PrenormRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Norm2 (m : (ℓ : Loc Cert.Norm2.nD Cert.Norm2.τ Cert.Norm2.sig) → Buf (Elt Bits) ℓ) : Prop :=
  True

def Pre_Norm2Ideal (m : (ℓ : Loc Cert.Norm2Ideal.nD Cert.Norm2Ideal.τ Cert.Norm2Ideal.sig) → Buf (Elt Ideal) ℓ) : Prop :=
  True

def Pre_Norm2RefIdeal (m : (ℓ : Loc Cert.Norm2RefIdeal.nD Cert.Norm2RefIdeal.τ Cert.Norm2RefIdeal.sig) → Buf (Elt Ideal) ℓ) : Prop :=
  True

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInRefIdeal (m : (ℓ : Loc Cert.FfnInRefIdeal.nD Cert.FfnInRefIdeal.τ Cert.FfnInRefIdeal.sig) → Buf (Elt Ideal) ℓ) : Prop :=
  True

def Pre_Swiglu (m : (ℓ : Loc Cert.Swiglu.nD Cert.Swiglu.τ Cert.Swiglu.sig) → Buf (Elt Bits) ℓ) : Prop :=
  True

def Pre_SwigluIdeal (m : (ℓ : Loc Cert.SwigluIdeal.nD Cert.SwigluIdeal.τ Cert.SwigluIdeal.sig) → Buf (Elt Ideal) ℓ) : Prop :=
  True

def Pre_SwigluRefIdeal (m : (ℓ : Loc Cert.SwigluRefIdeal.nD Cert.SwigluRefIdeal.τ Cert.SwigluRefIdeal.sig) → Buf (Elt Ideal) ℓ) : Prop :=
  True

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_FfnOutRefIdeal (m : (ℓ : Loc Cert.FfnOutRefIdeal.nD Cert.FfnOutRefIdeal.τ Cert.FfnOutRefIdeal.sig) → Buf (Elt Ideal) ℓ) : Prop :=
  True

def Pre_GradWIn (m : (ℓ : Loc Cert.GradWIn.nD Cert.GradWIn.τ Cert.GradWIn.sig) → Buf (Elt Bits) ℓ) : Prop :=
  True

def Pre_GradWInIdeal (m : (ℓ : Loc Cert.GradWInIdeal.nD Cert.GradWInIdeal.τ Cert.GradWInIdeal.sig) → Buf (Elt Ideal) ℓ) : Prop :=
  True

def Pre_GradWInRefIdeal (m : (ℓ : Loc Cert.GradWInRefIdeal.nD Cert.GradWInRefIdeal.τ Cert.GradWInRefIdeal.sig) → Buf (Elt Ideal) ℓ) : Prop :=
  True

def Pre_GradA (m : (ℓ : Loc Cert.GradA.nD Cert.GradA.τ Cert.GradA.sig) → Buf (Elt Bits) ℓ) : Prop :=
  True

def Pre_GradAIdeal (m : (ℓ : Loc Cert.GradAIdeal.nD Cert.GradAIdeal.τ Cert.GradAIdeal.sig) → Buf (Elt Ideal) ℓ) : Prop :=
  True

def Pre_GradARefIdeal (m : (ℓ : Loc Cert.GradARefIdeal.nD Cert.GradARefIdeal.τ Cert.GradARefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeBwdRefIdeal (m : (ℓ : Loc Cert.MergeBwdRefIdeal.nD Cert.MergeBwdRefIdeal.τ Cert.MergeBwdRefIdeal.sig) → Buf (Elt Ideal) ℓ) : Prop :=
  True

def Pre_SwigluBwd (m : (ℓ : Loc Cert.SwigluBwd.nD Cert.SwigluBwd.τ Cert.SwigluBwd.sig) → Buf (Elt Bits) ℓ) : Prop :=
  True

def Pre_SwigluBwdIdeal (m : (ℓ : Loc Cert.SwigluBwdIdeal.nD Cert.SwigluBwdIdeal.τ Cert.SwigluBwdIdeal.sig) → Buf (Elt Ideal) ℓ) : Prop :=
  True

def Pre_SwigluBwdRefIdeal (m : (ℓ : Loc Cert.SwigluBwdRefIdeal.nD Cert.SwigluBwdRefIdeal.τ Cert.SwigluBwdRefIdeal.sig) → Buf (Elt Ideal) ℓ) : Prop :=
  True

def Pre_Norm2Bwd (m : (ℓ : Loc Cert.Norm2Bwd.nD Cert.Norm2Bwd.τ Cert.Norm2Bwd.sig) → Buf (Elt Bits) ℓ) : Prop :=
  True

def Pre_Norm2BwdIdeal (m : (ℓ : Loc Cert.Norm2BwdIdeal.nD Cert.Norm2BwdIdeal.τ Cert.Norm2BwdIdeal.sig) → Buf (Elt Ideal) ℓ) : Prop :=
  True

def Pre_Norm2BwdRefIdeal (m : (ℓ : Loc Cert.Norm2BwdRefIdeal.nD Cert.Norm2BwdRefIdeal.τ Cert.Norm2BwdRefIdeal.sig) → Buf (Elt Ideal) ℓ) : Prop :=
  True

def Pre_GradFfnOut (m : (ℓ : Loc Cert.GradFfnOut.nD Cert.GradFfnOut.τ Cert.GradFfnOut.sig) → Buf (Elt Bits) ℓ) : Prop :=
  True

def Pre_GradFfnOutIdeal (m : (ℓ : Loc Cert.GradFfnOutIdeal.nD Cert.GradFfnOutIdeal.τ Cert.GradFfnOutIdeal.sig) → Buf (Elt Ideal) ℓ) : Prop :=
  True

def Pre_GradFfnOutRefIdeal (m : (ℓ : Loc Cert.GradFfnOutRefIdeal.nD Cert.GradFfnOutRefIdeal.τ Cert.GradFfnOutRefIdeal.sig) → Buf (Elt Ideal) ℓ) : Prop :=
  True

def Pre_GradGated (m : (ℓ : Loc Cert.GradGated.nD Cert.GradGated.τ Cert.GradGated.sig) → Buf (Elt Bits) ℓ) : Prop :=
  True

def Pre_GradGatedIdeal (m : (ℓ : Loc Cert.GradGatedIdeal.nD Cert.GradGatedIdeal.τ Cert.GradGatedIdeal.sig) → Buf (Elt Ideal) ℓ) : Prop :=
  True

def Pre_GradGatedRefIdeal (m : (ℓ : Loc Cert.GradGatedRefIdeal.nD Cert.GradGatedRefIdeal.τ Cert.GradGatedRefIdeal.sig) → Buf (Elt Ideal) ℓ) : Prop :=
  True

def Pre_GradFfnIn (m : (ℓ : Loc Cert.GradFfnIn.nD Cert.GradFfnIn.τ Cert.GradFfnIn.sig) → Buf (Elt Bits) ℓ) : Prop :=
  True

def Pre_GradFfnInIdeal (m : (ℓ : Loc Cert.GradFfnInIdeal.nD Cert.GradFfnInIdeal.τ Cert.GradFfnInIdeal.sig) → Buf (Elt Ideal) ℓ) : Prop :=
  True

def Pre_GradFfnInRefIdeal (m : (ℓ : Loc Cert.GradFfnInRefIdeal.nD Cert.GradFfnInRefIdeal.τ Cert.GradFfnInRefIdeal.sig) → Buf (Elt Ideal) ℓ) : Prop :=
  True

def Pre_GradNormed (m : (ℓ : Loc Cert.GradNormed.nD Cert.GradNormed.τ Cert.GradNormed.sig) → Buf (Elt Bits) ℓ) : Prop :=
  True

def Pre_GradNormedIdeal (m : (ℓ : Loc Cert.GradNormedIdeal.nD Cert.GradNormedIdeal.τ Cert.GradNormedIdeal.sig) → Buf (Elt Ideal) ℓ) : Prop :=
  True

def Pre_GradNormedRefIdeal (m : (ℓ : Loc Cert.GradNormedRefIdeal.nD Cert.GradNormedRefIdeal.τ Cert.GradNormedRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_BranchSsm (m : (ℓ : Loc Cert.BranchSsm.nD Cert.BranchSsm.τ Cert.BranchSsm.sig) → Buf (Elt Bits) ℓ) : Prop :=
  True

def Pre_BranchSsmIdeal (m : (ℓ : Loc Cert.BranchSsmIdeal.nD Cert.BranchSsmIdeal.τ Cert.BranchSsmIdeal.sig) → Buf (Elt Ideal) ℓ) : Prop :=
  True

def Pre_BranchSsmRefIdeal (m : (ℓ : Loc Cert.BranchSsmRefIdeal.nD Cert.BranchSsmRefIdeal.τ Cert.BranchSsmRefIdeal.sig) → Buf (Elt Ideal) ℓ) : Prop :=
  True

def Pre_GradWOut (m : (ℓ : Loc Cert.GradWOut.nD Cert.GradWOut.τ Cert.GradWOut.sig) → Buf (Elt Bits) ℓ) : Prop :=
  True

def Pre_GradWOutIdeal (m : (ℓ : Loc Cert.GradWOutIdeal.nD Cert.GradWOutIdeal.τ Cert.GradWOutIdeal.sig) → Buf (Elt Ideal) ℓ) : Prop :=
  True

def Pre_GradWOutRefIdeal (m : (ℓ : Loc Cert.GradWOutRefIdeal.nD Cert.GradWOutRefIdeal.τ Cert.GradWOutRefIdeal.sig) → Buf (Elt Ideal) ℓ) : Prop :=
  True

def Pre_GradWSsm (m : (ℓ : Loc Cert.GradWSsm.nD Cert.GradWSsm.τ Cert.GradWSsm.sig) → Buf (Elt Bits) ℓ) : Prop :=
  True

def Pre_GradWSsmIdeal (m : (ℓ : Loc Cert.GradWSsmIdeal.nD Cert.GradWSsmIdeal.τ Cert.GradWSsmIdeal.sig) → Buf (Elt Ideal) ℓ) : Prop :=
  True

def Pre_GradWSsmRefIdeal (m : (ℓ : Loc Cert.GradWSsmRefIdeal.nD Cert.GradWSsmRefIdeal.τ Cert.GradWSsmRefIdeal.sig) → Buf (Elt Ideal) ℓ) : Prop :=
  True

def Pre_GradMerged (m : (ℓ : Loc Cert.GradMerged.nD Cert.GradMerged.τ Cert.GradMerged.sig) → Buf (Elt Bits) ℓ) : Prop :=
  True

def Pre_GradMergedIdeal (m : (ℓ : Loc Cert.GradMergedIdeal.nD Cert.GradMergedIdeal.τ Cert.GradMergedIdeal.sig) → Buf (Elt Ideal) ℓ) : Prop :=
  True

def Pre_GradMergedRefIdeal (m : (ℓ : Loc Cert.GradMergedRefIdeal.nD Cert.GradMergedRefIdeal.τ Cert.GradMergedRefIdeal.sig) → Buf (Elt Ideal) ℓ) : Prop :=
  True

def Pre_GradSsm (m : (ℓ : Loc Cert.GradSsm.nD Cert.GradSsm.τ Cert.GradSsm.sig) → Buf (Elt Bits) ℓ) : Prop :=
  True

def Pre_GradSsmIdeal (m : (ℓ : Loc Cert.GradSsmIdeal.nD Cert.GradSsmIdeal.τ Cert.GradSsmIdeal.sig) → Buf (Elt Ideal) ℓ) : Prop :=
  True

def Pre_GradSsmRefIdeal (m : (ℓ : Loc Cert.GradSsmRefIdeal.nD Cert.GradSsmRefIdeal.τ Cert.GradSsmRefIdeal.sig) → Buf (Elt Ideal) ℓ) : Prop :=
  True

def Pre_AdaBwd (m : (ℓ : Loc Cert.AdaBwd.nD Cert.AdaBwd.τ Cert.AdaBwd.sig) → Buf (Elt Bits) ℓ) : Prop :=
  True

def Pre_AdaBwdIdeal (m : (ℓ : Loc Cert.AdaBwdIdeal.nD Cert.AdaBwdIdeal.τ Cert.AdaBwdIdeal.sig) → Buf (Elt Ideal) ℓ) : Prop :=
  True

def Pre_AdaBwdRefIdeal (m : (ℓ : Loc Cert.AdaBwdRefIdeal.nD Cert.AdaBwdRefIdeal.τ Cert.AdaBwdRefIdeal.sig) → Buf (Elt Ideal) ℓ) : Prop :=
  True

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0))
      ∧ r.2.sem = fun _ => 0)

def quiescent_GatherIdeal [hGatherIdeal : Cert.GatherIdeal.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0))
      ∧ r.2.sem = fun _ => 0)

def quiescent_GatherRefIdeal [hGatherRefIdeal : Cert.GatherRefIdeal.Facts] : Prop :=
  ∀ (m : (ℓ : Loc Cert.GatherRefIdeal.nD Cert.GatherRefIdeal.τ Cert.GatherRefIdeal.sig) → Buf (Elt Ideal) ℓ) (g : Dev Cert.GatherRefIdeal.nD → PrngReg), Pre_GatherRefIdeal m →
    θ_run (Cert.GatherRefIdeal.defs (F := Ideal)) (onTc (τ := Cert.GatherRefIdeal.τ) (Cert.GatherRefIdeal.main (F := Ideal))) ⟨m, fun _ => 0, g⟩ (fun r => (∀ c : Dev Cert.GatherRefIdeal.nD,
      r.2.mem ((c.tc : Thread Cert.GatherRefIdeal.nD Cert.GatherRefIdeal.τ).loc Cert.GatherRefIdeal.main_arg0) = m ((c.tc : Thread Cert.GatherRefIdeal.nD Cert.GatherRefIdeal.τ).loc Cert.GatherRefIdeal.main_arg0))
      ∧ r.2.sem = fun _ => 0)

def quiescent_Scatter [hScatter : Cert.Scatter.Facts] : Prop :=
  ∀ (m : (ℓ : Loc Cert.Scatter.nD Cert.Scatter.τ Cert.Scatter.sig) → Buf (Elt Bits) ℓ) (g : Dev Cert.Scatter.nD → PrngReg), Pre_Scatter m →
    θ_run (Cert.Scatter.defs (F := Bits)) (onTc (τ := Cert.Scatter.τ) (Cert.Scatter.main (F := Bits))) ⟨m, fun _ => 0, g⟩ (fun r => (∀ c : Dev Cert.Scatter.nD,
      r.2.mem ((c.tc : Thread Cert.Scatter.nD Cert.Scatter.τ).loc Cert.Scatter.main_arg0) = m ((c.tc : Thread Cert.Scatter.nD Cert.Scatter.τ).loc Cert.Scatter.main_arg0))
      ∧ r.2.sem = fun _ => 0)

def quiescent_ScatterIdeal [hScatterIdeal : Cert.ScatterIdeal.Facts] : Prop :=
  ∀ (m : (ℓ : Loc Cert.ScatterIdeal.nD Cert.ScatterIdeal.τ Cert.ScatterIdeal.sig) → Buf (Elt Ideal) ℓ) (g : Dev Cert.ScatterIdeal.nD → PrngReg), Pre_ScatterIdeal m →
    θ_run (Cert.ScatterIdeal.defs (F := Ideal)) (onTc (τ := Cert.ScatterIdeal.τ) (Cert.ScatterIdeal.main (F := Ideal))) ⟨m, fun _ => 0, g⟩ (fun r => (∀ c : Dev Cert.ScatterIdeal.nD,
      r.2.mem ((c.tc : Thread Cert.ScatterIdeal.nD Cert.ScatterIdeal.τ).loc Cert.ScatterIdeal.main_arg0) = m ((c.tc : Thread Cert.ScatterIdeal.nD Cert.ScatterIdeal.τ).loc Cert.ScatterIdeal.main_arg0))
      ∧ r.2.sem = fun _ => 0)

def quiescent_ScatterRefIdeal [hScatterRefIdeal : Cert.ScatterRefIdeal.Facts] : Prop :=
  ∀ (m : (ℓ : Loc Cert.ScatterRefIdeal.nD Cert.ScatterRefIdeal.τ Cert.ScatterRefIdeal.sig) → Buf (Elt Ideal) ℓ) (g : Dev Cert.ScatterRefIdeal.nD → PrngReg), Pre_ScatterRefIdeal m →
    θ_run (Cert.ScatterRefIdeal.defs (F := Ideal)) (onTc (τ := Cert.ScatterRefIdeal.τ) (Cert.ScatterRefIdeal.main (F := Ideal))) ⟨m, fun _ => 0, g⟩ (fun r => (∀ c : Dev Cert.ScatterRefIdeal.nD,
      r.2.mem ((c.tc : Thread Cert.ScatterRefIdeal.nD Cert.ScatterRefIdeal.τ).loc Cert.ScatterRefIdeal.main_arg0) = m ((c.tc : Thread Cert.ScatterRefIdeal.nD Cert.ScatterRefIdeal.τ).loc Cert.ScatterRefIdeal.main_arg0))
      ∧ r.2.sem = fun _ => 0)

def quiescent_Update [hUpdate : Cert.Update.Facts] : Prop :=
  ∀ (m : (ℓ : Loc Cert.Update.nD Cert.Update.τ Cert.Update.sig) → Buf (Elt Bits) ℓ) (g : Dev Cert.Update.nD → PrngReg), Pre_Update m →
    θ_run (Cert.Update.defs (F := Bits)) (onTc (τ := Cert.Update.τ) (Cert.Update.main (F := Bits))) ⟨m, fun _ => 0, g⟩ (fun r => (∀ c : Dev Cert.Update.nD,
      r.2.mem ((c.tc : Thread Cert.Update.nD Cert.Update.τ).loc Cert.Update.main_arg0) = m ((c.tc : Thread Cert.Update.nD Cert.Update.τ).loc Cert.Update.main_arg0)
      ∧ r.2.mem ((c.tc : Thread Cert.Update.nD Cert.Update.τ).loc Cert.Update.main_arg1) = m ((c.tc : Thread Cert.Update.nD Cert.Update.τ).loc Cert.Update.main_arg1)
      ∧ r.2.mem ((c.tc : Thread Cert.Update.nD Cert.Update.τ).loc Cert.Update.main_arg2) = m ((c.tc : Thread Cert.Update.nD Cert.Update.τ).loc Cert.Update.main_arg2)
      ∧ r.2.mem ((c.tc : Thread Cert.Update.nD Cert.Update.τ).loc Cert.Update.main_arg3) = m ((c.tc : Thread Cert.Update.nD Cert.Update.τ).loc Cert.Update.main_arg3))
      ∧ r.2.sem = fun _ => 0)

def quiescent_UpdateIdeal [hUpdateIdeal : Cert.UpdateIdeal.Facts] : Prop :=
  ∀ (m : (ℓ : Loc Cert.UpdateIdeal.nD Cert.UpdateIdeal.τ Cert.UpdateIdeal.sig) → Buf (Elt Ideal) ℓ) (g : Dev Cert.UpdateIdeal.nD → PrngReg), Pre_UpdateIdeal m →
    θ_run (Cert.UpdateIdeal.defs (F := Ideal)) (onTc (τ := Cert.UpdateIdeal.τ) (Cert.UpdateIdeal.main (F := Ideal))) ⟨m, fun _ => 0, g⟩ (fun r => (∀ c : Dev Cert.UpdateIdeal.nD,
      r.2.mem ((c.tc : Thread Cert.UpdateIdeal.nD Cert.UpdateIdeal.τ).loc Cert.UpdateIdeal.main_arg0) = m ((c.tc : Thread Cert.UpdateIdeal.nD Cert.UpdateIdeal.τ).loc Cert.UpdateIdeal.main_arg0)
      ∧ r.2.mem ((c.tc : Thread Cert.UpdateIdeal.nD Cert.UpdateIdeal.τ).loc Cert.UpdateIdeal.main_arg1) = m ((c.tc : Thread Cert.UpdateIdeal.nD Cert.UpdateIdeal.τ).loc Cert.UpdateIdeal.main_arg1)
      ∧ r.2.mem ((c.tc : Thread Cert.UpdateIdeal.nD Cert.UpdateIdeal.τ).loc Cert.UpdateIdeal.main_arg2) = m ((c.tc : Thread Cert.UpdateIdeal.nD Cert.UpdateIdeal.τ).loc Cert.UpdateIdeal.main_arg2)
      ∧ r.2.mem ((c.tc : Thread Cert.UpdateIdeal.nD Cert.UpdateIdeal.τ).loc Cert.UpdateIdeal.main_arg3) = m ((c.tc : Thread Cert.UpdateIdeal.nD Cert.UpdateIdeal.τ).loc Cert.UpdateIdeal.main_arg3))
      ∧ r.2.sem = fun _ => 0)

def quiescent_UpdateRefIdeal [hUpdateRefIdeal : Cert.UpdateRefIdeal.Facts] : Prop :=
  ∀ (m : (ℓ : Loc Cert.UpdateRefIdeal.nD Cert.UpdateRefIdeal.τ Cert.UpdateRefIdeal.sig) → Buf (Elt Ideal) ℓ) (g : Dev Cert.UpdateRefIdeal.nD → PrngReg), Pre_UpdateRefIdeal m →
    θ_run (Cert.UpdateRefIdeal.defs (F := Ideal)) (onTc (τ := Cert.UpdateRefIdeal.τ) (Cert.UpdateRefIdeal.main (F := Ideal))) ⟨m, fun _ => 0, g⟩ (fun r => (∀ c : Dev Cert.UpdateRefIdeal.nD,
      r.2.mem ((c.tc : Thread Cert.UpdateRefIdeal.nD Cert.UpdateRefIdeal.τ).loc Cert.UpdateRefIdeal.main_arg0) = m ((c.tc : Thread Cert.UpdateRefIdeal.nD Cert.UpdateRefIdeal.τ).loc Cert.UpdateRefIdeal.main_arg0)
      ∧ r.2.mem ((c.tc : Thread Cert.UpdateRefIdeal.nD Cert.UpdateRefIdeal.τ).loc Cert.UpdateRefIdeal.main_arg1) = m ((c.tc : Thread Cert.UpdateRefIdeal.nD Cert.UpdateRefIdeal.τ).loc Cert.UpdateRefIdeal.main_arg1)
      ∧ r.2.mem ((c.tc : Thread Cert.UpdateRefIdeal.nD Cert.UpdateRefIdeal.τ).loc Cert.UpdateRefIdeal.main_arg2) = m ((c.tc : Thread Cert.UpdateRefIdeal.nD Cert.UpdateRefIdeal.τ).loc Cert.UpdateRefIdeal.main_arg2)
      ∧ r.2.mem ((c.tc : Thread Cert.UpdateRefIdeal.nD Cert.UpdateRefIdeal.τ).loc Cert.UpdateRefIdeal.main_arg3) = m ((c.tc : Thread Cert.UpdateRefIdeal.nD Cert.UpdateRefIdeal.τ).loc Cert.UpdateRefIdeal.main_arg3))
      ∧ r.2.sem = fun _ => 0)

def quiescent_GatherRef [hGatherRef : Cert.GatherRef.Facts] : Prop :=
  ∀ (m : (ℓ : Loc Cert.GatherRef.nD Cert.GatherRef.τ Cert.GatherRef.sig) → Buf (Elt Bits) ℓ) (g : Dev Cert.GatherRef.nD → PrngReg), Pre_GatherRef m →
    θ_run (Cert.GatherRef.defs (F := Bits)) (onTc (τ := Cert.GatherRef.τ) (Cert.GatherRef.main (F := Bits))) ⟨m, fun _ => 0, g⟩ (fun r => (∀ c : Dev Cert.GatherRef.nD,
      r.2.mem ((c.tc : Thread Cert.GatherRef.nD Cert.GatherRef.τ).loc Cert.GatherRef.main_arg0) = m ((c.tc : Thread Cert.GatherRef.nD Cert.GatherRef.τ).loc Cert.GatherRef.main_arg0))
      ∧ r.2.sem = fun _ => 0)

def quiescent_ScatterRef [hScatterRef : Cert.ScatterRef.Facts] : Prop :=
  ∀ (m : (ℓ : Loc Cert.ScatterRef.nD Cert.ScatterRef.τ Cert.ScatterRef.sig) → Buf (Elt Bits) ℓ) (g : Dev Cert.ScatterRef.nD → PrngReg), Pre_ScatterRef m →
    θ_run (Cert.ScatterRef.defs (F := Bits)) (onTc (τ := Cert.ScatterRef.τ) (Cert.ScatterRef.main (F := Bits))) ⟨m, fun _ => 0, g⟩ (fun r => (∀ c : Dev Cert.ScatterRef.nD,
      r.2.mem ((c.tc : Thread Cert.ScatterRef.nD Cert.ScatterRef.τ).loc Cert.ScatterRef.main_arg0) = m ((c.tc : Thread Cert.ScatterRef.nD Cert.ScatterRef.τ).loc Cert.ScatterRef.main_arg0))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_GradX [hGradX : Cert.GradX.Facts] : Prop :=
  ∀ (m : (ℓ : Loc Cert.GradX.nD Cert.GradX.τ Cert.GradX.sig) → Buf (Elt Bits) ℓ) (g : Dev Cert.GradX.nD → PrngReg), Pre_GradX m →
    θ_run (Cert.GradX.defs (F := Bits)) (onTc (τ := Cert.GradX.τ) (Cert.GradX.main (F := Bits))) ⟨m, fun _ => 0, g⟩ (fun r => (∀ c : Dev Cert.GradX.nD,
      r.2.mem ((c.tc : Thread Cert.GradX.nD Cert.GradX.τ).loc Cert.GradX.main_arg0) = m ((c.tc : Thread Cert.GradX.nD Cert.GradX.τ).loc Cert.GradX.main_arg0)
      ∧ r.2.mem ((c.tc : Thread Cert.GradX.nD Cert.GradX.τ).loc Cert.GradX.main_arg1) = m ((c.tc : Thread Cert.GradX.nD Cert.GradX.τ).loc Cert.GradX.main_arg1)
      ∧ r.2.mem ((c.tc : Thread Cert.GradX.nD Cert.GradX.τ).loc Cert.GradX.main_arg2) = m ((c.tc : Thread Cert.GradX.nD Cert.GradX.τ).loc Cert.GradX.main_arg2)
      ∧ r.2.mem ((c.tc : Thread Cert.GradX.nD Cert.GradX.τ).loc Cert.GradX.main_arg3) = m ((c.tc : Thread Cert.GradX.nD Cert.GradX.τ).loc Cert.GradX.main_arg3)
      ∧ r.2.mem ((c.tc : Thread Cert.GradX.nD Cert.GradX.τ).loc Cert.GradX.main_arg4) = m ((c.tc : Thread Cert.GradX.nD Cert.GradX.τ).loc Cert.GradX.main_arg4))
      ∧ r.2.sem = fun _ => 0)

def quiescent_GradXIdeal [hGradXIdeal : Cert.GradXIdeal.Facts] : Prop :=
  ∀ (m : (ℓ : Loc Cert.GradXIdeal.nD Cert.GradXIdeal.τ Cert.GradXIdeal.sig) → Buf (Elt Ideal) ℓ) (g : Dev Cert.GradXIdeal.nD → PrngReg), Pre_GradXIdeal m →
    θ_run (Cert.GradXIdeal.defs (F := Ideal)) (onTc (τ := Cert.GradXIdeal.τ) (Cert.GradXIdeal.main (F := Ideal))) ⟨m, fun _ => 0, g⟩ (fun r => (∀ c : Dev Cert.GradXIdeal.nD,
      r.2.mem ((c.tc : Thread Cert.GradXIdeal.nD Cert.GradXIdeal.τ).loc Cert.GradXIdeal.main_arg0) = m ((c.tc : Thread Cert.GradXIdeal.nD Cert.GradXIdeal.τ).loc Cert.GradXIdeal.main_arg0)
      ∧ r.2.mem ((c.tc : Thread Cert.GradXIdeal.nD Cert.GradXIdeal.τ).loc Cert.GradXIdeal.main_arg1) = m ((c.tc : Thread Cert.GradXIdeal.nD Cert.GradXIdeal.τ).loc Cert.GradXIdeal.main_arg1)
      ∧ r.2.mem ((c.tc : Thread Cert.GradXIdeal.nD Cert.GradXIdeal.τ).loc Cert.GradXIdeal.main_arg2) = m ((c.tc : Thread Cert.GradXIdeal.nD Cert.GradXIdeal.τ).loc Cert.GradXIdeal.main_arg2)
      ∧ r.2.mem ((c.tc : Thread Cert.GradXIdeal.nD Cert.GradXIdeal.τ).loc Cert.GradXIdeal.main_arg3) = m ((c.tc : Thread Cert.GradXIdeal.nD Cert.GradXIdeal.τ).loc Cert.GradXIdeal.main_arg3)
      ∧ r.2.mem ((c.tc : Thread Cert.GradXIdeal.nD Cert.GradXIdeal.τ).loc Cert.GradXIdeal.main_arg4) = m ((c.tc : Thread Cert.GradXIdeal.nD Cert.GradXIdeal.τ).loc Cert.GradXIdeal.main_arg4))
      ∧ r.2.sem = fun _ => 0)

def quiescent_GradXRefIdeal [hGradXRefIdeal : Cert.GradXRefIdeal.Facts] : Prop :=
  ∀ (m : (ℓ : Loc Cert.GradXRefIdeal.nD Cert.GradXRefIdeal.τ Cert.GradXRefIdeal.sig) → Buf (Elt Ideal) ℓ) (g : Dev Cert.GradXRefIdeal.nD → PrngReg), Pre_GradXRefIdeal m →
    θ_run (Cert.GradXRefIdeal.defs (F := Ideal)) (onTc (τ := Cert.GradXRefIdeal.τ) (Cert.GradXRefIdeal.main (F := Ideal))) ⟨m, fun _ => 0, g⟩ (fun r => (∀ c : Dev Cert.GradXRefIdeal.nD,
      r.2.mem ((c.tc : Thread Cert.GradXRefIdeal.nD Cert.GradXRefIdeal.τ).loc Cert.GradXRefIdeal.main_arg0) = m ((c.tc : Thread Cert.GradXRefIdeal.nD Cert.GradXRefIdeal.τ).loc Cert.GradXRefIdeal.main_arg0)
      ∧ r.2.mem ((c.tc : Thread Cert.GradXRefIdeal.nD Cert.GradXRefIdeal.τ).loc Cert.GradXRefIdeal.main_arg1) = m ((c.tc : Thread Cert.GradXRefIdeal.nD Cert.GradXRefIdeal.τ).loc Cert.GradXRefIdeal.main_arg1)
      ∧ r.2.mem ((c.tc : Thread Cert.GradXRefIdeal.nD Cert.GradXRefIdeal.τ).loc Cert.GradXRefIdeal.main_arg2) = m ((c.tc : Thread Cert.GradXRefIdeal.nD Cert.GradXRefIdeal.τ).loc Cert.GradXRefIdeal.main_arg2)
      ∧ r.2.mem ((c.tc : Thread Cert.GradXRefIdeal.nD Cert.GradXRefIdeal.τ).loc Cert.GradXRefIdeal.main_arg3) = m ((c.tc : Thread Cert.GradXRefIdeal.nD Cert.GradXRefIdeal.τ).loc Cert.GradXRefIdeal.main_arg3)
      ∧ r.2.mem ((c.tc : Thread Cert.GradXRefIdeal.nD Cert.GradXRefIdeal.τ).loc Cert.GradXRefIdeal.main_arg4) = m ((c.tc : Thread Cert.GradXRefIdeal.nD Cert.GradXRefIdeal.τ).loc Cert.GradXRefIdeal.main_arg4))
      ∧ r.2.sem = fun _ => 0)

def quiescent_Prenorm [hPrenorm : Cert.Prenorm.Facts] : Prop :=
  ∀ (m : (ℓ : Loc Cert.Prenorm.nD Cert.Prenorm.τ Cert.Prenorm.sig) → Buf (Elt Bits) ℓ) (g : Dev Cert.Prenorm.nD → PrngReg), Pre_Prenorm m →
    θ_run (Cert.Prenorm.defs (F := Bits)) (onTc (τ := Cert.Prenorm.τ) (Cert.Prenorm.main (F := Bits))) ⟨m, fun _ => 0, g⟩ (fun r => (∀ c : Dev Cert.Prenorm.nD,
      r.2.mem ((c.tc : Thread Cert.Prenorm.nD Cert.Prenorm.τ).loc Cert.Prenorm.main_arg0) = m ((c.tc : Thread Cert.Prenorm.nD Cert.Prenorm.τ).loc Cert.Prenorm.main_arg0)
      ∧ r.2.mem ((c.tc : Thread Cert.Prenorm.nD Cert.Prenorm.τ).loc Cert.Prenorm.main_arg1) = m ((c.tc : Thread Cert.Prenorm.nD Cert.Prenorm.τ).loc Cert.Prenorm.main_arg1)
      ∧ r.2.mem ((c.tc : Thread Cert.Prenorm.nD Cert.Prenorm.τ).loc Cert.Prenorm.main_arg2) = m ((c.tc : Thread Cert.Prenorm.nD Cert.Prenorm.τ).loc Cert.Prenorm.main_arg2))
      ∧ r.2.sem = fun _ => 0)

def quiescent_PrenormIdeal [hPrenormIdeal : Cert.PrenormIdeal.Facts] : Prop :=
  ∀ (m : (ℓ : Loc Cert.PrenormIdeal.nD Cert.PrenormIdeal.τ Cert.PrenormIdeal.sig) → Buf (Elt Ideal) ℓ) (g : Dev Cert.PrenormIdeal.nD → PrngReg), Pre_PrenormIdeal m →
    θ_run (Cert.PrenormIdeal.defs (F := Ideal)) (onTc (τ := Cert.PrenormIdeal.τ) (Cert.PrenormIdeal.main (F := Ideal))) ⟨m, fun _ => 0, g⟩ (fun r => (∀ c : Dev Cert.PrenormIdeal.nD,
      r.2.mem ((c.tc : Thread Cert.PrenormIdeal.nD Cert.PrenormIdeal.τ).loc Cert.PrenormIdeal.main_arg0) = m ((c.tc : Thread Cert.PrenormIdeal.nD Cert.PrenormIdeal.τ).loc Cert.PrenormIdeal.main_arg0)
      ∧ r.2.mem ((c.tc : Thread Cert.PrenormIdeal.nD Cert.PrenormIdeal.τ).loc Cert.PrenormIdeal.main_arg1) = m ((c.tc : Thread Cert.PrenormIdeal.nD Cert.PrenormIdeal.τ).loc Cert.PrenormIdeal.main_arg1)
      ∧ r.2.mem ((c.tc : Thread Cert.PrenormIdeal.nD Cert.PrenormIdeal.τ).loc Cert.PrenormIdeal.main_arg2) = m ((c.tc : Thread Cert.PrenormIdeal.nD Cert.PrenormIdeal.τ).loc Cert.PrenormIdeal.main_arg2))
      ∧ r.2.sem = fun _ => 0)

def quiescent_PrenormRefIdeal [hPrenormRefIdeal : Cert.PrenormRefIdeal.Facts] : Prop :=
  ∀ (m : (ℓ : Loc Cert.PrenormRefIdeal.nD Cert.PrenormRefIdeal.τ Cert.PrenormRefIdeal.sig) → Buf (Elt Ideal) ℓ) (g : Dev Cert.PrenormRefIdeal.nD → PrngReg), Pre_PrenormRefIdeal m →
    θ_run (Cert.PrenormRefIdeal.defs (F := Ideal)) (onTc (τ := Cert.PrenormRefIdeal.τ) (Cert.PrenormRefIdeal.main (F := Ideal))) ⟨m, fun _ => 0, g⟩ (fun r => (∀ c : Dev Cert.PrenormRefIdeal.nD,
      r.2.mem ((c.tc : Thread Cert.PrenormRefIdeal.nD Cert.PrenormRefIdeal.τ).loc Cert.PrenormRefIdeal.main_arg0) = m ((c.tc : Thread Cert.PrenormRefIdeal.nD Cert.PrenormRefIdeal.τ).loc Cert.PrenormRefIdeal.main_arg0)
      ∧ r.2.mem ((c.tc : Thread Cert.PrenormRefIdeal.nD Cert.PrenormRefIdeal.τ).loc Cert.PrenormRefIdeal.main_arg1) = m ((c.tc : Thread Cert.PrenormRefIdeal.nD Cert.PrenormRefIdeal.τ).loc Cert.PrenormRefIdeal.main_arg1)
      ∧ r.2.mem ((c.tc : Thread Cert.PrenormRefIdeal.nD Cert.PrenormRefIdeal.τ).loc Cert.PrenormRefIdeal.main_arg2) = m ((c.tc : Thread Cert.PrenormRefIdeal.nD Cert.PrenormRefIdeal.τ).loc Cert.PrenormRefIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_Norm2 [hNorm2 : Cert.Norm2.Facts] : Prop :=
  ∀ (m : (ℓ : Loc Cert.Norm2.nD Cert.Norm2.τ Cert.Norm2.sig) → Buf (Elt Bits) ℓ) (g : Dev Cert.Norm2.nD → PrngReg), Pre_Norm2 m →
    θ_run (Cert.Norm2.defs (F := Bits)) (onTc (τ := Cert.Norm2.τ) (Cert.Norm2.main (F := Bits))) ⟨m, fun _ => 0, g⟩ (fun r => (∀ c : Dev Cert.Norm2.nD,
      r.2.mem ((c.tc : Thread Cert.Norm2.nD Cert.Norm2.τ).loc Cert.Norm2.main_arg0) = m ((c.tc : Thread Cert.Norm2.nD Cert.Norm2.τ).loc Cert.Norm2.main_arg0)
      ∧ r.2.mem ((c.tc : Thread Cert.Norm2.nD Cert.Norm2.τ).loc Cert.Norm2.main_arg1) = m ((c.tc : Thread Cert.Norm2.nD Cert.Norm2.τ).loc Cert.Norm2.main_arg1)
      ∧ r.2.mem ((c.tc : Thread Cert.Norm2.nD Cert.Norm2.τ).loc Cert.Norm2.main_arg2) = m ((c.tc : Thread Cert.Norm2.nD Cert.Norm2.τ).loc Cert.Norm2.main_arg2)
      ∧ r.2.mem ((c.tc : Thread Cert.Norm2.nD Cert.Norm2.τ).loc Cert.Norm2.main_arg3) = m ((c.tc : Thread Cert.Norm2.nD Cert.Norm2.τ).loc Cert.Norm2.main_arg3))
      ∧ r.2.sem = fun _ => 0)

def quiescent_Norm2Ideal [hNorm2Ideal : Cert.Norm2Ideal.Facts] : Prop :=
  ∀ (m : (ℓ : Loc Cert.Norm2Ideal.nD Cert.Norm2Ideal.τ Cert.Norm2Ideal.sig) → Buf (Elt Ideal) ℓ) (g : Dev Cert.Norm2Ideal.nD → PrngReg), Pre_Norm2Ideal m →
    θ_run (Cert.Norm2Ideal.defs (F := Ideal)) (onTc (τ := Cert.Norm2Ideal.τ) (Cert.Norm2Ideal.main (F := Ideal))) ⟨m, fun _ => 0, g⟩ (fun r => (∀ c : Dev Cert.Norm2Ideal.nD,
      r.2.mem ((c.tc : Thread Cert.Norm2Ideal.nD Cert.Norm2Ideal.τ).loc Cert.Norm2Ideal.main_arg0) = m ((c.tc : Thread Cert.Norm2Ideal.nD Cert.Norm2Ideal.τ).loc Cert.Norm2Ideal.main_arg0)
      ∧ r.2.mem ((c.tc : Thread Cert.Norm2Ideal.nD Cert.Norm2Ideal.τ).loc Cert.Norm2Ideal.main_arg1) = m ((c.tc : Thread Cert.Norm2Ideal.nD Cert.Norm2Ideal.τ).loc Cert.Norm2Ideal.main_arg1)
      ∧ r.2.mem ((c.tc : Thread Cert.Norm2Ideal.nD Cert.Norm2Ideal.τ).loc Cert.Norm2Ideal.main_arg2) = m ((c.tc : Thread Cert.Norm2Ideal.nD Cert.Norm2Ideal.τ).loc Cert.Norm2Ideal.main_arg2)
      ∧ r.2.mem ((c.tc : Thread Cert.Norm2Ideal.nD Cert.Norm2Ideal.τ).loc Cert.Norm2Ideal.main_arg3) = m ((c.tc : Thread Cert.Norm2Ideal.nD Cert.Norm2Ideal.τ).loc Cert.Norm2Ideal.main_arg3))
      ∧ r.2.sem = fun _ => 0)

def quiescent_Norm2RefIdeal [hNorm2RefIdeal : Cert.Norm2RefIdeal.Facts] : Prop :=
  ∀ (m : (ℓ : Loc Cert.Norm2RefIdeal.nD Cert.Norm2RefIdeal.τ Cert.Norm2RefIdeal.sig) → Buf (Elt Ideal) ℓ) (g : Dev Cert.Norm2RefIdeal.nD → PrngReg), Pre_Norm2RefIdeal m →
    θ_run (Cert.Norm2RefIdeal.defs (F := Ideal)) (onTc (τ := Cert.Norm2RefIdeal.τ) (Cert.Norm2RefIdeal.main (F := Ideal))) ⟨m, fun _ => 0, g⟩ (fun r => (∀ c : Dev Cert.Norm2RefIdeal.nD,
      r.2.mem ((c.tc : Thread Cert.Norm2RefIdeal.nD Cert.Norm2RefIdeal.τ).loc Cert.Norm2RefIdeal.main_arg0) = m ((c.tc : Thread Cert.Norm2RefIdeal.nD Cert.Norm2RefIdeal.τ).loc Cert.Norm2RefIdeal.main_arg0)
      ∧ r.2.mem ((c.tc : Thread Cert.Norm2RefIdeal.nD Cert.Norm2RefIdeal.τ).loc Cert.Norm2RefIdeal.main_arg1) = m ((c.tc : Thread Cert.Norm2RefIdeal.nD Cert.Norm2RefIdeal.τ).loc Cert.Norm2RefIdeal.main_arg1)
      ∧ r.2.mem ((c.tc : Thread Cert.Norm2RefIdeal.nD Cert.Norm2RefIdeal.τ).loc Cert.Norm2RefIdeal.main_arg2) = m ((c.tc : Thread Cert.Norm2RefIdeal.nD Cert.Norm2RefIdeal.τ).loc Cert.Norm2RefIdeal.main_arg2)
      ∧ r.2.mem ((c.tc : Thread Cert.Norm2RefIdeal.nD Cert.Norm2RefIdeal.τ).loc Cert.Norm2RefIdeal.main_arg3) = m ((c.tc : Thread Cert.Norm2RefIdeal.nD Cert.Norm2RefIdeal.τ).loc Cert.Norm2RefIdeal.main_arg3))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1))
      ∧ r.2.sem = fun _ => 0)

def quiescent_Swiglu [hSwiglu : Cert.Swiglu.Facts] : Prop :=
  ∀ (m : (ℓ : Loc Cert.Swiglu.nD Cert.Swiglu.τ Cert.Swiglu.sig) → Buf (Elt Bits) ℓ) (g : Dev Cert.Swiglu.nD → PrngReg), Pre_Swiglu m →
    θ_run (Cert.Swiglu.defs (F := Bits)) (onTc (τ := Cert.Swiglu.τ) (Cert.Swiglu.main (F := Bits))) ⟨m, fun _ => 0, g⟩ (fun r => (∀ c : Dev Cert.Swiglu.nD,
      r.2.mem ((c.tc : Thread Cert.Swiglu.nD Cert.Swiglu.τ).loc Cert.Swiglu.main_arg0) = m ((c.tc : Thread Cert.Swiglu.nD Cert.Swiglu.τ).loc Cert.Swiglu.main_arg0))
      ∧ r.2.sem = fun _ => 0)

def quiescent_SwigluIdeal [hSwigluIdeal : Cert.SwigluIdeal.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0))
      ∧ r.2.sem = fun _ => 0)

def quiescent_SwigluRefIdeal [hSwigluRefIdeal : Cert.SwigluRefIdeal.Facts] : Prop :=
  ∀ (m : (ℓ : Loc Cert.SwigluRefIdeal.nD Cert.SwigluRefIdeal.τ Cert.SwigluRefIdeal.sig) → Buf (Elt Ideal) ℓ) (g : Dev Cert.SwigluRefIdeal.nD → PrngReg), Pre_SwigluRefIdeal m →
    θ_run (Cert.SwigluRefIdeal.defs (F := Ideal)) (onTc (τ := Cert.SwigluRefIdeal.τ) (Cert.SwigluRefIdeal.main (F := Ideal))) ⟨m, fun _ => 0, g⟩ (fun r => (∀ c : Dev Cert.SwigluRefIdeal.nD,
      r.2.mem ((c.tc : Thread Cert.SwigluRefIdeal.nD Cert.SwigluRefIdeal.τ).loc Cert.SwigluRefIdeal.main_arg0) = m ((c.tc : Thread Cert.SwigluRefIdeal.nD Cert.SwigluRefIdeal.τ).loc Cert.SwigluRefIdeal.main_arg0))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1))
      ∧ r.2.sem = fun _ => 0)

def quiescent_FfnOutRefIdeal [hFfnOutRefIdeal : Cert.FfnOutRefIdeal.Facts] : Prop :=
  ∀ (m : (ℓ : Loc Cert.FfnOutRefIdeal.nD Cert.FfnOutRefIdeal.τ Cert.FfnOutRefIdeal.sig) → Buf (Elt Ideal) ℓ) (g : Dev Cert.FfnOutRefIdeal.nD → PrngReg), Pre_FfnOutRefIdeal m →
    θ_run (Cert.FfnOutRefIdeal.defs (F := Ideal)) (onTc (τ := Cert.FfnOutRefIdeal.τ) (Cert.FfnOutRefIdeal.main (F := Ideal))) ⟨m, fun _ => 0, g⟩ (fun r => (∀ c : Dev Cert.FfnOutRefIdeal.nD,
      r.2.mem ((c.tc : Thread Cert.FfnOutRefIdeal.nD Cert.FfnOutRefIdeal.τ).loc Cert.FfnOutRefIdeal.main_arg0) = m ((c.tc : Thread Cert.FfnOutRefIdeal.nD Cert.FfnOutRefIdeal.τ).loc Cert.FfnOutRefIdeal.main_arg0)
      ∧ r.2.mem ((c.tc : Thread Cert.FfnOutRefIdeal.nD Cert.FfnOutRefIdeal.τ).loc Cert.FfnOutRefIdeal.main_arg1) = m ((c.tc : Thread Cert.FfnOutRefIdeal.nD Cert.FfnOutRefIdeal.τ).loc Cert.FfnOutRefIdeal.main_arg1))
      ∧ r.2.sem = fun _ => 0)

def quiescent_GradWIn [hGradWIn : Cert.GradWIn.Facts] : Prop :=
  ∀ (m : (ℓ : Loc Cert.GradWIn.nD Cert.GradWIn.τ Cert.GradWIn.sig) → Buf (Elt Bits) ℓ) (g : Dev Cert.GradWIn.nD → PrngReg), Pre_GradWIn m →
    θ_run (Cert.GradWIn.defs (F := Bits)) (onTc (τ := Cert.GradWIn.τ) (Cert.GradWIn.main (F := Bits))) ⟨m, fun _ => 0, g⟩ (fun r => (∀ c : Dev Cert.GradWIn.nD,
      r.2.mem ((c.tc : Thread Cert.GradWIn.nD Cert.GradWIn.τ).loc Cert.GradWIn.main_arg0) = m ((c.tc : Thread Cert.GradWIn.nD Cert.GradWIn.τ).loc Cert.GradWIn.main_arg0)
      ∧ r.2.mem ((c.tc : Thread Cert.GradWIn.nD Cert.GradWIn.τ).loc Cert.GradWIn.main_arg1) = m ((c.tc : Thread Cert.GradWIn.nD Cert.GradWIn.τ).loc Cert.GradWIn.main_arg1))
      ∧ r.2.sem = fun _ => 0)

def quiescent_GradWInIdeal [hGradWInIdeal : Cert.GradWInIdeal.Facts] : Prop :=
  ∀ (m : (ℓ : Loc Cert.GradWInIdeal.nD Cert.GradWInIdeal.τ Cert.GradWInIdeal.sig) → Buf (Elt Ideal) ℓ) (g : Dev Cert.GradWInIdeal.nD → PrngReg), Pre_GradWInIdeal m →
    θ_run (Cert.GradWInIdeal.defs (F := Ideal)) (onTc (τ := Cert.GradWInIdeal.τ) (Cert.GradWInIdeal.main (F := Ideal))) ⟨m, fun _ => 0, g⟩ (fun r => (∀ c : Dev Cert.GradWInIdeal.nD,
      r.2.mem ((c.tc : Thread Cert.GradWInIdeal.nD Cert.GradWInIdeal.τ).loc Cert.GradWInIdeal.main_arg0) = m ((c.tc : Thread Cert.GradWInIdeal.nD Cert.GradWInIdeal.τ).loc Cert.GradWInIdeal.main_arg0)
      ∧ r.2.mem ((c.tc : Thread Cert.GradWInIdeal.nD Cert.GradWInIdeal.τ).loc Cert.GradWInIdeal.main_arg1) = m ((c.tc : Thread Cert.GradWInIdeal.nD Cert.GradWInIdeal.τ).loc Cert.GradWInIdeal.main_arg1))
      ∧ r.2.sem = fun _ => 0)

def quiescent_GradWInRefIdeal [hGradWInRefIdeal : Cert.GradWInRefIdeal.Facts] : Prop :=
  ∀ (m : (ℓ : Loc Cert.GradWInRefIdeal.nD Cert.GradWInRefIdeal.τ Cert.GradWInRefIdeal.sig) → Buf (Elt Ideal) ℓ) (g : Dev Cert.GradWInRefIdeal.nD → PrngReg), Pre_GradWInRefIdeal m →
    θ_run (Cert.GradWInRefIdeal.defs (F := Ideal)) (onTc (τ := Cert.GradWInRefIdeal.τ) (Cert.GradWInRefIdeal.main (F := Ideal))) ⟨m, fun _ => 0, g⟩ (fun r => (∀ c : Dev Cert.GradWInRefIdeal.nD,
      r.2.mem ((c.tc : Thread Cert.GradWInRefIdeal.nD Cert.GradWInRefIdeal.τ).loc Cert.GradWInRefIdeal.main_arg0) = m ((c.tc : Thread Cert.GradWInRefIdeal.nD Cert.GradWInRefIdeal.τ).loc Cert.GradWInRefIdeal.main_arg0)
      ∧ r.2.mem ((c.tc : Thread Cert.GradWInRefIdeal.nD Cert.GradWInRefIdeal.τ).loc Cert.GradWInRefIdeal.main_arg1) = m ((c.tc : Thread Cert.GradWInRefIdeal.nD Cert.GradWInRefIdeal.τ).loc Cert.GradWInRefIdeal.main_arg1))
      ∧ r.2.sem = fun _ => 0)

def quiescent_GradA [hGradA : Cert.GradA.Facts] : Prop :=
  ∀ (m : (ℓ : Loc Cert.GradA.nD Cert.GradA.τ Cert.GradA.sig) → Buf (Elt Bits) ℓ) (g : Dev Cert.GradA.nD → PrngReg), Pre_GradA m →
    θ_run (Cert.GradA.defs (F := Bits)) (onTc (τ := Cert.GradA.τ) (Cert.GradA.main (F := Bits))) ⟨m, fun _ => 0, g⟩ (fun r => (∀ c : Dev Cert.GradA.nD,
      r.2.mem ((c.tc : Thread Cert.GradA.nD Cert.GradA.τ).loc Cert.GradA.main_arg0) = m ((c.tc : Thread Cert.GradA.nD Cert.GradA.τ).loc Cert.GradA.main_arg0)
      ∧ r.2.mem ((c.tc : Thread Cert.GradA.nD Cert.GradA.τ).loc Cert.GradA.main_arg1) = m ((c.tc : Thread Cert.GradA.nD Cert.GradA.τ).loc Cert.GradA.main_arg1))
      ∧ r.2.sem = fun _ => 0)

def quiescent_GradAIdeal [hGradAIdeal : Cert.GradAIdeal.Facts] : Prop :=
  ∀ (m : (ℓ : Loc Cert.GradAIdeal.nD Cert.GradAIdeal.τ Cert.GradAIdeal.sig) → Buf (Elt Ideal) ℓ) (g : Dev Cert.GradAIdeal.nD → PrngReg), Pre_GradAIdeal m →
    θ_run (Cert.GradAIdeal.defs (F := Ideal)) (onTc (τ := Cert.GradAIdeal.τ) (Cert.GradAIdeal.main (F := Ideal))) ⟨m, fun _ => 0, g⟩ (fun r => (∀ c : Dev Cert.GradAIdeal.nD,
      r.2.mem ((c.tc : Thread Cert.GradAIdeal.nD Cert.GradAIdeal.τ).loc Cert.GradAIdeal.main_arg0) = m ((c.tc : Thread Cert.GradAIdeal.nD Cert.GradAIdeal.τ).loc Cert.GradAIdeal.main_arg0)
      ∧ r.2.mem ((c.tc : Thread Cert.GradAIdeal.nD Cert.GradAIdeal.τ).loc Cert.GradAIdeal.main_arg1) = m ((c.tc : Thread Cert.GradAIdeal.nD Cert.GradAIdeal.τ).loc Cert.GradAIdeal.main_arg1))
      ∧ r.2.sem = fun _ => 0)

def quiescent_GradARefIdeal [hGradARefIdeal : Cert.GradARefIdeal.Facts] : Prop :=
  ∀ (m : (ℓ : Loc Cert.GradARefIdeal.nD Cert.GradARefIdeal.τ Cert.GradARefIdeal.sig) → Buf (Elt Ideal) ℓ) (g : Dev Cert.GradARefIdeal.nD → PrngReg), Pre_GradARefIdeal m →
    θ_run (Cert.GradARefIdeal.defs (F := Ideal)) (onTc (τ := Cert.GradARefIdeal.τ) (Cert.GradARefIdeal.main (F := Ideal))) ⟨m, fun _ => 0, g⟩ (fun r => (∀ c : Dev Cert.GradARefIdeal.nD,
      r.2.mem ((c.tc : Thread Cert.GradARefIdeal.nD Cert.GradARefIdeal.τ).loc Cert.GradARefIdeal.main_arg0) = m ((c.tc : Thread Cert.GradARefIdeal.nD Cert.GradARefIdeal.τ).loc Cert.GradARefIdeal.main_arg0)
      ∧ r.2.mem ((c.tc : Thread Cert.GradARefIdeal.nD Cert.GradARefIdeal.τ).loc Cert.GradARefIdeal.main_arg1) = m ((c.tc : Thread Cert.GradARefIdeal.nD Cert.GradARefIdeal.τ).loc Cert.GradARefIdeal.main_arg1))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2))
      ∧ r.2.sem = fun _ => 0)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3))
      ∧ r.2.sem = fun _ => 0)

def quiescent_MergeBwdRefIdeal [hMergeBwdRefIdeal : Cert.MergeBwdRefIdeal.Facts] : Prop :=
  ∀ (m : (ℓ : Loc Cert.MergeBwdRefIdeal.nD Cert.MergeBwdRefIdeal.τ Cert.MergeBwdRefIdeal.sig) → Buf (Elt Ideal) ℓ) (g : Dev Cert.MergeBwdRefIdeal.nD → PrngReg), Pre_MergeBwdRefIdeal m →
    θ_run (Cert.MergeBwdRefIdeal.defs (F := Ideal)) (onTc (τ := Cert.MergeBwdRefIdeal.τ) (Cert.MergeBwdRefIdeal.main (F := Ideal))) ⟨m, fun _ => 0, g⟩ (fun r => (∀ c : Dev Cert.MergeBwdRefIdeal.nD,
      r.2.mem ((c.tc : Thread Cert.MergeBwdRefIdeal.nD Cert.MergeBwdRefIdeal.τ).loc Cert.MergeBwdRefIdeal.main_arg0) = m ((c.tc : Thread Cert.MergeBwdRefIdeal.nD Cert.MergeBwdRefIdeal.τ).loc Cert.MergeBwdRefIdeal.main_arg0)
      ∧ r.2.mem ((c.tc : Thread Cert.MergeBwdRefIdeal.nD Cert.MergeBwdRefIdeal.τ).loc Cert.MergeBwdRefIdeal.main_arg1) = m ((c.tc : Thread Cert.MergeBwdRefIdeal.nD Cert.MergeBwdRefIdeal.τ).loc Cert.MergeBwdRefIdeal.main_arg1)
      ∧ r.2.mem ((c.tc : Thread Cert.MergeBwdRefIdeal.nD Cert.MergeBwdRefIdeal.τ).loc Cert.MergeBwdRefIdeal.main_arg2) = m ((c.tc : Thread Cert.MergeBwdRefIdeal.nD Cert.MergeBwdRefIdeal.τ).loc Cert.MergeBwdRefIdeal.main_arg2)
      ∧ r.2.mem ((c.tc : Thread Cert.MergeBwdRefIdeal.nD Cert.MergeBwdRefIdeal.τ).loc Cert.MergeBwdRefIdeal.main_arg3) = m ((c.tc : Thread Cert.MergeBwdRefIdeal.nD Cert.MergeBwdRefIdeal.τ).loc Cert.MergeBwdRefIdeal.main_arg3))
      ∧ r.2.sem = fun _ => 0)

def quiescent_SwigluBwd [hSwigluBwd : Cert.SwigluBwd.Facts] : Prop :=
  ∀ (m : (ℓ : Loc Cert.SwigluBwd.nD Cert.SwigluBwd.τ Cert.SwigluBwd.sig) → Buf (Elt Bits) ℓ) (g : Dev Cert.SwigluBwd.nD → PrngReg), Pre_SwigluBwd m →
    θ_run (Cert.SwigluBwd.defs (F := Bits)) (onTc (τ := Cert.SwigluBwd.τ) (Cert.SwigluBwd.main (F := Bits))) ⟨m, fun _ => 0, g⟩ (fun r => (∀ c : Dev Cert.SwigluBwd.nD,
      r.2.mem ((c.tc : Thread Cert.SwigluBwd.nD Cert.SwigluBwd.τ).loc Cert.SwigluBwd.main_arg0) = m ((c.tc : Thread Cert.SwigluBwd.nD Cert.SwigluBwd.τ).loc Cert.SwigluBwd.main_arg0)
      ∧ r.2.mem ((c.tc : Thread Cert.SwigluBwd.nD Cert.SwigluBwd.τ).loc Cert.SwigluBwd.main_arg1) = m ((c.tc : Thread Cert.SwigluBwd.nD Cert.SwigluBwd.τ).loc Cert.SwigluBwd.main_arg1))
      ∧ r.2.sem = fun _ => 0)

def quiescent_SwigluBwdIdeal [hSwigluBwdIdeal : Cert.SwigluBwdIdeal.Facts] : Prop :=
  ∀ (m : (ℓ : Loc Cert.SwigluBwdIdeal.nD Cert.SwigluBwdIdeal.τ Cert.SwigluBwdIdeal.sig) → Buf (Elt Ideal) ℓ) (g : Dev Cert.SwigluBwdIdeal.nD → PrngReg), Pre_SwigluBwdIdeal m →
    θ_run (Cert.SwigluBwdIdeal.defs (F := Ideal)) (onTc (τ := Cert.SwigluBwdIdeal.τ) (Cert.SwigluBwdIdeal.main (F := Ideal))) ⟨m, fun _ => 0, g⟩ (fun r => (∀ c : Dev Cert.SwigluBwdIdeal.nD,
      r.2.mem ((c.tc : Thread Cert.SwigluBwdIdeal.nD Cert.SwigluBwdIdeal.τ).loc Cert.SwigluBwdIdeal.main_arg0) = m ((c.tc : Thread Cert.SwigluBwdIdeal.nD Cert.SwigluBwdIdeal.τ).loc Cert.SwigluBwdIdeal.main_arg0)
      ∧ r.2.mem ((c.tc : Thread Cert.SwigluBwdIdeal.nD Cert.SwigluBwdIdeal.τ).loc Cert.SwigluBwdIdeal.main_arg1) = m ((c.tc : Thread Cert.SwigluBwdIdeal.nD Cert.SwigluBwdIdeal.τ).loc Cert.SwigluBwdIdeal.main_arg1))
      ∧ r.2.sem = fun _ => 0)

def quiescent_SwigluBwdRefIdeal [hSwigluBwdRefIdeal : Cert.SwigluBwdRefIdeal.Facts] : Prop :=
  ∀ (m : (ℓ : Loc Cert.SwigluBwdRefIdeal.nD Cert.SwigluBwdRefIdeal.τ Cert.SwigluBwdRefIdeal.sig) → Buf (Elt Ideal) ℓ) (g : Dev Cert.SwigluBwdRefIdeal.nD → PrngReg), Pre_SwigluBwdRefIdeal m →
    θ_run (Cert.SwigluBwdRefIdeal.defs (F := Ideal)) (onTc (τ := Cert.SwigluBwdRefIdeal.τ) (Cert.SwigluBwdRefIdeal.main (F := Ideal))) ⟨m, fun _ => 0, g⟩ (fun r => (∀ c : Dev Cert.SwigluBwdRefIdeal.nD,
      r.2.mem ((c.tc : Thread Cert.SwigluBwdRefIdeal.nD Cert.SwigluBwdRefIdeal.τ).loc Cert.SwigluBwdRefIdeal.main_arg0) = m ((c.tc : Thread Cert.SwigluBwdRefIdeal.nD Cert.SwigluBwdRefIdeal.τ).loc Cert.SwigluBwdRefIdeal.main_arg0)
      ∧ r.2.mem ((c.tc : Thread Cert.SwigluBwdRefIdeal.nD Cert.SwigluBwdRefIdeal.τ).loc Cert.SwigluBwdRefIdeal.main_arg1) = m ((c.tc : Thread Cert.SwigluBwdRefIdeal.nD Cert.SwigluBwdRefIdeal.τ).loc Cert.SwigluBwdRefIdeal.main_arg1))
      ∧ r.2.sem = fun _ => 0)

def quiescent_Norm2Bwd [hNorm2Bwd : Cert.Norm2Bwd.Facts] : Prop :=
  ∀ (m : (ℓ : Loc Cert.Norm2Bwd.nD Cert.Norm2Bwd.τ Cert.Norm2Bwd.sig) → Buf (Elt Bits) ℓ) (g : Dev Cert.Norm2Bwd.nD → PrngReg), Pre_Norm2Bwd m →
    θ_run (Cert.Norm2Bwd.defs (F := Bits)) (onTc (τ := Cert.Norm2Bwd.τ) (Cert.Norm2Bwd.main (F := Bits))) ⟨m, fun _ => 0, g⟩ (fun r => (∀ c : Dev Cert.Norm2Bwd.nD,
      r.2.mem ((c.tc : Thread Cert.Norm2Bwd.nD Cert.Norm2Bwd.τ).loc Cert.Norm2Bwd.main_arg0) = m ((c.tc : Thread Cert.Norm2Bwd.nD Cert.Norm2Bwd.τ).loc Cert.Norm2Bwd.main_arg0)
      ∧ r.2.mem ((c.tc : Thread Cert.Norm2Bwd.nD Cert.Norm2Bwd.τ).loc Cert.Norm2Bwd.main_arg1) = m ((c.tc : Thread Cert.Norm2Bwd.nD Cert.Norm2Bwd.τ).loc Cert.Norm2Bwd.main_arg1)
      ∧ r.2.mem ((c.tc : Thread Cert.Norm2Bwd.nD Cert.Norm2Bwd.τ).loc Cert.Norm2Bwd.main_arg2) = m ((c.tc : Thread Cert.Norm2Bwd.nD Cert.Norm2Bwd.τ).loc Cert.Norm2Bwd.main_arg2)
      ∧ r.2.mem ((c.tc : Thread Cert.Norm2Bwd.nD Cert.Norm2Bwd.τ).loc Cert.Norm2Bwd.main_arg3) = m ((c.tc : Thread Cert.Norm2Bwd.nD Cert.Norm2Bwd.τ).loc Cert.Norm2Bwd.main_arg3)
      ∧ r.2.mem ((c.tc : Thread Cert.Norm2Bwd.nD Cert.Norm2Bwd.τ).loc Cert.Norm2Bwd.main_arg4) = m ((c.tc : Thread Cert.Norm2Bwd.nD Cert.Norm2Bwd.τ).loc Cert.Norm2Bwd.main_arg4)
      ∧ r.2.mem ((c.tc : Thread Cert.Norm2Bwd.nD Cert.Norm2Bwd.τ).loc Cert.Norm2Bwd.main_arg5) = m ((c.tc : Thread Cert.Norm2Bwd.nD Cert.Norm2Bwd.τ).loc Cert.Norm2Bwd.main_arg5))
      ∧ r.2.sem = fun _ => 0)

def quiescent_Norm2BwdIdeal [hNorm2BwdIdeal : Cert.Norm2BwdIdeal.Facts] : Prop :=
  ∀ (m : (ℓ : Loc Cert.Norm2BwdIdeal.nD Cert.Norm2BwdIdeal.τ Cert.Norm2BwdIdeal.sig) → Buf (Elt Ideal) ℓ) (g : Dev Cert.Norm2BwdIdeal.nD → PrngReg), Pre_Norm2BwdIdeal m →
    θ_run (Cert.Norm2BwdIdeal.defs (F := Ideal)) (onTc (τ := Cert.Norm2BwdIdeal.τ) (Cert.Norm2BwdIdeal.main (F := Ideal))) ⟨m, fun _ => 0, g⟩ (fun r => (∀ c : Dev Cert.Norm2BwdIdeal.nD,
      r.2.mem ((c.tc : Thread Cert.Norm2BwdIdeal.nD Cert.Norm2BwdIdeal.τ).loc Cert.Norm2BwdIdeal.main_arg0) = m ((c.tc : Thread Cert.Norm2BwdIdeal.nD Cert.Norm2BwdIdeal.τ).loc Cert.Norm2BwdIdeal.main_arg0)
      ∧ r.2.mem ((c.tc : Thread Cert.Norm2BwdIdeal.nD Cert.Norm2BwdIdeal.τ).loc Cert.Norm2BwdIdeal.main_arg1) = m ((c.tc : Thread Cert.Norm2BwdIdeal.nD Cert.Norm2BwdIdeal.τ).loc Cert.Norm2BwdIdeal.main_arg1)
      ∧ r.2.mem ((c.tc : Thread Cert.Norm2BwdIdeal.nD Cert.Norm2BwdIdeal.τ).loc Cert.Norm2BwdIdeal.main_arg2) = m ((c.tc : Thread Cert.Norm2BwdIdeal.nD Cert.Norm2BwdIdeal.τ).loc Cert.Norm2BwdIdeal.main_arg2)
      ∧ r.2.mem ((c.tc : Thread Cert.Norm2BwdIdeal.nD Cert.Norm2BwdIdeal.τ).loc Cert.Norm2BwdIdeal.main_arg3) = m ((c.tc : Thread Cert.Norm2BwdIdeal.nD Cert.Norm2BwdIdeal.τ).loc Cert.Norm2BwdIdeal.main_arg3)
      ∧ r.2.mem ((c.tc : Thread Cert.Norm2BwdIdeal.nD Cert.Norm2BwdIdeal.τ).loc Cert.Norm2BwdIdeal.main_arg4) = m ((c.tc : Thread Cert.Norm2BwdIdeal.nD Cert.Norm2BwdIdeal.τ).loc Cert.Norm2BwdIdeal.main_arg4)
      ∧ r.2.mem ((c.tc : Thread Cert.Norm2BwdIdeal.nD Cert.Norm2BwdIdeal.τ).loc Cert.Norm2BwdIdeal.main_arg5) = m ((c.tc : Thread Cert.Norm2BwdIdeal.nD Cert.Norm2BwdIdeal.τ).loc Cert.Norm2BwdIdeal.main_arg5))
      ∧ r.2.sem = fun _ => 0)

def quiescent_Norm2BwdRefIdeal [hNorm2BwdRefIdeal : Cert.Norm2BwdRefIdeal.Facts] : Prop :=
  ∀ (m : (ℓ : Loc Cert.Norm2BwdRefIdeal.nD Cert.Norm2BwdRefIdeal.τ Cert.Norm2BwdRefIdeal.sig) → Buf (Elt Ideal) ℓ) (g : Dev Cert.Norm2BwdRefIdeal.nD → PrngReg), Pre_Norm2BwdRefIdeal m →
    θ_run (Cert.Norm2BwdRefIdeal.defs (F := Ideal)) (onTc (τ := Cert.Norm2BwdRefIdeal.τ) (Cert.Norm2BwdRefIdeal.main (F := Ideal))) ⟨m, fun _ => 0, g⟩ (fun r => (∀ c : Dev Cert.Norm2BwdRefIdeal.nD,
      r.2.mem ((c.tc : Thread Cert.Norm2BwdRefIdeal.nD Cert.Norm2BwdRefIdeal.τ).loc Cert.Norm2BwdRefIdeal.main_arg0) = m ((c.tc : Thread Cert.Norm2BwdRefIdeal.nD Cert.Norm2BwdRefIdeal.τ).loc Cert.Norm2BwdRefIdeal.main_arg0)
      ∧ r.2.mem ((c.tc : Thread Cert.Norm2BwdRefIdeal.nD Cert.Norm2BwdRefIdeal.τ).loc Cert.Norm2BwdRefIdeal.main_arg1) = m ((c.tc : Thread Cert.Norm2BwdRefIdeal.nD Cert.Norm2BwdRefIdeal.τ).loc Cert.Norm2BwdRefIdeal.main_arg1)
      ∧ r.2.mem ((c.tc : Thread Cert.Norm2BwdRefIdeal.nD Cert.Norm2BwdRefIdeal.τ).loc Cert.Norm2BwdRefIdeal.main_arg2) = m ((c.tc : Thread Cert.Norm2BwdRefIdeal.nD Cert.Norm2BwdRefIdeal.τ).loc Cert.Norm2BwdRefIdeal.main_arg2)
      ∧ r.2.mem ((c.tc : Thread Cert.Norm2BwdRefIdeal.nD Cert.Norm2BwdRefIdeal.τ).loc Cert.Norm2BwdRefIdeal.main_arg3) = m ((c.tc : Thread Cert.Norm2BwdRefIdeal.nD Cert.Norm2BwdRefIdeal.τ).loc Cert.Norm2BwdRefIdeal.main_arg3)
      ∧ r.2.mem ((c.tc : Thread Cert.Norm2BwdRefIdeal.nD Cert.Norm2BwdRefIdeal.τ).loc Cert.Norm2BwdRefIdeal.main_arg4) = m ((c.tc : Thread Cert.Norm2BwdRefIdeal.nD Cert.Norm2BwdRefIdeal.τ).loc Cert.Norm2BwdRefIdeal.main_arg4)
      ∧ r.2.mem ((c.tc : Thread Cert.Norm2BwdRefIdeal.nD Cert.Norm2BwdRefIdeal.τ).loc Cert.Norm2BwdRefIdeal.main_arg5) = m ((c.tc : Thread Cert.Norm2BwdRefIdeal.nD Cert.Norm2BwdRefIdeal.τ).loc Cert.Norm2BwdRefIdeal.main_arg5))
      ∧ r.2.sem = fun _ => 0)

def quiescent_GradFfnOut [hGradFfnOut : Cert.GradFfnOut.Facts] : Prop :=
  ∀ (m : (ℓ : Loc Cert.GradFfnOut.nD Cert.GradFfnOut.τ Cert.GradFfnOut.sig) → Buf (Elt Bits) ℓ) (g : Dev Cert.GradFfnOut.nD → PrngReg), Pre_GradFfnOut m →
    θ_run (Cert.GradFfnOut.defs (F := Bits)) (onTc (τ := Cert.GradFfnOut.τ) (Cert.GradFfnOut.main (F := Bits))) ⟨m, fun _ => 0, g⟩ (fun r => (∀ c : Dev Cert.GradFfnOut.nD,
      r.2.mem ((c.tc : Thread Cert.GradFfnOut.nD Cert.GradFfnOut.τ).loc Cert.GradFfnOut.main_arg0) = m ((c.tc : Thread Cert.GradFfnOut.nD Cert.GradFfnOut.τ).loc Cert.GradFfnOut.main_arg0)
      ∧ r.2.mem ((c.tc : Thread Cert.GradFfnOut.nD Cert.GradFfnOut.τ).loc Cert.GradFfnOut.main_arg1) = m ((c.tc : Thread Cert.GradFfnOut.nD Cert.GradFfnOut.τ).loc Cert.GradFfnOut.main_arg1))
      ∧ r.2.sem = fun _ => 0)

def quiescent_GradFfnOutIdeal [hGradFfnOutIdeal : Cert.GradFfnOutIdeal.Facts] : Prop :=
  ∀ (m : (ℓ : Loc Cert.GradFfnOutIdeal.nD Cert.GradFfnOutIdeal.τ Cert.GradFfnOutIdeal.sig) → Buf (Elt Ideal) ℓ) (g : Dev Cert.GradFfnOutIdeal.nD → PrngReg), Pre_GradFfnOutIdeal m →
    θ_run (Cert.GradFfnOutIdeal.defs (F := Ideal)) (onTc (τ := Cert.GradFfnOutIdeal.τ) (Cert.GradFfnOutIdeal.main (F := Ideal))) ⟨m, fun _ => 0, g⟩ (fun r => (∀ c : Dev Cert.GradFfnOutIdeal.nD,
      r.2.mem ((c.tc : Thread Cert.GradFfnOutIdeal.nD Cert.GradFfnOutIdeal.τ).loc Cert.GradFfnOutIdeal.main_arg0) = m ((c.tc : Thread Cert.GradFfnOutIdeal.nD Cert.GradFfnOutIdeal.τ).loc Cert.GradFfnOutIdeal.main_arg0)
      ∧ r.2.mem ((c.tc : Thread Cert.GradFfnOutIdeal.nD Cert.GradFfnOutIdeal.τ).loc Cert.GradFfnOutIdeal.main_arg1) = m ((c.tc : Thread Cert.GradFfnOutIdeal.nD Cert.GradFfnOutIdeal.τ).loc Cert.GradFfnOutIdeal.main_arg1))
      ∧ r.2.sem = fun _ => 0)

def quiescent_GradFfnOutRefIdeal [hGradFfnOutRefIdeal : Cert.GradFfnOutRefIdeal.Facts] : Prop :=
  ∀ (m : (ℓ : Loc Cert.GradFfnOutRefIdeal.nD Cert.GradFfnOutRefIdeal.τ Cert.GradFfnOutRefIdeal.sig) → Buf (Elt Ideal) ℓ) (g : Dev Cert.GradFfnOutRefIdeal.nD → PrngReg), Pre_GradFfnOutRefIdeal m →
    θ_run (Cert.GradFfnOutRefIdeal.defs (F := Ideal)) (onTc (τ := Cert.GradFfnOutRefIdeal.τ) (Cert.GradFfnOutRefIdeal.main (F := Ideal))) ⟨m, fun _ => 0, g⟩ (fun r => (∀ c : Dev Cert.GradFfnOutRefIdeal.nD,
      r.2.mem ((c.tc : Thread Cert.GradFfnOutRefIdeal.nD Cert.GradFfnOutRefIdeal.τ).loc Cert.GradFfnOutRefIdeal.main_arg0) = m ((c.tc : Thread Cert.GradFfnOutRefIdeal.nD Cert.GradFfnOutRefIdeal.τ).loc Cert.GradFfnOutRefIdeal.main_arg0)
      ∧ r.2.mem ((c.tc : Thread Cert.GradFfnOutRefIdeal.nD Cert.GradFfnOutRefIdeal.τ).loc Cert.GradFfnOutRefIdeal.main_arg1) = m ((c.tc : Thread Cert.GradFfnOutRefIdeal.nD Cert.GradFfnOutRefIdeal.τ).loc Cert.GradFfnOutRefIdeal.main_arg1))
      ∧ r.2.sem = fun _ => 0)

def quiescent_GradGated [hGradGated : Cert.GradGated.Facts] : Prop :=
  ∀ (m : (ℓ : Loc Cert.GradGated.nD Cert.GradGated.τ Cert.GradGated.sig) → Buf (Elt Bits) ℓ) (g : Dev Cert.GradGated.nD → PrngReg), Pre_GradGated m →
    θ_run (Cert.GradGated.defs (F := Bits)) (onTc (τ := Cert.GradGated.τ) (Cert.GradGated.main (F := Bits))) ⟨m, fun _ => 0, g⟩ (fun r => (∀ c : Dev Cert.GradGated.nD,
      r.2.mem ((c.tc : Thread Cert.GradGated.nD Cert.GradGated.τ).loc Cert.GradGated.main_arg0) = m ((c.tc : Thread Cert.GradGated.nD Cert.GradGated.τ).loc Cert.GradGated.main_arg0)
      ∧ r.2.mem ((c.tc : Thread Cert.GradGated.nD Cert.GradGated.τ).loc Cert.GradGated.main_arg1) = m ((c.tc : Thread Cert.GradGated.nD Cert.GradGated.τ).loc Cert.GradGated.main_arg1))
      ∧ r.2.sem = fun _ => 0)

def quiescent_GradGatedIdeal [hGradGatedIdeal : Cert.GradGatedIdeal.Facts] : Prop :=
  ∀ (m : (ℓ : Loc Cert.GradGatedIdeal.nD Cert.GradGatedIdeal.τ Cert.GradGatedIdeal.sig) → Buf (Elt Ideal) ℓ) (g : Dev Cert.GradGatedIdeal.nD → PrngReg), Pre_GradGatedIdeal m →
    θ_run (Cert.GradGatedIdeal.defs (F := Ideal)) (onTc (τ := Cert.GradGatedIdeal.τ) (Cert.GradGatedIdeal.main (F := Ideal))) ⟨m, fun _ => 0, g⟩ (fun r => (∀ c : Dev Cert.GradGatedIdeal.nD,
      r.2.mem ((c.tc : Thread Cert.GradGatedIdeal.nD Cert.GradGatedIdeal.τ).loc Cert.GradGatedIdeal.main_arg0) = m ((c.tc : Thread Cert.GradGatedIdeal.nD Cert.GradGatedIdeal.τ).loc Cert.GradGatedIdeal.main_arg0)
      ∧ r.2.mem ((c.tc : Thread Cert.GradGatedIdeal.nD Cert.GradGatedIdeal.τ).loc Cert.GradGatedIdeal.main_arg1) = m ((c.tc : Thread Cert.GradGatedIdeal.nD Cert.GradGatedIdeal.τ).loc Cert.GradGatedIdeal.main_arg1))
      ∧ r.2.sem = fun _ => 0)

def quiescent_GradGatedRefIdeal [hGradGatedRefIdeal : Cert.GradGatedRefIdeal.Facts] : Prop :=
  ∀ (m : (ℓ : Loc Cert.GradGatedRefIdeal.nD Cert.GradGatedRefIdeal.τ Cert.GradGatedRefIdeal.sig) → Buf (Elt Ideal) ℓ) (g : Dev Cert.GradGatedRefIdeal.nD → PrngReg), Pre_GradGatedRefIdeal m →
    θ_run (Cert.GradGatedRefIdeal.defs (F := Ideal)) (onTc (τ := Cert.GradGatedRefIdeal.τ) (Cert.GradGatedRefIdeal.main (F := Ideal))) ⟨m, fun _ => 0, g⟩ (fun r => (∀ c : Dev Cert.GradGatedRefIdeal.nD,
      r.2.mem ((c.tc : Thread Cert.GradGatedRefIdeal.nD Cert.GradGatedRefIdeal.τ).loc Cert.GradGatedRefIdeal.main_arg0) = m ((c.tc : Thread Cert.GradGatedRefIdeal.nD Cert.GradGatedRefIdeal.τ).loc Cert.GradGatedRefIdeal.main_arg0)
      ∧ r.2.mem ((c.tc : Thread Cert.GradGatedRefIdeal.nD Cert.GradGatedRefIdeal.τ).loc Cert.GradGatedRefIdeal.main_arg1) = m ((c.tc : Thread Cert.GradGatedRefIdeal.nD Cert.GradGatedRefIdeal.τ).loc Cert.GradGatedRefIdeal.main_arg1))
      ∧ r.2.sem = fun _ => 0)

def quiescent_GradFfnIn [hGradFfnIn : Cert.GradFfnIn.Facts] : Prop :=
  ∀ (m : (ℓ : Loc Cert.GradFfnIn.nD Cert.GradFfnIn.τ Cert.GradFfnIn.sig) → Buf (Elt Bits) ℓ) (g : Dev Cert.GradFfnIn.nD → PrngReg), Pre_GradFfnIn m →
    θ_run (Cert.GradFfnIn.defs (F := Bits)) (onTc (τ := Cert.GradFfnIn.τ) (Cert.GradFfnIn.main (F := Bits))) ⟨m, fun _ => 0, g⟩ (fun r => (∀ c : Dev Cert.GradFfnIn.nD,
      r.2.mem ((c.tc : Thread Cert.GradFfnIn.nD Cert.GradFfnIn.τ).loc Cert.GradFfnIn.main_arg0) = m ((c.tc : Thread Cert.GradFfnIn.nD Cert.GradFfnIn.τ).loc Cert.GradFfnIn.main_arg0)
      ∧ r.2.mem ((c.tc : Thread Cert.GradFfnIn.nD Cert.GradFfnIn.τ).loc Cert.GradFfnIn.main_arg1) = m ((c.tc : Thread Cert.GradFfnIn.nD Cert.GradFfnIn.τ).loc Cert.GradFfnIn.main_arg1))
      ∧ r.2.sem = fun _ => 0)

def quiescent_GradFfnInIdeal [hGradFfnInIdeal : Cert.GradFfnInIdeal.Facts] : Prop :=
  ∀ (m : (ℓ : Loc Cert.GradFfnInIdeal.nD Cert.GradFfnInIdeal.τ Cert.GradFfnInIdeal.sig) → Buf (Elt Ideal) ℓ) (g : Dev Cert.GradFfnInIdeal.nD → PrngReg), Pre_GradFfnInIdeal m →
    θ_run (Cert.GradFfnInIdeal.defs (F := Ideal)) (onTc (τ := Cert.GradFfnInIdeal.τ) (Cert.GradFfnInIdeal.main (F := Ideal))) ⟨m, fun _ => 0, g⟩ (fun r => (∀ c : Dev Cert.GradFfnInIdeal.nD,
      r.2.mem ((c.tc : Thread Cert.GradFfnInIdeal.nD Cert.GradFfnInIdeal.τ).loc Cert.GradFfnInIdeal.main_arg0) = m ((c.tc : Thread Cert.GradFfnInIdeal.nD Cert.GradFfnInIdeal.τ).loc Cert.GradFfnInIdeal.main_arg0)
      ∧ r.2.mem ((c.tc : Thread Cert.GradFfnInIdeal.nD Cert.GradFfnInIdeal.τ).loc Cert.GradFfnInIdeal.main_arg1) = m ((c.tc : Thread Cert.GradFfnInIdeal.nD Cert.GradFfnInIdeal.τ).loc Cert.GradFfnInIdeal.main_arg1))
      ∧ r.2.sem = fun _ => 0)

def quiescent_GradFfnInRefIdeal [hGradFfnInRefIdeal : Cert.GradFfnInRefIdeal.Facts] : Prop :=
  ∀ (m : (ℓ : Loc Cert.GradFfnInRefIdeal.nD Cert.GradFfnInRefIdeal.τ Cert.GradFfnInRefIdeal.sig) → Buf (Elt Ideal) ℓ) (g : Dev Cert.GradFfnInRefIdeal.nD → PrngReg), Pre_GradFfnInRefIdeal m →
    θ_run (Cert.GradFfnInRefIdeal.defs (F := Ideal)) (onTc (τ := Cert.GradFfnInRefIdeal.τ) (Cert.GradFfnInRefIdeal.main (F := Ideal))) ⟨m, fun _ => 0, g⟩ (fun r => (∀ c : Dev Cert.GradFfnInRefIdeal.nD,
      r.2.mem ((c.tc : Thread Cert.GradFfnInRefIdeal.nD Cert.GradFfnInRefIdeal.τ).loc Cert.GradFfnInRefIdeal.main_arg0) = m ((c.tc : Thread Cert.GradFfnInRefIdeal.nD Cert.GradFfnInRefIdeal.τ).loc Cert.GradFfnInRefIdeal.main_arg0)
      ∧ r.2.mem ((c.tc : Thread Cert.GradFfnInRefIdeal.nD Cert.GradFfnInRefIdeal.τ).loc Cert.GradFfnInRefIdeal.main_arg1) = m ((c.tc : Thread Cert.GradFfnInRefIdeal.nD Cert.GradFfnInRefIdeal.τ).loc Cert.GradFfnInRefIdeal.main_arg1))
      ∧ r.2.sem = fun _ => 0)

def quiescent_GradNormed [hGradNormed : Cert.GradNormed.Facts] : Prop :=
  ∀ (m : (ℓ : Loc Cert.GradNormed.nD Cert.GradNormed.τ Cert.GradNormed.sig) → Buf (Elt Bits) ℓ) (g : Dev Cert.GradNormed.nD → PrngReg), Pre_GradNormed m →
    θ_run (Cert.GradNormed.defs (F := Bits)) (onTc (τ := Cert.GradNormed.τ) (Cert.GradNormed.main (F := Bits))) ⟨m, fun _ => 0, g⟩ (fun r => (∀ c : Dev Cert.GradNormed.nD,
      r.2.mem ((c.tc : Thread Cert.GradNormed.nD Cert.GradNormed.τ).loc Cert.GradNormed.main_arg0) = m ((c.tc : Thread Cert.GradNormed.nD Cert.GradNormed.τ).loc Cert.GradNormed.main_arg0)
      ∧ r.2.mem ((c.tc : Thread Cert.GradNormed.nD Cert.GradNormed.τ).loc Cert.GradNormed.main_arg1) = m ((c.tc : Thread Cert.GradNormed.nD Cert.GradNormed.τ).loc Cert.GradNormed.main_arg1))
      ∧ r.2.sem = fun _ => 0)

def quiescent_GradNormedIdeal [hGradNormedIdeal : Cert.GradNormedIdeal.Facts] : Prop :=
  ∀ (m : (ℓ : Loc Cert.GradNormedIdeal.nD Cert.GradNormedIdeal.τ Cert.GradNormedIdeal.sig) → Buf (Elt Ideal) ℓ) (g : Dev Cert.GradNormedIdeal.nD → PrngReg), Pre_GradNormedIdeal m →
    θ_run (Cert.GradNormedIdeal.defs (F := Ideal)) (onTc (τ := Cert.GradNormedIdeal.τ) (Cert.GradNormedIdeal.main (F := Ideal))) ⟨m, fun _ => 0, g⟩ (fun r => (∀ c : Dev Cert.GradNormedIdeal.nD,
      r.2.mem ((c.tc : Thread Cert.GradNormedIdeal.nD Cert.GradNormedIdeal.τ).loc Cert.GradNormedIdeal.main_arg0) = m ((c.tc : Thread Cert.GradNormedIdeal.nD Cert.GradNormedIdeal.τ).loc Cert.GradNormedIdeal.main_arg0)
      ∧ r.2.mem ((c.tc : Thread Cert.GradNormedIdeal.nD Cert.GradNormedIdeal.τ).loc Cert.GradNormedIdeal.main_arg1) = m ((c.tc : Thread Cert.GradNormedIdeal.nD Cert.GradNormedIdeal.τ).loc Cert.GradNormedIdeal.main_arg1))
      ∧ r.2.sem = fun _ => 0)

def quiescent_GradNormedRefIdeal [hGradNormedRefIdeal : Cert.GradNormedRefIdeal.Facts] : Prop :=
  ∀ (m : (ℓ : Loc Cert.GradNormedRefIdeal.nD Cert.GradNormedRefIdeal.τ Cert.GradNormedRefIdeal.sig) → Buf (Elt Ideal) ℓ) (g : Dev Cert.GradNormedRefIdeal.nD → PrngReg), Pre_GradNormedRefIdeal m →
    θ_run (Cert.GradNormedRefIdeal.defs (F := Ideal)) (onTc (τ := Cert.GradNormedRefIdeal.τ) (Cert.GradNormedRefIdeal.main (F := Ideal))) ⟨m, fun _ => 0, g⟩ (fun r => (∀ c : Dev Cert.GradNormedRefIdeal.nD,
      r.2.mem ((c.tc : Thread Cert.GradNormedRefIdeal.nD Cert.GradNormedRefIdeal.τ).loc Cert.GradNormedRefIdeal.main_arg0) = m ((c.tc : Thread Cert.GradNormedRefIdeal.nD Cert.GradNormedRefIdeal.τ).loc Cert.GradNormedRefIdeal.main_arg0)
      ∧ r.2.mem ((c.tc : Thread Cert.GradNormedRefIdeal.nD Cert.GradNormedRefIdeal.τ).loc Cert.GradNormedRefIdeal.main_arg1) = m ((c.tc : Thread Cert.GradNormedRefIdeal.nD Cert.GradNormedRefIdeal.τ).loc Cert.GradNormedRefIdeal.main_arg1))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1))
      ∧ r.2.sem = fun _ => 0)

def quiescent_BranchSsm [hBranchSsm : Cert.BranchSsm.Facts] : Prop :=
  ∀ (m : (ℓ : Loc Cert.BranchSsm.nD Cert.BranchSsm.τ Cert.BranchSsm.sig) → Buf (Elt Bits) ℓ) (g : Dev Cert.BranchSsm.nD → PrngReg), Pre_BranchSsm m →
    θ_run (Cert.BranchSsm.defs (F := Bits)) (onTc (τ := Cert.BranchSsm.τ) (Cert.BranchSsm.main (F := Bits))) ⟨m, fun _ => 0, g⟩ (fun r => (∀ c : Dev Cert.BranchSsm.nD,
      r.2.mem ((c.tc : Thread Cert.BranchSsm.nD Cert.BranchSsm.τ).loc Cert.BranchSsm.main_arg0) = m ((c.tc : Thread Cert.BranchSsm.nD Cert.BranchSsm.τ).loc Cert.BranchSsm.main_arg0)
      ∧ r.2.mem ((c.tc : Thread Cert.BranchSsm.nD Cert.BranchSsm.τ).loc Cert.BranchSsm.main_arg1) = m ((c.tc : Thread Cert.BranchSsm.nD Cert.BranchSsm.τ).loc Cert.BranchSsm.main_arg1))
      ∧ r.2.sem = fun _ => 0)

def quiescent_BranchSsmIdeal [hBranchSsmIdeal : Cert.BranchSsmIdeal.Facts] : Prop :=
  ∀ (m : (ℓ : Loc Cert.BranchSsmIdeal.nD Cert.BranchSsmIdeal.τ Cert.BranchSsmIdeal.sig) → Buf (Elt Ideal) ℓ) (g : Dev Cert.BranchSsmIdeal.nD → PrngReg), Pre_BranchSsmIdeal m →
    θ_run (Cert.BranchSsmIdeal.defs (F := Ideal)) (onTc (τ := Cert.BranchSsmIdeal.τ) (Cert.BranchSsmIdeal.main (F := Ideal))) ⟨m, fun _ => 0, g⟩ (fun r => (∀ c : Dev Cert.BranchSsmIdeal.nD,
      r.2.mem ((c.tc : Thread Cert.BranchSsmIdeal.nD Cert.BranchSsmIdeal.τ).loc Cert.BranchSsmIdeal.main_arg0) = m ((c.tc : Thread Cert.BranchSsmIdeal.nD Cert.BranchSsmIdeal.τ).loc Cert.BranchSsmIdeal.main_arg0)
      ∧ r.2.mem ((c.tc : Thread Cert.BranchSsmIdeal.nD Cert.BranchSsmIdeal.τ).loc Cert.BranchSsmIdeal.main_arg1) = m ((c.tc : Thread Cert.BranchSsmIdeal.nD Cert.BranchSsmIdeal.τ).loc Cert.BranchSsmIdeal.main_arg1))
      ∧ r.2.sem = fun _ => 0)

def quiescent_BranchSsmRefIdeal [hBranchSsmRefIdeal : Cert.BranchSsmRefIdeal.Facts] : Prop :=
  ∀ (m : (ℓ : Loc Cert.BranchSsmRefIdeal.nD Cert.BranchSsmRefIdeal.τ Cert.BranchSsmRefIdeal.sig) → Buf (Elt Ideal) ℓ) (g : Dev Cert.BranchSsmRefIdeal.nD → PrngReg), Pre_BranchSsmRefIdeal m →
    θ_run (Cert.BranchSsmRefIdeal.defs (F := Ideal)) (onTc (τ := Cert.BranchSsmRefIdeal.τ) (Cert.BranchSsmRefIdeal.main (F := Ideal))) ⟨m, fun _ => 0, g⟩ (fun r => (∀ c : Dev Cert.BranchSsmRefIdeal.nD,
      r.2.mem ((c.tc : Thread Cert.BranchSsmRefIdeal.nD Cert.BranchSsmRefIdeal.τ).loc Cert.BranchSsmRefIdeal.main_arg0) = m ((c.tc : Thread Cert.BranchSsmRefIdeal.nD Cert.BranchSsmRefIdeal.τ).loc Cert.BranchSsmRefIdeal.main_arg0)
      ∧ r.2.mem ((c.tc : Thread Cert.BranchSsmRefIdeal.nD Cert.BranchSsmRefIdeal.τ).loc Cert.BranchSsmRefIdeal.main_arg1) = m ((c.tc : Thread Cert.BranchSsmRefIdeal.nD Cert.BranchSsmRefIdeal.τ).loc Cert.BranchSsmRefIdeal.main_arg1))
      ∧ r.2.sem = fun _ => 0)

def quiescent_GradWOut [hGradWOut : Cert.GradWOut.Facts] : Prop :=
  ∀ (m : (ℓ : Loc Cert.GradWOut.nD Cert.GradWOut.τ Cert.GradWOut.sig) → Buf (Elt Bits) ℓ) (g : Dev Cert.GradWOut.nD → PrngReg), Pre_GradWOut m →
    θ_run (Cert.GradWOut.defs (F := Bits)) (onTc (τ := Cert.GradWOut.τ) (Cert.GradWOut.main (F := Bits))) ⟨m, fun _ => 0, g⟩ (fun r => (∀ c : Dev Cert.GradWOut.nD,
      r.2.mem ((c.tc : Thread Cert.GradWOut.nD Cert.GradWOut.τ).loc Cert.GradWOut.main_arg0) = m ((c.tc : Thread Cert.GradWOut.nD Cert.GradWOut.τ).loc Cert.GradWOut.main_arg0)
      ∧ r.2.mem ((c.tc : Thread Cert.GradWOut.nD Cert.GradWOut.τ).loc Cert.GradWOut.main_arg1) = m ((c.tc : Thread Cert.GradWOut.nD Cert.GradWOut.τ).loc Cert.GradWOut.main_arg1))
      ∧ r.2.sem = fun _ => 0)

def quiescent_GradWOutIdeal [hGradWOutIdeal : Cert.GradWOutIdeal.Facts] : Prop :=
  ∀ (m : (ℓ : Loc Cert.GradWOutIdeal.nD Cert.GradWOutIdeal.τ Cert.GradWOutIdeal.sig) → Buf (Elt Ideal) ℓ) (g : Dev Cert.GradWOutIdeal.nD → PrngReg), Pre_GradWOutIdeal m →
    θ_run (Cert.GradWOutIdeal.defs (F := Ideal)) (onTc (τ := Cert.GradWOutIdeal.τ) (Cert.GradWOutIdeal.main (F := Ideal))) ⟨m, fun _ => 0, g⟩ (fun r => (∀ c : Dev Cert.GradWOutIdeal.nD,
      r.2.mem ((c.tc : Thread Cert.GradWOutIdeal.nD Cert.GradWOutIdeal.τ).loc Cert.GradWOutIdeal.main_arg0) = m ((c.tc : Thread Cert.GradWOutIdeal.nD Cert.GradWOutIdeal.τ).loc Cert.GradWOutIdeal.main_arg0)
      ∧ r.2.mem ((c.tc : Thread Cert.GradWOutIdeal.nD Cert.GradWOutIdeal.τ).loc Cert.GradWOutIdeal.main_arg1) = m ((c.tc : Thread Cert.GradWOutIdeal.nD Cert.GradWOutIdeal.τ).loc Cert.GradWOutIdeal.main_arg1))
      ∧ r.2.sem = fun _ => 0)

def quiescent_GradWOutRefIdeal [hGradWOutRefIdeal : Cert.GradWOutRefIdeal.Facts] : Prop :=
  ∀ (m : (ℓ : Loc Cert.GradWOutRefIdeal.nD Cert.GradWOutRefIdeal.τ Cert.GradWOutRefIdeal.sig) → Buf (Elt Ideal) ℓ) (g : Dev Cert.GradWOutRefIdeal.nD → PrngReg), Pre_GradWOutRefIdeal m →
    θ_run (Cert.GradWOutRefIdeal.defs (F := Ideal)) (onTc (τ := Cert.GradWOutRefIdeal.τ) (Cert.GradWOutRefIdeal.main (F := Ideal))) ⟨m, fun _ => 0, g⟩ (fun r => (∀ c : Dev Cert.GradWOutRefIdeal.nD,
      r.2.mem ((c.tc : Thread Cert.GradWOutRefIdeal.nD Cert.GradWOutRefIdeal.τ).loc Cert.GradWOutRefIdeal.main_arg0) = m ((c.tc : Thread Cert.GradWOutRefIdeal.nD Cert.GradWOutRefIdeal.τ).loc Cert.GradWOutRefIdeal.main_arg0)
      ∧ r.2.mem ((c.tc : Thread Cert.GradWOutRefIdeal.nD Cert.GradWOutRefIdeal.τ).loc Cert.GradWOutRefIdeal.main_arg1) = m ((c.tc : Thread Cert.GradWOutRefIdeal.nD Cert.GradWOutRefIdeal.τ).loc Cert.GradWOutRefIdeal.main_arg1))
      ∧ r.2.sem = fun _ => 0)

def quiescent_GradWSsm [hGradWSsm : Cert.GradWSsm.Facts] : Prop :=
  ∀ (m : (ℓ : Loc Cert.GradWSsm.nD Cert.GradWSsm.τ Cert.GradWSsm.sig) → Buf (Elt Bits) ℓ) (g : Dev Cert.GradWSsm.nD → PrngReg), Pre_GradWSsm m →
    θ_run (Cert.GradWSsm.defs (F := Bits)) (onTc (τ := Cert.GradWSsm.τ) (Cert.GradWSsm.main (F := Bits))) ⟨m, fun _ => 0, g⟩ (fun r => (∀ c : Dev Cert.GradWSsm.nD,
      r.2.mem ((c.tc : Thread Cert.GradWSsm.nD Cert.GradWSsm.τ).loc Cert.GradWSsm.main_arg0) = m ((c.tc : Thread Cert.GradWSsm.nD Cert.GradWSsm.τ).loc Cert.GradWSsm.main_arg0)
      ∧ r.2.mem ((c.tc : Thread Cert.GradWSsm.nD Cert.GradWSsm.τ).loc Cert.GradWSsm.main_arg1) = m ((c.tc : Thread Cert.GradWSsm.nD Cert.GradWSsm.τ).loc Cert.GradWSsm.main_arg1))
      ∧ r.2.sem = fun _ => 0)

def quiescent_GradWSsmIdeal [hGradWSsmIdeal : Cert.GradWSsmIdeal.Facts] : Prop :=
  ∀ (m : (ℓ : Loc Cert.GradWSsmIdeal.nD Cert.GradWSsmIdeal.τ Cert.GradWSsmIdeal.sig) → Buf (Elt Ideal) ℓ) (g : Dev Cert.GradWSsmIdeal.nD → PrngReg), Pre_GradWSsmIdeal m →
    θ_run (Cert.GradWSsmIdeal.defs (F := Ideal)) (onTc (τ := Cert.GradWSsmIdeal.τ) (Cert.GradWSsmIdeal.main (F := Ideal))) ⟨m, fun _ => 0, g⟩ (fun r => (∀ c : Dev Cert.GradWSsmIdeal.nD,
      r.2.mem ((c.tc : Thread Cert.GradWSsmIdeal.nD Cert.GradWSsmIdeal.τ).loc Cert.GradWSsmIdeal.main_arg0) = m ((c.tc : Thread Cert.GradWSsmIdeal.nD Cert.GradWSsmIdeal.τ).loc Cert.GradWSsmIdeal.main_arg0)
      ∧ r.2.mem ((c.tc : Thread Cert.GradWSsmIdeal.nD Cert.GradWSsmIdeal.τ).loc Cert.GradWSsmIdeal.main_arg1) = m ((c.tc : Thread Cert.GradWSsmIdeal.nD Cert.GradWSsmIdeal.τ).loc Cert.GradWSsmIdeal.main_arg1))
      ∧ r.2.sem = fun _ => 0)

def quiescent_GradWSsmRefIdeal [hGradWSsmRefIdeal : Cert.GradWSsmRefIdeal.Facts] : Prop :=
  ∀ (m : (ℓ : Loc Cert.GradWSsmRefIdeal.nD Cert.GradWSsmRefIdeal.τ Cert.GradWSsmRefIdeal.sig) → Buf (Elt Ideal) ℓ) (g : Dev Cert.GradWSsmRefIdeal.nD → PrngReg), Pre_GradWSsmRefIdeal m →
    θ_run (Cert.GradWSsmRefIdeal.defs (F := Ideal)) (onTc (τ := Cert.GradWSsmRefIdeal.τ) (Cert.GradWSsmRefIdeal.main (F := Ideal))) ⟨m, fun _ => 0, g⟩ (fun r => (∀ c : Dev Cert.GradWSsmRefIdeal.nD,
      r.2.mem ((c.tc : Thread Cert.GradWSsmRefIdeal.nD Cert.GradWSsmRefIdeal.τ).loc Cert.GradWSsmRefIdeal.main_arg0) = m ((c.tc : Thread Cert.GradWSsmRefIdeal.nD Cert.GradWSsmRefIdeal.τ).loc Cert.GradWSsmRefIdeal.main_arg0)
      ∧ r.2.mem ((c.tc : Thread Cert.GradWSsmRefIdeal.nD Cert.GradWSsmRefIdeal.τ).loc Cert.GradWSsmRefIdeal.main_arg1) = m ((c.tc : Thread Cert.GradWSsmRefIdeal.nD Cert.GradWSsmRefIdeal.τ).loc Cert.GradWSsmRefIdeal.main_arg1))
      ∧ r.2.sem = fun _ => 0)

def quiescent_GradMerged [hGradMerged : Cert.GradMerged.Facts] : Prop :=
  ∀ (m : (ℓ : Loc Cert.GradMerged.nD Cert.GradMerged.τ Cert.GradMerged.sig) → Buf (Elt Bits) ℓ) (g : Dev Cert.GradMerged.nD → PrngReg), Pre_GradMerged m →
    θ_run (Cert.GradMerged.defs (F := Bits)) (onTc (τ := Cert.GradMerged.τ) (Cert.GradMerged.main (F := Bits))) ⟨m, fun _ => 0, g⟩ (fun r => (∀ c : Dev Cert.GradMerged.nD,
      r.2.mem ((c.tc : Thread Cert.GradMerged.nD Cert.GradMerged.τ).loc Cert.GradMerged.main_arg0) = m ((c.tc : Thread Cert.GradMerged.nD Cert.GradMerged.τ).loc Cert.GradMerged.main_arg0)
      ∧ r.2.mem ((c.tc : Thread Cert.GradMerged.nD Cert.GradMerged.τ).loc Cert.GradMerged.main_arg1) = m ((c.tc : Thread Cert.GradMerged.nD Cert.GradMerged.τ).loc Cert.GradMerged.main_arg1))
      ∧ r.2.sem = fun _ => 0)

def quiescent_GradMergedIdeal [hGradMergedIdeal : Cert.GradMergedIdeal.Facts] : Prop :=
  ∀ (m : (ℓ : Loc Cert.GradMergedIdeal.nD Cert.GradMergedIdeal.τ Cert.GradMergedIdeal.sig) → Buf (Elt Ideal) ℓ) (g : Dev Cert.GradMergedIdeal.nD → PrngReg), Pre_GradMergedIdeal m →
    θ_run (Cert.GradMergedIdeal.defs (F := Ideal)) (onTc (τ := Cert.GradMergedIdeal.τ) (Cert.GradMergedIdeal.main (F := Ideal))) ⟨m, fun _ => 0, g⟩ (fun r => (∀ c : Dev Cert.GradMergedIdeal.nD,
      r.2.mem ((c.tc : Thread Cert.GradMergedIdeal.nD Cert.GradMergedIdeal.τ).loc Cert.GradMergedIdeal.main_arg0) = m ((c.tc : Thread Cert.GradMergedIdeal.nD Cert.GradMergedIdeal.τ).loc Cert.GradMergedIdeal.main_arg0)
      ∧ r.2.mem ((c.tc : Thread Cert.GradMergedIdeal.nD Cert.GradMergedIdeal.τ).loc Cert.GradMergedIdeal.main_arg1) = m ((c.tc : Thread Cert.GradMergedIdeal.nD Cert.GradMergedIdeal.τ).loc Cert.GradMergedIdeal.main_arg1))
      ∧ r.2.sem = fun _ => 0)

def quiescent_GradMergedRefIdeal [hGradMergedRefIdeal : Cert.GradMergedRefIdeal.Facts] : Prop :=
  ∀ (m : (ℓ : Loc Cert.GradMergedRefIdeal.nD Cert.GradMergedRefIdeal.τ Cert.GradMergedRefIdeal.sig) → Buf (Elt Ideal) ℓ) (g : Dev Cert.GradMergedRefIdeal.nD → PrngReg), Pre_GradMergedRefIdeal m →
    θ_run (Cert.GradMergedRefIdeal.defs (F := Ideal)) (onTc (τ := Cert.GradMergedRefIdeal.τ) (Cert.GradMergedRefIdeal.main (F := Ideal))) ⟨m, fun _ => 0, g⟩ (fun r => (∀ c : Dev Cert.GradMergedRefIdeal.nD,
      r.2.mem ((c.tc : Thread Cert.GradMergedRefIdeal.nD Cert.GradMergedRefIdeal.τ).loc Cert.GradMergedRefIdeal.main_arg0) = m ((c.tc : Thread Cert.GradMergedRefIdeal.nD Cert.GradMergedRefIdeal.τ).loc Cert.GradMergedRefIdeal.main_arg0)
      ∧ r.2.mem ((c.tc : Thread Cert.GradMergedRefIdeal.nD Cert.GradMergedRefIdeal.τ).loc Cert.GradMergedRefIdeal.main_arg1) = m ((c.tc : Thread Cert.GradMergedRefIdeal.nD Cert.GradMergedRefIdeal.τ).loc Cert.GradMergedRefIdeal.main_arg1))
      ∧ r.2.sem = fun _ => 0)

def quiescent_GradSsm [hGradSsm : Cert.GradSsm.Facts] : Prop :=
  ∀ (m : (ℓ : Loc Cert.GradSsm.nD Cert.GradSsm.τ Cert.GradSsm.sig) → Buf (Elt Bits) ℓ) (g : Dev Cert.GradSsm.nD → PrngReg), Pre_GradSsm m →
    θ_run (Cert.GradSsm.defs (F := Bits)) (onTc (τ := Cert.GradSsm.τ) (Cert.GradSsm.main (F := Bits))) ⟨m, fun _ => 0, g⟩ (fun r => (∀ c : Dev Cert.GradSsm.nD,
      r.2.mem ((c.tc : Thread Cert.GradSsm.nD Cert.GradSsm.τ).loc Cert.GradSsm.main_arg0) = m ((c.tc : Thread Cert.GradSsm.nD Cert.GradSsm.τ).loc Cert.GradSsm.main_arg0)
      ∧ r.2.mem ((c.tc : Thread Cert.GradSsm.nD Cert.GradSsm.τ).loc Cert.GradSsm.main_arg1) = m ((c.tc : Thread Cert.GradSsm.nD Cert.GradSsm.τ).loc Cert.GradSsm.main_arg1))
      ∧ r.2.sem = fun _ => 0)

def quiescent_GradSsmIdeal [hGradSsmIdeal : Cert.GradSsmIdeal.Facts] : Prop :=
  ∀ (m : (ℓ : Loc Cert.GradSsmIdeal.nD Cert.GradSsmIdeal.τ Cert.GradSsmIdeal.sig) → Buf (Elt Ideal) ℓ) (g : Dev Cert.GradSsmIdeal.nD → PrngReg), Pre_GradSsmIdeal m →
    θ_run (Cert.GradSsmIdeal.defs (F := Ideal)) (onTc (τ := Cert.GradSsmIdeal.τ) (Cert.GradSsmIdeal.main (F := Ideal))) ⟨m, fun _ => 0, g⟩ (fun r => (∀ c : Dev Cert.GradSsmIdeal.nD,
      r.2.mem ((c.tc : Thread Cert.GradSsmIdeal.nD Cert.GradSsmIdeal.τ).loc Cert.GradSsmIdeal.main_arg0) = m ((c.tc : Thread Cert.GradSsmIdeal.nD Cert.GradSsmIdeal.τ).loc Cert.GradSsmIdeal.main_arg0)
      ∧ r.2.mem ((c.tc : Thread Cert.GradSsmIdeal.nD Cert.GradSsmIdeal.τ).loc Cert.GradSsmIdeal.main_arg1) = m ((c.tc : Thread Cert.GradSsmIdeal.nD Cert.GradSsmIdeal.τ).loc Cert.GradSsmIdeal.main_arg1))
      ∧ r.2.sem = fun _ => 0)

def quiescent_GradSsmRefIdeal [hGradSsmRefIdeal : Cert.GradSsmRefIdeal.Facts] : Prop :=
  ∀ (m : (ℓ : Loc Cert.GradSsmRefIdeal.nD Cert.GradSsmRefIdeal.τ Cert.GradSsmRefIdeal.sig) → Buf (Elt Ideal) ℓ) (g : Dev Cert.GradSsmRefIdeal.nD → PrngReg), Pre_GradSsmRefIdeal m →
    θ_run (Cert.GradSsmRefIdeal.defs (F := Ideal)) (onTc (τ := Cert.GradSsmRefIdeal.τ) (Cert.GradSsmRefIdeal.main (F := Ideal))) ⟨m, fun _ => 0, g⟩ (fun r => (∀ c : Dev Cert.GradSsmRefIdeal.nD,
      r.2.mem ((c.tc : Thread Cert.GradSsmRefIdeal.nD Cert.GradSsmRefIdeal.τ).loc Cert.GradSsmRefIdeal.main_arg0) = m ((c.tc : Thread Cert.GradSsmRefIdeal.nD Cert.GradSsmRefIdeal.τ).loc Cert.GradSsmRefIdeal.main_arg0)
      ∧ r.2.mem ((c.tc : Thread Cert.GradSsmRefIdeal.nD Cert.GradSsmRefIdeal.τ).loc Cert.GradSsmRefIdeal.main_arg1) = m ((c.tc : Thread Cert.GradSsmRefIdeal.nD Cert.GradSsmRefIdeal.τ).loc Cert.GradSsmRefIdeal.main_arg1))
      ∧ r.2.sem = fun _ => 0)

def quiescent_AdaBwd [hAdaBwd : Cert.AdaBwd.Facts] : Prop :=
  ∀ (m : (ℓ : Loc Cert.AdaBwd.nD Cert.AdaBwd.τ Cert.AdaBwd.sig) → Buf (Elt Bits) ℓ) (g : Dev Cert.AdaBwd.nD → PrngReg), Pre_AdaBwd m →
    θ_run (Cert.AdaBwd.defs (F := Bits)) (onTc (τ := Cert.AdaBwd.τ) (Cert.AdaBwd.main (F := Bits))) ⟨m, fun _ => 0, g⟩ (fun r => (∀ c : Dev Cert.AdaBwd.nD,
      r.2.mem ((c.tc : Thread Cert.AdaBwd.nD Cert.AdaBwd.τ).loc Cert.AdaBwd.main_arg0) = m ((c.tc : Thread Cert.AdaBwd.nD Cert.AdaBwd.τ).loc Cert.AdaBwd.main_arg0)
      ∧ r.2.mem ((c.tc : Thread Cert.AdaBwd.nD Cert.AdaBwd.τ).loc Cert.AdaBwd.main_arg1) = m ((c.tc : Thread Cert.AdaBwd.nD Cert.AdaBwd.τ).loc Cert.AdaBwd.main_arg1)
      ∧ r.2.mem ((c.tc : Thread Cert.AdaBwd.nD Cert.AdaBwd.τ).loc Cert.AdaBwd.main_arg2) = m ((c.tc : Thread Cert.AdaBwd.nD Cert.AdaBwd.τ).loc Cert.AdaBwd.main_arg2))
      ∧ r.2.sem = fun _ => 0)

def quiescent_AdaBwdIdeal [hAdaBwdIdeal : Cert.AdaBwdIdeal.Facts] : Prop :=
  ∀ (m : (ℓ : Loc Cert.AdaBwdIdeal.nD Cert.AdaBwdIdeal.τ Cert.AdaBwdIdeal.sig) → Buf (Elt Ideal) ℓ) (g : Dev Cert.AdaBwdIdeal.nD → PrngReg), Pre_AdaBwdIdeal m →
    θ_run (Cert.AdaBwdIdeal.defs (F := Ideal)) (onTc (τ := Cert.AdaBwdIdeal.τ) (Cert.AdaBwdIdeal.main (F := Ideal))) ⟨m, fun _ => 0, g⟩ (fun r => (∀ c : Dev Cert.AdaBwdIdeal.nD,
      r.2.mem ((c.tc : Thread Cert.AdaBwdIdeal.nD Cert.AdaBwdIdeal.τ).loc Cert.AdaBwdIdeal.main_arg0) = m ((c.tc : Thread Cert.AdaBwdIdeal.nD Cert.AdaBwdIdeal.τ).loc Cert.AdaBwdIdeal.main_arg0)
      ∧ r.2.mem ((c.tc : Thread Cert.AdaBwdIdeal.nD Cert.AdaBwdIdeal.τ).loc Cert.AdaBwdIdeal.main_arg1) = m ((c.tc : Thread Cert.AdaBwdIdeal.nD Cert.AdaBwdIdeal.τ).loc Cert.AdaBwdIdeal.main_arg1)
      ∧ r.2.mem ((c.tc : Thread Cert.AdaBwdIdeal.nD Cert.AdaBwdIdeal.τ).loc Cert.AdaBwdIdeal.main_arg2) = m ((c.tc : Thread Cert.AdaBwdIdeal.nD Cert.AdaBwdIdeal.τ).loc Cert.AdaBwdIdeal.main_arg2))
      ∧ r.2.sem = fun _ => 0)

def quiescent_AdaBwdRefIdeal [hAdaBwdRefIdeal : Cert.AdaBwdRefIdeal.Facts] : Prop :=
  ∀ (m : (ℓ : Loc Cert.AdaBwdRefIdeal.nD Cert.AdaBwdRefIdeal.τ Cert.AdaBwdRefIdeal.sig) → Buf (Elt Ideal) ℓ) (g : Dev Cert.AdaBwdRefIdeal.nD → PrngReg), Pre_AdaBwdRefIdeal m →
    θ_run (Cert.AdaBwdRefIdeal.defs (F := Ideal)) (onTc (τ := Cert.AdaBwdRefIdeal.τ) (Cert.AdaBwdRefIdeal.main (F := Ideal))) ⟨m, fun _ => 0, g⟩ (fun r => (∀ c : Dev Cert.AdaBwdRefIdeal.nD,
      r.2.mem ((c.tc : Thread Cert.AdaBwdRefIdeal.nD Cert.AdaBwdRefIdeal.τ).loc Cert.AdaBwdRefIdeal.main_arg0) = m ((c.tc : Thread Cert.AdaBwdRefIdeal.nD Cert.AdaBwdRefIdeal.τ).loc Cert.AdaBwdRefIdeal.main_arg0)
      ∧ r.2.mem ((c.tc : Thread Cert.AdaBwdRefIdeal.nD Cert.AdaBwdRefIdeal.τ).loc Cert.AdaBwdRefIdeal.main_arg1) = m ((c.tc : Thread Cert.AdaBwdRefIdeal.nD Cert.AdaBwdRefIdeal.τ).loc Cert.AdaBwdRefIdeal.main_arg1)
      ∧ r.2.mem ((c.tc : Thread Cert.AdaBwdRefIdeal.nD Cert.AdaBwdRefIdeal.τ).loc Cert.AdaBwdRefIdeal.main_arg2) = m ((c.tc : Thread Cert.AdaBwdRefIdeal.nD Cert.AdaBwdRefIdeal.τ).loc Cert.AdaBwdRefIdeal.main_arg2))
      ∧ r.2.sem = fun _ => 0)

def preserves_Gather_GatherIdeal : Prop :=
  True

def algebraic_GatherIdeal_GatherRefIdeal [hGatherIdeal : Cert.GatherIdeal.Facts] [hGatherRefIdeal : Cert.GatherRefIdeal.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherRefIdeal.nD Cert.GatherRefIdeal.τ Cert.GatherRefIdeal.sig) → Buf (Elt Ideal) ℓ) (g' : Dev Cert.GatherRefIdeal.nD → PrngReg), Pre_GatherIdeal m →
    (∀ c : Dev Cert.GatherIdeal.nD,
      m ((c.tc : Thread Cert.GatherIdeal.nD Cert.GatherIdeal.τ).loc Cert.GatherIdeal.main_arg0) = Layout.blockN ⟨2, ![7536, 1024]⟩ ⟨2, ![30144, 1024]⟩ (Layout.meshBlock [2, 2, 2] ![[0, 1], []] c) (m' (((0 : Dev Cert.GatherRefIdeal.nD).tc : Thread Cert.GatherRefIdeal.nD Cert.GatherRefIdeal.τ).loc Cert.GatherRefIdeal.main_arg0))) →
    ∃ (v0 : Buf (Elt Ideal) (((0 : Dev Cert.GatherRefIdeal.nD).tc : Thread Cert.GatherRefIdeal.nD Cert.GatherRefIdeal.τ).loc Cert.GatherRefIdeal.main_v0)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          r.2.mem ((c.tc : Thread Cert.GatherIdeal.nD Cert.GatherIdeal.τ).loc Cert.GatherIdeal.main_v1) = v0
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0))
      ∧ θ_run (Cert.GatherRefIdeal.defs (F := Ideal)) (onTc (τ := Cert.GatherRefIdeal.τ) (Cert.GatherRefIdeal.main (F := Ideal))) ⟨m', fun _ => 0, g'⟩ (fun r =>
          r.2.mem (((0 : Dev Cert.GatherRefIdeal.nD).tc : Thread Cert.GatherRefIdeal.nD Cert.GatherRefIdeal.τ).loc Cert.GatherRefIdeal.main_v0) = v0
          ∧ r.2.mem (((0 : Dev Cert.GatherRefIdeal.nD).tc : Thread Cert.GatherRefIdeal.nD Cert.GatherRefIdeal.τ).loc Cert.GatherRefIdeal.main_arg0) = m' (((0 : Dev Cert.GatherRefIdeal.nD).tc : Thread Cert.GatherRefIdeal.nD Cert.GatherRefIdeal.τ).loc Cert.GatherRefIdeal.main_arg0))

def preserves_Scatter_ScatterIdeal : Prop :=
  True

def algebraic_ScatterIdeal_ScatterRefIdeal [hScatterIdeal : Cert.ScatterIdeal.Facts] [hScatterRefIdeal : Cert.ScatterRefIdeal.Facts] : Prop :=
  ∀ (m : (ℓ : Loc Cert.ScatterIdeal.nD Cert.ScatterIdeal.τ Cert.ScatterIdeal.sig) → Buf (Elt Ideal) ℓ) (g : Dev Cert.ScatterIdeal.nD → PrngReg)
    (m' : (ℓ : Loc Cert.ScatterRefIdeal.nD Cert.ScatterRefIdeal.τ Cert.ScatterRefIdeal.sig) → Buf (Elt Ideal) ℓ) (g' : Dev Cert.ScatterRefIdeal.nD → PrngReg), Pre_ScatterIdeal m →
    (∀ c : Dev Cert.ScatterIdeal.nD,
      m ((c.tc : Thread Cert.ScatterIdeal.nD Cert.ScatterIdeal.τ).loc Cert.ScatterIdeal.main_arg0) = Layout.block ⟨3, ![4, 7536, 1024]⟩ ⟨3, ![32, 7536, 1024]⟩ 0 8 c (m' (((0 : Dev Cert.ScatterRefIdeal.nD).tc : Thread Cert.ScatterRefIdeal.nD Cert.ScatterRefIdeal.τ).loc Cert.ScatterRefIdeal.main_arg0))) →
    ∃ (v0 : Buf (Elt Ideal) (((0 : Dev Cert.ScatterRefIdeal.nD).tc : Thread Cert.ScatterRefIdeal.nD Cert.ScatterRefIdeal.τ).loc Cert.ScatterRefIdeal.main_v13)),
      θ_run (Cert.ScatterIdeal.defs (F := Ideal)) (onTc (τ := Cert.ScatterIdeal.τ) (Cert.ScatterIdeal.main (F := Ideal))) ⟨m, fun _ => 0, g⟩ (fun r => ∀ c : Dev Cert.ScatterIdeal.nD,
          r.2.mem ((c.tc : Thread Cert.ScatterIdeal.nD Cert.ScatterIdeal.τ).loc Cert.ScatterIdeal.main_v2) = Layout.block ⟨2, ![7536, 1024]⟩ ⟨2, ![60288, 1024]⟩ 0 8 c v0
          ∧ r.2.mem ((c.tc : Thread Cert.ScatterIdeal.nD Cert.ScatterIdeal.τ).loc Cert.ScatterIdeal.main_arg0) = m ((c.tc : Thread Cert.ScatterIdeal.nD Cert.ScatterIdeal.τ).loc Cert.ScatterIdeal.main_arg0))
      ∧ θ_run (Cert.ScatterRefIdeal.defs (F := Ideal)) (onTc (τ := Cert.ScatterRefIdeal.τ) (Cert.ScatterRefIdeal.main (F := Ideal))) ⟨m', fun _ => 0, g'⟩ (fun r =>
          r.2.mem (((0 : Dev Cert.ScatterRefIdeal.nD).tc : Thread Cert.ScatterRefIdeal.nD Cert.ScatterRefIdeal.τ).loc Cert.ScatterRefIdeal.main_v13) = v0
          ∧ r.2.mem (((0 : Dev Cert.ScatterRefIdeal.nD).tc : Thread Cert.ScatterRefIdeal.nD Cert.ScatterRefIdeal.τ).loc Cert.ScatterRefIdeal.main_arg0) = m' (((0 : Dev Cert.ScatterRefIdeal.nD).tc : Thread Cert.ScatterRefIdeal.nD Cert.ScatterRefIdeal.τ).loc Cert.ScatterRefIdeal.main_arg0))

def preserves_Update_UpdateIdeal : Prop :=
  True

def algebraic_UpdateIdeal_UpdateRefIdeal [hUpdateIdeal : Cert.UpdateIdeal.Facts] [hUpdateRefIdeal : Cert.UpdateRefIdeal.Facts] : Prop :=
  ∀ (m : (ℓ : Loc Cert.UpdateIdeal.nD Cert.UpdateIdeal.τ Cert.UpdateIdeal.sig) → Buf (Elt Ideal) ℓ) (g : Dev Cert.UpdateIdeal.nD → PrngReg)
    (m' : (ℓ : Loc Cert.UpdateRefIdeal.nD Cert.UpdateRefIdeal.τ Cert.UpdateRefIdeal.sig) → Buf (Elt Ideal) ℓ) (g' : Dev Cert.UpdateRefIdeal.nD → PrngReg), Pre_UpdateIdeal m →
    (∀ c : Dev Cert.UpdateIdeal.nD,
      m ((c.tc : Thread Cert.UpdateIdeal.nD Cert.UpdateIdeal.τ).loc Cert.UpdateIdeal.main_arg0) = Layout.blockN ⟨2, ![7536, 1024]⟩ ⟨2, ![30144, 1024]⟩ (Layout.meshBlock [2, 2, 2] ![[0, 1], []] c) (m' (((0 : Dev Cert.UpdateRefIdeal.nD).tc : Thread Cert.UpdateRefIdeal.nD Cert.UpdateRefIdeal.τ).loc Cert.UpdateRefIdeal.main_arg0))
      ∧ m ((c.tc : Thread Cert.UpdateIdeal.nD Cert.UpdateIdeal.τ).loc Cert.UpdateIdeal.main_arg1) = Layout.blockN ⟨2, ![7536, 1024]⟩ ⟨2, ![30144, 1024]⟩ (Layout.meshBlock [2, 2, 2] ![[0, 1], []] c) (m' (((0 : Dev Cert.UpdateRefIdeal.nD).tc : Thread Cert.UpdateRefIdeal.nD Cert.UpdateRefIdeal.τ).loc Cert.UpdateRefIdeal.main_arg1))
      ∧ m ((c.tc : Thread Cert.UpdateIdeal.nD Cert.UpdateIdeal.τ).loc Cert.UpdateIdeal.main_arg2) = Layout.blockN ⟨2, ![7536, 1024]⟩ ⟨2, ![30144, 1024]⟩ (Layout.meshBlock [2, 2, 2] ![[0, 1], []] c) (m' (((0 : Dev Cert.UpdateRefIdeal.nD).tc : Thread Cert.UpdateRefIdeal.nD Cert.UpdateRefIdeal.τ).loc Cert.UpdateRefIdeal.main_arg2))
      ∧ m ((c.tc : Thread Cert.UpdateIdeal.nD Cert.UpdateIdeal.τ).loc Cert.UpdateIdeal.main_arg3) = Layout.block ⟨2, ![7536, 1024]⟩ ⟨2, ![60288, 1024]⟩ 0 8 c (m' (((0 : Dev Cert.UpdateRefIdeal.nD).tc : Thread Cert.UpdateRefIdeal.nD Cert.UpdateRefIdeal.τ).loc Cert.UpdateRefIdeal.main_arg3))) →
    ∃ (v0 : Buf (Elt Ideal) (((0 : Dev Cert.UpdateRefIdeal.nD).tc : Thread Cert.UpdateRefIdeal.nD Cert.UpdateRefIdeal.τ).loc Cert.UpdateRefIdeal.main_v6)) (v1 : Buf (Elt Ideal) (((0 : Dev Cert.UpdateRefIdeal.nD).tc : Thread Cert.UpdateRefIdeal.nD Cert.UpdateRefIdeal.τ).loc Cert.UpdateRefIdeal.main_v30)) (v2 : Buf (Elt Ideal) (((0 : Dev Cert.UpdateRefIdeal.nD).tc : Thread Cert.UpdateRefIdeal.nD Cert.UpdateRefIdeal.τ).loc Cert.UpdateRefIdeal.main_v11)) (v3 : Buf (Elt Ideal) (((0 : Dev Cert.UpdateRefIdeal.nD).tc : Thread Cert.UpdateRefIdeal.nD Cert.UpdateRefIdeal.τ).loc Cert.UpdateRefIdeal.main_v17)),
      θ_run (Cert.UpdateIdeal.defs (F := Ideal)) (onTc (τ := Cert.UpdateIdeal.τ) (Cert.UpdateIdeal.main (F := Ideal))) ⟨m, fun _ => 0, g⟩ (fun r => ∀ c : Dev Cert.UpdateIdeal.nD,
          r.2.mem ((c.tc : Thread Cert.UpdateIdeal.nD Cert.UpdateIdeal.τ).loc Cert.UpdateIdeal.main_v2_0) = Layout.blockN ⟨2, ![7536, 1024]⟩ ⟨2, ![30144, 1024]⟩ (Layout.meshBlock [2, 2, 2] ![[0, 1], []] c) v0
          ∧ r.2.mem ((c.tc : Thread Cert.UpdateIdeal.nD Cert.UpdateIdeal.τ).loc Cert.UpdateIdeal.main_v2_1) = Layout.blockN ⟨2, ![7536, 1024]⟩ ⟨2, ![30144, 1024]⟩ (Layout.meshBlock [2, 2, 2] ![[0, 1], []] c) v1
          ∧ r.2.mem ((c.tc : Thread Cert.UpdateIdeal.nD Cert.UpdateIdeal.τ).loc Cert.UpdateIdeal.main_v2_2) = Layout.blockN ⟨2, ![7536, 1024]⟩ ⟨2, ![30144, 1024]⟩ (Layout.meshBlock [2, 2, 2] ![[0, 1], []] c) v2
          ∧ r.2.mem ((c.tc : Thread Cert.UpdateIdeal.nD Cert.UpdateIdeal.τ).loc Cert.UpdateIdeal.main_v2_3) = Layout.blockN ⟨2, ![7536, 1024]⟩ ⟨2, ![30144, 1024]⟩ (Layout.meshBlock [2, 2, 2] ![[0, 1], []] c) v3
          ∧ r.2.mem ((c.tc : Thread Cert.UpdateIdeal.nD Cert.UpdateIdeal.τ).loc Cert.UpdateIdeal.main_arg0) = m ((c.tc : Thread Cert.UpdateIdeal.nD Cert.UpdateIdeal.τ).loc Cert.UpdateIdeal.main_arg0)
          ∧ r.2.mem ((c.tc : Thread Cert.UpdateIdeal.nD Cert.UpdateIdeal.τ).loc Cert.UpdateIdeal.main_arg1) = m ((c.tc : Thread Cert.UpdateIdeal.nD Cert.UpdateIdeal.τ).loc Cert.UpdateIdeal.main_arg1)
          ∧ r.2.mem ((c.tc : Thread Cert.UpdateIdeal.nD Cert.UpdateIdeal.τ).loc Cert.UpdateIdeal.main_arg2) = m ((c.tc : Thread Cert.UpdateIdeal.nD Cert.UpdateIdeal.τ).loc Cert.UpdateIdeal.main_arg2)
          ∧ r.2.mem ((c.tc : Thread Cert.UpdateIdeal.nD Cert.UpdateIdeal.τ).loc Cert.UpdateIdeal.main_arg3) = m ((c.tc : Thread Cert.UpdateIdeal.nD Cert.UpdateIdeal.τ).loc Cert.UpdateIdeal.main_arg3))
      ∧ θ_run (Cert.UpdateRefIdeal.defs (F := Ideal)) (onTc (τ := Cert.UpdateRefIdeal.τ) (Cert.UpdateRefIdeal.main (F := Ideal))) ⟨m', fun _ => 0, g'⟩ (fun r =>
          r.2.mem (((0 : Dev Cert.UpdateRefIdeal.nD).tc : Thread Cert.UpdateRefIdeal.nD Cert.UpdateRefIdeal.τ).loc Cert.UpdateRefIdeal.main_v6) = v0
          ∧ r.2.mem (((0 : Dev Cert.UpdateRefIdeal.nD).tc : Thread Cert.UpdateRefIdeal.nD Cert.UpdateRefIdeal.τ).loc Cert.UpdateRefIdeal.main_v30) = v1
          ∧ r.2.mem (((0 : Dev Cert.UpdateRefIdeal.nD).tc : Thread Cert.UpdateRefIdeal.nD Cert.UpdateRefIdeal.τ).loc Cert.UpdateRefIdeal.main_v11) = v2
          ∧ r.2.mem (((0 : Dev Cert.UpdateRefIdeal.nD).tc : Thread Cert.UpdateRefIdeal.nD Cert.UpdateRefIdeal.τ).loc Cert.UpdateRefIdeal.main_v17) = v3
          ∧ r.2.mem (((0 : Dev Cert.UpdateRefIdeal.nD).tc : Thread Cert.UpdateRefIdeal.nD Cert.UpdateRefIdeal.τ).loc Cert.UpdateRefIdeal.main_arg0) = m' (((0 : Dev Cert.UpdateRefIdeal.nD).tc : Thread Cert.UpdateRefIdeal.nD Cert.UpdateRefIdeal.τ).loc Cert.UpdateRefIdeal.main_arg0)
          ∧ r.2.mem (((0 : Dev Cert.UpdateRefIdeal.nD).tc : Thread Cert.UpdateRefIdeal.nD Cert.UpdateRefIdeal.τ).loc Cert.UpdateRefIdeal.main_arg1) = m' (((0 : Dev Cert.UpdateRefIdeal.nD).tc : Thread Cert.UpdateRefIdeal.nD Cert.UpdateRefIdeal.τ).loc Cert.UpdateRefIdeal.main_arg1)
          ∧ r.2.mem (((0 : Dev Cert.UpdateRefIdeal.nD).tc : Thread Cert.UpdateRefIdeal.nD Cert.UpdateRefIdeal.τ).loc Cert.UpdateRefIdeal.main_arg2) = m' (((0 : Dev Cert.UpdateRefIdeal.nD).tc : Thread Cert.UpdateRefIdeal.nD Cert.UpdateRefIdeal.τ).loc Cert.UpdateRefIdeal.main_arg2)
          ∧ r.2.mem (((0 : Dev Cert.UpdateRefIdeal.nD).tc : Thread Cert.UpdateRefIdeal.nD Cert.UpdateRefIdeal.τ).loc Cert.UpdateRefIdeal.main_arg3) = m' (((0 : Dev Cert.UpdateRefIdeal.nD).tc : Thread Cert.UpdateRefIdeal.nD Cert.UpdateRefIdeal.τ).loc Cert.UpdateRefIdeal.main_arg3))

def bitexact_Gather_GatherRef [hGather : Cert.Gather.Facts] [hGatherRef : Cert.GatherRef.Facts] : Prop :=
  ∀ (m : (ℓ : Loc Cert.Gather.nD Cert.Gather.τ Cert.Gather.sig) → Buf (Elt Bits) ℓ) (g : Dev Cert.Gather.nD → PrngReg)
    (m' : (ℓ : Loc Cert.GatherRef.nD Cert.GatherRef.τ Cert.GatherRef.sig) → Buf (Elt Bits) ℓ) (g' : Dev Cert.GatherRef.nD → PrngReg), Pre_Gather m →
    (∀ c : Dev Cert.Gather.nD,
      m ((c.tc : Thread Cert.Gather.nD Cert.Gather.τ).loc Cert.Gather.main_arg0) = Layout.blockN ⟨2, ![7536, 1024]⟩ ⟨2, ![30144, 1024]⟩ (Layout.meshBlock [2, 2, 2] ![[0, 1], []] c) (m' (((0 : Dev Cert.GatherRef.nD).tc : Thread Cert.GatherRef.nD Cert.GatherRef.τ).loc Cert.GatherRef.main_arg0))) →
    ∃ (v0 : Buf (Elt Bits) (((0 : Dev Cert.GatherRef.nD).tc : Thread Cert.GatherRef.nD Cert.GatherRef.τ).loc Cert.GatherRef.main_v0)),
      θ_run (Cert.Gather.defs (F := Bits)) (onTc (τ := Cert.Gather.τ) (Cert.Gather.main (F := Bits))) ⟨m, fun _ => 0, g⟩ (fun r => ∀ c : Dev Cert.Gather.nD,
          r.2.mem ((c.tc : Thread Cert.Gather.nD Cert.Gather.τ).loc Cert.Gather.main_v1) = v0
          ∧ r.2.mem ((c.tc : Thread Cert.Gather.nD Cert.Gather.τ).loc Cert.Gather.main_arg0) = m ((c.tc : Thread Cert.Gather.nD Cert.Gather.τ).loc Cert.Gather.main_arg0))
      ∧ θ_run (Cert.GatherRef.defs (F := Bits)) (onTc (τ := Cert.GatherRef.τ) (Cert.GatherRef.main (F := Bits))) ⟨m', fun _ => 0, g'⟩ (fun r =>
          r.2.mem (((0 : Dev Cert.GatherRef.nD).tc : Thread Cert.GatherRef.nD Cert.GatherRef.τ).loc Cert.GatherRef.main_v0) = v0
          ∧ r.2.mem (((0 : Dev Cert.GatherRef.nD).tc : Thread Cert.GatherRef.nD Cert.GatherRef.τ).loc Cert.GatherRef.main_arg0) = m' (((0 : Dev Cert.GatherRef.nD).tc : Thread Cert.GatherRef.nD Cert.GatherRef.τ).loc Cert.GatherRef.main_arg0))

def bitexact_Scatter_ScatterRef [hScatter : Cert.Scatter.Facts] [hScatterRef : Cert.ScatterRef.Facts] : Prop :=
  ∀ (m : (ℓ : Loc Cert.Scatter.nD Cert.Scatter.τ Cert.Scatter.sig) → Buf (Elt Bits) ℓ) (g : Dev Cert.Scatter.nD → PrngReg)
    (m' : (ℓ : Loc Cert.ScatterRef.nD Cert.ScatterRef.τ Cert.ScatterRef.sig) → Buf (Elt Bits) ℓ) (g' : Dev Cert.ScatterRef.nD → PrngReg), Pre_Scatter m →
    (∀ c : Dev Cert.Scatter.nD,
      m ((c.tc : Thread Cert.Scatter.nD Cert.Scatter.τ).loc Cert.Scatter.main_arg0) = Layout.block ⟨3, ![4, 7536, 1024]⟩ ⟨3, ![32, 7536, 1024]⟩ 0 8 c (m' (((0 : Dev Cert.ScatterRef.nD).tc : Thread Cert.ScatterRef.nD Cert.ScatterRef.τ).loc Cert.ScatterRef.main_arg0))) →
    ∃ (v0 : Buf (Elt Bits) (((0 : Dev Cert.ScatterRef.nD).tc : Thread Cert.ScatterRef.nD Cert.ScatterRef.τ).loc Cert.ScatterRef.main_v13)),
      θ_run (Cert.Scatter.defs (F := Bits)) (onTc (τ := Cert.Scatter.τ) (Cert.Scatter.main (F := Bits))) ⟨m, fun _ => 0, g⟩ (fun r => ∀ c : Dev Cert.Scatter.nD,
          r.2.mem ((c.tc : Thread Cert.Scatter.nD Cert.Scatter.τ).loc Cert.Scatter.main_v2) = Layout.block ⟨2, ![7536, 1024]⟩ ⟨2, ![60288, 1024]⟩ 0 8 c v0
          ∧ r.2.mem ((c.tc : Thread Cert.Scatter.nD Cert.Scatter.τ).loc Cert.Scatter.main_arg0) = m ((c.tc : Thread Cert.Scatter.nD Cert.Scatter.τ).loc Cert.Scatter.main_arg0))
      ∧ θ_run (Cert.ScatterRef.defs (F := Bits)) (onTc (τ := Cert.ScatterRef.τ) (Cert.ScatterRef.main (F := Bits))) ⟨m', fun _ => 0, g'⟩ (fun r =>
          r.2.mem (((0 : Dev Cert.ScatterRef.nD).tc : Thread Cert.ScatterRef.nD Cert.ScatterRef.τ).loc Cert.ScatterRef.main_v13) = v0
          ∧ r.2.mem (((0 : Dev Cert.ScatterRef.nD).tc : Thread Cert.ScatterRef.nD Cert.ScatterRef.τ).loc Cert.ScatterRef.main_arg0) = m' (((0 : Dev Cert.ScatterRef.nD).tc : Thread Cert.ScatterRef.nD Cert.ScatterRef.τ).loc Cert.ScatterRef.main_arg0))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)) (v3 : (c : Dev Cert.LossIdeal.nD) → Buf (Elt Ideal) ((c.tc : Thread Cert.LossIdeal.nD Cert.LossIdeal.τ).loc Cert.LossIdeal.main_v0_3)) (v4 : (c : Dev Cert.LossIdeal.nD) → Buf (Elt Ideal) ((c.tc : Thread Cert.LossIdeal.nD Cert.LossIdeal.τ).loc Cert.LossIdeal.main_v0_4)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_v0_3) = v3 c
          ∧ r.2.mem ((c.tc : Thread Cert.LossIdeal.nD Cert.LossIdeal.τ).loc Cert.LossIdeal.main_v0_4) = v4 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v64) = v0 c
          ∧ r.2.mem ((c.tc : Thread Cert.LossRefIdeal.nD Cert.LossRefIdeal.τ).loc Cert.LossRefIdeal.main_v63) = v1 c
          ∧ r.2.mem ((c.tc : Thread Cert.LossRefIdeal.nD Cert.LossRefIdeal.τ).loc Cert.LossRefIdeal.main_v65) = v2 c
          ∧ r.2.mem ((c.tc : Thread Cert.LossRefIdeal.nD Cert.LossRefIdeal.τ).loc Cert.LossRefIdeal.main_v62) = v3 c
          ∧ r.2.mem ((c.tc : Thread Cert.LossRefIdeal.nD Cert.LossRefIdeal.τ).loc Cert.LossRefIdeal.main_v39) = v4 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4))

def preserves_GradX_GradXIdeal : Prop :=
  True

def algebraic_GradXIdeal_GradXRefIdeal [hGradXIdeal : Cert.GradXIdeal.Facts] [hGradXRefIdeal : Cert.GradXRefIdeal.Facts] : Prop :=
  ∀ (m : (ℓ : Loc Cert.GradXIdeal.nD Cert.GradXIdeal.τ Cert.GradXIdeal.sig) → Buf (Elt Ideal) ℓ) (g : Dev Cert.GradXIdeal.nD → PrngReg)
    (m' : (ℓ : Loc Cert.GradXRefIdeal.nD Cert.GradXRefIdeal.τ Cert.GradXRefIdeal.sig) → Buf (Elt Ideal) ℓ) (g' : Dev Cert.GradXRefIdeal.nD → PrngReg), Pre_GradXIdeal m →
    (∀ c : Dev Cert.GradXIdeal.nD,
      m' ((c.tc : Thread Cert.GradXRefIdeal.nD Cert.GradXRefIdeal.τ).loc Cert.GradXRefIdeal.main_arg0) = m ((c.tc : Thread Cert.GradXIdeal.nD Cert.GradXIdeal.τ).loc Cert.GradXIdeal.main_arg0)
      ∧ m' ((c.tc : Thread Cert.GradXRefIdeal.nD Cert.GradXRefIdeal.τ).loc Cert.GradXRefIdeal.main_arg1) = m ((c.tc : Thread Cert.GradXIdeal.nD Cert.GradXIdeal.τ).loc Cert.GradXIdeal.main_arg1)
      ∧ m' ((c.tc : Thread Cert.GradXRefIdeal.nD Cert.GradXRefIdeal.τ).loc Cert.GradXRefIdeal.main_arg2) = m ((c.tc : Thread Cert.GradXIdeal.nD Cert.GradXIdeal.τ).loc Cert.GradXIdeal.main_arg2)
      ∧ m' ((c.tc : Thread Cert.GradXRefIdeal.nD Cert.GradXRefIdeal.τ).loc Cert.GradXRefIdeal.main_arg3) = m ((c.tc : Thread Cert.GradXIdeal.nD Cert.GradXIdeal.τ).loc Cert.GradXIdeal.main_arg3)
      ∧ m' ((c.tc : Thread Cert.GradXRefIdeal.nD Cert.GradXRefIdeal.τ).loc Cert.GradXRefIdeal.main_arg4) = m ((c.tc : Thread Cert.GradXIdeal.nD Cert.GradXIdeal.τ).loc Cert.GradXIdeal.main_arg4)) →
    ∃ (v0 : (c : Dev Cert.GradXIdeal.nD) → Buf (Elt Ideal) ((c.tc : Thread Cert.GradXIdeal.nD Cert.GradXIdeal.τ).loc Cert.GradXIdeal.main_v0_0)) (v1 : (c : Dev Cert.GradXIdeal.nD) → Buf (Elt Ideal) ((c.tc : Thread Cert.GradXIdeal.nD Cert.GradXIdeal.τ).loc Cert.GradXIdeal.main_v0_1)) (v2 : (c : Dev Cert.GradXIdeal.nD) → Buf (Elt Ideal) ((c.tc : Thread Cert.GradXIdeal.nD Cert.GradXIdeal.τ).loc Cert.GradXIdeal.main_v0_2)) (v3 : (c : Dev Cert.GradXIdeal.nD) → Buf (Elt Ideal) ((c.tc : Thread Cert.GradXIdeal.nD Cert.GradXIdeal.τ).loc Cert.GradXIdeal.main_v0_3)),
      θ_run (Cert.GradXIdeal.defs (F := Ideal)) (onTc (τ := Cert.GradXIdeal.τ) (Cert.GradXIdeal.main (F := Ideal))) ⟨m, fun _ => 0, g⟩ (fun r => ∀ c : Dev Cert.GradXIdeal.nD,
          r.2.mem ((c.tc : Thread Cert.GradXIdeal.nD Cert.GradXIdeal.τ).loc Cert.GradXIdeal.main_v0_0) = v0 c
          ∧ r.2.mem ((c.tc : Thread Cert.GradXIdeal.nD Cert.GradXIdeal.τ).loc Cert.GradXIdeal.main_v0_1) = v1 c
          ∧ r.2.mem ((c.tc : Thread Cert.GradXIdeal.nD Cert.GradXIdeal.τ).loc Cert.GradXIdeal.main_v0_2) = v2 c
          ∧ r.2.mem ((c.tc : Thread Cert.GradXIdeal.nD Cert.GradXIdeal.τ).loc Cert.GradXIdeal.main_v0_3) = v3 c
          ∧ r.2.mem ((c.tc : Thread Cert.GradXIdeal.nD Cert.GradXIdeal.τ).loc Cert.GradXIdeal.main_arg0) = m ((c.tc : Thread Cert.GradXIdeal.nD Cert.GradXIdeal.τ).loc Cert.GradXIdeal.main_arg0)
          ∧ r.2.mem ((c.tc : Thread Cert.GradXIdeal.nD Cert.GradXIdeal.τ).loc Cert.GradXIdeal.main_arg1) = m ((c.tc : Thread Cert.GradXIdeal.nD Cert.GradXIdeal.τ).loc Cert.GradXIdeal.main_arg1)
          ∧ r.2.mem ((c.tc : Thread Cert.GradXIdeal.nD Cert.GradXIdeal.τ).loc Cert.GradXIdeal.main_arg2) = m ((c.tc : Thread Cert.GradXIdeal.nD Cert.GradXIdeal.τ).loc Cert.GradXIdeal.main_arg2)
          ∧ r.2.mem ((c.tc : Thread Cert.GradXIdeal.nD Cert.GradXIdeal.τ).loc Cert.GradXIdeal.main_arg3) = m ((c.tc : Thread Cert.GradXIdeal.nD Cert.GradXIdeal.τ).loc Cert.GradXIdeal.main_arg3)
          ∧ r.2.mem ((c.tc : Thread Cert.GradXIdeal.nD Cert.GradXIdeal.τ).loc Cert.GradXIdeal.main_arg4) = m ((c.tc : Thread Cert.GradXIdeal.nD Cert.GradXIdeal.τ).loc Cert.GradXIdeal.main_arg4))
      ∧ θ_run (Cert.GradXRefIdeal.defs (F := Ideal)) (onTc (τ := Cert.GradXRefIdeal.τ) (Cert.GradXRefIdeal.main (F := Ideal))) ⟨m', fun _ => 0, g'⟩ (fun r => ∀ c : Dev Cert.GradXRefIdeal.nD,
          r.2.mem ((c.tc : Thread Cert.GradXRefIdeal.nD Cert.GradXRefIdeal.τ).loc Cert.GradXRefIdeal.main_v64) = v0 c
          ∧ r.2.mem ((c.tc : Thread Cert.GradXRefIdeal.nD Cert.GradXRefIdeal.τ).loc Cert.GradXRefIdeal.main_v45) = v1 c
          ∧ r.2.mem ((c.tc : Thread Cert.GradXRefIdeal.nD Cert.GradXRefIdeal.τ).loc Cert.GradXRefIdeal.main_v42) = v2 c
          ∧ r.2.mem ((c.tc : Thread Cert.GradXRefIdeal.nD Cert.GradXRefIdeal.τ).loc Cert.GradXRefIdeal.main_v36) = v3 c
          ∧ r.2.mem ((c.tc : Thread Cert.GradXRefIdeal.nD Cert.GradXRefIdeal.τ).loc Cert.GradXRefIdeal.main_arg0) = m' ((c.tc : Thread Cert.GradXRefIdeal.nD Cert.GradXRefIdeal.τ).loc Cert.GradXRefIdeal.main_arg0)
          ∧ r.2.mem ((c.tc : Thread Cert.GradXRefIdeal.nD Cert.GradXRefIdeal.τ).loc Cert.GradXRefIdeal.main_arg1) = m' ((c.tc : Thread Cert.GradXRefIdeal.nD Cert.GradXRefIdeal.τ).loc Cert.GradXRefIdeal.main_arg1)
          ∧ r.2.mem ((c.tc : Thread Cert.GradXRefIdeal.nD Cert.GradXRefIdeal.τ).loc Cert.GradXRefIdeal.main_arg2) = m' ((c.tc : Thread Cert.GradXRefIdeal.nD Cert.GradXRefIdeal.τ).loc Cert.GradXRefIdeal.main_arg2)
          ∧ r.2.mem ((c.tc : Thread Cert.GradXRefIdeal.nD Cert.GradXRefIdeal.τ).loc Cert.GradXRefIdeal.main_arg3) = m' ((c.tc : Thread Cert.GradXRefIdeal.nD Cert.GradXRefIdeal.τ).loc Cert.GradXRefIdeal.main_arg3)
          ∧ r.2.mem ((c.tc : Thread Cert.GradXRefIdeal.nD Cert.GradXRefIdeal.τ).loc Cert.GradXRefIdeal.main_arg4) = m' ((c.tc : Thread Cert.GradXRefIdeal.nD Cert.GradXRefIdeal.τ).loc Cert.GradXRefIdeal.main_arg4))

def preserves_Prenorm_PrenormIdeal : Prop :=
  True

def algebraic_PrenormIdeal_PrenormRefIdeal [hPrenormIdeal : Cert.PrenormIdeal.Facts] [hPrenormRefIdeal : Cert.PrenormRefIdeal.Facts] : Prop :=
  ∀ (m : (ℓ : Loc Cert.PrenormIdeal.nD Cert.PrenormIdeal.τ Cert.PrenormIdeal.sig) → Buf (Elt Ideal) ℓ) (g : Dev Cert.PrenormIdeal.nD → PrngReg)
    (m' : (ℓ : Loc Cert.PrenormRefIdeal.nD Cert.PrenormRefIdeal.τ Cert.PrenormRefIdeal.sig) → Buf (Elt Ideal) ℓ) (g' : Dev Cert.PrenormRefIdeal.nD → PrngReg), Pre_PrenormIdeal m →
    (∀ c : Dev Cert.PrenormIdeal.nD,
      m' ((c.tc : Thread Cert.PrenormRefIdeal.nD Cert.PrenormRefIdeal.τ).loc Cert.PrenormRefIdeal.main_arg0) = m ((c.tc : Thread Cert.PrenormIdeal.nD Cert.PrenormIdeal.τ).loc Cert.PrenormIdeal.main_arg0)
      ∧ m' ((c.tc : Thread Cert.PrenormRefIdeal.nD Cert.PrenormRefIdeal.τ).loc Cert.PrenormRefIdeal.main_arg1) = m ((c.tc : Thread Cert.PrenormIdeal.nD Cert.PrenormIdeal.τ).loc Cert.PrenormIdeal.main_arg1)
      ∧ m' ((c.tc : Thread Cert.PrenormRefIdeal.nD Cert.PrenormRefIdeal.τ).loc Cert.PrenormRefIdeal.main_arg2) = m ((c.tc : Thread Cert.PrenormIdeal.nD Cert.PrenormIdeal.τ).loc Cert.PrenormIdeal.main_arg2)) →
    ∃ (v0 : (c : Dev Cert.PrenormIdeal.nD) → Buf (Elt Ideal) ((c.tc : Thread Cert.PrenormIdeal.nD Cert.PrenormIdeal.τ).loc Cert.PrenormIdeal.main_v0)),
      θ_run (Cert.PrenormIdeal.defs (F := Ideal)) (onTc (τ := Cert.PrenormIdeal.τ) (Cert.PrenormIdeal.main (F := Ideal))) ⟨m, fun _ => 0, g⟩ (fun r => ∀ c : Dev Cert.PrenormIdeal.nD,
          r.2.mem ((c.tc : Thread Cert.PrenormIdeal.nD Cert.PrenormIdeal.τ).loc Cert.PrenormIdeal.main_v0) = v0 c
          ∧ r.2.mem ((c.tc : Thread Cert.PrenormIdeal.nD Cert.PrenormIdeal.τ).loc Cert.PrenormIdeal.main_arg0) = m ((c.tc : Thread Cert.PrenormIdeal.nD Cert.PrenormIdeal.τ).loc Cert.PrenormIdeal.main_arg0)
          ∧ r.2.mem ((c.tc : Thread Cert.PrenormIdeal.nD Cert.PrenormIdeal.τ).loc Cert.PrenormIdeal.main_arg1) = m ((c.tc : Thread Cert.PrenormIdeal.nD Cert.PrenormIdeal.τ).loc Cert.PrenormIdeal.main_arg1)
          ∧ r.2.mem ((c.tc : Thread Cert.PrenormIdeal.nD Cert.PrenormIdeal.τ).loc Cert.PrenormIdeal.main_arg2) = m ((c.tc : Thread Cert.PrenormIdeal.nD Cert.PrenormIdeal.τ).loc Cert.PrenormIdeal.main_arg2))
      ∧ θ_run (Cert.PrenormRefIdeal.defs (F := Ideal)) (onTc (τ := Cert.PrenormRefIdeal.τ) (Cert.PrenormRefIdeal.main (F := Ideal))) ⟨m', fun _ => 0, g'⟩ (fun r => ∀ c : Dev Cert.PrenormRefIdeal.nD,
          r.2.mem ((c.tc : Thread Cert.PrenormRefIdeal.nD Cert.PrenormRefIdeal.τ).loc Cert.PrenormRefIdeal.main_v28) = v0 c
          ∧ r.2.mem ((c.tc : Thread Cert.PrenormRefIdeal.nD Cert.PrenormRefIdeal.τ).loc Cert.PrenormRefIdeal.main_arg0) = m' ((c.tc : Thread Cert.PrenormRefIdeal.nD Cert.PrenormRefIdeal.τ).loc Cert.PrenormRefIdeal.main_arg0)
          ∧ r.2.mem ((c.tc : Thread Cert.PrenormRefIdeal.nD Cert.PrenormRefIdeal.τ).loc Cert.PrenormRefIdeal.main_arg1) = m' ((c.tc : Thread Cert.PrenormRefIdeal.nD Cert.PrenormRefIdeal.τ).loc Cert.PrenormRefIdeal.main_arg1)
          ∧ r.2.mem ((c.tc : Thread Cert.PrenormRefIdeal.nD Cert.PrenormRefIdeal.τ).loc Cert.PrenormRefIdeal.main_arg2) = m' ((c.tc : Thread Cert.PrenormRefIdeal.nD Cert.PrenormRefIdeal.τ).loc Cert.PrenormRefIdeal.main_arg2))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v0) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_Norm2_Norm2Ideal : Prop :=
  True

def algebraic_Norm2Ideal_Norm2RefIdeal [hNorm2Ideal : Cert.Norm2Ideal.Facts] [hNorm2RefIdeal : Cert.Norm2RefIdeal.Facts] : Prop :=
  ∀ (m : (ℓ : Loc Cert.Norm2Ideal.nD Cert.Norm2Ideal.τ Cert.Norm2Ideal.sig) → Buf (Elt Ideal) ℓ) (g : Dev Cert.Norm2Ideal.nD → PrngReg)
    (m' : (ℓ : Loc Cert.Norm2RefIdeal.nD Cert.Norm2RefIdeal.τ Cert.Norm2RefIdeal.sig) → Buf (Elt Ideal) ℓ) (g' : Dev Cert.Norm2RefIdeal.nD → PrngReg), Pre_Norm2Ideal m →
    (∀ c : Dev Cert.Norm2Ideal.nD,
      m' ((c.tc : Thread Cert.Norm2RefIdeal.nD Cert.Norm2RefIdeal.τ).loc Cert.Norm2RefIdeal.main_arg0) = m ((c.tc : Thread Cert.Norm2Ideal.nD Cert.Norm2Ideal.τ).loc Cert.Norm2Ideal.main_arg0)
      ∧ m' ((c.tc : Thread Cert.Norm2RefIdeal.nD Cert.Norm2RefIdeal.τ).loc Cert.Norm2RefIdeal.main_arg1) = m ((c.tc : Thread Cert.Norm2Ideal.nD Cert.Norm2Ideal.τ).loc Cert.Norm2Ideal.main_arg1)
      ∧ m' ((c.tc : Thread Cert.Norm2RefIdeal.nD Cert.Norm2RefIdeal.τ).loc Cert.Norm2RefIdeal.main_arg2) = m ((c.tc : Thread Cert.Norm2Ideal.nD Cert.Norm2Ideal.τ).loc Cert.Norm2Ideal.main_arg2)
      ∧ m' ((c.tc : Thread Cert.Norm2RefIdeal.nD Cert.Norm2RefIdeal.τ).loc Cert.Norm2RefIdeal.main_arg3) = m ((c.tc : Thread Cert.Norm2Ideal.nD Cert.Norm2Ideal.τ).loc Cert.Norm2Ideal.main_arg3)) →
    ∃ (v0 : (c : Dev Cert.Norm2Ideal.nD) → Buf (Elt Ideal) ((c.tc : Thread Cert.Norm2Ideal.nD Cert.Norm2Ideal.τ).loc Cert.Norm2Ideal.main_v0_0)) (v1 : (c : Dev Cert.Norm2Ideal.nD) → Buf (Elt Ideal) ((c.tc : Thread Cert.Norm2Ideal.nD Cert.Norm2Ideal.τ).loc Cert.Norm2Ideal.main_v0_1)),
      θ_run (Cert.Norm2Ideal.defs (F := Ideal)) (onTc (τ := Cert.Norm2Ideal.τ) (Cert.Norm2Ideal.main (F := Ideal))) ⟨m, fun _ => 0, g⟩ (fun r => ∀ c : Dev Cert.Norm2Ideal.nD,
          r.2.mem ((c.tc : Thread Cert.Norm2Ideal.nD Cert.Norm2Ideal.τ).loc Cert.Norm2Ideal.main_v0_0) = v0 c
          ∧ r.2.mem ((c.tc : Thread Cert.Norm2Ideal.nD Cert.Norm2Ideal.τ).loc Cert.Norm2Ideal.main_v0_1) = v1 c
          ∧ r.2.mem ((c.tc : Thread Cert.Norm2Ideal.nD Cert.Norm2Ideal.τ).loc Cert.Norm2Ideal.main_arg0) = m ((c.tc : Thread Cert.Norm2Ideal.nD Cert.Norm2Ideal.τ).loc Cert.Norm2Ideal.main_arg0)
          ∧ r.2.mem ((c.tc : Thread Cert.Norm2Ideal.nD Cert.Norm2Ideal.τ).loc Cert.Norm2Ideal.main_arg1) = m ((c.tc : Thread Cert.Norm2Ideal.nD Cert.Norm2Ideal.τ).loc Cert.Norm2Ideal.main_arg1)
          ∧ r.2.mem ((c.tc : Thread Cert.Norm2Ideal.nD Cert.Norm2Ideal.τ).loc Cert.Norm2Ideal.main_arg2) = m ((c.tc : Thread Cert.Norm2Ideal.nD Cert.Norm2Ideal.τ).loc Cert.Norm2Ideal.main_arg2)
          ∧ r.2.mem ((c.tc : Thread Cert.Norm2Ideal.nD Cert.Norm2Ideal.τ).loc Cert.Norm2Ideal.main_arg3) = m ((c.tc : Thread Cert.Norm2Ideal.nD Cert.Norm2Ideal.τ).loc Cert.Norm2Ideal.main_arg3))
      ∧ θ_run (Cert.Norm2RefIdeal.defs (F := Ideal)) (onTc (τ := Cert.Norm2RefIdeal.τ) (Cert.Norm2RefIdeal.main (F := Ideal))) ⟨m', fun _ => 0, g'⟩ (fun r => ∀ c : Dev Cert.Norm2RefIdeal.nD,
          r.2.mem ((c.tc : Thread Cert.Norm2RefIdeal.nD Cert.Norm2RefIdeal.τ).loc Cert.Norm2RefIdeal.main_v6) = v0 c
          ∧ r.2.mem ((c.tc : Thread Cert.Norm2RefIdeal.nD Cert.Norm2RefIdeal.τ).loc Cert.Norm2RefIdeal.main_v27) = v1 c
          ∧ r.2.mem ((c.tc : Thread Cert.Norm2RefIdeal.nD Cert.Norm2RefIdeal.τ).loc Cert.Norm2RefIdeal.main_arg0) = m' ((c.tc : Thread Cert.Norm2RefIdeal.nD Cert.Norm2RefIdeal.τ).loc Cert.Norm2RefIdeal.main_arg0)
          ∧ r.2.mem ((c.tc : Thread Cert.Norm2RefIdeal.nD Cert.Norm2RefIdeal.τ).loc Cert.Norm2RefIdeal.main_arg1) = m' ((c.tc : Thread Cert.Norm2RefIdeal.nD Cert.Norm2RefIdeal.τ).loc Cert.Norm2RefIdeal.main_arg1)
          ∧ r.2.mem ((c.tc : Thread Cert.Norm2RefIdeal.nD Cert.Norm2RefIdeal.τ).loc Cert.Norm2RefIdeal.main_arg2) = m' ((c.tc : Thread Cert.Norm2RefIdeal.nD Cert.Norm2RefIdeal.τ).loc Cert.Norm2RefIdeal.main_arg2)
          ∧ r.2.mem ((c.tc : Thread Cert.Norm2RefIdeal.nD Cert.Norm2RefIdeal.τ).loc Cert.Norm2RefIdeal.main_arg3) = m' ((c.tc : Thread Cert.Norm2RefIdeal.nD Cert.Norm2RefIdeal.τ).loc Cert.Norm2RefIdeal.main_arg3))

def preserves_FfnIn_FfnInIdeal : Prop :=
  True

def algebraic_FfnInIdeal_FfnInRefIdeal [hFfnInIdeal : Cert.FfnInIdeal.Facts] [hFfnInRefIdeal : Cert.FfnInRefIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)) →
    ∃ (v0 : (c : Dev Cert.FfnInIdeal.nD) → Buf (Elt Ideal) ((c.tc : Thread Cert.FfnInIdeal.nD Cert.FfnInIdeal.τ).loc Cert.FfnInIdeal.main_v0)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v0) = v0 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v0) = v0 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1))

def preserves_Swiglu_SwigluIdeal : Prop :=
  True

def algebraic_SwigluIdeal_SwigluRefIdeal [hSwigluIdeal : Cert.SwigluIdeal.Facts] [hSwigluRefIdeal : Cert.SwigluRefIdeal.Facts] : Prop :=
  ∀ (m : (ℓ : Loc Cert.SwigluIdeal.nD Cert.SwigluIdeal.τ Cert.SwigluIdeal.sig) → Buf (Elt Ideal) ℓ) (g : Dev Cert.SwigluIdeal.nD → PrngReg)
    (m' : (ℓ : Loc Cert.SwigluRefIdeal.nD Cert.SwigluRefIdeal.τ Cert.SwigluRefIdeal.sig) → Buf (Elt Ideal) ℓ) (g' : Dev Cert.SwigluRefIdeal.nD → PrngReg), Pre_SwigluIdeal m →
    (∀ c : Dev Cert.SwigluIdeal.nD,
      m' ((c.tc : Thread Cert.SwigluRefIdeal.nD Cert.SwigluRefIdeal.τ).loc Cert.SwigluRefIdeal.main_arg0) = m ((c.tc : Thread Cert.SwigluIdeal.nD Cert.SwigluIdeal.τ).loc Cert.SwigluIdeal.main_arg0)) →
    ∃ (v0 : (c : Dev Cert.SwigluIdeal.nD) → Buf (Elt Ideal) ((c.tc : Thread Cert.SwigluIdeal.nD Cert.SwigluIdeal.τ).loc Cert.SwigluIdeal.main_v0)),
      θ_run (Cert.SwigluIdeal.defs (F := Ideal)) (onTc (τ := Cert.SwigluIdeal.τ) (Cert.SwigluIdeal.main (F := Ideal))) ⟨m, fun _ => 0, g⟩ (fun r => ∀ c : Dev Cert.SwigluIdeal.nD,
          r.2.mem ((c.tc : Thread Cert.SwigluIdeal.nD Cert.SwigluIdeal.τ).loc Cert.SwigluIdeal.main_v0) = v0 c
          ∧ r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0))
      ∧ θ_run (Cert.SwigluRefIdeal.defs (F := Ideal)) (onTc (τ := Cert.SwigluRefIdeal.τ) (Cert.SwigluRefIdeal.main (F := Ideal))) ⟨m', fun _ => 0, g'⟩ (fun r => ∀ c : Dev Cert.SwigluRefIdeal.nD,
          r.2.mem ((c.tc : Thread Cert.SwigluRefIdeal.nD Cert.SwigluRefIdeal.τ).loc Cert.SwigluRefIdeal.main_v10) = v0 c
          ∧ r.2.mem ((c.tc : Thread Cert.SwigluRefIdeal.nD Cert.SwigluRefIdeal.τ).loc Cert.SwigluRefIdeal.main_arg0) = m' ((c.tc : Thread Cert.SwigluRefIdeal.nD Cert.SwigluRefIdeal.τ).loc Cert.SwigluRefIdeal.main_arg0))

def preserves_FfnOut_FfnOutIdeal : Prop :=
  True

def algebraic_FfnOutIdeal_FfnOutRefIdeal [hFfnOutIdeal : Cert.FfnOutIdeal.Facts] [hFfnOutRefIdeal : Cert.FfnOutRefIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.FfnOutRefIdeal.nD Cert.FfnOutRefIdeal.τ Cert.FfnOutRefIdeal.sig) → Buf (Elt Ideal) ℓ) (g' : Dev Cert.FfnOutRefIdeal.nD → PrngReg), Pre_FfnOutIdeal m →
    (∀ c : Dev Cert.FfnOutIdeal.nD,
      m' ((c.tc : Thread Cert.FfnOutRefIdeal.nD Cert.FfnOutRefIdeal.τ).loc Cert.FfnOutRefIdeal.main_arg0) = m ((c.tc : Thread Cert.FfnOutIdeal.nD Cert.FfnOutIdeal.τ).loc Cert.FfnOutIdeal.main_arg0)
      ∧ m' ((c.tc : Thread Cert.FfnOutRefIdeal.nD Cert.FfnOutRefIdeal.τ).loc Cert.FfnOutRefIdeal.main_arg1) = m ((c.tc : Thread Cert.FfnOutIdeal.nD Cert.FfnOutIdeal.τ).loc Cert.FfnOutIdeal.main_arg1)) →
    ∃ (v0 : (c : Dev Cert.FfnOutIdeal.nD) → Buf (Elt Ideal) ((c.tc : Thread Cert.FfnOutIdeal.nD Cert.FfnOutIdeal.τ).loc Cert.FfnOutIdeal.main_v0)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v0) = v0 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1))
      ∧ θ_run (Cert.FfnOutRefIdeal.defs (F := Ideal)) (onTc (τ := Cert.FfnOutRefIdeal.τ) (Cert.FfnOutRefIdeal.main (F := Ideal))) ⟨m', fun _ => 0, g'⟩ (fun r => ∀ c : Dev Cert.FfnOutRefIdeal.nD,
          r.2.mem ((c.tc : Thread Cert.FfnOutRefIdeal.nD Cert.FfnOutRefIdeal.τ).loc Cert.FfnOutRefIdeal.main_v0) = v0 c
          ∧ r.2.mem ((c.tc : Thread Cert.FfnOutRefIdeal.nD Cert.FfnOutRefIdeal.τ).loc Cert.FfnOutRefIdeal.main_arg0) = m' ((c.tc : Thread Cert.FfnOutRefIdeal.nD Cert.FfnOutRefIdeal.τ).loc Cert.FfnOutRefIdeal.main_arg0)
          ∧ r.2.mem ((c.tc : Thread Cert.FfnOutRefIdeal.nD Cert.FfnOutRefIdeal.τ).loc Cert.FfnOutRefIdeal.main_arg1) = m' ((c.tc : Thread Cert.FfnOutRefIdeal.nD Cert.FfnOutRefIdeal.τ).loc Cert.FfnOutRefIdeal.main_arg1))

def preserves_GradWIn_GradWInIdeal : Prop :=
  True

def algebraic_GradWInIdeal_GradWInRefIdeal [hGradWInIdeal : Cert.GradWInIdeal.Facts] [hGradWInRefIdeal : Cert.GradWInRefIdeal.Facts] : Prop :=
  ∀ (m : (ℓ : Loc Cert.GradWInIdeal.nD Cert.GradWInIdeal.τ Cert.GradWInIdeal.sig) → Buf (Elt Ideal) ℓ) (g : Dev Cert.GradWInIdeal.nD → PrngReg)
    (m' : (ℓ : Loc Cert.GradWInRefIdeal.nD Cert.GradWInRefIdeal.τ Cert.GradWInRefIdeal.sig) → Buf (Elt Ideal) ℓ) (g' : Dev Cert.GradWInRefIdeal.nD → PrngReg), Pre_GradWInIdeal m →
    (∀ c : Dev Cert.GradWInIdeal.nD,
      m' ((c.tc : Thread Cert.GradWInRefIdeal.nD Cert.GradWInRefIdeal.τ).loc Cert.GradWInRefIdeal.main_arg0) = m ((c.tc : Thread Cert.GradWInIdeal.nD Cert.GradWInIdeal.τ).loc Cert.GradWInIdeal.main_arg0)
      ∧ m' ((c.tc : Thread Cert.GradWInRefIdeal.nD Cert.GradWInRefIdeal.τ).loc Cert.GradWInRefIdeal.main_arg1) = m ((c.tc : Thread Cert.GradWInIdeal.nD Cert.GradWInIdeal.τ).loc Cert.GradWInIdeal.main_arg1)) →
    ∃ (v0 : (c : Dev Cert.GradWInIdeal.nD) → Buf (Elt Ideal) ((c.tc : Thread Cert.GradWInIdeal.nD Cert.GradWInIdeal.τ).loc Cert.GradWInIdeal.main_v0)),
      θ_run (Cert.GradWInIdeal.defs (F := Ideal)) (onTc (τ := Cert.GradWInIdeal.τ) (Cert.GradWInIdeal.main (F := Ideal))) ⟨m, fun _ => 0, g⟩ (fun r => ∀ c : Dev Cert.GradWInIdeal.nD,
          r.2.mem ((c.tc : Thread Cert.GradWInIdeal.nD Cert.GradWInIdeal.τ).loc Cert.GradWInIdeal.main_v0) = v0 c
          ∧ r.2.mem ((c.tc : Thread Cert.GradWInIdeal.nD Cert.GradWInIdeal.τ).loc Cert.GradWInIdeal.main_arg0) = m ((c.tc : Thread Cert.GradWInIdeal.nD Cert.GradWInIdeal.τ).loc Cert.GradWInIdeal.main_arg0)
          ∧ r.2.mem ((c.tc : Thread Cert.GradWInIdeal.nD Cert.GradWInIdeal.τ).loc Cert.GradWInIdeal.main_arg1) = m ((c.tc : Thread Cert.GradWInIdeal.nD Cert.GradWInIdeal.τ).loc Cert.GradWInIdeal.main_arg1))
      ∧ θ_run (Cert.GradWInRefIdeal.defs (F := Ideal)) (onTc (τ := Cert.GradWInRefIdeal.τ) (Cert.GradWInRefIdeal.main (F := Ideal))) ⟨m', fun _ => 0, g'⟩ (fun r => ∀ c : Dev Cert.GradWInRefIdeal.nD,
          r.2.mem ((c.tc : Thread Cert.GradWInRefIdeal.nD Cert.GradWInRefIdeal.τ).loc Cert.GradWInRefIdeal.main_v1) = v0 c
          ∧ r.2.mem ((c.tc : Thread Cert.GradWInRefIdeal.nD Cert.GradWInRefIdeal.τ).loc Cert.GradWInRefIdeal.main_arg0) = m' ((c.tc : Thread Cert.GradWInRefIdeal.nD Cert.GradWInRefIdeal.τ).loc Cert.GradWInRefIdeal.main_arg0)
          ∧ r.2.mem ((c.tc : Thread Cert.GradWInRefIdeal.nD Cert.GradWInRefIdeal.τ).loc Cert.GradWInRefIdeal.main_arg1) = m' ((c.tc : Thread Cert.GradWInRefIdeal.nD Cert.GradWInRefIdeal.τ).loc Cert.GradWInRefIdeal.main_arg1))

def preserves_GradA_GradAIdeal : Prop :=
  True

def algebraic_GradAIdeal_GradARefIdeal [hGradAIdeal : Cert.GradAIdeal.Facts] [hGradARefIdeal : Cert.GradARefIdeal.Facts] : Prop :=
  ∀ (m : (ℓ : Loc Cert.GradAIdeal.nD Cert.GradAIdeal.τ Cert.GradAIdeal.sig) → Buf (Elt Ideal) ℓ) (g : Dev Cert.GradAIdeal.nD → PrngReg)
    (m' : (ℓ : Loc Cert.GradARefIdeal.nD Cert.GradARefIdeal.τ Cert.GradARefIdeal.sig) → Buf (Elt Ideal) ℓ) (g' : Dev Cert.GradARefIdeal.nD → PrngReg), Pre_GradAIdeal m →
    (∀ c : Dev Cert.GradAIdeal.nD,
      m' ((c.tc : Thread Cert.GradARefIdeal.nD Cert.GradARefIdeal.τ).loc Cert.GradARefIdeal.main_arg0) = m ((c.tc : Thread Cert.GradAIdeal.nD Cert.GradAIdeal.τ).loc Cert.GradAIdeal.main_arg0)
      ∧ m' ((c.tc : Thread Cert.GradARefIdeal.nD Cert.GradARefIdeal.τ).loc Cert.GradARefIdeal.main_arg1) = m ((c.tc : Thread Cert.GradAIdeal.nD Cert.GradAIdeal.τ).loc Cert.GradAIdeal.main_arg1)) →
    ∃ (v0 : (c : Dev Cert.GradAIdeal.nD) → Buf (Elt Ideal) ((c.tc : Thread Cert.GradAIdeal.nD Cert.GradAIdeal.τ).loc Cert.GradAIdeal.main_v0)),
      θ_run (Cert.GradAIdeal.defs (F := Ideal)) (onTc (τ := Cert.GradAIdeal.τ) (Cert.GradAIdeal.main (F := Ideal))) ⟨m, fun _ => 0, g⟩ (fun r => ∀ c : Dev Cert.GradAIdeal.nD,
          r.2.mem ((c.tc : Thread Cert.GradAIdeal.nD Cert.GradAIdeal.τ).loc Cert.GradAIdeal.main_v0) = v0 c
          ∧ r.2.mem ((c.tc : Thread Cert.GradAIdeal.nD Cert.GradAIdeal.τ).loc Cert.GradAIdeal.main_arg0) = m ((c.tc : Thread Cert.GradAIdeal.nD Cert.GradAIdeal.τ).loc Cert.GradAIdeal.main_arg0)
          ∧ r.2.mem ((c.tc : Thread Cert.GradAIdeal.nD Cert.GradAIdeal.τ).loc Cert.GradAIdeal.main_arg1) = m ((c.tc : Thread Cert.GradAIdeal.nD Cert.GradAIdeal.τ).loc Cert.GradAIdeal.main_arg1))
      ∧ θ_run (Cert.GradARefIdeal.defs (F := Ideal)) (onTc (τ := Cert.GradARefIdeal.τ) (Cert.GradARefIdeal.main (F := Ideal))) ⟨m', fun _ => 0, g'⟩ (fun r => ∀ c : Dev Cert.GradARefIdeal.nD,
          r.2.mem ((c.tc : Thread Cert.GradARefIdeal.nD Cert.GradARefIdeal.τ).loc Cert.GradARefIdeal.main_v1) = v0 c
          ∧ r.2.mem ((c.tc : Thread Cert.GradARefIdeal.nD Cert.GradARefIdeal.τ).loc Cert.GradARefIdeal.main_arg0) = m' ((c.tc : Thread Cert.GradARefIdeal.nD Cert.GradARefIdeal.τ).loc Cert.GradARefIdeal.main_arg0)
          ∧ r.2.mem ((c.tc : Thread Cert.GradARefIdeal.nD Cert.GradARefIdeal.τ).loc Cert.GradARefIdeal.main_arg1) = m' ((c.tc : Thread Cert.GradARefIdeal.nD Cert.GradARefIdeal.τ).loc Cert.GradARefIdeal.main_arg1))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v0)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v0) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v10) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v17) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2))

def preserves_MergeBwd_MergeBwdIdeal : Prop :=
  True

def algebraic_MergeBwdIdeal_MergeBwdRefIdeal [hMergeBwdIdeal : Cert.MergeBwdIdeal.Facts] [hMergeBwdRefIdeal : Cert.MergeBwdRefIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeBwdRefIdeal.nD Cert.MergeBwdRefIdeal.τ Cert.MergeBwdRefIdeal.sig) → Buf (Elt Ideal) ℓ) (g' : Dev Cert.MergeBwdRefIdeal.nD → PrngReg), Pre_MergeBwdIdeal m →
    (∀ c : Dev Cert.MergeBwdIdeal.nD,
      m' ((c.tc : Thread Cert.MergeBwdRefIdeal.nD Cert.MergeBwdRefIdeal.τ).loc Cert.MergeBwdRefIdeal.main_arg0) = m ((c.tc : Thread Cert.MergeBwdIdeal.nD Cert.MergeBwdIdeal.τ).loc Cert.MergeBwdIdeal.main_arg0)
      ∧ m' ((c.tc : Thread Cert.MergeBwdRefIdeal.nD Cert.MergeBwdRefIdeal.τ).loc Cert.MergeBwdRefIdeal.main_arg1) = m ((c.tc : Thread Cert.MergeBwdIdeal.nD Cert.MergeBwdIdeal.τ).loc Cert.MergeBwdIdeal.main_arg1)
      ∧ m' ((c.tc : Thread Cert.MergeBwdRefIdeal.nD Cert.MergeBwdRefIdeal.τ).loc Cert.MergeBwdRefIdeal.main_arg2) = m ((c.tc : Thread Cert.MergeBwdIdeal.nD Cert.MergeBwdIdeal.τ).loc Cert.MergeBwdIdeal.main_arg2)
      ∧ m' ((c.tc : Thread Cert.MergeBwdRefIdeal.nD Cert.MergeBwdRefIdeal.τ).loc Cert.MergeBwdRefIdeal.main_arg3) = m ((c.tc : Thread Cert.MergeBwdIdeal.nD Cert.MergeBwdIdeal.τ).loc Cert.MergeBwdIdeal.main_arg3)) →
    ∃ (v0 : (c : Dev Cert.MergeBwdIdeal.nD) → Buf (Elt Ideal) ((c.tc : Thread Cert.MergeBwdIdeal.nD Cert.MergeBwdIdeal.τ).loc Cert.MergeBwdIdeal.main_v0_0)) (v1 : (c : Dev Cert.MergeBwdIdeal.nD) → Buf (Elt Ideal) ((c.tc : Thread Cert.MergeBwdIdeal.nD Cert.MergeBwdIdeal.τ).loc Cert.MergeBwdIdeal.main_v0_1)) (v2 : (c : Dev Cert.MergeBwdIdeal.nD) → Buf (Elt Ideal) ((c.tc : Thread Cert.MergeBwdIdeal.nD Cert.MergeBwdIdeal.τ).loc Cert.MergeBwdIdeal.main_v0_2)) (v3 : (c : Dev Cert.MergeBwdIdeal.nD) → Buf (Elt Ideal) ((c.tc : Thread Cert.MergeBwdIdeal.nD Cert.MergeBwdIdeal.τ).loc Cert.MergeBwdIdeal.main_v0_3)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v0_0) = v0 c
          ∧ r.2.mem ((c.tc : Thread Cert.MergeBwdIdeal.nD Cert.MergeBwdIdeal.τ).loc Cert.MergeBwdIdeal.main_v0_1) = v1 c
          ∧ r.2.mem ((c.tc : Thread Cert.MergeBwdIdeal.nD Cert.MergeBwdIdeal.τ).loc Cert.MergeBwdIdeal.main_v0_2) = v2 c
          ∧ r.2.mem ((c.tc : Thread Cert.MergeBwdIdeal.nD Cert.MergeBwdIdeal.τ).loc Cert.MergeBwdIdeal.main_v0_3) = v3 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3))
      ∧ θ_run (Cert.MergeBwdRefIdeal.defs (F := Ideal)) (onTc (τ := Cert.MergeBwdRefIdeal.τ) (Cert.MergeBwdRefIdeal.main (F := Ideal))) ⟨m', fun _ => 0, g'⟩ (fun r => ∀ c : Dev Cert.MergeBwdRefIdeal.nD,
          r.2.mem ((c.tc : Thread Cert.MergeBwdRefIdeal.nD Cert.MergeBwdRefIdeal.τ).loc Cert.MergeBwdRefIdeal.main_v31) = v0 c
          ∧ r.2.mem ((c.tc : Thread Cert.MergeBwdRefIdeal.nD Cert.MergeBwdRefIdeal.τ).loc Cert.MergeBwdRefIdeal.main_v32) = v1 c
          ∧ r.2.mem ((c.tc : Thread Cert.MergeBwdRefIdeal.nD Cert.MergeBwdRefIdeal.τ).loc Cert.MergeBwdRefIdeal.main_v33) = v2 c
          ∧ r.2.mem ((c.tc : Thread Cert.MergeBwdRefIdeal.nD Cert.MergeBwdRefIdeal.τ).loc Cert.MergeBwdRefIdeal.main_v34) = v3 c
          ∧ r.2.mem ((c.tc : Thread Cert.MergeBwdRefIdeal.nD Cert.MergeBwdRefIdeal.τ).loc Cert.MergeBwdRefIdeal.main_arg0) = m' ((c.tc : Thread Cert.MergeBwdRefIdeal.nD Cert.MergeBwdRefIdeal.τ).loc Cert.MergeBwdRefIdeal.main_arg0)
          ∧ r.2.mem ((c.tc : Thread Cert.MergeBwdRefIdeal.nD Cert.MergeBwdRefIdeal.τ).loc Cert.MergeBwdRefIdeal.main_arg1) = m' ((c.tc : Thread Cert.MergeBwdRefIdeal.nD Cert.MergeBwdRefIdeal.τ).loc Cert.MergeBwdRefIdeal.main_arg1)
          ∧ r.2.mem ((c.tc : Thread Cert.MergeBwdRefIdeal.nD Cert.MergeBwdRefIdeal.τ).loc Cert.MergeBwdRefIdeal.main_arg2) = m' ((c.tc : Thread Cert.MergeBwdRefIdeal.nD Cert.MergeBwdRefIdeal.τ).loc Cert.MergeBwdRefIdeal.main_arg2)
          ∧ r.2.mem ((c.tc : Thread Cert.MergeBwdRefIdeal.nD Cert.MergeBwdRefIdeal.τ).loc Cert.MergeBwdRefIdeal.main_arg3) = m' ((c.tc : Thread Cert.MergeBwdRefIdeal.nD Cert.MergeBwdRefIdeal.τ).loc Cert.MergeBwdRefIdeal.main_arg3))

def preserves_SwigluBwd_SwigluBwdIdeal : Prop :=
  True

def algebraic_SwigluBwdIdeal_SwigluBwdRefIdeal [hSwigluBwdIdeal : Cert.SwigluBwdIdeal.Facts] [hSwigluBwdRefIdeal : Cert.SwigluBwdRefIdeal.Facts] : Prop :=
  ∀ (m : (ℓ : Loc Cert.SwigluBwdIdeal.nD Cert.SwigluBwdIdeal.τ Cert.SwigluBwdIdeal.sig) → Buf (Elt Ideal) ℓ) (g : Dev Cert.SwigluBwdIdeal.nD → PrngReg)
    (m' : (ℓ : Loc Cert.SwigluBwdRefIdeal.nD Cert.SwigluBwdRefIdeal.τ Cert.SwigluBwdRefIdeal.sig) → Buf (Elt Ideal) ℓ) (g' : Dev Cert.SwigluBwdRefIdeal.nD → PrngReg), Pre_SwigluBwdIdeal m →
    (∀ c : Dev Cert.SwigluBwdIdeal.nD,
      m' ((c.tc : Thread Cert.SwigluBwdRefIdeal.nD Cert.SwigluBwdRefIdeal.τ).loc Cert.SwigluBwdRefIdeal.main_arg0) = m ((c.tc : Thread Cert.SwigluBwdIdeal.nD Cert.SwigluBwdIdeal.τ).loc Cert.SwigluBwdIdeal.main_arg0)
      ∧ m' ((c.tc : Thread Cert.SwigluBwdRefIdeal.nD Cert.SwigluBwdRefIdeal.τ).loc Cert.SwigluBwdRefIdeal.main_arg1) = m ((c.tc : Thread Cert.SwigluBwdIdeal.nD Cert.SwigluBwdIdeal.τ).loc Cert.SwigluBwdIdeal.main_arg1)) →
    ∃ (v0 : (c : Dev Cert.SwigluBwdIdeal.nD) → Buf (Elt Ideal) ((c.tc : Thread Cert.SwigluBwdIdeal.nD Cert.SwigluBwdIdeal.τ).loc Cert.SwigluBwdIdeal.main_v0_0)) (v1 : (c : Dev Cert.SwigluBwdIdeal.nD) → Buf (Elt Ideal) ((c.tc : Thread Cert.SwigluBwdIdeal.nD Cert.SwigluBwdIdeal.τ).loc Cert.SwigluBwdIdeal.main_v0_1)),
      θ_run (Cert.SwigluBwdIdeal.defs (F := Ideal)) (onTc (τ := Cert.SwigluBwdIdeal.τ) (Cert.SwigluBwdIdeal.main (F := Ideal))) ⟨m, fun _ => 0, g⟩ (fun r => ∀ c : Dev Cert.SwigluBwdIdeal.nD,
          r.2.mem ((c.tc : Thread Cert.SwigluBwdIdeal.nD Cert.SwigluBwdIdeal.τ).loc Cert.SwigluBwdIdeal.main_v0_0) = v0 c
          ∧ r.2.mem ((c.tc : Thread Cert.SwigluBwdIdeal.nD Cert.SwigluBwdIdeal.τ).loc Cert.SwigluBwdIdeal.main_v0_1) = v1 c
          ∧ r.2.mem ((c.tc : Thread Cert.SwigluBwdIdeal.nD Cert.SwigluBwdIdeal.τ).loc Cert.SwigluBwdIdeal.main_arg0) = m ((c.tc : Thread Cert.SwigluBwdIdeal.nD Cert.SwigluBwdIdeal.τ).loc Cert.SwigluBwdIdeal.main_arg0)
          ∧ r.2.mem ((c.tc : Thread Cert.SwigluBwdIdeal.nD Cert.SwigluBwdIdeal.τ).loc Cert.SwigluBwdIdeal.main_arg1) = m ((c.tc : Thread Cert.SwigluBwdIdeal.nD Cert.SwigluBwdIdeal.τ).loc Cert.SwigluBwdIdeal.main_arg1))
      ∧ θ_run (Cert.SwigluBwdRefIdeal.defs (F := Ideal)) (onTc (τ := Cert.SwigluBwdRefIdeal.τ) (Cert.SwigluBwdRefIdeal.main (F := Ideal))) ⟨m', fun _ => 0, g'⟩ (fun r => ∀ c : Dev Cert.SwigluBwdRefIdeal.nD,
          r.2.mem ((c.tc : Thread Cert.SwigluBwdRefIdeal.nD Cert.SwigluBwdRefIdeal.τ).loc Cert.SwigluBwdRefIdeal.main_v19) = v0 c
          ∧ r.2.mem ((c.tc : Thread Cert.SwigluBwdRefIdeal.nD Cert.SwigluBwdRefIdeal.τ).loc Cert.SwigluBwdRefIdeal.main_v20) = v1 c
          ∧ r.2.mem ((c.tc : Thread Cert.SwigluBwdRefIdeal.nD Cert.SwigluBwdRefIdeal.τ).loc Cert.SwigluBwdRefIdeal.main_arg0) = m' ((c.tc : Thread Cert.SwigluBwdRefIdeal.nD Cert.SwigluBwdRefIdeal.τ).loc Cert.SwigluBwdRefIdeal.main_arg0)
          ∧ r.2.mem ((c.tc : Thread Cert.SwigluBwdRefIdeal.nD Cert.SwigluBwdRefIdeal.τ).loc Cert.SwigluBwdRefIdeal.main_arg1) = m' ((c.tc : Thread Cert.SwigluBwdRefIdeal.nD Cert.SwigluBwdRefIdeal.τ).loc Cert.SwigluBwdRefIdeal.main_arg1))

def preserves_Norm2Bwd_Norm2BwdIdeal : Prop :=
  True

def algebraic_Norm2BwdIdeal_Norm2BwdRefIdeal [hNorm2BwdIdeal : Cert.Norm2BwdIdeal.Facts] [hNorm2BwdRefIdeal : Cert.Norm2BwdRefIdeal.Facts] : Prop :=
  ∀ (m : (ℓ : Loc Cert.Norm2BwdIdeal.nD Cert.Norm2BwdIdeal.τ Cert.Norm2BwdIdeal.sig) → Buf (Elt Ideal) ℓ) (g : Dev Cert.Norm2BwdIdeal.nD → PrngReg)
    (m' : (ℓ : Loc Cert.Norm2BwdRefIdeal.nD Cert.Norm2BwdRefIdeal.τ Cert.Norm2BwdRefIdeal.sig) → Buf (Elt Ideal) ℓ) (g' : Dev Cert.Norm2BwdRefIdeal.nD → PrngReg), Pre_Norm2BwdIdeal m →
    (∀ c : Dev Cert.Norm2BwdIdeal.nD,
      m' ((c.tc : Thread Cert.Norm2BwdRefIdeal.nD Cert.Norm2BwdRefIdeal.τ).loc Cert.Norm2BwdRefIdeal.main_arg0) = m ((c.tc : Thread Cert.Norm2BwdIdeal.nD Cert.Norm2BwdIdeal.τ).loc Cert.Norm2BwdIdeal.main_arg0)
      ∧ m' ((c.tc : Thread Cert.Norm2BwdRefIdeal.nD Cert.Norm2BwdRefIdeal.τ).loc Cert.Norm2BwdRefIdeal.main_arg1) = m ((c.tc : Thread Cert.Norm2BwdIdeal.nD Cert.Norm2BwdIdeal.τ).loc Cert.Norm2BwdIdeal.main_arg1)
      ∧ m' ((c.tc : Thread Cert.Norm2BwdRefIdeal.nD Cert.Norm2BwdRefIdeal.τ).loc Cert.Norm2BwdRefIdeal.main_arg2) = m ((c.tc : Thread Cert.Norm2BwdIdeal.nD Cert.Norm2BwdIdeal.τ).loc Cert.Norm2BwdIdeal.main_arg2)
      ∧ m' ((c.tc : Thread Cert.Norm2BwdRefIdeal.nD Cert.Norm2BwdRefIdeal.τ).loc Cert.Norm2BwdRefIdeal.main_arg3) = m ((c.tc : Thread Cert.Norm2BwdIdeal.nD Cert.Norm2BwdIdeal.τ).loc Cert.Norm2BwdIdeal.main_arg3)
      ∧ m' ((c.tc : Thread Cert.Norm2BwdRefIdeal.nD Cert.Norm2BwdRefIdeal.τ).loc Cert.Norm2BwdRefIdeal.main_arg4) = m ((c.tc : Thread Cert.Norm2BwdIdeal.nD Cert.Norm2BwdIdeal.τ).loc Cert.Norm2BwdIdeal.main_arg4)
      ∧ m' ((c.tc : Thread Cert.Norm2BwdRefIdeal.nD Cert.Norm2BwdRefIdeal.τ).loc Cert.Norm2BwdRefIdeal.main_arg5) = m ((c.tc : Thread Cert.Norm2BwdIdeal.nD Cert.Norm2BwdIdeal.τ).loc Cert.Norm2BwdIdeal.main_arg5)) →
    ∃ (v0 : (c : Dev Cert.Norm2BwdIdeal.nD) → Buf (Elt Ideal) ((c.tc : Thread Cert.Norm2BwdIdeal.nD Cert.Norm2BwdIdeal.τ).loc Cert.Norm2BwdIdeal.main_v0_0)) (v1 : (c : Dev Cert.Norm2BwdIdeal.nD) → Buf (Elt Ideal) ((c.tc : Thread Cert.Norm2BwdIdeal.nD Cert.Norm2BwdIdeal.τ).loc Cert.Norm2BwdIdeal.main_v0_1)) (v2 : (c : Dev Cert.Norm2BwdIdeal.nD) → Buf (Elt Ideal) ((c.tc : Thread Cert.Norm2BwdIdeal.nD Cert.Norm2BwdIdeal.τ).loc Cert.Norm2BwdIdeal.main_v0_2)) (v3 : (c : Dev Cert.Norm2BwdIdeal.nD) → Buf (Elt Ideal) ((c.tc : Thread Cert.Norm2BwdIdeal.nD Cert.Norm2BwdIdeal.τ).loc Cert.Norm2BwdIdeal.main_v0_3)) (v4 : (c : Dev Cert.Norm2BwdIdeal.nD) → Buf (Elt Ideal) ((c.tc : Thread Cert.Norm2BwdIdeal.nD Cert.Norm2BwdIdeal.τ).loc Cert.Norm2BwdIdeal.main_v0_4)) (v5 : (c : Dev Cert.Norm2BwdIdeal.nD) → Buf (Elt Ideal) ((c.tc : Thread Cert.Norm2BwdIdeal.nD Cert.Norm2BwdIdeal.τ).loc Cert.Norm2BwdIdeal.main_v0_5)),
      θ_run (Cert.Norm2BwdIdeal.defs (F := Ideal)) (onTc (τ := Cert.Norm2BwdIdeal.τ) (Cert.Norm2BwdIdeal.main (F := Ideal))) ⟨m, fun _ => 0, g⟩ (fun r => ∀ c : Dev Cert.Norm2BwdIdeal.nD,
          r.2.mem ((c.tc : Thread Cert.Norm2BwdIdeal.nD Cert.Norm2BwdIdeal.τ).loc Cert.Norm2BwdIdeal.main_v0_0) = v0 c
          ∧ r.2.mem ((c.tc : Thread Cert.Norm2BwdIdeal.nD Cert.Norm2BwdIdeal.τ).loc Cert.Norm2BwdIdeal.main_v0_1) = v1 c
          ∧ r.2.mem ((c.tc : Thread Cert.Norm2BwdIdeal.nD Cert.Norm2BwdIdeal.τ).loc Cert.Norm2BwdIdeal.main_v0_2) = v2 c
          ∧ r.2.mem ((c.tc : Thread Cert.Norm2BwdIdeal.nD Cert.Norm2BwdIdeal.τ).loc Cert.Norm2BwdIdeal.main_v0_3) = v3 c
          ∧ r.2.mem ((c.tc : Thread Cert.Norm2BwdIdeal.nD Cert.Norm2BwdIdeal.τ).loc Cert.Norm2BwdIdeal.main_v0_4) = v4 c
          ∧ r.2.mem ((c.tc : Thread Cert.Norm2BwdIdeal.nD Cert.Norm2BwdIdeal.τ).loc Cert.Norm2BwdIdeal.main_v0_5) = v5 c
          ∧ r.2.mem ((c.tc : Thread Cert.Norm2BwdIdeal.nD Cert.Norm2BwdIdeal.τ).loc Cert.Norm2BwdIdeal.main_arg0) = m ((c.tc : Thread Cert.Norm2BwdIdeal.nD Cert.Norm2BwdIdeal.τ).loc Cert.Norm2BwdIdeal.main_arg0)
          ∧ r.2.mem ((c.tc : Thread Cert.Norm2BwdIdeal.nD Cert.Norm2BwdIdeal.τ).loc Cert.Norm2BwdIdeal.main_arg1) = m ((c.tc : Thread Cert.Norm2BwdIdeal.nD Cert.Norm2BwdIdeal.τ).loc Cert.Norm2BwdIdeal.main_arg1)
          ∧ r.2.mem ((c.tc : Thread Cert.Norm2BwdIdeal.nD Cert.Norm2BwdIdeal.τ).loc Cert.Norm2BwdIdeal.main_arg2) = m ((c.tc : Thread Cert.Norm2BwdIdeal.nD Cert.Norm2BwdIdeal.τ).loc Cert.Norm2BwdIdeal.main_arg2)
          ∧ r.2.mem ((c.tc : Thread Cert.Norm2BwdIdeal.nD Cert.Norm2BwdIdeal.τ).loc Cert.Norm2BwdIdeal.main_arg3) = m ((c.tc : Thread Cert.Norm2BwdIdeal.nD Cert.Norm2BwdIdeal.τ).loc Cert.Norm2BwdIdeal.main_arg3)
          ∧ r.2.mem ((c.tc : Thread Cert.Norm2BwdIdeal.nD Cert.Norm2BwdIdeal.τ).loc Cert.Norm2BwdIdeal.main_arg4) = m ((c.tc : Thread Cert.Norm2BwdIdeal.nD Cert.Norm2BwdIdeal.τ).loc Cert.Norm2BwdIdeal.main_arg4)
          ∧ r.2.mem ((c.tc : Thread Cert.Norm2BwdIdeal.nD Cert.Norm2BwdIdeal.τ).loc Cert.Norm2BwdIdeal.main_arg5) = m ((c.tc : Thread Cert.Norm2BwdIdeal.nD Cert.Norm2BwdIdeal.τ).loc Cert.Norm2BwdIdeal.main_arg5))
      ∧ θ_run (Cert.Norm2BwdRefIdeal.defs (F := Ideal)) (onTc (τ := Cert.Norm2BwdRefIdeal.τ) (Cert.Norm2BwdRefIdeal.main (F := Ideal))) ⟨m', fun _ => 0, g'⟩ (fun r => ∀ c : Dev Cert.Norm2BwdRefIdeal.nD,
          r.2.mem ((c.tc : Thread Cert.Norm2BwdRefIdeal.nD Cert.Norm2BwdRefIdeal.τ).loc Cert.Norm2BwdRefIdeal.main_v59) = v0 c
          ∧ r.2.mem ((c.tc : Thread Cert.Norm2BwdRefIdeal.nD Cert.Norm2BwdRefIdeal.τ).loc Cert.Norm2BwdRefIdeal.main_v67) = v1 c
          ∧ r.2.mem ((c.tc : Thread Cert.Norm2BwdRefIdeal.nD Cert.Norm2BwdRefIdeal.τ).loc Cert.Norm2BwdRefIdeal.main_v66) = v2 c
          ∧ r.2.mem ((c.tc : Thread Cert.Norm2BwdRefIdeal.nD Cert.Norm2BwdRefIdeal.τ).loc Cert.Norm2BwdRefIdeal.main_v42) = v3 c
          ∧ r.2.mem ((c.tc : Thread Cert.Norm2BwdRefIdeal.nD Cert.Norm2BwdRefIdeal.τ).loc Cert.Norm2BwdRefIdeal.main_v39) = v4 c
          ∧ r.2.mem ((c.tc : Thread Cert.Norm2BwdRefIdeal.nD Cert.Norm2BwdRefIdeal.τ).loc Cert.Norm2BwdRefIdeal.main_v33) = v5 c
          ∧ r.2.mem ((c.tc : Thread Cert.Norm2BwdRefIdeal.nD Cert.Norm2BwdRefIdeal.τ).loc Cert.Norm2BwdRefIdeal.main_arg0) = m' ((c.tc : Thread Cert.Norm2BwdRefIdeal.nD Cert.Norm2BwdRefIdeal.τ).loc Cert.Norm2BwdRefIdeal.main_arg0)
          ∧ r.2.mem ((c.tc : Thread Cert.Norm2BwdRefIdeal.nD Cert.Norm2BwdRefIdeal.τ).loc Cert.Norm2BwdRefIdeal.main_arg1) = m' ((c.tc : Thread Cert.Norm2BwdRefIdeal.nD Cert.Norm2BwdRefIdeal.τ).loc Cert.Norm2BwdRefIdeal.main_arg1)
          ∧ r.2.mem ((c.tc : Thread Cert.Norm2BwdRefIdeal.nD Cert.Norm2BwdRefIdeal.τ).loc Cert.Norm2BwdRefIdeal.main_arg2) = m' ((c.tc : Thread Cert.Norm2BwdRefIdeal.nD Cert.Norm2BwdRefIdeal.τ).loc Cert.Norm2BwdRefIdeal.main_arg2)
          ∧ r.2.mem ((c.tc : Thread Cert.Norm2BwdRefIdeal.nD Cert.Norm2BwdRefIdeal.τ).loc Cert.Norm2BwdRefIdeal.main_arg3) = m' ((c.tc : Thread Cert.Norm2BwdRefIdeal.nD Cert.Norm2BwdRefIdeal.τ).loc Cert.Norm2BwdRefIdeal.main_arg3)
          ∧ r.2.mem ((c.tc : Thread Cert.Norm2BwdRefIdeal.nD Cert.Norm2BwdRefIdeal.τ).loc Cert.Norm2BwdRefIdeal.main_arg4) = m' ((c.tc : Thread Cert.Norm2BwdRefIdeal.nD Cert.Norm2BwdRefIdeal.τ).loc Cert.Norm2BwdRefIdeal.main_arg4)
          ∧ r.2.mem ((c.tc : Thread Cert.Norm2BwdRefIdeal.nD Cert.Norm2BwdRefIdeal.τ).loc Cert.Norm2BwdRefIdeal.main_arg5) = m' ((c.tc : Thread Cert.Norm2BwdRefIdeal.nD Cert.Norm2BwdRefIdeal.τ).loc Cert.Norm2BwdRefIdeal.main_arg5))

def preserves_GradFfnOut_GradFfnOutIdeal : Prop :=
  True

def algebraic_GradFfnOutIdeal_GradFfnOutRefIdeal [hGradFfnOutIdeal : Cert.GradFfnOutIdeal.Facts] [hGradFfnOutRefIdeal : Cert.GradFfnOutRefIdeal.Facts] : Prop :=
  ∀ (m : (ℓ : Loc Cert.GradFfnOutIdeal.nD Cert.GradFfnOutIdeal.τ Cert.GradFfnOutIdeal.sig) → Buf (Elt Ideal) ℓ) (g : Dev Cert.GradFfnOutIdeal.nD → PrngReg)
    (m' : (ℓ : Loc Cert.GradFfnOutRefIdeal.nD Cert.GradFfnOutRefIdeal.τ Cert.GradFfnOutRefIdeal.sig) → Buf (Elt Ideal) ℓ) (g' : Dev Cert.GradFfnOutRefIdeal.nD → PrngReg), Pre_GradFfnOutIdeal m →
    (∀ c : Dev Cert.GradFfnOutIdeal.nD,
      m' ((c.tc : Thread Cert.GradFfnOutRefIdeal.nD Cert.GradFfnOutRefIdeal.τ).loc Cert.GradFfnOutRefIdeal.main_arg0) = m ((c.tc : Thread Cert.GradFfnOutIdeal.nD Cert.GradFfnOutIdeal.τ).loc Cert.GradFfnOutIdeal.main_arg0)
      ∧ m' ((c.tc : Thread Cert.GradFfnOutRefIdeal.nD Cert.GradFfnOutRefIdeal.τ).loc Cert.GradFfnOutRefIdeal.main_arg1) = m ((c.tc : Thread Cert.GradFfnOutIdeal.nD Cert.GradFfnOutIdeal.τ).loc Cert.GradFfnOutIdeal.main_arg1)) →
    ∃ (v0 : (c : Dev Cert.GradFfnOutIdeal.nD) → Buf (Elt Ideal) ((c.tc : Thread Cert.GradFfnOutIdeal.nD Cert.GradFfnOutIdeal.τ).loc Cert.GradFfnOutIdeal.main_v0)),
      θ_run (Cert.GradFfnOutIdeal.defs (F := Ideal)) (onTc (τ := Cert.GradFfnOutIdeal.τ) (Cert.GradFfnOutIdeal.main (F := Ideal))) ⟨m, fun _ => 0, g⟩ (fun r => ∀ c : Dev Cert.GradFfnOutIdeal.nD,
          r.2.mem ((c.tc : Thread Cert.GradFfnOutIdeal.nD Cert.GradFfnOutIdeal.τ).loc Cert.GradFfnOutIdeal.main_v0) = v0 c
          ∧ r.2.mem ((c.tc : Thread Cert.GradFfnOutIdeal.nD Cert.GradFfnOutIdeal.τ).loc Cert.GradFfnOutIdeal.main_arg0) = m ((c.tc : Thread Cert.GradFfnOutIdeal.nD Cert.GradFfnOutIdeal.τ).loc Cert.GradFfnOutIdeal.main_arg0)
          ∧ r.2.mem ((c.tc : Thread Cert.GradFfnOutIdeal.nD Cert.GradFfnOutIdeal.τ).loc Cert.GradFfnOutIdeal.main_arg1) = m ((c.tc : Thread Cert.GradFfnOutIdeal.nD Cert.GradFfnOutIdeal.τ).loc Cert.GradFfnOutIdeal.main_arg1))
      ∧ θ_run (Cert.GradFfnOutRefIdeal.defs (F := Ideal)) (onTc (τ := Cert.GradFfnOutRefIdeal.τ) (Cert.GradFfnOutRefIdeal.main (F := Ideal))) ⟨m', fun _ => 0, g'⟩ (fun r => ∀ c : Dev Cert.GradFfnOutRefIdeal.nD,
          r.2.mem ((c.tc : Thread Cert.GradFfnOutRefIdeal.nD Cert.GradFfnOutRefIdeal.τ).loc Cert.GradFfnOutRefIdeal.main_v1) = v0 c
          ∧ r.2.mem ((c.tc : Thread Cert.GradFfnOutRefIdeal.nD Cert.GradFfnOutRefIdeal.τ).loc Cert.GradFfnOutRefIdeal.main_arg0) = m' ((c.tc : Thread Cert.GradFfnOutRefIdeal.nD Cert.GradFfnOutRefIdeal.τ).loc Cert.GradFfnOutRefIdeal.main_arg0)
          ∧ r.2.mem ((c.tc : Thread Cert.GradFfnOutRefIdeal.nD Cert.GradFfnOutRefIdeal.τ).loc Cert.GradFfnOutRefIdeal.main_arg1) = m' ((c.tc : Thread Cert.GradFfnOutRefIdeal.nD Cert.GradFfnOutRefIdeal.τ).loc Cert.GradFfnOutRefIdeal.main_arg1))

def preserves_GradGated_GradGatedIdeal : Prop :=
  True

def algebraic_GradGatedIdeal_GradGatedRefIdeal [hGradGatedIdeal : Cert.GradGatedIdeal.Facts] [hGradGatedRefIdeal : Cert.GradGatedRefIdeal.Facts] : Prop :=
  ∀ (m : (ℓ : Loc Cert.GradGatedIdeal.nD Cert.GradGatedIdeal.τ Cert.GradGatedIdeal.sig) → Buf (Elt Ideal) ℓ) (g : Dev Cert.GradGatedIdeal.nD → PrngReg)
    (m' : (ℓ : Loc Cert.GradGatedRefIdeal.nD Cert.GradGatedRefIdeal.τ Cert.GradGatedRefIdeal.sig) → Buf (Elt Ideal) ℓ) (g' : Dev Cert.GradGatedRefIdeal.nD → PrngReg), Pre_GradGatedIdeal m →
    (∀ c : Dev Cert.GradGatedIdeal.nD,
      m' ((c.tc : Thread Cert.GradGatedRefIdeal.nD Cert.GradGatedRefIdeal.τ).loc Cert.GradGatedRefIdeal.main_arg0) = m ((c.tc : Thread Cert.GradGatedIdeal.nD Cert.GradGatedIdeal.τ).loc Cert.GradGatedIdeal.main_arg0)
      ∧ m' ((c.tc : Thread Cert.GradGatedRefIdeal.nD Cert.GradGatedRefIdeal.τ).loc Cert.GradGatedRefIdeal.main_arg1) = m ((c.tc : Thread Cert.GradGatedIdeal.nD Cert.GradGatedIdeal.τ).loc Cert.GradGatedIdeal.main_arg1)) →
    ∃ (v0 : (c : Dev Cert.GradGatedIdeal.nD) → Buf (Elt Ideal) ((c.tc : Thread Cert.GradGatedIdeal.nD Cert.GradGatedIdeal.τ).loc Cert.GradGatedIdeal.main_v0)),
      θ_run (Cert.GradGatedIdeal.defs (F := Ideal)) (onTc (τ := Cert.GradGatedIdeal.τ) (Cert.GradGatedIdeal.main (F := Ideal))) ⟨m, fun _ => 0, g⟩ (fun r => ∀ c : Dev Cert.GradGatedIdeal.nD,
          r.2.mem ((c.tc : Thread Cert.GradGatedIdeal.nD Cert.GradGatedIdeal.τ).loc Cert.GradGatedIdeal.main_v0) = v0 c
          ∧ r.2.mem ((c.tc : Thread Cert.GradGatedIdeal.nD Cert.GradGatedIdeal.τ).loc Cert.GradGatedIdeal.main_arg0) = m ((c.tc : Thread Cert.GradGatedIdeal.nD Cert.GradGatedIdeal.τ).loc Cert.GradGatedIdeal.main_arg0)
          ∧ r.2.mem ((c.tc : Thread Cert.GradGatedIdeal.nD Cert.GradGatedIdeal.τ).loc Cert.GradGatedIdeal.main_arg1) = m ((c.tc : Thread Cert.GradGatedIdeal.nD Cert.GradGatedIdeal.τ).loc Cert.GradGatedIdeal.main_arg1))
      ∧ θ_run (Cert.GradGatedRefIdeal.defs (F := Ideal)) (onTc (τ := Cert.GradGatedRefIdeal.τ) (Cert.GradGatedRefIdeal.main (F := Ideal))) ⟨m', fun _ => 0, g'⟩ (fun r => ∀ c : Dev Cert.GradGatedRefIdeal.nD,
          r.2.mem ((c.tc : Thread Cert.GradGatedRefIdeal.nD Cert.GradGatedRefIdeal.τ).loc Cert.GradGatedRefIdeal.main_v1) = v0 c
          ∧ r.2.mem ((c.tc : Thread Cert.GradGatedRefIdeal.nD Cert.GradGatedRefIdeal.τ).loc Cert.GradGatedRefIdeal.main_arg0) = m' ((c.tc : Thread Cert.GradGatedRefIdeal.nD Cert.GradGatedRefIdeal.τ).loc Cert.GradGatedRefIdeal.main_arg0)
          ∧ r.2.mem ((c.tc : Thread Cert.GradGatedRefIdeal.nD Cert.GradGatedRefIdeal.τ).loc Cert.GradGatedRefIdeal.main_arg1) = m' ((c.tc : Thread Cert.GradGatedRefIdeal.nD Cert.GradGatedRefIdeal.τ).loc Cert.GradGatedRefIdeal.main_arg1))

def preserves_GradFfnIn_GradFfnInIdeal : Prop :=
  True

def algebraic_GradFfnInIdeal_GradFfnInRefIdeal [hGradFfnInIdeal : Cert.GradFfnInIdeal.Facts] [hGradFfnInRefIdeal : Cert.GradFfnInRefIdeal.Facts] : Prop :=
  ∀ (m : (ℓ : Loc Cert.GradFfnInIdeal.nD Cert.GradFfnInIdeal.τ Cert.GradFfnInIdeal.sig) → Buf (Elt Ideal) ℓ) (g : Dev Cert.GradFfnInIdeal.nD → PrngReg)
    (m' : (ℓ : Loc Cert.GradFfnInRefIdeal.nD Cert.GradFfnInRefIdeal.τ Cert.GradFfnInRefIdeal.sig) → Buf (Elt Ideal) ℓ) (g' : Dev Cert.GradFfnInRefIdeal.nD → PrngReg), Pre_GradFfnInIdeal m →
    (∀ c : Dev Cert.GradFfnInIdeal.nD,
      m' ((c.tc : Thread Cert.GradFfnInRefIdeal.nD Cert.GradFfnInRefIdeal.τ).loc Cert.GradFfnInRefIdeal.main_arg0) = m ((c.tc : Thread Cert.GradFfnInIdeal.nD Cert.GradFfnInIdeal.τ).loc Cert.GradFfnInIdeal.main_arg0)
      ∧ m' ((c.tc : Thread Cert.GradFfnInRefIdeal.nD Cert.GradFfnInRefIdeal.τ).loc Cert.GradFfnInRefIdeal.main_arg1) = m ((c.tc : Thread Cert.GradFfnInIdeal.nD Cert.GradFfnInIdeal.τ).loc Cert.GradFfnInIdeal.main_arg1)) →
    ∃ (v0 : (c : Dev Cert.GradFfnInIdeal.nD) → Buf (Elt Ideal) ((c.tc : Thread Cert.GradFfnInIdeal.nD Cert.GradFfnInIdeal.τ).loc Cert.GradFfnInIdeal.main_v0)),
      θ_run (Cert.GradFfnInIdeal.defs (F := Ideal)) (onTc (τ := Cert.GradFfnInIdeal.τ) (Cert.GradFfnInIdeal.main (F := Ideal))) ⟨m, fun _ => 0, g⟩ (fun r => ∀ c : Dev Cert.GradFfnInIdeal.nD,
          r.2.mem ((c.tc : Thread Cert.GradFfnInIdeal.nD Cert.GradFfnInIdeal.τ).loc Cert.GradFfnInIdeal.main_v0) = v0 c
          ∧ r.2.mem ((c.tc : Thread Cert.GradFfnInIdeal.nD Cert.GradFfnInIdeal.τ).loc Cert.GradFfnInIdeal.main_arg0) = m ((c.tc : Thread Cert.GradFfnInIdeal.nD Cert.GradFfnInIdeal.τ).loc Cert.GradFfnInIdeal.main_arg0)
          ∧ r.2.mem ((c.tc : Thread Cert.GradFfnInIdeal.nD Cert.GradFfnInIdeal.τ).loc Cert.GradFfnInIdeal.main_arg1) = m ((c.tc : Thread Cert.GradFfnInIdeal.nD Cert.GradFfnInIdeal.τ).loc Cert.GradFfnInIdeal.main_arg1))
      ∧ θ_run (Cert.GradFfnInRefIdeal.defs (F := Ideal)) (onTc (τ := Cert.GradFfnInRefIdeal.τ) (Cert.GradFfnInRefIdeal.main (F := Ideal))) ⟨m', fun _ => 0, g'⟩ (fun r => ∀ c : Dev Cert.GradFfnInRefIdeal.nD,
          r.2.mem ((c.tc : Thread Cert.GradFfnInRefIdeal.nD Cert.GradFfnInRefIdeal.τ).loc Cert.GradFfnInRefIdeal.main_v1) = v0 c
          ∧ r.2.mem ((c.tc : Thread Cert.GradFfnInRefIdeal.nD Cert.GradFfnInRefIdeal.τ).loc Cert.GradFfnInRefIdeal.main_arg0) = m' ((c.tc : Thread Cert.GradFfnInRefIdeal.nD Cert.GradFfnInRefIdeal.τ).loc Cert.GradFfnInRefIdeal.main_arg0)
          ∧ r.2.mem ((c.tc : Thread Cert.GradFfnInRefIdeal.nD Cert.GradFfnInRefIdeal.τ).loc Cert.GradFfnInRefIdeal.main_arg1) = m' ((c.tc : Thread Cert.GradFfnInRefIdeal.nD Cert.GradFfnInRefIdeal.τ).loc Cert.GradFfnInRefIdeal.main_arg1))

def preserves_GradNormed_GradNormedIdeal : Prop :=
  True

def algebraic_GradNormedIdeal_GradNormedRefIdeal [hGradNormedIdeal : Cert.GradNormedIdeal.Facts] [hGradNormedRefIdeal : Cert.GradNormedRefIdeal.Facts] : Prop :=
  ∀ (m : (ℓ : Loc Cert.GradNormedIdeal.nD Cert.GradNormedIdeal.τ Cert.GradNormedIdeal.sig) → Buf (Elt Ideal) ℓ) (g : Dev Cert.GradNormedIdeal.nD → PrngReg)
    (m' : (ℓ : Loc Cert.GradNormedRefIdeal.nD Cert.GradNormedRefIdeal.τ Cert.GradNormedRefIdeal.sig) → Buf (Elt Ideal) ℓ) (g' : Dev Cert.GradNormedRefIdeal.nD → PrngReg), Pre_GradNormedIdeal m →
    (∀ c : Dev Cert.GradNormedIdeal.nD,
      m' ((c.tc : Thread Cert.GradNormedRefIdeal.nD Cert.GradNormedRefIdeal.τ).loc Cert.GradNormedRefIdeal.main_arg0) = m ((c.tc : Thread Cert.GradNormedIdeal.nD Cert.GradNormedIdeal.τ).loc Cert.GradNormedIdeal.main_arg0)
      ∧ m' ((c.tc : Thread Cert.GradNormedRefIdeal.nD Cert.GradNormedRefIdeal.τ).loc Cert.GradNormedRefIdeal.main_arg1) = m ((c.tc : Thread Cert.GradNormedIdeal.nD Cert.GradNormedIdeal.τ).loc Cert.GradNormedIdeal.main_arg1)) →
    ∃ (v0 : (c : Dev Cert.GradNormedIdeal.nD) → Buf (Elt Ideal) ((c.tc : Thread Cert.GradNormedIdeal.nD Cert.GradNormedIdeal.τ).loc Cert.GradNormedIdeal.main_v0)),
      θ_run (Cert.GradNormedIdeal.defs (F := Ideal)) (onTc (τ := Cert.GradNormedIdeal.τ) (Cert.GradNormedIdeal.main (F := Ideal))) ⟨m, fun _ => 0, g⟩ (fun r => ∀ c : Dev Cert.GradNormedIdeal.nD,
          r.2.mem ((c.tc : Thread Cert.GradNormedIdeal.nD Cert.GradNormedIdeal.τ).loc Cert.GradNormedIdeal.main_v0) = v0 c
          ∧ r.2.mem ((c.tc : Thread Cert.GradNormedIdeal.nD Cert.GradNormedIdeal.τ).loc Cert.GradNormedIdeal.main_arg0) = m ((c.tc : Thread Cert.GradNormedIdeal.nD Cert.GradNormedIdeal.τ).loc Cert.GradNormedIdeal.main_arg0)
          ∧ r.2.mem ((c.tc : Thread Cert.GradNormedIdeal.nD Cert.GradNormedIdeal.τ).loc Cert.GradNormedIdeal.main_arg1) = m ((c.tc : Thread Cert.GradNormedIdeal.nD Cert.GradNormedIdeal.τ).loc Cert.GradNormedIdeal.main_arg1))
      ∧ θ_run (Cert.GradNormedRefIdeal.defs (F := Ideal)) (onTc (τ := Cert.GradNormedRefIdeal.τ) (Cert.GradNormedRefIdeal.main (F := Ideal))) ⟨m', fun _ => 0, g'⟩ (fun r => ∀ c : Dev Cert.GradNormedRefIdeal.nD,
          r.2.mem ((c.tc : Thread Cert.GradNormedRefIdeal.nD Cert.GradNormedRefIdeal.τ).loc Cert.GradNormedRefIdeal.main_v1) = v0 c
          ∧ r.2.mem ((c.tc : Thread Cert.GradNormedRefIdeal.nD Cert.GradNormedRefIdeal.τ).loc Cert.GradNormedRefIdeal.main_arg0) = m' ((c.tc : Thread Cert.GradNormedRefIdeal.nD Cert.GradNormedRefIdeal.τ).loc Cert.GradNormedRefIdeal.main_arg0)
          ∧ r.2.mem ((c.tc : Thread Cert.GradNormedRefIdeal.nD Cert.GradNormedRefIdeal.τ).loc Cert.GradNormedRefIdeal.main_arg1) = m' ((c.tc : Thread Cert.GradNormedRefIdeal.nD Cert.GradNormedRefIdeal.τ).loc Cert.GradNormedRefIdeal.main_arg1))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)) →
    ∃ (v0 : (c : Dev Cert.MixOutIdeal.nD) → Buf (Elt Ideal) ((c.tc : Thread Cert.MixOutIdeal.nD Cert.MixOutIdeal.τ).loc Cert.MixOutIdeal.main_v0)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v0) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v0) = v0 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1))

def preserves_BranchSsm_BranchSsmIdeal : Prop :=
  True

def algebraic_BranchSsmIdeal_BranchSsmRefIdeal [hBranchSsmIdeal : Cert.BranchSsmIdeal.Facts] [hBranchSsmRefIdeal : Cert.BranchSsmRefIdeal.Facts] : Prop :=
  ∀ (m : (ℓ : Loc Cert.BranchSsmIdeal.nD Cert.BranchSsmIdeal.τ Cert.BranchSsmIdeal.sig) → Buf (Elt Ideal) ℓ) (g : Dev Cert.BranchSsmIdeal.nD → PrngReg)
    (m' : (ℓ : Loc Cert.BranchSsmRefIdeal.nD Cert.BranchSsmRefIdeal.τ Cert.BranchSsmRefIdeal.sig) → Buf (Elt Ideal) ℓ) (g' : Dev Cert.BranchSsmRefIdeal.nD → PrngReg), Pre_BranchSsmIdeal m →
    (∀ c : Dev Cert.BranchSsmIdeal.nD,
      m' ((c.tc : Thread Cert.BranchSsmRefIdeal.nD Cert.BranchSsmRefIdeal.τ).loc Cert.BranchSsmRefIdeal.main_arg0) = m ((c.tc : Thread Cert.BranchSsmIdeal.nD Cert.BranchSsmIdeal.τ).loc Cert.BranchSsmIdeal.main_arg0)
      ∧ m' ((c.tc : Thread Cert.BranchSsmRefIdeal.nD Cert.BranchSsmRefIdeal.τ).loc Cert.BranchSsmRefIdeal.main_arg1) = m ((c.tc : Thread Cert.BranchSsmIdeal.nD Cert.BranchSsmIdeal.τ).loc Cert.BranchSsmIdeal.main_arg1)) →
    ∃ (v0 : (c : Dev Cert.BranchSsmIdeal.nD) → Buf (Elt Ideal) ((c.tc : Thread Cert.BranchSsmIdeal.nD Cert.BranchSsmIdeal.τ).loc Cert.BranchSsmIdeal.main_v0)),
      θ_run (Cert.BranchSsmIdeal.defs (F := Ideal)) (onTc (τ := Cert.BranchSsmIdeal.τ) (Cert.BranchSsmIdeal.main (F := Ideal))) ⟨m, fun _ => 0, g⟩ (fun r => ∀ c : Dev Cert.BranchSsmIdeal.nD,
          r.2.mem ((c.tc : Thread Cert.BranchSsmIdeal.nD Cert.BranchSsmIdeal.τ).loc Cert.BranchSsmIdeal.main_v0) = v0 c
          ∧ r.2.mem ((c.tc : Thread Cert.BranchSsmIdeal.nD Cert.BranchSsmIdeal.τ).loc Cert.BranchSsmIdeal.main_arg0) = m ((c.tc : Thread Cert.BranchSsmIdeal.nD Cert.BranchSsmIdeal.τ).loc Cert.BranchSsmIdeal.main_arg0)
          ∧ r.2.mem ((c.tc : Thread Cert.BranchSsmIdeal.nD Cert.BranchSsmIdeal.τ).loc Cert.BranchSsmIdeal.main_arg1) = m ((c.tc : Thread Cert.BranchSsmIdeal.nD Cert.BranchSsmIdeal.τ).loc Cert.BranchSsmIdeal.main_arg1))
      ∧ θ_run (Cert.BranchSsmRefIdeal.defs (F := Ideal)) (onTc (τ := Cert.BranchSsmRefIdeal.τ) (Cert.BranchSsmRefIdeal.main (F := Ideal))) ⟨m', fun _ => 0, g'⟩ (fun r => ∀ c : Dev Cert.BranchSsmRefIdeal.nD,
          r.2.mem ((c.tc : Thread Cert.BranchSsmRefIdeal.nD Cert.BranchSsmRefIdeal.τ).loc Cert.BranchSsmRefIdeal.main_v0) = v0 c
          ∧ r.2.mem ((c.tc : Thread Cert.BranchSsmRefIdeal.nD Cert.BranchSsmRefIdeal.τ).loc Cert.BranchSsmRefIdeal.main_arg0) = m' ((c.tc : Thread Cert.BranchSsmRefIdeal.nD Cert.BranchSsmRefIdeal.τ).loc Cert.BranchSsmRefIdeal.main_arg0)
          ∧ r.2.mem ((c.tc : Thread Cert.BranchSsmRefIdeal.nD Cert.BranchSsmRefIdeal.τ).loc Cert.BranchSsmRefIdeal.main_arg1) = m' ((c.tc : Thread Cert.BranchSsmRefIdeal.nD Cert.BranchSsmRefIdeal.τ).loc Cert.BranchSsmRefIdeal.main_arg1))

def preserves_GradWOut_GradWOutIdeal : Prop :=
  True

def algebraic_GradWOutIdeal_GradWOutRefIdeal [hGradWOutIdeal : Cert.GradWOutIdeal.Facts] [hGradWOutRefIdeal : Cert.GradWOutRefIdeal.Facts] : Prop :=
  ∀ (m : (ℓ : Loc Cert.GradWOutIdeal.nD Cert.GradWOutIdeal.τ Cert.GradWOutIdeal.sig) → Buf (Elt Ideal) ℓ) (g : Dev Cert.GradWOutIdeal.nD → PrngReg)
    (m' : (ℓ : Loc Cert.GradWOutRefIdeal.nD Cert.GradWOutRefIdeal.τ Cert.GradWOutRefIdeal.sig) → Buf (Elt Ideal) ℓ) (g' : Dev Cert.GradWOutRefIdeal.nD → PrngReg), Pre_GradWOutIdeal m →
    (∀ c : Dev Cert.GradWOutIdeal.nD,
      m' ((c.tc : Thread Cert.GradWOutRefIdeal.nD Cert.GradWOutRefIdeal.τ).loc Cert.GradWOutRefIdeal.main_arg0) = m ((c.tc : Thread Cert.GradWOutIdeal.nD Cert.GradWOutIdeal.τ).loc Cert.GradWOutIdeal.main_arg0)
      ∧ m' ((c.tc : Thread Cert.GradWOutRefIdeal.nD Cert.GradWOutRefIdeal.τ).loc Cert.GradWOutRefIdeal.main_arg1) = m ((c.tc : Thread Cert.GradWOutIdeal.nD Cert.GradWOutIdeal.τ).loc Cert.GradWOutIdeal.main_arg1)) →
    ∃ (v0 : (c : Dev Cert.GradWOutIdeal.nD) → Buf (Elt Ideal) ((c.tc : Thread Cert.GradWOutIdeal.nD Cert.GradWOutIdeal.τ).loc Cert.GradWOutIdeal.main_v0)),
      θ_run (Cert.GradWOutIdeal.defs (F := Ideal)) (onTc (τ := Cert.GradWOutIdeal.τ) (Cert.GradWOutIdeal.main (F := Ideal))) ⟨m, fun _ => 0, g⟩ (fun r => ∀ c : Dev Cert.GradWOutIdeal.nD,
          r.2.mem ((c.tc : Thread Cert.GradWOutIdeal.nD Cert.GradWOutIdeal.τ).loc Cert.GradWOutIdeal.main_v0) = v0 c
          ∧ r.2.mem ((c.tc : Thread Cert.GradWOutIdeal.nD Cert.GradWOutIdeal.τ).loc Cert.GradWOutIdeal.main_arg0) = m ((c.tc : Thread Cert.GradWOutIdeal.nD Cert.GradWOutIdeal.τ).loc Cert.GradWOutIdeal.main_arg0)
          ∧ r.2.mem ((c.tc : Thread Cert.GradWOutIdeal.nD Cert.GradWOutIdeal.τ).loc Cert.GradWOutIdeal.main_arg1) = m ((c.tc : Thread Cert.GradWOutIdeal.nD Cert.GradWOutIdeal.τ).loc Cert.GradWOutIdeal.main_arg1))
      ∧ θ_run (Cert.GradWOutRefIdeal.defs (F := Ideal)) (onTc (τ := Cert.GradWOutRefIdeal.τ) (Cert.GradWOutRefIdeal.main (F := Ideal))) ⟨m', fun _ => 0, g'⟩ (fun r => ∀ c : Dev Cert.GradWOutRefIdeal.nD,
          r.2.mem ((c.tc : Thread Cert.GradWOutRefIdeal.nD Cert.GradWOutRefIdeal.τ).loc Cert.GradWOutRefIdeal.main_v1) = v0 c
          ∧ r.2.mem ((c.tc : Thread Cert.GradWOutRefIdeal.nD Cert.GradWOutRefIdeal.τ).loc Cert.GradWOutRefIdeal.main_arg0) = m' ((c.tc : Thread Cert.GradWOutRefIdeal.nD Cert.GradWOutRefIdeal.τ).loc Cert.GradWOutRefIdeal.main_arg0)
          ∧ r.2.mem ((c.tc : Thread Cert.GradWOutRefIdeal.nD Cert.GradWOutRefIdeal.τ).loc Cert.GradWOutRefIdeal.main_arg1) = m' ((c.tc : Thread Cert.GradWOutRefIdeal.nD Cert.GradWOutRefIdeal.τ).loc Cert.GradWOutRefIdeal.main_arg1))

def preserves_GradWSsm_GradWSsmIdeal : Prop :=
  True

def algebraic_GradWSsmIdeal_GradWSsmRefIdeal [hGradWSsmIdeal : Cert.GradWSsmIdeal.Facts] [hGradWSsmRefIdeal : Cert.GradWSsmRefIdeal.Facts] : Prop :=
  ∀ (m : (ℓ : Loc Cert.GradWSsmIdeal.nD Cert.GradWSsmIdeal.τ Cert.GradWSsmIdeal.sig) → Buf (Elt Ideal) ℓ) (g : Dev Cert.GradWSsmIdeal.nD → PrngReg)
    (m' : (ℓ : Loc Cert.GradWSsmRefIdeal.nD Cert.GradWSsmRefIdeal.τ Cert.GradWSsmRefIdeal.sig) → Buf (Elt Ideal) ℓ) (g' : Dev Cert.GradWSsmRefIdeal.nD → PrngReg), Pre_GradWSsmIdeal m →
    (∀ c : Dev Cert.GradWSsmIdeal.nD,
      m' ((c.tc : Thread Cert.GradWSsmRefIdeal.nD Cert.GradWSsmRefIdeal.τ).loc Cert.GradWSsmRefIdeal.main_arg0) = m ((c.tc : Thread Cert.GradWSsmIdeal.nD Cert.GradWSsmIdeal.τ).loc Cert.GradWSsmIdeal.main_arg0)
      ∧ m' ((c.tc : Thread Cert.GradWSsmRefIdeal.nD Cert.GradWSsmRefIdeal.τ).loc Cert.GradWSsmRefIdeal.main_arg1) = m ((c.tc : Thread Cert.GradWSsmIdeal.nD Cert.GradWSsmIdeal.τ).loc Cert.GradWSsmIdeal.main_arg1)) →
    ∃ (v0 : (c : Dev Cert.GradWSsmIdeal.nD) → Buf (Elt Ideal) ((c.tc : Thread Cert.GradWSsmIdeal.nD Cert.GradWSsmIdeal.τ).loc Cert.GradWSsmIdeal.main_v0)),
      θ_run (Cert.GradWSsmIdeal.defs (F := Ideal)) (onTc (τ := Cert.GradWSsmIdeal.τ) (Cert.GradWSsmIdeal.main (F := Ideal))) ⟨m, fun _ => 0, g⟩ (fun r => ∀ c : Dev Cert.GradWSsmIdeal.nD,
          r.2.mem ((c.tc : Thread Cert.GradWSsmIdeal.nD Cert.GradWSsmIdeal.τ).loc Cert.GradWSsmIdeal.main_v0) = v0 c
          ∧ r.2.mem ((c.tc : Thread Cert.GradWSsmIdeal.nD Cert.GradWSsmIdeal.τ).loc Cert.GradWSsmIdeal.main_arg0) = m ((c.tc : Thread Cert.GradWSsmIdeal.nD Cert.GradWSsmIdeal.τ).loc Cert.GradWSsmIdeal.main_arg0)
          ∧ r.2.mem ((c.tc : Thread Cert.GradWSsmIdeal.nD Cert.GradWSsmIdeal.τ).loc Cert.GradWSsmIdeal.main_arg1) = m ((c.tc : Thread Cert.GradWSsmIdeal.nD Cert.GradWSsmIdeal.τ).loc Cert.GradWSsmIdeal.main_arg1))
      ∧ θ_run (Cert.GradWSsmRefIdeal.defs (F := Ideal)) (onTc (τ := Cert.GradWSsmRefIdeal.τ) (Cert.GradWSsmRefIdeal.main (F := Ideal))) ⟨m', fun _ => 0, g'⟩ (fun r => ∀ c : Dev Cert.GradWSsmRefIdeal.nD,
          r.2.mem ((c.tc : Thread Cert.GradWSsmRefIdeal.nD Cert.GradWSsmRefIdeal.τ).loc Cert.GradWSsmRefIdeal.main_v1) = v0 c
          ∧ r.2.mem ((c.tc : Thread Cert.GradWSsmRefIdeal.nD Cert.GradWSsmRefIdeal.τ).loc Cert.GradWSsmRefIdeal.main_arg0) = m' ((c.tc : Thread Cert.GradWSsmRefIdeal.nD Cert.GradWSsmRefIdeal.τ).loc Cert.GradWSsmRefIdeal.main_arg0)
          ∧ r.2.mem ((c.tc : Thread Cert.GradWSsmRefIdeal.nD Cert.GradWSsmRefIdeal.τ).loc Cert.GradWSsmRefIdeal.main_arg1) = m' ((c.tc : Thread Cert.GradWSsmRefIdeal.nD Cert.GradWSsmRefIdeal.τ).loc Cert.GradWSsmRefIdeal.main_arg1))

def preserves_GradMerged_GradMergedIdeal : Prop :=
  True

def algebraic_GradMergedIdeal_GradMergedRefIdeal [hGradMergedIdeal : Cert.GradMergedIdeal.Facts] [hGradMergedRefIdeal : Cert.GradMergedRefIdeal.Facts] : Prop :=
  ∀ (m : (ℓ : Loc Cert.GradMergedIdeal.nD Cert.GradMergedIdeal.τ Cert.GradMergedIdeal.sig) → Buf (Elt Ideal) ℓ) (g : Dev Cert.GradMergedIdeal.nD → PrngReg)
    (m' : (ℓ : Loc Cert.GradMergedRefIdeal.nD Cert.GradMergedRefIdeal.τ Cert.GradMergedRefIdeal.sig) → Buf (Elt Ideal) ℓ) (g' : Dev Cert.GradMergedRefIdeal.nD → PrngReg), Pre_GradMergedIdeal m →
    (∀ c : Dev Cert.GradMergedIdeal.nD,
      m' ((c.tc : Thread Cert.GradMergedRefIdeal.nD Cert.GradMergedRefIdeal.τ).loc Cert.GradMergedRefIdeal.main_arg0) = m ((c.tc : Thread Cert.GradMergedIdeal.nD Cert.GradMergedIdeal.τ).loc Cert.GradMergedIdeal.main_arg0)
      ∧ m' ((c.tc : Thread Cert.GradMergedRefIdeal.nD Cert.GradMergedRefIdeal.τ).loc Cert.GradMergedRefIdeal.main_arg1) = m ((c.tc : Thread Cert.GradMergedIdeal.nD Cert.GradMergedIdeal.τ).loc Cert.GradMergedIdeal.main_arg1)) →
    ∃ (v0 : (c : Dev Cert.GradMergedIdeal.nD) → Buf (Elt Ideal) ((c.tc : Thread Cert.GradMergedIdeal.nD Cert.GradMergedIdeal.τ).loc Cert.GradMergedIdeal.main_v0)),
      θ_run (Cert.GradMergedIdeal.defs (F := Ideal)) (onTc (τ := Cert.GradMergedIdeal.τ) (Cert.GradMergedIdeal.main (F := Ideal))) ⟨m, fun _ => 0, g⟩ (fun r => ∀ c : Dev Cert.GradMergedIdeal.nD,
          r.2.mem ((c.tc : Thread Cert.GradMergedIdeal.nD Cert.GradMergedIdeal.τ).loc Cert.GradMergedIdeal.main_v0) = v0 c
          ∧ r.2.mem ((c.tc : Thread Cert.GradMergedIdeal.nD Cert.GradMergedIdeal.τ).loc Cert.GradMergedIdeal.main_arg0) = m ((c.tc : Thread Cert.GradMergedIdeal.nD Cert.GradMergedIdeal.τ).loc Cert.GradMergedIdeal.main_arg0)
          ∧ r.2.mem ((c.tc : Thread Cert.GradMergedIdeal.nD Cert.GradMergedIdeal.τ).loc Cert.GradMergedIdeal.main_arg1) = m ((c.tc : Thread Cert.GradMergedIdeal.nD Cert.GradMergedIdeal.τ).loc Cert.GradMergedIdeal.main_arg1))
      ∧ θ_run (Cert.GradMergedRefIdeal.defs (F := Ideal)) (onTc (τ := Cert.GradMergedRefIdeal.τ) (Cert.GradMergedRefIdeal.main (F := Ideal))) ⟨m', fun _ => 0, g'⟩ (fun r => ∀ c : Dev Cert.GradMergedRefIdeal.nD,
          r.2.mem ((c.tc : Thread Cert.GradMergedRefIdeal.nD Cert.GradMergedRefIdeal.τ).loc Cert.GradMergedRefIdeal.main_v1) = v0 c
          ∧ r.2.mem ((c.tc : Thread Cert.GradMergedRefIdeal.nD Cert.GradMergedRefIdeal.τ).loc Cert.GradMergedRefIdeal.main_arg0) = m' ((c.tc : Thread Cert.GradMergedRefIdeal.nD Cert.GradMergedRefIdeal.τ).loc Cert.GradMergedRefIdeal.main_arg0)
          ∧ r.2.mem ((c.tc : Thread Cert.GradMergedRefIdeal.nD Cert.GradMergedRefIdeal.τ).loc Cert.GradMergedRefIdeal.main_arg1) = m' ((c.tc : Thread Cert.GradMergedRefIdeal.nD Cert.GradMergedRefIdeal.τ).loc Cert.GradMergedRefIdeal.main_arg1))

def preserves_GradSsm_GradSsmIdeal : Prop :=
  True

def algebraic_GradSsmIdeal_GradSsmRefIdeal [hGradSsmIdeal : Cert.GradSsmIdeal.Facts] [hGradSsmRefIdeal : Cert.GradSsmRefIdeal.Facts] : Prop :=
  ∀ (m : (ℓ : Loc Cert.GradSsmIdeal.nD Cert.GradSsmIdeal.τ Cert.GradSsmIdeal.sig) → Buf (Elt Ideal) ℓ) (g : Dev Cert.GradSsmIdeal.nD → PrngReg)
    (m' : (ℓ : Loc Cert.GradSsmRefIdeal.nD Cert.GradSsmRefIdeal.τ Cert.GradSsmRefIdeal.sig) → Buf (Elt Ideal) ℓ) (g' : Dev Cert.GradSsmRefIdeal.nD → PrngReg), Pre_GradSsmIdeal m →
    (∀ c : Dev Cert.GradSsmIdeal.nD,
      m' ((c.tc : Thread Cert.GradSsmRefIdeal.nD Cert.GradSsmRefIdeal.τ).loc Cert.GradSsmRefIdeal.main_arg0) = m ((c.tc : Thread Cert.GradSsmIdeal.nD Cert.GradSsmIdeal.τ).loc Cert.GradSsmIdeal.main_arg0)
      ∧ m' ((c.tc : Thread Cert.GradSsmRefIdeal.nD Cert.GradSsmRefIdeal.τ).loc Cert.GradSsmRefIdeal.main_arg1) = m ((c.tc : Thread Cert.GradSsmIdeal.nD Cert.GradSsmIdeal.τ).loc Cert.GradSsmIdeal.main_arg1)) →
    ∃ (v0 : (c : Dev Cert.GradSsmIdeal.nD) → Buf (Elt Ideal) ((c.tc : Thread Cert.GradSsmIdeal.nD Cert.GradSsmIdeal.τ).loc Cert.GradSsmIdeal.main_v0)),
      θ_run (Cert.GradSsmIdeal.defs (F := Ideal)) (onTc (τ := Cert.GradSsmIdeal.τ) (Cert.GradSsmIdeal.main (F := Ideal))) ⟨m, fun _ => 0, g⟩ (fun r => ∀ c : Dev Cert.GradSsmIdeal.nD,
          r.2.mem ((c.tc : Thread Cert.GradSsmIdeal.nD Cert.GradSsmIdeal.τ).loc Cert.GradSsmIdeal.main_v0) = v0 c
          ∧ r.2.mem ((c.tc : Thread Cert.GradSsmIdeal.nD Cert.GradSsmIdeal.τ).loc Cert.GradSsmIdeal.main_arg0) = m ((c.tc : Thread Cert.GradSsmIdeal.nD Cert.GradSsmIdeal.τ).loc Cert.GradSsmIdeal.main_arg0)
          ∧ r.2.mem ((c.tc : Thread Cert.GradSsmIdeal.nD Cert.GradSsmIdeal.τ).loc Cert.GradSsmIdeal.main_arg1) = m ((c.tc : Thread Cert.GradSsmIdeal.nD Cert.GradSsmIdeal.τ).loc Cert.GradSsmIdeal.main_arg1))
      ∧ θ_run (Cert.GradSsmRefIdeal.defs (F := Ideal)) (onTc (τ := Cert.GradSsmRefIdeal.τ) (Cert.GradSsmRefIdeal.main (F := Ideal))) ⟨m', fun _ => 0, g'⟩ (fun r => ∀ c : Dev Cert.GradSsmRefIdeal.nD,
          r.2.mem ((c.tc : Thread Cert.GradSsmRefIdeal.nD Cert.GradSsmRefIdeal.τ).loc Cert.GradSsmRefIdeal.main_v1) = v0 c
          ∧ r.2.mem ((c.tc : Thread Cert.GradSsmRefIdeal.nD Cert.GradSsmRefIdeal.τ).loc Cert.GradSsmRefIdeal.main_arg0) = m' ((c.tc : Thread Cert.GradSsmRefIdeal.nD Cert.GradSsmRefIdeal.τ).loc Cert.GradSsmRefIdeal.main_arg0)
          ∧ r.2.mem ((c.tc : Thread Cert.GradSsmRefIdeal.nD Cert.GradSsmRefIdeal.τ).loc Cert.GradSsmRefIdeal.main_arg1) = m' ((c.tc : Thread Cert.GradSsmRefIdeal.nD Cert.GradSsmRefIdeal.τ).loc Cert.GradSsmRefIdeal.main_arg1))

def preserves_AdaBwd_AdaBwdIdeal : Prop :=
  True

def algebraic_AdaBwdIdeal_AdaBwdRefIdeal [hAdaBwdIdeal : Cert.AdaBwdIdeal.Facts] [hAdaBwdRefIdeal : Cert.AdaBwdRefIdeal.Facts] : Prop :=
  ∀ (m : (ℓ : Loc Cert.AdaBwdIdeal.nD Cert.AdaBwdIdeal.τ Cert.AdaBwdIdeal.sig) → Buf (Elt Ideal) ℓ) (g : Dev Cert.AdaBwdIdeal.nD → PrngReg)
    (m' : (ℓ : Loc Cert.AdaBwdRefIdeal.nD Cert.AdaBwdRefIdeal.τ Cert.AdaBwdRefIdeal.sig) → Buf (Elt Ideal) ℓ) (g' : Dev Cert.AdaBwdRefIdeal.nD → PrngReg), Pre_AdaBwdIdeal m →
    (∀ c : Dev Cert.AdaBwdIdeal.nD,
      m' ((c.tc : Thread Cert.AdaBwdRefIdeal.nD Cert.AdaBwdRefIdeal.τ).loc Cert.AdaBwdRefIdeal.main_arg0) = m ((c.tc : Thread Cert.AdaBwdIdeal.nD Cert.AdaBwdIdeal.τ).loc Cert.AdaBwdIdeal.main_arg0)
      ∧ m' ((c.tc : Thread Cert.AdaBwdRefIdeal.nD Cert.AdaBwdRefIdeal.τ).loc Cert.AdaBwdRefIdeal.main_arg1) = m ((c.tc : Thread Cert.AdaBwdIdeal.nD Cert.AdaBwdIdeal.τ).loc Cert.AdaBwdIdeal.main_arg1)
      ∧ m' ((c.tc : Thread Cert.AdaBwdRefIdeal.nD Cert.AdaBwdRefIdeal.τ).loc Cert.AdaBwdRefIdeal.main_arg2) = m ((c.tc : Thread Cert.AdaBwdIdeal.nD Cert.AdaBwdIdeal.τ).loc Cert.AdaBwdIdeal.main_arg2)) →
    ∃ (v0 : (c : Dev Cert.AdaBwdIdeal.nD) → Buf (Elt Ideal) ((c.tc : Thread Cert.AdaBwdIdeal.nD Cert.AdaBwdIdeal.τ).loc Cert.AdaBwdIdeal.main_v0_0)) (v1 : (c : Dev Cert.AdaBwdIdeal.nD) → Buf (Elt Ideal) ((c.tc : Thread Cert.AdaBwdIdeal.nD Cert.AdaBwdIdeal.τ).loc Cert.AdaBwdIdeal.main_v0_1)) (v2 : (c : Dev Cert.AdaBwdIdeal.nD) → Buf (Elt Ideal) ((c.tc : Thread Cert.AdaBwdIdeal.nD Cert.AdaBwdIdeal.τ).loc Cert.AdaBwdIdeal.main_v0_2)),
      θ_run (Cert.AdaBwdIdeal.defs (F := Ideal)) (onTc (τ := Cert.AdaBwdIdeal.τ) (Cert.AdaBwdIdeal.main (F := Ideal))) ⟨m, fun _ => 0, g⟩ (fun r => ∀ c : Dev Cert.AdaBwdIdeal.nD,
          r.2.mem ((c.tc : Thread Cert.AdaBwdIdeal.nD Cert.AdaBwdIdeal.τ).loc Cert.AdaBwdIdeal.main_v0_0) = v0 c
          ∧ r.2.mem ((c.tc : Thread Cert.AdaBwdIdeal.nD Cert.AdaBwdIdeal.τ).loc Cert.AdaBwdIdeal.main_v0_1) = v1 c
          ∧ r.2.mem ((c.tc : Thread Cert.AdaBwdIdeal.nD Cert.AdaBwdIdeal.τ).loc Cert.AdaBwdIdeal.main_v0_2) = v2 c
          ∧ r.2.mem ((c.tc : Thread Cert.AdaBwdIdeal.nD Cert.AdaBwdIdeal.τ).loc Cert.AdaBwdIdeal.main_arg0) = m ((c.tc : Thread Cert.AdaBwdIdeal.nD Cert.AdaBwdIdeal.τ).loc Cert.AdaBwdIdeal.main_arg0)
          ∧ r.2.mem ((c.tc : Thread Cert.AdaBwdIdeal.nD Cert.AdaBwdIdeal.τ).loc Cert.AdaBwdIdeal.main_arg1) = m ((c.tc : Thread Cert.AdaBwdIdeal.nD Cert.AdaBwdIdeal.τ).loc Cert.AdaBwdIdeal.main_arg1)
          ∧ r.2.mem ((c.tc : Thread Cert.AdaBwdIdeal.nD Cert.AdaBwdIdeal.τ).loc Cert.AdaBwdIdeal.main_arg2) = m ((c.tc : Thread Cert.AdaBwdIdeal.nD Cert.AdaBwdIdeal.τ).loc Cert.AdaBwdIdeal.main_arg2))
      ∧ θ_run (Cert.AdaBwdRefIdeal.defs (F := Ideal)) (onTc (τ := Cert.AdaBwdRefIdeal.τ) (Cert.AdaBwdRefIdeal.main (F := Ideal))) ⟨m', fun _ => 0, g'⟩ (fun r => ∀ c : Dev Cert.AdaBwdRefIdeal.nD,
          r.2.mem ((c.tc : Thread Cert.AdaBwdRefIdeal.nD Cert.AdaBwdRefIdeal.τ).loc Cert.AdaBwdRefIdeal.main_v18) = v0 c
          ∧ r.2.mem ((c.tc : Thread Cert.AdaBwdRefIdeal.nD Cert.AdaBwdRefIdeal.τ).loc Cert.AdaBwdRefIdeal.main_v23) = v1 c
          ∧ r.2.mem ((c.tc : Thread Cert.AdaBwdRefIdeal.nD Cert.AdaBwdRefIdeal.τ).loc Cert.AdaBwdRefIdeal.main_v27) = v2 c
          ∧ r.2.mem ((c.tc : Thread Cert.AdaBwdRefIdeal.nD Cert.AdaBwdRefIdeal.τ).loc Cert.AdaBwdRefIdeal.main_arg0) = m' ((c.tc : Thread Cert.AdaBwdRefIdeal.nD Cert.AdaBwdRefIdeal.τ).loc Cert.AdaBwdRefIdeal.main_arg0)
          ∧ r.2.mem ((c.tc : Thread Cert.AdaBwdRefIdeal.nD Cert.AdaBwdRefIdeal.τ).loc Cert.AdaBwdRefIdeal.main_arg1) = m' ((c.tc : Thread Cert.AdaBwdRefIdeal.nD Cert.AdaBwdRefIdeal.τ).loc Cert.AdaBwdRefIdeal.main_arg1)
          ∧ r.2.mem ((c.tc : Thread Cert.AdaBwdRefIdeal.nD Cert.AdaBwdRefIdeal.τ).loc Cert.AdaBwdRefIdeal.main_arg2) = m' ((c.tc : Thread Cert.AdaBwdRefIdeal.nD Cert.AdaBwdRefIdeal.τ).loc Cert.AdaBwdRefIdeal.main_arg2))

def Claim : Prop :=
  ∃ (hGather : Cert.Gather.Facts) (hGatherIdeal : Cert.GatherIdeal.Facts) (hGatherRefIdeal : Cert.GatherRefIdeal.Facts) (hScatter : Cert.Scatter.Facts) (hScatterIdeal : Cert.ScatterIdeal.Facts) (hScatterRefIdeal : Cert.ScatterRefIdeal.Facts) (hUpdate : Cert.Update.Facts) (hUpdateIdeal : Cert.UpdateIdeal.Facts) (hUpdateRefIdeal : Cert.UpdateRefIdeal.Facts) (hGatherRef : Cert.GatherRef.Facts) (hScatterRef : Cert.ScatterRef.Facts) (hLoss : Cert.Loss.Facts) (hLossIdeal : Cert.LossIdeal.Facts) (hLossRefIdeal : Cert.LossRefIdeal.Facts) (hGradX : Cert.GradX.Facts) (hGradXIdeal : Cert.GradXIdeal.Facts) (hGradXRefIdeal : Cert.GradXRefIdeal.Facts) (hPrenorm : Cert.Prenorm.Facts) (hPrenormIdeal : Cert.PrenormIdeal.Facts) (hPrenormRefIdeal : Cert.PrenormRefIdeal.Facts) (hInProj : Cert.InProj.Facts) (hInProjIdeal : Cert.InProjIdeal.Facts) (hInProjRefIdeal : Cert.InProjRefIdeal.Facts) (hNorm2 : Cert.Norm2.Facts) (hNorm2Ideal : Cert.Norm2Ideal.Facts) (hNorm2RefIdeal : Cert.Norm2RefIdeal.Facts) (hFfnIn : Cert.FfnIn.Facts) (hFfnInIdeal : Cert.FfnInIdeal.Facts) (hFfnInRefIdeal : Cert.FfnInRefIdeal.Facts) (hSwiglu : Cert.Swiglu.Facts) (hSwigluIdeal : Cert.SwigluIdeal.Facts) (hSwigluRefIdeal : Cert.SwigluRefIdeal.Facts) (hFfnOut : Cert.FfnOut.Facts) (hFfnOutIdeal : Cert.FfnOutIdeal.Facts) (hFfnOutRefIdeal : Cert.FfnOutRefIdeal.Facts) (hGradWIn : Cert.GradWIn.Facts) (hGradWInIdeal : Cert.GradWInIdeal.Facts) (hGradWInRefIdeal : Cert.GradWInRefIdeal.Facts) (hGradA : Cert.GradA.Facts) (hGradAIdeal : Cert.GradAIdeal.Facts) (hGradARefIdeal : Cert.GradARefIdeal.Facts) (hAda : Cert.Ada.Facts) (hAdaIdeal : Cert.AdaIdeal.Facts) (hAdaRefIdeal : Cert.AdaRefIdeal.Facts) (hMerge : Cert.Merge.Facts) (hMergeIdeal : Cert.MergeIdeal.Facts) (hMergeRefIdeal : Cert.MergeRefIdeal.Facts) (hMergeBwd : Cert.MergeBwd.Facts) (hMergeBwdIdeal : Cert.MergeBwdIdeal.Facts) (hMergeBwdRefIdeal : Cert.MergeBwdRefIdeal.Facts) (hSwigluBwd : Cert.SwigluBwd.Facts) (hSwigluBwdIdeal : Cert.SwigluBwdIdeal.Facts) (hSwigluBwdRefIdeal : Cert.SwigluBwdRefIdeal.Facts) (hNorm2Bwd : Cert.Norm2Bwd.Facts) (hNorm2BwdIdeal : Cert.Norm2BwdIdeal.Facts) (hNorm2BwdRefIdeal : Cert.Norm2BwdRefIdeal.Facts) (hGradFfnOut : Cert.GradFfnOut.Facts) (hGradFfnOutIdeal : Cert.GradFfnOutIdeal.Facts) (hGradFfnOutRefIdeal : Cert.GradFfnOutRefIdeal.Facts) (hGradGated : Cert.GradGated.Facts) (hGradGatedIdeal : Cert.GradGatedIdeal.Facts) (hGradGatedRefIdeal : Cert.GradGatedRefIdeal.Facts) (hGradFfnIn : Cert.GradFfnIn.Facts) (hGradFfnInIdeal : Cert.GradFfnInIdeal.Facts) (hGradFfnInRefIdeal : Cert.GradFfnInRefIdeal.Facts) (hGradNormed : Cert.GradNormed.Facts) (hGradNormedIdeal : Cert.GradNormedIdeal.Facts) (hGradNormedRefIdeal : Cert.GradNormedRefIdeal.Facts) (hMixOut : Cert.MixOut.Facts) (hMixOutIdeal : Cert.MixOutIdeal.Facts) (hMixOutRefIdeal : Cert.MixOutRefIdeal.Facts) (hBranchSsm : Cert.BranchSsm.Facts) (hBranchSsmIdeal : Cert.BranchSsmIdeal.Facts) (hBranchSsmRefIdeal : Cert.BranchSsmRefIdeal.Facts) (hGradWOut : Cert.GradWOut.Facts) (hGradWOutIdeal : Cert.GradWOutIdeal.Facts) (hGradWOutRefIdeal : Cert.GradWOutRefIdeal.Facts) (hGradWSsm : Cert.GradWSsm.Facts) (hGradWSsmIdeal : Cert.GradWSsmIdeal.Facts) (hGradWSsmRefIdeal : Cert.GradWSsmRefIdeal.Facts) (hGradMerged : Cert.GradMerged.Facts) (hGradMergedIdeal : Cert.GradMergedIdeal.Facts) (hGradMergedRefIdeal : Cert.GradMergedRefIdeal.Facts) (hGradSsm : Cert.GradSsm.Facts) (hGradSsmIdeal : Cert.GradSsmIdeal.Facts) (hGradSsmRefIdeal : Cert.GradSsmRefIdeal.Facts) (hAdaBwd : Cert.AdaBwd.Facts) (hAdaBwdIdeal : Cert.AdaBwdIdeal.Facts) (hAdaBwdRefIdeal : Cert.AdaBwdRefIdeal.Facts),
    quiescent_Gather (hGather := hGather)
    ∧ quiescent_GatherIdeal (hGatherIdeal := hGatherIdeal)
    ∧ quiescent_GatherRefIdeal (hGatherRefIdeal := hGatherRefIdeal)
    ∧ quiescent_Scatter (hScatter := hScatter)
    ∧ quiescent_ScatterIdeal (hScatterIdeal := hScatterIdeal)
    ∧ quiescent_ScatterRefIdeal (hScatterRefIdeal := hScatterRefIdeal)
    ∧ quiescent_Update (hUpdate := hUpdate)
    ∧ quiescent_UpdateIdeal (hUpdateIdeal := hUpdateIdeal)
    ∧ quiescent_UpdateRefIdeal (hUpdateRefIdeal := hUpdateRefIdeal)
    ∧ quiescent_GatherRef (hGatherRef := hGatherRef)
    ∧ quiescent_ScatterRef (hScatterRef := hScatterRef)
    ∧ quiescent_Loss (hLoss := hLoss)
    ∧ quiescent_LossIdeal (hLossIdeal := hLossIdeal)
    ∧ quiescent_LossRefIdeal (hLossRefIdeal := hLossRefIdeal)
    ∧ quiescent_GradX (hGradX := hGradX)
    ∧ quiescent_GradXIdeal (hGradXIdeal := hGradXIdeal)
    ∧ quiescent_GradXRefIdeal (hGradXRefIdeal := hGradXRefIdeal)
    ∧ quiescent_Prenorm (hPrenorm := hPrenorm)
    ∧ quiescent_PrenormIdeal (hPrenormIdeal := hPrenormIdeal)
    ∧ quiescent_PrenormRefIdeal (hPrenormRefIdeal := hPrenormRefIdeal)
    ∧ quiescent_InProj (hInProj := hInProj)
    ∧ quiescent_InProjIdeal (hInProjIdeal := hInProjIdeal)
    ∧ quiescent_InProjRefIdeal (hInProjRefIdeal := hInProjRefIdeal)
    ∧ quiescent_Norm2 (hNorm2 := hNorm2)
    ∧ quiescent_Norm2Ideal (hNorm2Ideal := hNorm2Ideal)
    ∧ quiescent_Norm2RefIdeal (hNorm2RefIdeal := hNorm2RefIdeal)
    ∧ quiescent_FfnIn (hFfnIn := hFfnIn)
    ∧ quiescent_FfnInIdeal (hFfnInIdeal := hFfnInIdeal)
    ∧ quiescent_FfnInRefIdeal (hFfnInRefIdeal := hFfnInRefIdeal)
    ∧ quiescent_Swiglu (hSwiglu := hSwiglu)
    ∧ quiescent_SwigluIdeal (hSwigluIdeal := hSwigluIdeal)
    ∧ quiescent_SwigluRefIdeal (hSwigluRefIdeal := hSwigluRefIdeal)
    ∧ quiescent_FfnOut (hFfnOut := hFfnOut)
    ∧ quiescent_FfnOutIdeal (hFfnOutIdeal := hFfnOutIdeal)
    ∧ quiescent_FfnOutRefIdeal (hFfnOutRefIdeal := hFfnOutRefIdeal)
    ∧ quiescent_GradWIn (hGradWIn := hGradWIn)
    ∧ quiescent_GradWInIdeal (hGradWInIdeal := hGradWInIdeal)
    ∧ quiescent_GradWInRefIdeal (hGradWInRefIdeal := hGradWInRefIdeal)
    ∧ quiescent_GradA (hGradA := hGradA)
    ∧ quiescent_GradAIdeal (hGradAIdeal := hGradAIdeal)
    ∧ quiescent_GradARefIdeal (hGradARefIdeal := hGradARefIdeal)
    ∧ quiescent_Ada (hAda := hAda)
    ∧ quiescent_AdaIdeal (hAdaIdeal := hAdaIdeal)
    ∧ quiescent_AdaRefIdeal (hAdaRefIdeal := hAdaRefIdeal)
    ∧ quiescent_Merge (hMerge := hMerge)
    ∧ quiescent_MergeIdeal (hMergeIdeal := hMergeIdeal)
    ∧ quiescent_MergeRefIdeal (hMergeRefIdeal := hMergeRefIdeal)
    ∧ quiescent_MergeBwd (hMergeBwd := hMergeBwd)
    ∧ quiescent_MergeBwdIdeal (hMergeBwdIdeal := hMergeBwdIdeal)
    ∧ quiescent_MergeBwdRefIdeal (hMergeBwdRefIdeal := hMergeBwdRefIdeal)
    ∧ quiescent_SwigluBwd (hSwigluBwd := hSwigluBwd)
    ∧ quiescent_SwigluBwdIdeal (hSwigluBwdIdeal := hSwigluBwdIdeal)
    ∧ quiescent_SwigluBwdRefIdeal (hSwigluBwdRefIdeal := hSwigluBwdRefIdeal)
    ∧ quiescent_Norm2Bwd (hNorm2Bwd := hNorm2Bwd)
    ∧ quiescent_Norm2BwdIdeal (hNorm2BwdIdeal := hNorm2BwdIdeal)
    ∧ quiescent_Norm2BwdRefIdeal (hNorm2BwdRefIdeal := hNorm2BwdRefIdeal)
    ∧ quiescent_GradFfnOut (hGradFfnOut := hGradFfnOut)
    ∧ quiescent_GradFfnOutIdeal (hGradFfnOutIdeal := hGradFfnOutIdeal)
    ∧ quiescent_GradFfnOutRefIdeal (hGradFfnOutRefIdeal := hGradFfnOutRefIdeal)
    ∧ quiescent_GradGated (hGradGated := hGradGated)
    ∧ quiescent_GradGatedIdeal (hGradGatedIdeal := hGradGatedIdeal)
    ∧ quiescent_GradGatedRefIdeal (hGradGatedRefIdeal := hGradGatedRefIdeal)
    ∧ quiescent_GradFfnIn (hGradFfnIn := hGradFfnIn)
    ∧ quiescent_GradFfnInIdeal (hGradFfnInIdeal := hGradFfnInIdeal)
    ∧ quiescent_GradFfnInRefIdeal (hGradFfnInRefIdeal := hGradFfnInRefIdeal)
    ∧ quiescent_GradNormed (hGradNormed := hGradNormed)
    ∧ quiescent_GradNormedIdeal (hGradNormedIdeal := hGradNormedIdeal)
    ∧ quiescent_GradNormedRefIdeal (hGradNormedRefIdeal := hGradNormedRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_BranchSsm (hBranchSsm := hBranchSsm)
    ∧ quiescent_BranchSsmIdeal (hBranchSsmIdeal := hBranchSsmIdeal)
    ∧ quiescent_BranchSsmRefIdeal (hBranchSsmRefIdeal := hBranchSsmRefIdeal)
    ∧ quiescent_GradWOut (hGradWOut := hGradWOut)
    ∧ quiescent_GradWOutIdeal (hGradWOutIdeal := hGradWOutIdeal)
    ∧ quiescent_GradWOutRefIdeal (hGradWOutRefIdeal := hGradWOutRefIdeal)
    ∧ quiescent_GradWSsm (hGradWSsm := hGradWSsm)
    ∧ quiescent_GradWSsmIdeal (hGradWSsmIdeal := hGradWSsmIdeal)
    ∧ quiescent_GradWSsmRefIdeal (hGradWSsmRefIdeal := hGradWSsmRefIdeal)
    ∧ quiescent_GradMerged (hGradMerged := hGradMerged)
    ∧ quiescent_GradMergedIdeal (hGradMergedIdeal := hGradMergedIdeal)
    ∧ quiescent_GradMergedRefIdeal (hGradMergedRefIdeal := hGradMergedRefIdeal)
    ∧ quiescent_GradSsm (hGradSsm := hGradSsm)
    ∧ quiescent_GradSsmIdeal (hGradSsmIdeal := hGradSsmIdeal)
    ∧ quiescent_GradSsmRefIdeal (hGradSsmRefIdeal := hGradSsmRefIdeal)
    ∧ quiescent_AdaBwd (hAdaBwd := hAdaBwd)
    ∧ quiescent_AdaBwdIdeal (hAdaBwdIdeal := hAdaBwdIdeal)
    ∧ quiescent_AdaBwdRefIdeal (hAdaBwdRefIdeal := hAdaBwdRefIdeal)
    ∧ preserves_Gather_GatherIdeal
    ∧ algebraic_GatherIdeal_GatherRefIdeal (hGatherIdeal := hGatherIdeal) (hGatherRefIdeal := hGatherRefIdeal)
    ∧ preserves_Scatter_ScatterIdeal
    ∧ algebraic_ScatterIdeal_ScatterRefIdeal (hScatterIdeal := hScatterIdeal) (hScatterRefIdeal := hScatterRefIdeal)
    ∧ preserves_Update_UpdateIdeal
    ∧ algebraic_UpdateIdeal_UpdateRefIdeal (hUpdateIdeal := hUpdateIdeal) (hUpdateRefIdeal := hUpdateRefIdeal)
    ∧ bitexact_Gather_GatherRef (hGather := hGather) (hGatherRef := hGatherRef)
    ∧ bitexact_Scatter_ScatterRef (hScatter := hScatter) (hScatterRef := hScatterRef)
    ∧ preserves_Loss_LossIdeal
    ∧ algebraic_LossIdeal_LossRefIdeal (hLossIdeal := hLossIdeal) (hLossRefIdeal := hLossRefIdeal)
    ∧ preserves_GradX_GradXIdeal
    ∧ algebraic_GradXIdeal_GradXRefIdeal (hGradXIdeal := hGradXIdeal) (hGradXRefIdeal := hGradXRefIdeal)
    ∧ preserves_Prenorm_PrenormIdeal
    ∧ algebraic_PrenormIdeal_PrenormRefIdeal (hPrenormIdeal := hPrenormIdeal) (hPrenormRefIdeal := hPrenormRefIdeal)
    ∧ preserves_InProj_InProjIdeal
    ∧ algebraic_InProjIdeal_InProjRefIdeal (hInProjIdeal := hInProjIdeal) (hInProjRefIdeal := hInProjRefIdeal)
    ∧ preserves_Norm2_Norm2Ideal
    ∧ algebraic_Norm2Ideal_Norm2RefIdeal (hNorm2Ideal := hNorm2Ideal) (hNorm2RefIdeal := hNorm2RefIdeal)
    ∧ preserves_FfnIn_FfnInIdeal
    ∧ algebraic_FfnInIdeal_FfnInRefIdeal (hFfnInIdeal := hFfnInIdeal) (hFfnInRefIdeal := hFfnInRefIdeal)
    ∧ preserves_Swiglu_SwigluIdeal
    ∧ algebraic_SwigluIdeal_SwigluRefIdeal (hSwigluIdeal := hSwigluIdeal) (hSwigluRefIdeal := hSwigluRefIdeal)
    ∧ preserves_FfnOut_FfnOutIdeal
    ∧ algebraic_FfnOutIdeal_FfnOutRefIdeal (hFfnOutIdeal := hFfnOutIdeal) (hFfnOutRefIdeal := hFfnOutRefIdeal)
    ∧ preserves_GradWIn_GradWInIdeal
    ∧ algebraic_GradWInIdeal_GradWInRefIdeal (hGradWInIdeal := hGradWInIdeal) (hGradWInRefIdeal := hGradWInRefIdeal)
    ∧ preserves_GradA_GradAIdeal
    ∧ algebraic_GradAIdeal_GradARefIdeal (hGradAIdeal := hGradAIdeal) (hGradARefIdeal := hGradARefIdeal)
    ∧ preserves_Ada_AdaIdeal
    ∧ algebraic_AdaIdeal_AdaRefIdeal (hAdaIdeal := hAdaIdeal) (hAdaRefIdeal := hAdaRefIdeal)
    ∧ preserves_Merge_MergeIdeal
    ∧ algebraic_MergeIdeal_MergeRefIdeal (hMergeIdeal := hMergeIdeal) (hMergeRefIdeal := hMergeRefIdeal)
    ∧ preserves_MergeBwd_MergeBwdIdeal
    ∧ algebraic_MergeBwdIdeal_MergeBwdRefIdeal (hMergeBwdIdeal := hMergeBwdIdeal) (hMergeBwdRefIdeal := hMergeBwdRefIdeal)
    ∧ preserves_SwigluBwd_SwigluBwdIdeal
    ∧ algebraic_SwigluBwdIdeal_SwigluBwdRefIdeal (hSwigluBwdIdeal := hSwigluBwdIdeal) (hSwigluBwdRefIdeal := hSwigluBwdRefIdeal)
    ∧ preserves_Norm2Bwd_Norm2BwdIdeal
    ∧ algebraic_Norm2BwdIdeal_Norm2BwdRefIdeal (hNorm2BwdIdeal := hNorm2BwdIdeal) (hNorm2BwdRefIdeal := hNorm2BwdRefIdeal)
    ∧ preserves_GradFfnOut_GradFfnOutIdeal
    ∧ algebraic_GradFfnOutIdeal_GradFfnOutRefIdeal (hGradFfnOutIdeal := hGradFfnOutIdeal) (hGradFfnOutRefIdeal := hGradFfnOutRefIdeal)
    ∧ preserves_GradGated_GradGatedIdeal
    ∧ algebraic_GradGatedIdeal_GradGatedRefIdeal (hGradGatedIdeal := hGradGatedIdeal) (hGradGatedRefIdeal := hGradGatedRefIdeal)
    ∧ preserves_GradFfnIn_GradFfnInIdeal
    ∧ algebraic_GradFfnInIdeal_GradFfnInRefIdeal (hGradFfnInIdeal := hGradFfnInIdeal) (hGradFfnInRefIdeal := hGradFfnInRefIdeal)
    ∧ preserves_GradNormed_GradNormedIdeal
    ∧ algebraic_GradNormedIdeal_GradNormedRefIdeal (hGradNormedIdeal := hGradNormedIdeal) (hGradNormedRefIdeal := hGradNormedRefIdeal)
    ∧ preserves_MixOut_MixOutIdeal
    ∧ algebraic_MixOutIdeal_MixOutRefIdeal (hMixOutIdeal := hMixOutIdeal) (hMixOutRefIdeal := hMixOutRefIdeal)
    ∧ preserves_BranchSsm_BranchSsmIdeal
    ∧ algebraic_BranchSsmIdeal_BranchSsmRefIdeal (hBranchSsmIdeal := hBranchSsmIdeal) (hBranchSsmRefIdeal := hBranchSsmRefIdeal)
    ∧ preserves_GradWOut_GradWOutIdeal
    ∧ algebraic_GradWOutIdeal_GradWOutRefIdeal (hGradWOutIdeal := hGradWOutIdeal) (hGradWOutRefIdeal := hGradWOutRefIdeal)
    ∧ preserves_GradWSsm_GradWSsmIdeal
    ∧ algebraic_GradWSsmIdeal_GradWSsmRefIdeal (hGradWSsmIdeal := hGradWSsmIdeal) (hGradWSsmRefIdeal := hGradWSsmRefIdeal)
    ∧ preserves_GradMerged_GradMergedIdeal
    ∧ algebraic_GradMergedIdeal_GradMergedRefIdeal (hGradMergedIdeal := hGradMergedIdeal) (hGradMergedRefIdeal := hGradMergedRefIdeal)
    ∧ preserves_GradSsm_GradSsmIdeal
    ∧ algebraic_GradSsmIdeal_GradSsmRefIdeal (hGradSsmIdeal := hGradSsmIdeal) (hGradSsmRefIdeal := hGradSsmRefIdeal)
    ∧ preserves_AdaBwd_AdaBwdIdeal
    ∧ algebraic_AdaBwdIdeal_AdaBwdRefIdeal (hAdaBwdIdeal := hAdaBwdIdeal) (hAdaBwdRefIdeal := hAdaBwdRefIdeal)
-- ==== Gather.lean ====
abbrev S7536x1024 : Shape := ⟨2, ![7536, 1024]⟩
abbrev S4x7536x1024 : Shape := ⟨3, ![4, 7536, 1024]⟩
abbrev S3 : Shape := ⟨1, ![3]⟩
abbrev S_ : Shape := ⟨0, ![]⟩
abbrev S1x7536x1024 : Shape := ⟨3, ![1, 7536, 1024]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S7536x1024, .bf16⟩
  | .hbm, ⟨1, _⟩ => ⟨S4x7536x1024, .bf16⟩
  | _, _ => ⟨S7536x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32 : BitVec 32 := 0#32
  let c0_i32_8 : BitVec 32 := 0#32
  ![v14.toNat, 0, 0]
def k0_dev1 (d0 : Dev nD) : Nat :=
  let c0_i32_12 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_11 : BitVec 32 := 4#32
  let v17 : BitVec 32 := Scalar.muli v9 c4_i32_11
  let v18 : BitVec 32 := Scalar.addi c0_i32_12 v17
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_13 : BitVec 32 := 2#32
  let v19 : BitVec 32 := Scalar.muli v5 c2_i32_13
  let v20 : BitVec 32 := Scalar.addi v18 v19
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_14 : BitVec 32 := 1#32
  let v21 : BitVec 32 := Scalar.muli v8 c1_i32_14
  let v22 : BitVec 32 := Scalar.addi v20 v21
  v22.toNat
def k0_dev2 (d0 : Dev nD) : Nat :=
  let c0_i32_20 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_19 : BitVec 32 := 4#32
  let v29 : BitVec 32 := Scalar.muli v2 c4_i32_19
  let v30 : BitVec 32 := Scalar.addi c0_i32_20 v29
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_21 : BitVec 32 := 2#32
  let v31 : BitVec 32 := Scalar.muli v10 c2_i32_21
  let v32 : BitVec 32 := Scalar.addi v30 v31
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_22 : BitVec 32 := 1#32
  let v33 : BitVec 32 := Scalar.muli v8 c1_i32_22
  let v34 : BitVec 32 := Scalar.addi v32 v33
  v34.toNat
def k0_dev3 (d0 : Dev nD) : Nat :=
  let c0_i32_28 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_27 : BitVec 32 := 4#32
  let v41 : BitVec 32 := Scalar.muli v11 c4_i32_27
  let v42 : BitVec 32 := Scalar.addi c0_i32_28 v41
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_29 : BitVec 32 := 2#32
  let v43 : BitVec 32 := Scalar.muli v12 c2_i32_29
  let v44 : BitVec 32 := Scalar.addi v42 v43
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_30 : BitVec 32 := 1#32
  let v45 : BitVec 32 := Scalar.muli v8 c1_i32_30
  let v46 : BitVec 32 := Scalar.addi v44 v45
  v46.toNat
-- ==== Scatter.lean ====
abbrev S4x7536x1024 : Shape := ⟨3, ![4, 7536, 1024]⟩
abbrev S3 : Shape := ⟨1, ![3]⟩
abbrev S_ : Shape := ⟨0, ![]⟩
abbrev S1x7536x1024 : Shape := ⟨3, ![1, 7536, 1024]⟩
abbrev S7536x1024 : Shape := ⟨2, ![7536, 1024]⟩
abbrev S1 : Shape := ⟨1, ![1]⟩
abbrev S4x16x1024 : Shape := ⟨3, ![4, 16, 1024]⟩
abbrev S16x1024 : Shape := ⟨2, ![16, 1024]⟩
abbrev S1x16x1024 : Shape := ⟨3, ![1, 16, 1024]⟩

abbrev nBuf : Space → Nat
  | .hbm => 3
  | .vmem => 4
  | .smem => 0
  | _ => 0

abbrev bufTy : (tb : Table) → Fin (tcTables nBuf tb) → BufTy
  | .hbm, ⟨0, _⟩ => ⟨S4x7536x1024, .f32⟩
  | .hbm, ⟨1, _⟩ => ⟨S4x7536x1024, .f32⟩
  | .hbm, ⟨2, _⟩ => ⟨S7536x1024, .f32⟩
  | .local _ .vmem, ⟨0, _⟩ => ⟨S4x16x1024, .f32⟩
  | .local _ .vmem, ⟨1, _⟩ => ⟨S4x16x1024, .f32⟩
  | .local _ .vmem, ⟨2, _⟩ => ⟨S16x1024, .f32⟩
  | .local _ .vmem, ⟨3, _⟩ => ⟨S16x1024, .f32⟩
  | _, _ => ⟨S4x7536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_v1 : Ref sig .tc := ⟨.hbm, 1, rfl⟩
abbrev main_v2 : Ref sig .tc := ⟨.hbm, 2, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_sem0_0 : DmaSem sig := 7
abbrev cc1_sem0_1 : DmaSem sig := 8
abbrev cc1_sem1_0 : DmaSem sig := 9
abbrev cc1_sem1_1 : DmaSem sig := 10

abbrev nD : Nat := 8
abbrev τ : Topo := Topo.v7x

variable {F : FTy → Type} [FloatOps F]

abbrev grid0 : Pipeline.Grid := .none

def k0_off1 (d0 : Dev nD) : Fin 3 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32 : BitVec 32 := 0#32
  let c0_i32_8 : BitVec 32 := 0#32
  ![v14.toNat, 0, 0]
def k0_off2 (d0 : Dev nD) : Fin 3 → Nat :=
  let c2_i32_11 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v19 : BitVec 32 := Scalar.muli c2_i32_11 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.addi v19 v5
  let c0_i32_22 : BitVec 32 := 0#32
  let c0_i32_23 : BitVec 32 := 0#32
  ![v20.toNat, 0, 0]
def k0_dev1 (d0 : Dev nD) : Nat :=
  let c0_i32_17 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_16 : BitVec 32 := 4#32
  let v25 : BitVec 32 := Scalar.muli v9 c4_i32_16
  let v26 : BitVec 32 := Scalar.addi c0_i32_17 v25
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_18 : BitVec 32 := 2#32
  let v27 : BitVec 32 := Scalar.muli v5 c2_i32_18
  let v28 : BitVec 32 := Scalar.addi v26 v27
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_19 : BitVec 32 := 1#32
  let v29 : BitVec 32 := Scalar.muli v8 c1_i32_19
  let v30 : BitVec 32 := Scalar.addi v28 v29
  v30.toNat
def k0_off3 (d0 : Dev nD) : Fin 3 → Nat :=
  let c2_i32_12 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.muli c2_i32_12 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v22 : BitVec 32 := Scalar.addi v21 v10
  let c0_i32_32 : BitVec 32 := 0#32
  let c0_i32_33 : BitVec 32 := 0#32
  ![v22.toNat, 0, 0]
def k0_dev2 (d0 : Dev nD) : Nat :=
  let c0_i32_27 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_26 : BitVec 32 := 4#32
  let v39 : BitVec 32 := Scalar.muli v2 c4_i32_26
  let v40 : BitVec 32 := Scalar.addi c0_i32_27 v39
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_28 : BitVec 32 := 2#32
  let v41 : BitVec 32 := Scalar.muli v10 c2_i32_28
  let v42 : BitVec 32 := Scalar.addi v40 v41
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_29 : BitVec 32 := 1#32
  let v43 : BitVec 32 := Scalar.muli v8 c1_i32_29
  let v44 : BitVec 32 := Scalar.addi v42 v43
  v44.toNat
def k0_off4 (d0 : Dev nD) : Fin 3 → Nat :=
  let c2_i32_13 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v23 : BitVec 32 := Scalar.muli c2_i32_13 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v24 : BitVec 32 := Scalar.addi v23 v12
  let c0_i32_42 : BitVec 32 := 0#32
  let c0_i32_43 : BitVec 32 := 0#32
  ![v24.toNat, 0, 0]
def k0_dev3 (d0 : Dev nD) : Nat :=
  let c0_i32_37 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_36 : BitVec 32 := 4#32
  let v53 : BitVec 32 := Scalar.muli v11 c4_i32_36
  let v54 : BitVec 32 := Scalar.addi c0_i32_37 v53
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_38 : BitVec 32 := 2#32
  let v55 : BitVec 32 := Scalar.muli v12 c2_i32_38
  let v56 : BitVec 32 := Scalar.addi v54 v55
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_39 : BitVec 32 := 1#32
  let v57 : BitVec 32 := Scalar.muli v8 c1_i32_39
  let v58 : BitVec 32 := Scalar.addi v56 v57
  v58.toNat
abbrev grid1 : Pipeline.Grid := ⟨1, ![471], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4x16x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]
-- ==== Update.lean ====
abbrev S7536x1024 : Shape := ⟨2, ![7536, 1024]⟩
abbrev S_ : Shape := ⟨0, ![]⟩
abbrev S16x1024 : Shape := ⟨2, ![16, 1024]⟩

abbrev nBuf : Space → Nat
  | .hbm => 9
  | .vmem => 18
  | .smem => 0
  | _ => 0

abbrev bufTy : (tb : Table) → Fin (tcTables nBuf tb) → BufTy
  | .hbm, ⟨0, _⟩ => ⟨S7536x1024, .f32⟩
  | .hbm, ⟨1, _⟩ => ⟨S7536x1024, .f32⟩
  | .hbm, ⟨2, _⟩ => ⟨S7536x1024, .f32⟩
  | .hbm, ⟨3, _⟩ => ⟨S7536x1024, .f32⟩
  | .hbm, ⟨4, _⟩ => ⟨S7536x1024, .f32⟩
  | .hbm, ⟨5, _⟩ => ⟨S7536x1024, .f32⟩
  | .hbm, ⟨6, _⟩ => ⟨S7536x1024, .f32⟩
  | .hbm, ⟨7, _⟩ => ⟨S7536x1024, .f32⟩
  | .hbm, ⟨8, _⟩ => ⟨S7536x1024, .f32⟩
  | .local _ .vmem, ⟨0, _⟩ => ⟨S16x1024, .f32⟩
  | .local _ .vmem, ⟨1, _⟩ => ⟨S16x1024, .f32⟩
  | .local _ .vmem, ⟨2, _⟩ => ⟨S16x1024, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S16x1024, .f32⟩
  | .local _ .vmem, ⟨7, _⟩ => ⟨S16x1024, .f32⟩
  | .local _ .vmem, ⟨8, _⟩ => ⟨S16x1024, .f32⟩
  | .local _ .vmem, ⟨9, _⟩ => ⟨S16x1024, .f32⟩
  | .local _ .vmem, ⟨10, _⟩ => ⟨S16x1024, .f32⟩
  | .local _ .vmem, ⟨11, _⟩ => ⟨S16x1024, .f32⟩
  | .local _ .vmem, ⟨12, _⟩ => ⟨S16x1024, .f32⟩
  | .local _ .vmem, ⟨13, _⟩ => ⟨S16x1024, .f32⟩
  | .local _ .vmem, ⟨14, _⟩ => ⟨S16x1024, .f32⟩
  | .local _ .vmem, ⟨15, _⟩ => ⟨S16x1024, .f32⟩
  | .local _ .vmem, ⟨16, _⟩ => ⟨S16x1024, .f32⟩
  | .local _ .vmem, ⟨17, _⟩ => ⟨S16x1024, .f32⟩
  | _, _ => ⟨S7536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg4_1 : Ref sig .tc := ⟨.vmem, 9, rfl⟩
abbrev cc1_stg5_0 : Ref sig .tc := ⟨.vmem, 10, rfl⟩
abbrev cc1_stg5_1 : Ref sig .tc := ⟨.vmem, 11, rfl⟩
abbrev cc1_stg6_0 : Ref sig .tc := ⟨.vmem, 12, rfl⟩
abbrev cc1_stg6_1 : Ref sig .tc := ⟨.vmem, 13, rfl⟩
abbrev cc1_stg7_0 : Ref sig .tc := ⟨.vmem, 14, rfl⟩
abbrev cc1_stg7_1 : Ref sig .tc := ⟨.vmem, 15, rfl⟩
abbrev cc1_stg8_0 : Ref sig .tc := ⟨.vmem, 16, rfl⟩
abbrev cc1_stg8_1 : Ref sig .tc := ⟨.vmem, 17, rfl⟩
abbrev cc1_sem0_0 : DmaSem sig := 2
abbrev cc1_sem0_1 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc1_sem3_1 : DmaSem sig := 9
abbrev cc1_sem4_0 : DmaSem sig := 10
abbrev cc1_sem4_1 : DmaSem sig := 11
abbrev cc1_sem5_0 : DmaSem sig := 12
abbrev cc1_sem5_1 : DmaSem sig := 13
abbrev cc1_sem6_0 : DmaSem sig := 14
abbrev cc1_sem6_1 : DmaSem sig := 15
abbrev cc1_sem7_0 : DmaSem sig := 16
abbrev cc1_sem7_1 : DmaSem sig := 17
abbrev cc1_sem8_0 : DmaSem sig := 18
abbrev cc1_sem8_1 : DmaSem sig := 19

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_4 : BitVec 32 := 4#32
  let v10 : BitVec 32 := Scalar.muli v2 c4_i32_4
  let v11 : BitVec 32 := Scalar.addi c0_i32 v10
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_5 : BitVec 32 := 2#32
  let v12 : BitVec 32 := Scalar.muli v5 c2_i32_5
  let v13 : BitVec 32 := Scalar.addi v11 v12
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_6 : BitVec 32 := 1#32
  let v14 : BitVec 32 := Scalar.muli v9 c1_i32_6
  let v15 : BitVec 32 := Scalar.addi v13 v14
  v15.toNat
abbrev grid1 : Pipeline.Grid := ⟨1, ![471], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S16x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S16x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S16x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S16x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S16x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S16x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S16x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]
-- ==== UpdateRefIdeal.lean ====
abbrev S30144x1024 : Shape := ⟨2, ![30144, 1024]⟩
abbrev S60288x1024 : Shape := ⟨2, ![60288, 1024]⟩
abbrev S4x2x7536x1024 : Shape := ⟨4, ![4, 2, 7536, 1024]⟩
abbrev S4x1x7536x1024 : Shape := ⟨4, ![4, 1, 7536, 1024]⟩
abbrev S4x7536x1024 : Shape := ⟨3, ![4, 7536, 1024]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S30144x1024, .f32⟩
  | .hbm, ⟨1, _⟩ => ⟨S30144x1024, .f32⟩
  | .hbm, ⟨2, _⟩ => ⟨S30144x1024, .f32⟩
  | .hbm, ⟨3, _⟩ => ⟨S60288x1024, .f32⟩
  | .hbm, ⟨4, _⟩ => ⟨S4x2x7536x1024, .f32⟩
  | .hbm, ⟨5, _⟩ => ⟨S4x1x7536x1024, .f32⟩
  | .hbm, ⟨6, _⟩ => ⟨S4x7536x1024, .f32⟩
  | .hbm, ⟨7, _⟩ => ⟨S4x1x7536x1024, .f32⟩
  | .hbm, ⟨8, _⟩ => ⟨S4x7536x1024, .f32⟩
  | .hbm, ⟨9, _⟩ => ⟨S4x7536x1024, .f32⟩
  | .hbm, ⟨10, _⟩ => ⟨S30144x1024, .f32⟩
  | .hbm, ⟨11, _⟩ => ⟨S_, .f32⟩
  | .hbm, ⟨12, _⟩ => ⟨S30144x1024, .f32⟩
  | .hbm, ⟨13, _⟩ => ⟨S30144x1024, .f32⟩
  | .hbm, ⟨14, _⟩ => ⟨S_, .f32⟩
  | .hbm, ⟨15, _⟩ => ⟨S30144x1024, .f32⟩
  | .hbm, ⟨16, _⟩ => ⟨S30144x1024, .f32⟩
  | .hbm, ⟨17, _⟩ => ⟨S30144x1024, .f32⟩
  | .hbm, ⟨18, _⟩ => ⟨S_, .f32⟩
  | .hbm, ⟨19, _⟩ => ⟨S30144x1024, .f32⟩
  | .hbm, ⟨20, _⟩ => ⟨S30144x1024, .f32⟩
  | .hbm, ⟨21, _⟩ => ⟨S30144x1024, .f32⟩
  | .hbm, ⟨22, _⟩ => ⟨S_, .f32⟩
  | .hbm, ⟨23, _⟩ => ⟨S30144x1024, .f32⟩
  | .hbm, ⟨24, _⟩ => ⟨S30144x1024, .f32⟩
  | .hbm, ⟨25, _⟩ => ⟨S30144x1024, .f32⟩
  | .hbm, ⟨26, _⟩ => ⟨S_, .f32⟩
  | .hbm, ⟨27, _⟩ => ⟨S30144x1024, .f32⟩
  | .hbm, ⟨28, _⟩ => ⟨S30144x1024, .f32⟩
  | .hbm, ⟨29, _⟩ => ⟨S_, .f32⟩
  | .hbm, ⟨30, _⟩ => ⟨S30144x1024, .f32⟩
  | .hbm, ⟨31, _⟩ => ⟨S30144x1024, .f32⟩
  | .hbm, ⟨32, _⟩ => ⟨S30144x1024, .f32⟩
  | .hbm, ⟨33, _⟩ => ⟨S_, .f32⟩
  | .hbm, ⟨34, _⟩ => ⟨S30144x1024, .f32⟩
  | .hbm, ⟨35, _⟩ => ⟨S30144x1024, .f32⟩
  | .hbm, ⟨36, _⟩ => ⟨S30144x1024, .f32⟩
  | .hbm, ⟨37, _⟩ => ⟨S_, .f32⟩
  | .hbm, ⟨38, _⟩ => ⟨S30144x1024, .f32⟩
  | .hbm, ⟨39, _⟩ => ⟨S30144x1024, .f32⟩
  | .hbm, ⟨40, _⟩ => ⟨S30144x1024, .f32⟩
  | .hbm, ⟨41, _⟩ => ⟨S_, .f32⟩
  | .hbm, ⟨42, _⟩ => ⟨S30144x1024, .f32⟩
  | .hbm, ⟨43, _⟩ => ⟨S30144x1024, .f32⟩
  | _, _ => ⟨S30144x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== GatherRef.lean ====
abbrev S30144x1024 : Shape := ⟨2, ![30144, 1024]⟩
abbrev S4x7536x1024 : Shape := ⟨3, ![4, 7536, 1024]⟩

abbrev nBuf : Space → Nat
  | .hbm => 2
  | .vmem => 0
  | .smem => 0
  | _ => 0

abbrev bufTy : (tb : Table) → Fin (tcTables nBuf tb) → BufTy
  | .hbm, ⟨0, _⟩ => ⟨S30144x1024, .bf16⟩
  | .hbm, ⟨1, _⟩ => ⟨S4x7536x1024, .bf16⟩
  | _, _ => ⟨S30144x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== ScatterRef.lean ====
abbrev S32x7536x1024 : Shape := ⟨3, ![32, 7536, 1024]⟩
abbrev S4x2x4x7536x1024 : Shape := ⟨5, ![4, 2, 4, 7536, 1024]⟩
abbrev S1x2x4x7536x1024 : Shape := ⟨5, ![1, 2, 4, 7536, 1024]⟩
abbrev S2x4x7536x1024 : Shape := ⟨4, ![2, 4, 7536, 1024]⟩
abbrev S4x2x7536x1024 : Shape := ⟨4, ![4, 2, 7536, 1024]⟩
abbrev S60288x1024 : Shape := ⟨2, ![60288, 1024]⟩

abbrev nBuf : Space → Nat
  | .hbm => 15
  | .vmem => 0
  | .smem => 0
  | _ => 0

abbrev bufTy : (tb : Table) → Fin (tcTables nBuf tb) → BufTy
  | .hbm, ⟨0, _⟩ => ⟨S32x7536x1024, .f32⟩
  | .hbm, ⟨1, _⟩ => ⟨S4x2x4x7536x1024, .f32⟩
  | .hbm, ⟨2, _⟩ => ⟨S1x2x4x7536x1024, .f32⟩
  | .hbm, ⟨3, _⟩ => ⟨S2x4x7536x1024, .f32⟩
  | .hbm, ⟨4, _⟩ => ⟨S1x2x4x7536x1024, .f32⟩
  | .hbm, ⟨5, _⟩ => ⟨S2x4x7536x1024, .f32⟩
  | .hbm, ⟨6, _⟩ => ⟨S2x4x7536x1024, .f32⟩
  | .hbm, ⟨7, _⟩ => ⟨S1x2x4x7536x1024, .f32⟩
  | .hbm, ⟨8, _⟩ => ⟨S2x4x7536x1024, .f32⟩
  | .hbm, ⟨9, _⟩ => ⟨S2x4x7536x1024, .f32⟩
  | .hbm, ⟨10, _⟩ => ⟨S1x2x4x7536x1024, .f32⟩
  | .hbm, ⟨11, _⟩ => ⟨S2x4x7536x1024, .f32⟩
  | .hbm, ⟨12, _⟩ => ⟨S2x4x7536x1024, .f32⟩
  | .hbm, ⟨13, _⟩ => ⟨S4x2x7536x1024, .f32⟩
  | .hbm, ⟨14, _⟩ => ⟨S60288x1024, .f32⟩
  | _, _ => ⟨S32x7536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩

abbrev nD : Nat := 1
abbrev τ : Topo := Topo.v7x

variable {F : FTy → Type} [FloatOps F]
-- ==== Loss.lean ====
abbrev S8448x1024 : Shape := ⟨2, ![8448, 1024]⟩
abbrev S8x6144 : Shape := ⟨2, ![8, 6144]⟩
abbrev S1x1024 : Shape := ⟨2, ![1, 1024]⟩
abbrev S8192x1024 : Shape := ⟨2, ![8192, 1024]⟩
abbrev S8x128 : Shape := ⟨2, ![8, 128]⟩
abbrev S8x1024 : Shape := ⟨2, ![8, 1024]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1x1x1 : Shape := ⟨3, ![1, 1, 1]⟩
abbrev S1024 : Shape := ⟨1, ![1024]⟩
abbrev S7x1024 : Shape := ⟨2, ![7, 1024]⟩

abbrev nBuf : Space → Nat
  | .hbm => 10
  | .vmem => 15
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S8x6144, .f32⟩
  | .hbm, ⟨3, _⟩ => ⟨S1x1024, .f32⟩
  | .hbm, ⟨4, _⟩ => ⟨S8192x1024, .f32⟩
  | .hbm, ⟨5, _⟩ => ⟨S8x128, .f32⟩
  | .hbm, ⟨6, _⟩ => ⟨S8448x1024, .f32⟩
  | .hbm, ⟨7, _⟩ => ⟨S8448x1024, .bf16⟩
  | .hbm, ⟨8, _⟩ => ⟨S8x1024, .f32⟩
  | .hbm, ⟨9, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S8x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S8x128, .f32⟩
  | .local _ .vmem, ⟨9, _⟩ => ⟨S256x1024, .f32⟩
  | .local _ .vmem, ⟨10, _⟩ => ⟨S256x1024, .f32⟩
  | .local _ .vmem, ⟨11, _⟩ => ⟨S256x1024, .bf16⟩
  | .local _ .vmem, ⟨12, _⟩ => ⟨S256x1024, .bf16⟩
  | .local _ .vmem, ⟨13, _⟩ => ⟨S8x1024, .f32⟩
  | .local _ .vmem, ⟨14, _⟩ => ⟨S1x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c0_i32 : BitVec 32 := 0#32
  let v90 : BitVec 1 := Scalar.cmpi .eq arg0 c0_i32
  let v91 : BitVec 32 := Scalar.extui v90
  let c0_i32_34 : BitVec 32 := 0#32
  let v92 : BitVec 1 := Scalar.cmpi .ne v91 c0_i32_34
  v92

def k0_cond2 (i : grid0.Coords) : BitVec 1 :=
  let arg0 : BitVec 32 := BitVec.ofNat 32 (i 0).val
  let c0_i32_35 : BitVec 32 := 0#32
  let v93 : BitVec 1 := Scalar.cmpi .sgt arg0 c0_i32_35
  let v94 : BitVec 32 := Scalar.extui v93
  let c0_i32_36 : BitVec 32 := 0#32
  let v95 : BitVec 1 := Scalar.cmpi .ne v94 c0_i32_36
  v95

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c5_i32 : BitVec 32 := 5#32
  let c0_i32_0 : BitVec 32 := 0#32
  ![c0_i32.toNat, c5_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== LossRefIdeal.lean ====
abbrev S8448x1024 : Shape := ⟨2, ![8448, 1024]⟩
abbrev S8x6144 : Shape := ⟨2, ![8, 6144]⟩
abbrev S1x1024 : Shape := ⟨2, ![1, 1024]⟩
abbrev S8192x1024 : Shape := ⟨2, ![8192, 1024]⟩
abbrev S8x1024 : Shape := ⟨2, ![8, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S8x128 : Shape := ⟨2, ![8, 128]⟩

abbrev nBuf : Space → Nat
  | .hbm => 91
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S8x6144, .f32⟩
  | .hbm, ⟨3, _⟩ => ⟨S1x1024, .f32⟩
  | .hbm, ⟨4, _⟩ => ⟨S8192x1024, .f32⟩
  | .hbm, ⟨5, _⟩ => ⟨S8x1024, .f32⟩
  | .hbm, ⟨6, _⟩ => ⟨S8192x1024, .f32⟩
  | .hbm, ⟨7, _⟩ => ⟨S1x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S_, .f32⟩
  | .hbm, ⟨39, _⟩ => ⟨S8192, .f32⟩
  | .hbm, ⟨40, _⟩ => ⟨S8192, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S8192, .f32⟩
  | .hbm, ⟨49, _⟩ => ⟨S_, .f32⟩
  | .hbm, ⟨50, _⟩ => ⟨S8192, .f32⟩
  | .hbm, ⟨51, _⟩ => ⟨S8192, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S_, .f32⟩
  | .hbm, ⟨62, _⟩ => ⟨S8192, .f32⟩
  | .hbm, ⟨63, _⟩ => ⟨S8192x1, .f32⟩
  | .hbm, ⟨64, _⟩ => ⟨S8192x1024, .f32⟩
  | .hbm, ⟨65, _⟩ => ⟨S8192x1024, .f32⟩
  | .hbm, ⟨66, _⟩ => ⟨S8192x1, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S_, .f32⟩
  | .hbm, ⟨71, _⟩ => ⟨S8192, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S_, .f32⟩
  | .hbm, ⟨81, _⟩ => ⟨S1024, .f32⟩
  | .hbm, ⟨82, _⟩ => ⟨S1x1024, .f32⟩
  | .hbm, ⟨83, _⟩ => ⟨S_, .f32⟩
  | .hbm, ⟨84, _⟩ => ⟨S8448x1024, .f32⟩
  | .hbm, ⟨85, _⟩ => ⟨S_, .f32⟩
  | .hbm, ⟨86, _⟩ => ⟨S8x1024, .f32⟩
  | .hbm, ⟨87, _⟩ => ⟨S_, .f32⟩
  | .hbm, ⟨88, _⟩ => ⟨S8448x1024, .f32⟩
  | .hbm, ⟨89, _⟩ => ⟨S8x128, .f32⟩
  | .hbm, ⟨90, _⟩ => ⟨S8448x1024, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_cst_8 : Ref sig .tc := ⟨.hbm, 45, rfl⟩
abbrev main_cst_9 : Ref sig .tc := ⟨.hbm, 46, rfl⟩
abbrev main_v31 : Ref sig .tc := ⟨.hbm, 47, rfl⟩
abbrev main_v32 : Ref sig .tc := ⟨.hbm, 48, rfl⟩
abbrev main_cst_10 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_11 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_12 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_13 : Ref sig .tc := ⟨.hbm, 67, rfl⟩
abbrev main_v48 : Ref sig .tc := ⟨.hbm, 68, rfl⟩
abbrev main_v49 : Ref sig .tc := ⟨.hbm, 69, rfl⟩
abbrev main_cst_14 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_15 : Ref sig .tc := ⟨.hbm, 80, rfl⟩
abbrev main_v59 : Ref sig .tc := ⟨.hbm, 81, rfl⟩
abbrev main_v60 : Ref sig .tc := ⟨.hbm, 82, rfl⟩
abbrev main_cst_16 : Ref sig .tc := ⟨.hbm, 83, rfl⟩
abbrev main_v61 : Ref sig .tc := ⟨.hbm, 84, rfl⟩
abbrev main_cst_17 : Ref sig .tc := ⟨.hbm, 85, rfl⟩
abbrev main_v62 : Ref sig .tc := ⟨.hbm, 86, rfl⟩
abbrev main_cst_18 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩

abbrev nD : Nat := 1
abbrev τ : Topo := Topo.v7x

variable {F : FTy → Type} [FloatOps F]
-- ==== GradX.lean ====
abbrev S8448x1024 : Shape := ⟨2, ![8448, 1024]⟩
abbrev S1x1024 : Shape := ⟨2, ![1, 1024]⟩
abbrev S8x6144 : Shape := ⟨2, ![8, 6144]⟩
abbrev S8192x1024 : Shape := ⟨2, ![8192, 1024]⟩
abbrev S8x1024 : Shape := ⟨2, ![8, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩
abbrev S7x1024 : Shape := ⟨2, ![7, 1024]⟩
abbrev S2x1024 : Shape := ⟨2, ![2, 1024]⟩
abbrev S6x1024 : Shape := ⟨2, ![6, 1024]⟩

abbrev nBuf : Space → Nat
  | .hbm => 9
  | .vmem => 14
  | .smem => 0
  | _ => 0

abbrev bufTy : (tb : Table) → Fin (tcTables nBuf tb) → BufTy
  | .hbm, ⟨0, _⟩ => ⟨S8448x1024, .f32⟩
  | .hbm, ⟨1, _⟩ => ⟨S1x1024, .f32⟩
  | .hbm, ⟨2, _⟩ => ⟨S8x6144, .f32⟩
  | .hbm, ⟨3, _⟩ => ⟨S8448x1024, .f32⟩
  | .hbm, ⟨4, _⟩ => ⟨S8448x1024, .f32⟩
  | .hbm, ⟨5, _⟩ => ⟨S8192x1024, .f32⟩
  | .hbm, ⟨6, _⟩ => ⟨S1x1024, .f32⟩
  | .hbm, ⟨7, _⟩ => ⟨S8x1024, .f32⟩
  | .hbm, ⟨8, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S8x1024, .f32⟩
  | .local _ .vmem, ⟨4, _⟩ => ⟨S8x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S1x1024, .f32⟩
  | .local _ .vmem, ⟨12, _⟩ => ⟨S8x1024, .f32⟩
  | .local _ .vmem, ⟨13, _⟩ => ⟨S8x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨2, ![1, 33], ![false, false]⟩

def k0_cond1 (i : grid0.Coords) : BitVec 1 :=
  let arg1 : BitVec 32 := BitVec.ofNat 32 (i 1).val
  let c0_i32 : BitVec 32 := 0#32
  let v76 : BitVec 1 := Scalar.cmpi .eq arg1 c0_i32
  let v77 : BitVec 32 := Scalar.extui v76
  let c0_i32_27 : BitVec 32 := 0#32
  let v78 : BitVec 1 := Scalar.cmpi .ne v77 c0_i32_27
  v78

def k0_cond2 (i : grid0.Coords) : BitVec 1 :=
  let arg1 : BitVec 32 := BitVec.ofNat 32 (i 1).val
  let c0_i32 : BitVec 32 := 0#32
  let v76 : BitVec 1 := Scalar.cmpi .eq arg1 c0_i32
  let v_true : BitVec 1 := 1#1
  let v79 : BitVec 1 := Scalar.xori v76 v_true
  let v80 : BitVec 32 := Scalar.extui v79
  let c0_i32_28 : BitVec 32 := 0#32
  let v81 : BitVec 1 := Scalar.cmpi .ne v80 c0_i32_28
  v81

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]
-- ==== GradXRefIdeal.lean ====
abbrev S8448x1024 : Shape := ⟨2, ![8448, 1024]⟩
abbrev S1x1024 : Shape := ⟨2, ![1, 1024]⟩
abbrev S8x6144 : Shape := ⟨2, ![8, 6144]⟩
abbrev S8x1024 : Shape := ⟨2, ![8, 1024]⟩
abbrev S_ : Shape := ⟨0, ![]⟩
abbrev S8448 : Shape := ⟨1, ![8448]⟩
abbrev S8448x1 : Shape := ⟨2, ![8448, 1]⟩
abbrev S1024 : Shape := ⟨1, ![1024]⟩
abbrev S8192x1024 : Shape := ⟨2, ![8192, 1024]⟩

abbrev nBuf : Space → Nat
  | .hbm => 108
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1x1024, .f32⟩
  | .hbm, ⟨2, _⟩ => ⟨S8x6144, .f32⟩
  | .hbm, ⟨3, _⟩ => ⟨S8448x1024, .f32⟩
  | .hbm, ⟨4, _⟩ => ⟨S8448x1024, .f32⟩
  | .hbm, ⟨5, _⟩ => ⟨S8x1024, .f32⟩
  | .hbm, ⟨6, _⟩ => ⟨S8x1024, .f32⟩
  | .hbm, ⟨7, _⟩ => ⟨S8448x1024, .f32⟩
  | .hbm, ⟨8, _⟩ => ⟨S_, .f32⟩
  | .hbm, ⟨9, _⟩ => ⟨S8448, .f32⟩
  | .hbm, ⟨10, _⟩ => ⟨S8448x1, .f32⟩
  | .hbm, ⟨11, _⟩ => ⟨S_, .f32⟩
  | .hbm, ⟨12, _⟩ => ⟨S8448x1, .f32⟩
  | .hbm, ⟨13, _⟩ => ⟨S8448x1, .f32⟩
  | .hbm, ⟨14, _⟩ => ⟨S_, .f32⟩
  | .hbm, ⟨15, _⟩ => ⟨S8448x1, .f32⟩
  | .hbm, ⟨16, _⟩ => ⟨S8448x1, .f32⟩
  | .hbm, ⟨17, _⟩ => ⟨S8448x1, .f32⟩
  | .hbm, ⟨18, _⟩ => ⟨S8448x1, .f32⟩
  | .hbm, ⟨19, _⟩ => ⟨S_, .f32⟩
  | .hbm, ⟨20, _⟩ => ⟨S8448x1, .f32⟩
  | .hbm, ⟨21, _⟩ => ⟨S8448x1, .f32⟩
  | .hbm, ⟨22, _⟩ => ⟨S8448x1024, .f32⟩
  | .hbm, ⟨23, _⟩ => ⟨S8448x1024, .f32⟩
  | .hbm, ⟨24, _⟩ => ⟨S8448x1024, .f32⟩
  | .hbm, ⟨25, _⟩ => ⟨S8448x1024, .f32⟩
  | .hbm, ⟨26, _⟩ => ⟨S8448, .i32⟩
  | .hbm, ⟨27, _⟩ => ⟨S8448x1, .i32⟩
  | .hbm, ⟨28, _⟩ => ⟨S_, .i32⟩
  | .hbm, ⟨29, _⟩ => ⟨S8448x1, .i32⟩
  | .hbm, ⟨30, _⟩ => ⟨S8448x1, .i1⟩
  | .hbm, ⟨31, _⟩ => ⟨S1x1024, .f32⟩
  | .hbm, ⟨32, _⟩ => ⟨S1x1024, .f32⟩
  | .hbm, ⟨33, _⟩ => ⟨S8448x1024, .i1⟩
  | .hbm, ⟨34, _⟩ => ⟨S8448x1024, .f32⟩
  | .hbm, ⟨35, _⟩ => ⟨S8448x1024, .f32⟩
  | .hbm, ⟨36, _⟩ => ⟨S8448x1024, .f32⟩
  | .hbm, ⟨37, _⟩ => ⟨S_, .f32⟩
  | .hbm, ⟨38, _⟩ => ⟨S8448x1024, .f32⟩
  | .hbm, ⟨39, _⟩ => ⟨S8448x1024, .f32⟩
  | .hbm, ⟨40, _⟩ => ⟨S8448x1024, .f32⟩
  | .hbm, ⟨41, _⟩ => ⟨S1x1024, .f32⟩
  | .hbm, ⟨42, _⟩ => ⟨S1x1024, .f32⟩
  | .hbm, ⟨43, _⟩ => ⟨S8448x1024, .i1⟩
  | .hbm, ⟨44, _⟩ => ⟨S8448x1024, .f32⟩
  | .hbm, ⟨45, _⟩ => ⟨S8448x1024, .f32⟩
  | .hbm, ⟨46, _⟩ => ⟨S8448x1024, .f32⟩
  | .hbm, ⟨47, _⟩ => ⟨S8448x1024, .f32⟩
  | .hbm, ⟨48, _⟩ => ⟨S8448x1024, .f32⟩
  | .hbm, ⟨49, _⟩ => ⟨S8448x1024, .f32⟩
  | .hbm, ⟨50, _⟩ => ⟨S_, .f32⟩
  | .hbm, ⟨51, _⟩ => ⟨S8448x1024, .f32⟩
  | .hbm, ⟨52, _⟩ => ⟨S8448x1024, .f32⟩
  | .hbm, ⟨53, _⟩ => ⟨S8448x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S_, .f32⟩
  | .hbm, ⟨61, _⟩ => ⟨S8x1024, .f32⟩
  | .hbm, ⟨62, _⟩ => ⟨S_, .f32⟩
  | .hbm, ⟨63, _⟩ => ⟨S8x1024, .f32⟩
  | .hbm, ⟨64, _⟩ => ⟨S8x1024, .f32⟩
  | .hbm, ⟨65, _⟩ => ⟨S8448x1024, .f32⟩
  | .hbm, ⟨66, _⟩ => ⟨S8448x1024, .f32⟩
  | .hbm, ⟨67, _⟩ => ⟨S_, .f32⟩
  | .hbm, ⟨68, _⟩ => ⟨S8448x1024, .f32⟩
  | .hbm, ⟨69, _⟩ => ⟨S8448x1024, .f32⟩
  | .hbm, ⟨70, _⟩ => ⟨S8448x1024, .f32⟩
  | .hbm, ⟨71, _⟩ => ⟨S_, .f32⟩
  | .hbm, ⟨72, _⟩ => ⟨S1024, .f32⟩
  | .hbm, ⟨73, _⟩ => ⟨S1x1024, .f32⟩
  | .hbm, ⟨74, _⟩ => ⟨S_, .f32⟩
  | .hbm, ⟨75, _⟩ => ⟨S1024, .f32⟩
  | .hbm, ⟨76, _⟩ => ⟨S1x1024, .f32⟩
  | .hbm, ⟨77, _⟩ => ⟨S_, .f32⟩
  | .hbm, ⟨78, _⟩ => ⟨S8x1024, .f32⟩
  | .hbm, ⟨79, _⟩ => ⟨S_, .f32⟩
  | .hbm, ⟨80, _⟩ => ⟨S8x1024, .f32⟩
  | .hbm, ⟨81, _⟩ => ⟨S8x1024, .f32⟩
  | .hbm, ⟨82, _⟩ => ⟨S8448x1024, .f32⟩
  | .hbm, ⟨83, _⟩ => ⟨S_, .f32⟩
  | .hbm, ⟨84, _⟩ => ⟨S1024, .f32⟩
  | .hbm, ⟨85, _⟩ => ⟨S1x1024, .f32⟩
  | .hbm, ⟨86, _⟩ => ⟨S8448x1024, .f32⟩
  | .hbm, ⟨87, _⟩ => ⟨S8448x1024, .f32⟩
  | .hbm, ⟨88, _⟩ => ⟨S8448x1024, .f32⟩
  | .hbm, ⟨89, _⟩ => ⟨S_, .f32⟩
  | .hbm, ⟨90, _⟩ => ⟨S8448, .f32⟩
  | .hbm, ⟨91, _⟩ => ⟨S8448x1, .f32⟩
  | .hbm, ⟨92, _⟩ => ⟨S8448x1024, .f32⟩
  | .hbm, ⟨93, _⟩ => ⟨S8448x1024, .f32⟩
  | .hbm, ⟨94, _⟩ => ⟨S8448x1, .f32⟩
  | .hbm, ⟨95, _⟩ => ⟨S_, .f32⟩
  | .hbm, ⟨96, _⟩ => ⟨S8448x1, .f32⟩
  | .hbm, ⟨97, _⟩ => ⟨S8448x1, .f32⟩
  | .hbm, ⟨98, _⟩ => ⟨S_, .f32⟩
  | .hbm, ⟨99, _⟩ => ⟨S8448, .f32⟩
  | .hbm, ⟨100, _⟩ => ⟨S8448x1024, .f32⟩
  | .hbm, ⟨101, _⟩ => ⟨S8448x1024, .f32⟩
  | .hbm, ⟨102, _⟩ => ⟨S8448x1024, .f32⟩
  | .hbm, ⟨103, _⟩ => ⟨S8448x1024, .f32⟩
  | .hbm, ⟨104, _⟩ => ⟨S8448x1024, .f32⟩
  | .hbm, ⟨105, _⟩ => ⟨S8192x1024, .f32⟩
  | .hbm, ⟨106, _⟩ => ⟨S8192x1024, .f32⟩
  | .hbm, ⟨107, _⟩ => ⟨S8192x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23_1 : Ref sig .tc := ⟨.hbm, 33, rfl⟩
abbrev main_call0_v1 : Ref sig .tc := ⟨.hbm, 34, rfl⟩
abbrev main_call0_v2 : Ref sig .tc := ⟨.hbm, 35, rfl⟩
abbrev main_v23_0 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29_1 : Ref sig .tc := ⟨.hbm, 43, rfl⟩
abbrev main_call1_v1 : Ref sig .tc := ⟨.hbm, 44, rfl⟩
abbrev main_call1_v2 : Ref sig .tc := ⟨.hbm, 45, rfl⟩
abbrev main_v29_0 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_call2_cst : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_call2_cst_0 : Ref sig .tc := ⟨.hbm, 54, rfl⟩
abbrev main_call2_v3 : Ref sig .tc := ⟨.hbm, 55, rfl⟩
abbrev main_v33_1 : Ref sig .tc := ⟨.hbm, 56, rfl⟩
abbrev main_call2_cst_1 : Ref sig .tc := ⟨.hbm, 57, rfl⟩
abbrev main_call2_v5 : Ref sig .tc := ⟨.hbm, 58, rfl⟩
abbrev main_v33_0 : Ref sig .tc := ⟨.hbm, 59, rfl⟩
abbrev main_cst_4 : Ref sig .tc := ⟨.hbm, 60, rfl⟩
abbrev main_v34 : Ref sig .tc := ⟨.hbm, 61, rfl⟩
abbrev main_cst_5 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_call3_cst : Ref sig .tc := ⟨.hbm, 67, rfl⟩
abbrev main_call3_v0 : Ref sig .tc := ⟨.hbm, 68, rfl⟩
abbrev main_call3_v1 : Ref sig .tc := ⟨.hbm, 69, rfl⟩
abbrev main_call3_v2 : Ref sig .tc := ⟨.hbm, 70, rfl⟩
abbrev main_call3_cst_0 : Ref sig .tc := ⟨.hbm, 71, rfl⟩
abbrev main_call3_v3 : Ref sig .tc := ⟨.hbm, 72, rfl⟩
abbrev main_v39_1 : Ref sig .tc := ⟨.hbm, 73, rfl⟩
abbrev main_call3_cst_1 : Ref sig .tc := ⟨.hbm, 74, rfl⟩
abbrev main_call3_v5 : Ref sig .tc := ⟨.hbm, 75, rfl⟩
abbrev main_v39_0 : Ref sig .tc := ⟨.hbm, 76, rfl⟩
abbrev main_cst_6 : Ref sig .tc := ⟨.hbm, 77, rfl⟩
abbrev main_v40 : Ref sig .tc := ⟨.hbm, 78, rfl⟩
abbrev main_cst_7 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_cst_8 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_cst_9 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_cst_10 : Ref sig .tc := ⟨.hbm, 95, rfl⟩
abbrev main_v54 : Ref sig .tc := ⟨.hbm, 96, rfl⟩
abbrev main_v55 : Ref sig .tc := ⟨.hbm, 97, rfl⟩
abbrev main_cst_11 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩

abbrev nD : Nat := 1
abbrev τ : Topo := Topo.v7x

variable {F : FTy → Type} [FloatOps F]
-- ==== Prenorm.lean ====
abbrev S8448x1024 : Shape := ⟨2, ![8448, 1024]⟩
abbrev S1x1024 : Shape := ⟨2, ![1, 1024]⟩
abbrev S8x6144 : Shape := ⟨2, ![8, 6144]⟩
abbrev S256x1024 : Shape := ⟨2, ![256, 1024]⟩
abbrev S8x1024 : Shape := ⟨2, ![8, 1024]⟩
abbrev S256 : Shape := ⟨1, ![256]⟩
abbrev S256x1 : Shape := ⟨2, ![256, 1]⟩

abbrev nBuf : Space → Nat
  | .hbm => 4
  | .vmem => 7
  | .smem => 0
  | _ => 0

abbrev bufTy : (tb : Table) → Fin (tcTables nBuf tb) → BufTy
  | .hbm, ⟨0, _⟩ => ⟨S8448x1024, .f32⟩
  | .hbm, ⟨1, _⟩ => ⟨S1x1024, .f32⟩
  | .hbm, ⟨2, _⟩ => ⟨S8x6144, .f32⟩
  | .hbm, ⟨3, _⟩ => ⟨S8448x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S8x1024, .f32⟩
  | .local _ .vmem, ⟨4, _⟩ => ⟨S8x1024, .f32⟩
  | .local _ .vmem, ⟨5, _⟩ => ⟨S256x1024, .bf16⟩
  | .local _ .vmem, ⟨6, _⟩ => ⟨S256x1024, .bf16⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![1, 33], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== PrenormRefIdeal.lean ====
abbrev S8448x1024 : Shape := ⟨2, ![8448, 1024]⟩
abbrev S1x1024 : Shape := ⟨2, ![1, 1024]⟩
abbrev S8x6144 : Shape := ⟨2, ![8, 6144]⟩
abbrev S_ : Shape := ⟨0, ![]⟩
abbrev S8448 : Shape := ⟨1, ![8448]⟩
abbrev S8448x1 : Shape := ⟨2, ![8448, 1]⟩
abbrev S8x1024 : Shape := ⟨2, ![8, 1024]⟩

abbrev nBuf : Space → Nat
  | .hbm => 43
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1x1024, .f32⟩
  | .hbm, ⟨2, _⟩ => ⟨S8x6144, .f32⟩
  | .hbm, ⟨3, _⟩ => ⟨S8448x1024, .f32⟩
  | .hbm, ⟨4, _⟩ => ⟨S_, .f32⟩
  | .hbm, ⟨5, _⟩ => ⟨S8448, .f32⟩
  | .hbm, ⟨6, _⟩ => ⟨S8448x1, .f32⟩
  | .hbm, ⟨7, _⟩ => ⟨S_, .f32⟩
  | .hbm, ⟨8, _⟩ => ⟨S8448x1, .f32⟩
  | .hbm, ⟨9, _⟩ => ⟨S8448x1, .f32⟩
  | .hbm, ⟨10, _⟩ => ⟨S_, .f32⟩
  | .hbm, ⟨11, _⟩ => ⟨S8448x1, .f32⟩
  | .hbm, ⟨12, _⟩ => ⟨S8448x1, .f32⟩
  | .hbm, ⟨13, _⟩ => ⟨S8448x1, .f32⟩
  | .hbm, ⟨14, _⟩ => ⟨S8448x1024, .f32⟩
  | .hbm, ⟨15, _⟩ => ⟨S8448x1024, .f32⟩
  | .hbm, ⟨16, _⟩ => ⟨S8448x1024, .f32⟩
  | .hbm, ⟨17, _⟩ => ⟨S8448x1024, .f32⟩
  | .hbm, ⟨18, _⟩ => ⟨S8448, .i32⟩
  | .hbm, ⟨19, _⟩ => ⟨S8448x1, .i32⟩
  | .hbm, ⟨20, _⟩ => ⟨S_, .i32⟩
  | .hbm, ⟨21, _⟩ => ⟨S8448x1, .i32⟩
  | .hbm, ⟨22, _⟩ => ⟨S8448x1, .i1⟩
  | .hbm, ⟨23, _⟩ => ⟨S8x1024, .f32⟩
  | .hbm, ⟨24, _⟩ => ⟨S8x1024, .f32⟩
  | .hbm, ⟨25, _⟩ => ⟨S1x1024, .f32⟩
  | .hbm, ⟨26, _⟩ => ⟨S1x1024, .f32⟩
  | .hbm, ⟨27, _⟩ => ⟨S8448x1024, .i1⟩
  | .hbm, ⟨28, _⟩ => ⟨S8448x1024, .f32⟩
  | .hbm, ⟨29, _⟩ => ⟨S8448x1024, .f32⟩
  | .hbm, ⟨30, _⟩ => ⟨S8448x1024, .f32⟩
  | .hbm, ⟨31, _⟩ => ⟨S_, .f32⟩
  | .hbm, ⟨32, _⟩ => ⟨S8448x1024, .f32⟩
  | .hbm, ⟨33, _⟩ => ⟨S8448x1024, .f32⟩
  | .hbm, ⟨34, _⟩ => ⟨S8448x1024, .f32⟩
  | .hbm, ⟨35, _⟩ => ⟨S1x1024, .f32⟩
  | .hbm, ⟨36, _⟩ => ⟨S1x1024, .f32⟩
  | .hbm, ⟨37, _⟩ => ⟨S8448x1024, .i1⟩
  | .hbm, ⟨38, _⟩ => ⟨S8448x1024, .f32⟩
  | .hbm, ⟨39, _⟩ => ⟨S8448x1024, .f32⟩
  | .hbm, ⟨40, _⟩ => ⟨S8448x1024, .f32⟩
  | .hbm, ⟨41, _⟩ => ⟨S8448x1024, .f32⟩
  | .hbm, ⟨42, _⟩ => ⟨S8448x1024, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== InProj.lean ====
abbrev S8448x1024 : Shape := ⟨2, ![8448, 1024]⟩
abbrev S1024x11776 : Shape := ⟨2, ![1024, 11776]⟩
abbrev S8448x11776 : Shape := ⟨2, ![8448, 11776]⟩
abbrev S768x1024 : Shape := ⟨2, ![768, 1024]⟩
abbrev S1024x512 : Shape := ⟨2, ![1024, 512]⟩
abbrev S768x512 : Shape := ⟨2, ![768, 512]⟩

abbrev nBuf : Space → Nat
  | .hbm => 3
  | .vmem => 7
  | .smem => 0
  | _ => 0

abbrev bufTy : (tb : Table) → Fin (tcTables nBuf tb) → BufTy
  | .hbm, ⟨0, _⟩ => ⟨S8448x1024, .bf16⟩
  | .hbm, ⟨1, _⟩ => ⟨S1024x11776, .bf16⟩
  | .hbm, ⟨2, _⟩ => ⟨S8448x11776, .f32⟩
  | .local _ .vmem, ⟨0, _⟩ => ⟨S768x1024, .bf16⟩
  | .local _ .vmem, ⟨1, _⟩ => ⟨S768x1024, .bf16⟩
  | .local _ .vmem, ⟨2, _⟩ => ⟨S1024x512, .bf16⟩
  | .local _ .vmem, ⟨3, _⟩ => ⟨S1024x512, .bf16⟩
  | .local _ .vmem, ⟨4, _⟩ => ⟨S768x512, .f32⟩
  | .local _ .vmem, ⟨5, _⟩ => ⟨S768x512, .f32⟩
  | .local _ .vmem, ⟨6, _⟩ => ⟨S768x512, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 23, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjRefIdeal.lean ====
abbrev S8448x1024 : Shape := ⟨2, ![8448, 1024]⟩
abbrev S1024x11776 : Shape := ⟨2, ![1024, 11776]⟩
abbrev S8448x11776 : Shape := ⟨2, ![8448, 11776]⟩

abbrev nBuf : Space → Nat
  | .hbm => 3
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x11776, .bf16⟩
  | .hbm, ⟨2, _⟩ => ⟨S8448x11776, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Norm2.lean ====
abbrev S8448x1024 : Shape := ⟨2, ![8448, 1024]⟩
abbrev S8x6144 : Shape := ⟨2, ![8, 6144]⟩
abbrev S1x1024 : Shape := ⟨2, ![1, 1024]⟩
abbrev S256x1024 : Shape := ⟨2, ![256, 1024]⟩
abbrev S8x1024 : Shape := ⟨2, ![8, 1024]⟩
abbrev S256 : Shape := ⟨1, ![256]⟩
abbrev S256x1 : Shape := ⟨2, ![256, 1]⟩

abbrev nBuf : Space → Nat
  | .hbm => 6
  | .vmem => 12
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S8x6144, .f32⟩
  | .hbm, ⟨3, _⟩ => ⟨S1x1024, .f32⟩
  | .hbm, ⟨4, _⟩ => ⟨S8448x1024, .f32⟩
  | .hbm, ⟨5, _⟩ => ⟨S8448x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S8x1024, .f32⟩
  | .local _ .vmem, ⟨5, _⟩ => ⟨S1x1024, .f32⟩
  | .local _ .vmem, ⟨6, _⟩ => ⟨S8x1024, .f32⟩
  | .local _ .vmem, ⟨7, _⟩ => ⟨S8x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![1, 33], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![c0_i32.toNat, c2_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![c0_i32.toNat, c4_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![c0_i32.toNat, c3_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Norm2RefIdeal.lean ====
abbrev S8448x1024 : Shape := ⟨2, ![8448, 1024]⟩
abbrev S8x6144 : Shape := ⟨2, ![8, 6144]⟩
abbrev S1x1024 : Shape := ⟨2, ![1, 1024]⟩
abbrev S8x1024 : Shape := ⟨2, ![8, 1024]⟩
abbrev S_ : Shape := ⟨0, ![]⟩
abbrev S8448 : Shape := ⟨1, ![8448]⟩
abbrev S8448x1 : Shape := ⟨2, ![8448, 1]⟩

abbrev nBuf : Space → Nat
  | .hbm => 36
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S8x6144, .f32⟩
  | .hbm, ⟨3, _⟩ => ⟨S1x1024, .f32⟩
  | .hbm, ⟨4, _⟩ => ⟨S8x1024, .f32⟩
  | .hbm, ⟨5, _⟩ => ⟨S8x1024, .f32⟩
  | .hbm, ⟨6, _⟩ => ⟨S8x1024, .f32⟩
  | .hbm, ⟨7, _⟩ => ⟨S1x1024, .f32⟩
  | .hbm, ⟨8, _⟩ => ⟨S8448x1024, .f32⟩
  | .hbm, ⟨9, _⟩ => ⟨S8448x1024, .f32⟩
  | .hbm, ⟨10, _⟩ => ⟨S8448x1024, .f32⟩
  | .hbm, ⟨11, _⟩ => ⟨S8448x1024, .f32⟩
  | .hbm, ⟨12, _⟩ => ⟨S_, .f32⟩
  | .hbm, ⟨13, _⟩ => ⟨S8448, .f32⟩
  | .hbm, ⟨14, _⟩ => ⟨S8448x1, .f32⟩
  | .hbm, ⟨15, _⟩ => ⟨S_, .f32⟩
  | .hbm, ⟨16, _⟩ => ⟨S8448x1, .f32⟩
  | .hbm, ⟨17, _⟩ => ⟨S8448x1, .f32⟩
  | .hbm, ⟨18, _⟩ => ⟨S_, .f32⟩
  | .hbm, ⟨19, _⟩ => ⟨S8448x1, .f32⟩
  | .hbm, ⟨20, _⟩ => ⟨S8448x1, .f32⟩
  | .hbm, ⟨21, _⟩ => ⟨S8448x1, .f32⟩
  | .hbm, ⟨22, _⟩ => ⟨S8448x1024, .f32⟩
  | .hbm, ⟨23, _⟩ => ⟨S8448x1024, .f32⟩
  | .hbm, ⟨24, _⟩ => ⟨S8448x1024, .f32⟩
  | .hbm, ⟨25, _⟩ => ⟨S8448x1024, .f32⟩
  | .hbm, ⟨26, _⟩ => ⟨S1x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S8448x1024, .f32⟩
  | .hbm, ⟨31, _⟩ => ⟨S8448x1024, .f32⟩
  | .hbm, ⟨32, _⟩ => ⟨S1x1024, .f32⟩
  | .hbm, ⟨33, _⟩ => ⟨S8448x1024, .f32⟩
  | .hbm, ⟨34, _⟩ => ⟨S8448x1024, .f32⟩
  | .hbm, ⟨35, _⟩ => ⟨S8448x1024, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== FfnIn.lean ====
abbrev S8448x1024 : Shape := ⟨2, ![8448, 1024]⟩
abbrev S1024x5632 : Shape := ⟨2, ![1024, 5632]⟩
abbrev S8448x5632 : Shape := ⟨2, ![8448, 5632]⟩
abbrev S768x1024 : Shape := ⟨2, ![768, 1024]⟩
abbrev S1024x512 : Shape := ⟨2, ![1024, 512]⟩
abbrev S768x512 : Shape := ⟨2, ![768, 512]⟩

abbrev nBuf : Space → Nat
  | .hbm => 3
  | .vmem => 7
  | .smem => 0
  | _ => 0

abbrev bufTy : (tb : Table) → Fin (tcTables nBuf tb) → BufTy
  | .hbm, ⟨0, _⟩ => ⟨S8448x1024, .bf16⟩
  | .hbm, ⟨1, _⟩ => ⟨S1024x5632, .bf16⟩
  | .hbm, ⟨2, _⟩ => ⟨S8448x5632, .f32⟩
  | .local _ .vmem, ⟨0, _⟩ => ⟨S768x1024, .bf16⟩
  | .local _ .vmem, ⟨1, _⟩ => ⟨S768x1024, .bf16⟩
  | .local _ .vmem, ⟨2, _⟩ => ⟨S1024x512, .bf16⟩
  | .local _ .vmem, ⟨3, _⟩ => ⟨S1024x512, .bf16⟩
  | .local _ .vmem, ⟨4, _⟩ => ⟨S768x512, .f32⟩
  | .local _ .vmem, ⟨5, _⟩ => ⟨S768x512, .f32⟩
  | .local _ .vmem, ⟨6, _⟩ => ⟨S768x512, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 11, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInRefIdeal.lean ====
abbrev S8448x1024 : Shape := ⟨2, ![8448, 1024]⟩
abbrev S1024x5632 : Shape := ⟨2, ![1024, 5632]⟩
abbrev S8448x5632 : Shape := ⟨2, ![8448, 5632]⟩

abbrev nBuf : Space → Nat
  | .hbm => 3
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x5632, .bf16⟩
  | .hbm, ⟨2, _⟩ => ⟨S8448x5632, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Swiglu.lean ====
abbrev S8448x5632 : Shape := ⟨2, ![8448, 5632]⟩
abbrev S8448x2816 : Shape := ⟨2, ![8448, 2816]⟩
abbrev S256x256 : Shape := ⟨2, ![256, 256]⟩

abbrev nBuf : Space → Nat
  | .hbm => 2
  | .vmem => 6
  | .smem => 0
  | _ => 0

abbrev bufTy : (tb : Table) → Fin (tcTables nBuf tb) → BufTy
  | .hbm, ⟨0, _⟩ => ⟨S8448x5632, .f32⟩
  | .hbm, ⟨1, _⟩ => ⟨S8448x2816, .bf16⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .bf16⟩
  | .local _ .vmem, ⟨5, _⟩ => ⟨S256x256, .bf16⟩
  | _, _ => ⟨S8448x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![11, 33], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SwigluRefIdeal.lean ====
abbrev S8448x5632 : Shape := ⟨2, ![8448, 5632]⟩
abbrev S8448x2816 : Shape := ⟨2, ![8448, 2816]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8448x5632, .f32⟩
  | .hbm, ⟨1, _⟩ => ⟨S8448x2816, .f32⟩
  | .hbm, ⟨2, _⟩ => ⟨S8448x2816, .f32⟩
  | .hbm, ⟨3, _⟩ => ⟨S8448x2816, .f32⟩
  | .hbm, ⟨4, _⟩ => ⟨S8448x2816, .f32⟩
  | .hbm, ⟨5, _⟩ => ⟨S_, .f32⟩
  | .hbm, ⟨6, _⟩ => ⟨S8448x2816, .f32⟩
  | .hbm, ⟨7, _⟩ => ⟨S8448x2816, .f32⟩
  | .hbm, ⟨8, _⟩ => ⟨S_, .f32⟩
  | .hbm, ⟨9, _⟩ => ⟨S8448x2816, .f32⟩
  | .hbm, ⟨10, _⟩ => ⟨S8448x2816, .f32⟩
  | .hbm, ⟨11, _⟩ => ⟨S8448x2816, .f32⟩
  | .hbm, ⟨12, _⟩ => ⟨S8448x2816, .f32⟩
  | .hbm, ⟨13, _⟩ => ⟨S8448x2816, .bf16⟩
  | _, _ => ⟨S8448x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== FfnOut.lean ====
abbrev S8448x2816 : Shape := ⟨2, ![8448, 2816]⟩
abbrev S2816x1024 : Shape := ⟨2, ![2816, 1024]⟩
abbrev S8448x1024 : Shape := ⟨2, ![8448, 1024]⟩
abbrev S768x256 : Shape := ⟨2, ![768, 256]⟩
abbrev S256x512 : Shape := ⟨2, ![256, 512]⟩
abbrev S768x512 : Shape := ⟨2, ![768, 512]⟩

abbrev nBuf : Space → Nat
  | .hbm => 3
  | .vmem => 7
  | .smem => 0
  | _ => 0

abbrev bufTy : (tb : Table) → Fin (tcTables nBuf tb) → BufTy
  | .hbm, ⟨0, _⟩ => ⟨S8448x2816, .bf16⟩
  | .hbm, ⟨1, _⟩ => ⟨S2816x1024, .bf16⟩
  | .hbm, ⟨2, _⟩ => ⟨S8448x1024, .f32⟩
  | .local _ .vmem, ⟨0, _⟩ => ⟨S768x256, .bf16⟩
  | .local _ .vmem, ⟨1, _⟩ => ⟨S768x256, .bf16⟩
  | .local _ .vmem, ⟨2, _⟩ => ⟨S256x512, .bf16⟩
  | .local _ .vmem, ⟨3, _⟩ => ⟨S256x512, .bf16⟩
  | .local _ .vmem, ⟨4, _⟩ => ⟨S768x512, .f32⟩
  | .local _ .vmem, ⟨5, _⟩ => ⟨S768x512, .f32⟩
  | .local _ .vmem, ⟨6, _⟩ => ⟨S768x512, .f32⟩
  | _, _ => ⟨S8448x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 11], ![false, false, false]⟩

def k0_cond3 (i : grid0.Coords) : BitVec 1 :=
  let arg2 : BitVec 32 := BitVec.ofNat 32 (i 2).val
  let c10_i32 : BitVec 32 := 10#32
  let v9 : BitVec 1 := Scalar.cmpi .eq arg2 c10_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnOutRefIdeal.lean ====
abbrev S8448x2816 : Shape := ⟨2, ![8448, 2816]⟩
abbrev S2816x1024 : Shape := ⟨2, ![2816, 1024]⟩
abbrev S8448x1024 : Shape := ⟨2, ![8448, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8448x2816, .bf16⟩
  | .hbm, ⟨1, _⟩ => ⟨S2816x1024, .bf16⟩
  | .hbm, ⟨2, _⟩ => ⟨S8448x1024, .f32⟩
  | _, _ => ⟨S8448x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== GradWIn.lean ====
abbrev S8448x1024 : Shape := ⟨2, ![8448, 1024]⟩
abbrev S8448x11776 : Shape := ⟨2, ![8448, 11776]⟩
abbrev S1024x11776 : Shape := ⟨2, ![1024, 11776]⟩
abbrev S768x1024 : Shape := ⟨2, ![768, 1024]⟩
abbrev S768x512 : Shape := ⟨2, ![768, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8448x1024, .bf16⟩
  | .hbm, ⟨1, _⟩ => ⟨S8448x11776, .bf16⟩
  | .hbm, ⟨2, _⟩ => ⟨S1024x11776, .f32⟩
  | .local _ .vmem, ⟨0, _⟩ => ⟨S768x1024, .bf16⟩
  | .local _ .vmem, ⟨1, _⟩ => ⟨S768x1024, .bf16⟩
  | .local _ .vmem, ⟨2, _⟩ => ⟨S768x512, .bf16⟩
  | .local _ .vmem, ⟨3, _⟩ => ⟨S768x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 23, 11], ![false, false, false]⟩

def k0_cond3 (i : grid0.Coords) : BitVec 1 :=
  let arg2 : BitVec 32 := BitVec.ofNat 32 (i 2).val
  let c10_i32 : BitVec 32 := 10#32
  let v9 : BitVec 1 := Scalar.cmpi .eq arg2 c10_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradWInRefIdeal.lean ====
abbrev S8448x1024 : Shape := ⟨2, ![8448, 1024]⟩
abbrev S8448x11776 : Shape := ⟨2, ![8448, 11776]⟩
abbrev S1024x8448 : Shape := ⟨2, ![1024, 8448]⟩
abbrev S1024x11776 : Shape := ⟨2, ![1024, 11776]⟩

abbrev nBuf : Space → Nat
  | .hbm => 4
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x11776, .bf16⟩
  | .hbm, ⟨2, _⟩ => ⟨S1024x8448, .bf16⟩
  | .hbm, ⟨3, _⟩ => ⟨S1024x11776, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== GradA.lean ====
abbrev S8448x11776 : Shape := ⟨2, ![8448, 11776]⟩
abbrev S1024x11776 : Shape := ⟨2, ![1024, 11776]⟩
abbrev S8448x1024 : Shape := ⟨2, ![8448, 1024]⟩
abbrev S768x512 : Shape := ⟨2, ![768, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8448x11776, .bf16⟩
  | .hbm, ⟨1, _⟩ => ⟨S1024x11776, .bf16⟩
  | .hbm, ⟨2, _⟩ => ⟨S8448x1024, .f32⟩
  | .local _ .vmem, ⟨0, _⟩ => ⟨S768x512, .bf16⟩
  | .local _ .vmem, ⟨1, _⟩ => ⟨S768x512, .bf16⟩
  | .local _ .vmem, ⟨2, _⟩ => ⟨S512x512, .bf16⟩
  | .local _ .vmem, ⟨3, _⟩ => ⟨S512x512, .bf16⟩
  | .local _ .vmem, ⟨4, _⟩ => ⟨S768x512, .f32⟩
  | .local _ .vmem, ⟨5, _⟩ => ⟨S768x512, .f32⟩
  | .local _ .vmem, ⟨6, _⟩ => ⟨S768x512, .f32⟩
  | _, _ => ⟨S8448x11776, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 23], ![false, false, false]⟩

def k0_cond3 (i : grid0.Coords) : BitVec 1 :=
  let arg2 : BitVec 32 := BitVec.ofNat 32 (i 2).val
  let c22_i32 : BitVec 32 := 22#32
  let v9 : BitVec 1 := Scalar.cmpi .eq arg2 c22_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradARefIdeal.lean ====
abbrev S8448x11776 : Shape := ⟨2, ![8448, 11776]⟩
abbrev S1024x11776 : Shape := ⟨2, ![1024, 11776]⟩
abbrev S11776x1024 : Shape := ⟨2, ![11776, 1024]⟩
abbrev S8448x1024 : Shape := ⟨2, ![8448, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8448x11776, .bf16⟩
  | .hbm, ⟨1, _⟩ => ⟨S1024x11776, .bf16⟩
  | .hbm, ⟨2, _⟩ => ⟨S11776x1024, .bf16⟩
  | .hbm, ⟨3, _⟩ => ⟨S8448x1024, .f32⟩
  | _, _ => ⟨S8448x11776, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Ada.lean ====
abbrev S8x1024 : Shape := ⟨2, ![8, 1024]⟩
abbrev S1024x6144 : Shape := ⟨2, ![1024, 6144]⟩
abbrev S1x6144 : Shape := ⟨2, ![1, 6144]⟩
abbrev S8x6144 : Shape := ⟨2, ![8, 6144]⟩
abbrev S1024x512 : Shape := ⟨2, ![1024, 512]⟩
abbrev S1x512 : Shape := ⟨2, ![1, 512]⟩
abbrev S8x512 : Shape := ⟨2, ![8, 512]⟩

abbrev nBuf : Space → Nat
  | .hbm => 4
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024x6144, .bf16⟩
  | .hbm, ⟨2, _⟩ => ⟨S1x6144, .f32⟩
  | .hbm, ⟨3, _⟩ => ⟨S8x6144, .f32⟩
  | .local _ .vmem, ⟨0, _⟩ => ⟨S8x1024, .f32⟩
  | .local _ .vmem, ⟨1, _⟩ => ⟨S1024x512, .bf16⟩
  | .local _ .vmem, ⟨2, _⟩ => ⟨S1024x512, .bf16⟩
  | .local _ .vmem, ⟨3, _⟩ => ⟨S1x512, .f32⟩
  | .local _ .vmem, ⟨4, _⟩ => ⟨S1x512, .f32⟩
  | .local _ .vmem, ⟨5, _⟩ => ⟨S8x512, .f32⟩
  | .local _ .vmem, ⟨6, _⟩ => ⟨S8x512, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaRefIdeal.lean ====
abbrev S8x1024 : Shape := ⟨2, ![8, 1024]⟩
abbrev S1024x6144 : Shape := ⟨2, ![1024, 6144]⟩
abbrev S1x6144 : Shape := ⟨2, ![1, 6144]⟩
abbrev S_ : Shape := ⟨0, ![]⟩
abbrev S8x6144 : Shape := ⟨2, ![8, 6144]⟩

abbrev nBuf : Space → Nat
  | .hbm => 16
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x6144, .bf16⟩
  | .hbm, ⟨2, _⟩ => ⟨S1x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x1024, .bf16⟩
  | .hbm, ⟨13, _⟩ => ⟨S8x6144, .f32⟩
  | .hbm, ⟨14, _⟩ => ⟨S8x6144, .f32⟩
  | .hbm, ⟨15, _⟩ => ⟨S8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Merge.lean ====
abbrev S8448x11776 : Shape := ⟨2, ![8448, 11776]⟩
abbrev S8448x1024 : Shape := ⟨2, ![8448, 1024]⟩
abbrev S256x1024 : Shape := ⟨2, ![256, 1024]⟩

abbrev nBuf : Space → Nat
  | .hbm => 4
  | .vmem => 10
  | .smem => 0
  | _ => 0

abbrev bufTy : (tb : Table) → Fin (tcTables nBuf tb) → BufTy
  | .hbm, ⟨0, _⟩ => ⟨S8448x11776, .f32⟩
  | .hbm, ⟨1, _⟩ => ⟨S8448x1024, .f32⟩
  | .hbm, ⟨2, _⟩ => ⟨S8448x1024, .f32⟩
  | .hbm, ⟨3, _⟩ => ⟨S8448x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | _, _ => ⟨S8448x11776, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![1, 33], ![false, false]⟩

def cc0_transform_0 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MergeRefIdeal.lean ====
abbrev S8448x11776 : Shape := ⟨2, ![8448, 11776]⟩
abbrev S8448x1024 : Shape := ⟨2, ![8448, 1024]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S8448x11776, .f32⟩
  | .hbm, ⟨1, _⟩ => ⟨S8448x1024, .f32⟩
  | .hbm, ⟨2, _⟩ => ⟨S8448x1024, .f32⟩
  | .hbm, ⟨3, _⟩ => ⟨S8448x1024, .f32⟩
  | .hbm, ⟨4, _⟩ => ⟨S8448x1024, .f32⟩
  | .hbm, ⟨5, _⟩ => ⟨S8448x1024, .f32⟩
  | .hbm, ⟨6, _⟩ => ⟨S8448x1024, .f32⟩
  | .hbm, ⟨7, _⟩ => ⟨S_, .f32⟩
  | .hbm, ⟨8, _⟩ => ⟨S8448x1024, .f32⟩
  | .hbm, ⟨9, _⟩ => ⟨S8448x1024, .f32⟩
  | .hbm, ⟨10, _⟩ => ⟨S_, .f32⟩
  | .hbm, ⟨11, _⟩ => ⟨S8448x1024, .f32⟩
  | .hbm, ⟨12, _⟩ => ⟨S8448x1024, .f32⟩
  | .hbm, ⟨13, _⟩ => ⟨S8448x1024, .f32⟩
  | .hbm, ⟨14, _⟩ => ⟨S8448x1024, .f32⟩
  | .hbm, ⟨15, _⟩ => ⟨S8448x1024, .f32⟩
  | .hbm, ⟨16, _⟩ => ⟨S_, .f32⟩
  | .hbm, ⟨17, _⟩ => ⟨S8448x1024, .f32⟩
  | .hbm, ⟨18, _⟩ => ⟨S8448x1024, .f32⟩
  | .hbm, ⟨19, _⟩ => ⟨S_, .f32⟩
  | .hbm, ⟨20, _⟩ => ⟨S8448x1024, .f32⟩
  | .hbm, ⟨21, _⟩ => ⟨S8448x1024, .f32⟩
  | .hbm, ⟨22, _⟩ => ⟨S8448x1024, .f32⟩
  | .hbm, ⟨23, _⟩ => ⟨S8448x1024, .f32⟩
  | .hbm, ⟨24, _⟩ => ⟨S8448x1024, .bf16⟩
  | _, _ => ⟨S8448x11776, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== MergeBwd.lean ====
abbrev S8448x11776 : Shape := ⟨2, ![8448, 11776]⟩
abbrev S8448x1024 : Shape := ⟨2, ![8448, 1024]⟩
abbrev S256x1024 : Shape := ⟨2, ![256, 1024]⟩

abbrev nBuf : Space → Nat
  | .hbm => 8
  | .vmem => 18
  | .smem => 0
  | _ => 0

abbrev bufTy : (tb : Table) → Fin (tcTables nBuf tb) → BufTy
  | .hbm, ⟨0, _⟩ => ⟨S8448x11776, .f32⟩
  | .hbm, ⟨1, _⟩ => ⟨S8448x1024, .f32⟩
  | .hbm, ⟨2, _⟩ => ⟨S8448x1024, .f32⟩
  | .hbm, ⟨3, _⟩ => ⟨S8448x1024, .f32⟩
  | .hbm, ⟨4, _⟩ => ⟨S8448x1024, .bf16⟩
  | .hbm, ⟨5, _⟩ => ⟨S8448x1024, .bf16⟩
  | .hbm, ⟨6, _⟩ => ⟨S8448x1024, .bf16⟩
  | .hbm, ⟨7, _⟩ => ⟨S8448x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | _, _ => ⟨S8448x11776, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![1, 33], ![false, false]⟩

def cc0_transform_0 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MergeBwdRefIdeal.lean ====
abbrev S8448x11776 : Shape := ⟨2, ![8448, 11776]⟩
abbrev S8448x1024 : Shape := ⟨2, ![8448, 1024]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S8448x11776, .f32⟩
  | .hbm, ⟨1, _⟩ => ⟨S8448x1024, .f32⟩
  | .hbm, ⟨2, _⟩ => ⟨S8448x1024, .f32⟩
  | .hbm, ⟨3, _⟩ => ⟨S8448x1024, .f32⟩
  | .hbm, ⟨4, _⟩ => ⟨S8448x1024, .f32⟩
  | .hbm, ⟨5, _⟩ => ⟨S8448x1024, .f32⟩
  | .hbm, ⟨6, _⟩ => ⟨S8448x1024, .f32⟩
  | .hbm, ⟨7, _⟩ => ⟨S8448x1024, .f32⟩
  | .hbm, ⟨8, _⟩ => ⟨S_, .f32⟩
  | .hbm, ⟨9, _⟩ => ⟨S8448x1024, .f32⟩
  | .hbm, ⟨10, _⟩ => ⟨S8448x1024, .f32⟩
  | .hbm, ⟨11, _⟩ => ⟨S_, .f32⟩
  | .hbm, ⟨12, _⟩ => ⟨S8448x1024, .f32⟩
  | .hbm, ⟨13, _⟩ => ⟨S8448x1024, .f32⟩
  | .hbm, ⟨14, _⟩ => ⟨S_, .f32⟩
  | .hbm, ⟨15, _⟩ => ⟨S8448x1024, .f32⟩
  | .hbm, ⟨16, _⟩ => ⟨S8448x1024, .f32⟩
  | .hbm, ⟨17, _⟩ => ⟨S8448x1024, .f32⟩
  | .hbm, ⟨18, _⟩ => ⟨S8448x1024, .f32⟩
  | .hbm, ⟨19, _⟩ => ⟨S8448x1024, .f32⟩
  | .hbm, ⟨20, _⟩ => ⟨S8448x1024, .f32⟩
  | .hbm, ⟨21, _⟩ => ⟨S_, .f32⟩
  | .hbm, ⟨22, _⟩ => ⟨S8448x1024, .f32⟩
  | .hbm, ⟨23, _⟩ => ⟨S8448x1024, .f32⟩
  | .hbm, ⟨24, _⟩ => ⟨S_, .f32⟩
  | .hbm, ⟨25, _⟩ => ⟨S8448x1024, .f32⟩
  | .hbm, ⟨26, _⟩ => ⟨S8448x1024, .f32⟩
  | .hbm, ⟨27, _⟩ => ⟨S_, .f32⟩
  | .hbm, ⟨28, _⟩ => ⟨S8448x1024, .f32⟩
  | .hbm, ⟨29, _⟩ => ⟨S8448x1024, .f32⟩
  | .hbm, ⟨30, _⟩ => ⟨S8448x1024, .f32⟩
  | .hbm, ⟨31, _⟩ => ⟨S8448x1024, .f32⟩
  | .hbm, ⟨32, _⟩ => ⟨S8448x1024, .f32⟩
  | .hbm, ⟨33, _⟩ => ⟨S8448x1024, .f32⟩
  | .hbm, ⟨34, _⟩ => ⟨S8448x1024, .f32⟩
  | .hbm, ⟨35, _⟩ => ⟨S8448x1024, .f32⟩
  | .hbm, ⟨36, _⟩ => ⟨S8448x1024, .f32⟩
  | .hbm, ⟨37, _⟩ => ⟨S8448x1024, .f32⟩
  | .hbm, ⟨38, _⟩ => ⟨S8448x1024, .f32⟩
  | .hbm, ⟨39, _⟩ => ⟨S8448x1024, .f32⟩
  | .hbm, ⟨40, _⟩ => ⟨S8448x1024, .f32⟩
  | .hbm, ⟨41, _⟩ => ⟨S8448x1024, .bf16⟩
  | .hbm, ⟨42, _⟩ => ⟨S8448x1024, .bf16⟩
  | .hbm, ⟨43, _⟩ => ⟨S8448x1024, .bf16⟩
  | .hbm, ⟨44, _⟩ => ⟨S8448x1024, .bf16⟩
  | _, _ => ⟨S8448x11776, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]
-- ==== SwigluBwd.lean ====
abbrev S8448x5632 : Shape := ⟨2, ![8448, 5632]⟩
abbrev S8448x2816 : Shape := ⟨2, ![8448, 2816]⟩
abbrev S256x256 : Shape := ⟨2, ![256, 256]⟩

abbrev nBuf : Space → Nat
  | .hbm => 4
  | .vmem => 10
  | .smem => 0
  | _ => 0

abbrev bufTy : (tb : Table) → Fin (tcTables nBuf tb) → BufTy
  | .hbm, ⟨0, _⟩ => ⟨S8448x5632, .f32⟩
  | .hbm, ⟨1, _⟩ => ⟨S8448x2816, .f32⟩
  | .hbm, ⟨2, _⟩ => ⟨S8448x2816, .bf16⟩
  | .hbm, ⟨3, _⟩ => ⟨S8448x2816, .bf16⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .bf16⟩
  | .local _ .vmem, ⟨7, _⟩ => ⟨S256x256, .bf16⟩
  | .local _ .vmem, ⟨8, _⟩ => ⟨S256x256, .bf16⟩
  | .local _ .vmem, ⟨9, _⟩ => ⟨S256x256, .bf16⟩
  | _, _ => ⟨S8448x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![11, 33], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== SwigluBwdRefIdeal.lean ====
abbrev S8448x5632 : Shape := ⟨2, ![8448, 5632]⟩
abbrev S8448x2816 : Shape := ⟨2, ![8448, 2816]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S8448x5632, .f32⟩
  | .hbm, ⟨1, _⟩ => ⟨S8448x2816, .f32⟩
  | .hbm, ⟨2, _⟩ => ⟨S8448x2816, .f32⟩
  | .hbm, ⟨3, _⟩ => ⟨S8448x2816, .f32⟩
  | .hbm, ⟨4, _⟩ => ⟨S8448x2816, .f32⟩
  | .hbm, ⟨5, _⟩ => ⟨S8448x2816, .f32⟩
  | .hbm, ⟨6, _⟩ => ⟨S_, .f32⟩
  | .hbm, ⟨7, _⟩ => ⟨S8448x2816, .f32⟩
  | .hbm, ⟨8, _⟩ => ⟨S8448x2816, .f32⟩
  | .hbm, ⟨9, _⟩ => ⟨S_, .f32⟩
  | .hbm, ⟨10, _⟩ => ⟨S8448x2816, .f32⟩
  | .hbm, ⟨11, _⟩ => ⟨S8448x2816, .f32⟩
  | .hbm, ⟨12, _⟩ => ⟨S_, .f32⟩
  | .hbm, ⟨13, _⟩ => ⟨S8448x2816, .f32⟩
  | .hbm, ⟨14, _⟩ => ⟨S8448x2816, .f32⟩
  | .hbm, ⟨15, _⟩ => ⟨S8448x2816, .f32⟩
  | .hbm, ⟨16, _⟩ => ⟨S8448x2816, .f32⟩
  | .hbm, ⟨17, _⟩ => ⟨S8448x2816, .f32⟩
  | .hbm, ⟨18, _⟩ => ⟨S8448x2816, .f32⟩
  | .hbm, ⟨19, _⟩ => ⟨S8448x2816, .f32⟩
  | .hbm, ⟨20, _⟩ => ⟨S8448x2816, .f32⟩
  | .hbm, ⟨21, _⟩ => ⟨S8448x2816, .f32⟩
  | .hbm, ⟨22, _⟩ => ⟨S8448x2816, .f32⟩
  | .hbm, ⟨23, _⟩ => ⟨S8448x2816, .f32⟩
  | .hbm, ⟨24, _⟩ => ⟨S8448x2816, .bf16⟩
  | .hbm, ⟨25, _⟩ => ⟨S8448x2816, .bf16⟩
  | _, _ => ⟨S8448x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩

abbrev nD : Nat := 1
abbrev τ : Topo := Topo.v7x

variable {F : FTy → Type} [FloatOps F]
-- ==== Norm2Bwd.lean ====
abbrev S8448x1024 : Shape := ⟨2, ![8448, 1024]⟩
abbrev S8x6144 : Shape := ⟨2, ![8, 6144]⟩
abbrev S1x1024 : Shape := ⟨2, ![1, 1024]⟩
abbrev S8x1024 : Shape := ⟨2, ![8, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩
abbrev S7x1024 : Shape := ⟨2, ![7, 1024]⟩

abbrev nBuf : Space → Nat
  | .hbm => 12
  | .vmem => 20
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S8x6144, .f32⟩
  | .hbm, ⟨3, _⟩ => ⟨S1x1024, .f32⟩
  | .hbm, ⟨4, _⟩ => ⟨S8448x1024, .f32⟩
  | .hbm, ⟨5, _⟩ => ⟨S8448x1024, .f32⟩
  | .hbm, ⟨6, _⟩ => ⟨S8448x1024, .f32⟩
  | .hbm, ⟨7, _⟩ => ⟨S8448x1024, .bf16⟩
  | .hbm, ⟨8, _⟩ => ⟨S8x1024, .f32⟩
  | .hbm, ⟨9, _⟩ => ⟨S1x1024, .f32⟩
  | .hbm, ⟨10, _⟩ => ⟨S8x1024, .f32⟩
  | .hbm, ⟨11, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S8x1024, .f32⟩
  | .local _ .vmem, ⟨5, _⟩ => ⟨S1x1024, .f32⟩
  | .local _ .vmem, ⟨6, _⟩ => ⟨S8x1024, .f32⟩
  | .local _ .vmem, ⟨7, _⟩ => ⟨S8x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | .local _ .vmem, ⟨15, _⟩ => ⟨S256x1024, .bf16⟩
  | .local _ .vmem, ⟨16, _⟩ => ⟨S8x1024, .f32⟩
  | .local _ .vmem, ⟨17, _⟩ => ⟨S1x1024, .f32⟩
  | .local _ .vmem, ⟨18, _⟩ => ⟨S8x1024, .f32⟩
  | .local _ .vmem, ⟨19, _⟩ => ⟨S8x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem13_0 : DmaSem sig := 19

abbrev nD : Nat := 1
abbrev τ : Topo := Topo.v7x

variable {F : FTy → Type} [FloatOps F]

abbrev grid0 : Pipeline.Grid := ⟨2, ![1, 33], ![false, false]⟩

def k0_cond1 (i : grid0.Coords) : BitVec 1 :=
  let arg1 : BitVec 32 := BitVec.ofNat 32 (i 1).val
  let c0_i32 : BitVec 32 := 0#32
  let v73 : BitVec 1 := Scalar.cmpi .eq arg1 c0_i32
  let v74 : BitVec 32 := Scalar.extui v73
  let c0_i32_31 : BitVec 32 := 0#32
  let v75 : BitVec 1 := Scalar.cmpi .ne v74 c0_i32_31
  v75

def k0_cond2 (i : grid0.Coords) : BitVec 1 :=
  let arg1 : BitVec 32 := BitVec.ofNat 32 (i 1).val
  let c0_i32 : BitVec 32 := 0#32
  let v73 : BitVec 1 := Scalar.cmpi .eq arg1 c0_i32
  let v_true : BitVec 1 := 1#1
  let v76 : BitVec 1 := Scalar.xori v73 v_true
  let v77 : BitVec 32 := Scalar.extui v76
  let c0_i32_32 : BitVec 32 := 0#32
  let v78 : BitVec 1 := Scalar.cmpi .ne v77 c0_i32_32
  v78

def k0_cond3 (i : grid0.Coords) : BitVec 1 :=
  let arg1 : BitVec 32 := BitVec.ofNat 32 (i 1).val
  let c0_i32 : BitVec 32 := 0#32
  let v73 : BitVec 1 := Scalar.cmpi .eq arg1 c0_i32
  let v79 : BitVec 32 := Scalar.extui v73
  let c0_i32_33 : BitVec 32 := 0#32
  let v80 : BitVec 1 := Scalar.cmpi .ne v79 c0_i32_33
  v80

def k0_cond4 (i : grid0.Coords) : BitVec 1 :=
  let arg1 : BitVec 32 := BitVec.ofNat 32 (i 1).val
  let c0_i32 : BitVec 32 := 0#32
  let v73 : BitVec 1 := Scalar.cmpi .eq arg1 c0_i32
  let true_34 : BitVec 1 := 1#1
  let v81 : BitVec 1 := Scalar.xori v73 true_34
  let v82 : BitVec 32 := Scalar.extui v81
  let c0_i32_35 : BitVec 32 := 0#32
  let v83 : BitVec 1 := Scalar.cmpi .ne v82 c0_i32_35
  v83

def k0_cond5 (i : grid0.Coords) : BitVec 1 :=
  let arg1 : BitVec 32 := BitVec.ofNat 32 (i 1).val
  let c0_i32 : BitVec 32 := 0#32
  let v73 : BitVec 1 := Scalar.cmpi .eq arg1 c0_i32
  let v84 : BitVec 32 := Scalar.extui v73
  let c0_i32_36 : BitVec 32 := 0#32
  let v85 : BitVec 1 := Scalar.cmpi .ne v84 c0_i32_36
  v85

def k0_cond6 (i : grid0.Coords) : BitVec 1 :=
  let arg1 : BitVec 32 := BitVec.ofNat 32 (i 1).val
  let c0_i32 : BitVec 32 := 0#32
  let v73 : BitVec 1 := Scalar.cmpi .eq arg1 c0_i32
  let true_37 : BitVec 1 := 1#1
  let v86 : BitVec 1 := Scalar.xori v73 true_37
  let v87 : BitVec 32 := Scalar.extui v86
  let c0_i32_38 : BitVec 32 := 0#32
  let v88 : BitVec 1 := Scalar.cmpi .ne v87 c0_i32_38
  v88

def k0_cond7 (i : grid0.Coords) : BitVec 1 :=
  let arg1 : BitVec 32 := BitVec.ofNat 32 (i 1).val
  let c0_i32 : BitVec 32 := 0#32
  let v73 : BitVec 1 := Scalar.cmpi .eq arg1 c0_i32
  let v89 : BitVec 32 := Scalar.extui v73
  let c0_i32_39 : BitVec 32 := 0#32
  let v90 : BitVec 1 := Scalar.cmpi .ne v89 c0_i32_39
  v90

def k0_cond8 (i : grid0.Coords) : BitVec 1 :=
  let arg1 : BitVec 32 := BitVec.ofNat 32 (i 1).val
  let c0_i32 : BitVec 32 := 0#32
  let v73 : BitVec 1 := Scalar.cmpi .eq arg1 c0_i32
  let true_40 : BitVec 1 := 1#1
  let v91 : BitVec 1 := Scalar.xori v73 true_40
  let v92 : BitVec 32 := Scalar.extui v91
  let c0_i32_41 : BitVec 32 := 0#32
  let v93 : BitVec 1 := Scalar.cmpi .ne v92 c0_i32_41
  v93

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![c0_i32.toNat, c2_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![c0_i32.toNat, c4_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![c0_i32.toNat, c3_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, false]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, false]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true, false]
-- ==== Norm2BwdRefIdeal.lean ====
abbrev S8448x1024 : Shape := ⟨2, ![8448, 1024]⟩
abbrev S8x6144 : Shape := ⟨2, ![8, 6144]⟩
abbrev S1x1024 : Shape := ⟨2, ![1, 1024]⟩
abbrev S8x1024 : Shape := ⟨2, ![8, 1024]⟩
abbrev S_ : Shape := ⟨0, ![]⟩
abbrev S8448 : Shape := ⟨1, ![8448]⟩
abbrev S8448x1 : Shape := ⟨2, ![8448, 1]⟩
abbrev S1024 : Shape := ⟨1, ![1024]⟩

abbrev nBuf : Space → Nat
  | .hbm => 89
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S8x6144, .f32⟩
  | .hbm, ⟨3, _⟩ => ⟨S1x1024, .f32⟩
  | .hbm, ⟨4, _⟩ => ⟨S8448x1024, .f32⟩
  | .hbm, ⟨5, _⟩ => ⟨S8448x1024, .f32⟩
  | .hbm, ⟨6, _⟩ => ⟨S8x1024, .f32⟩
  | .hbm, ⟨7, _⟩ => ⟨S8x1024, .f32⟩
  | .hbm, ⟨8, _⟩ => ⟨S8x1024, .f32⟩
  | .hbm, ⟨9, _⟩ => ⟨S1x1024, .f32⟩
  | .hbm, ⟨10, _⟩ => ⟨S8448x1024, .f32⟩
  | .hbm, ⟨11, _⟩ => ⟨S8448x1024, .f32⟩
  | .hbm, ⟨12, _⟩ => ⟨S8448x1024, .f32⟩
  | .hbm, ⟨13, _⟩ => ⟨S8448x1024, .f32⟩
  | .hbm, ⟨14, _⟩ => ⟨S_, .f32⟩
  | .hbm, ⟨15, _⟩ => ⟨S8448, .f32⟩
  | .hbm, ⟨16, _⟩ => ⟨S8448x1, .f32⟩
  | .hbm, ⟨17, _⟩ => ⟨S_, .f32⟩
  | .hbm, ⟨18, _⟩ => ⟨S8448x1, .f32⟩
  | .hbm, ⟨19, _⟩ => ⟨S8448x1, .f32⟩
  | .hbm, ⟨20, _⟩ => ⟨S_, .f32⟩
  | .hbm, ⟨21, _⟩ => ⟨S8448x1, .f32⟩
  | .hbm, ⟨22, _⟩ => ⟨S8448x1, .f32⟩
  | .hbm, ⟨23, _⟩ => ⟨S8448x1, .f32⟩
  | .hbm, ⟨24, _⟩ => ⟨S8448x1, .f32⟩
  | .hbm, ⟨25, _⟩ => ⟨S_, .f32⟩
  | .hbm, ⟨26, _⟩ => ⟨S8448x1, .f32⟩
  | .hbm, ⟨27, _⟩ => ⟨S8448x1, .f32⟩
  | .hbm, ⟨28, _⟩ => ⟨S8448x1024, .f32⟩
  | .hbm, ⟨29, _⟩ => ⟨S8448x1024, .f32⟩
  | .hbm, ⟨30, _⟩ => ⟨S8448x1024, .f32⟩
  | .hbm, ⟨31, _⟩ => ⟨S8448x1024, .f32⟩
  | .hbm, ⟨32, _⟩ => ⟨S1x1024, .f32⟩
  | .hbm, ⟨33, _⟩ => ⟨S_, .f32⟩
  | .hbm, ⟨34, _⟩ => ⟨S1x1024, .f32⟩
  | .hbm, ⟨35, _⟩ => ⟨S1x1024, .f32⟩
  | .hbm, ⟨36, _⟩ => ⟨S8448x1024, .f32⟩
  | .hbm, ⟨37, _⟩ => ⟨S8448x1024, .f32⟩
  | .hbm, ⟨38, _⟩ => ⟨S1x1024, .f32⟩
  | .hbm, ⟨39, _⟩ => ⟨S8448x1024, .f32⟩
  | .hbm, ⟨40, _⟩ => ⟨S8448x1024, .f32⟩
  | .hbm, ⟨41, _⟩ => ⟨S8448x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S_, .f32⟩
  | .hbm, ⟨46, _⟩ => ⟨S8x1024, .f32⟩
  | .hbm, ⟨47, _⟩ => ⟨S8448x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S8448x1024, .f32⟩
  | .hbm, ⟨52, _⟩ => ⟨S8448x1024, .f32⟩
  | .hbm, ⟨53, _⟩ => ⟨S_, .f32⟩
  | .hbm, ⟨54, _⟩ => ⟨S8x1024, .f32⟩
  | .hbm, ⟨55, _⟩ => ⟨S8448x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S8448x1024, .f32⟩
  | .hbm, ⟨60, _⟩ => ⟨S8448x1024, .f32⟩
  | .hbm, ⟨61, _⟩ => ⟨S8448x1024, .f32⟩
  | .hbm, ⟨62, _⟩ => ⟨S_, .f32⟩
  | .hbm, ⟨63, _⟩ => ⟨S8448, .f32⟩
  | .hbm, ⟨64, _⟩ => ⟨S8448x1, .f32⟩
  | .hbm, ⟨65, _⟩ => ⟨S8448x1024, .f32⟩
  | .hbm, ⟨66, _⟩ => ⟨S8448x1024, .f32⟩
  | .hbm, ⟨67, _⟩ => ⟨S8448x1024, .f32⟩
  | .hbm, ⟨68, _⟩ => ⟨S8448x1, .f32⟩
  | .hbm, ⟨69, _⟩ => ⟨S_, .f32⟩
  | .hbm, ⟨70, _⟩ => ⟨S8448x1, .f32⟩
  | .hbm, ⟨71, _⟩ => ⟨S8448x1, .f32⟩
  | .hbm, ⟨72, _⟩ => ⟨S_, .f32⟩
  | .hbm, ⟨73, _⟩ => ⟨S8448, .f32⟩
  | .hbm, ⟨74, _⟩ => ⟨S8448x1024, .f32⟩
  | .hbm, ⟨75, _⟩ => ⟨S8448x1024, .f32⟩
  | .hbm, ⟨76, _⟩ => ⟨S8448x1024, .f32⟩
  | .hbm, ⟨77, _⟩ => ⟨S8448x1024, .f32⟩
  | .hbm, ⟨78, _⟩ => ⟨S8448x1024, .f32⟩
  | .hbm, ⟨79, _⟩ => ⟨S8448x1024, .f32⟩
  | .hbm, ⟨80, _⟩ => ⟨S8448x1024, .f32⟩
  | .hbm, ⟨81, _⟩ => ⟨S8448x1024, .f32⟩
  | .hbm, ⟨82, _⟩ => ⟨S8448x1024, .f32⟩
  | .hbm, ⟨83, _⟩ => ⟨S_, .f32⟩
  | .hbm, ⟨84, _⟩ => ⟨S1024, .f32⟩
  | .hbm, ⟨85, _⟩ => ⟨S1x1024, .f32⟩
  | .hbm, ⟨86, _⟩ => ⟨S_, .f32⟩
  | .hbm, ⟨87, _⟩ => ⟨S8x1024, .f32⟩
  | .hbm, ⟨88, _⟩ => ⟨S8448x1024, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_9 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_10 : Ref sig .tc := ⟨.hbm, 69, rfl⟩
abbrev main_v52 : Ref sig .tc := ⟨.hbm, 70, rfl⟩
abbrev main_v53 : Ref sig .tc := ⟨.hbm, 71, rfl⟩
abbrev main_cst_11 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_12 : Ref sig .tc := ⟨.hbm, 83, rfl⟩
abbrev main_v64 : Ref sig .tc := ⟨.hbm, 84, rfl⟩
abbrev main_v65 : Ref sig .tc := ⟨.hbm, 85, rfl⟩
abbrev main_cst_13 : Ref sig .tc := ⟨.hbm, 86, rfl⟩
abbrev main_v66 : Ref sig .tc := ⟨.hbm, 87, rfl⟩
abbrev main_v67 : Ref sig .tc := ⟨.hbm, 88, rfl⟩

abbrev nD : Nat := 1
abbrev τ : Topo := Topo.v7x

variable {F : FTy → Type} [FloatOps F]
-- ==== GradFfnOut.lean ====
abbrev S8448x2816 : Shape := ⟨2, ![8448, 2816]⟩
abbrev S8448x1024 : Shape := ⟨2, ![8448, 1024]⟩
abbrev S2816x1024 : Shape := ⟨2, ![2816, 1024]⟩
abbrev S768x2816 : Shape := ⟨2, ![768, 2816]⟩
abbrev S768x512 : Shape := ⟨2, ![768, 512]⟩
abbrev S2816x512 : Shape := ⟨2, ![2816, 512]⟩

abbrev nBuf : Space → Nat
  | .hbm => 3
  | .vmem => 7
  | .smem => 0
  | _ => 0

abbrev bufTy : (tb : Table) → Fin (tcTables nBuf tb) → BufTy
  | .hbm, ⟨0, _⟩ => ⟨S8448x2816, .bf16⟩
  | .hbm, ⟨1, _⟩ => ⟨S8448x1024, .bf16⟩
  | .hbm, ⟨2, _⟩ => ⟨S2816x1024, .f32⟩
  | .local _ .vmem, ⟨0, _⟩ => ⟨S768x2816, .bf16⟩
  | .local _ .vmem, ⟨1, _⟩ => ⟨S768x2816, .bf16⟩
  | .local _ .vmem, ⟨2, _⟩ => ⟨S768x512, .bf16⟩
  | .local _ .vmem, ⟨3, _⟩ => ⟨S768x512, .bf16⟩
  | .local _ .vmem, ⟨4, _⟩ => ⟨S2816x512, .f32⟩
  | .local _ .vmem, ⟨5, _⟩ => ⟨S2816x512, .f32⟩
  | .local _ .vmem, ⟨6, _⟩ => ⟨S2816x512, .f32⟩
  | _, _ => ⟨S8448x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 11], ![false, false, false]⟩

def k0_cond3 (i : grid0.Coords) : BitVec 1 :=
  let arg2 : BitVec 32 := BitVec.ofNat 32 (i 2).val
  let c10_i32 : BitVec 32 := 10#32
  let v9 : BitVec 1 := Scalar.cmpi .eq arg2 c10_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2816x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradFfnOutRefIdeal.lean ====
abbrev S8448x2816 : Shape := ⟨2, ![8448, 2816]⟩
abbrev S8448x1024 : Shape := ⟨2, ![8448, 1024]⟩
abbrev S2816x8448 : Shape := ⟨2, ![2816, 8448]⟩
abbrev S2816x1024 : Shape := ⟨2, ![2816, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8448x2816, .bf16⟩
  | .hbm, ⟨1, _⟩ => ⟨S8448x1024, .bf16⟩
  | .hbm, ⟨2, _⟩ => ⟨S2816x8448, .bf16⟩
  | .hbm, ⟨3, _⟩ => ⟨S2816x1024, .f32⟩
  | _, _ => ⟨S8448x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== GradGated.lean ====
abbrev S8448x1024 : Shape := ⟨2, ![8448, 1024]⟩
abbrev S2816x1024 : Shape := ⟨2, ![2816, 1024]⟩
abbrev S8448x2816 : Shape := ⟨2, ![8448, 2816]⟩
abbrev S768x1024 : Shape := ⟨2, ![768, 1024]⟩
abbrev S256x1024 : Shape := ⟨2, ![256, 1024]⟩
abbrev S768x256 : Shape := ⟨2, ![768, 256]⟩

abbrev nBuf : Space → Nat
  | .hbm => 3
  | .vmem => 7
  | .smem => 0
  | _ => 0

abbrev bufTy : (tb : Table) → Fin (tcTables nBuf tb) → BufTy
  | .hbm, ⟨0, _⟩ => ⟨S8448x1024, .bf16⟩
  | .hbm, ⟨1, _⟩ => ⟨S2816x1024, .bf16⟩
  | .hbm, ⟨2, _⟩ => ⟨S8448x2816, .f32⟩
  | .local _ .vmem, ⟨0, _⟩ => ⟨S768x1024, .bf16⟩
  | .local _ .vmem, ⟨1, _⟩ => ⟨S768x1024, .bf16⟩
  | .local _ .vmem, ⟨2, _⟩ => ⟨S256x1024, .bf16⟩
  | .local _ .vmem, ⟨3, _⟩ => ⟨S256x1024, .bf16⟩
  | .local _ .vmem, ⟨4, _⟩ => ⟨S768x256, .f32⟩
  | .local _ .vmem, ⟨5, _⟩ => ⟨S768x256, .f32⟩
  | .local _ .vmem, ⟨6, _⟩ => ⟨S768x256, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 11, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradGatedRefIdeal.lean ====
abbrev S8448x1024 : Shape := ⟨2, ![8448, 1024]⟩
abbrev S2816x1024 : Shape := ⟨2, ![2816, 1024]⟩
abbrev S1024x2816 : Shape := ⟨2, ![1024, 2816]⟩
abbrev S8448x2816 : Shape := ⟨2, ![8448, 2816]⟩

abbrev nBuf : Space → Nat
  | .hbm => 4
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S2816x1024, .bf16⟩
  | .hbm, ⟨2, _⟩ => ⟨S1024x2816, .bf16⟩
  | .hbm, ⟨3, _⟩ => ⟨S8448x2816, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== GradFfnIn.lean ====
abbrev S8448x1024 : Shape := ⟨2, ![8448, 1024]⟩
abbrev S8448x5632 : Shape := ⟨2, ![8448, 5632]⟩
abbrev S1024x5632 : Shape := ⟨2, ![1024, 5632]⟩
abbrev S768x1024 : Shape := ⟨2, ![768, 1024]⟩
abbrev S768x512 : Shape := ⟨2, ![768, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8448x1024, .bf16⟩
  | .hbm, ⟨1, _⟩ => ⟨S8448x5632, .bf16⟩
  | .hbm, ⟨2, _⟩ => ⟨S1024x5632, .f32⟩
  | .local _ .vmem, ⟨0, _⟩ => ⟨S768x1024, .bf16⟩
  | .local _ .vmem, ⟨1, _⟩ => ⟨S768x1024, .bf16⟩
  | .local _ .vmem, ⟨2, _⟩ => ⟨S768x512, .bf16⟩
  | .local _ .vmem, ⟨3, _⟩ => ⟨S768x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 11, 11], ![false, false, false]⟩

def k0_cond3 (i : grid0.Coords) : BitVec 1 :=
  let arg2 : BitVec 32 := BitVec.ofNat 32 (i 2).val
  let c10_i32 : BitVec 32 := 10#32
  let v9 : BitVec 1 := Scalar.cmpi .eq arg2 c10_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradFfnInRefIdeal.lean ====
abbrev S8448x1024 : Shape := ⟨2, ![8448, 1024]⟩
abbrev S8448x5632 : Shape := ⟨2, ![8448, 5632]⟩
abbrev S1024x8448 : Shape := ⟨2, ![1024, 8448]⟩
abbrev S1024x5632 : Shape := ⟨2, ![1024, 5632]⟩

abbrev nBuf : Space → Nat
  | .hbm => 4
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x5632, .bf16⟩
  | .hbm, ⟨2, _⟩ => ⟨S1024x8448, .bf16⟩
  | .hbm, ⟨3, _⟩ => ⟨S1024x5632, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== GradNormed.lean ====
abbrev S8448x5632 : Shape := ⟨2, ![8448, 5632]⟩
abbrev S1024x5632 : Shape := ⟨2, ![1024, 5632]⟩
abbrev S8448x1024 : Shape := ⟨2, ![8448, 1024]⟩
abbrev S768x512 : Shape := ⟨2, ![768, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8448x5632, .bf16⟩
  | .hbm, ⟨1, _⟩ => ⟨S1024x5632, .bf16⟩
  | .hbm, ⟨2, _⟩ => ⟨S8448x1024, .f32⟩
  | .local _ .vmem, ⟨0, _⟩ => ⟨S768x512, .bf16⟩
  | .local _ .vmem, ⟨1, _⟩ => ⟨S768x512, .bf16⟩
  | .local _ .vmem, ⟨2, _⟩ => ⟨S512x512, .bf16⟩
  | .local _ .vmem, ⟨3, _⟩ => ⟨S512x512, .bf16⟩
  | .local _ .vmem, ⟨4, _⟩ => ⟨S768x512, .f32⟩
  | .local _ .vmem, ⟨5, _⟩ => ⟨S768x512, .f32⟩
  | .local _ .vmem, ⟨6, _⟩ => ⟨S768x512, .f32⟩
  | _, _ => ⟨S8448x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 11], ![false, false, false]⟩

def k0_cond3 (i : grid0.Coords) : BitVec 1 :=
  let arg2 : BitVec 32 := BitVec.ofNat 32 (i 2).val
  let c10_i32 : BitVec 32 := 10#32
  let v9 : BitVec 1 := Scalar.cmpi .eq arg2 c10_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradNormedRefIdeal.lean ====
abbrev S8448x5632 : Shape := ⟨2, ![8448, 5632]⟩
abbrev S1024x5632 : Shape := ⟨2, ![1024, 5632]⟩
abbrev S5632x1024 : Shape := ⟨2, ![5632, 1024]⟩
abbrev S8448x1024 : Shape := ⟨2, ![8448, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8448x5632, .bf16⟩
  | .hbm, ⟨1, _⟩ => ⟨S1024x5632, .bf16⟩
  | .hbm, ⟨2, _⟩ => ⟨S5632x1024, .bf16⟩
  | .hbm, ⟨3, _⟩ => ⟨S8448x1024, .f32⟩
  | _, _ => ⟨S8448x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MixOut.lean ====
abbrev S8448x1024 : Shape := ⟨2, ![8448, 1024]⟩
abbrev S1024x1024 : Shape := ⟨2, ![1024, 1024]⟩
abbrev S768x1024 : Shape := ⟨2, ![768, 1024]⟩
abbrev S1024x512 : Shape := ⟨2, ![1024, 512]⟩
abbrev S768x512 : Shape := ⟨2, ![768, 512]⟩

abbrev nBuf : Space → Nat
  | .hbm => 3
  | .vmem => 7
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .bf16⟩
  | .hbm, ⟨2, _⟩ => ⟨S8448x1024, .f32⟩
  | .local _ .vmem, ⟨0, _⟩ => ⟨S768x1024, .bf16⟩
  | .local _ .vmem, ⟨1, _⟩ => ⟨S768x1024, .bf16⟩
  | .local _ .vmem, ⟨2, _⟩ => ⟨S1024x512, .bf16⟩
  | .local _ .vmem, ⟨3, _⟩ => ⟨S1024x512, .bf16⟩
  | .local _ .vmem, ⟨4, _⟩ => ⟨S768x512, .f32⟩
  | .local _ .vmem, ⟨5, _⟩ => ⟨S768x512, .f32⟩
  | .local _ .vmem, ⟨6, _⟩ => ⟨S768x512, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixOutRefIdeal.lean ====
abbrev S8448x1024 : Shape := ⟨2, ![8448, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .bf16⟩
  | .hbm, ⟨2, _⟩ => ⟨S8448x1024, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== BranchSsm.lean ====
abbrev S8448x2048 : Shape := ⟨2, ![8448, 2048]⟩
abbrev S2048x1024 : Shape := ⟨2, ![2048, 1024]⟩
abbrev S8448x1024 : Shape := ⟨2, ![8448, 1024]⟩
abbrev S768x2048 : Shape := ⟨2, ![768, 2048]⟩
abbrev S2048x512 : Shape := ⟨2, ![2048, 512]⟩
abbrev S768x512 : Shape := ⟨2, ![768, 512]⟩

abbrev nBuf : Space → Nat
  | .hbm => 3
  | .vmem => 7
  | .smem => 0
  | _ => 0

abbrev bufTy : (tb : Table) → Fin (tcTables nBuf tb) → BufTy
  | .hbm, ⟨0, _⟩ => ⟨S8448x2048, .bf16⟩
  | .hbm, ⟨1, _⟩ => ⟨S2048x1024, .bf16⟩
  | .hbm, ⟨2, _⟩ => ⟨S8448x1024, .f32⟩
  | .local _ .vmem, ⟨0, _⟩ => ⟨S768x2048, .bf16⟩
  | .local _ .vmem, ⟨1, _⟩ => ⟨S768x2048, .bf16⟩
  | .local _ .vmem, ⟨2, _⟩ => ⟨S2048x512, .bf16⟩
  | .local _ .vmem, ⟨3, _⟩ => ⟨S2048x512, .bf16⟩
  | .local _ .vmem, ⟨4, _⟩ => ⟨S768x512, .f32⟩
  | .local _ .vmem, ⟨5, _⟩ => ⟨S768x512, .f32⟩
  | .local _ .vmem, ⟨6, _⟩ => ⟨S768x512, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchSsmRefIdeal.lean ====
abbrev S8448x2048 : Shape := ⟨2, ![8448, 2048]⟩
abbrev S2048x1024 : Shape := ⟨2, ![2048, 1024]⟩
abbrev S8448x1024 : Shape := ⟨2, ![8448, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S2048x1024, .bf16⟩
  | .hbm, ⟨2, _⟩ => ⟨S8448x1024, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== GradWOut.lean ====
abbrev S8448x1024 : Shape := ⟨2, ![8448, 1024]⟩
abbrev S1024x1024 : Shape := ⟨2, ![1024, 1024]⟩
abbrev S768x1024 : Shape := ⟨2, ![768, 1024]⟩
abbrev S768x512 : Shape := ⟨2, ![768, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S1024x1024, .f32⟩
  | .local _ .vmem, ⟨0, _⟩ => ⟨S768x1024, .bf16⟩
  | .local _ .vmem, ⟨1, _⟩ => ⟨S768x1024, .bf16⟩
  | .local _ .vmem, ⟨2, _⟩ => ⟨S768x512, .bf16⟩
  | .local _ .vmem, ⟨3, _⟩ => ⟨S768x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 11], ![false, false, false]⟩

def k0_cond3 (i : grid0.Coords) : BitVec 1 :=
  let arg2 : BitVec 32 := BitVec.ofNat 32 (i 2).val
  let c10_i32 : BitVec 32 := 10#32
  let v9 : BitVec 1 := Scalar.cmpi .eq arg2 c10_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradWOutRefIdeal.lean ====
abbrev S8448x1024 : Shape := ⟨2, ![8448, 1024]⟩
abbrev S1024x8448 : Shape := ⟨2, ![1024, 8448]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S1024x8448, .bf16⟩
  | .hbm, ⟨3, _⟩ => ⟨S1024x1024, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== GradWSsm.lean ====
abbrev S8448x2048 : Shape := ⟨2, ![8448, 2048]⟩
abbrev S8448x1024 : Shape := ⟨2, ![8448, 1024]⟩
abbrev S2048x1024 : Shape := ⟨2, ![2048, 1024]⟩
abbrev S768x2048 : Shape := ⟨2, ![768, 2048]⟩
abbrev S768x512 : Shape := ⟨2, ![768, 512]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S8448x2048, .bf16⟩
  | .hbm, ⟨1, _⟩ => ⟨S8448x1024, .bf16⟩
  | .hbm, ⟨2, _⟩ => ⟨S2048x1024, .f32⟩
  | .local _ .vmem, ⟨0, _⟩ => ⟨S768x2048, .bf16⟩
  | .local _ .vmem, ⟨1, _⟩ => ⟨S768x2048, .bf16⟩
  | .local _ .vmem, ⟨2, _⟩ => ⟨S768x512, .bf16⟩
  | .local _ .vmem, ⟨3, _⟩ => ⟨S768x512, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 11], ![false, false, false]⟩

def k0_cond3 (i : grid0.Coords) : BitVec 1 :=
  let arg2 : BitVec 32 := BitVec.ofNat 32 (i 2).val
  let c10_i32 : BitVec 32 := 10#32
  let v9 : BitVec 1 := Scalar.cmpi .eq arg2 c10_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradWSsmRefIdeal.lean ====
abbrev S8448x2048 : Shape := ⟨2, ![8448, 2048]⟩
abbrev S8448x1024 : Shape := ⟨2, ![8448, 1024]⟩
abbrev S2048x8448 : Shape := ⟨2, ![2048, 8448]⟩
abbrev S2048x1024 : Shape := ⟨2, ![2048, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S8448x1024, .bf16⟩
  | .hbm, ⟨2, _⟩ => ⟨S2048x8448, .bf16⟩
  | .hbm, ⟨3, _⟩ => ⟨S2048x1024, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== GradMerged.lean ====
abbrev S8448x1024 : Shape := ⟨2, ![8448, 1024]⟩
abbrev S1024x1024 : Shape := ⟨2, ![1024, 1024]⟩
abbrev S768x1024 : Shape := ⟨2, ![768, 1024]⟩
abbrev S512x1024 : Shape := ⟨2, ![512, 1024]⟩
abbrev S768x512 : Shape := ⟨2, ![768, 512]⟩

abbrev nBuf : Space → Nat
  | .hbm => 3
  | .vmem => 7
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .bf16⟩
  | .hbm, ⟨2, _⟩ => ⟨S8448x1024, .f32⟩
  | .local _ .vmem, ⟨0, _⟩ => ⟨S768x1024, .bf16⟩
  | .local _ .vmem, ⟨1, _⟩ => ⟨S768x1024, .bf16⟩
  | .local _ .vmem, ⟨2, _⟩ => ⟨S512x1024, .bf16⟩
  | .local _ .vmem, ⟨3, _⟩ => ⟨S512x1024, .bf16⟩
  | .local _ .vmem, ⟨4, _⟩ => ⟨S768x512, .f32⟩
  | .local _ .vmem, ⟨5, _⟩ => ⟨S768x512, .f32⟩
  | .local _ .vmem, ⟨6, _⟩ => ⟨S768x512, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradMergedRefIdeal.lean ====
abbrev S8448x1024 : Shape := ⟨2, ![8448, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .bf16⟩
  | .hbm, ⟨2, _⟩ => ⟨S1024x1024, .bf16⟩
  | .hbm, ⟨3, _⟩ => ⟨S8448x1024, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== GradSsm.lean ====
abbrev S8448x1024 : Shape := ⟨2, ![8448, 1024]⟩
abbrev S2048x1024 : Shape := ⟨2, ![2048, 1024]⟩
abbrev S8448x2048 : Shape := ⟨2, ![8448, 2048]⟩
abbrev S768x1024 : Shape := ⟨2, ![768, 1024]⟩
abbrev S512x1024 : Shape := ⟨2, ![512, 1024]⟩
abbrev S768x512 : Shape := ⟨2, ![768, 512]⟩

abbrev nBuf : Space → Nat
  | .hbm => 3
  | .vmem => 7
  | .smem => 0
  | _ => 0

abbrev bufTy : (tb : Table) → Fin (tcTables nBuf tb) → BufTy
  | .hbm, ⟨0, _⟩ => ⟨S8448x1024, .bf16⟩
  | .hbm, ⟨1, _⟩ => ⟨S2048x1024, .bf16⟩
  | .hbm, ⟨2, _⟩ => ⟨S8448x2048, .f32⟩
  | .local _ .vmem, ⟨0, _⟩ => ⟨S768x1024, .bf16⟩
  | .local _ .vmem, ⟨1, _⟩ => ⟨S768x1024, .bf16⟩
  | .local _ .vmem, ⟨2, _⟩ => ⟨S512x1024, .bf16⟩
  | .local _ .vmem, ⟨3, _⟩ => ⟨S512x1024, .bf16⟩
  | .local _ .vmem, ⟨4, _⟩ => ⟨S768x512, .f32⟩
  | .local _ .vmem, ⟨5, _⟩ => ⟨S768x512, .f32⟩
  | .local _ .vmem, ⟨6, _⟩ => ⟨S768x512, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 4, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradSsmRefIdeal.lean ====
abbrev S8448x1024 : Shape := ⟨2, ![8448, 1024]⟩
abbrev S2048x1024 : Shape := ⟨2, ![2048, 1024]⟩
abbrev S1024x2048 : Shape := ⟨2, ![1024, 2048]⟩
abbrev S8448x2048 : Shape := ⟨2, ![8448, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S2048x1024, .bf16⟩
  | .hbm, ⟨2, _⟩ => ⟨S1024x2048, .bf16⟩
  | .hbm, ⟨3, _⟩ => ⟨S8448x2048, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== AdaBwd.lean ====
abbrev S8x1024 : Shape := ⟨2, ![8, 1024]⟩
abbrev S1024x6144 : Shape := ⟨2, ![1024, 6144]⟩
abbrev S8x6144 : Shape := ⟨2, ![8, 6144]⟩
abbrev S1x6144 : Shape := ⟨2, ![1, 6144]⟩
abbrev S1024x512 : Shape := ⟨2, ![1024, 512]⟩
abbrev S8x512 : Shape := ⟨2, ![8, 512]⟩
abbrev S1x512 : Shape := ⟨2, ![1, 512]⟩
abbrev S512 : Shape := ⟨1, ![512]⟩

abbrev nBuf : Space → Nat
  | .hbm => 6
  | .vmem => 10
  | .smem => 0
  | _ => 0

abbrev bufTy : (tb : Table) → Fin (tcTables nBuf tb) → BufTy
  | .hbm, ⟨0, _⟩ => ⟨S8x1024, .f32⟩
  | .hbm, ⟨1, _⟩ => ⟨S1024x6144, .bf16⟩
  | .hbm, ⟨2, _⟩ => ⟨S8x6144, .f32⟩
  | .hbm, ⟨3, _⟩ => ⟨S1024x6144, .f32⟩
  | .hbm, ⟨4, _⟩ => ⟨S1x6144, .f32⟩
  | .hbm, ⟨5, _⟩ => ⟨S8x1024, .f32⟩
  | .local _ .vmem, ⟨0, _⟩ => ⟨S8x1024, .f32⟩
  | .local _ .vmem, ⟨1, _⟩ => ⟨S1024x512, .bf16⟩
  | .local _ .vmem, ⟨2, _⟩ => ⟨S1024x512, .bf16⟩
  | .local _ .vmem, ⟨3, _⟩ => ⟨S8x512, .f32⟩
  | .local _ .vmem, ⟨4, _⟩ => ⟨S8x512, .f32⟩
  | .local _ .vmem, ⟨5, _⟩ => ⟨S1024x512, .f32⟩
  | .local _ .vmem, ⟨6, _⟩ => ⟨S1024x512, .f32⟩
  | .local _ .vmem, ⟨7, _⟩ => ⟨S1x512, .f32⟩
  | .local _ .vmem, ⟨8, _⟩ => ⟨S1x512, .f32⟩
  | .local _ .vmem, ⟨9, _⟩ => ⟨S8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![12], ![false]⟩

def k0_cond1 (i : grid0.Coords) : BitVec 1 :=
  let arg0 : BitVec 32 := BitVec.ofNat 32 (i 0).val
  let c0_i32 : BitVec 32 := 0#32
  let v22 : BitVec 1 := Scalar.cmpi .eq arg0 c0_i32
  let v23 : BitVec 32 := Scalar.extui v22
  let c0_i32_13 : BitVec 32 := 0#32
  let v24 : BitVec 1 := Scalar.cmpi .ne v23 c0_i32_13
  v24

def k0_cond2 (i : grid0.Coords) : BitVec 1 :=
  let arg0 : BitVec 32 := BitVec.ofNat 32 (i 0).val
  let c0_i32_14 : BitVec 32 := 0#32
  let v25 : BitVec 1 := Scalar.cmpi .sgt arg0 c0_i32_14
  let v26 : BitVec 32 := Scalar.extui v25
  let c0_i32_15 : BitVec 32 := 0#32
  let v27 : BitVec 1 := Scalar.cmpi .ne v26 c0_i32_15
  v27

def k0_cond3 (i : grid0.Coords) : BitVec 1 :=
  let arg0 : BitVec 32 := BitVec.ofNat 32 (i 0).val
  let c11_i32 : BitVec 32 := 11#32
  let v28 : BitVec 1 := Scalar.cmpi .eq arg0 c11_i32
  let v29 : BitVec 32 := Scalar.extui v28
  let c0_i32_16 : BitVec 32 := 0#32
  let v30 : BitVec 1 := Scalar.cmpi .ne v29 c0_i32_16
  v30

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== AdaBwdRefIdeal.lean ====
abbrev S8x1024 : Shape := ⟨2, ![8, 1024]⟩
abbrev S1024x6144 : Shape := ⟨2, ![1024, 6144]⟩
abbrev S8x6144 : Shape := ⟨2, ![8, 6144]⟩
abbrev S8 : Shape := ⟨1, ![8]⟩
abbrev S8x1 : Shape := ⟨2, ![8, 1]⟩
abbrev S_ : Shape := ⟨0, ![]⟩
abbrev S1024x8 : Shape := ⟨2, ![1024, 8]⟩
abbrev S6144x1024 : Shape := ⟨2, ![6144, 1024]⟩
abbrev S6144 : Shape := ⟨1, ![6144]⟩
abbrev S1x6144 : Shape := ⟨2, ![1, 6144]⟩

abbrev nBuf : Space → Nat
  | .hbm => 40
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x6144, .bf16⟩
  | .hbm, ⟨2, _⟩ => ⟨S8x6144, .f32⟩
  | .hbm, ⟨3, _⟩ => ⟨S8, .i32⟩
  | .hbm, ⟨4, _⟩ => ⟨S8x1, .i32⟩
  | .hbm, ⟨5, _⟩ => ⟨S_, .i32⟩
  | .hbm, ⟨6, _⟩ => ⟨S8x1, .i32⟩
  | .hbm, ⟨7, _⟩ => ⟨S8x1, .i1⟩
  | .hbm, ⟨8, _⟩ => ⟨S_, .f32⟩
  | .hbm, ⟨9, _⟩ => ⟨S_, .f32⟩
  | .hbm, ⟨10, _⟩ => ⟨S8x6144, .i1⟩
  | .hbm, ⟨11, _⟩ => ⟨S8x6144, .f32⟩
  | .hbm, ⟨12, _⟩ => ⟨S8x6144, .f32⟩
  | .hbm, ⟨13, _⟩ => ⟨S8x1024, .f32⟩
  | .hbm, ⟨14, _⟩ => ⟨S8x1024, .f32⟩
  | .hbm, ⟨15, _⟩ => ⟨S_, .f32⟩
  | .hbm, ⟨16, _⟩ => ⟨S8x1024, .f32⟩
  | .hbm, ⟨17, _⟩ => ⟨S8x1024, .f32⟩
  | .hbm, ⟨18, _⟩ => ⟨S_, .f32⟩
  | .hbm, ⟨19, _⟩ => ⟨S8x1024, .f32⟩
  | .hbm, ⟨20, _⟩ => ⟨S8x1024, .f32⟩
  | .hbm, ⟨21, _⟩ => ⟨S_, .f32⟩
  | .hbm, ⟨22, _⟩ => ⟨S8x1024, .f32⟩
  | .hbm, ⟨23, _⟩ => ⟨S8x1024, .f32⟩
  | .hbm, ⟨24, _⟩ => ⟨S8x1024, .f32⟩
  | .hbm, ⟨25, _⟩ => ⟨S8x1024, .f32⟩
  | .hbm, ⟨26, _⟩ => ⟨S8x1024, .bf16⟩
  | .hbm, ⟨27, _⟩ => ⟨S1024x8, .bf16⟩
  | .hbm, ⟨28, _⟩ => ⟨S8x6144, .bf16⟩
  | .hbm, ⟨29, _⟩ => ⟨S1024x6144, .f32⟩
  | .hbm, ⟨30, _⟩ => ⟨S8x6144, .bf16⟩
  | .hbm, ⟨31, _⟩ => ⟨S6144x1024, .bf16⟩
  | .hbm, ⟨32, _⟩ => ⟨S8x1024, .f32⟩
  | .hbm, ⟨33, _⟩ => ⟨S_, .f32⟩
  | .hbm, ⟨34, _⟩ => ⟨S6144, .f32⟩
  | .hbm, ⟨35, _⟩ => ⟨S1x6144, .f32⟩
  | .hbm, ⟨36, _⟩ => ⟨S8x1024, .f32⟩
  | .hbm, ⟨37, _⟩ => ⟨S8x1024, .f32⟩
  | .hbm, ⟨38, _⟩ => ⟨S8x1024, .f32⟩
  | .hbm, ⟨39, _⟩ => ⟨S8x1024, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]
-- ==== Proof.FirstTalk.lean ====
/- Launching a program whose FIRST item is a kernel that exchanges data with other devices.

   Such a kernel waits on semaphores that other devices raise, and writes buffers that other devices own, without a
   handshake. So what each device must hold before it starts (the invariants of all the semaphores it touches, the
   parts of other devices' buffers it writes) has to be dealt when the program is launched, from the semaphores and
   the buffers of ALL devices at once. `run_all` is the launch that hands both over together; `wp_first` is the step
   of the first kernel, entered from what that launch dealt. -/
module

public import Idealize.ShloMosaic.Lib.Pipeline.Kit
public import Idealize.ShloMosaic.Lib.Pipeline.Regions

@[expose] public section

set_option maxRecDepth 16384
set_option Elab.async false

noncomputable section

namespace Cert.FirstTalk

open Idealize.ShloMosaic Idealize.ShloMosaic.TcCoe Idealize.ShloMosaic.Pipeline
open Idealize.SL
open Idealize.SL.BI (sProp bigSep bigSep_sep' bigSep_mono bigSep_congr)
open scoped Idealize.SL.BI
open Idealize.SL.BI.BIBase Idealize.SL.BI.Laws Idealize.SL.Sem Idealize.SL.ProofMode
open Idealize.SL.RA
open Idealize.ShloMosaic.Rounds

variable {nD : Nat} {τ : Topo} {sig : RefSig} {Val : EltTy → Type}
variable {Ix : Type} [DecidableEq Ix] {Name : Type} [DecidableEq Name] {U : Type} [URA U] {Lvl : Type} [Preorder Lvl]

local notation "𝕄" => MT nD τ sig Ix Val Name U Lvl

variable {Λ₀ : Labels} {P : Type} [Fintype P] [DecidableEq P]
variable (pcs : P → PCfg sig Λ₀ Val) (a : (p : P) → (pcs p).Adm)
  (pdats : (p : P) → (c : Dev nD) → Dat τ Val Ix Name U Lvl (pin pcs a p) c) (ι : Ix)
  (phinj : Function.Injective (cellOf (nD := nD) (pin pcs a)))
  (EP : Emb (URounds (GSem nD τ sig) Unit) (MT nD τ sig Ix Val Name U Lvl))
  (defs₀ : Defs nD τ sig Val Λ₀) (𝒱₀ : Variants)

local notation "𝔻" => Pipeline.defs pcs defs₀
local notation "𝕍" => Variants.lift 𝒱₀

/-- No level is assigned to any semaphore: no wait of these programs happens while its device owes anything. -/
abbrev noLevels : GSem nD τ sig → Finset Ix := fun _ => ∅

theorem levAts_none (lv : GSem nD τ sig → Ix → Lvl) : (levAts noLevels lv : sProp 𝕄) = BI.emp := by
  unfold levAts
  rw [bigSep_congr (Ψ := fun _ => (BI.emp : sProp 𝕄)) fun g _ => BI.bigSep_empty, BI.bigSep_emp_const]

include phinj in
/-- The launch of a program on every device at once. `hinit` turns everything the launch deals but the scoped
    buffers (each device's semaphores and unscoped buffers, its launch dues and credits, the ghost resources) into
    what each device starts from; `hrun` runs each device's program from it; the end reads every scoped counter at
    zero besides what `hfin` reads. -/
theorem run_all [∀ e, Nonempty (Val e)] [Infinite Name] [EP.LandsIn (upEmb : UEmb _ 𝕄)]
    (m : (ℓ : Loc nD τ sig) → Buf Val ℓ) (g : Dev nD → PrngReg)
    (main : Dev nD → Prog (TpuEff nD τ sig Val (Sig Λ₀ P fun p => (pcs p).Adm) .tc) PUnit)
    (O₀ : Dev nD → CellTallies nD τ sig Ix) (G : Dev nD → sProp 𝕄) (u₀ : U)
    (hu₀ : (ownU u₀ : sProp 𝕄)
      ⊢ |={Set.univ}=> iprop(BI.own (EP (initOf (cells (pin pcs a) phinj) (launchToks (pin pcs a) phinj))) ∗ bigSep Finset.univ G))
    (T₀ Tₙ : Dev nD → sProp 𝕄)
    (hinit : (bigSep Finset.univ fun c : Dev nD => iprop(scopedSems0 (c.tc : Thread nD τ)
          ∗ unscopedBufs c (fun b => m ((c.tc : Thread nD τ).loc b)) ∗ owes (c.tc : Thread nD τ) (O₀ c) ∅ ∗ launchCred O₀ c ∗ G c) : sProp 𝕄)
      ⊢ |={Set.univ}=> bigSep Finset.univ T₀)
    (hrun : ∀ c : Dev nD, iprop(scopedBufs (c.tc : Thread nD τ) ∗ opIdle (c.tc : Thread nD τ) ∗ T₀ c ∗ ghostOn pcs a EP Finset.univ c)
      ⊢ wp frame (wpE 𝔻 𝕍 (c.tc : Thread nD τ) none) Set.univ (main c) fun _ =>
          iprop(boundary (c.tc : Thread nD τ) ∗ Tₙ c ∗ ∃ W, owes (c.tc : Thread nD τ) (0 : CellTallies nD τ sig Ix) W))
    (QY : Dev nD → MemSt nD τ sig Val → Prop)
    (hfin : ∀ c (s' : Phys nD τ sig Val), iprop(Tₙ c ∗ SI s') ⊢ |={Set.univ}=> iprop(⌜QY c s'.mem⌝ ∗ SI s'))
    {Q : PUnit × MemSt nD τ sig Val → Prop} (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run 𝔻 (onTc main) ⟨m, fun _ => 0, g⟩ Q := by
  classical
  let start : Dev nD → sProp 𝕄 := fun c => iprop(scopedBufs (c.tc : Thread nD τ) ∗ opIdle (c.tc : Thread nD τ) ∗ T₀ c ∗ ghostOn pcs a EP Finset.univ c)
  let done : Dev nD → sProp 𝕄 := fun c => iprop(Tₙ c ∗ boundary (c.tc : Thread nD τ))
  refine (θ_run 𝔻 _ _).mono (Q := fun r => (∀ c : Dev nD, QY c r.2 ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => (hr.1 c).1) (sems_of_reads (fun c => (hr.1 c).2) hr.2)) (adequate_tpu 𝔻 _ _ _
    (reflect_intro_fupd_tc_sems (X := Unit) 𝕍 (owing O₀) 0 (noBookings fun _ => le_rfl) (owing_of_ne O₀) u₀ (fun _ => start) (fun _ => done)
      (fun _ => iprop(emp)) Set.univ ?_ (fun _ c => ?_) fun _ => ?_))
  · have hcore (c : Dev nD) :
        coreInit (Ix := Ix) (Name := Name) (U := U) (Lvl := Lvl) (owing O₀) 0 (⟨m, fun _ => 0, g⟩ : MemSt nD τ sig Val) (c.tc : Thread nD τ)
          ⊢ iprop(iprop(scopedBufs (c.tc : Thread nD τ) ∗ opIdle (c.tc : Thread nD τ))
              ∗ iprop(scopedSems0 (c.tc : Thread nD τ) ∗ unscopedBufs c (fun b => m ((c.tc : Thread nD τ).loc b))
                  ∗ owes (c.tc : Thread nD τ) (O₀ c) ∅ ∗ launchCred O₀ c)) :=
      (coreInit_boundary_owing O₀ m g c).trans (by
        unfold boundary
        iintro ⟨⟨Hsc, Hss, Hid⟩, Hub, -, HL, -, -, Hcr⟩
        isplitl [Hsc Hid]
        · isplitl [Hsc] <;> iassumption
        isplitl [Hss]; · iexact Hss
        isplitl [Hub]; · iexact Hub
        isplitl [HL] <;> iassumption)
    have hcores : (bigSep Finset.univ fun d : Dev nD =>
          coreInit (Ix := Ix) (Name := Name) (U := U) (Lvl := Lvl) (owing O₀) 0 (⟨m, fun _ => 0, g⟩ : MemSt nD τ sig Val) (d.tc : Thread nD τ))
        ⊢ iprop((bigSep Finset.univ fun c : Dev nD => iprop(scopedBufs (c.tc : Thread nD τ) ∗ opIdle (c.tc : Thread nD τ)))
            ∗ (bigSep Finset.univ fun c : Dev nD => iprop(scopedSems0 (c.tc : Thread nD τ) ∗ unscopedBufs c (fun b => m ((c.tc : Thread nD τ).loc b))
                  ∗ owes (c.tc : Thread nD τ) (O₀ c) ∅ ∗ launchCred O₀ c)) : sProp 𝕄) := by
      refine (bigSep_mono fun c _ => hcore c).trans ?_
      rw [bigSep_sep']
      exact BI.Entails.refl _
    have hjoin : iprop((bigSep Finset.univ fun c : Dev nD => iprop(scopedSems0 (c.tc : Thread nD τ) ∗ unscopedBufs c (fun b => m ((c.tc : Thread nD τ).loc b))
                  ∗ owes (c.tc : Thread nD τ) (O₀ c) ∅ ∗ launchCred O₀ c)) ∗ bigSep Finset.univ G)
        ⊢ (bigSep Finset.univ fun c : Dev nD => iprop(scopedSems0 (c.tc : Thread nD τ) ∗ unscopedBufs c (fun b => m ((c.tc : Thread nD τ).loc b))
                  ∗ owes (c.tc : Thread nD τ) (O₀ c) ∅ ∗ launchCred O₀ c ∗ G c) : sProp 𝕄) := by
      rw [← bigSep_sep']
      refine bigSep_mono fun c _ => show iprop(iprop(scopedSems0 (c.tc : Thread nD τ) ∗ unscopedBufs c (fun b => m ((c.tc : Thread nD τ).loc b))
                  ∗ owes (c.tc : Thread nD τ) (O₀ c) ∅ ∗ launchCred O₀ c) ∗ G c)
          ⊢ iprop(scopedSems0 (c.tc : Thread nD τ) ∗ unscopedBufs c (fun b => m ((c.tc : Thread nD τ).loc b))
                  ∗ owes (c.tc : Thread nD τ) (O₀ c) ∅ ∗ launchCred O₀ c ∗ G c) from ?_
      iintro ⟨⟨Hss, Hub, HL, Hcr⟩, HG⟩
      isplitl [Hss]; · iexact Hss
      isplitl [Hub]; · iexact Hub
      isplitl [HL]; · iexact HL
      isplitl [Hcr] <;> iassumption
    have hghost : iprop((bigSep Finset.univ fun c : Dev nD => bigSep Finset.univ fun p => cellsGhost (pin pcs a) EP p c)
          ∗ (bigSep Finset.univ fun c : Dev nD => bigSep Finset.univ fun p => (toksInit (pin pcs a) EP p c : sProp 𝕄)))
        ⊢ bigSep Finset.univ fun c : Dev nD => ghostOn pcs a EP Finset.univ c := by
      rw [← bigSep_sep']
      exact bigSep_mono fun c _ => show iprop((bigSep Finset.univ fun p => cellsGhost (pin pcs a) EP p c)
            ∗ bigSep Finset.univ fun p => (toksInit (pin pcs a) EP p c : sProp 𝕄)) ⊢ ghostOn pcs a EP Finset.univ c
        from Entails.of_eq (by unfold ghostOn; unfold PerCore.ghostOn; rw [bigSep_sep'])
    iintro ⟨Hcores, Hu⟩
    ihave Hc := hcores $$ Hcores
    icases Hc with ⟨Hb, Hh⟩
    imod hu₀ $$ Hu with ⟨HP, HG⟩
    imod (fund_ghost (pin pcs a) EP phinj) $$ HP with ⟨Hg, Ht⟩
    imod hinit $$ [Hh HG] with HT
    · iapply hjoin
      isplitl [Hh] <;> iassumption
    imodintro
    iexists ()
    isplitr []
    · simp only [start, bigSep_sep']
      icases Hb with ⟨Hsc, Hid⟩
      isplitl [Hsc]; · iexact Hsc
      isplitl [Hid]; · iexact Hid
      isplitl [HT]; · iexact HT
      iapply hghost
      isplitl [Hg] <;> iassumption
    · iempintro
  · refine (hrun c).trans (wp_mono frame _ _ fun _ => ?_)
    unfold post; simp only [liftTc_tc, done]
    iintro ⟨Hb, HT, HW⟩
    isplitl [HT Hb]
    · isplitl [HT] <;> iassumption
    iexact HW
  · iintro ⟨H, -, Hsc⟩ %s' HSI
    ihave %hsc := (scSems_read_zero m g s') $$ [Hsc HSI]
    · isplitl [Hsc] <;> iassumption
    imod (posts_fupd Finset.univ (fun c s' => boundary_read c s' (hfin c s')) s') $$ [H HSI] with %h
    · isplitl [H] <;> iassumption
    imodintro
    ipureintro
    exact ⟨fun c => h c (Finset.mem_univ c), hsc⟩

variable (p : P)

include phinj in
/-- The first kernel's step, for a kernel with no windows and no tables: its own semaphores are NOT among what it is
    entered with (the launch put them into the exchange's invariants, part of `X`), and come back at zero at its end. -/
theorem wp_first [∀ e, Nonempty (Val e)] [Infinite Name] [EP.LandsIn (upEmb : UEmb _ 𝕄)]
    {K : Type} [Fintype K] {osem : K → SemLoc sig} (hw : WinFacts₀ (pcs p).spec) (ho : OwnSemFacts (pcs p).spec osem)
    (hW : (pin pcs a p).W = 0) (hK : (pcs p).pre.K = 0)
    (lv : GSem nD τ sig → Ix → Lvl) (c : Dev nD) (O : CellTallies nD τ sig Ix) (X Y : sProp 𝕄)
    (hbody : BodyObligationLoose (pdats p c) defs₀ 𝒱₀ ι Set.univ)
    (howed : (pdats p c).owed 0 = O)
    (hin : iprop(X ∗ scopedRest (pin pcs a p).spec c) ⊢ (pdats p c).Φ 0)
    (hout : (pdats p c).Φ (Fin.last (pin pcs a p).N) ⊢ iprop(Y ∗ ownSems0 osem c ∗ scopedRest (pin pcs a p).spec c))
    {α : Type} (k : PUnit → Prog (TpuEff nD τ sig Val (Sig Λ₀ P fun p => (pcs p).Adm) .tc) α) (Q : α → sProp 𝕄) :
    iprop((iprop(boundary (c.tc : Thread nD τ) ∗ Y ∗ (pdats p c).owesAt ι (Fin.last (pin pcs a p).N))
          -∗ wp frame (wpE 𝔻 𝕍 (c.tc : Thread nD τ) none) Set.univ (k ⟨⟩) Q)
        ∗ scopedBufs (c.tc : Thread nD τ) ∗ opIdle (c.tc : Thread nD τ) ∗ cellsSems0 (pin pcs a) p c ∗ idleSems0 (pin pcs a) phinj p ho c
        ∗ owes (c.tc : Thread nD τ) O ∅ ∗ X
        ∗ cellsGhost (pin pcs a) EP p c ∗ toksInit (pin pcs a) EP p c)
      ⊢ wp frame (wpE 𝔻 𝕍 (c.tc : Thread nD τ) none) Set.univ (.op (.customCall (entry p) ()) k) Q := by
  classical
  haveI hE : IsEmpty (Fin (pin pcs a p).W) := by rw [hW]; exact Fin.isEmpty'
  haveI hE' : IsEmpty (Fin (pcs p).pre.K) := by rw [hK]; exact Fin.isEmpty'
  have hss := scopedSems0_split (pin pcs a) phinj p hw ho (Ix := Ix) (Val := Val) (Name := Name) (U := U) (Lvl := Lvl) c
  have hsb := scopedBufs_split (pin pcs a) p hw.stage_scoped hw.stage_inj (fun w => hE.elim w) c (nD := nD) (τ := τ) (Ix := Ix) (Val := Val) (Name := Name) (U := U) (Lvl := Lvl)
  -- with no window there is nothing to stage, nothing to wait for and no array to hand over
  have hpf : (prefHeld (pcs p).pre c (fun _ => fullShare) (a p).1 : sProp 𝕄) = BI.emp := by
    unfold prefHeld; rw [Finset.univ_eq_empty, BI.bigSep_empty]
  have harr : ((pdats p c).arrays ((pdats p c).arrAt · 0) : sProp 𝕄) = BI.emp := by
    unfold Dat.arrays; rw [Finset.univ_eq_empty, BI.bigSep_empty]
  have hwt : (BI.emp : sProp 𝕄) ⊢ cellsWaits (pin pcs a) pdats ι p c :=
    (Entails.of_eq (levAts_none lv).symm).trans (cellsWaits_intro (pin pcs a) pdats ι p c fun w => hE.elim w)
  have hin' : iprop(X ∗ prefHeld (pcs p).pre c (fun _ => fullShare) (a p).1 ∗ scopedRest (pin pcs a p).spec c) ⊢ (pdats p c).Φ 0 := by
    rw [hpf]
    iintro ⟨HX, -, HR⟩
    iapply hin
    isplitl [HX] <;> iassumption
  have hout' : iprop((pdats p c).Φ (Fin.last (pin pcs a p).N) ∗ cellsSems0 (pin pcs a) p c ∗ Dat.staging (pin pcs a p) c
        ∗ idleSems0 (pin pcs a) phinj p ho c)
      ⊢ iprop(Y ∗ scopedSems0 (c.tc : Thread nD τ) ∗ scopedBufs (c.tc : Thread nD τ)) := by
    rw [hss, hsb]
    iintro ⟨HΦ, Hcells, Hst, Hidle⟩
    ihave H := hout $$ HΦ
    icases H with ⟨HY, Hos, HR⟩
    isplitl [HY]; · iexact HY
    isplitl [Hcells Hos Hidle]
    · isplitl [Hcells Hos]; · isplitl [Hcells] <;> iassumption
      iexact Hidle
    isplitl [Hst] <;> iassumption
  iintro ⟨Hk, Hsc, Hid, Hcells, Hidle, HO, HX, Hg, Ht⟩
  iapply (fupd_wp frame (wpE 𝔻 𝕍 (c.tc : Thread nD τ) none) Set.univ _ _)
  imod (cellsInit_alloc (pin pcs a) pdats EP phinj p c) $$ [Hcells Hg] with ⟨%κ, -, Hinit⟩
  · isplitl [Hcells] <;> iassumption
  imodintro
  iapply (wp_customCall_entry_frame pcs a pdats ι EP κ phinj p defs₀ 𝒱₀ (fun _ => fullShare) c Set.univ (fun _ _ => Set.mem_univ _)
      hbody (fun w => hE.elim w) none (fun u h => nomatch h) (X := X) (Y := Y) (R := scopedRest (pin pcs a p).spec c)
      (I := idleSems0 (pin pcs a) phinj p ho c) (Entails.of_eq hsb) hin' hout' (k := k) (Q := Q)) $$ [HO Hinit Ht HX Hidle Hsc]
  · isplitl [HO Hinit Ht]
    · unfold EntryPre PerCore.EntryPre Dat.owesAt owesWithin
      rw [howed]
      isplitr; · iapply (Entails.of_eq harr.symm); iempintro
      isplitl [HO]
      · iexists ∅; isplitr; · ipureintro; rw [Finset.coe_empty]; exact Set.empty_subset _
        iexact HO
      isplitr; · iapply hwt; iempintro
      isplitl [Hinit] <;> iassumption
    isplitr; · iapply (Entails.of_eq hpf.symm); iempintro
    isplitl [HX]; · iexact HX
    isplitl [Hidle]; · iexact Hidle
    iexact Hsc
  iintro ⟨Hpost, HY, Hss2, Hsc2⟩
  unfold EntryPost PerCore.EntryPost
  icases Hpost with ⟨-, HO⟩
  iapply Hk
  isplitl [Hsc2 Hss2 Hid]
  · unfold boundary
    isplitl [Hsc2]; · iexact Hsc2
    isplitl [Hss2]; · iexact Hss2
    iexact Hid
  isplitl [HY] <;> iassumption

end Cert.FirstTalk

end
-- ==== Proof.Exchange.lean ====
/- The protocol of a kernel in which every device writes once into each of its peers' buffers.

   Each device owns one DMA semaphore per key. A semaphore is raised once, by `N`, by the transfer that the device
   `far k c` starts (the device itself for the semaphore of a local copy or of the sending side, a peer for the
   semaphore of a landing), and is waited for once; the wait brings `pay c k`, and the semaphore is then back at
   zero for good. -/
module

public import Idealize.ShloMosaic.Lib.Pipeline.Kit
public import Idealize.ShloMosaic.Lib.Pipeline.Launch
public import Idealize.ShloMosaic.Lib.Tactic

@[expose] public section

set_option maxRecDepth 16384

noncomputable section

namespace Cert.Exchange

open Idealize.ShloMosaic Idealize.ShloMosaic.TcCoe
open Idealize.SL Idealize.SL.RA Idealize.SL.BI
open scoped Idealize.SL.BI
open Idealize.SL.BI.BIBase Idealize.SL.BI.Laws Idealize.SL.Sem Idealize.SL.ProofMode
open Idealize.ShloMosaic.Rounds

variable {nD : Nat} {τ : Topo} {sig : RefSig} {Val : EltTy → Type}

abbrev UU (nD : Nat) (τ : Topo) (sig : RefSig) : Type := UR sig nD τ × URounds (GSem nD τ sig) Unit

local notation "𝕄" => MT nD τ sig Unit Val ℕ (UU nD τ sig) ℕ
local notation "ER" => (embR : Emb (URounds (GSem nD τ sig) Unit) 𝕄)

variable {K : Type} [Fintype K] [DecidableEq K] (sem : K → DmaSem sig)

abbrev cell (c : Dev nD) (k : K) : GSem nD τ sig := ((c : Thread nD τ), .dma (sem k))

variable (hsem : Function.Injective sem) (N : ℕ) (hN : 0 < N) (pay : Dev nD → K → sProp (MT nD τ sig Unit Val ℕ (UU nD τ sig) ℕ))

/-- The semaphore is one of the keys' on a TensorCore. -/
def Keyed (g : GSem nD τ sig) : Prop := ∃ ck : Dev nD × K, g = cell sem ck.1 ck.2

open Classical in
def sched : Schedule (GSem nD τ sig) Unit 𝕄 where
  duties g r := if r = 0 ∧ Keyed sem g then {()} else ∅
  amount _ _ _ := N
  payload g _ _ := if h : Keyed sem g then pay h.choose.1 h.choose.2 else iprop(emp)
  amount_pos _ _ _ _ := hN

local notation "Rd" => sched sem N hN pay

theorem keyed (c : Dev nD) (k : K) : Keyed sem (cell (τ := τ) sem c k) := ⟨(c, k), rfl⟩

include hsem in
theorem cell_inj {c c' : Dev nD} {k k' : K} (h : cell (τ := τ) sem c k = cell sem c' k') : c = c' ∧ k = k' := by
  refine ⟨congrArg (fun g : GSem nD τ sig => g.1.1) h, hsem ?_⟩
  have h2 : SemLoc.dma (sem k) = SemLoc.dma (sem k') := congrArg Prod.snd h
  exact SemLoc.dma.inj h2

theorem duties_zero (c : Dev nD) (k : K) : (Rd).duties (cell sem c k) 0 = {()} := if_pos ⟨rfl, keyed sem c k⟩
theorem duties_later (g : GSem nD τ sig) (r : ℕ) (h : 1 ≤ r) : (Rd).duties g r = ∅ := if_neg fun h' => by omega
theorem expect_zero (c : Dev nD) (k : K) : (Rd).expect (cell sem c k) 0 = N := by
  unfold Schedule.expect
  rw [Schedule.amountOf, duties_zero, Finset.sum_singleton]
  rfl

include hsem in
theorem payload_eq (c : Dev nD) (k : K) (r : ℕ) (u : Unit) : (Rd).payload (cell sem c k) r u = pay c k := by
  have h := keyed (τ := τ) sem c k
  refine (dif_pos h : (Rd).payload (cell sem c k) r u = pay h.choose.1 h.choose.2).trans ?_
  obtain ⟨h1, h2⟩ := cell_inj sem hsem h.choose_spec
  rw [← h1, ← h2]

variable [hst : ∀ c k, BI.Storable (upEmb : UEmb _ (MT nD τ sig Unit Val ℕ (UU nD τ sig) ℕ)) (pay c k)]

instance payload_storable (g : GSem nD τ sig) (r : ℕ) (d : Unit) : BI.Storable (upEmb : UEmb _ 𝕄) ((Rd).payload g r d) := by
  classical
  show BI.Storable _ (if h : Keyed sem g then pay h.choose.1 h.choose.2 else iprop(emp))
  split
  · infer_instance
  · infer_instance

/-- What every device knows: the invariants of all the semaphores of all devices, open for their only round. -/
def ctx (κ : Dev nD × K → ℕ) : sProp 𝕄 :=
  iprop((bigSep Finset.univ fun ck : Dev nD × K => cellInv ER Rd (κ ck) (cell sem ck.1 ck.2))
    ∗ bigSep Finset.univ fun ck : Dev nD × K => reached ER (cell sem ck.1 ck.2) 0)

instance ctx_persistent (κ : Dev nD × K → ℕ) : BI.Persistent (ctx sem N hN pay κ) := by unfold ctx; infer_instance

theorem ctx_inv (κ : Dev nD × K → ℕ) (c : Dev nD) (k : K) : ctx sem N hN pay κ ⊢ cellInv ER Rd (κ (c, k)) (cell sem c k) := by
  unfold ctx
  iintro ⟨H, -⟩
  iapply (show (bigSep Finset.univ fun ck : Dev nD × K => cellInv ER Rd (κ ck) (cell sem ck.1 ck.2)) ⊢ cellInv ER Rd (κ (c, k)) (cell sem c k) from
    bigSep_elim (Finset.mem_univ (c, k)))
  iexact H

theorem ctx_reached (κ : Dev nD × K → ℕ) (c : Dev nD) (k : K) : ctx sem N hN pay κ ⊢ reached ER (cell sem c k) 0 := by
  unfold ctx
  iintro ⟨-, H⟩
  iapply (show (bigSep Finset.univ fun ck : Dev nD × K => (reached ER (cell sem ck.1 ck.2) 0 : sProp 𝕄)) ⊢ reached ER (cell sem c k) 0 from
    bigSep_elim (Finset.mem_univ (c, k)))
  iexact H

/-! ## The three steps of a body -/

section Steps

variable {Λ : Labels} {defs : Defs nD τ sig Val Λ} (𝒱 : Variants) (κ : Dev nD × K → ℕ) {sp sp' : Space} {s : Shape} {e : EltTy}

include hsem in
/-- A transfer to another device: it pays the sender's own semaphore `kS` with the source and the receiver's `kR` with
    what has landed, and takes the landing off what the sender owes. -/
theorem wp_put (c n : Dev nD) (kS kR : K) {src : Memref sig .tc sp s e} {dst : Memref sig .tc sp' s e} {hsc : dst.view.ref.isScScratch = false}
    {hsrc : src.view.WordExact} {hdst : dst.view.WordExact} {q : PosShare TreeShare}
    {hty : DmaTarget.Typed sp (.dma (sem kR)) (.remote (n : Thread nD τ) dst (.dma (sem kS)) hsc)}
    {fs : Buf Val (src.view.loc (c : Thread nD τ))} {fd : Buf Val (dst.view.loc (n : Thread nD τ))}
    (hA : dst.view.dmaCredit = N) {O₀ : CellTallies nD τ sig Unit} (O : CellTallies nD τ sig Unit)
    (hO : O₀ = O + tallyAt (cell sem n kR) () N) (W : Waits sig Unit)
    (hpay₁ : (src.view.loc (c : Thread nD τ) ↦[src.view.set]{q} fs) ⊢ pay c kS)
    (hpay₂ : (dst.view.loc (n : Thread nD τ) ↦[dst.view.set]{fullShare} (dst.view.write Val fd (src.view.read Val fs) Finset.univ)) ⊢ pay n kR)
    {α : Type} {Q : α → sProp 𝕄} {k : PUnit → Prog (TpuEff nD τ sig Val Λ .tc) α} :
    iprop(ctx sem N hN pay κ ∗ (src.view.loc (c : Thread nD τ) ↦[src.view.set]{q} fs) ∗ (dst.view.loc (n : Thread nD τ) ↦[dst.view.set]{fullShare} fd)
        ∗ owes (c : Thread nD τ) O₀ W ∗ dutyTok ER (cell sem c kS) 0 () ∗ dutyTok ER (cell sem n kR) 0 ())
      ⊢ iprop(((cred (tallyAt (cell sem c kS) () N) ∗ owes (c : Thread nD τ) O W)
            -∗ wp frame (wpE defs 𝒱 (c : Thread nD τ) none) Set.univ (k ⟨⟩) Q)
          -∗ wp frame (wpE defs 𝒱 (c : Thread nD τ) none) Set.univ
              (.op (.enqueueDma src (.remote (n : Thread nD τ) dst (.dma (sem kS)) hsc) (.dma (sem kR)) hsrc hdst hty) k) Q) := by
  iintro ⟨#HC, Hs, Hd, HO, Ht1, Ht2⟩
  iapply (Rounds.wp_send_pointsTo 𝒱 ER Rd (c : Thread nD τ) none (κ₁ := κ (c, kS)) (κ₂ := κ (n, kR)) (r₁ := 0) (r₂ := 0) (d₁ := ()) (d₂ := ())
    (by rw [duties_zero]; exact Finset.mem_singleton_self _) (by rw [duties_zero]; exact Finset.mem_singleton_self _)
    () () N (by exact hA) rfl rfl O hO (W := W) (by rw [payload_eq sem hsem]; exact hpay₁) (by rw [payload_eq sem hsem]; exact hpay₂)) $$ [Hs Hd HO Ht1 Ht2]
  isplitr; · iapply (ctx_inv sem N hN pay κ c kS); iexact HC
  isplitr; · iapply (ctx_inv sem N hN pay κ n kR); iexact HC
  isplitl [Hs]; · iexact Hs
  isplitl [Hd]; · iexact Hd
  isplitl [HO]; · iexact HO
  isplitl [Ht1]; · iexact Ht1
  isplitr; · iapply (ctx_reached sem N hN pay κ c kS); iexact HC
  isplitl [Ht2]; · iexact Ht2
  iapply (ctx_reached sem N hN pay κ n kR); iexact HC

include hsem in
/-- A copy on the device itself: it pays the semaphore `kL` with the source and what has landed. -/
theorem wp_local (c : Dev nD) (kL : K) {src : Memref sig .tc sp s e} {dst : Memref sig .tc sp' s e}
    {hsrc : src.view.WordExact} {hdst : dst.view.WordExact} {q : PosShare TreeShare}
    {hty : DmaTarget.Typed (nD := nD) (p := (Proc.tc : Proc τ)) sp (.dma (sem kL)) (.here dst)}
    {fs : Buf Val (src.view.loc (c : Thread nD τ))} {fd : Buf Val (dst.view.loc (c : Thread nD τ))}
    (hA : dst.view.dmaCredit = N)
    (hpay : iprop((dst.view.loc (c : Thread nD τ) ↦[dst.view.set]{fullShare} (dst.view.write Val fd (src.view.read Val fs) Finset.univ))
      ∗ (src.view.loc (c : Thread nD τ) ↦[src.view.set]{q} fs)) ⊢ pay c kL)
    {α : Type} {Q : α → sProp 𝕄} {k : PUnit → Prog (TpuEff nD τ sig Val Λ .tc) α} :
    iprop(ctx sem N hN pay κ ∗ (src.view.loc (c : Thread nD τ) ↦[src.view.set]{q} fs) ∗ (dst.view.loc (c : Thread nD τ) ↦[dst.view.set]{fullShare} fd)
        ∗ dutyTok ER (cell sem c kL) 0 ())
      ⊢ iprop((cred (tallyAt (cell sem c kL) () N) -∗ wp frame (wpE defs 𝒱 (c : Thread nD τ) none) Set.univ (k ⟨⟩) Q)
          -∗ wp frame (wpE defs 𝒱 (c : Thread nD τ) none) Set.univ
              (.op (.enqueueDma src (.here dst) (.dma (sem kL)) hsrc hdst hty) k) Q) := by
  iintro ⟨#HC, Hs, Hd, Ht⟩
  iapply (Rounds.wp_copy_pointsTo 𝒱 ER Rd (c : Thread nD τ) none (κ := κ (c, kL)) (r := 0) (d := ())
    (by rw [duties_zero]; exact Finset.mem_singleton_self _) () N (by exact hA) rfl (by rw [payload_eq sem hsem]; exact hpay)) $$ [Hs Hd Ht]
  isplitr; · iapply (ctx_inv sem N hN pay κ c kL); iexact HC
  isplitl [Hs]; · iexact Hs
  isplitl [Hd]; · iexact Hd
  isplitl [Ht]; · iexact Ht
  iapply (ctx_reached sem N hN pay κ c kL); iexact HC

include hsem in
/-- The wait for a semaphore's only round, owing nothing: it brings what the semaphore hands over, and the semaphore is
    closed at zero. -/
theorem wp_take (c : Dev nD) (k₀ : K) {sp₁ sp₂ : Space} {s₁ s₂ : Shape} {e₁ e₂ : EltTy} {κ' : Kind} {src : Memref sig .tc sp₁ s₁ e₁} {dst : Memref sig κ' sp₂ s₂ e₂}
    {hsrc : src.view.WordExact} {hdst : dst.view.WordExact} (hA : dst.view.dmaCredit = N) (W : Waits sig Unit)
    {α : Type} {Q : α → sProp 𝕄} {k : PUnit → Prog (TpuEff nD τ sig Val Λ .tc) α} :
    iprop(ctx sem N hN pay κ ∗ cred (tallyAt (cell sem c k₀) () N) ∗ owes (c : Thread nD τ) (0 : CellTallies nD τ sig Unit) W
        ∗ atPos ER (cell sem c k₀) 0 ∅ 0)
      ⊢ iprop(((owes (c : Thread nD τ) (0 : CellTallies nD τ sig Unit) (insert (.dma (sem k₀), ()) W) ∗ semVal (cell sem c k₀) 0 ∗ pay c k₀)
            -∗ wp frame (wpE defs 𝒱 (c : Thread nD τ) none) Set.univ (k ⟨⟩) Q)
          -∗ wp frame (wpE defs 𝒱 (c : Thread nD τ) none) Set.univ (.op (.waitDma2 (sem k₀) src dst hsrc hdst) k) Q) := by
  iintro ⟨#HC, Hc, HO, Hat⟩ Hk
  iapply (Rounds.wp_wait_rest_token 𝒱 ER Rd (c : Thread nD τ) none (κ := κ (c, k₀))
      (wpE_waitDma2_eq 𝒱 (c : Thread nD τ) none Set.univ) (Set.mem_univ _) () (O := 0) (W := W) (R := 0) (m := 0) (T := ∅)
      (by rw [Nat.zero_add, hA]; exact (expect_zero sem N hN pay c k₀).symm)) $$ [Hc HO Hat]
  · isplitr; · iapply (ctx_inv sem N hN pay κ c k₀); iexact HC
    isplitl [Hc]; · rw [hA]; iexact Hc
    isplitl [HO]; · iexact HO
    isplitr; · rw [MayWait_zero]; iempintro
    iexact Hat
  rw [Finset.sdiff_empty]
  rw [show (Rd).duties ((c : Thread nD τ), .dma (sem k₀)) 0 = {()} from duties_zero sem N hN pay c k₀, bigSep_singleton]
  rw [show (Rd).payload ((c : Thread nD τ), .dma (sem k₀)) 0 () = pay c k₀ from payload_eq sem hsem N hN pay c k₀ 0 ()]
  iintro ⟨HO, Hat, -, Hp⟩
  imod (Rounds.cell_close ER Rd (Set.mem_univ (κ (c, k₀))) (fun h => h) (R := 0 + 1) (duties_later sem N hN pay (cell sem c k₀))) $$ [Hat] with Hz
  · isplitr; · iapply (ctx_inv sem N hN pay κ c k₀); iexact HC
    iexact Hat
  iapply Hk
  isplitl [HO]; · iexact HO
  isplitl [Hz] <;> iassumption

end Steps

/-! ## The launch -/

def emb : Dev nD × K ↪ GSem nD τ sig := ⟨fun ck => cell sem ck.1 ck.2, fun a b h => by
  obtain ⟨h1, h2⟩ := cell_inj sem hsem h; exact Prod.ext h1 h2⟩
def embTok : Dev nD × K ↪ GSem nD τ sig × ℕ × Unit := ⟨fun ck => (cell sem ck.1 ck.2, 0, ()), fun a b h => by
  obtain ⟨h1, h2⟩ := cell_inj sem hsem (congrArg Prod.fst h); exact Prod.ext h1 h2⟩

def cells : Finset (GSem nD τ sig) := Finset.univ.map (emb sem hsem)
def toks : Finset (GSem nD τ sig × ℕ × Unit) := Finset.univ.map (embTok sem hsem)

/-- The share of a device in the ghost resources, before the semaphores' invariants are made. -/
def G (c : Dev nD) : sProp 𝕄 :=
  iprop((bigSep Finset.univ fun k : K => roundState ER Rd (cell sem c k) 0) ∗ (bigSep Finset.univ fun k : K => reached ER (cell sem c k) 0)
    ∗ (bigSep Finset.univ fun k : K => atPos ER (cell sem c k) 0 ∅ 0) ∗ bigSep Finset.univ fun k : K => dutyTok ER (cell sem c k) 0 ())

theorem fund : BI.own (ER (initOf (cells sem hsem) (toks sem hsem))) ⊢ (|==> bigSep Finset.univ (G sem N hN pay) : sProp 𝕄) := by
  have hX (Φ : GSem nD τ sig → sProp 𝕄) : bigSep (cells sem hsem) Φ = bigSep Finset.univ fun c : Dev nD => bigSep Finset.univ fun k : K => Φ (cell sem c k) := by
    unfold cells; rw [bigSep_map, bigSep_univ_prod]; rfl
  have hT : bigSep (toks sem hsem) (fun x => (dutyTok ER x.1 x.2.1 x.2.2 : sProp 𝕄))
      = bigSep Finset.univ fun c : Dev nD => bigSep Finset.univ fun k : K => dutyTok ER (cell sem c k) 0 () := by
    unfold toks; rw [bigSep_map, bigSep_univ_prod]; rfl
  iintro HX
  imod (Rounds.fund ER Rd (cells sem hsem) (toks sem hsem)) $$ HX with ⟨Hst, Hr, Hat, Htok⟩
  imodintro
  ihave Hst' := (Entails.of_eq (hX fun g => roundState ER Rd g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hr']; · iexact Hr'
  isplitl [Hat'] <;> iassumption

variable (far : K → Dev nD → Dev nD) (hfar : ∀ k c, far k (far k c) = c)

def farEquiv (k : K) : Dev nD ≃ Dev nD := ⟨far k, far k, hfar k, hfar k⟩

/-- What a device starts from: the invariants, its own positions and the right to raise each semaphore that it raises. -/
def start (κ : Dev nD × K → ℕ) (c : Dev nD) : sProp 𝕄 :=
  iprop(ctx sem N hN pay κ ∗ bigSep Finset.univ fun k : K => iprop(atPos ER (cell sem c k) 0 ∅ 0 ∗ dutyTok ER (cell sem (far k c) k) 0 ()))

include hfar in
/-- Something each device holds per key, handed to the device across that key. -/
theorem swap (Ψ : Dev nD → K → sProp 𝕄) :
    (bigSep Finset.univ fun c : Dev nD => bigSep Finset.univ fun k : K => Ψ c k)
      = bigSep Finset.univ fun c : Dev nD => bigSep Finset.univ fun k : K => Ψ (far k c) k := by
  rw [← bigSep_univ_prod (fun x : Dev nD × K => Ψ x.1 x.2), ← bigSep_univ_prod (fun x : Dev nD × K => Ψ (far x.2 x.1) x.2)]
  exact (bigSep_univ_equiv (⟨fun x => (far x.2 x.1, x.2), fun x => (far x.2 x.1, x.2), fun x => by simp only [hfar], fun x => by simp only [hfar]⟩ :
    Dev nD × K ≃ Dev nD × K) fun x : Dev nD × K => Ψ x.1 x.2)

/-- The invariants of all semaphores, made from all the semaphores at zero. -/
theorem make_invs : iprop((bigSep Finset.univ fun c : Dev nD => bigSep Finset.univ fun k : K => semVal (cell sem c k) 0)
      ∗ bigSep Finset.univ fun c : Dev nD => bigSep Finset.univ fun k : K => roundState ER Rd (cell sem c k) 0)
    ⊢ (|={Set.univ}=> iprop(∃ κ : Dev nD × K → ℕ, bigSep Finset.univ fun ck : Dev nD × K => cellInv ER Rd (κ ck) (cell sem ck.1 ck.2)) : sProp 𝕄) := by
  have h1 : iprop((bigSep Finset.univ fun c : Dev nD => bigSep Finset.univ fun k : K => semVal (cell sem c k) 0)
      ∗ bigSep Finset.univ fun c : Dev nD => bigSep Finset.univ fun k : K => roundState ER Rd (cell sem c k) 0)
      = (bigSep Finset.univ fun x : Dev nD × K => iprop(semVal (cell sem x.1 x.2) 0 ∗ roundState ER Rd (cell sem x.1 x.2) 0) : sProp 𝕄) := by
    rw [bigSep_sep', bigSep_univ_prod, bigSep_univ_prod]
  have h2 : (bigSep Finset.univ fun x : Dev nD × K => iprop(semVal (cell sem x.1 x.2) 0 ∗ roundState ER Rd (cell sem x.1 x.2) 0) : sProp 𝕄)
      ⊢ bigSep Finset.univ fun x : Dev nD × K => iprop(|={Set.univ}=> ∃ κ : ℕ, cellInv ER Rd κ (cell sem x.1 x.2)) :=
    bigSep_mono fun x _ => (Rounds.body_intro ER Rd (cell sem x.1 x.2)).trans inv_alloc
  have h3 : (bigSep Finset.univ fun x : Dev nD × K => iprop(∃ κ : ℕ, cellInv ER Rd κ (cell sem x.1 x.2)) : sProp 𝕄)
      ⊢ iprop(∃ κ : Dev nD × K → ℕ, bigSep Finset.univ fun ck : Dev nD × K => cellInv ER Rd (κ ck) (cell sem ck.1 ck.2)) :=
    bigSep_exists_pi Finset.univ fun (x : Dev nD × K) (κ : ℕ) => cellInv ER Rd κ (cell sem x.1 x.2)
  rw [h1]
  exact (h2.trans (bigSep_fupd _ _)).trans (fupd_mono h3)

include hfar in
/-- The invariants are made from all devices' semaphores at zero, and everything is dealt. -/
theorem deal : (bigSep Finset.univ fun c : Dev nD => iprop((bigSep Finset.univ fun k : K => semVal (cell sem c k) 0) ∗ G sem N hN pay c))
    ⊢ |={Set.univ}=> (bigSep Finset.univ fun c : Dev nD => iprop(∃ κ, start sem N hN pay far κ c) : sProp 𝕄) := by
  unfold G
  simp only [bigSep_sep']
  iintro ⟨Hv, Hst, Hr, Hat, Htok⟩
  imod (make_invs sem N hN pay) $$ [Hv Hst] with ⟨%κ, #Hinv⟩
  · isplitl [Hv] <;> iassumption
  imodintro
  ihave Htok' := (Entails.of_eq (swap far hfar fun c k => dutyTok ER (cell sem c k) 0 ())) $$ Htok
  ihave #Hr' := (Entails.of_eq (bigSep_univ_prod (fun x : Dev nD × K => (reached ER (cell sem x.1 x.2) 0 : sProp 𝕄))).symm) $$ Hr
  iapply (bigSep_with_persistent (R := ctx sem N hN pay κ) (Φ := fun c : Dev nD => bigSep Finset.univ fun k : K =>
      iprop(atPos ER (cell sem c k) 0 ∅ 0 ∗ dutyTok ER (cell sem (far k c) k) 0 ())) fun c _ => by
    unfold start
    iintro ⟨HC, H⟩
    iexists κ
    isplitl [HC] <;> iassumption)
  isplitr
  · unfold ctx
    isplitr <;> iassumption
  simp only [bigSep_sep']
  isplitl [Hat] <;> iassumption

/-! ## The launch dues -/

/-- What device `c` owes at the launch: the landings of the keys `J`. -/
def due (J : Finset K) (c : Dev nD) : CellTallies nD τ sig Unit := ∑ k ∈ J, tallyAt (cell sem (far k c) k) () N

include hsem hfar in
theorem due_cell (J : Finset K) (d c : Dev nD) (k : K) (hk : k ∈ J) :
    due sem N far J d (cell (τ := τ) sem c k) () = if d = far k c then N else 0 := by
  unfold due
  rw [Finset.sum_apply, Finsupp.finset_sum_apply, Finset.sum_eq_single k]
  · rw [tallyAt_apply]
    by_cases h : d = far k c
    · subst h; rw [hfar, if_pos ⟨rfl, rfl⟩, if_pos rfl]
    · rw [if_neg h, if_neg]
      rintro ⟨h1, -⟩
      exact h (by rw [(cell_inj sem hsem h1).1, hfar])
  · intro k' _ hne
    rw [tallyAt_apply, if_neg]
    rintro ⟨h1, -⟩
    exact hne (cell_inj sem hsem h1).2.symm
  · exact fun h => absurd hk h

include hsem hfar in
/-- The credit the launch deals to a device: one landing on each of its semaphores `J`. -/
theorem credits (J : Finset K) (c : Dev nD) :
    (Pipeline.launchCred (due sem N far J) c : sProp 𝕄) ⊢ bigSep J fun k => cred (tallyAt (cell sem c k) () N) := by
  unfold Pipeline.launchCred
  have hinj : Function.Injective (fun k : K => (SemLoc.dma (sem k) : SemLoc sig)) := fun a b h => hsem (SemLoc.dma.inj h)
  refine (bigSep_subset (s := Finset.univ) (t := J.map ⟨fun k => SemLoc.dma (sem k), hinj⟩) (Finset.subset_univ _)).trans ?_
  rw [bigSep_map]
  refine bigSep_mono fun k hk => Entails.of_eq (congrArg cred ?_)
  show tallyOn (cell sem c k) (launchCredit (Pipeline.owing (due sem N far J)) 0 (cell sem c k)) = tallyAt (cell sem c k) () N
  unfold tallyAt
  refine congrArg _ (Finsupp.ext fun u => ?_)
  rw [Pipeline.launchCredit_owing, Finsupp.single_eq_same, Finset.sum_congr rfl fun d _ => due_cell sem hsem N far hfar J d c k hk,
    Finset.sum_ite_eq' Finset.univ (far k c) fun _ => N, if_pos (Finset.mem_univ _)]

include hsem hfar in
/-- All devices' semaphores at zero become the exchange's invariants, and each device gets its positions, the rights
    to credit its far ends, and the credit of its own landings. `Z` is what else each device holds. -/
theorem begin_all (J : Finset K) (Z : Dev nD → sProp 𝕄) :
    (bigSep Finset.univ fun c : Dev nD => iprop(Z c ∗ (bigSep Finset.univ fun k : K => semVal (cell sem c k) 0)
        ∗ Pipeline.launchCred (due sem N far J) c ∗ G sem N hN pay c))
      ⊢ |={Set.univ}=> (bigSep Finset.univ fun c : Dev nD => iprop(Z c ∗ (∃ κ, start sem N hN pay far κ c)
        ∗ bigSep J fun k => cred (tallyAt (cell sem c k) () N)) : sProp 𝕄) := by
  have hd := deal (nD := nD) (τ := τ) (Val := Val) sem N hN pay far hfar
  simp only [bigSep_sep'] at hd ⊢
  iintro ⟨HZ, Hv, HL, HG⟩
  imod hd $$ [Hv HG] with Hs
  · isplitl [Hv] <;> iassumption
  imodintro
  isplitl [HZ]; · iexact HZ
  isplitl [Hs]; · iexact Hs
  iapply (show (bigSep Finset.univ fun c : Dev nD => Pipeline.launchCred (due sem N far J) c)
      ⊢ (bigSep Finset.univ fun c : Dev nD => bigSep J fun k => (cred (tallyAt (cell sem c k) () N) : sProp 𝕄)) from
    bigSep_mono fun c _ => credits sem hsem N far hfar J c)
  iexact HL

end Cert.Exchange
-- ==== Proof.Plane.lean ====
/- The mesh of the three exchanges and the buffers that one of them fills by quarters.

   Eight devices; device `d` is at place `pos d = d / 2` of the plane of four devices that agree with it in the last
   coordinate `d % 2`. Its three peers in the plane are the devices whose coordinates differ from its own in the
   first one, in the second one, in both. A buffer of shape `[4, 7536, 1024]` has one quarter per place. -/
module

public import Idealize.ShloMosaic.Lib.Pipeline.Kit
public import Idealize.ShloMosaic.Lib.ValueLayout
public import Idealize.ShloMosaic.Lib.ViewIndex

@[expose] public section

set_option maxRecDepth 16384

noncomputable section

namespace Cert.Plane

open Idealize.ShloMosaic Idealize.ShloMosaic.TcCoe
open Idealize.SL Idealize.SL.RA Idealize.SL.BI
open scoped Idealize.SL.BI
open Idealize.ShloMosaic.ValueIdx
open Idealize.SL.BI.BIBase Idealize.SL.BI.Laws Idealize.SL.Sem Idealize.SL.ProofMode

/-! ## The mesh -/

set_option backward.proofsInPublic true in
def pos (c : Dev 8) : Fin 4 := ⟨c.val / 2, by have := c.isLt; omega⟩

set_option backward.proofsInPublic true in
/-- The device at place `p` of the plane of `c`. -/
def at' (p : Fin 4) (c : Dev 8) : Dev 8 := ⟨2 * p.val + c.val % 2, by have := p.isLt; omega⟩

set_option backward.proofsInPublic true in
/-- The place across the first coordinate, the second one, both. -/
def over (j : Fin 3) (p : Fin 4) : Fin 4 := match j with
  | 0 => ⟨(p.val + 2) % 4, Nat.mod_lt _ (by decide)⟩
  | 1 => ⟨(p.val + 1) - 2 * (p.val % 2), by have := p.isLt; omega⟩
  | 2 => ⟨3 - p.val, by omega⟩

def peer (j : Fin 3) (c : Dev 8) : Dev 8 := at' (over j (pos c)) c

set_option backward.proofsInPublic true in
/-- The device that differs from `c` in the last coordinate only. -/
def sibling (c : Dev 8) : Dev 8 := ⟨c.val + 1 - 2 * (c.val % 2), by have := c.isLt; omega⟩

theorem pos_at (p : Fin 4) (c : Dev 8) : pos (at' p c) = p := by revert p c; decide
theorem at_pos (c : Dev 8) : at' (pos c) c = c := by revert c; decide
theorem at_peer (j : Fin 3) (p : Fin 4) (c : Dev 8) : at' p (peer j c) = at' p c := by revert j p c; decide
theorem pos_peer (j : Fin 3) (c : Dev 8) : pos (peer j c) = over j (pos c) := pos_at _ _
theorem peer_peer (j : Fin 3) (c : Dev 8) : peer j (peer j c) = c := by revert j c; decide
theorem over_over (j : Fin 3) (p : Fin 4) : over j (over j p) = p := by revert j p; decide
theorem sibling_sibling (c : Dev 8) : sibling (sibling c) = c := by revert c; decide

/-- A place and the three across from it are the four places. -/
theorem places (p : Fin 4) : [p, over 0 p, over 1 p, over 2 p].Nodup ∧ (Finset.univ : Finset (Fin 4)) = [p, over 0 p, over 1 p, over 2 p].toFinset := by
  revert p; decide

/-! ## Quarters -/

abbrev S4 : Shape := ⟨3, ![4, 7536, 1024]⟩
abbrev S1 : Shape := ⟨3, ![1, 7536, 1024]⟩
abbrev S0 : Shape := ⟨2, ![7536, 1024]⟩

theorem squeezes : S1.Squeezes S0 := by decide

abbrev off (p : Fin 4) : Fin 3 → ℕ := ![p.val, 0, 0]
theorem off_inb (p : Fin 4) : ∀ a, off p a + S1.size a ≤ S4.size a := by
  intro a; have := p.isLt
  match a with
  | ⟨0, _⟩ => show p.val + 1 ≤ 4; omega
  | ⟨1, _⟩ => exact Nat.le_of_eq (Nat.zero_add 7536)
  | ⟨2, _⟩ => exact Nat.le_of_eq (Nat.zero_add 1024)

variable {nD : Nat} {τ : Topo} {sig : RefSig} {Val : EltTy → Type}
variable {Ix : Type} [DecidableEq Ix] {Name : Type} [DecidableEq Name] {U : Type} [URA U] {Lvl : Type}
variable {κ : Kind} {sp : Space} {e : EltTy}

abbrev slab (M : Memref sig κ sp S4 e) (o : Fin 3 → ℕ) (h : ∀ a, o a + S1.size a ≤ S4.size a) : Memref sig κ sp S0 e :=
  (M.slice (Rect.unit (s := S4) o S1.size h) (fun _ => rfl)).squeeze S0 squeezes

abbrev quarter (M : Memref sig κ sp S4 e) (p : Fin 4) : Memref sig κ sp S0 e := slab M (off p) (off_inb p)

theorem slab_eq (M : Memref sig κ sp S4 e) {o : Fin 3 → ℕ} {h : ∀ a, o a + S1.size a ≤ S4.size a} {p : Fin 4} (ho : o = off p) :
    slab M o h = quarter M p := by subst ho; rfl

theorem idx3_eq {d : Fin 3 → ℕ} {x y : (⟨3, d⟩ : Shape).Idx} (h0 : (x 0).val = (y 0).val) (h1 : (x 1).val = (y 1).val)
    (h2 : (x 2).val = (y 2).val) : x = y :=
  funext fun a => match a with
    | ⟨0, _⟩ => Fin.ext h0
    | ⟨1, _⟩ => Fin.ext h1
    | ⟨2, _⟩ => Fin.ext h2

theorem read_quarter (M : Memref sig κ sp S4 e) (p : Fin 4) (f : M.view.ty.Contents Val) (r : Fin 7536) (l : Fin 1024) :
    (quarter M p).view.read Val f (ix2 r l) = M.view.read Val f (ix3 p r l) := by
  have hc : S1.ShapeCasts S0 := by decide
  rw [show (quarter M p).view.read Val f = shapeCast S0 (M.view.readAt Val (Rect.unit (s := S4) (off p) S1.size (off_inb p)).toLoadRect f) hc from rfl,
    shapeCast_1ab_ab_apply]
  show M.view.read Val f ((Rect.unit (s := S4) (off p) S1.size (off_inb p)).toLoadRect.idx (ix3 (0 : Fin 1) r l)) = _
  refine congrArg (M.view.read Val f) (idx3_eq ?_ ?_ ?_)
  · show p.val + 1 * 0 = p.val; omega
  · show 0 + 1 * r.val = r.val; omega
  · show 0 + 1 * l.val = l.val; omega

theorem quarter_set (M : Memref sig κ sp S4 e) (p : Fin 4) :
    (quarter M p).view.set = (Rect.unit (s := S4) (off p) S1.size (off_inb p)).set.map M.view.emb := by
  rw [show (quarter M p).view.set = (M.slice (Rect.unit (s := S4) (off p) S1.size (off_inb p)) (fun _ => rfl)).view.set from View.set_reshape _ _]
  exact View.set_slice _ _

theorem mem_rect (p : Fin 4) (y : S4.Idx) : y ∈ (Rect.unit (s := S4) (off p) S1.size (off_inb p)).set ↔ y 0 = p := by
  rw [Rect.mem_set_unit]
  constructor
  · intro h
    have h0 := h 0
    have h1 : p.val ≤ (y 0).val := h0.1
    have h2 : (y 0).val < p.val + 1 := h0.2
    exact Fin.ext (by omega)
  · intro h a
    match a with
    | ⟨0, _⟩ => exact ⟨Nat.le_of_eq (congrArg Fin.val h).symm, by show (y 0).val < p.val + 1; rw [h]; omega⟩
    | ⟨1, _⟩ => exact ⟨Nat.zero_le _, Nat.lt_of_lt_of_eq (y 1).isLt (Nat.zero_add _).symm⟩
    | ⟨2, _⟩ => exact ⟨Nat.zero_le _, Nat.lt_of_lt_of_eq (y 2).isLt (Nat.zero_add _).symm⟩

theorem quarter_disjoint (M : Memref sig κ sp S4 e) {p q : Fin 4} (h : p ≠ q) : Disjoint (quarter M p).view.set (quarter M q).view.set := by
  rw [quarter_set, quarter_set]
  refine (Finset.disjoint_map _).mpr (Finset.disjoint_left.mpr fun y hp hq => h ?_)
  rw [← (mem_rect p y).mp hp, ← (mem_rect q y).mp hq]

theorem quarter_cover (M : Memref sig κ sp S4 e) : (Finset.univ.biUnion fun p => (quarter M p).view.set) = M.view.set := by
  ext i
  rw [Finset.mem_biUnion]
  constructor
  · rintro ⟨p, -, h⟩
    rw [quarter_set] at h
    obtain ⟨y, -, rfl⟩ := Finset.mem_map.mp h
    exact View.emb_mem_set _ y
  · intro h
    obtain ⟨y, -, rfl⟩ := Finset.mem_map.mp h
    exact ⟨y 0, Finset.mem_univ _, (Finset.ext_iff.mp (quarter_set M (y 0)) _).mpr (Finset.mem_map_of_mem _ ((mem_rect _ _).mpr rfl))⟩

local notation "𝕄" => MT nD τ sig Ix Val Name U Lvl

theorem bigSep_places (p : Fin 4) (Φ : Fin 4 → sProp (MT nD τ sig Ix Val Name U Lvl)) :
    bigSep Finset.univ Φ = iprop(Φ p ∗ Φ (over 0 p) ∗ Φ (over 1 p) ∗ Φ (over 2 p)) :=
  bigSep_univ_eq_bigSepL [p, over 0 p, over 1 p, over 2 p] (places p).2 (places p).1 Φ

/-- A buffer held is its quarters held: one place's and those of the three places across. -/
theorem quarters (c : Thread nD τ) (M : Memref sig c.2.kind sp S4 e) (q : PosShare TreeShare) (f : Buf Val (M.view.loc c)) (p : Fin 4) :
    (M.view.loc c ↦[M.view.set]{q} f : sProp 𝕄)
      = iprop((M.view.loc c ↦[(quarter M p).view.set]{q} f) ∗ (M.view.loc c ↦[(quarter M (over 0 p)).view.set]{q} f)
        ∗ (M.view.loc c ↦[(quarter M (over 1 p)).view.set]{q} f) ∗ (M.view.loc c ↦[(quarter M (over 2 p)).view.set]{q} f)) := by
  rw [← quarter_cover M, pointsTo_biUnion Finset.univ _ fun p _ q _ h => quarter_disjoint M h]
  exact bigSep_places p fun p => (M.view.loc c ↦[(quarter M p).view.set]{q} f : sProp 𝕄)

/-- What a whole write through a view leaves is any contents that read as what was written. -/
theorem landed (c : Thread nD τ) {s : Shape} (M : Memref sig c.2.kind sp s e) (q : PosShare TreeShare) (fd f : Buf Val (M.view.loc c))
    (w : s.Idx → Val e) (h : ∀ x, M.view.read Val f x = w x) :
    (M.view.loc c ↦[M.view.set]{q} (M.view.write Val fd w Finset.univ) : sProp 𝕄) = (M.view.loc c ↦[M.view.set]{q} f) := by
  refine pointsTo_congr fun i hi => ?_
  obtain ⟨x, -, rfl⟩ := Finset.mem_map.mp hi
  refine View.eq_of_read_eq (v := M.view) (x := x) ?_
  rw [h, View.read_apply, View.write_emb_of_mem _ _ (Finset.mem_univ x)]
  exact eq_of_heq ((cast_heq _ _).trans (cast_heq _ _))

end Cert.Plane
-- ==== Proof.GatherRun.lean ====
/- The run of the first exchange: every device writes its block into its place of the result of each device of its
   plane. -/
module

public import proofs.«01_k».proof.Proof.FirstTalk
public import proofs.«01_k».proof.Proof.Exchange
public import proofs.«01_k».proof.Proof.Plane
public import proofs.«01_k».proof.Proof.Gen.GatherIdeal.Launch
public import proofs.«01_k».proof.Proof.Gen.GatherIdeal.Skeleton
public import proofs.«01_k».proof.Proof.Gen.GatherIdeal.Points
public import Idealize.ShloMosaic.Lib.Tactic

@[expose] public section

set_option maxRecDepth 16384
set_option Elab.async false

noncomputable section

namespace Cert.GatherRun

open Cert.GatherIdeal Cert.GatherIdeal.Gen
open Idealize.ShloMosaic Idealize.ShloMosaic.TcCoe
open Idealize.SL Idealize.SL.RA Idealize.SL.BI
open scoped Idealize.SL.BI
open Idealize.SL.BI.BIBase Idealize.SL.BI.Laws Idealize.SL.Sem Idealize.SL.ProofMode
open Idealize.ShloMosaic.Rounds Idealize.ShloMosaic.ValueIdx
open Idealize.ShloMosaic.Pipeline (Dat Cfg Window cellOf BodyObligation)
open Cert.Plane (pos at' over peer quarter slab)

variable {F : FTy → Type} [FloatOps F]

abbrev UU : Type := Exchange.UU nD τ sig

local notation "𝕄" => MT nD τ sig Unit (Elt F) ℕ UU ℕ

abbrev EP : Emb (UR sig nD τ) (MT nD τ sig Unit (Elt F) ℕ UU ℕ) := embL
abbrev ER : Emb (URounds (GSem nD τ sig) Unit) (MT nD τ sig Unit (Elt F) ℕ UU ℕ) := embR

variable (m : (ℓ : Loc nD τ sig) → Buf (Elt F) ℓ)

abbrev xM : Memref sig .tc .hbm S7536x1024 .bf16 := Memref.whole main_arg0
abbrev oM : Memref sig .tc .hbm S4x7536x1024 .bf16 := Memref.whole main_v1

/-! ## Semaphores -/

/-- Three of the sending side, three of the landings, one of the copy to the device's own place. -/
abbrev sem : Fin 7 → DmaSem sig := fun k => ⟨k.val, k.isLt⟩
theorem sem_inj : Function.Injective sem := by decide

def far : Fin 7 → Dev nD → Dev nD := fun k => match k with
  | 3 => peer 0 | 4 => peer 1 | 5 => peer 2 | _ => id
theorem far_far (k : Fin 7) (c : Dev nD) : far k (far k c) = c := by revert k c; decide

abbrev land : Finset (Fin 7) := {3, 4, 5}

abbrev N : ℕ := (quarter oM 0).view.dmaCredit
theorem N_pos : 0 < N := View.dmaCredit_pos _ (by decide)

/-! ## Contents -/

/-- The block of device `c`, as launched. -/
def blk (c : Dev nD) : S7536x1024.Idx → Elt F .bf16 := m ((c : Thread nD τ).loc main_arg0)

/-- The finished result of a device: at each place the block of the plane's device there. -/
def fin (c : Dev nD) : S4x7536x1024.Idx → Elt F .bf16 := fun i => blk m (at' (i 0) c) (ix2 (i 1) (i 2))

theorem fin_peer (j : Fin 3) (c : Dev nD) : fin m (peer j c) = fin m c :=
  funext fun i => congrArg (fun d => blk m d (ix2 (i 1) (i 2))) (Plane.at_peer j (i 0) c)

theorem fin_read (c : Dev nD) (x : S7536x1024.Idx) :
    (quarter oM (pos c)).view.read (Elt F) (fin m c) x = xM.view.read (Elt F) (m ((c : Thread nD τ).loc main_arg0)) x := by
  rw [eq_ix2 x]
  refine (Plane.read_quarter oM (pos c) (fin m c) (x 0) (x 1)).trans ?_
  show blk m (at' (pos c) c) (ix2 (x 0) (x 1)) = blk m c (ix2 (x 0) (x 1))
  rw [Plane.at_pos]

abbrev sh : Fin 4 → PosShare TreeShare := ![fullShare.left.left, fullShare.left.right, fullShare.right.left, fullShare.right.right]

def xPts (j : Fin 4) (c : Dev nD) : sProp 𝕄 := (xM.view.loc (c : Thread nD τ) ↦[xM.view.set]{sh j} m ((c : Thread nD τ).loc main_arg0))

/-- The quarter of device `c`'s result at place `p`, at `f`. -/
def oPts (p : Fin 4) (c : Dev nD) (f : Buf (Elt F) ((c : Thread nD τ).loc main_v1)) : sProp 𝕄 :=
  ((quarter oM p).view.loc (c : Thread nD τ) ↦[(quarter oM p).view.set]{fullShare} f)

def pay (c : Dev nD) (k : Fin 7) : sProp 𝕄 := match k with
  | 0 => xPts m 0 c | 1 => xPts m 1 c | 2 => xPts m 2 c
  | 3 => oPts (over 0 (pos c)) c (fin m c)
  | 4 => oPts (over 1 (pos c)) c (fin m c)
  | 5 => oPts (over 2 (pos c)) c (fin m c)
  | 6 => iprop(oPts (pos c) c (fin m c) ∗ xPts m 3 c)

instance xPts_storable (j : Fin 4) (c : Dev nD) : BI.Storable (upEmb : UEmb _ (MT nD τ sig Unit (Elt F) ℕ UU ℕ)) (xPts m j c) := by
  unfold xPts; infer_instance
instance oPts_storable (p : Fin 4) (c : Dev nD) (f : Buf (Elt F) ((c : Thread nD τ).loc main_v1)) :
    BI.Storable (upEmb : UEmb _ (MT nD τ sig Unit (Elt F) ℕ UU ℕ)) (oPts p c f) := by
  unfold oPts; infer_instance
instance pay_storable (c : Dev nD) (k : Fin 7) : BI.Storable (upEmb : UEmb _ (MT nD τ sig Unit (Elt F) ℕ UU ℕ)) (pay m c k) :=
  match k with
  | 0 => xPts_storable m 0 c | 1 => xPts_storable m 1 c | 2 => xPts_storable m 2 c
  | 3 => oPts_storable _ c _ | 4 => oPts_storable _ c _ | 5 => oPts_storable _ c _
  | 6 => (inferInstance : BI.Storable _ (iprop(oPts (pos c) c (fin m c) ∗ xPts m 3 c)))

/-! ## The body -/

section Body

variable (κ : Dev nD × Fin 7 → ℕ)

abbrev ctx : sProp 𝕄 := Exchange.ctx sem N N_pos (pay m) κ
abbrev due (c : Dev nD) : CellTallies nD τ sig Unit := Exchange.due sem N far land c
abbrev cell (c : Dev nD) (k : Fin 7) : GSem nD τ sig := Exchange.cell sem c k

theorem dev1 (c : Dev nD) : (⟨k0_dev1 c, k0_dev1_lt c⟩ : Dev nD) = peer 0 c := Fin.ext ((k0_dev1_eq c).trans (by revert c; decide))
theorem dev2 (c : Dev nD) : (⟨k0_dev2 c, k0_dev2_lt c⟩ : Dev nD) = peer 1 c := Fin.ext ((k0_dev2_eq c).trans (by revert c; decide))
theorem dev3 (c : Dev nD) : (⟨k0_dev3 c, k0_dev3_lt c⟩ : Dev nD) = peer 2 c := Fin.ext ((k0_dev3_eq c).trans (by revert c; decide))
theorem off1 (c : Dev nD) : k0_off1 c = Plane.off (pos c) := (k0_off1_eq c).trans (by revert c; decide)
theorem place (c : Dev nD) : slab oM (k0_off1 c) (k0_off1_inb c) = quarter oM (pos c) := Plane.slab_eq oM (off1 c)

theorem due_eq (c : Dev nD) : due c
    = ((0 + tallyAt (cell (peer 2 c) 5) () N) + tallyAt (cell (peer 1 c) 4) () N) + tallyAt (cell (peer 0 c) 3) () N := by
  unfold due Exchange.due land
  rw [Finset.sum_insert (by decide), Finset.sum_insert (by decide), Finset.sum_singleton, zero_add, add_comm, add_comm (tallyAt _ _ _) (tallyAt (Exchange.cell sem (far 5 c) 5) () N)]
  rfl

theorem over_pos_peer (j : Fin 3) (c : Dev nD) : over j (pos (peer j c)) = pos c := by rw [Plane.pos_peer, Plane.over_over]

theorem pay_land (j : Fin 3) (k : Fin 7) (hk : k.val = 3 + j.val) (c : Dev nD) : pay m (peer j c) k = oPts (pos c) (peer j c) (fin m (peer j c)) := by
  rw [← over_pos_peer j c]
  match j, k, hk with
  | 0, 3, _ => rfl
  | 1, 4, _ => rfl
  | 2, 5, _ => rfl

theorem credit (p : Fin 4) : (quarter oM p).view.dmaCredit = N := rfl

theorem pay_send (j : Fin 3) (k : Fin 7) (hk : k.val = j.val) (c : Dev nD) : pay m c k = xPts m j.castSucc c :=
  match j, k, hk with
  | 0, 0, _ => rfl
  | 1, 1, _ => rfl
  | 2, 2, _ => rfl

/-- What lands is the finished contents of the place. -/
theorem lands (n c : Dev nD) (hf : fin m n = fin m c) (f : Buf (Elt F) ((n : Thread nD τ).loc main_v1)) :
    ((quarter oM (pos c)).view.loc (n : Thread nD τ) ↦[(quarter oM (pos c)).view.set]{fullShare}
        ((quarter oM (pos c)).view.write (Elt F) f (xM.view.read (Elt F) (m ((c : Thread nD τ).loc main_arg0))) Finset.univ) : sProp 𝕄)
      = oPts (pos c) n (fin m n) := by
  unfold oPts
  exact Plane.landed (n : Thread nD τ) (quarter oM (pos c)) fullShare f (fin m n)
    (xM.view.read (Elt F) (m ((c : Thread nD τ).loc main_arg0))) (by rw [hf]; exact fin_read m c)

/-- One transfer: the block to the device's own place in a peer's result. -/
theorem wp_put (j : Fin 3) (c n : Dev nD) (hn : n = peer j c) (kS kR : Fin 7) (hS : kS.val = j.val) (hR : kR.val = 3 + j.val)
    {dst : Memref sig .tc .hbm S7536x1024 .bf16} (hd : dst = quarter oM (pos c)) {hsc : dst.view.ref.isScScratch = false}
    {sS sR : DmaSem sig} (hsS : sS = sem kS) (hsR : sR = sem kR)
    {hsrc : xM.view.WordExact} {hdst : dst.view.WordExact}
    {hty : DmaTarget.Typed .hbm (.dma sR) (.remote (n : Thread nD τ) dst (.dma sS) hsc)}
    (f : Buf (Elt F) ((peer j c : Thread nD τ).loc main_v1)) {O₀ : CellTallies nD τ sig Unit} (O : CellTallies nD τ sig Unit)
    (hO : O₀ = O + tallyAt (cell (peer j c) kR) () N) (W : Waits sig Unit)
    {α : Type} {Q : α → sProp 𝕄} {k : PUnit → Prog (TpuEff nD τ sig (Elt F) Λ₀ .tc) α} :
    iprop(ctx m κ ∗ xPts m j.castSucc c ∗ oPts (pos c) (peer j c) f
        ∗ owes (c : Thread nD τ) O₀ W ∗ dutyTok ER (cell c kS) 0 () ∗ dutyTok ER (cell (peer j c) kR) 0 ())
      ⊢ iprop(((cred (tallyAt (cell c kS) () N) ∗ owes (c : Thread nD τ) O W)
            -∗ wp frame (wpE defs₀ Variants.none (c : Thread nD τ) none) Set.univ (k ⟨⟩) Q)
          -∗ wp frame (wpE defs₀ Variants.none (c : Thread nD τ) none) Set.univ
              (.op (.enqueueDma xM (.remote (n : Thread nD τ) dst (.dma sS) hsc) (.dma sR) hsrc hdst hty) k) Q) := by
  subst hn hd hsS hsR
  have h1 := pay_send m j kS hS c
  have h2 := (lands m (peer j c) c (fin_peer m j c) f).trans (pay_land m j kR hR c).symm
  unfold xPts at h1
  unfold xPts oPts
  have h := Exchange.wp_put (Λ := Λ₀) (defs := defs₀) sem sem_inj N N_pos (pay m) Variants.none κ (src := xM) (dst := quarter oM (pos c)) (hsc := hsc) (hsrc := hsrc) (hdst := hdst) c (peer j c) kS kR (q := sh j.castSucc)
    (hty := hty) (fs := m ((c : Thread nD τ).loc main_arg0)) (fd := f) (credit (pos c)) O hO W (Entails.of_eq h1.symm)
    (Entails.of_eq h2) (Q := Q) (k := k)
  exact h

/-- The copy of the block to the device's own place of its own result. -/
theorem wp_own (c : Dev nD) {dst : Memref sig .tc .hbm S7536x1024 .bf16} (hd : dst = quarter oM (pos c))
    {sL : DmaSem sig} (hs : sL = sem 6) {hsrc : xM.view.WordExact} {hdst : dst.view.WordExact}
    {hty : DmaTarget.Typed (nD := nD) (p := (Proc.tc : Proc τ)) .hbm (.dma sL) (.here dst)}
    (f : Buf (Elt F) ((c : Thread nD τ).loc main_v1))
    {α : Type} {Q : α → sProp 𝕄} {k : PUnit → Prog (TpuEff nD τ sig (Elt F) Λ₀ .tc) α} :
    iprop(ctx m κ ∗ xPts m 3 c ∗ oPts (pos c) c f ∗ dutyTok ER (cell c 6) 0 ())
      ⊢ iprop((cred (tallyAt (cell c 6) () N) -∗ wp frame (wpE defs₀ Variants.none (c : Thread nD τ) none) Set.univ (k ⟨⟩) Q)
          -∗ wp frame (wpE defs₀ Variants.none (c : Thread nD τ) none) Set.univ
              (.op (.enqueueDma xM (.here dst) (.dma sL) hsrc hdst hty) k) Q) := by
  subst hd hs
  have h2 := lands m c c rfl f
  unfold xPts
  have h := Exchange.wp_local (Λ := Λ₀) (defs := defs₀) sem sem_inj N N_pos (pay m) Variants.none κ (src := xM) (dst := quarter oM (pos c)) (hsrc := hsrc) (hdst := hdst) c 6 (q := sh 3)
    (hty := hty) (fs := m ((c : Thread nD τ).loc main_arg0)) (fd := f) (credit (pos c))
    (by
      rw [h2, show pay m c 6 = iprop(oPts (pos c) c (fin m c) ∗ xPts m 3 c) from rfl]
      unfold xPts
      exact BI.Entails.refl _) (Q := Q) (k := k)
  unfold oPts
  exact h

/-- A wait. -/
theorem wp_take (c : Dev nD) (k₀ : Fin 7) {s : DmaSem sig} (hs : s = sem k₀) {src dst : Memref sig .tc .hbm S7536x1024 .bf16} (hA : dst.view.dmaCredit = N)
    {hsrc : src.view.WordExact} {hdst : dst.view.WordExact} (W : Waits sig Unit)
    {α : Type} {Q : α → sProp 𝕄} {k : PUnit → Prog (TpuEff nD τ sig (Elt F) Λ₀ .tc) α} :
    iprop(ctx m κ ∗ cred (tallyAt (cell c k₀) () N) ∗ owes (c : Thread nD τ) (0 : CellTallies nD τ sig Unit) W
        ∗ atPos ER (cell c k₀) 0 ∅ 0)
      ⊢ iprop(((owes (c : Thread nD τ) (0 : CellTallies nD τ sig Unit) (insert (.dma (sem k₀), ()) W) ∗ semVal (cell c k₀) 0 ∗ pay m c k₀)
            -∗ wp frame (wpE defs₀ Variants.none (c : Thread nD τ) none) Set.univ (k ⟨⟩) Q)
          -∗ wp frame (wpE defs₀ Variants.none (c : Thread nD τ) none) Set.univ (.op (.waitDma2 s src dst hsrc hdst) k) Q) := by
  subst hs
  exact Exchange.wp_take (Λ := Λ₀) (defs := defs₀) sem sem_inj N N_pos (pay m) Variants.none κ c k₀ (src := src) (dst := dst) (hsrc := hsrc) (hdst := hdst) hA W (Q := Q) (k := k)

/-- What the body starts from, besides the semaphores' invariants. -/
def bodyPre (c : Dev nD) : sProp 𝕄 :=
  iprop((bigSep Finset.univ fun k : Fin 7 => iprop(atPos ER (cell c k) 0 ∅ 0 ∗ dutyTok ER (cell (far k c) k) 0 ()))
    ∗ (bigSep land fun k => cred (tallyAt (cell c k) () N))
    ∗ (((c : Thread nD τ).loc main_arg0) ↦{fullShare} m ((c : Thread nD τ).loc main_arg0))
    ∗ oPts (pos c) c (m ((c : Thread nD τ).loc main_v1))
    ∗ oPts (pos c) (peer 0 c) (m ((peer 0 c : Thread nD τ).loc main_v1))
    ∗ oPts (pos c) (peer 1 c) (m ((peer 1 c : Thread nD τ).loc main_v1))
    ∗ oPts (pos c) (peer 2 c) (m ((peer 2 c : Thread nD τ).loc main_v1)))

/-- What it ends with. -/
def bodyPost (c : Dev nD) : sProp 𝕄 :=
  iprop((((c : Thread nD τ).loc main_arg0) ↦{fullShare} m ((c : Thread nD τ).loc main_arg0))
    ∗ (((c : Thread nD τ).loc main_v1) ↦{fullShare} (fin m c : Buf (Elt F) ((c : Thread nD τ).loc main_v1)))
    ∗ bigSep Finset.univ fun k : Fin 7 => semVal (cell c k) 0)

theorem bigSep_keys (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

theorem bigSep_land (Φ : Fin 7 → sProp 𝕄) : bigSep land Φ = iprop(Φ 3 ∗ Φ 4 ∗ Φ 5) := by
  unfold land
  rw [bigSep_insert (by decide), bigSep_insert (by decide), bigSep_singleton]
  rfl

theorem x_shares (c : Dev nD) : (((c : Thread nD τ).loc main_arg0) ↦{fullShare} m ((c : Thread nD τ).loc main_arg0) : sProp 𝕄)
    ⊣⊢ iprop(xPts m 0 c ∗ xPts m 1 c ∗ xPts m 2 c ∗ xPts m 3 c) := by
  unfold xPts
  rw [show xM.view.set = Finset.univ from View.set_whole main_arg0]
  have h := pointsTo_share (Val := Elt F) (Ix := Unit) (Name := ℕ) (U := UU) (Lvl := ℕ) (ℓ := xM.view.loc (c : Thread nD τ)) (I := Finset.univ) (f := m ((c : Thread nD τ).loc main_arg0)) (PosShare.mem_left_op_right fullShare)
  have hl := pointsTo_share (Val := Elt F) (Ix := Unit) (Name := ℕ) (U := UU) (Lvl := ℕ) (ℓ := xM.view.loc (c : Thread nD τ)) (I := Finset.univ) (f := m ((c : Thread nD τ).loc main_arg0)) (PosShare.mem_left_op_right fullShare.left)
  have hr := pointsTo_share (Val := Elt F) (Ix := Unit) (Name := ℕ) (U := UU) (Lvl := ℕ) (ℓ := xM.view.loc (c : Thread nD τ)) (I := Finset.univ) (f := m ((c : Thread nD τ).loc main_arg0)) (PosShare.mem_left_op_right fullShare.right)
  refine ⟨?_, ?_⟩
  · iintro H
    ihave H := h.1 $$ H
    icases H with ⟨HL, HR⟩
    ihave HL := hl.1 $$ HL
    icases HL with ⟨H0, H1⟩
    ihave HR := hr.1 $$ HR
    icases HR with ⟨H2, H3⟩
    isplitl [H0]; · iexact H0
    isplitl [H1]; · iexact H1
    isplitl [H2]; · iexact H2
    iexact H3
  · iintro ⟨H0, H1, H2, H3⟩
    iapply h.2
    isplitl [H0 H1]
    · iapply hl.2
      isplitl [H0]; · iexact H0
      iexact H1
    · iapply hr.2
      isplitl [H2]; · iexact H2
      iexact H3

theorem o_quarters (c : Dev nD) (f : Buf (Elt F) ((c : Thread nD τ).loc main_v1)) : (((c : Thread nD τ).loc main_v1) ↦{fullShare} f : sProp 𝕄)
    = iprop(oPts (pos c) c f ∗ oPts (over 0 (pos c)) c f ∗ oPts (over 1 (pos c)) c f ∗ oPts (over 2 (pos c)) c f) := by
  have h := Plane.quarters (Ix := Unit) (Name := ℕ) (U := UU) (Lvl := ℕ) (c : Thread nD τ) oM fullShare f (pos c)
  rw [show oM.view.set = Finset.univ from View.set_whole main_v1] at h
  unfold oPts
  exact h

theorem credit_x : xM.view.dmaCredit = N := rfl
theorem credit_place (c : Dev nD) : (slab oM (k0_off1 c) (k0_off1_inb c)).view.dmaCredit = N := by
  rw [place]

theorem start_keys (c : Dev nD) :
    (bigSep Finset.univ fun k : Fin 7 => (iprop(atPos ER (cell c k) 0 ∅ 0 ∗ dutyTok ER (cell (far k c) k) 0 ()) : sProp 𝕄))
      = iprop((atPos ER (cell c 0) 0 ∅ 0 ∗ dutyTok ER (cell c 0) 0 ()) ∗ (atPos ER (cell c 1) 0 ∅ 0 ∗ dutyTok ER (cell c 1) 0 ())
        ∗ (atPos ER (cell c 2) 0 ∅ 0 ∗ dutyTok ER (cell c 2) 0 ()) ∗ (atPos ER (cell c 3) 0 ∅ 0 ∗ dutyTok ER (cell (peer 0 c) 3) 0 ())
        ∗ (atPos ER (cell c 4) 0 ∅ 0 ∗ dutyTok ER (cell (peer 1 c) 4) 0 ()) ∗ (atPos ER (cell c 5) 0 ∅ 0 ∗ dutyTok ER (cell (peer 2 c) 5) 0 ())
        ∗ (atPos ER (cell c 6) 0 ∅ 0 ∗ dutyTok ER (cell c 6) 0 ())) := bigSep_keys _

set_option maxHeartbeats 4000000 in
/-- The body at device `c`. -/
theorem sound_body (c : Dev nD) (W : Waits sig Unit) (K : PUnit → sProp 𝕄) :
    iprop(ctx m κ ∗ bodyPre m c ∗ owes (c : Thread nD τ) (due c) W
        ∗ ((bodyPost m c ∗ ∃ W', owes (c : Thread nD τ) (0 : CellTallies nD τ sig Unit) W') -∗ K ⟨⟩))
      ⊢ wp frame (wpE defs₀ Variants.none (c : Thread nD τ) none) Set.univ
          (cc0_all_gather_plane (Memref.whole main_arg0) (Memref.isWhole_whole _) (Memref.whole main_v1) (Memref.isWhole_whole _)
            cc0_scratch0 cc0_scratch1 cc0_scratch2) K := by
  simp only [cc0_all_gather_plane_eq_skeleton]; unfold cc0_all_gather_plane_skel
  simp only [k0_part1_eq_skeleton, k0_part2_eq_skeleton, k0_part3_eq_skeleton]; unfold k0_part1_skel k0_part2_skel k0_part3_skel
  simp only [Prog.lift, Prog.bind_op, Prog.bind_ret, Prog.pure_eq_ret, Prog.bind_assoc, wp_deviceId]
  unfold bodyPre
  rw [start_keys, bigSep_land, due_eq]
  iintro ⟨#Hctx, ⟨⟨⟨Ha0, Hd0⟩, ⟨Ha1, Hd1⟩, ⟨Ha2, Hd2⟩, ⟨Ha3, Hd3⟩, ⟨Ha4, Hd4⟩, ⟨Ha5, Hd5⟩, ⟨Ha6, Hd6⟩⟩, ⟨Hc3, Hc4, Hc5⟩, Hx, Hown, HP0, HP1, HP2⟩, HO, Hk⟩
  ihave HX := (x_shares m c).1 $$ Hx
  icases HX with ⟨HX0, HX1, HX2, HX3⟩
  iapply (wp_own m κ c (place c) (by rfl) (m ((c : Thread nD τ).loc main_v1))) $$ [HX3 Hown Hd6]
  · isplitr; · iexact Hctx
    isplitl [HX3]; · iexact HX3
    isplitl [Hown] <;> iassumption
  iintro Hc6
  iapply (wp_put m κ 0 c _ (dev1 c) 0 3 rfl rfl (place c) (by rfl) (by rfl) (m ((peer 0 c : Thread nD τ).loc main_v1)) _ rfl _) $$ [HX0 HP0 HO Hd0 Hd3]
  · isplitr; · iexact Hctx
    isplitl [HX0]; · iexact HX0
    isplitl [HP0]; · iexact HP0
    isplitl [HO]; · iexact HO
    isplitl [Hd0] <;> iassumption
  iintro ⟨Hc0, HO⟩
  iapply (wp_put m κ 1 c _ (dev2 c) 1 4 rfl rfl (place c) (by rfl) (by rfl) (m ((peer 1 c : Thread nD τ).loc main_v1)) _ rfl _) $$ [HX1 HP1 HO Hd1 Hd4]
  · isplitr; · iexact Hctx
    isplitl [HX1]; · iexact HX1
    isplitl [HP1]; · iexact HP1
    isplitl [HO]; · iexact HO
    isplitl [Hd1] <;> iassumption
  iintro ⟨Hc1, HO⟩
  iapply (wp_put m κ 2 c _ (dev3 c) 2 5 rfl rfl (place c) (by rfl) (by rfl) (m ((peer 2 c : Thread nD τ).loc main_v1)) _ rfl _) $$ [HX2 HP2 HO Hd2 Hd5]
  · isplitr; · iexact Hctx
    isplitl [HX2]; · iexact HX2
    isplitl [HP2]; · iexact HP2
    isplitl [HO]; · iexact HO
    isplitl [Hd2] <;> iassumption
  iintro ⟨Hc2, HO⟩
  iapply (wp_take m κ c 0 (by rfl) credit_x _) $$ [Hc0 HO Ha0]
  · isplitr; · iexact Hctx
    isplitl [Hc0]; · iexact Hc0
    isplitl [HO] <;> iassumption
  iintro ⟨HO, Hz0, Hy0⟩
  iapply (wp_take m κ c 3 (by rfl) (credit_place c) _) $$ [Hc3 HO Ha3]
  · isplitr; · iexact Hctx
    isplitl [Hc3]; · iexact Hc3
    isplitl [HO] <;> iassumption
  iintro ⟨HO, Hz3, Hy3⟩
  iapply (wp_take m κ c 1 (by rfl) credit_x _) $$ [Hc1 HO Ha1]
  · isplitr; · iexact Hctx
    isplitl [Hc1]; · iexact Hc1
    isplitl [HO] <;> iassumption
  iintro ⟨HO, Hz1, Hy1⟩
  iapply (wp_take m κ c 4 (by rfl) (credit_place c) _) $$ [Hc4 HO Ha4]
  · isplitr; · iexact Hctx
    isplitl [Hc4]; · iexact Hc4
    isplitl [HO] <;> iassumption
  iintro ⟨HO, Hz4, Hy4⟩
  iapply (wp_take m κ c 2 (by rfl) credit_x _) $$ [Hc2 HO Ha2]
  · isplitr; · iexact Hctx
    isplitl [Hc2]; · iexact Hc2
    isplitl [HO] <;> iassumption
  iintro ⟨HO, Hz2, Hy2⟩
  iapply (wp_take m κ c 5 (by rfl) (credit_place c) _) $$ [Hc5 HO Ha5]
  · isplitr; · iexact Hctx
    isplitl [Hc5]; · iexact Hc5
    isplitl [HO] <;> iassumption
  iintro ⟨HO, Hz5, Hy5⟩
  iapply (wp_take m κ c 6 (by rfl) (credit_place c) _) $$ [Hc6 HO Ha6]
  · isplitr; · iexact Hctx
    isplitl [Hc6]; · iexact Hc6
    isplitl [HO] <;> iassumption
  iintro ⟨HO, Hz6, Hy6⟩
  ihave Hy0 := (Entails.of_eq (show pay m c 0 = xPts m 0 c from rfl)) $$ Hy0
  ihave Hy1 := (Entails.of_eq (show pay m c 1 = xPts m 1 c from rfl)) $$ Hy1
  ihave Hy2 := (Entails.of_eq (show pay m c 2 = xPts m 2 c from rfl)) $$ Hy2
  ihave Hy3 := (Entails.of_eq (show pay m c 3 = oPts (over 0 (pos c)) c (fin m c) from rfl)) $$ Hy3
  ihave Hy4 := (Entails.of_eq (show pay m c 4 = oPts (over 1 (pos c)) c (fin m c) from rfl)) $$ Hy4
  ihave Hy5 := (Entails.of_eq (show pay m c 5 = oPts (over 2 (pos c)) c (fin m c) from rfl)) $$ Hy5
  ihave Hy6' := (Entails.of_eq (show pay m c 6 = iprop(oPts (pos c) c (fin m c) ∗ xPts m 3 c) from rfl)) $$ Hy6
  icases Hy6' with ⟨Hq, Hx3⟩
  ihave Hx := (x_shares m c).2 $$ [Hy0 Hy1 Hy2 Hx3]
  · isplitl [Hy0]; · iexact Hy0
    isplitl [Hy1]; · iexact Hy1
    isplitl [Hy2]; · iexact Hy2
    iexact Hx3
  ihave Ho := (Entails.of_eq (o_quarters c (fin m c)).symm) $$ [Hq Hy3 Hy4 Hy5]
  · isplitl [Hq]; · iexact Hq
    isplitl [Hy3]; · iexact Hy3
    isplitl [Hy4]; · iexact Hy4
    iexact Hy5
  rw [wp_ret]; imodintro
  iapply Hk
  unfold bodyPost
  rw [bigSep_keys]
  isplitr [HO]
  · isplitl [Hx]; · iexact Hx
    isplitl [Ho]; · iexact Ho
    isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    iexact Hz6
  iexists _
  iexact HO

end Body

/-! ## The call and its launch -/

/-- What the call starts from. -/
def Φ₀ (c : Dev nD) : sProp 𝕄 :=
  iprop((∃ κ, Exchange.start sem N N_pos (pay m) far κ c)
    ∗ (bigSep land fun k => cred (tallyAt (cell c k) () N))
    ∗ (((c : Thread nD τ).loc main_arg0) ↦{fullShare} m ((c : Thread nD τ).loc main_arg0))
    ∗ oPts (pos c) c (m ((c : Thread nD τ).loc main_v1))
    ∗ bigSep Finset.univ fun j : Fin 3 => oPts (pos c) (peer j c) (m ((peer j c : Thread nD τ).loc main_v1)))

/-- The call's data: no windows; the invariant before and after its one point. -/
def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => bodyPost m c
  q _ := fullShare
  owed t := match t with
    | ⟨0, _⟩ => due c
    | ⟨_ + 1, _⟩ => 0

abbrev osem : Fin 7 → SemLoc sig := fun k => .dma (sem k)

theorem bigSep_three (Φ : Fin 3 → sProp 𝕄) : bigSep Finset.univ Φ = iprop(Φ 0 ∗ Φ 1 ∗ Φ 2) :=
  bigSep_univ_eq_bigSepL [0, 1, 2] (by decide) (by decide) Φ

theorem no_windows (Φ : Fin cfg0.W → sProp 𝕄) : bigSep Finset.univ Φ = iprop(emp) := by
  rw [show (Finset.univ : Finset (Fin cfg0.W)) = ∅ from rfl, BI.bigSep_empty]
  rfl

theorem body_obligation (c : Dev nD) : BodyObligation (dats (F := F) m 0 c) (defs₀ (F := F)) Variants.none () Set.univ := fun t => by
  rw [fin_N0 t]
  rw [no_windows, no_windows]
  show iprop(Φ₀ m c ∗ (dats (F := F) m 0 c).owesAt () t0_0.castSucc ∗ emp)
    ⊢ wp frame (wpE (defs₀ (F := F)) Variants.none (c : Thread nD τ) none) Set.univ
      (cc0_all_gather_plane (Memref.whole main_arg0) (Memref.isWhole_whole _) (Memref.whole main_v1) (Memref.isWhole_whole _)
        cc0_scratch0 cc0_scratch1 cc0_scratch2)
      (fun _ => iprop(bodyPost m c ∗ (dats (F := F) m 0 c).owesAt () t0_0.succ ∗ emp))
  unfold Φ₀ Exchange.start
  rw [bigSep_three]
  iintro ⟨⟨⟨%κ, #Hctx, Hk⟩, Hc, Hx, Ho, H0, H1, H2⟩, HO, -⟩
  unfold Dat.owesAt Pipeline.owesWithin
  icases HO with ⟨%W, %hW, HO⟩
  rw [show (dats m 0 c).owed t0_0.castSucc = due c from rfl, show (dats m 0 c).owed t0_0.succ = 0 from rfl]
  iapply (sound_body m κ c W _)
  isplitr; · iexact Hctx
  isplitl [Hk Hc Hx Ho H0 H1 H2]
  · unfold bodyPre
    isplitl [Hk]; · iexact Hk
    isplitl [Hc]; · iexact Hc
    isplitl [Hx]; · iexact Hx
    isplitl [Ho]; · iexact Ho
    isplitl [H0]; · iexact H0
    isplitl [H1]; · iexact H1
    iexact H2
  isplitl [HO]; · iexact HO
  iintro ⟨HP, %W', HO⟩
  isplitl [HP]; · iexact HP
  isplitl
  · iexists W'
    isplitr; · ipureintro; exact fun _ _ => Or.inl trivial
    iexact HO
  · iempintro

theorem ownSemFacts : Pipeline.OwnSemFacts cfg0.spec osem := by decide

abbrev adm : (p : Fin 1) → (pcfgs (F := F) p).Adm := fun p => (cfgs p).toPCfg_adm

theorem ownSems0_eq (c : Dev nD) : (Pipeline.ownSems0 (Ix := Unit) (Name := ℕ) (U := UU) (Lvl := ℕ) (Val := Elt F) (τ := τ) osem c : sProp 𝕄)
    = bigSep Finset.univ fun k : Fin 7 => semVal (cell c k) 0 := rfl

theorem bufs_eq (c : Dev nD) (V : (b : Ref sig .tc) → Buf (Elt F) ((c : Thread nD τ).loc b)) :
    (unscopedBufs (Ix := Unit) (Name := ℕ) (U := UU) (Lvl := ℕ) c V : sProp 𝕄)
      = iprop((((c : Thread nD τ).loc main_arg0) ↦{fullShare} V main_arg0) ∗ (((c : Thread nD τ).loc main_v1) ↦{fullShare} V main_v1)) := by
  unfold unscopedBufs
  exact bigSep_eq_bigSepL_of_eq [main_arg0, main_v1] (by decide) (by decide) _

/-- What each device starts its program from, besides the scoped buffers. -/
def T₀ (c : Dev nD) : sProp 𝕄 :=
  iprop((Pipeline.cellsSems0 (Pipeline.pin (pcfgs (F := F)) adm) 0 c ∗ Pipeline.idleSems0 (Pipeline.pin (pcfgs (F := F)) adm) cellOf_inj 0 ownSemFacts c)
    ∗ owes (c : Thread nD τ) (due c) ∅ ∗ Φ₀ m c)

/-- What a device holds through the dealing. -/
def Z (c : Dev nD) : sProp 𝕄 :=
  iprop((Pipeline.cellsSems0 (Pipeline.pin (pcfgs (F := F)) adm) 0 c ∗ Pipeline.idleSems0 (Pipeline.pin (pcfgs (F := F)) adm) cellOf_inj 0 ownSemFacts c)
    ∗ owes (c : Thread nD τ) (due c) ∅
    ∗ (((c : Thread nD τ).loc main_arg0) ↦{fullShare} m ((c : Thread nD τ).loc main_arg0))
    ∗ oPts (pos c) c (m ((c : Thread nD τ).loc main_v1)))

/-- The places of its result that a device hands to its peers. -/
def B (c : Dev nD) (j : Fin 3) : sProp 𝕄 := oPts (over j (pos c)) c (m ((c : Thread nD τ).loc main_v1))

theorem B_peer (c : Dev nD) (j : Fin 3) : B m (peer j c) j = oPts (pos c) (peer j c) (m ((peer j c : Thread nD τ).loc main_v1)) := by
  unfold B; rw [over_pos_peer]

theorem deal_in (c : Dev nD) : iprop(scopedSems0 (c.tc : Thread nD τ)
          ∗ unscopedBufs c (fun b => m ((c.tc : Thread nD τ).loc b)) ∗ owes (c.tc : Thread nD τ) (due c) ∅
          ∗ Pipeline.launchCred due c ∗ Exchange.G sem N N_pos (pay m) c)
      ⊢ iprop((Z m c ∗ (bigSep Finset.univ fun k : Fin 7 => semVal (cell c k) 0) ∗ Pipeline.launchCred due c ∗ Exchange.G sem N N_pos (pay m) c)
          ∗ bigSep Finset.univ (B m c)) := by
  rw [Pipeline.scopedSems0_split (Pipeline.pin (pcfgs (F := F)) adm) cellOf_inj 0 winFacts0.to₀ ownSemFacts c,
    bufs_eq c (fun b => m ((c.tc : Thread nD τ).loc b)), ownSems0_eq, o_quarters, bigSep_three]
  unfold Z B
  iintro ⟨⟨⟨Hcs, Hv⟩, Hid⟩, ⟨Hx, Ho, H0, H1, H2⟩, HO, HL, HG⟩
  isplitr [H0 H1 H2]
  · isplitl [Hcs Hid Hx Ho HO]
    · isplitl [Hcs Hid]; · isplitl [Hcs] <;> iassumption
      isplitl [HO]; · iexact HO
      isplitl [Hx] <;> iassumption
    isplitl [Hv]; · iexact Hv
    isplitl [HL] <;> iassumption
  · isplitl [H0]; · iexact H0
    isplitl [H1] <;> iassumption

theorem deal_out (c : Dev nD) : iprop((Z m c ∗ (∃ κ, Exchange.start sem N N_pos (pay m) far κ c) ∗ bigSep land fun k => cred (tallyAt (cell c k) () N))
        ∗ bigSep Finset.univ fun j : Fin 3 => B m (peer j c) j) ⊢ (T₀ m c : sProp 𝕄) := by
  rw [bigSep_congr (Φ := fun j : Fin 3 => B m (peer j c) j) fun j _ => B_peer m c j]
  unfold T₀ Φ₀ Z
  iintro ⟨⟨⟨Hs, HO, Hx, Ho⟩, HK, Hc⟩, HB⟩
  isplitl [Hs]; · iexact Hs
  isplitl [HO]; · iexact HO
  isplitl [HK]; · iexact HK
  isplitl [Hc]; · iexact Hc
  isplitl [Hx]; · iexact Hx
  isplitl [Ho] <;> iassumption

theorem hinit : (bigSep Finset.univ fun c : Dev nD => iprop(scopedSems0 (c.tc : Thread nD τ)
          ∗ unscopedBufs c (fun b => m ((c.tc : Thread nD τ).loc b)) ∗ owes (c.tc : Thread nD τ) (due c) ∅
          ∗ Pipeline.launchCred due c ∗ Exchange.G sem N N_pos (pay m) c) : sProp 𝕄)
      ⊢ |={Set.univ}=> bigSep Finset.univ (T₀ m) := by
  have hi : (bigSep Finset.univ fun c : Dev nD => iprop(scopedSems0 (c.tc : Thread nD τ)
          ∗ unscopedBufs c (fun b => m ((c.tc : Thread nD τ).loc b)) ∗ owes (c.tc : Thread nD τ) (due c) ∅
          ∗ Pipeline.launchCred due c ∗ Exchange.G sem N N_pos (pay m) c) : sProp 𝕄)
      ⊢ iprop((bigSep Finset.univ fun c : Dev nD => iprop(Z m c ∗ (bigSep Finset.univ fun k : Fin 7 => semVal (cell c k) 0) ∗ Pipeline.launchCred due c ∗ Exchange.G sem N N_pos (pay m) c))
        ∗ bigSep Finset.univ fun c : Dev nD => bigSep Finset.univ fun j : Fin 3 => B m (peer j c) j) := by
    refine (bigSep_mono fun c _ => deal_in m c).trans ?_
    rw [bigSep_sep', Exchange.swap (fun j => peer j) Plane.peer_peer (B m)]
    exact BI.Entails.refl _
  have hb := Exchange.begin_all (τ := τ) sem sem_inj N N_pos (pay m) far far_far land (Z m)
  have ho : iprop((bigSep Finset.univ fun c : Dev nD => iprop(Z m c ∗ (∃ κ, Exchange.start sem N N_pos (pay m) far κ c) ∗ bigSep land fun k => cred (tallyAt (cell c k) () N)))
        ∗ bigSep Finset.univ fun c : Dev nD => bigSep Finset.univ fun j : Fin 3 => B m (peer j c) j) ⊢ (bigSep Finset.univ (T₀ m) : sProp 𝕄) := by
    rw [← bigSep_sep']
    exact bigSep_mono fun c _ => deal_out m c
  iintro H
  ihave H := hi $$ H
  icases H with ⟨H, HB⟩
  imod hb $$ H with H
  imodintro
  iapply ho
  isplitl [H] <;> iassumption

/-! ## The run -/

/-- The end of the program at a device: its block as launched, its result finished. -/
def Tₙ (c : Dev nD) : sProp 𝕄 :=
  iprop((((c : Thread nD τ).loc main_arg0) ↦{fullShare} m ((c : Thread nD τ).loc main_arg0))
    ∗ (((c : Thread nD τ).loc main_v1) ↦{fullShare} (fin m c : Buf (Elt F) ((c : Thread nD τ).loc main_v1))))

theorem hrun (c : Dev nD) : iprop(scopedBufs (c.tc : Thread nD τ) ∗ opIdle (c.tc : Thread nD τ) ∗ T₀ m c
      ∗ Pipeline.ghostOn (pcfgs (F := F)) adm EP Finset.univ c)
    ⊢ wp frame (wpE (Pipeline.defs (pcfgs (F := F)) defs₀) (Variants.lift Variants.none) (c.tc : Thread nD τ) none) Set.univ (main (F := F) c) fun _ =>
        iprop(boundary (c.tc : Thread nD τ) ∗ Tₙ m c ∗ ∃ W, owes (c.tc : Thread nD τ) (0 : CellTallies nD τ sig Unit) W) := by
  have h := FirstTalk.wp_first (pcfgs (F := F)) adm (dats m) () cellOf_inj EP defs₀ Variants.none 0 (K := Fin 7) (osem := osem) winFacts0.to₀ ownSemFacts rfl rfl
    (fun _ _ => 0) c (due c) (Φ₀ m c) (Tₙ m c) (body_obligation m c) rfl
    (by
      rw [show (dats m 0 c).Φ 0 = Φ₀ m c from rfl]
      iintro ⟨H, -⟩
      iexact H)
    (by
      rw [show (dats m 0 c).Φ (Fin.last cfg0.N) = bodyPost m c from rfl, ownSems0_eq]
      unfold bodyPost Tₙ
      rw [show (Pipeline.scopedRest (Pipeline.pin (pcfgs (F := F)) adm 0).spec c : sProp 𝕄) = BI.emp from scopedRest0_eq c]
      iintro ⟨Hx, Ho, Hz⟩
      isplitl [Hx Ho]; · isplitl [Hx] <;> iassumption
      isplitl [Hz]; · iexact Hz
      iempintro)
    (fun x => .ret x) fun _ => iprop(boundary (c.tc : Thread nD τ) ∗ Tₙ m c ∗ ∃ W, owes (c.tc : Thread nD τ) (0 : CellTallies nD τ sig Unit) W)
  show _ ⊢ wp frame (wpE (Pipeline.defs (pcfgs (F := F)) defs₀) (Variants.lift Variants.none) (c.tc : Thread nD τ) none) Set.univ (.op (.customCall (Pipeline.entry 0) ()) fun x => .ret x) _
  unfold T₀
  rw [show (Pipeline.ghostOn (pcfgs (F := F)) adm EP Finset.univ c : sProp 𝕄) = _ from
    Pipeline.PerCore.ghostOn_erase (pcfgs (F := F)) (fun _ : Dev nD => adm) EP (Finset.mem_univ (0 : Fin 1)) c]
  iintro ⟨Hsb, Hid, ⟨⟨Hcs, His⟩, HO, HΦ⟩, ⟨Hg, Ht⟩, -⟩
  iapply h
  isplitr [Hsb Hid Hcs His HO HΦ Hg Ht]
  · iintro ⟨Hb, HT, HO⟩
    rw [wp_ret]
    imodintro
    isplitl [Hb]; · iexact Hb
    isplitl [HT]; · iexact HT
    unfold Dat.owesAt Pipeline.owesWithin
    icases HO with ⟨%W, -, HO⟩
    iexists W
    iexact HO
  isplitl [Hsb]; · iexact Hsb
  isplitl [Hid]; · iexact Hid
  isplitl [Hcs]; · iexact Hcs
  isplitl [His]; · iexact His
  isplitl [HO]; · iexact HO
  isplitl [HΦ]; · iexact HΦ
  isplitl [Hg] <;> iassumption

theorem run_main (g : Dev nD → PrngReg) : θ_run (defs (F := F)) (onTc (τ := τ) (main (F := F))) ⟨m, fun _ => 0, g⟩ (fun r =>
    (∀ c : Dev nD, r.2.mem ((c : Thread nD τ).loc main_arg0) = m ((c : Thread nD τ).loc main_arg0)
      ∧ r.2.mem ((c : Thread nD τ).loc main_v1) = fin m c) ∧ r.2.sem = fun _ => 0) :=
  FirstTalk.run_all (pcfgs (F := F)) adm cellOf_inj EP defs₀ Variants.none m g main due (Exchange.G sem N N_pos (pay m))
    (initOf (Pipeline.cells cfgs cellOf_inj) (Pipeline.launchToks cfgs cellOf_inj), initOf (Exchange.cells sem sem_inj) (Exchange.toks sem sem_inj))
    (by
      iintro Hu
      ihave H := (ownU_pair _ _) $$ Hu
      icases H with ⟨HP, HX⟩
      imod (Exchange.fund sem sem_inj N N_pos (pay m)) $$ HX with HG
      imodintro
      isplitl [HP] <;> iassumption)
    (T₀ m) (Tₙ m) (hinit m) (hrun m)
    (fun c s => s.mem ((c : Thread nD τ).loc main_arg0) = m ((c : Thread nD τ).loc main_arg0) ∧ s.mem ((c : Thread nD τ).loc main_v1) = fin m c)
    (fun c s' => by
      unfold Tₙ
      iintro ⟨⟨Hx, Ho⟩, HSI⟩
      ihave %h1 := SI_pointsTo_agree $$ [HSI Hx]
      · isplitl [HSI] <;> iassumption
      ihave %h2 := SI_pointsTo_agree $$ [HSI Ho]
      · isplitl [HSI] <;> iassumption
      imodintro
      isplitr
      · ipureintro
        exact ⟨funext fun i => h1 i (Finset.mem_univ i), funext fun i => h2 i (Finset.mem_univ i)⟩
      iexact HSI)
    (fun s h hs => ⟨h, sem_eq_zero_of_scoped (by decide) hs⟩)

end Cert.GatherRun
-- ==== Proof.Blocks.lean ====
/- Which part of a whole array a device of the mesh holds, where the array is cut over the plane's two axes. -/
module

public import proofs.«01_k».proof.Proof.Plane
public import Idealize.ShloMosaic.Lib.Layout
public import Idealize.ShloMosaic.Lib.ValueIdx

@[expose] public section

noncomputable section

namespace Cert.Blocks

open Idealize.ShloMosaic Idealize.ShloMosaic.ValueIdx
open Cert.Plane (pos at')

/-- The place of a device along the rows of an array cut over the plane. -/
theorem place_rows (c : Dev 8) : Layout.meshLin [2, 2, 2] c.val [0, 1] = (pos c).val := by revert c; decide

theorem row_lt (p : Fin 4) (r : Fin 7536) : p.val * 7536 + r.val < 30144 := by omega

/-- Row `r` of the part at place `p`, in the whole array. -/
abbrev row (p : Fin 4) (r : Fin 7536) : Fin 30144 := ⟨p.val * 7536 + r.val, row_lt p r⟩

/-- The part that device `c` holds of an array cut over the plane: the rows of its place. -/
theorem part_plane {α : Type} (c : Dev 8) (v : (⟨2, ![30144, 1024]⟩ : Shape).Idx → α) (i : (⟨2, ![7536, 1024]⟩ : Shape).Idx) :
    (Layout.blockN ⟨2, ![7536, 1024]⟩ ⟨2, ![30144, 1024]⟩ (Layout.meshBlock [2, 2, 2] ![[0, 1], []] c) v : (⟨2, ![7536, 1024]⟩ : Shape).Idx → α) i
      = v (ix2 (row (pos c) (i 0)) (i 1)) := by
  rw [Layout.blockN_apply]
  refine congrArg v (funext fun b => ?_)
  match b with
  | 0 =>
    refine Fin.ext ((Layout.TilesN.idx_val _ _ _ _).trans ?_)
    show Layout.meshLin [2, 2, 2] c.val [0, 1] * 7536 + (i 0).val = (pos c).val * 7536 + (i 0).val
    rw [place_rows]
  | 1 =>
    refine Fin.ext ((Layout.TilesN.idx_val _ _ _ _).trans ?_)
    show 0 * 1024 + (i 1).val = (i 1).val
    omega

theorem row8_lt (c : Dev 8) (r : Fin 7536) : c.val * 7536 + r.val < 60288 := by have : c.val < 8 := c.isLt; omega

/-- Row `r` of the part of device `c`, in a matrix of eight parts. -/
abbrev row8 (c : Dev 8) (r : Fin 7536) : Fin 60288 := ⟨c.val * 7536 + r.val, row8_lt c r⟩

/-- The part that device `c` holds of a matrix cut into eight. -/
theorem part_eight {α : Type} (c : Dev 8) (v : (⟨2, ![60288, 1024]⟩ : Shape).Idx → α) (i : (⟨2, ![7536, 1024]⟩ : Shape).Idx) :
    (Layout.block ⟨2, ![7536, 1024]⟩ ⟨2, ![60288, 1024]⟩ 0 8 c v : (⟨2, ![7536, 1024]⟩ : Shape).Idx → α) i = v (ix2 (row8 c (i 0)) (i 1)) := by
  rw [Layout.block_apply]
  refine congrArg v (funext fun b => ?_)
  match b with
  | 0 => exact Fin.ext (Layout.Tiles.idx_val _ _ _ _)
  | 1 => exact Fin.ext (Layout.Tiles.idx_val _ _ _ _)

theorem sheet_lt (c : Dev 8) (q : Fin 4) : c.val * 4 + q.val < 32 := by have : c.val < 8 := c.isLt; omega

/-- Sheet `q` of device `c`, in a stack of four sheets from each device. -/
abbrev sheet8 (c : Dev 8) (q : Fin 4) : Fin 32 := ⟨c.val * 4 + q.val, sheet_lt c q⟩

/-- The four sheets that device `c` holds of a stack of thirty-two. -/
theorem stack_eight {α : Type} (c : Dev 8) (v : (⟨3, ![32, 7536, 1024]⟩ : Shape).Idx → α) (i : (⟨3, ![4, 7536, 1024]⟩ : Shape).Idx) :
    (Layout.block ⟨3, ![4, 7536, 1024]⟩ ⟨3, ![32, 7536, 1024]⟩ 0 8 c v : (⟨3, ![4, 7536, 1024]⟩ : Shape).Idx → α) i
      = v (ix3 (sheet8 c (i 0)) (i 1) (i 2)) := by
  rw [Layout.block_apply]
  refine congrArg v (funext fun b => ?_)
  match b with
  | 0 => exact Fin.ext (Layout.Tiles.idx_val _ _ _ _)
  | 1 => exact Fin.ext (Layout.Tiles.idx_val _ _ _ _)
  | 2 => exact Fin.ext (Layout.Tiles.idx_val _ _ _ _)

end Cert.Blocks

end
-- ==== Proof.GatherClaims.lean ====
/- The first exchange's claims: both frames, the references', and the equation of the results, exact and bit for bit. -/
module

public import proofs.«01_k».proof.Defs
public import proofs.«01_k».proof.Proof.GatherRun
public import proofs.«01_k».proof.Proof.Blocks
public import proofs.«01_k».proof.Proof.Gen.Gather
public import proofs.«01_k».proof.Proof.Gen.GatherRefIdeal.Run
public import proofs.«01_k».proof.Proof.Gen.GatherRef.Run

@[expose] public section

set_option maxRecDepth 16384

noncomputable section

namespace Cert.GatherClaims

open Idealize.ShloMosaic Idealize.ShloMosaic.ValueIdx Idealize.ShloMosaic.TcCoe Idealize.SL.Sem
open Cert.Plane (pos at')

theorem frame_ideal : Cert.quiescent_GatherIdeal := fun m g _ =>
  (θ_run Cert.GatherIdeal.defs _ _).mono (fun _ h => ⟨fun c => (h.1 c).1, h.2⟩) (GatherRun.run_main (F := Ideal) m g)

theorem frame_bits : Cert.quiescent_Gather := fun m g _ =>
  (θ_run Cert.GatherIdeal.defs _ _).mono (fun _ h => ⟨fun c => (h.1 c).1, h.2⟩) (GatherRun.run_main (F := Bits) m g)

theorem frame_ref : Cert.quiescent_GatherRefIdeal := fun m g _ =>
  (θ_run Cert.GatherRefIdeal.defs _ _).mono (fun r h => ⟨fun c => (h c).2, sem_eq_zero_of_no_sems (by decide) r.2⟩)
    (Cert.GatherRefIdeal.Value.run m g)

theorem frame_ref_bits : Cert.quiescent_GatherRef := fun m g _ =>
  (θ_run Cert.GatherRef.defs _ _).mono (fun r h => ⟨fun c => (h c).2, sem_eq_zero_of_no_sems (by decide) r.2⟩)
    (Cert.GatherRef.Value.run m g)

/-- What every device ends with is the whole array, its four parts in the order of their places. -/
theorem value {F : FTy → Type} [FloatOps F] (m : (ℓ : Loc Cert.GatherIdeal.nD Cert.GatherIdeal.τ Cert.GatherIdeal.sig) → Buf (Elt F) ℓ)
    (v : (⟨2, ![30144, 1024]⟩ : Shape).Idx → Elt F .bf16)
    (hm : ∀ c : Dev 8, GatherRun.blk m c = Layout.blockN ⟨2, ![7536, 1024]⟩ ⟨2, ![30144, 1024]⟩ (Layout.meshBlock [2, 2, 2] ![[0, 1], []] c) v) (c : Dev 8) :
    GatherRun.fin m c = shapeCast _ v Cert.GatherRefIdeal.Gen.shapeCasts_S30144x1024_S4x7536x1024 := by
  funext i
  unfold GatherRun.fin
  rw [hm, Blocks.part_plane]
  symm
  refine shapeCast_apply _ _ _ _ ?_
  refine (Shape.rowMajor_val_two _).trans (Eq.trans ?_ (Shape.rowMajor_val_three _).symm)
  exact congrArg (fun p : Fin 4 => (p.val * 7536 + (i 1).val) * 1024 + (i 2).val) (Plane.pos_at (i 0) c)

theorem algebraic : Cert.algebraic_GatherIdeal_GatherRefIdeal := fun m g m' g' _ hm =>
  ⟨_, (θ_run Cert.GatherIdeal.defs _ _).mono (fun _ h c => ⟨(h.1 c).2.trans (value m _ hm c), (h.1 c).1⟩) (GatherRun.run_main (F := Ideal) m g),
    (θ_run Cert.GatherRefIdeal.defs _ _).mono (fun _ h => h 0) (Cert.GatherRefIdeal.Value.run m' g')⟩

theorem bitexact : Cert.bitexact_Gather_GatherRef := fun m g m' g' _ hm =>
  ⟨_, (θ_run Cert.GatherIdeal.defs _ _).mono (fun _ h c => ⟨(h.1 c).2.trans (value m _ hm c), (h.1 c).1⟩) (GatherRun.run_main (F := Bits) m g),
    (θ_run Cert.GatherRef.defs _ _).mono (fun _ h => h 0) (Cert.GatherRef.Value.run m' g')⟩

end Cert.GatherClaims

end
-- ==== Proof.SecondCall.lean ====
/- A call over a grid that exchanges nothing, run after an earlier call of the same program: from all the unscoped
   buffers of a device to the call's arrays as its points leave them, the other buffers as they were. -/
module

public import proofs.«01_k».proof.Proof.FirstTalk
public import Idealize.ShloMosaic.Lib.Pipeline.Kit
public import Idealize.ShloMosaic.Lib.Pipeline.Regions

@[expose] public section

set_option maxRecDepth 16384
set_option Elab.async false

noncomputable section

namespace Cert.SecondCall

open Idealize.ShloMosaic Idealize.ShloMosaic.TcCoe Idealize.ShloMosaic.Pipeline
open Idealize.SL
open Idealize.SL.BI (sProp bigSep bigSep_sep' bigSep_mono bigSep_congr)
open scoped Idealize.SL.BI
open Idealize.SL.BI.BIBase Idealize.SL.BI.Laws Idealize.SL.Sem Idealize.SL.ProofMode
open Idealize.SL.RA
open Idealize.ShloMosaic.Rounds

open Cert.FirstTalk (noLevels levAts_none)

variable {nD : Nat} {τ : Topo} {sig : RefSig} {Val : EltTy → Type}
variable {Ix : Type} [DecidableEq Ix] {Name : Type} [DecidableEq Name] {U : Type} [URA U] {Lvl : Type} [Preorder Lvl]

local notation "𝕄" => MT nD τ sig Ix Val Name U Lvl

variable {Λ₀ : Labels} {P : Type} [Fintype P] [DecidableEq P]
variable (pcs : P → PCfg sig Λ₀ Val) (a : (p : P) → (pcs p).Adm)
  (pdats : (p : P) → (c : Dev nD) → Dat τ Val Ix Name U Lvl (pin pcs a p) c) (ι : Ix)
  (phinj : Function.Injective (cellOf (nD := nD) (pin pcs a)))
  (EP : Emb (URounds (GSem nD τ sig) Unit) (MT nD τ sig Ix Val Name U Lvl))
  (defs₀ : Defs nD τ sig Val Λ₀) (𝒱₀ : Variants)

local notation "𝔻" => Pipeline.defs pcs defs₀
local notation "𝕍" => Variants.lift 𝒱₀

include phinj in
theorem wp_second [∀ e, Nonempty (Val e)] [Infinite Name] [EP.LandsIn (upEmb : UEmb _ 𝕄)] (p : P)
    (hw : WinFacts (pin pcs a p).spec) (hb : ∀ w, 0 < ((pin pcs a p).spec w).block.numel) (harr : ∀ w, ((pin pcs a p).spec w).arr.IsWhole)
    (hstage : ∀ w s, (((pin pcs a p).spec w).stage s).IsWhole) (hK : (pcs p).pre.K = 0)
    (hbody : ∀ c, BodyObligationLoose (pdats p c) defs₀ 𝒱₀ ι Set.univ) (howed : ∀ c t, (pdats p c).owed t = 0)
    (hrec : ∀ c, (pdats p c).recorded 0 = Set.univ) (hshare : ∀ c w, (pdats p c).share w = fullShare) (hΦ : ∀ c t, (pdats p c).Φ t = iprop(emp))
    (hrest : ∀ c, (scopedRest (pin pcs a p).spec c : sProp 𝕄) = BI.emp)
    (V : (c : Dev nD) → (b : Ref sig .tc) → Buf Val ((c.tc : Thread nD τ).loc b))
    (hA : ∀ c w, (pdats p c).A w = V c (arrRef (pin pcs a p).spec w))
    (lv : GSem nD τ sig → Ix → Lvl) (c : Dev nD)
    {α : Type} (k : PUnit → Prog (TpuEff nD τ sig Val (Sig Λ₀ P fun p => (pcs p).Adm) .tc) α) (Q : α → sProp 𝕄) :
    iprop((iprop(boundary (c.tc : Thread nD τ) ∗ (pdats p c).arrays ((pdats p c).arrAt · (pin pcs a p).N) ∗ unscopedRest (pin pcs a p).spec c (V c)
            ∗ ∃ W, owes (c.tc : Thread nD τ) (0 : CellTallies nD τ sig Ix) W)
          -∗ wp frame (wpE 𝔻 𝕍 (c.tc : Thread nD τ) none) Set.univ (k ⟨⟩) Q)
        ∗ boundary (c.tc : Thread nD τ) ∗ unscopedBufs c (V c) ∗ (∃ W, owes (c.tc : Thread nD τ) (0 : CellTallies nD τ sig Ix) W)
        ∗ cellsGhost (pin pcs a) EP p c ∗ toksInit (pin pcs a) EP p c)
      ⊢ wp frame (wpE 𝔻 𝕍 (c.tc : Thread nD τ) none) Set.univ (.op (.customCall (entry p) ()) k) Q := by
  classical
  haveI hE : IsEmpty (Fin (pcs p).pre.K) := by rw [hK]; exact Fin.isEmpty'
  have hpf (c : Dev nD) : (prefHeld (pcs p).pre c (fun _ => fullShare) (a p).1 : sProp 𝕄) = BI.emp := by
    unfold prefHeld; rw [Finset.univ_eq_empty, BI.bigSep_empty]
  let R : RegionSeg pcs a pdats ι defs₀ 𝒱₀ noLevels lv p :=
    { win := hw.to₀
      block_pos := hb
      stage_whole := hstage
      K := PEmpty
      osem := fun k => k.elim
      ho := OwnSemFacts.none _
      hbody := hbody
      hwaits := hwaits_of_owed_zero pcs a pdats ι noLevels lv p howed
      pre := fun c => iprop(unscopedBufs c (V c) ∗ ∃ W, owes (c.tc : Thread nD τ) (0 : CellTallies nD τ sig Ix) W)
      post := fun c => iprop((pdats p c).arrays ((pdats p c).arrAt · (pin pcs a p).N) ∗ unscopedRest (pin pcs a p).spec c (V c)
            ∗ ∃ W, owes (c.tc : Thread nD τ) (0 : CellTallies nD τ sig Ix) W)
      X := fun _ => iprop(emp)
      Y := fun _ => iprop(emp)
      Z := fun c => unscopedRest (pin pcs a p).spec c (V c)
      hentry := fun c => by
        have hs := arrays_of_unscopedBufs pcs a pdats hw harr c (hshare c) (V c) (hA c)
        rw [hpf]
        iintro ⟨⟨HV, %W, HO⟩, -, -⟩
        ihave HV := hs $$ HV
        icases HV with ⟨Ha, Hr⟩
        imodintro
        isplitl [Ha]; · iexact Ha
        isplitr; · iempintro
        isplitl [HO]
        · unfold Dat.owesAt owesWithin
          rw [howed c 0]
          iexists W
          isplitr; · ipureintro; exact fun _ _ => Or.inl (by rw [hrec]; trivial)
          iexact HO
        isplitr; · iempintro
        iexact Hr
      hin := fun c => by
        rw [hpf, hrest, hΦ]
        iintro -
        iempintro
      hout := fun c => by
        rw [ownSems0_none, hrest, hΦ]
        iintro -
        isplitr; · iempintro
        isplitr <;> iempintro
      hexit := fun c => by
        iintro ⟨Ha, HO, -, Hr⟩
        imodintro
        isplitl [Ha]; · iexact Ha
        isplitl [Hr]; · iexact Hr
        unfold Dat.owesAt owesWithin
        rw [howed c _]
        icases HO with ⟨%W, -, HO⟩
        iexists W
        iexact HO }
  have h := RegionSeg.wp pcs a pdats ι phinj EP defs₀ 𝒱₀ noLevels lv R c none (fun u h => nomatch h) k Q
  rw [levAts_none] at h
  iintro ⟨Hk, Hb, HV, HO, Hg, Ht⟩
  iapply h
  isplitl [Hk]; · iexact Hk
  isplitl [Hb]; · iexact Hb
  isplitl [HV HO]; · isplitl [HV] <;> iassumption
  isplitr; · iempintro
  isplitl [Hg] <;> iassumption

end Cert.SecondCall

end
-- ==== Proof.SumRegion.lean ====
/- The second call of the second exchange: the four parts that a device gathered, summed row by row over a grid. -/
module

public import proofs.«01_k».proof.Proof.Exchange
public import proofs.«01_k».proof.Proof.Plane
public import proofs.«01_k».proof.Proof.Gen.ScatterIdeal.Launch
public import proofs.«01_k».proof.Proof.Gen.ScatterIdeal.Skeleton
public import proofs.«01_k».proof.Proof.Gen.ScatterIdeal.Points
public import Idealize.ShloMosaic.Lib.Pipeline.FrameBody
public import Idealize.ShloMosaic.Lib.Pipeline.Value
public import Idealize.ShloMosaic.Lib.Pipeline.ValueKit.Tiles
public import Idealize.ShloMosaic.Lib.Pipeline.ValueKit.Geometry
public import Idealize.ShloMosaic.Lib.ValueLayout
public import Idealize.ShloMosaic.Lib.Tactic

@[expose] public section

set_option maxRecDepth 16384
set_option Elab.async false

noncomputable section

namespace Cert.SumRegion

open Cert.ScatterIdeal Cert.ScatterIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.Sem Idealize.SL.ProofMode
open Idealize.ShloMosaic.Rounds Idealize.ShloMosaic.ValueIdx
open Idealize.ShloMosaic.Pipeline (Dat Cfg Window cellOf BodyObligation)

variable {F : FTy → Type} [FloatOps F]

abbrev UU : Type := Exchange.UU nD τ sig

local notation "𝕄" => MT nD τ sig Unit (Elt F) ℕ UU ℕ

-- `V`: the contents that the call starts from, device by device.
variable (V : (c : Dev nD) → (b : Ref sig .tc) → Buf (Elt F) ((c : Thread nD τ).loc b))

/-! ## The body -/

/-- The block of a window at a point, as the call starts. -/
def part (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem layer_inb (p : Fin 4) : ∀ a, (![p.val, 0, 0] : Fin 3 → ℕ) a + S1x16x1024.size a ≤ S4x16x1024.size a := by revert p; decide
/-- One of the four layers of a block. -/
abbrev layer (p : Fin 4) : Rect S4x16x1024 := Rect.unit (s := S4x16x1024) ![p.val, 0, 0] S1x16x1024.size (layer_inb p)
abbrev sheet : Rect S16x1024 := Rect.unit (s := S16x1024) ![0, 0] S16x1024.size inb_S16x1024_S16x1024_0_0

/-- What the body leaves in the result's staging buffer. -/
def left (x : Vec F S4x16x1024 .f32) : Vec F S16x1024 .f32 :=
  View.canon [⟨sheet, k1_pay1 (View.ld x (layer 0)) (View.ld x (layer 1)) (View.ld x (layer 2)) (View.ld x (layer 3))⟩]

set_option maxHeartbeats 1000000 in
theorem sound_kernel (c : Dev nD) (i : grid1.Coords) (a₁ : Memref sig .tc .vmem S4x16x1024 .f32) (h₁ : a₁.IsWhole)
    (a₂ : Memref sig .tc .vmem S16x1024 .f32) (h₂ : a₂.IsWhole) (x : Vec F S4x16x1024 .f32) (K : PUnit → sProp 𝕄) :
    iprop(owns (c : Thread nD τ) a₁ fullShare x ∗ (∃ d, owns (c : Thread nD τ) a₂ fullShare d)
        ∗ (iprop(owns (c : Thread nD τ) a₁ fullShare x ∗ owns (c : Thread nD τ) a₂ fullShare (left x)) -∗ K ⟨⟩))
      ⊢ wp frame (wpE (defs₀ (F := F)) Variants.none c none) Set.univ (cc1_sum4 i a₁ h₁ a₂ h₂) K := by
  simp only [cc1_sum4_eq_skeleton]; unfold cc1_sum4_skel
  unfold owns
  iintro ⟨⟨%f₁, %hf, H₁⟩, ⟨%d, %f₂, -, H₂⟩, Hk⟩
  subst hf
  sl_exec
  sl_step
  iapply Hk
  isplitl [H₁]
  · iexists f₁; isplitr; · ipureintro; rfl
    iexact H₁
  iexists _; isplitr
  swap; · iexact H₂
  ipureintro
  exact View.read_writes_eq_canon _ _ _ fun y => View.cover_of_tiled [⟨sheet, _⟩] S16x1024.size (by rfl) y

/-- The call's data: its arrays as it starts, each input's buffer at its block, the result's at what the body leaves. -/
def dat (c : Dev nD) : Dat τ (Elt F) Unit ℕ UU ℕ cfg1 c where
  A w := V c (Pipeline.arrRef spec1 w)
  after w t := match w with
    | ⟨0, _⟩ => part V c 0 t
    | ⟨1, _⟩ => left (part V c 0 t)
  Φ _ := iprop(emp)
  q _ := fullShare
  owed _ := 0

theorem after_in (c : Dev nD) (t : Fin cfg1.N) : (dat V c).after 0 t = part V c 0 t := by dsimp only [dat]
theorem after_out (c : Dev nD) (t : Fin cfg1.N) : (dat V c).after 1 t = left (part V c 0 t) := by dsimp only [dat]

theorem before_in (c : Dev nD) (t : Fin cfg1.N) (d) : (dat V c).before 0 t d = part V c 0 t :=
  ((dat V c).before_in_eq_fetched 0 rfl (fun _ => rfl) (fun _ _ _ => rfl) (fun t => by rw [after_in]; rfl) t d).trans rfl

theorem sound_body (c : Dev nD) (t : Fin cfg1.N) :
    iprop((dat V c).Φ t.castSucc ∗ (dat V c).owesAt () t.castSucc
        ∗ (∃ d, owns (c : Thread nD τ) (st1_0 t) fullShare ((dat V c).before 0 t d))
        ∗ (∃ d, owns (c : Thread nD τ) (st1_1 t) fullShare ((dat V c).before 1 t d)))
      ⊢ wp frame (wpE (defs₀ (F := F)) Variants.none c none) Set.univ (bodyAt1 t) (fun _ =>
        iprop((dat V c).Φ t.succ ∗ (dat V c).owesAt () t.succ
          ∗ owns (c : Thread nD τ) (st1_0 t) fullShare ((dat V c).after 0 t)
          ∗ owns (c : Thread nD τ) (st1_1 t) fullShare ((dat V c).after 1 t))) := by
  unfold bodyAt1
  simp only [before_in]
  rw [show (dat V c).Φ t.succ = (dat V c).Φ t.castSucc from rfl,
    show (dat V c).owesAt () t.succ = (dat V c).owesAt () t.castSucc from rfl, after_in, after_out]
  iintro ⟨HΦ, HO, ⟨%d₁, H₁⟩, %d₂, H₂⟩
  iapply (sound_kernel c (grid1.coords t) _ _ _ _ (part V c 0 t) _)
  isplitl [H₁]; · iexact H₁
  isplitl [H₂]; · iexists _; iexact H₂
  iintro ⟨H₁, H₂⟩
  isplitl [HΦ]; · iexact HΦ
  isplitl [HO]; · iexact HO
  isplitl [H₁]; · iexact H₁
  iexact H₂

theorem row_of_body (t : Fin cfg1.N) : defs₀ (F := F) .tc cfg1.body (cfg1.bodyArgs t (cfg1.slots t)) = bodyAt1 t := by
  unfold defs₀; rw [Defs.onTc_tc]

theorem body_obligation (c : Dev nD) : BodyObligation (dat V c) (defs₀ (F := F)) Variants.none () Set.univ := fun t => by
  rw [bigSep_W1, bigSep_W1, row_of_body]
  exact triple_restated (sound_body V c t) rfl .rfl fun _ => .rfl

/-! ## The result -/

/-- The sum of the four parts. -/
def total (g : S4x7536x1024.Idx → F .f32) : S7536x1024.Idx → F .f32 := fun i =>
  let part (p : Fin 4) : F .f32 := g (ix3 p (i 0) (i 1))
  FloatOps.addf (FloatOps.addf (FloatOps.addf (part 0) (part 1)) (part 2)) (part 3)

theorem index_in : ∀ t : Fin cfg1.N, win1_0.index t = ![0, t.val, 0] := (by decide +kernel : ∀ t : Fin grid1.N, _)
theorem index_out : ∀ t : Fin cfg1.N, win1_1.index t = ![t.val, 0] := (by decide +kernel : ∀ t : Fin grid1.N, _)

/-- One of the four layers of a block, read at a row and a column. -/
theorem layer_apply (x : Vec F S4x16x1024 .f32) (p : Fin 4) (r : Fin 16) (l : Fin 1024) (h) :
    shapeCast (s := S1x16x1024) S16x1024 (View.ld x (layer p)) h (ix2 r l) = x (ix3 p r l) := by
  refine (shapeCast_1ab_ab_apply _ h r l).trans (View.ld_unit_apply_of x _ _ _ _ _ fun a => ?_)
  match a with
  | ⟨0, _⟩ => rfl
  | ⟨1, _⟩ => exact (Nat.zero_add _).symm
  | ⟨2, _⟩ => exact (Nat.zero_add _).symm

theorem left_apply (x : Vec F S4x16x1024 .f32) (r : Fin 16) (l : Fin 1024) :
    left x (ix2 r l) = (FloatOps.addf (FloatOps.addf (FloatOps.addf (x (ix3 (0 : Fin 4) r l) : F .f32) (x (ix3 (1 : Fin 4) r l))) (x (ix3 (2 : Fin 4) r l))) (x (ix3 (3 : Fin 4) r l)) : F .f32) := by
  unfold left k1_pay1
  rw [View.canon_unit_zero (by decide)]
  show (FloatOps.addf (FloatOps.addf (FloatOps.addf (shapeCast _ _ _ _) (shapeCast _ _ _ _)) (shapeCast _ _ _ _)) (shapeCast _ _ _ _) : F .f32) = _
  rw [layer_apply, layer_apply, layer_apply, layer_apply]

/-- The row of the whole that is row `r` of the block at point `t`. -/
def row (t : Fin cfg1.N) (r : Fin 16) : Fin 7536 := ⟨t.val * 16 + r.val, by
  have h : t.val < 471 := N_1 ▸ t.isLt
  have := r.isLt
  omega⟩

theorem part_apply (c : Dev nD) (t : Fin cfg1.N) (p : Fin 4) (r : Fin 16) (l : Fin 1024) :
    part V c 0 t (ix3 p r l) = V c main_v1 (ix3 p (row t r) l) := by
  show V c main_v1 ((win1_0.blk t).view.emb (ix3 p r l : S4x16x1024.Idx)) = _
  refine congrArg (V c main_v1) (funext fun a => Fin.ext ?_)
  match a with
  | ⟨0, _⟩ => blk_simp [index_in]
  | ⟨1, _⟩ => blk_simp [index_in]; rfl
  | ⟨2, _⟩ => blk_simp [index_in]

theorem emb_out (t : Fin cfg1.N) (r : Fin 16) (l : Fin 1024) :
    (win1_1.blk t).view.emb (ix2 r l : S16x1024.Idx) = (ix2 (row t r) l : S7536x1024.Idx) := by
  refine funext fun a => Fin.ext ?_
  match a with
  | ⟨0, _⟩ => blk_simp [index_out]; rfl
  | ⟨1, _⟩ => blk_simp [index_out]

theorem result (c : Dev nD) : (dat V c).arrAt 1 cfg1.N = total (V c main_v1) := by
  refine (dat V c).arrAt_eq_of_covers 1 _ (by decide +kernel) fun t hf y => ?_
  blk_simp
  rw [after_out]
  have h : ∀ (r : Fin 16) (l : Fin 1024), left (part V c 0 t) (ix2 r l) = total (V c main_v1) ((win1_1.blk t).view.emb (ix2 r l : S16x1024.Idx)) := fun r l => by
    rw [left_apply, emb_out, part_apply, part_apply, part_apply, part_apply]
    rfl
  have hz : ∀ z : S16x1024.Idx, left (part V c 0 t) z = total (V c main_v1) ((win1_1.blk t).view.emb z) := fun z => by
    rw [eq_ix2 z]; exact h (z 0) (z 1)
  exact hz y

end Cert.SumRegion
-- ==== Proof.ScatterRun.lean ====
/- The run of the second exchange: every device writes the quarters of its block that belong to the other devices of its
   plane into its own place of their buffers, and then sums the four quarters that it holds. -/
module

public import proofs.«01_k».proof.Proof.FirstTalk
public import proofs.«01_k».proof.Proof.SecondCall
public import proofs.«01_k».proof.Proof.SumRegion
public import proofs.«01_k».proof.Proof.Exchange
public import proofs.«01_k».proof.Proof.Plane
public import proofs.«01_k».proof.Proof.Gen.ScatterIdeal.Launch
public import proofs.«01_k».proof.Proof.Gen.ScatterIdeal.Skeleton
public import proofs.«01_k».proof.Proof.Gen.ScatterIdeal.Points
public import Idealize.ShloMosaic.Lib.Tactic

@[expose] public section

set_option maxRecDepth 16384
set_option Elab.async false

noncomputable section

namespace Cert.ScatterRun

open Cert.ScatterIdeal Cert.ScatterIdeal.Gen
open Idealize.ShloMosaic Idealize.ShloMosaic.TcCoe
open Idealize.SL Idealize.SL.RA Idealize.SL.BI
open scoped Idealize.SL.BI
open Idealize.SL.BI.BIBase Idealize.SL.BI.Laws Idealize.SL.Sem Idealize.SL.ProofMode
open Idealize.ShloMosaic.Rounds Idealize.ShloMosaic.ValueIdx
open Idealize.ShloMosaic.Pipeline (Dat Cfg Window cellOf BodyObligation)
open Cert.Plane (pos at' over peer quarter slab)

variable {F : FTy → Type} [FloatOps F]

abbrev UU : Type := Exchange.UU nD τ sig

local notation "𝕄" => MT nD τ sig Unit (Elt F) ℕ UU ℕ

abbrev EP : Emb (UR sig nD τ) (MT nD τ sig Unit (Elt F) ℕ UU ℕ) := embL
abbrev ER : Emb (URounds (GSem nD τ sig) Unit) (MT nD τ sig Unit (Elt F) ℕ UU ℕ) := embR

variable (m : (ℓ : Loc nD τ sig) → Buf (Elt F) ℓ)

abbrev gM : Memref sig .tc .hbm S4x7536x1024 .f32 := Memref.whole main_arg0
abbrev oM : Memref sig .tc .hbm S4x7536x1024 .f32 := Memref.whole main_v1

/-! ## Semaphores -/

/-- Three of the sending side, three of the landings, one of the copy of the device's own quarter. -/
abbrev sem : Fin 7 → DmaSem sig := fun k => ⟨k.val, by have := k.isLt; show k.val < 11; omega⟩
theorem sem_inj : Function.Injective sem := by decide

def far : Fin 7 → Dev nD → Dev nD := fun k => match k with
  | 3 => peer 0 | 4 => peer 1 | 5 => peer 2 | _ => id
theorem far_far (k : Fin 7) (c : Dev nD) : far k (far k c) = c := by revert k c; decide

abbrev land : Finset (Fin 7) := {3, 4, 5}

abbrev N : ℕ := (quarter oM 0).view.dmaCredit
theorem N_pos : 0 < N := View.dmaCredit_pos _ (by decide)

/-! ## Contents -/

/-- The block of device `c`, as launched. -/
def blk (c : Dev nD) : S4x7536x1024.Idx → Elt F .f32 := m ((c : Thread nD τ).loc main_arg0)

/-- What a device has gathered: at each place, the quarter for this device of the block of the plane's device there. -/
def fin (c : Dev nD) : S4x7536x1024.Idx → Elt F .f32 := fun i => blk m (at' (i 0) c) (ix3 (pos c) (i 1) (i 2))

/-- What goes from `c` to the plane's device `n` is what `n` has in the end at the place of `c`. -/
theorem fin_read (n c : Dev nD) (hn : at' (pos c) n = c) (x : S7536x1024.Idx) :
    (quarter oM (pos c)).view.read (Elt F) (fin m n) x = (quarter gM (pos n)).view.read (Elt F) (m ((c : Thread nD τ).loc main_arg0)) x := by
  rw [eq_ix2 x]
  refine (Plane.read_quarter oM (pos c) (fin m n) (x 0) (x 1)).trans ((?_ : _ = _).trans (Plane.read_quarter gM (pos n) (m ((c : Thread nD τ).loc main_arg0)) (x 0) (x 1)).symm)
  show blk m (at' (pos c) n) (ix3 (pos n) (x 0) (x 1)) = blk m c (ix3 (pos n) (x 0) (x 1))
  rw [hn]

/-- The quarter of device `c`'s block for place `p`, as launched. -/
def gPts (p : Fin 4) (c : Dev nD) : sProp 𝕄 :=
  ((quarter gM p).view.loc (c : Thread nD τ) ↦[(quarter gM p).view.set]{fullShare} m ((c : Thread nD τ).loc main_arg0))

/-- The quarter of device `c`'s buffer at place `p`, at `f`. -/
def oPts (p : Fin 4) (c : Dev nD) (f : Buf (Elt F) ((c : Thread nD τ).loc main_v1)) : sProp 𝕄 :=
  ((quarter oM p).view.loc (c : Thread nD τ) ↦[(quarter oM p).view.set]{fullShare} f)

def pay (c : Dev nD) (k : Fin 7) : sProp 𝕄 := match k with
  | 0 => gPts m (over 0 (pos c)) c | 1 => gPts m (over 1 (pos c)) c | 2 => gPts m (over 2 (pos c)) c
  | 3 => oPts (over 0 (pos c)) c (fin m c)
  | 4 => oPts (over 1 (pos c)) c (fin m c)
  | 5 => oPts (over 2 (pos c)) c (fin m c)
  | 6 => iprop(oPts (pos c) c (fin m c) ∗ gPts m (pos c) c)

instance gPts_storable (p : Fin 4) (c : Dev nD) : BI.Storable (upEmb : UEmb _ (MT nD τ sig Unit (Elt F) ℕ UU ℕ)) (gPts m p c) := by
  unfold gPts; infer_instance
instance oPts_storable (p : Fin 4) (c : Dev nD) (f : Buf (Elt F) ((c : Thread nD τ).loc main_v1)) :
    BI.Storable (upEmb : UEmb _ (MT nD τ sig Unit (Elt F) ℕ UU ℕ)) (oPts p c f) := by
  unfold oPts; infer_instance
instance pay_storable (c : Dev nD) (k : Fin 7) : BI.Storable (upEmb : UEmb _ (MT nD τ sig Unit (Elt F) ℕ UU ℕ)) (pay m c k) :=
  match k with
  | 0 => gPts_storable m _ c | 1 => gPts_storable m _ c | 2 => gPts_storable m _ c
  | 3 => oPts_storable _ c _ | 4 => oPts_storable _ c _ | 5 => oPts_storable _ c _
  | 6 => (inferInstance : BI.Storable _ (iprop(oPts (pos c) c (fin m c) ∗ gPts m (pos c) c)))

/-! ## The body -/

section Body

variable (κ : Dev nD × Fin 7 → ℕ)

abbrev ctx : sProp 𝕄 := Exchange.ctx sem N N_pos (pay m) κ
abbrev due (c : Dev nD) : CellTallies nD τ sig Unit := Exchange.due sem N far land c
abbrev cell (c : Dev nD) (k : Fin 7) : GSem nD τ sig := Exchange.cell sem c k

theorem dev1 (c : Dev nD) : (⟨k0_dev1 c, k0_dev1_lt c⟩ : Dev nD) = peer 0 c := Fin.ext ((k0_dev1_eq c).trans (by revert c; decide))
theorem dev2 (c : Dev nD) : (⟨k0_dev2 c, k0_dev2_lt c⟩ : Dev nD) = peer 1 c := Fin.ext ((k0_dev2_eq c).trans (by revert c; decide))
theorem dev3 (c : Dev nD) : (⟨k0_dev3 c, k0_dev3_lt c⟩ : Dev nD) = peer 2 c := Fin.ext ((k0_dev3_eq c).trans (by revert c; decide))
theorem off1 (c : Dev nD) : k0_off1 c = Plane.off (pos c) := (k0_off1_eq c).trans (by revert c; decide)
theorem off2 (c : Dev nD) : k0_off2 c = Plane.off (over 0 (pos c)) := (k0_off2_eq c).trans (by revert c; decide)
theorem off3 (c : Dev nD) : k0_off3 c = Plane.off (over 1 (pos c)) := (k0_off3_eq c).trans (by revert c; decide)
theorem off4 (c : Dev nD) : k0_off4 c = Plane.off (over 2 (pos c)) := (k0_off4_eq c).trans (by revert c; decide)
theorem place (c : Dev nD) : slab oM (k0_off1 c) (k0_off1_inb c) = quarter oM (pos c) := Plane.slab_eq oM (off1 c)
theorem own (c : Dev nD) : slab gM (k0_off1 c) (k0_off1_inb c) = quarter gM (pos c) := Plane.slab_eq gM (off1 c)
theorem out0 (c : Dev nD) : slab gM (k0_off2 c) (k0_off2_inb c) = quarter gM (over 0 (pos c)) := Plane.slab_eq gM (off2 c)
theorem out1 (c : Dev nD) : slab gM (k0_off3 c) (k0_off3_inb c) = quarter gM (over 1 (pos c)) := Plane.slab_eq gM (off3 c)
theorem out2 (c : Dev nD) : slab gM (k0_off4 c) (k0_off4_inb c) = quarter gM (over 2 (pos c)) := Plane.slab_eq gM (off4 c)

theorem due_eq (c : Dev nD) : due c
    = ((0 + tallyAt (cell (peer 2 c) 5) () N) + tallyAt (cell (peer 1 c) 4) () N) + tallyAt (cell (peer 0 c) 3) () N := by
  unfold due Exchange.due land
  rw [Finset.sum_insert (by decide), Finset.sum_insert (by decide), Finset.sum_singleton, zero_add, add_comm, add_comm (tallyAt _ _ _) (tallyAt (Exchange.cell sem (far 5 c) 5) () N)]
  rfl

theorem over_pos_peer (j : Fin 3) (c : Dev nD) : over j (pos (peer j c)) = pos c := by rw [Plane.pos_peer, Plane.over_over]

theorem pay_land (j : Fin 3) (k : Fin 7) (hk : k.val = 3 + j.val) (c : Dev nD) : pay m (peer j c) k = oPts (pos c) (peer j c) (fin m (peer j c)) := by
  rw [← over_pos_peer j c]
  match j, k, hk with
  | 0, 3, _ => rfl
  | 1, 4, _ => rfl
  | 2, 5, _ => rfl

theorem credit (p : Fin 4) : (quarter oM p).view.dmaCredit = N := rfl
theorem credit_own (p : Fin 4) : (quarter gM p).view.dmaCredit = N := rfl

theorem pay_send (j : Fin 3) (k : Fin 7) (hk : k.val = j.val) (c : Dev nD) : pay m c k = gPts m (over j (pos c)) c :=
  match j, k, hk with
  | 0, 0, _ => rfl
  | 1, 1, _ => rfl
  | 2, 2, _ => rfl

/-- What lands is the finished contents of the place. -/
theorem lands (n c : Dev nD) (hn : at' (pos c) n = c) (p : Fin 4) (hp : pos n = p) (f : Buf (Elt F) ((n : Thread nD τ).loc main_v1)) :
    ((quarter oM (pos c)).view.loc (n : Thread nD τ) ↦[(quarter oM (pos c)).view.set]{fullShare}
        ((quarter oM (pos c)).view.write (Elt F) f ((quarter gM p).view.read (Elt F) (m ((c : Thread nD τ).loc main_arg0))) Finset.univ) : sProp 𝕄)
      = oPts (pos c) n (fin m n) := by
  subst hp
  unfold oPts
  exact Plane.landed (n : Thread nD τ) (quarter oM (pos c)) fullShare f (fin m n)
    ((quarter gM (pos n)).view.read (Elt F) (m ((c : Thread nD τ).loc main_arg0))) (fin_read m n c hn)

theorem at_pos_peer (j : Fin 3) (c : Dev nD) : at' (pos c) (peer j c) = c := (Plane.at_peer j (pos c) c).trans (Plane.at_pos c)

/-- One transfer: the quarter for a peer to the device's own place in the peer's buffer. -/
theorem wp_put (j : Fin 3) (c n : Dev nD) (hn : n = peer j c) (kS kR : Fin 7) (hS : kS.val = j.val) (hR : kR.val = 3 + j.val)
    {src dst : Memref sig .tc .hbm S7536x1024 .f32} (hs : src = quarter gM (over j (pos c))) (hd : dst = quarter oM (pos c))
    {hsc : dst.view.ref.isScScratch = false}
    {sS sR : DmaSem sig} (hsS : sS = sem kS) (hsR : sR = sem kR)
    {hsrc : src.view.WordExact} {hdst : dst.view.WordExact}
    {hty : DmaTarget.Typed .hbm (.dma sR) (.remote (n : Thread nD τ) dst (.dma sS) hsc)}
    (f : Buf (Elt F) ((peer j c : Thread nD τ).loc main_v1)) {O₀ : CellTallies nD τ sig Unit} (O : CellTallies nD τ sig Unit)
    (hO : O₀ = O + tallyAt (cell (peer j c) kR) () N) (W : Waits sig Unit)
    {α : Type} {Q : α → sProp 𝕄} {k : PUnit → Prog (TpuEff nD τ sig (Elt F) Λ₀ .tc) α} :
    iprop(ctx m κ ∗ gPts m (over j (pos c)) c ∗ oPts (pos c) (peer j c) f
        ∗ owes (c : Thread nD τ) O₀ W ∗ dutyTok ER (cell c kS) 0 () ∗ dutyTok ER (cell (peer j c) kR) 0 ())
      ⊢ iprop(((cred (tallyAt (cell c kS) () N) ∗ owes (c : Thread nD τ) O W)
            -∗ wp frame (wpE defs₀ Variants.none (c : Thread nD τ) none) Set.univ (k ⟨⟩) Q)
          -∗ wp frame (wpE defs₀ Variants.none (c : Thread nD τ) none) Set.univ
              (.op (.enqueueDma src (.remote (n : Thread nD τ) dst (.dma sS) hsc) (.dma sR) hsrc hdst hty) k) Q) := by
  subst hn hs hd hsS hsR
  have h1 := pay_send m j kS hS c
  have h2 := (lands m (peer j c) c (at_pos_peer j c) (over j (pos c)) (Plane.pos_peer j c) f).trans (pay_land m j kR hR c).symm
  unfold gPts at h1
  unfold gPts oPts
  have h := Exchange.wp_put (Λ := Λ₀) (defs := defs₀) sem sem_inj N N_pos (pay m) Variants.none κ (src := quarter gM (over j (pos c))) (dst := quarter oM (pos c)) (hsc := hsc) (hsrc := hsrc) (hdst := hdst) c (peer j c) kS kR (q := fullShare)
    (hty := hty) (fs := m ((c : Thread nD τ).loc main_arg0)) (fd := f) (credit (pos c)) O hO W (Entails.of_eq h1.symm)
    (Entails.of_eq h2) (Q := Q) (k := k)
  exact h

/-- The copy of the device's own quarter to its own place. -/
theorem wp_own (c : Dev nD) {src dst : Memref sig .tc .hbm S7536x1024 .f32} (hg : src = quarter gM (pos c)) (hd : dst = quarter oM (pos c))
    {sL : DmaSem sig} (hs : sL = sem 6) {hsrc : src.view.WordExact} {hdst : dst.view.WordExact}
    {hty : DmaTarget.Typed (nD := nD) (p := (Proc.tc : Proc τ)) .hbm (.dma sL) (.here dst)}
    (f : Buf (Elt F) ((c : Thread nD τ).loc main_v1))
    {α : Type} {Q : α → sProp 𝕄} {k : PUnit → Prog (TpuEff nD τ sig (Elt F) Λ₀ .tc) α} :
    iprop(ctx m κ ∗ gPts m (pos c) c ∗ oPts (pos c) c f ∗ dutyTok ER (cell c 6) 0 ())
      ⊢ iprop((cred (tallyAt (cell c 6) () N) -∗ wp frame (wpE defs₀ Variants.none (c : Thread nD τ) none) Set.univ (k ⟨⟩) Q)
          -∗ wp frame (wpE defs₀ Variants.none (c : Thread nD τ) none) Set.univ
              (.op (.enqueueDma src (.here dst) (.dma sL) hsrc hdst hty) k) Q) := by
  subst hg hd hs
  have h2 := lands m c c (Plane.at_pos c) (pos c) rfl f
  unfold gPts
  have h := Exchange.wp_local (Λ := Λ₀) (defs := defs₀) sem sem_inj N N_pos (pay m) Variants.none κ (src := quarter gM (pos c)) (dst := quarter oM (pos c)) (hsrc := hsrc) (hdst := hdst) c 6 (q := fullShare)
    (hty := hty) (fs := m ((c : Thread nD τ).loc main_arg0)) (fd := f) (credit (pos c))
    (by
      rw [h2, show pay m c 6 = iprop(oPts (pos c) c (fin m c) ∗ gPts m (pos c) c) from rfl]
      unfold gPts
      exact BI.Entails.refl _) (Q := Q) (k := k)
  unfold oPts
  exact h

/-- A wait. -/
theorem wp_take (c : Dev nD) (k₀ : Fin 7) {s : DmaSem sig} (hs : s = sem k₀) {src dst : Memref sig .tc .hbm S7536x1024 .f32} (hA : dst.view.dmaCredit = N)
    {hsrc : src.view.WordExact} {hdst : dst.view.WordExact} (W : Waits sig Unit)
    {α : Type} {Q : α → sProp 𝕄} {k : PUnit → Prog (TpuEff nD τ sig (Elt F) Λ₀ .tc) α} :
    iprop(ctx m κ ∗ cred (tallyAt (cell c k₀) () N) ∗ owes (c : Thread nD τ) (0 : CellTallies nD τ sig Unit) W
        ∗ atPos ER (cell c k₀) 0 ∅ 0)
      ⊢ iprop(((owes (c : Thread nD τ) (0 : CellTallies nD τ sig Unit) (insert (.dma (sem k₀), ()) W) ∗ semVal (cell c k₀) 0 ∗ pay m c k₀)
            -∗ wp frame (wpE defs₀ Variants.none (c : Thread nD τ) none) Set.univ (k ⟨⟩) Q)
          -∗ wp frame (wpE defs₀ Variants.none (c : Thread nD τ) none) Set.univ (.op (.waitDma2 s src dst hsrc hdst) k) Q) := by
  subst hs
  exact Exchange.wp_take (Λ := Λ₀) (defs := defs₀) sem sem_inj N N_pos (pay m) Variants.none κ c k₀ (src := src) (dst := dst) (hsrc := hsrc) (hdst := hdst) hA W (Q := Q) (k := k)

/-- What the body starts from, besides the semaphores' invariants. -/
def bodyPre (c : Dev nD) : sProp 𝕄 :=
  iprop((bigSep Finset.univ fun k : Fin 7 => iprop(atPos ER (cell c k) 0 ∅ 0 ∗ dutyTok ER (cell (far k c) k) 0 ()))
    ∗ (bigSep land fun k => cred (tallyAt (cell c k) () N))
    ∗ (((c : Thread nD τ).loc main_arg0) ↦{fullShare} m ((c : Thread nD τ).loc main_arg0))
    ∗ oPts (pos c) c (m ((c : Thread nD τ).loc main_v1))
    ∗ oPts (pos c) (peer 0 c) (m ((peer 0 c : Thread nD τ).loc main_v1))
    ∗ oPts (pos c) (peer 1 c) (m ((peer 1 c : Thread nD τ).loc main_v1))
    ∗ oPts (pos c) (peer 2 c) (m ((peer 2 c : Thread nD τ).loc main_v1)))

/-- What it ends with. -/
def bodyPost (c : Dev nD) : sProp 𝕄 :=
  iprop((((c : Thread nD τ).loc main_arg0) ↦{fullShare} m ((c : Thread nD τ).loc main_arg0))
    ∗ (((c : Thread nD τ).loc main_v1) ↦{fullShare} (fin m c : Buf (Elt F) ((c : Thread nD τ).loc main_v1)))
    ∗ bigSep Finset.univ fun k : Fin 7 => semVal (cell c k) 0)

theorem bigSep_keys (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

theorem bigSep_land (Φ : Fin 7 → sProp 𝕄) : bigSep land Φ = iprop(Φ 3 ∗ Φ 4 ∗ Φ 5) := by
  unfold land
  rw [bigSep_insert (by decide), bigSep_insert (by decide), bigSep_singleton]
  rfl

theorem g_quarters (c : Dev nD) : (((c : Thread nD τ).loc main_arg0) ↦{fullShare} m ((c : Thread nD τ).loc main_arg0) : sProp 𝕄)
    = iprop(gPts m (pos c) c ∗ gPts m (over 0 (pos c)) c ∗ gPts m (over 1 (pos c)) c ∗ gPts m (over 2 (pos c)) c) := by
  have h := Plane.quarters (Ix := Unit) (Name := ℕ) (U := UU) (Lvl := ℕ) (c : Thread nD τ) gM fullShare (m ((c : Thread nD τ).loc main_arg0)) (pos c)
  rw [show gM.view.set = Finset.univ from View.set_whole main_arg0] at h
  unfold gPts
  exact h

theorem o_quarters (c : Dev nD) (f : Buf (Elt F) ((c : Thread nD τ).loc main_v1)) : (((c : Thread nD τ).loc main_v1) ↦{fullShare} f : sProp 𝕄)
    = iprop(oPts (pos c) c f ∗ oPts (over 0 (pos c)) c f ∗ oPts (over 1 (pos c)) c f ∗ oPts (over 2 (pos c)) c f) := by
  have h := Plane.quarters (Ix := Unit) (Name := ℕ) (U := UU) (Lvl := ℕ) (c : Thread nD τ) oM fullShare f (pos c)
  rw [show oM.view.set = Finset.univ from View.set_whole main_v1] at h
  unfold oPts
  exact h

theorem credit_place (c : Dev nD) : (slab oM (k0_off1 c) (k0_off1_inb c)).view.dmaCredit = N := by
  rw [place]
theorem credit_out0 (c : Dev nD) : (slab gM (k0_off2 c) (k0_off2_inb c)).view.dmaCredit = N := by rw [out0]
theorem credit_out1 (c : Dev nD) : (slab gM (k0_off3 c) (k0_off3_inb c)).view.dmaCredit = N := by rw [out1]
theorem credit_out2 (c : Dev nD) : (slab gM (k0_off4 c) (k0_off4_inb c)).view.dmaCredit = N := by rw [out2]

theorem start_keys (c : Dev nD) :
    (bigSep Finset.univ fun k : Fin 7 => (iprop(atPos ER (cell c k) 0 ∅ 0 ∗ dutyTok ER (cell (far k c) k) 0 ()) : sProp 𝕄))
      = iprop((atPos ER (cell c 0) 0 ∅ 0 ∗ dutyTok ER (cell c 0) 0 ()) ∗ (atPos ER (cell c 1) 0 ∅ 0 ∗ dutyTok ER (cell c 1) 0 ())
        ∗ (atPos ER (cell c 2) 0 ∅ 0 ∗ dutyTok ER (cell c 2) 0 ()) ∗ (atPos ER (cell c 3) 0 ∅ 0 ∗ dutyTok ER (cell (peer 0 c) 3) 0 ())
        ∗ (atPos ER (cell c 4) 0 ∅ 0 ∗ dutyTok ER (cell (peer 1 c) 4) 0 ()) ∗ (atPos ER (cell c 5) 0 ∅ 0 ∗ dutyTok ER (cell (peer 2 c) 5) 0 ())
        ∗ (atPos ER (cell c 6) 0 ∅ 0 ∗ dutyTok ER (cell c 6) 0 ())) := bigSep_keys _

set_option maxHeartbeats 4000000 in
/-- The body at device `c`. -/
theorem sound_body (c : Dev nD) (W : Waits sig Unit) (K : PUnit → sProp 𝕄) :
    iprop(ctx m κ ∗ bodyPre m c ∗ owes (c : Thread nD τ) (due c) W
        ∗ ((bodyPost m c ∗ ∃ W', owes (c : Thread nD τ) (0 : CellTallies nD τ sig Unit) W') -∗ K ⟨⟩))
      ⊢ wp frame (wpE defs₀ Variants.none (c : Thread nD τ) none) Set.univ
          (cc0_scatter_plane (Memref.whole main_arg0) (Memref.isWhole_whole _) (Memref.whole main_v1) (Memref.isWhole_whole _)
            cc0_scratch0 cc0_scratch1 cc0_scratch2) K := by
  simp only [cc0_scatter_plane_eq_skeleton]; unfold cc0_scatter_plane_skel
  simp only [k0_part1_eq_skeleton, k0_part2_eq_skeleton, k0_part3_eq_skeleton, k0_part4_eq_skeleton]; unfold k0_part1_skel k0_part2_skel k0_part3_skel k0_part4_skel
  simp only [Prog.lift, Prog.bind_op, Prog.bind_ret, Prog.pure_eq_ret, Prog.bind_assoc, wp_deviceId]
  unfold bodyPre
  rw [start_keys, bigSep_land, due_eq]
  iintro ⟨#Hctx, ⟨⟨⟨Ha0, Hd0⟩, ⟨Ha1, Hd1⟩, ⟨Ha2, Hd2⟩, ⟨Ha3, Hd3⟩, ⟨Ha4, Hd4⟩, ⟨Ha5, Hd5⟩, ⟨Ha6, Hd6⟩⟩, ⟨Hc3, Hc4, Hc5⟩, Hx, Hown, HP0, HP1, HP2⟩, HO, Hk⟩
  ihave HX := (Entails.of_eq (g_quarters m c)) $$ Hx
  icases HX with ⟨HX3, HX0, HX1, HX2⟩
  iapply (wp_own m κ c (own c) (place c) (by rfl) (m ((c : Thread nD τ).loc main_v1))) $$ [HX3 Hown Hd6]
  · isplitr; · iexact Hctx
    isplitl [HX3]; · iexact HX3
    isplitl [Hown] <;> iassumption
  iintro Hc6
  iapply (wp_put m κ 0 c _ (dev1 c) 0 3 rfl rfl (out0 c) (place c) (by rfl) (by rfl) (m ((peer 0 c : Thread nD τ).loc main_v1)) _ rfl _) $$ [HX0 HP0 HO Hd0 Hd3]
  · isplitr; · iexact Hctx
    isplitl [HX0]; · iexact HX0
    isplitl [HP0]; · iexact HP0
    isplitl [HO]; · iexact HO
    isplitl [Hd0] <;> iassumption
  iintro ⟨Hc0, HO⟩
  iapply (wp_put m κ 1 c _ (dev2 c) 1 4 rfl rfl (out1 c) (place c) (by rfl) (by rfl) (m ((peer 1 c : Thread nD τ).loc main_v1)) _ rfl _) $$ [HX1 HP1 HO Hd1 Hd4]
  · isplitr; · iexact Hctx
    isplitl [HX1]; · iexact HX1
    isplitl [HP1]; · iexact HP1
    isplitl [HO]; · iexact HO
    isplitl [Hd1] <;> iassumption
  iintro ⟨Hc1, HO⟩
  iapply (wp_put m κ 2 c _ (dev3 c) 2 5 rfl rfl (out2 c) (place c) (by rfl) (by rfl) (m ((peer 2 c : Thread nD τ).loc main_v1)) _ rfl _) $$ [HX2 HP2 HO Hd2 Hd5]
  · isplitr; · iexact Hctx
    isplitl [HX2]; · iexact HX2
    isplitl [HP2]; · iexact HP2
    isplitl [HO]; · iexact HO
    isplitl [Hd2] <;> iassumption
  iintro ⟨Hc2, HO⟩
  iapply (wp_take m κ c 0 (by rfl) (credit_out0 c) _) $$ [Hc0 HO Ha0]
  · isplitr; · iexact Hctx
    isplitl [Hc0]; · iexact Hc0
    isplitl [HO] <;> iassumption
  iintro ⟨HO, Hz0, Hy0⟩
  iapply (wp_take m κ c 3 (by rfl) (credit_place c) _) $$ [Hc3 HO Ha3]
  · isplitr; · iexact Hctx
    isplitl [Hc3]; · iexact Hc3
    isplitl [HO] <;> iassumption
  iintro ⟨HO, Hz3, Hy3⟩
  iapply (wp_take m κ c 1 (by rfl) (credit_out1 c) _) $$ [Hc1 HO Ha1]
  · isplitr; · iexact Hctx
    isplitl [Hc1]; · iexact Hc1
    isplitl [HO] <;> iassumption
  iintro ⟨HO, Hz1, Hy1⟩
  iapply (wp_take m κ c 4 (by rfl) (credit_place c) _) $$ [Hc4 HO Ha4]
  · isplitr; · iexact Hctx
    isplitl [Hc4]; · iexact Hc4
    isplitl [HO] <;> iassumption
  iintro ⟨HO, Hz4, Hy4⟩
  iapply (wp_take m κ c 2 (by rfl) (credit_out2 c) _) $$ [Hc2 HO Ha2]
  · isplitr; · iexact Hctx
    isplitl [Hc2]; · iexact Hc2
    isplitl [HO] <;> iassumption
  iintro ⟨HO, Hz2, Hy2⟩
  iapply (wp_take m κ c 5 (by rfl) (credit_place c) _) $$ [Hc5 HO Ha5]
  · isplitr; · iexact Hctx
    isplitl [Hc5]; · iexact Hc5
    isplitl [HO] <;> iassumption
  iintro ⟨HO, Hz5, Hy5⟩
  iapply (wp_take m κ c 6 (by rfl) (credit_place c) _) $$ [Hc6 HO Ha6]
  · isplitr; · iexact Hctx
    isplitl [Hc6]; · iexact Hc6
    isplitl [HO] <;> iassumption
  iintro ⟨HO, Hz6, Hy6⟩
  ihave Hy0 := (Entails.of_eq (show pay m c 0 = gPts m (over 0 (pos c)) c from rfl)) $$ Hy0
  ihave Hy1 := (Entails.of_eq (show pay m c 1 = gPts m (over 1 (pos c)) c from rfl)) $$ Hy1
  ihave Hy2 := (Entails.of_eq (show pay m c 2 = gPts m (over 2 (pos c)) c from rfl)) $$ Hy2
  ihave Hy3 := (Entails.of_eq (show pay m c 3 = oPts (over 0 (pos c)) c (fin m c) from rfl)) $$ Hy3
  ihave Hy4 := (Entails.of_eq (show pay m c 4 = oPts (over 1 (pos c)) c (fin m c) from rfl)) $$ Hy4
  ihave Hy5 := (Entails.of_eq (show pay m c 5 = oPts (over 2 (pos c)) c (fin m c) from rfl)) $$ Hy5
  ihave Hy6' := (Entails.of_eq (show pay m c 6 = iprop(oPts (pos c) c (fin m c) ∗ gPts m (pos c) c) from rfl)) $$ Hy6
  icases Hy6' with ⟨Hq, Hx3⟩
  ihave Hx := (Entails.of_eq (g_quarters m c).symm) $$ [Hy0 Hy1 Hy2 Hx3]
  · isplitl [Hx3]; · iexact Hx3
    isplitl [Hy0]; · iexact Hy0
    isplitl [Hy1]; · iexact Hy1
    iexact Hy2
  ihave Ho := (Entails.of_eq (o_quarters c (fin m c)).symm) $$ [Hq Hy3 Hy4 Hy5]
  · isplitl [Hq]; · iexact Hq
    isplitl [Hy3]; · iexact Hy3
    isplitl [Hy4]; · iexact Hy4
    iexact Hy5
  rw [wp_ret]; imodintro
  iapply Hk
  unfold bodyPost
  rw [bigSep_keys]
  isplitr [HO]
  · isplitl [Hx]; · iexact Hx
    isplitl [Ho]; · iexact Ho
    isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    iexact Hz6
  iexists _
  iexact HO

end Body

/-! ## The call and its launch -/

/-- What the call starts from. -/
def Φ₀ (c : Dev nD) : sProp 𝕄 :=
  iprop((∃ κ, Exchange.start sem N N_pos (pay m) far κ c)
    ∗ (bigSep land fun k => cred (tallyAt (cell c k) () N))
    ∗ (((c : Thread nD τ).loc main_arg0) ↦{fullShare} m ((c : Thread nD τ).loc main_arg0))
    ∗ oPts (pos c) c (m ((c : Thread nD τ).loc main_v1))
    ∗ bigSep Finset.univ fun j : Fin 3 => oPts (pos c) (peer j c) (m ((peer j c : Thread nD τ).loc main_v1)))

/-- The buffers that the body doesn't touch and that are only the program's while its calls run. -/
abbrev others (c : Dev nD) : sProp 𝕄 := Pipeline.scopedRest (Ix := Unit) (Name := ℕ) (U := UU) (Lvl := ℕ) (Val := Elt F) cfg0.spec c

/-- The first call's data: no windows; the invariant before and after its one point. -/
def talk (c : Dev nD) : Dat τ (Elt F) Unit ℕ UU ℕ cfg0 c where
  A w := w.elim0
  after w _ := w.elim0
  Φ t := match t with
    | ⟨0, _⟩ => iprop(Φ₀ m c ∗ others c)
    | ⟨_ + 1, _⟩ => iprop(bodyPost m c ∗ others c)
  q _ := fullShare
  owed t := match t with
    | ⟨0, _⟩ => due c
    | ⟨_ + 1, _⟩ => 0

/-- The buffers when the second call starts. -/
def V₁ (c : Dev nD) (b : Ref sig .tc) : Buf (Elt F) ((c : Thread nD τ).loc b) :=
  if h : b = main_v1 then h ▸ (fin m c : Buf (Elt F) ((c : Thread nD τ).loc main_v1)) else m ((c : Thread nD τ).loc b)

theorem V₁_v1 (c : Dev nD) : V₁ m c main_v1 = fin m c := dif_pos rfl
theorem V₁_arg0 (c : Dev nD) : V₁ m c main_arg0 = m ((c : Thread nD τ).loc main_arg0) := dif_neg (by decide)
theorem V₁_v2 (c : Dev nD) : V₁ m c main_v2 = m ((c : Thread nD τ).loc main_v2) := dif_neg (by decide)

/-- The data of the two calls. -/
def dats : (p : Fin 2) → (c : Dev nD) → Dat τ (Elt F) Unit ℕ UU ℕ (cfgs p) c
  | 0, c => talk m c
  | 1, c => SumRegion.dat (V₁ m) c

abbrev osem : Fin 7 → SemLoc sig := fun k => .dma (sem k)

theorem bigSep_three (Φ : Fin 3 → sProp 𝕄) : bigSep Finset.univ Φ = iprop(Φ 0 ∗ Φ 1 ∗ Φ 2) :=
  bigSep_univ_eq_bigSepL [0, 1, 2] (by decide) (by decide) Φ

theorem no_windows (Φ : Fin cfg0.W → sProp 𝕄) : bigSep Finset.univ Φ = iprop(emp) := by
  rw [show (Finset.univ : Finset (Fin cfg0.W)) = ∅ from rfl, BI.bigSep_empty]
  rfl

theorem body_obligation (c : Dev nD) : BodyObligation (talk (F := F) m c) (defs₀ (F := F)) Variants.none () Set.univ := fun t => by
  rw [fin_N0 t]
  rw [no_windows, no_windows]
  show iprop((Φ₀ m c ∗ others c) ∗ (talk (F := F) m c).owesAt () t0_0.castSucc ∗ emp)
    ⊢ wp frame (wpE (defs₀ (F := F)) Variants.none (c : Thread nD τ) none) Set.univ
      (cc0_scatter_plane (Memref.whole main_arg0) (Memref.isWhole_whole _) (Memref.whole main_v1) (Memref.isWhole_whole _)
        cc0_scratch0 cc0_scratch1 cc0_scratch2)
      (fun _ => iprop((bodyPost m c ∗ others c) ∗ (talk (F := F) m c).owesAt () t0_0.succ ∗ emp))
  unfold Φ₀ Exchange.start
  rw [bigSep_three]
  iintro ⟨⟨⟨⟨%κ, #Hctx, Hk⟩, Hc, Hx, Ho, H0, H1, H2⟩, HR⟩, HO, -⟩
  unfold Dat.owesAt Pipeline.owesWithin
  icases HO with ⟨%W, %hW, HO⟩
  rw [show (talk m c).owed t0_0.castSucc = due c from rfl, show (talk m c).owed t0_0.succ = 0 from rfl]
  iapply (sound_body m κ c W _)
  isplitr; · iexact Hctx
  isplitl [Hk Hc Hx Ho H0 H1 H2]
  · unfold bodyPre
    isplitl [Hk]; · iexact Hk
    isplitl [Hc]; · iexact Hc
    isplitl [Hx]; · iexact Hx
    isplitl [Ho]; · iexact Ho
    isplitl [H0]; · iexact H0
    isplitl [H1]; · iexact H1
    iexact H2
  isplitl [HO]; · iexact HO
  iintro ⟨HP, %W', HO⟩
  isplitl [HP HR]; · isplitl [HP] <;> iassumption
  isplitl
  · iexists W'
    isplitr; · ipureintro; exact fun _ _ => Or.inl trivial
    iexact HO
  · iempintro

theorem ownSemFacts : Pipeline.OwnSemFacts cfg0.spec osem := by decide

abbrev adm : (p : Fin 2) → (pcfgs (F := F) p).Adm := fun p => (cfgs p).toPCfg_adm

theorem ownSems0_eq (c : Dev nD) : (Pipeline.ownSems0 (Ix := Unit) (Name := ℕ) (U := UU) (Lvl := ℕ) (Val := Elt F) (τ := τ) osem c : sProp 𝕄)
    = bigSep Finset.univ fun k : Fin 7 => semVal (cell c k) 0 := rfl

theorem bufs_eq (c : Dev nD) (V : (b : Ref sig .tc) → Buf (Elt F) ((c : Thread nD τ).loc b)) :
    (unscopedBufs (Ix := Unit) (Name := ℕ) (U := UU) (Lvl := ℕ) c V : sProp 𝕄)
      = iprop((((c : Thread nD τ).loc main_arg0) ↦{fullShare} V main_arg0) ∗ (((c : Thread nD τ).loc main_v1) ↦{fullShare} V main_v1)
        ∗ (((c : Thread nD τ).loc main_v2) ↦{fullShare} V main_v2)) := by
  unfold unscopedBufs
  exact bigSep_eq_bigSepL_of_eq [main_arg0, main_v1, main_v2] (by decide) (by decide) _

/-- What each device starts its program from, besides the scoped buffers. -/
def T₀ (c : Dev nD) : sProp 𝕄 :=
  iprop((Pipeline.cellsSems0 (Pipeline.pin (pcfgs (F := F)) adm) 0 c ∗ Pipeline.idleSems0 (Pipeline.pin (pcfgs (F := F)) adm) cellOf_inj 0 ownSemFacts c)
    ∗ owes (c : Thread nD τ) (due c) ∅ ∗ Φ₀ m c ∗ (((c : Thread nD τ).loc main_v2) ↦{fullShare} m ((c : Thread nD τ).loc main_v2)))

/-- What a device holds through the dealing. -/
def Z (c : Dev nD) : sProp 𝕄 :=
  iprop((Pipeline.cellsSems0 (Pipeline.pin (pcfgs (F := F)) adm) 0 c ∗ Pipeline.idleSems0 (Pipeline.pin (pcfgs (F := F)) adm) cellOf_inj 0 ownSemFacts c)
    ∗ owes (c : Thread nD τ) (due c) ∅
    ∗ (((c : Thread nD τ).loc main_arg0) ↦{fullShare} m ((c : Thread nD τ).loc main_arg0))
    ∗ oPts (pos c) c (m ((c : Thread nD τ).loc main_v1))
    ∗ (((c : Thread nD τ).loc main_v2) ↦{fullShare} m ((c : Thread nD τ).loc main_v2)))

/-- The places of its buffer that a device hands to its peers. -/
def B (c : Dev nD) (j : Fin 3) : sProp 𝕄 := oPts (over j (pos c)) c (m ((c : Thread nD τ).loc main_v1))

theorem B_peer (c : Dev nD) (j : Fin 3) : B m (peer j c) j = oPts (pos c) (peer j c) (m ((peer j c : Thread nD τ).loc main_v1)) := by
  unfold B; rw [over_pos_peer]

theorem deal_in (c : Dev nD) : iprop(scopedSems0 (c.tc : Thread nD τ)
          ∗ unscopedBufs c (fun b => m ((c.tc : Thread nD τ).loc b)) ∗ owes (c.tc : Thread nD τ) (due c) ∅
          ∗ Pipeline.launchCred due c ∗ Exchange.G sem N N_pos (pay m) c)
      ⊢ iprop((Z m c ∗ (bigSep Finset.univ fun k : Fin 7 => semVal (cell c k) 0) ∗ Pipeline.launchCred due c ∗ Exchange.G sem N N_pos (pay m) c)
          ∗ bigSep Finset.univ (B m c)) := by
  rw [Pipeline.scopedSems0_split (Pipeline.pin (pcfgs (F := F)) adm) cellOf_inj 0 winFacts0.to₀ ownSemFacts c,
    bufs_eq c (fun b => m ((c.tc : Thread nD τ).loc b)), ownSems0_eq, o_quarters, bigSep_three]
  unfold Z B
  iintro ⟨⟨⟨Hcs, Hv⟩, Hid⟩, ⟨Hx, ⟨Ho, H0, H1, H2⟩, H2v⟩, HO, HL, HG⟩
  isplitr [H0 H1 H2]
  · isplitl [Hcs Hid Hx Ho HO H2v]
    · isplitl [Hcs Hid]; · isplitl [Hcs] <;> iassumption
      isplitl [HO]; · iexact HO
      isplitl [Hx]; · iexact Hx
      isplitl [Ho] <;> iassumption
    isplitl [Hv]; · iexact Hv
    isplitl [HL] <;> iassumption
  · isplitl [H0]; · iexact H0
    isplitl [H1] <;> iassumption

theorem deal_out (c : Dev nD) : iprop((Z m c ∗ (∃ κ, Exchange.start sem N N_pos (pay m) far κ c) ∗ bigSep land fun k => cred (tallyAt (cell c k) () N))
        ∗ bigSep Finset.univ fun j : Fin 3 => B m (peer j c) j) ⊢ (T₀ m c : sProp 𝕄) := by
  rw [bigSep_congr (Φ := fun j : Fin 3 => B m (peer j c) j) fun j _ => B_peer m c j]
  unfold T₀ Φ₀ Z
  iintro ⟨⟨⟨Hs, HO, Hx, Ho, H2⟩, HK, Hc⟩, HB⟩
  isplitl [Hs]; · iexact Hs
  isplitl [HO]; · iexact HO
  isplitr [H2]
  · isplitl [HK]; · iexact HK
    isplitl [Hc]; · iexact Hc
    isplitl [Hx]; · iexact Hx
    isplitl [Ho] <;> iassumption
  · iexact H2

theorem hinit : (bigSep Finset.univ fun c : Dev nD => iprop(scopedSems0 (c.tc : Thread nD τ)
          ∗ unscopedBufs c (fun b => m ((c.tc : Thread nD τ).loc b)) ∗ owes (c.tc : Thread nD τ) (due c) ∅
          ∗ Pipeline.launchCred due c ∗ Exchange.G sem N N_pos (pay m) c) : sProp 𝕄)
      ⊢ |={Set.univ}=> bigSep Finset.univ (T₀ m) := by
  have hi : (bigSep Finset.univ fun c : Dev nD => iprop(scopedSems0 (c.tc : Thread nD τ)
          ∗ unscopedBufs c (fun b => m ((c.tc : Thread nD τ).loc b)) ∗ owes (c.tc : Thread nD τ) (due c) ∅
          ∗ Pipeline.launchCred due c ∗ Exchange.G sem N N_pos (pay m) c) : sProp 𝕄)
      ⊢ iprop((bigSep Finset.univ fun c : Dev nD => iprop(Z m c ∗ (bigSep Finset.univ fun k : Fin 7 => semVal (cell c k) 0) ∗ Pipeline.launchCred due c ∗ Exchange.G sem N N_pos (pay m) c))
        ∗ bigSep Finset.univ fun c : Dev nD => bigSep Finset.univ fun j : Fin 3 => B m (peer j c) j) := by
    refine (bigSep_mono fun c _ => deal_in m c).trans ?_
    rw [bigSep_sep', Exchange.swap (fun j => peer j) Plane.peer_peer (B m)]
    exact BI.Entails.refl _
  have hb := Exchange.begin_all (τ := τ) sem sem_inj N N_pos (pay m) far far_far land (Z m)
  have ho : iprop((bigSep Finset.univ fun c : Dev nD => iprop(Z m c ∗ (∃ κ, Exchange.start sem N N_pos (pay m) far κ c) ∗ bigSep land fun k => cred (tallyAt (cell c k) () N)))
        ∗ bigSep Finset.univ fun c : Dev nD => bigSep Finset.univ fun j : Fin 3 => B m (peer j c) j) ⊢ (bigSep Finset.univ (T₀ m) : sProp 𝕄) := by
    rw [← bigSep_sep']
    exact bigSep_mono fun c _ => deal_out m c
  iintro H
  ihave H := hi $$ H
  icases H with ⟨H, HB⟩
  imod hb $$ H with H
  imodintro
  iapply ho
  isplitl [H] <;> iassumption

/-! ## The run -/

/-- What the first call leaves. -/
def T₁ (c : Dev nD) : sProp 𝕄 :=
  iprop((((c : Thread nD τ).loc main_arg0) ↦{fullShare} m ((c : Thread nD τ).loc main_arg0))
    ∗ (((c : Thread nD τ).loc main_v1) ↦{fullShare} (fin m c : Buf (Elt F) ((c : Thread nD τ).loc main_v1))))

/-- The end of the program at a device: its block as launched, its result the sum of what it gathered. -/
def Tₙ (c : Dev nD) : sProp 𝕄 :=
  iprop((((c : Thread nD τ).loc main_arg0) ↦{fullShare} m ((c : Thread nD τ).loc main_arg0))
    ∗ (((c : Thread nD τ).loc main_v2) ↦{fullShare} (SumRegion.total (fin m c) : Buf (Elt F) ((c : Thread nD τ).loc main_v2))))

theorem second (c : Dev nD) (Q : PUnit → sProp 𝕄) :
    iprop((iprop(boundary (c.tc : Thread nD τ) ∗ Tₙ m c ∗ ∃ W, owes (c.tc : Thread nD τ) (0 : CellTallies nD τ sig Unit) W) -∗ Q ⟨⟩)
        ∗ boundary (c.tc : Thread nD τ) ∗ T₁ m c ∗ (((c : Thread nD τ).loc main_v2) ↦{fullShare} m ((c : Thread nD τ).loc main_v2))
        ∗ (∃ W, owes (c.tc : Thread nD τ) (0 : CellTallies nD τ sig Unit) W)
        ∗ Pipeline.cellsGhost (Pipeline.pin (pcfgs (F := F)) adm) EP 1 c ∗ Pipeline.toksInit (Pipeline.pin (pcfgs (F := F)) adm) EP 1 c)
      ⊢ wp frame (wpE (Pipeline.defs (pcfgs (F := F)) defs₀) (Variants.lift Variants.none) (c.tc : Thread nD τ) none) Set.univ
          (.op (.customCall (Pipeline.entry 1) ()) fun x => .ret x) Q := by
  have h := SecondCall.wp_second (pcfgs (F := F)) adm (dats m) () cellOf_inj EP defs₀ Variants.none 1 winFacts1 block_pos1 arr_whole1 stage_whole1 rfl
    (fun c => (SumRegion.body_obligation (V₁ m) c).loose) (fun _ _ => rfl) (fun _ => rfl) (fun c => (SumRegion.dat (V₁ m) c).share_full fun _ => rfl)
    (fun _ _ => rfl) scopedRest1_eq (V₁ m) (fun _ _ => rfl) (fun _ _ => 0) c (fun x => .ret x) Q
  have ha := Pipeline.arrays_eq (Pipeline.pin (pcfgs (F := F)) adm) (dats m) 1 c arr_whole1 ((SumRegion.dat (V₁ m) c).share_full fun _ => rfl)
    ((dats m 1 c).arrAt · (Pipeline.pin (pcfgs (F := F)) adm 1).N)
  have hb := bufs_eq c (V₁ m c)
  rw [V₁_v1, V₁_arg0, V₁_v2] at hb
  have hr := unscopedRest1_eq (Ix := Unit) (Name := ℕ) (U := UU) (Lvl := ℕ) c (V₁ m c)
  rw [V₁_arg0] at hr
  have hv : (dats m 1 c).arrAt 1 (Pipeline.pin (pcfgs (F := F)) adm 1).N = SumRegion.total (fin m c) :=
    (SumRegion.result (V₁ m) c).trans (by rw [V₁_v1])
  unfold T₁ Tₙ
  iintro ⟨Hk, Hb, ⟨Hx, Ho⟩, H2, HO, Hg, Ht⟩
  iapply h
  isplitl [Hk]
  · iintro ⟨Hb, Ha, Hr, HO⟩
    rw [wp_ret]
    imodintro
    iapply Hk
    isplitl [Hb]; · iexact Hb
    isplitr [HO]
    · isplitl [Hr]
      · iapply (Entails.of_eq hr); iexact Hr
      ihave Ha := (Entails.of_eq ha) $$ Ha
      ihave Ha := (Entails.of_eq (bigSep_W1 _)) $$ Ha
      icases Ha with ⟨-, Ha⟩
      rw [← hv]
      iexact Ha
    · iexact HO
  isplitl [Hb]; · iexact Hb
  isplitl [Hx Ho H2]
  · iapply (Entails.of_eq hb.symm)
    isplitl [Hx]; · iexact Hx
    isplitl [Ho] <;> iassumption
  isplitl [HO]; · iexact HO
  isplitl [Hg] <;> iassumption

theorem hrun (c : Dev nD) : iprop(scopedBufs (c.tc : Thread nD τ) ∗ opIdle (c.tc : Thread nD τ) ∗ T₀ m c
      ∗ Pipeline.ghostOn (pcfgs (F := F)) adm EP Finset.univ c)
    ⊢ wp frame (wpE (Pipeline.defs (pcfgs (F := F)) defs₀) (Variants.lift Variants.none) (c.tc : Thread nD τ) none) Set.univ (main (F := F) c) fun _ =>
        iprop(boundary (c.tc : Thread nD τ) ∗ Tₙ m c ∗ ∃ W, owes (c.tc : Thread nD τ) (0 : CellTallies nD τ sig Unit) W) := by
  have h := FirstTalk.wp_first (pcfgs (F := F)) adm (dats m) () cellOf_inj EP defs₀ Variants.none 0 (K := Fin 7) (osem := osem) winFacts0.to₀ ownSemFacts rfl rfl
    (fun _ _ => 0) c (due c) (Φ₀ m c) (T₁ m c) (body_obligation m c) rfl
    (by
      rw [show (dats m 0 c).Φ 0 = iprop(Φ₀ m c ∗ others c) from rfl]
      exact BI.Entails.refl _)
    (by
      rw [show (dats m 0 c).Φ (Fin.last (Pipeline.pin (pcfgs (F := F)) adm 0).N) = iprop(bodyPost m c ∗ others c) from rfl, ownSems0_eq]
      unfold bodyPost T₁
      iintro ⟨⟨Hx, Ho, Hz⟩, HR⟩
      isplitl [Hx Ho]; · isplitl [Hx] <;> iassumption
      isplitl [Hz]; · iexact Hz
      iexact HR)
    (fun _ => .op (.customCall (Pipeline.entry 1) ()) fun x => .ret x)
    fun _ => iprop(boundary (c.tc : Thread nD τ) ∗ Tₙ m c ∗ ∃ W, owes (c.tc : Thread nD τ) (0 : CellTallies nD τ sig Unit) W)
  show _ ⊢ wp frame (wpE (Pipeline.defs (pcfgs (F := F)) defs₀) (Variants.lift Variants.none) (c.tc : Thread nD τ) none) Set.univ
    (.op (.customCall (Pipeline.entry 0) ()) fun _ => .op (.customCall (Pipeline.entry 1) ()) fun x => .ret x) _
  unfold T₀
  rw [show (Pipeline.ghostOn (pcfgs (F := F)) adm EP Finset.univ c : sProp 𝕄) = _ from
      Pipeline.PerCore.ghostOn_erase (pcfgs (F := F)) (fun _ : Dev nD => adm) EP (Finset.mem_univ (0 : Fin 2)) c,
    Pipeline.PerCore.ghostOn_erase (pcfgs (F := F)) (fun _ : Dev nD => adm) EP (p := 1) (S := Finset.univ.erase (0 : Fin 2)) (by decide) c]
  iintro ⟨Hsb, Hid, ⟨⟨Hcs, His⟩, HO, HΦ, H2⟩, ⟨Hg, Ht⟩, ⟨Hg', Ht'⟩, -⟩
  iapply h
  isplitr [Hsb Hid Hcs His HO HΦ Hg Ht]
  · iintro ⟨Hb, HT, HO⟩
    iapply (second m c _)
    isplitr [Hb HT HO H2 Hg' Ht']
    · iintro H; iexact H
    isplitl [Hb]; · iexact Hb
    isplitl [HT]; · iexact HT
    isplitl [H2]; · iexact H2
    isplitl [HO]
    · unfold Dat.owesAt Pipeline.owesWithin
      icases HO with ⟨%W, -, HO⟩
      iexists W
      iexact HO
    isplitl [Hg'] <;> iassumption
  isplitl [Hsb]; · iexact Hsb
  isplitl [Hid]; · iexact Hid
  isplitl [Hcs]; · iexact Hcs
  isplitl [His]; · iexact His
  isplitl [HO]; · iexact HO
  isplitl [HΦ]; · iexact HΦ
  isplitl [Hg] <;> iassumption

theorem run_main (g : Dev nD → PrngReg) : θ_run (defs (F := F)) (onTc (τ := τ) (main (F := F))) ⟨m, fun _ => 0, g⟩ (fun r =>
    (∀ c : Dev nD, r.2.mem ((c : Thread nD τ).loc main_arg0) = m ((c : Thread nD τ).loc main_arg0)
      ∧ r.2.mem ((c : Thread nD τ).loc main_v2) = SumRegion.total (fin m c)) ∧ r.2.sem = fun _ => 0) :=
  FirstTalk.run_all (pcfgs (F := F)) adm cellOf_inj EP defs₀ Variants.none m g main due (Exchange.G sem N N_pos (pay m))
    (initOf (Pipeline.cells cfgs cellOf_inj) (Pipeline.launchToks cfgs cellOf_inj), initOf (Exchange.cells sem sem_inj) (Exchange.toks sem sem_inj))
    (by
      iintro Hu
      ihave H := (ownU_pair _ _) $$ Hu
      icases H with ⟨HP, HX⟩
      imod (Exchange.fund sem sem_inj N N_pos (pay m)) $$ HX with HG
      imodintro
      isplitl [HP] <;> iassumption)
    (T₀ m) (Tₙ m) (hinit m) (hrun m)
    (fun c s => s.mem ((c : Thread nD τ).loc main_arg0) = m ((c : Thread nD τ).loc main_arg0) ∧ s.mem ((c : Thread nD τ).loc main_v2) = SumRegion.total (fin m c))
    (fun c s' => by
      unfold Tₙ
      iintro ⟨⟨Hx, Ho⟩, HSI⟩
      ihave %h1 := SI_pointsTo_agree $$ [HSI Hx]
      · isplitl [HSI] <;> iassumption
      ihave %h2 := SI_pointsTo_agree $$ [HSI Ho]
      · isplitl [HSI] <;> iassumption
      imodintro
      isplitr
      · ipureintro
        exact ⟨funext fun i => h1 i (Finset.mem_univ i), funext fun i => h2 i (Finset.mem_univ i)⟩
      iexact HSI)
    (fun s h hs => ⟨h, sem_eq_zero_of_scoped (by decide) hs⟩)

end Cert.ScatterRun
-- ==== Proof.ScatterClaims.lean ====
/- The second exchange's claims: both frames, the references', and the equation of the results, exact and bit for bit. -/
module

public import proofs.«01_k».proof.Defs
public import proofs.«01_k».proof.Proof.ScatterRun
public import proofs.«01_k».proof.Proof.Blocks
public import proofs.«01_k».proof.Proof.Gen.Scatter
public import proofs.«01_k».proof.Proof.Gen.ScatterRefIdeal.Run
public import proofs.«01_k».proof.Proof.Gen.ScatterRef.Run

@[expose] public section

set_option maxRecDepth 16384

noncomputable section

namespace Cert.ScatterClaims

open Idealize.ShloMosaic Idealize.ShloMosaic.ValueIdx Idealize.ShloMosaic.TcCoe Idealize.SL.Sem
open Cert.Plane (pos at')
open Cert.ScatterRefIdeal Cert.ScatterRefIdeal.Gen

theorem frame_ideal : Cert.quiescent_ScatterIdeal := fun m g _ =>
  (θ_run Cert.ScatterIdeal.defs _ _).mono (fun _ h => ⟨fun c => (h.1 c).1, h.2⟩) (ScatterRun.run_main (F := Ideal) m g)

/-- The program read at the machine's own numbers calls the same bodies. -/
theorem bodies : Cert.Scatter.defs₀ (F := Bits) = Cert.ScatterIdeal.defs₀ (F := Bits) :=
  congrArg Defs.onTc (funext fun l => funext fun _ => match l with | 0 => rfl | 1 => rfl)

theorem frame_bits : Cert.quiescent_Scatter := fun m g _ => by
  have hd : Cert.Scatter.defs (F := Bits) = Cert.ScatterIdeal.defs (F := Bits) := congrArg (Pipeline.defs Cert.ScatterIdeal.pcfgs) bodies
  rw [hd]
  exact (θ_run Cert.ScatterIdeal.defs _ _).mono (fun _ h => ⟨fun c => (h.1 c).1, h.2⟩) (ScatterRun.run_main (F := Bits) m g)

theorem frame_ref : Cert.quiescent_ScatterRefIdeal := fun m g _ =>
  (θ_run Cert.ScatterRefIdeal.defs _ _).mono (fun r h => ⟨fun c => (h c).2, sem_eq_zero_of_no_sems (by decide) r.2⟩)
    (Cert.ScatterRefIdeal.Value.run m g)

theorem frame_ref_bits : Cert.quiescent_ScatterRef := fun m g _ =>
  (θ_run Cert.ScatterRef.defs _ _).mono (fun r h => ⟨fun c => (h c).2, sem_eq_zero_of_no_sems (by decide) r.2⟩)
    (Cert.ScatterRef.Value.run m g)

/-! ## The reference's sum, entry by entry

Its rows are the thirty-two sheets in the order place, member of the pair, destination. -/

variable {F : FTy → Type} [FloatOps F]

abbrev Stack (F : FTy → Type) : Type := S32x7536x1024.Idx → Elt F .f32

/-- The device at place `p` of the plane that member `b` of the pairs is in. -/
abbrev member (p : Fin 4) (b : Fin 2) : Dev 8 := ⟨2 * p.val + b.val, by omega⟩

/-- The sheets of one place, seen by member and destination. -/
theorem place_apply (v : Stack F) (p : Fin 4) (off : Fin 5 → Nat) (hoff : off = ![p.val, 0, 0, 0, 0])
    (hs : S4x2x4x7536x1024.Slices off S1x2x4x7536x1024) (b : Fin 2) (q : Fin 4) (r : Fin 7536) (l : Fin 1024) :
    shapeCast S2x4x7536x1024 (extractStridedSlice S1x2x4x7536x1024 off (shapeCast S4x2x4x7536x1024 v shapeCasts_S32x7536x1024_S4x2x4x7536x1024) hs)
        shapeCasts_S1x2x4x7536x1024_S2x4x7536x1024 (ix4 b q r l)
      = v (ix3 (Blocks.sheet8 (member p b) q) r l) := by
  subst hoff
  rw [shapeCast_apply _ _ (ix4 b q r l) (ix5 (0 : Fin 1) b q r l : S1x2x4x7536x1024.Idx)
    (by rw [Shape.rowMajor_val_five, Shape.rowMajor_val_four]
        show ((((0 * 2 + b.val) * 4 + q.val) * 7536 + r.val) * 1024 + l.val) = ((b.val * 4 + q.val) * 7536 + r.val) * 1024 + l.val
        omega)]
  rw [extractStridedSlice_apply _ _ _ _ (ix5 p b q r l : S4x2x4x7536x1024.Idx) (fun a => by
    match a with
    | 0 => show p.val = p.val + 0; omega
    | 1 => show b.val = 0 + b.val; omega
    | 2 => show q.val = 0 + q.val; omega
    | 3 => show r.val = 0 + r.val; omega
    | 4 => show l.val = 0 + l.val; omega)]
  refine shapeCast_apply _ _ _ _ ?_
  rw [Shape.rowMajor_val_five, Shape.rowMajor_val_three]
  show (((2 * p.val + b.val) * 4 + q.val) * 7536 + r.val) * 1024 + l.val = ((((p.val * 2 + b.val) * 4 + q.val) * 7536 + r.val) * 1024 + l.val)
  omega

/-- The result of a sum over places, laid out by destination and member, at the rows of device `c`. -/
theorem laid_out (w : S2x4x7536x1024.Idx → Elt F .f32) (c : Dev 8) (r : Fin 7536) (l : Fin 1024) :
    shapeCast S60288x1024 (transpose S4x2x7536x1024 [1, 0, 2, 3] w transposes_S2x4x7536x1024_S4x2x7536x1024_1_0_2_3)
        shapeCasts_S4x2x7536x1024_S60288x1024 (ix2 (Blocks.row8 c r) l)
      = w (ix4 (⟨c.val % 2, by omega⟩ : Fin 2) (pos c) r l) := by
  have hp : (pos c).val = c.val / 2 := by revert c; decide
  rw [shapeCast_apply _ _ (ix2 (Blocks.row8 c r) l) (ix4 (pos c) (⟨c.val % 2, by omega⟩ : Fin 2) r l : S4x2x7536x1024.Idx)
    (by rw [Shape.rowMajor_val_four, Shape.rowMajor_val_two]
        show (((pos c).val * 2 + c.val % 2) * 7536 + r.val) * 1024 + l.val = (c.val * 7536 + r.val) * 1024 + l.val
        rw [hp]; omega)]
  refine transpose_apply _ _ _ _ _ fun b => ?_
  match b with
  | 0 => rfl
  | 1 => rfl
  | 2 => rfl
  | 3 => rfl

/-- What every device ends with is its part of the reference's result. -/
theorem value (m : (ℓ : Loc Cert.ScatterIdeal.nD Cert.ScatterIdeal.τ Cert.ScatterIdeal.sig) → Buf (Elt F) ℓ) (v : Stack F)
    (hm : ∀ c : Dev 8, ScatterRun.blk m c = Layout.block ⟨3, ![4, 7536, 1024]⟩ ⟨3, ![32, 7536, 1024]⟩ 0 8 c v) (c : Dev 8)
    (R : S60288x1024.Idx → Elt F .f32) (w : S2x4x7536x1024.Idx → Elt F .f32)
    (hR : R = shapeCast S60288x1024 (transpose S4x2x7536x1024 [1, 0, 2, 3] w transposes_S2x4x7536x1024_S4x2x7536x1024_1_0_2_3)
        shapeCasts_S4x2x7536x1024_S60288x1024)
    (hw : ∀ (b : Fin 2) (q : Fin 4) (r : Fin 7536) (l : Fin 1024), w (ix4 b q r l)
      = SumRegion.total (F := F) (fun i => v (ix3 (Blocks.sheet8 (member (i 0) b) q) (i 1) (i 2))) (ix2 r l)) :
    SumRegion.total (F := F) (ScatterRun.fin m c) = Layout.block ⟨2, ![7536, 1024]⟩ ⟨2, ![60288, 1024]⟩ 0 8 c R := by
  funext i
  refine Eq.trans ?_ ((Blocks.part_eight c R i).trans ((congrFun hR _).trans ((laid_out w c (i 0) (i 1)).trans (hw _ _ _ _)))).symm
  show SumRegion.total (F := F) (ScatterRun.fin m c) i = SumRegion.total (F := F)
    (fun j : Cert.ScatterIdeal.S4x7536x1024.Idx => v (ix3 (Blocks.sheet8 (member (j 0) ⟨c.val % 2, by omega⟩) (pos c)) (j 1) (j 2))) i
  refine congrArg (fun G : Cert.ScatterIdeal.S4x7536x1024.Idx → Elt F .f32 => SumRegion.total (F := F) G i) (funext fun j => ?_)
  show ScatterRun.blk m (at' (j 0) c) (ix3 (pos c) (j 1) (j 2)) = _
  rw [hm, Blocks.stack_eight]
  rfl

theorem algebraic : Cert.algebraic_ScatterIdeal_ScatterRefIdeal := fun m g m' g' _ hm =>
  ⟨_, (θ_run Cert.ScatterIdeal.defs _ _).mono (fun _ h c => ⟨(h.1 c).2.trans (value m _ hm c _ _ rfl (fun b q r l => by
      show FloatOps.addf (FloatOps.addf (FloatOps.addf _ _) _) _ = FloatOps.addf (FloatOps.addf (FloatOps.addf _ _) _) _
      exact congr (congrArg _ (congr (congrArg _ (congr (congrArg _ (place_apply _ 0 _ rfl _ b q r l)) (place_apply _ 1 _ rfl _ b q r l)))
        (place_apply _ 2 _ rfl _ b q r l))) (place_apply _ 3 _ rfl _ b q r l))), (h.1 c).1⟩) (ScatterRun.run_main (F := Ideal) m g),
    (θ_run Cert.ScatterRefIdeal.defs _ _).mono (fun _ h => h 0) (Cert.ScatterRefIdeal.Value.run m' g')⟩

theorem bitexact : Cert.bitexact_Scatter_ScatterRef := fun m g m' g' _ hm => by
  have hd : Cert.Scatter.defs (F := Bits) = Cert.ScatterIdeal.defs (F := Bits) := congrArg (Pipeline.defs Cert.ScatterIdeal.pcfgs) bodies
  rw [hd]
  exact ⟨_, (θ_run Cert.ScatterIdeal.defs _ _).mono (fun _ h c => ⟨(h.1 c).2.trans (value m _ hm c _ _ rfl (fun b q r l => by
      show FloatOps.addf (FloatOps.addf (FloatOps.addf _ _) _) _ = FloatOps.addf (FloatOps.addf (FloatOps.addf _ _) _) _
      exact congr (congrArg _ (congr (congrArg _ (congr (congrArg _ (place_apply _ 0 _ rfl _ b q r l)) (place_apply _ 1 _ rfl _ b q r l)))
        (place_apply _ 2 _ rfl _ b q r l))) (place_apply _ 3 _ rfl _ b q r l))), (h.1 c).1⟩) (ScatterRun.run_main (F := Bits) m g),
    (θ_run Cert.ScatterRef.defs _ _).mono (fun _ h => h 0) (Cert.ScatterRef.Value.run m' g')⟩

end Cert.ScatterClaims

end
-- ==== Proof.AdamRegion.lean ====
/- The second call of the third exchange: the gradient summed over a pair, and the update from it, block by block over a grid. -/
module

public import proofs.«01_k».proof.Proof.Exchange
public import proofs.«01_k».proof.Proof.Plane
public import proofs.«01_k».proof.Proof.Gen.UpdateIdeal.Launch
public import proofs.«01_k».proof.Proof.Gen.UpdateIdeal.Skeleton
public import proofs.«01_k».proof.Proof.Gen.UpdateIdeal.Points
public import Idealize.ShloMosaic.Lib.Pipeline.FrameBody
public import Idealize.ShloMosaic.Lib.Pipeline.Value
public import Idealize.ShloMosaic.Lib.Pipeline.ValueKit.Tiles
public import Idealize.ShloMosaic.Lib.Pipeline.ValueKit.Geometry
public import Idealize.ShloMosaic.Lib.ValueLayout
public import Idealize.ShloMosaic.Lib.Tactic

@[expose] public section

set_option maxRecDepth 16384
set_option Elab.async false

noncomputable section

namespace Cert.AdamRegion

open Cert.UpdateIdeal Cert.UpdateIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.Sem Idealize.SL.ProofMode
open Idealize.ShloMosaic.Rounds Idealize.ShloMosaic.ValueIdx
open Idealize.ShloMosaic.Pipeline (Dat Cfg Window cellOf BodyObligation)

variable {F : FTy → Type} [FloatOps F]

abbrev UU : Type := Exchange.UU nD τ sig

local notation "𝕄" => MT nD τ sig Unit (Elt F) ℕ UU ℕ

-- `V`: the contents that the call starts from, device by device.
variable (V : (c : Dev nD) → (b : Ref sig .tc) → Buf (Elt F) ((c : Thread nD τ).loc b))

/-! ## The update, number by number -/

/-- The gradient: the device's own sum and its sibling's. -/
def gradOf (own far : F .f32) : F .f32 := FloatOps.addf own far

/-- The running mean. -/
def meanOf (mo own far : F .f32) : F .f32 :=
  FloatOps.addf (FloatOps.mulf (Scalar.ofBits .f32 0x3F666666#32) mo) (FloatOps.mulf (Scalar.ofBits .f32 0x3DCCCCCD#32) (gradOf own far))

/-- The running mean of the squares. -/
def varOf (va own far : F .f32) : F .f32 :=
  FloatOps.addf (FloatOps.mulf (Scalar.ofBits .f32 0x3F7FBE77#32) va)
    (FloatOps.mulf (Scalar.ofBits .f32 0x3A83126F#32) (FloatOps.mulf (gradOf own far) (gradOf own far)))

/-- The step of the weight. -/
def deltaOf (w mo va own far : F .f32) : F .f32 :=
  FloatOps.mulf (Scalar.ofBits .f32 0xBA83126F#32)
    (FloatOps.addf
      (FloatOps.divf (FloatOps.divf (meanOf mo own far) (Scalar.ofBits .f32 0x3F26BD02#32))
        (FloatOps.addf (FloatOps.sqrt (FloatOps.divf (varOf va own far) (Scalar.ofBits .f32 0x3C231ACC#32))) (Scalar.ofBits .f32 0x322BCC77#32)))
      (FloatOps.mulf (Scalar.ofBits .f32 0x3C23D70A#32) w))

/-! ## The body -/

/-- The block of a window at a point, as the call starts. -/
def part (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev block : Rect S16x1024 := Rect.unit (s := S16x1024) ![0, 0] S16x1024.size inb_S16x1024_S16x1024_0_0

-- What the body leaves in each result's staging buffer.
def leftGrad (x3 : Vec F S16x1024 .f32) (x4 : Vec F S16x1024 .f32) : Vec F S16x1024 .f32 := View.canon [⟨block, k1_pay1 (View.ld x3 block) (View.ld x4 block)⟩]
def leftDelta (x0 : Vec F S16x1024 .f32) (x1 : Vec F S16x1024 .f32) (x2 : Vec F S16x1024 .f32) (x3 : Vec F S16x1024 .f32) (x4 : Vec F S16x1024 .f32) : Vec F S16x1024 .f32 := View.canon [⟨block, k1_pay4 (View.ld x3 block) (View.ld x4 block) (View.ld x1 block) (View.ld x2 block) (View.ld x0 block)⟩]
def leftMean (x1 : Vec F S16x1024 .f32) (x3 : Vec F S16x1024 .f32) (x4 : Vec F S16x1024 .f32) : Vec F S16x1024 .f32 := View.canon [⟨block, k1_pay2 (View.ld x3 block) (View.ld x4 block) (View.ld x1 block)⟩]
def leftVar (x2 : Vec F S16x1024 .f32) (x3 : Vec F S16x1024 .f32) (x4 : Vec F S16x1024 .f32) : Vec F S16x1024 .f32 := View.canon [⟨block, k1_pay3 (View.ld x3 block) (View.ld x4 block) (View.ld x2 block)⟩]

set_option maxHeartbeats 2000000 in
theorem sound_kernel (c : Dev nD) (i : grid1.Coords) (a0 : Memref sig .tc .vmem S16x1024 .f32) (h0 : a0.IsWhole)
    (a1 : Memref sig .tc .vmem S16x1024 .f32) (h1 : a1.IsWhole)
    (a2 : Memref sig .tc .vmem S16x1024 .f32) (h2 : a2.IsWhole)
    (a3 : Memref sig .tc .vmem S16x1024 .f32) (h3 : a3.IsWhole)
    (a4 : Memref sig .tc .vmem S16x1024 .f32) (h4 : a4.IsWhole)
    (a5 : Memref sig .tc .vmem S16x1024 .f32) (h5 : a5.IsWhole)
    (a6 : Memref sig .tc .vmem S16x1024 .f32) (h6 : a6.IsWhole)
    (a7 : Memref sig .tc .vmem S16x1024 .f32) (h7 : a7.IsWhole)
    (a8 : Memref sig .tc .vmem S16x1024 .f32) (h8 : a8.IsWhole)
    (x0 : Vec F S16x1024 .f32) (x1 : Vec F S16x1024 .f32) (x2 : Vec F S16x1024 .f32) (x3 : Vec F S16x1024 .f32) (x4 : Vec F S16x1024 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ (∃ d, owns (c : Thread nD τ) a5 fullShare d) ∗ (∃ d, owns (c : Thread nD τ) a6 fullShare d) ∗ (∃ d, owns (c : Thread nD τ) a7 fullShare d) ∗ (∃ d, owns (c : Thread nD τ) a8 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare (leftGrad x3 x4) ∗ owns (c : Thread nD τ) a6 fullShare (leftDelta x0 x1 x2 x3 x4) ∗ owns (c : Thread nD τ) a7 fullShare (leftMean x1 x3 x4) ∗ owns (c : Thread nD τ) a8 fullShare (leftVar x2 x3 x4)) -∗ K ⟨⟩))
      ⊢ wp frame (wpE (defs₀ (F := F)) Variants.none c none) Set.univ (cc1_adamw i a0 h0 a1 h1 a2 h2 a3 h3 a4 h4 a5 h5 a6 h6 a7 h7 a8 h8) K := by
  simp only [cc1_adamw_eq_skeleton]; unfold cc1_adamw_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ fun y => View.cover_of_tiled [⟨block, _⟩] S16x1024.size (by rfl) y
  isplitl [H6]
  · iexists _; isplitr
    swap; · iexact H6
    ipureintro
    exact View.read_writes_eq_canon _ _ _ fun y => View.cover_of_tiled [⟨block, _⟩] S16x1024.size (by rfl) y
  isplitl [H7]
  · iexists _; isplitr
    swap; · iexact H7
    ipureintro
    exact View.read_writes_eq_canon _ _ _ fun y => View.cover_of_tiled [⟨block, _⟩] S16x1024.size (by rfl) y
  iexists _; isplitr
  swap; · iexact H8
  ipureintro
  exact View.read_writes_eq_canon _ _ _ fun y => View.cover_of_tiled [⟨block, _⟩] S16x1024.size (by rfl) y

/-- The call's data: its arrays as it starts, each input's buffer at its block, each result's at what the body leaves. -/
def dat (c : Dev nD) : Dat τ (Elt F) Unit ℕ UU ℕ cfg1 c where
  A w := V c (Pipeline.arrRef spec1 w)
  after w t := match w with
    | ⟨0, _⟩ => part V c 0 t
    | ⟨1, _⟩ => part V c 1 t
    | ⟨2, _⟩ => part V c 2 t
    | ⟨3, _⟩ => part V c 3 t
    | ⟨4, _⟩ => part V c 4 t
    | ⟨5, _⟩ => leftGrad (part V c 3 t) (part V c 4 t)
    | ⟨6, _⟩ => leftDelta (part V c 0 t) (part V c 1 t) (part V c 2 t) (part V c 3 t) (part V c 4 t)
    | ⟨7, _⟩ => leftMean (part V c 1 t) (part V c 3 t) (part V c 4 t)
    | ⟨8, _⟩ => leftVar (part V c 2 t) (part V c 3 t) (part V c 4 t)
  Φ _ := iprop(emp)
  q _ := fullShare
  owed _ := 0

theorem after_0 (c : Dev nD) (t : Fin cfg1.N) : (dat V c).after 0 t = part V c 0 t := by dsimp only [dat]
theorem after_1 (c : Dev nD) (t : Fin cfg1.N) : (dat V c).after 1 t = part V c 1 t := by dsimp only [dat]
theorem after_2 (c : Dev nD) (t : Fin cfg1.N) : (dat V c).after 2 t = part V c 2 t := by dsimp only [dat]
theorem after_3 (c : Dev nD) (t : Fin cfg1.N) : (dat V c).after 3 t = part V c 3 t := by dsimp only [dat]
theorem after_4 (c : Dev nD) (t : Fin cfg1.N) : (dat V c).after 4 t = part V c 4 t := by dsimp only [dat]
theorem after_5 (c : Dev nD) (t : Fin cfg1.N) : (dat V c).after 5 t = leftGrad (part V c 3 t) (part V c 4 t) := by dsimp only [dat]
theorem after_6 (c : Dev nD) (t : Fin cfg1.N) : (dat V c).after 6 t = leftDelta (part V c 0 t) (part V c 1 t) (part V c 2 t) (part V c 3 t) (part V c 4 t) := by dsimp only [dat]
theorem after_7 (c : Dev nD) (t : Fin cfg1.N) : (dat V c).after 7 t = leftMean (part V c 1 t) (part V c 3 t) (part V c 4 t) := by dsimp only [dat]
theorem after_8 (c : Dev nD) (t : Fin cfg1.N) : (dat V c).after 8 t = leftVar (part V c 2 t) (part V c 3 t) (part V c 4 t) := by dsimp only [dat]

theorem before_0 (c : Dev nD) (t : Fin cfg1.N) (d) : (dat V c).before 0 t d = part V c 0 t :=
  ((dat V c).before_in_eq_fetched 0 rfl (fun _ => rfl) (fun _ _ _ => rfl) (fun t => by rw [after_0]; rfl) t d).trans rfl
theorem before_1 (c : Dev nD) (t : Fin cfg1.N) (d) : (dat V c).before 1 t d = part V c 1 t :=
  ((dat V c).before_in_eq_fetched 1 rfl (fun _ => rfl) (fun _ _ _ => rfl) (fun t => by rw [after_1]; rfl) t d).trans rfl
theorem before_2 (c : Dev nD) (t : Fin cfg1.N) (d) : (dat V c).before 2 t d = part V c 2 t :=
  ((dat V c).before_in_eq_fetched 2 rfl (fun _ => rfl) (fun _ _ _ => rfl) (fun t => by rw [after_2]; rfl) t d).trans rfl
theorem before_3 (c : Dev nD) (t : Fin cfg1.N) (d) : (dat V c).before 3 t d = part V c 3 t :=
  ((dat V c).before_in_eq_fetched 3 rfl (fun _ => rfl) (fun _ _ _ => rfl) (fun t => by rw [after_3]; rfl) t d).trans rfl
theorem before_4 (c : Dev nD) (t : Fin cfg1.N) (d) : (dat V c).before 4 t d = part V c 4 t :=
  ((dat V c).before_in_eq_fetched 4 rfl (fun _ => rfl) (fun _ _ _ => rfl) (fun t => by rw [after_4]; rfl) t d).trans rfl

theorem sound_body (c : Dev nD) (t : Fin cfg1.N) :
    iprop((dat V c).Φ t.castSucc ∗ (dat V c).owesAt () t.castSucc
        ∗ (∃ d, owns (c : Thread nD τ) (st1_0 t) fullShare ((dat V c).before 0 t d))
        ∗ (∃ d, owns (c : Thread nD τ) (st1_1 t) fullShare ((dat V c).before 1 t d))
        ∗ (∃ d, owns (c : Thread nD τ) (st1_2 t) fullShare ((dat V c).before 2 t d))
        ∗ (∃ d, owns (c : Thread nD τ) (st1_3 t) fullShare ((dat V c).before 3 t d))
        ∗ (∃ d, owns (c : Thread nD τ) (st1_4 t) fullShare ((dat V c).before 4 t d))
        ∗ (∃ d, owns (c : Thread nD τ) (st1_5 t) fullShare ((dat V c).before 5 t d))
        ∗ (∃ d, owns (c : Thread nD τ) (st1_6 t) fullShare ((dat V c).before 6 t d))
        ∗ (∃ d, owns (c : Thread nD τ) (st1_7 t) fullShare ((dat V c).before 7 t d))
        ∗ (∃ d, owns (c : Thread nD τ) (st1_8 t) fullShare ((dat V c).before 8 t d)))
      ⊢ wp frame (wpE (defs₀ (F := F)) Variants.none c none) Set.univ (bodyAt1 t) (fun _ =>
        iprop((dat V c).Φ t.succ ∗ (dat V c).owesAt () t.succ
          ∗ owns (c : Thread nD τ) (st1_0 t) fullShare ((dat V c).after 0 t)
          ∗ owns (c : Thread nD τ) (st1_1 t) fullShare ((dat V c).after 1 t)
          ∗ owns (c : Thread nD τ) (st1_2 t) fullShare ((dat V c).after 2 t)
          ∗ owns (c : Thread nD τ) (st1_3 t) fullShare ((dat V c).after 3 t)
          ∗ owns (c : Thread nD τ) (st1_4 t) fullShare ((dat V c).after 4 t)
          ∗ owns (c : Thread nD τ) (st1_5 t) fullShare ((dat V c).after 5 t)
          ∗ owns (c : Thread nD τ) (st1_6 t) fullShare ((dat V c).after 6 t)
          ∗ owns (c : Thread nD τ) (st1_7 t) fullShare ((dat V c).after 7 t)
          ∗ owns (c : Thread nD τ) (st1_8 t) fullShare ((dat V c).after 8 t))) := by
  unfold bodyAt1
  simp only [before_0, before_1, before_2, before_3, before_4]
  rw [show (dat V c).Φ t.succ = (dat V c).Φ t.castSucc from rfl,
    show (dat V c).owesAt () t.succ = (dat V c).owesAt () t.castSucc from rfl, after_0, after_1, after_2, after_3, after_4, after_5, after_6, after_7, after_8]
  iintro ⟨HΦ, HO, ⟨%d0, H0⟩, ⟨%d1, H1⟩, ⟨%d2, H2⟩, ⟨%d3, H3⟩, ⟨%d4, H4⟩, ⟨%d5, H5⟩, ⟨%d6, H6⟩, ⟨%d7, H7⟩, %d8, H8⟩
  iapply (sound_kernel c (grid1.coords t) _ _ _ _ _ _ _ _ _ _ _ _ _ _ _ _ _ _ (part V c 0 t) (part V c 1 t) (part V c 2 t) (part V c 3 t) (part V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem row_of_body (t : Fin cfg1.N) : defs₀ (F := F) .tc cfg1.body (cfg1.bodyArgs t (cfg1.slots t)) = bodyAt1 t := by
  unfold defs₀; rw [Defs.onTc_tc]

theorem body_obligation (c : Dev nD) : BodyObligation (dat V c) (defs₀ (F := F)) Variants.none () Set.univ := fun t => by
  rw [bigSep_W1, bigSep_W1, row_of_body]
  exact triple_restated (sound_body V c t) rfl .rfl fun _ => .rfl

/-! ## The results -/

theorem index_0 : ∀ t : Fin cfg1.N, win1_0.index t = ![t.val, 0] := (by decide +kernel : ∀ t : Fin grid1.N, _)
theorem index_1 : ∀ t : Fin cfg1.N, win1_1.index t = ![t.val, 0] := (by decide +kernel : ∀ t : Fin grid1.N, _)
theorem index_2 : ∀ t : Fin cfg1.N, win1_2.index t = ![t.val, 0] := (by decide +kernel : ∀ t : Fin grid1.N, _)
theorem index_3 : ∀ t : Fin cfg1.N, win1_3.index t = ![t.val, 0] := (by decide +kernel : ∀ t : Fin grid1.N, _)
theorem index_4 : ∀ t : Fin cfg1.N, win1_4.index t = ![t.val, 0] := (by decide +kernel : ∀ t : Fin grid1.N, _)
theorem index_5 : ∀ t : Fin cfg1.N, win1_5.index t = ![t.val, 0] := (by decide +kernel : ∀ t : Fin grid1.N, _)
theorem index_6 : ∀ t : Fin cfg1.N, win1_6.index t = ![t.val, 0] := (by decide +kernel : ∀ t : Fin grid1.N, _)
theorem index_7 : ∀ t : Fin cfg1.N, win1_7.index t = ![t.val, 0] := (by decide +kernel : ∀ t : Fin grid1.N, _)
theorem index_8 : ∀ t : Fin cfg1.N, win1_8.index t = ![t.val, 0] := (by decide +kernel : ∀ t : Fin grid1.N, _)

/-- The row of the whole that is row `r` of the block at point `t`. -/
def row (t : Fin cfg1.N) (r : Fin 16) : Fin 7536 := ⟨t.val * 16 + r.val, by
  have h : t.val < 471 := N_1 ▸ t.isLt
  have := r.isLt
  omega⟩

theorem emb_0 (t : Fin cfg1.N) (r : Fin 16) (l : Fin 1024) :
    (win1_0.blk t).view.emb (ix2 r l : S16x1024.Idx) = (ix2 (row t r) l : S7536x1024.Idx) := by
  refine funext fun a => Fin.ext ?_
  match a with
  | ⟨0, _⟩ => blk_simp [index_0]; rfl
  | ⟨1, _⟩ => blk_simp [index_0]

theorem emb_1 (t : Fin cfg1.N) (r : Fin 16) (l : Fin 1024) :
    (win1_1.blk t).view.emb (ix2 r l : S16x1024.Idx) = (ix2 (row t r) l : S7536x1024.Idx) := by
  refine funext fun a => Fin.ext ?_
  match a with
  | ⟨0, _⟩ => blk_simp [index_1]; rfl
  | ⟨1, _⟩ => blk_simp [index_1]

theorem emb_2 (t : Fin cfg1.N) (r : Fin 16) (l : Fin 1024) :
    (win1_2.blk t).view.emb (ix2 r l : S16x1024.Idx) = (ix2 (row t r) l : S7536x1024.Idx) := by
  refine funext fun a => Fin.ext ?_
  match a with
  | ⟨0, _⟩ => blk_simp [index_2]; rfl
  | ⟨1, _⟩ => blk_simp [index_2]

theorem emb_3 (t : Fin cfg1.N) (r : Fin 16) (l : Fin 1024) :
    (win1_3.blk t).view.emb (ix2 r l : S16x1024.Idx) = (ix2 (row t r) l : S7536x1024.Idx) := by
  refine funext fun a => Fin.ext ?_
  match a with
  | ⟨0, _⟩ => blk_simp [index_3]; rfl
  | ⟨1, _⟩ => blk_simp [index_3]

theorem emb_4 (t : Fin cfg1.N) (r : Fin 16) (l : Fin 1024) :
    (win1_4.blk t).view.emb (ix2 r l : S16x1024.Idx) = (ix2 (row t r) l : S7536x1024.Idx) := by
  refine funext fun a => Fin.ext ?_
  match a with
  | ⟨0, _⟩ => blk_simp [index_4]; rfl
  | ⟨1, _⟩ => blk_simp [index_4]

theorem emb_5 (t : Fin cfg1.N) (r : Fin 16) (l : Fin 1024) :
    (win1_5.blk t).view.emb (ix2 r l : S16x1024.Idx) = (ix2 (row t r) l : S7536x1024.Idx) := by
  refine funext fun a => Fin.ext ?_
  match a with
  | ⟨0, _⟩ => blk_simp [index_5]; rfl
  | ⟨1, _⟩ => blk_simp [index_5]

theorem emb_6 (t : Fin cfg1.N) (r : Fin 16) (l : Fin 1024) :
    (win1_6.blk t).view.emb (ix2 r l : S16x1024.Idx) = (ix2 (row t r) l : S7536x1024.Idx) := by
  refine funext fun a => Fin.ext ?_
  match a with
  | ⟨0, _⟩ => blk_simp [index_6]; rfl
  | ⟨1, _⟩ => blk_simp [index_6]

theorem emb_7 (t : Fin cfg1.N) (r : Fin 16) (l : Fin 1024) :
    (win1_7.blk t).view.emb (ix2 r l : S16x1024.Idx) = (ix2 (row t r) l : S7536x1024.Idx) := by
  refine funext fun a => Fin.ext ?_
  match a with
  | ⟨0, _⟩ => blk_simp [index_7]; rfl
  | ⟨1, _⟩ => blk_simp [index_7]

theorem emb_8 (t : Fin cfg1.N) (r : Fin 16) (l : Fin 1024) :
    (win1_8.blk t).view.emb (ix2 r l : S16x1024.Idx) = (ix2 (row t r) l : S7536x1024.Idx) := by
  refine funext fun a => Fin.ext ?_
  match a with
  | ⟨0, _⟩ => blk_simp [index_8]; rfl
  | ⟨1, _⟩ => blk_simp [index_8]

theorem part_0 (c : Dev nD) (t : Fin cfg1.N) (r : Fin 16) (l : Fin 1024) : part V c 0 t (ix2 r l) = V c main_arg0 (ix2 (row t r) l) := by
  show V c main_arg0 ((win1_0.blk t).view.emb (ix2 r l : S16x1024.Idx)) = _
  rw [emb_0]

theorem part_1 (c : Dev nD) (t : Fin cfg1.N) (r : Fin 16) (l : Fin 1024) : part V c 1 t (ix2 r l) = V c main_arg1 (ix2 (row t r) l) := by
  show V c main_arg1 ((win1_1.blk t).view.emb (ix2 r l : S16x1024.Idx)) = _
  rw [emb_1]

theorem part_2 (c : Dev nD) (t : Fin cfg1.N) (r : Fin 16) (l : Fin 1024) : part V c 2 t (ix2 r l) = V c main_arg2 (ix2 (row t r) l) := by
  show V c main_arg2 ((win1_2.blk t).view.emb (ix2 r l : S16x1024.Idx)) = _
  rw [emb_2]

theorem part_3 (c : Dev nD) (t : Fin cfg1.N) (r : Fin 16) (l : Fin 1024) : part V c 3 t (ix2 r l) = V c main_arg3 (ix2 (row t r) l) := by
  show V c main_arg3 ((win1_3.blk t).view.emb (ix2 r l : S16x1024.Idx)) = _
  rw [emb_3]

theorem part_4 (c : Dev nD) (t : Fin cfg1.N) (r : Fin 16) (l : Fin 1024) : part V c 4 t (ix2 r l) = V c main_v1 (ix2 (row t r) l) := by
  show V c main_v1 ((win1_4.blk t).view.emb (ix2 r l : S16x1024.Idx)) = _
  rw [emb_4]

theorem leftGrad_apply (x3 : Vec F S16x1024 .f32) (x4 : Vec F S16x1024 .f32) (i : S16x1024.Idx) : leftGrad x3 x4 i = (gradOf (x3 i) (x4 i) : F .f32) := by
  unfold leftGrad k1_pay1
  rw [View.canon_unit_zero (by decide)]
  simp only [shapeCast_self]
  rw [View.ld_unit_zero (by decide) _ x3, View.ld_unit_zero (by decide) _ x4]
  rfl

theorem leftDelta_apply (x0 : Vec F S16x1024 .f32) (x1 : Vec F S16x1024 .f32) (x2 : Vec F S16x1024 .f32) (x3 : Vec F S16x1024 .f32) (x4 : Vec F S16x1024 .f32) (i : S16x1024.Idx) : leftDelta x0 x1 x2 x3 x4 i = (deltaOf (x0 i) (x1 i) (x2 i) (x3 i) (x4 i) : F .f32) := by
  unfold leftDelta k1_pay4 k1_pay3 k1_pay2 k1_pay1
  rw [View.canon_unit_zero (by decide)]
  simp only [shapeCast_self]
  rw [View.ld_unit_zero (by decide) _ x0, View.ld_unit_zero (by decide) _ x1, View.ld_unit_zero (by decide) _ x2, View.ld_unit_zero (by decide) _ x3, View.ld_unit_zero (by decide) _ x4]
  rfl

theorem leftMean_apply (x1 : Vec F S16x1024 .f32) (x3 : Vec F S16x1024 .f32) (x4 : Vec F S16x1024 .f32) (i : S16x1024.Idx) : leftMean x1 x3 x4 i = (meanOf (x1 i) (x3 i) (x4 i) : F .f32) := by
  unfold leftMean k1_pay2 k1_pay1
  rw [View.canon_unit_zero (by decide)]
  simp only [shapeCast_self]
  rw [View.ld_unit_zero (by decide) _ x1, View.ld_unit_zero (by decide) _ x3, View.ld_unit_zero (by decide) _ x4]
  rfl

theorem leftVar_apply (x2 : Vec F S16x1024 .f32) (x3 : Vec F S16x1024 .f32) (x4 : Vec F S16x1024 .f32) (i : S16x1024.Idx) : leftVar x2 x3 x4 i = (varOf (x2 i) (x3 i) (x4 i) : F .f32) := by
  unfold leftVar k1_pay3 k1_pay1
  rw [View.canon_unit_zero (by decide)]
  simp only [shapeCast_self]
  rw [View.ld_unit_zero (by decide) _ x2, View.ld_unit_zero (by decide) _ x3, View.ld_unit_zero (by decide) _ x4]
  rfl

/-- The gradient of every weight. -/
def grads {s : Shape} (own far : s.Idx → F .f32) : s.Idx → F .f32 := fun i => gradOf (own i) (far i)

/-- The step of every weight. -/
def deltas {s : Shape} (w mo va own far : s.Idx → F .f32) : s.Idx → F .f32 := fun i => deltaOf (w i) (mo i) (va i) (own i) (far i)

/-- The running mean at every weight. -/
def means {s : Shape} (mo own far : s.Idx → F .f32) : s.Idx → F .f32 := fun i => meanOf (mo i) (own i) (far i)

/-- The running mean of the squares at every weight. -/
def vars {s : Shape} (va own far : s.Idx → F .f32) : s.Idx → F .f32 := fun i => varOf (va i) (own i) (far i)

theorem resultGrad (c : Dev nD) : (dat V c).arrAt 5 cfg1.N = grads (s := S7536x1024) (V c main_arg3) (V c main_v1) := by
  refine (dat V c).arrAt_eq_of_covers 5 _ (by decide +kernel) fun t hf y => ?_
  blk_simp
  rw [after_5]
  have h : ∀ (r : Fin 16) (l : Fin 1024), leftGrad (part V c 3 t) (part V c 4 t) (ix2 r l) = grads (s := S7536x1024) (V c main_arg3) (V c main_v1) ((win1_5.blk t).view.emb (ix2 r l : S16x1024.Idx)) := fun r l => by
    rw [leftGrad_apply, emb_5, part_3, part_4]
    rfl
  have hz : ∀ z : S16x1024.Idx, leftGrad (part V c 3 t) (part V c 4 t) z = grads (s := S7536x1024) (V c main_arg3) (V c main_v1) ((win1_5.blk t).view.emb z) := fun z => by
    rw [eq_ix2 z]; exact h (z 0) (z 1)
  exact hz y

theorem resultDelta (c : Dev nD) : (dat V c).arrAt 6 cfg1.N = deltas (s := S7536x1024) (V c main_arg0) (V c main_arg1) (V c main_arg2) (V c main_arg3) (V c main_v1) := by
  refine (dat V c).arrAt_eq_of_covers 6 _ (by decide +kernel) fun t hf y => ?_
  blk_simp
  rw [after_6]
  have h : ∀ (r : Fin 16) (l : Fin 1024), leftDelta (part V c 0 t) (part V c 1 t) (part V c 2 t) (part V c 3 t) (part V c 4 t) (ix2 r l) = deltas (s := S7536x1024) (V c main_arg0) (V c main_arg1) (V c main_arg2) (V c main_arg3) (V c main_v1) ((win1_6.blk t).view.emb (ix2 r l : S16x1024.Idx)) := fun r l => by
    rw [leftDelta_apply, emb_6, part_0, part_1, part_2, part_3, part_4]
    rfl
  have hz : ∀ z : S16x1024.Idx, leftDelta (part V c 0 t) (part V c 1 t) (part V c 2 t) (part V c 3 t) (part V c 4 t) z = deltas (s := S7536x1024) (V c main_arg0) (V c main_arg1) (V c main_arg2) (V c main_arg3) (V c main_v1) ((win1_6.blk t).view.emb z) := fun z => by
    rw [eq_ix2 z]; exact h (z 0) (z 1)
  exact hz y

theorem resultMean (c : Dev nD) : (dat V c).arrAt 7 cfg1.N = means (s := S7536x1024) (V c main_arg1) (V c main_arg3) (V c main_v1) := by
  refine (dat V c).arrAt_eq_of_covers 7 _ (by decide +kernel) fun t hf y => ?_
  blk_simp
  rw [after_7]
  have h : ∀ (r : Fin 16) (l : Fin 1024), leftMean (part V c 1 t) (part V c 3 t) (part V c 4 t) (ix2 r l) = means (s := S7536x1024) (V c main_arg1) (V c main_arg3) (V c main_v1) ((win1_7.blk t).view.emb (ix2 r l : S16x1024.Idx)) := fun r l => by
    rw [leftMean_apply, emb_7, part_1, part_3, part_4]
    rfl
  have hz : ∀ z : S16x1024.Idx, leftMean (part V c 1 t) (part V c 3 t) (part V c 4 t) z = means (s := S7536x1024) (V c main_arg1) (V c main_arg3) (V c main_v1) ((win1_7.blk t).view.emb z) := fun z => by
    rw [eq_ix2 z]; exact h (z 0) (z 1)
  exact hz y

theorem resultVar (c : Dev nD) : (dat V c).arrAt 8 cfg1.N = vars (s := S7536x1024) (V c main_arg2) (V c main_arg3) (V c main_v1) := by
  refine (dat V c).arrAt_eq_of_covers 8 _ (by decide +kernel) fun t hf y => ?_
  blk_simp
  rw [after_8]
  have h : ∀ (r : Fin 16) (l : Fin 1024), leftVar (part V c 2 t) (part V c 3 t) (part V c 4 t) (ix2 r l) = vars (s := S7536x1024) (V c main_arg2) (V c main_arg3) (V c main_v1) ((win1_8.blk t).view.emb (ix2 r l : S16x1024.Idx)) := fun r l => by
    rw [leftVar_apply, emb_8, part_2, part_3, part_4]
    rfl
  have hz : ∀ z : S16x1024.Idx, leftVar (part V c 2 t) (part V c 3 t) (part V c 4 t) z = vars (s := S7536x1024) (V c main_arg2) (V c main_arg3) (V c main_v1) ((win1_8.blk t).view.emb z) := fun z => by
    rw [eq_ix2 z]; exact h (z 0) (z 1)
  exact hz y

end Cert.AdamRegion
-- ==== Proof.UpdateRun.lean ====
/- The run of the third exchange: every device hands its sum to its sibling, and then both update the weights of their place
   from the two sums. -/
module

public import proofs.«01_k».proof.Proof.FirstTalk
public import proofs.«01_k».proof.Proof.SecondCall
public import proofs.«01_k».proof.Proof.AdamRegion
public import proofs.«01_k».proof.Proof.Exchange
public import proofs.«01_k».proof.Proof.Plane
public import proofs.«01_k».proof.Proof.Gen.UpdateIdeal.Launch
public import proofs.«01_k».proof.Proof.Gen.UpdateIdeal.Skeleton
public import proofs.«01_k».proof.Proof.Gen.UpdateIdeal.Points
public import Idealize.ShloMosaic.Lib.Tactic

@[expose] public section

set_option maxRecDepth 16384
set_option Elab.async false

noncomputable section

namespace Cert.UpdateRun

open Cert.UpdateIdeal Cert.UpdateIdeal.Gen
open Idealize.ShloMosaic Idealize.ShloMosaic.TcCoe
open Idealize.SL Idealize.SL.RA Idealize.SL.BI
open scoped Idealize.SL.BI
open Idealize.SL.BI.BIBase Idealize.SL.BI.Laws Idealize.SL.Sem Idealize.SL.ProofMode
open Idealize.ShloMosaic.Rounds Idealize.ShloMosaic.ValueIdx
open Idealize.ShloMosaic.Pipeline (Dat Cfg Window cellOf BodyObligation)
open Cert.Plane (sibling)

variable {F : FTy → Type} [FloatOps F]

abbrev UU : Type := Exchange.UU nD τ sig

local notation "𝕄" => MT nD τ sig Unit (Elt F) ℕ UU ℕ

abbrev EP : Emb (UR sig nD τ) (MT nD τ sig Unit (Elt F) ℕ UU ℕ) := embL
abbrev ER : Emb (URounds (GSem nD τ sig) Unit) (MT nD τ sig Unit (Elt F) ℕ UU ℕ) := embR

variable (m : (ℓ : Loc nD τ sig) → Buf (Elt F) ℓ)

abbrev gM : Memref sig .tc .hbm S7536x1024 .f32 := Memref.whole main_arg3
abbrev oM : Memref sig .tc .hbm S7536x1024 .f32 := Memref.whole main_v1

/-! ## Semaphores -/

/-- One of the sending side, one of the landing. -/
abbrev sem : Fin 2 → DmaSem sig := fun k => ⟨k.val, by have := k.isLt; show k.val < 20; omega⟩
theorem sem_inj : Function.Injective sem := by decide

def far : Fin 2 → Dev nD → Dev nD := fun k => match k with
  | 1 => sibling | _ => id
theorem far_far (k : Fin 2) (c : Dev nD) : far k (far k c) = c := by revert k c; decide

abbrev land : Finset (Fin 2) := {1}

abbrev N : ℕ := oM.view.dmaCredit
theorem N_pos : 0 < N := View.dmaCredit_pos _ (by decide)

/-! ## Contents -/

/-- The sum that device `c` starts with. -/
def own (c : Dev nD) : S7536x1024.Idx → Elt F .f32 := m ((c : Thread nD τ).loc main_arg3)

/-- What a device receives: its sibling's sum. -/
def fin (c : Dev nD) : S7536x1024.Idx → Elt F .f32 := own m (sibling c)

/-- Device `c`'s sum, as launched. -/
def gPts (c : Dev nD) : sProp 𝕄 :=
  (gM.view.loc (c : Thread nD τ) ↦[gM.view.set]{fullShare} m ((c : Thread nD τ).loc main_arg3))

/-- Device `c`'s receiving buffer, at `f`. -/
def oPts (c : Dev nD) (f : Buf (Elt F) ((c : Thread nD τ).loc main_v1)) : sProp 𝕄 :=
  (oM.view.loc (c : Thread nD τ) ↦[oM.view.set]{fullShare} f)

theorem gPts_eq (c : Dev nD) : gPts m c = (((c : Thread nD τ).loc main_arg3) ↦{fullShare} m ((c : Thread nD τ).loc main_arg3) : sProp 𝕄) := by
  unfold gPts
  rw [show gM.view.set = Finset.univ from View.set_whole main_arg3]

theorem oPts_eq (c : Dev nD) (f : Buf (Elt F) ((c : Thread nD τ).loc main_v1)) :
    oPts c f = (((c : Thread nD τ).loc main_v1) ↦{fullShare} f : sProp 𝕄) := by
  unfold oPts
  rw [show oM.view.set = Finset.univ from View.set_whole main_v1]

def pay (c : Dev nD) (k : Fin 2) : sProp 𝕄 := match k with
  | 0 => gPts m c
  | 1 => oPts c (fin m c)

instance gPts_storable (c : Dev nD) : BI.Storable (upEmb : UEmb _ (MT nD τ sig Unit (Elt F) ℕ UU ℕ)) (gPts m c) := by
  unfold gPts; infer_instance
instance oPts_storable (c : Dev nD) (f : Buf (Elt F) ((c : Thread nD τ).loc main_v1)) :
    BI.Storable (upEmb : UEmb _ (MT nD τ sig Unit (Elt F) ℕ UU ℕ)) (oPts c f) := by
  unfold oPts; infer_instance
instance pay_storable (c : Dev nD) (k : Fin 2) : BI.Storable (upEmb : UEmb _ (MT nD τ sig Unit (Elt F) ℕ UU ℕ)) (pay m c k) :=
  match k with
  | 0 => gPts_storable m c | 1 => oPts_storable c _

/-! ## The body -/

section Body

variable (κ : Dev nD × Fin 2 → ℕ)

abbrev ctx : sProp 𝕄 := Exchange.ctx sem N N_pos (pay m) κ
abbrev due (c : Dev nD) : CellTallies nD τ sig Unit := Exchange.due sem N far land c
abbrev cell (c : Dev nD) (k : Fin 2) : GSem nD τ sig := Exchange.cell sem c k

theorem dev1 (c : Dev nD) : (⟨k0_dev1 c, k0_dev1_lt c⟩ : Dev nD) = sibling c := Fin.ext ((k0_dev1_eq c).trans (by revert c; decide))

theorem due_eq (c : Dev nD) : due c = 0 + tallyAt (cell (sibling c) 1) () N := by
  unfold due Exchange.due land
  rw [Finset.sum_singleton, zero_add]
  rfl

/-- What lands is the finished contents of the receiving buffer. -/
theorem lands (c : Dev nD) (f : Buf (Elt F) ((sibling c : Thread nD τ).loc main_v1)) :
    (oM.view.loc (sibling c : Thread nD τ) ↦[oM.view.set]{fullShare}
        (oM.view.write (Elt F) f (gM.view.read (Elt F) (m ((c : Thread nD τ).loc main_arg3))) Finset.univ) : sProp 𝕄)
      = oPts (sibling c) (fin m (sibling c)) := by
  unfold oPts
  refine Plane.landed (sibling c : Thread nD τ) oM fullShare f (fin m (sibling c)) (gM.view.read (Elt F) (m ((c : Thread nD τ).loc main_arg3))) fun x => ?_
  show own m (sibling (sibling c)) _ = own m c _
  rw [Plane.sibling_sibling]
  rfl

/-- The transfer: the device's sum to its sibling's receiving buffer. -/
theorem wp_put (c n : Dev nD) (hn : n = sibling c) {hsc : oM.view.ref.isScScratch = false}
    {sS sR : DmaSem sig} (hsS : sS = sem 0) (hsR : sR = sem 1)
    {hsrc : gM.view.WordExact} {hdst : oM.view.WordExact}
    {hty : DmaTarget.Typed .hbm (.dma sR) (.remote (n : Thread nD τ) oM (.dma sS) hsc)}
    (f : Buf (Elt F) ((sibling c : Thread nD τ).loc main_v1)) {O₀ : CellTallies nD τ sig Unit} (O : CellTallies nD τ sig Unit)
    (hO : O₀ = O + tallyAt (cell (sibling c) 1) () N) (W : Waits sig Unit)
    {α : Type} {Q : α → sProp 𝕄} {k : PUnit → Prog (TpuEff nD τ sig (Elt F) Λ₀ .tc) α} :
    iprop(ctx m κ ∗ gPts m c ∗ oPts (sibling c) f
        ∗ owes (c : Thread nD τ) O₀ W ∗ dutyTok ER (cell c 0) 0 () ∗ dutyTok ER (cell (sibling c) 1) 0 ())
      ⊢ iprop(((cred (tallyAt (cell c 0) () N) ∗ owes (c : Thread nD τ) O W)
            -∗ wp frame (wpE defs₀ Variants.none (c : Thread nD τ) none) Set.univ (k ⟨⟩) Q)
          -∗ wp frame (wpE defs₀ Variants.none (c : Thread nD τ) none) Set.univ
              (.op (.enqueueDma gM (.remote (n : Thread nD τ) oM (.dma sS) hsc) (.dma sR) hsrc hdst hty) k) Q) := by
  subst hn hsS hsR
  have h1 : pay m c 0 = gPts m c := rfl
  have h2 := (lands m c f).trans (show oPts (sibling c) (fin m (sibling c)) = pay m (sibling c) 1 from rfl)
  unfold gPts at h1
  unfold gPts oPts
  have h := Exchange.wp_put (Λ := Λ₀) (defs := defs₀) sem sem_inj N N_pos (pay m) Variants.none κ (src := gM) (dst := oM) (hsc := hsc) (hsrc := hsrc) (hdst := hdst) c (sibling c) 0 1 (q := fullShare)
    (hty := hty) (fs := m ((c : Thread nD τ).loc main_arg3)) (fd := f) rfl O hO W (Entails.of_eq h1.symm)
    (Entails.of_eq h2) (Q := Q) (k := k)
  exact h

/-- A wait. -/
theorem wp_take (c : Dev nD) (k₀ : Fin 2) {s : DmaSem sig} (hs : s = sem k₀) {src dst : Memref sig .tc .hbm S7536x1024 .f32} (hA : dst.view.dmaCredit = N)
    {hsrc : src.view.WordExact} {hdst : dst.view.WordExact} (W : Waits sig Unit)
    {α : Type} {Q : α → sProp 𝕄} {k : PUnit → Prog (TpuEff nD τ sig (Elt F) Λ₀ .tc) α} :
    iprop(ctx m κ ∗ cred (tallyAt (cell c k₀) () N) ∗ owes (c : Thread nD τ) (0 : CellTallies nD τ sig Unit) W
        ∗ atPos ER (cell c k₀) 0 ∅ 0)
      ⊢ iprop(((owes (c : Thread nD τ) (0 : CellTallies nD τ sig Unit) (insert (.dma (sem k₀), ()) W) ∗ semVal (cell c k₀) 0 ∗ pay m c k₀)
            -∗ wp frame (wpE defs₀ Variants.none (c : Thread nD τ) none) Set.univ (k ⟨⟩) Q)
          -∗ wp frame (wpE defs₀ Variants.none (c : Thread nD τ) none) Set.univ (.op (.waitDma2 s src dst hsrc hdst) k) Q) := by
  subst hs
  exact Exchange.wp_take (Λ := Λ₀) (defs := defs₀) sem sem_inj N N_pos (pay m) Variants.none κ c k₀ (src := src) (dst := dst) (hsrc := hsrc) (hdst := hdst) hA W (Q := Q) (k := k)

/-- What the body starts from, besides the semaphores' invariants. -/
def bodyPre (c : Dev nD) : sProp 𝕄 :=
  iprop((bigSep Finset.univ fun k : Fin 2 => iprop(atPos ER (cell c k) 0 ∅ 0 ∗ dutyTok ER (cell (far k c) k) 0 ()))
    ∗ (bigSep land fun k => cred (tallyAt (cell c k) () N))
    ∗ gPts m c
    ∗ oPts (sibling c) (m ((sibling c : Thread nD τ).loc main_v1)))

/-- What it ends with. -/
def bodyPost (c : Dev nD) : sProp 𝕄 :=
  iprop(gPts m c ∗ oPts c (fin m c) ∗ bigSep Finset.univ fun k : Fin 2 => semVal (cell c k) 0)

theorem bigSep_keys (Φ : Fin 2 → sProp 𝕄) : bigSep Finset.univ Φ = iprop(Φ 0 ∗ Φ 1) :=
  bigSep_univ_eq_bigSepL [0, 1] (by decide) (by decide) Φ

theorem start_keys (c : Dev nD) :
    (bigSep Finset.univ fun k : Fin 2 => (iprop(atPos ER (cell c k) 0 ∅ 0 ∗ dutyTok ER (cell (far k c) k) 0 ()) : sProp 𝕄))
      = iprop((atPos ER (cell c 0) 0 ∅ 0 ∗ dutyTok ER (cell c 0) 0 ()) ∗ (atPos ER (cell c 1) 0 ∅ 0 ∗ dutyTok ER (cell (sibling c) 1) 0 ())) := bigSep_keys _

set_option maxHeartbeats 1000000 in
/-- The body at device `c`. -/
theorem sound_body (c : Dev nD) (W : Waits sig Unit) (K : PUnit → sProp 𝕄) :
    iprop(ctx m κ ∗ bodyPre m c ∗ owes (c : Thread nD τ) (due c) W
        ∗ ((bodyPost m c ∗ ∃ W', owes (c : Thread nD τ) (0 : CellTallies nD τ sig Unit) W') -∗ K ⟨⟩))
      ⊢ wp frame (wpE defs₀ Variants.none (c : Thread nD τ) none) Set.univ
          (cc0_swap_sibling (Memref.whole main_arg3) (Memref.isWhole_whole _) (Memref.whole main_v1) (Memref.isWhole_whole _)
            cc0_scratch0 cc0_scratch1) K := by
  simp only [cc0_swap_sibling_eq_skeleton]; unfold cc0_swap_sibling_skel
  simp only [Prog.lift, Prog.bind_op, Prog.bind_ret, Prog.pure_eq_ret, Prog.bind_assoc, wp_deviceId]
  unfold bodyPre
  rw [start_keys, show (bigSep land (fun k => cred (tallyAt (cell c k) () N)) : sProp 𝕄) = cred (tallyAt (cell c 1) () N) from bigSep_singleton, due_eq]
  iintro ⟨#Hctx, ⟨⟨⟨Ha0, Hd0⟩, ⟨Ha1, Hd1⟩⟩, Hc1, Hx, Ho⟩, HO, Hk⟩
  iapply (wp_put m κ c _ (dev1 c) (by rfl) (by rfl) (m ((sibling c : Thread nD τ).loc main_v1)) _ rfl _) $$ [Hx Ho HO Hd0 Hd1]
  · isplitr; · iexact Hctx
    isplitl [Hx]; · iexact Hx
    isplitl [Ho]; · iexact Ho
    isplitl [HO]; · iexact HO
    isplitl [Hd0] <;> iassumption
  iintro ⟨Hc0, HO⟩
  iapply (wp_take m κ c 0 (by rfl) (by rfl) _) $$ [Hc0 HO Ha0]
  · isplitr; · iexact Hctx
    isplitl [Hc0]; · iexact Hc0
    isplitl [HO] <;> iassumption
  iintro ⟨HO, Hz0, Hx⟩
  iapply (wp_take m κ c 1 (by rfl) (by rfl) _) $$ [Hc1 HO Ha1]
  · isplitr; · iexact Hctx
    isplitl [Hc1]; · iexact Hc1
    isplitl [HO] <;> iassumption
  iintro ⟨HO, Hz1, Ho⟩
  ihave Hx := (Entails.of_eq (show pay m c 0 = gPts m c from rfl)) $$ Hx
  ihave Ho := (Entails.of_eq (show pay m c 1 = oPts c (fin m c) from rfl)) $$ Ho
  rw [wp_ret]; imodintro
  iapply Hk
  unfold bodyPost
  rw [bigSep_keys]
  isplitr [HO]
  · isplitl [Hx]; · iexact Hx
    isplitl [Ho]; · iexact Ho
    isplitl [Hz0]; · iexact Hz0
    iexact Hz1
  iexists _
  iexact HO

end Body

/-! ## The call and its launch -/

/-- What the call starts from. -/
def Φ₀ (c : Dev nD) : sProp 𝕄 :=
  iprop((∃ κ, Exchange.start sem N N_pos (pay m) far κ c)
    ∗ (bigSep land fun k => cred (tallyAt (cell c k) () N))
    ∗ gPts m c
    ∗ oPts (sibling c) (m ((sibling c : Thread nD τ).loc main_v1)))

/-- The buffers that the body doesn't touch and that are only the program's while its calls run. -/
abbrev others (c : Dev nD) : sProp 𝕄 := Pipeline.scopedRest (Ix := Unit) (Name := ℕ) (U := UU) (Lvl := ℕ) (Val := Elt F) cfg0.spec c

/-- The first call's data: no windows; the invariant before and after its one point. -/
def talk (c : Dev nD) : Dat τ (Elt F) Unit ℕ UU ℕ cfg0 c where
  A w := w.elim0
  after w _ := w.elim0
  Φ t := match t with
    | ⟨0, _⟩ => iprop(Φ₀ m c ∗ others c)
    | ⟨_ + 1, _⟩ => iprop(bodyPost m c ∗ others c)
  q _ := fullShare
  owed t := match t with
    | ⟨0, _⟩ => due c
    | ⟨_ + 1, _⟩ => 0

/-- The buffers when the second call starts. -/
def V₁ (c : Dev nD) (b : Ref sig .tc) : Buf (Elt F) ((c : Thread nD τ).loc b) :=
  if h : b = main_v1 then h ▸ (fin m c : Buf (Elt F) ((c : Thread nD τ).loc main_v1)) else m ((c : Thread nD τ).loc b)

theorem V₁_v1 (c : Dev nD) : V₁ m c main_v1 = fin m c := dif_pos rfl
theorem V₁_else (c : Dev nD) (b : Ref sig .tc) (h : b ≠ main_v1) : V₁ m c b = m ((c : Thread nD τ).loc b) := dif_neg h

/-- The data of the two calls. -/
def dats : (p : Fin 2) → (c : Dev nD) → Dat τ (Elt F) Unit ℕ UU ℕ (cfgs p) c
  | 0, c => talk m c
  | 1, c => AdamRegion.dat (V₁ m) c

abbrev osem : Fin 2 → SemLoc sig := fun k => .dma (sem k)

theorem no_windows (Φ : Fin cfg0.W → sProp 𝕄) : bigSep Finset.univ Φ = iprop(emp) := by
  rw [show (Finset.univ : Finset (Fin cfg0.W)) = ∅ from rfl, BI.bigSep_empty]
  rfl

theorem body_obligation (c : Dev nD) : BodyObligation (talk (F := F) m c) (defs₀ (F := F)) Variants.none () Set.univ := fun t => by
  rw [fin_N0 t]
  rw [no_windows, no_windows]
  show iprop((Φ₀ m c ∗ others c) ∗ (talk (F := F) m c).owesAt () t0_0.castSucc ∗ emp)
    ⊢ wp frame (wpE (defs₀ (F := F)) Variants.none (c : Thread nD τ) none) Set.univ
      (cc0_swap_sibling (Memref.whole main_arg3) (Memref.isWhole_whole _) (Memref.whole main_v1) (Memref.isWhole_whole _)
        cc0_scratch0 cc0_scratch1)
      (fun _ => iprop((bodyPost m c ∗ others c) ∗ (talk (F := F) m c).owesAt () t0_0.succ ∗ emp))
  unfold Φ₀ Exchange.start
  iintro ⟨⟨⟨⟨%κ, #Hctx, Hk⟩, Hc, Hx, Ho⟩, HR⟩, HO, -⟩
  unfold Dat.owesAt Pipeline.owesWithin
  icases HO with ⟨%W, %hW, HO⟩
  rw [show (talk m c).owed t0_0.castSucc = due c from rfl, show (talk m c).owed t0_0.succ = 0 from rfl]
  iapply (sound_body m κ c W _)
  isplitr; · iexact Hctx
  isplitl [Hk Hc Hx Ho]
  · unfold bodyPre
    isplitl [Hk]; · iexact Hk
    isplitl [Hc]; · iexact Hc
    isplitl [Hx] <;> iassumption
  isplitl [HO]; · iexact HO
  iintro ⟨HP, %W', HO⟩
  isplitl [HP HR]; · isplitl [HP] <;> iassumption
  isplitl
  · iexists W'
    isplitr; · ipureintro; exact fun _ _ => Or.inl trivial
    iexact HO
  · iempintro

theorem ownSemFacts : Pipeline.OwnSemFacts cfg0.spec osem := by decide

abbrev adm : (p : Fin 2) → (pcfgs (F := F) p).Adm := fun p => (cfgs p).toPCfg_adm

theorem ownSems0_eq (c : Dev nD) : (Pipeline.ownSems0 (Ix := Unit) (Name := ℕ) (U := UU) (Lvl := ℕ) (Val := Elt F) (τ := τ) osem c : sProp 𝕄)
    = bigSep Finset.univ fun k : Fin 2 => semVal (cell c k) 0 := rfl

/-- The buffers that the first call doesn't use: the weights, the running means, the results. -/
def idle (c : Dev nD) : sProp 𝕄 :=
  iprop((((c : Thread nD τ).loc main_arg0) ↦{fullShare} m ((c : Thread nD τ).loc main_arg0))
    ∗ (((c : Thread nD τ).loc main_arg1) ↦{fullShare} m ((c : Thread nD τ).loc main_arg1))
    ∗ (((c : Thread nD τ).loc main_arg2) ↦{fullShare} m ((c : Thread nD τ).loc main_arg2))
    ∗ (((c : Thread nD τ).loc main_v2_0) ↦{fullShare} m ((c : Thread nD τ).loc main_v2_0))
    ∗ (((c : Thread nD τ).loc main_v2_1) ↦{fullShare} m ((c : Thread nD τ).loc main_v2_1))
    ∗ (((c : Thread nD τ).loc main_v2_2) ↦{fullShare} m ((c : Thread nD τ).loc main_v2_2))
    ∗ (((c : Thread nD τ).loc main_v2_3) ↦{fullShare} m ((c : Thread nD τ).loc main_v2_3)))

theorem bufs_eq (c : Dev nD) (V : (b : Ref sig .tc) → Buf (Elt F) ((c : Thread nD τ).loc b)) :
    (unscopedBufs (Ix := Unit) (Name := ℕ) (U := UU) (Lvl := ℕ) c V : sProp 𝕄)
      = iprop((((c : Thread nD τ).loc main_arg0) ↦{fullShare} V main_arg0)
        ∗ (((c : Thread nD τ).loc main_arg1) ↦{fullShare} V main_arg1)
        ∗ (((c : Thread nD τ).loc main_arg2) ↦{fullShare} V main_arg2)
        ∗ (((c : Thread nD τ).loc main_arg3) ↦{fullShare} V main_arg3)
        ∗ (((c : Thread nD τ).loc main_v1) ↦{fullShare} V main_v1)
        ∗ (((c : Thread nD τ).loc main_v2_0) ↦{fullShare} V main_v2_0)
        ∗ (((c : Thread nD τ).loc main_v2_1) ↦{fullShare} V main_v2_1)
        ∗ (((c : Thread nD τ).loc main_v2_2) ↦{fullShare} V main_v2_2)
        ∗ (((c : Thread nD τ).loc main_v2_3) ↦{fullShare} V main_v2_3)) := by
  unfold unscopedBufs
  exact bigSep_eq_bigSepL_of_eq [main_arg0, main_arg1, main_arg2, main_arg3, main_v1, main_v2_0, main_v2_1, main_v2_2, main_v2_3] (by decide) (by decide) _

/-- What each device starts its program from, besides the scoped buffers. -/
def T₀ (c : Dev nD) : sProp 𝕄 :=
  iprop((Pipeline.cellsSems0 (Pipeline.pin (pcfgs (F := F)) adm) 0 c ∗ Pipeline.idleSems0 (Pipeline.pin (pcfgs (F := F)) adm) cellOf_inj 0 ownSemFacts c)
    ∗ owes (c : Thread nD τ) (due c) ∅ ∗ Φ₀ m c ∗ idle m c)

/-- What a device holds through the dealing. -/
def Z (c : Dev nD) : sProp 𝕄 :=
  iprop((Pipeline.cellsSems0 (Pipeline.pin (pcfgs (F := F)) adm) 0 c ∗ Pipeline.idleSems0 (Pipeline.pin (pcfgs (F := F)) adm) cellOf_inj 0 ownSemFacts c)
    ∗ owes (c : Thread nD τ) (due c) ∅ ∗ gPts m c ∗ idle m c)

/-- The receiving buffer, which a device hands to its sibling. -/
def B (c : Dev nD) (_ : Fin 1) : sProp 𝕄 := oPts c (m ((c : Thread nD τ).loc main_v1))

theorem bigSep_one (Φ : Fin 1 → sProp 𝕄) : bigSep Finset.univ Φ = Φ 0 :=
  bigSep_univ_eq_bigSepL [0] (by decide) (by decide) Φ

theorem deal_in (c : Dev nD) : iprop(scopedSems0 (c.tc : Thread nD τ)
          ∗ unscopedBufs c (fun b => m ((c.tc : Thread nD τ).loc b)) ∗ owes (c.tc : Thread nD τ) (due c) ∅
          ∗ Pipeline.launchCred due c ∗ Exchange.G sem N N_pos (pay m) c)
      ⊢ iprop((Z m c ∗ (bigSep Finset.univ fun k : Fin 2 => semVal (cell c k) 0) ∗ Pipeline.launchCred due c ∗ Exchange.G sem N N_pos (pay m) c)
          ∗ bigSep Finset.univ (B m c)) := by
  rw [Pipeline.scopedSems0_split (Pipeline.pin (pcfgs (F := F)) adm) cellOf_inj 0 winFacts0.to₀ ownSemFacts c,
    bufs_eq c (fun b => m ((c.tc : Thread nD τ).loc b)), ownSems0_eq, bigSep_one]
  unfold Z B idle
  rw [gPts_eq, oPts_eq]
  iintro ⟨⟨⟨Hcs, Hv⟩, Hid⟩, ⟨H0, H1, H2, H3, Ho, H5, H6, H7, H8⟩, HO, HL, HG⟩
  isplitr [Ho]
  · isplitl [Hcs Hid HO H0 H1 H2 H3 H5 H6 H7 H8]
    · isplitl [Hcs Hid]; · isplitl [Hcs] <;> iassumption
      isplitl [HO]; · iexact HO
      isplitl [H3]; · iexact H3
      isplitl [H0]; · iexact H0
      isplitl [H1]; · iexact H1
      isplitl [H2]; · iexact H2
      isplitl [H5]; · iexact H5
      isplitl [H6]; · iexact H6
      isplitl [H7] <;> iassumption
    isplitl [Hv]; · iexact Hv
    isplitl [HL] <;> iassumption
  · iexact Ho

theorem deal_out (c : Dev nD) : iprop((Z m c ∗ (∃ κ, Exchange.start sem N N_pos (pay m) far κ c) ∗ bigSep land fun k => cred (tallyAt (cell c k) () N))
        ∗ bigSep Finset.univ fun j : Fin 1 => B m (sibling c) j) ⊢ (T₀ m c : sProp 𝕄) := by
  rw [bigSep_one]
  unfold T₀ Φ₀ Z B
  iintro ⟨⟨⟨Hs, HO, Hx, Hi⟩, HK, Hc⟩, HB⟩
  isplitl [Hs]; · iexact Hs
  isplitl [HO]; · iexact HO
  isplitr [Hi]
  · isplitl [HK]; · iexact HK
    isplitl [Hc]; · iexact Hc
    isplitl [Hx] <;> iassumption
  · iexact Hi

theorem hinit : (bigSep Finset.univ fun c : Dev nD => iprop(scopedSems0 (c.tc : Thread nD τ)
          ∗ unscopedBufs c (fun b => m ((c.tc : Thread nD τ).loc b)) ∗ owes (c.tc : Thread nD τ) (due c) ∅
          ∗ Pipeline.launchCred due c ∗ Exchange.G sem N N_pos (pay m) c) : sProp 𝕄)
      ⊢ |={Set.univ}=> bigSep Finset.univ (T₀ m) := by
  have hi : (bigSep Finset.univ fun c : Dev nD => iprop(scopedSems0 (c.tc : Thread nD τ)
          ∗ unscopedBufs c (fun b => m ((c.tc : Thread nD τ).loc b)) ∗ owes (c.tc : Thread nD τ) (due c) ∅
          ∗ Pipeline.launchCred due c ∗ Exchange.G sem N N_pos (pay m) c) : sProp 𝕄)
      ⊢ iprop((bigSep Finset.univ fun c : Dev nD => iprop(Z m c ∗ (bigSep Finset.univ fun k : Fin 2 => semVal (cell c k) 0) ∗ Pipeline.launchCred due c ∗ Exchange.G sem N N_pos (pay m) c))
        ∗ bigSep Finset.univ fun c : Dev nD => bigSep Finset.univ fun j : Fin 1 => B m (sibling c) j) := by
    refine (bigSep_mono fun c _ => deal_in m c).trans ?_
    rw [bigSep_sep', Exchange.swap (fun _ => sibling) (fun _ => Plane.sibling_sibling) (B m)]
    exact BI.Entails.refl _
  have hb := Exchange.begin_all (τ := τ) sem sem_inj N N_pos (pay m) far far_far land (Z m)
  have ho : iprop((bigSep Finset.univ fun c : Dev nD => iprop(Z m c ∗ (∃ κ, Exchange.start sem N N_pos (pay m) far κ c) ∗ bigSep land fun k => cred (tallyAt (cell c k) () N)))
        ∗ bigSep Finset.univ fun c : Dev nD => bigSep Finset.univ fun j : Fin 1 => B m (sibling c) j) ⊢ (bigSep Finset.univ (T₀ m) : sProp 𝕄) := by
    rw [← bigSep_sep']
    exact bigSep_mono fun c _ => deal_out m c
  iintro H
  ihave H := hi $$ H
  icases H with ⟨H, HB⟩
  imod hb $$ H with H
  imodintro
  iapply ho
  isplitl [H] <;> iassumption

/-! ## The run -/

/-- What the first call leaves. -/
def T₁ (c : Dev nD) : sProp 𝕄 := iprop(gPts m c ∗ oPts c (fin m c))

-- What a device ends with, result by result.
def grad (c : Dev nD) : S7536x1024.Idx → Elt F .f32 := AdamRegion.grads (F := F) (own m c) (fin m c)
def delta (c : Dev nD) : S7536x1024.Idx → Elt F .f32 := AdamRegion.deltas (F := F) (s := S7536x1024) (m ((c : Thread nD τ).loc main_arg0))
  (m ((c : Thread nD τ).loc main_arg1)) (m ((c : Thread nD τ).loc main_arg2)) (own m c) (fin m c)
def mean (c : Dev nD) : S7536x1024.Idx → Elt F .f32 := AdamRegion.means (F := F) (s := S7536x1024) (m ((c : Thread nD τ).loc main_arg1)) (own m c) (fin m c)
def var (c : Dev nD) : S7536x1024.Idx → Elt F .f32 := AdamRegion.vars (F := F) (s := S7536x1024) (m ((c : Thread nD τ).loc main_arg2)) (own m c) (fin m c)

/-- The end of the program at a device: its arguments as launched, and its results. -/
def Tₙ (c : Dev nD) : sProp 𝕄 :=
  iprop((((c : Thread nD τ).loc main_arg0) ↦{fullShare} m ((c : Thread nD τ).loc main_arg0))
    ∗ (((c : Thread nD τ).loc main_arg1) ↦{fullShare} m ((c : Thread nD τ).loc main_arg1))
    ∗ (((c : Thread nD τ).loc main_arg2) ↦{fullShare} m ((c : Thread nD τ).loc main_arg2))
    ∗ (((c : Thread nD τ).loc main_arg3) ↦{fullShare} m ((c : Thread nD τ).loc main_arg3))
    ∗ (((c : Thread nD τ).loc main_v2_0) ↦{fullShare} (grad m c : Buf (Elt F) ((c : Thread nD τ).loc main_v2_0)))
    ∗ (((c : Thread nD τ).loc main_v2_1) ↦{fullShare} (delta m c : Buf (Elt F) ((c : Thread nD τ).loc main_v2_1)))
    ∗ (((c : Thread nD τ).loc main_v2_2) ↦{fullShare} (mean m c : Buf (Elt F) ((c : Thread nD τ).loc main_v2_2)))
    ∗ (((c : Thread nD τ).loc main_v2_3) ↦{fullShare} (var m c : Buf (Elt F) ((c : Thread nD τ).loc main_v2_3))))

theorem second (c : Dev nD) (Q : PUnit → sProp 𝕄) :
    iprop((iprop(boundary (c.tc : Thread nD τ) ∗ Tₙ m c ∗ ∃ W, owes (c.tc : Thread nD τ) (0 : CellTallies nD τ sig Unit) W) -∗ Q ⟨⟩)
        ∗ boundary (c.tc : Thread nD τ) ∗ T₁ m c ∗ idle m c
        ∗ (∃ W, owes (c.tc : Thread nD τ) (0 : CellTallies nD τ sig Unit) W)
        ∗ Pipeline.cellsGhost (Pipeline.pin (pcfgs (F := F)) adm) EP 1 c ∗ Pipeline.toksInit (Pipeline.pin (pcfgs (F := F)) adm) EP 1 c)
      ⊢ wp frame (wpE (Pipeline.defs (pcfgs (F := F)) defs₀) (Variants.lift Variants.none) (c.tc : Thread nD τ) none) Set.univ
          (.op (.customCall (Pipeline.entry 1) ()) fun x => .ret x) Q := by
  have h := SecondCall.wp_second (pcfgs (F := F)) adm (dats m) () cellOf_inj EP defs₀ Variants.none 1 winFacts1 block_pos1 arr_whole1 stage_whole1 rfl
    (fun c => (AdamRegion.body_obligation (V₁ m) c).loose) (fun _ _ => rfl) (fun _ => rfl) (fun c => (AdamRegion.dat (V₁ m) c).share_full fun _ => rfl)
    (fun _ _ => rfl) scopedRest1_eq (V₁ m) (fun _ _ => rfl) (fun _ _ => 0) c (fun x => .ret x) Q
  have ha := Pipeline.arrays_eq (Pipeline.pin (pcfgs (F := F)) adm) (dats m) 1 c arr_whole1 ((AdamRegion.dat (V₁ m) c).share_full fun _ => rfl)
    ((dats m 1 c).arrAt · (Pipeline.pin (pcfgs (F := F)) adm 1).N)
  have e0 := V₁_else m c main_arg0 (by decide)
  have e1 := V₁_else m c main_arg1 (by decide)
  have e2 := V₁_else m c main_arg2 (by decide)
  have e3 := V₁_else m c main_arg3 (by decide)
  have hb := bufs_eq c (V₁ m c)
  rw [V₁_v1, e0, e1, e2, e3, V₁_else m c main_v2_0 (by decide), V₁_else m c main_v2_1 (by decide), V₁_else m c main_v2_2 (by decide), V₁_else m c main_v2_3 (by decide)] at hb
  have v0 : (AdamRegion.dat (V₁ m) c).arrAt 0 cfg1.N = m ((c : Thread nD τ).loc main_arg0) :=
    ((AdamRegion.dat (V₁ m) c).arrAt_in 0 rfl _).trans e0
  have v1 : (AdamRegion.dat (V₁ m) c).arrAt 1 cfg1.N = m ((c : Thread nD τ).loc main_arg1) :=
    ((AdamRegion.dat (V₁ m) c).arrAt_in 1 rfl _).trans e1
  have v2 : (AdamRegion.dat (V₁ m) c).arrAt 2 cfg1.N = m ((c : Thread nD τ).loc main_arg2) :=
    ((AdamRegion.dat (V₁ m) c).arrAt_in 2 rfl _).trans e2
  have v3 : (AdamRegion.dat (V₁ m) c).arrAt 3 cfg1.N = m ((c : Thread nD τ).loc main_arg3) :=
    ((AdamRegion.dat (V₁ m) c).arrAt_in 3 rfl _).trans e3
  have v5 : (AdamRegion.dat (V₁ m) c).arrAt 5 cfg1.N = grad m c :=
    (AdamRegion.resultGrad (V₁ m) c).trans (by rw [e3, V₁_v1]; rfl)
  have v6 : (AdamRegion.dat (V₁ m) c).arrAt 6 cfg1.N = delta m c :=
    (AdamRegion.resultDelta (V₁ m) c).trans (by rw [e0, e1, e2, e3, V₁_v1]; rfl)
  have v7 : (AdamRegion.dat (V₁ m) c).arrAt 7 cfg1.N = mean m c :=
    (AdamRegion.resultMean (V₁ m) c).trans (by rw [e1, e3, V₁_v1]; rfl)
  have v8 : (AdamRegion.dat (V₁ m) c).arrAt 8 cfg1.N = var m c :=
    (AdamRegion.resultVar (V₁ m) c).trans (by rw [e2, e3, V₁_v1]; rfl)
  unfold T₁ Tₙ idle
  rw [gPts_eq, oPts_eq]
  iintro ⟨Hk, Hb, ⟨Hx, Ho⟩, ⟨H0, H1, H2, H5, H6, H7, H8⟩, HO, Hg, Ht⟩
  iapply h
  isplitl [Hk]
  · iintro ⟨Hb, Ha, -, HO⟩
    rw [wp_ret]
    imodintro
    iapply Hk
    isplitl [Hb]; · iexact Hb
    isplitr [HO]
    · ihave Ha := (Entails.of_eq ha) $$ Ha
      ihave Ha := (Entails.of_eq (bigSep_W1 _)) $$ Ha
      icases Ha with ⟨A0, A1, A2, A3, -, A5, A6, A7, A8⟩
      rw [← v0, ← v1, ← v2, ← v3, ← v5, ← v6, ← v7, ← v8]
      isplitl [A0]; · iexact A0
      isplitl [A1]; · iexact A1
      isplitl [A2]; · iexact A2
      isplitl [A3]; · iexact A3
      isplitl [A5]; · iexact A5
      isplitl [A6]; · iexact A6
      isplitl [A7]; · iexact A7
      iexact A8
    · iexact HO
  isplitl [Hb]; · iexact Hb
  isplitl [Hx Ho H0 H1 H2 H5 H6 H7 H8]
  · iapply (Entails.of_eq hb.symm)
    isplitl [H0]; · iexact H0
    isplitl [H1]; · iexact H1
    isplitl [H2]; · iexact H2
    isplitl [Hx]; · iexact Hx
    isplitl [Ho]; · iexact Ho
    isplitl [H5]; · iexact H5
    isplitl [H6]; · iexact H6
    isplitl [H7] <;> iassumption
  isplitl [HO]; · iexact HO
  isplitl [Hg] <;> iassumption

theorem hrun (c : Dev nD) : iprop(scopedBufs (c.tc : Thread nD τ) ∗ opIdle (c.tc : Thread nD τ) ∗ T₀ m c
      ∗ Pipeline.ghostOn (pcfgs (F := F)) adm EP Finset.univ c)
    ⊢ wp frame (wpE (Pipeline.defs (pcfgs (F := F)) defs₀) (Variants.lift Variants.none) (c.tc : Thread nD τ) none) Set.univ (main (F := F) c) fun _ =>
        iprop(boundary (c.tc : Thread nD τ) ∗ Tₙ m c ∗ ∃ W, owes (c.tc : Thread nD τ) (0 : CellTallies nD τ sig Unit) W) := by
  have h := FirstTalk.wp_first (pcfgs (F := F)) adm (dats m) () cellOf_inj EP defs₀ Variants.none 0 (K := Fin 2) (osem := osem) winFacts0.to₀ ownSemFacts rfl rfl
    (fun _ _ => 0) c (due c) (Φ₀ m c) (T₁ m c) (body_obligation m c) rfl
    (by
      rw [show (dats m 0 c).Φ 0 = iprop(Φ₀ m c ∗ others c) from rfl]
      exact BI.Entails.refl _)
    (by
      rw [show (dats m 0 c).Φ (Fin.last (Pipeline.pin (pcfgs (F := F)) adm 0).N) = iprop(bodyPost m c ∗ others c) from rfl, ownSems0_eq]
      unfold bodyPost T₁
      iintro ⟨⟨Hx, Ho, Hz⟩, HR⟩
      isplitl [Hx Ho]; · isplitl [Hx] <;> iassumption
      isplitl [Hz]; · iexact Hz
      iexact HR)
    (fun _ => .op (.customCall (Pipeline.entry 1) ()) fun x => .ret x)
    fun _ => iprop(boundary (c.tc : Thread nD τ) ∗ Tₙ m c ∗ ∃ W, owes (c.tc : Thread nD τ) (0 : CellTallies nD τ sig Unit) W)
  show _ ⊢ wp frame (wpE (Pipeline.defs (pcfgs (F := F)) defs₀) (Variants.lift Variants.none) (c.tc : Thread nD τ) none) Set.univ
    (.op (.customCall (Pipeline.entry 0) ()) fun _ => .op (.customCall (Pipeline.entry 1) ()) fun x => .ret x) _
  unfold T₀
  rw [show (Pipeline.ghostOn (pcfgs (F := F)) adm EP Finset.univ c : sProp 𝕄) = _ from
      Pipeline.PerCore.ghostOn_erase (pcfgs (F := F)) (fun _ : Dev nD => adm) EP (Finset.mem_univ (0 : Fin 2)) c,
    Pipeline.PerCore.ghostOn_erase (pcfgs (F := F)) (fun _ : Dev nD => adm) EP (p := 1) (S := Finset.univ.erase (0 : Fin 2)) (by decide) c]
  iintro ⟨Hsb, Hid, ⟨⟨Hcs, His⟩, HO, HΦ, H2⟩, ⟨Hg, Ht⟩, ⟨Hg', Ht'⟩, -⟩
  iapply h
  isplitr [Hsb Hid Hcs His HO HΦ Hg Ht]
  · iintro ⟨Hb, HT, HO⟩
    iapply (second m c _)
    isplitr [Hb HT HO H2 Hg' Ht']
    · iintro H; iexact H
    isplitl [Hb]; · iexact Hb
    isplitl [HT]; · iexact HT
    isplitl [H2]; · iexact H2
    isplitl [HO]
    · unfold Dat.owesAt Pipeline.owesWithin
      icases HO with ⟨%W, -, HO⟩
      iexists W
      iexact HO
    isplitl [Hg'] <;> iassumption
  isplitl [Hsb]; · iexact Hsb
  isplitl [Hid]; · iexact Hid
  isplitl [Hcs]; · iexact Hcs
  isplitl [His]; · iexact His
  isplitl [HO]; · iexact HO
  isplitl [HΦ]; · iexact HΦ
  isplitl [Hg] <;> iassumption

theorem run_main (g : Dev nD → PrngReg) : θ_run (defs (F := F)) (onTc (τ := τ) (main (F := F))) ⟨m, fun _ => 0, g⟩ (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_v2_0) = grad m c
      ∧ r.2.mem ((c : Thread nD τ).loc main_v2_1) = delta m c
      ∧ r.2.mem ((c : Thread nD τ).loc main_v2_2) = mean m c
      ∧ r.2.mem ((c : Thread nD τ).loc main_v2_3) = var m c) ∧ r.2.sem = fun _ => 0) :=
  FirstTalk.run_all (pcfgs (F := F)) adm cellOf_inj EP defs₀ Variants.none m g main due (Exchange.G sem N N_pos (pay m))
    (initOf (Pipeline.cells cfgs cellOf_inj) (Pipeline.launchToks cfgs cellOf_inj), initOf (Exchange.cells sem sem_inj) (Exchange.toks sem sem_inj))
    (by
      iintro Hu
      ihave H := (ownU_pair _ _) $$ Hu
      icases H with ⟨HP, HX⟩
      imod (Exchange.fund sem sem_inj N N_pos (pay m)) $$ HX with HG
      imodintro
      isplitl [HP] <;> iassumption)
    (T₀ m) (Tₙ m) (hinit m) (hrun m)
    (fun c s => s.mem ((c : Thread nD τ).loc main_arg0) = m ((c : Thread nD τ).loc main_arg0)
      ∧ s.mem ((c : Thread nD τ).loc main_arg1) = m ((c : Thread nD τ).loc main_arg1)
      ∧ s.mem ((c : Thread nD τ).loc main_arg2) = m ((c : Thread nD τ).loc main_arg2)
      ∧ s.mem ((c : Thread nD τ).loc main_arg3) = m ((c : Thread nD τ).loc main_arg3)
      ∧ s.mem ((c : Thread nD τ).loc main_v2_0) = grad m c
      ∧ s.mem ((c : Thread nD τ).loc main_v2_1) = delta m c
      ∧ s.mem ((c : Thread nD τ).loc main_v2_2) = mean m c
      ∧ s.mem ((c : Thread nD τ).loc main_v2_3) = var m c)
    (fun c s' => by
      unfold Tₙ
      iintro ⟨⟨H0, H1, H2, H3, H4, H5, H6, H7⟩, HSI⟩
      ihave %h0 := SI_pointsTo_agree $$ [HSI H0]
      · isplitl [HSI] <;> iassumption
      ihave %h1 := SI_pointsTo_agree $$ [HSI H1]
      · isplitl [HSI] <;> iassumption
      ihave %h2 := SI_pointsTo_agree $$ [HSI H2]
      · isplitl [HSI] <;> iassumption
      ihave %h3 := SI_pointsTo_agree $$ [HSI H3]
      · isplitl [HSI] <;> iassumption
      ihave %h4 := SI_pointsTo_agree $$ [HSI H4]
      · isplitl [HSI] <;> iassumption
      ihave %h5 := SI_pointsTo_agree $$ [HSI H5]
      · isplitl [HSI] <;> iassumption
      ihave %h6 := SI_pointsTo_agree $$ [HSI H6]
      · isplitl [HSI] <;> iassumption
      ihave %h7 := SI_pointsTo_agree $$ [HSI H7]
      · isplitl [HSI] <;> iassumption
      imodintro
      isplitr
      · ipureintro
        exact ⟨funext fun i => h0 i (Finset.mem_univ i), funext fun i => h1 i (Finset.mem_univ i), funext fun i => h2 i (Finset.mem_univ i), funext fun i => h3 i (Finset.mem_univ i), funext fun i => h4 i (Finset.mem_univ i), funext fun i => h5 i (Finset.mem_univ i), funext fun i => h6 i (Finset.mem_univ i), funext fun i => h7 i (Finset.mem_univ i)⟩
      iexact HSI)
    (fun s h hs => ⟨h, sem_eq_zero_of_scoped (by decide) hs⟩)

end Cert.UpdateRun
-- ==== Proof.UpdateClaims.lean ====
/- The third exchange's claims: both frames, the reference's, and the equations of the four results. -/
module

public import proofs.«01_k».proof.Defs
public import proofs.«01_k».proof.Proof.UpdateRun
public import proofs.«01_k».proof.Proof.Blocks
public import proofs.«01_k».proof.Proof.Gen.Update
public import proofs.«01_k».proof.Proof.Gen.UpdateRefIdeal.Run

@[expose] public section

set_option maxRecDepth 16384

noncomputable section

namespace Cert.UpdateClaims

open Idealize.ShloMosaic Idealize.ShloMosaic.ValueIdx Idealize.ShloMosaic.TcCoe Idealize.SL.Sem
open Cert.Plane (pos sibling)
open Cert.AdamRegion (gradOf meanOf varOf deltaOf)
open Cert.UpdateRefIdeal Cert.UpdateRefIdeal.Gen

theorem frame_ideal : Cert.quiescent_UpdateIdeal := fun m g _ =>
  (θ_run Cert.UpdateIdeal.defs _ _).mono (fun _ h => ⟨fun c => ⟨(h.1 c).1, (h.1 c).2.1, (h.1 c).2.2.1, (h.1 c).2.2.2.1⟩, h.2⟩)
    (UpdateRun.run_main (F := Ideal) m g)

/-- The program read at the machine's own numbers calls the same bodies. -/
theorem bodies : Cert.Update.defs₀ (F := Bits) = Cert.UpdateIdeal.defs₀ (F := Bits) :=
  congrArg Defs.onTc (funext fun l => funext fun _ => match l with | 0 => rfl | 1 => rfl)

theorem frame_bits : Cert.quiescent_Update := fun m g _ => by
  have hd : Cert.Update.defs (F := Bits) = Cert.UpdateIdeal.defs (F := Bits) := congrArg (Pipeline.defs Cert.UpdateIdeal.pcfgs) bodies
  rw [hd]
  exact (θ_run Cert.UpdateIdeal.defs _ _).mono (fun _ h => ⟨fun c => ⟨(h.1 c).1, (h.1 c).2.1, (h.1 c).2.2.1, (h.1 c).2.2.2.1⟩, h.2⟩)
    (UpdateRun.run_main (F := Bits) m g)

theorem frame_ref : Cert.quiescent_UpdateRefIdeal := fun m g _ =>
  (θ_run Cert.UpdateRefIdeal.defs _ _).mono (fun r h => ⟨fun c => (h c).2.2.2.2, sem_eq_zero_of_no_sems (by decide) r.2⟩)
    (Cert.UpdateRefIdeal.Value.run m g)

/-! ## The reference's gradient, entry by entry

Its rows are the four parts of the plane, each the sum of the parts of two devices. -/

abbrev Whole : Type := FVec Ideal S30144x1024 .f32
abbrev Sums : Type := FVec Ideal S60288x1024 .f32

/-- The device at place `p` in the plane that member `b` of the pairs is in. -/
abbrev member (p : Fin 4) (b : Fin 2) : Dev 8 := ⟨2 * p.val + b.val, by omega⟩

/-- One plane's parts, as the reference takes them out. -/
theorem plane_apply (v : Sums) (b : Fin 2) (off : Fin 4 → Nat) (hoff : off = ![0, b.val, 0, 0])
    (hs : S4x2x7536x1024.Slices off S4x1x7536x1024) (p : Fin 4) (r : Fin 7536) (l : Fin 1024) :
    shapeCast S4x7536x1024 (extractStridedSlice S4x1x7536x1024 off (shapeCast S4x2x7536x1024 v shapeCasts_S60288x1024_S4x2x7536x1024) hs)
        shapeCasts_S4x1x7536x1024_S4x7536x1024 (ix3 p r l)
      = v (ix2 (Blocks.row8 (member p b) r) l) := by
  subst hoff
  rw [shapeCast_apply _ _ (ix3 p r l) (ix4 p (0 : Fin 1) r l : S4x1x7536x1024.Idx)
    (by rw [Shape.rowMajor_val_four, Shape.rowMajor_val_three]
        show (((p.val * 1 + 0) * 7536 + r.val) * 1024 + l.val) = (p.val * 7536 + r.val) * 1024 + l.val
        omega)]
  rw [extractStridedSlice_apply _ _ _ _ (ix4 p b r l : S4x2x7536x1024.Idx) (fun a => by
    match a with
    | 0 => show p.val = 0 + p.val; omega
    | 1 => show b.val = b.val + 0; omega
    | 2 => show r.val = 0 + r.val; omega
    | 3 => show l.val = 0 + l.val; omega)]
  refine shapeCast_apply _ _ _ _ ?_
  rw [Shape.rowMajor_val_four, Shape.rowMajor_val_two]
  show ((2 * p.val + b.val) * 7536 + r.val) * 1024 + l.val = ((p.val * 2 + b.val) * 7536 + r.val) * 1024 + l.val
  omega

/-- The sum of the two planes' parts. -/
abbrev both (v : Sums) : Whole :=
  shapeCast S30144x1024 (addf
    (shapeCast S4x7536x1024 (extractStridedSlice S4x1x7536x1024 ![0, 0, 0, 0] (shapeCast S4x2x7536x1024 v shapeCasts_S60288x1024_S4x2x7536x1024)
      slices_S4x2x7536x1024_S4x1x7536x1024_0_0_0_0) shapeCasts_S4x1x7536x1024_S4x7536x1024)
    (shapeCast S4x7536x1024 (extractStridedSlice S4x1x7536x1024 ![0, 1, 0, 0] (shapeCast S4x2x7536x1024 v shapeCasts_S60288x1024_S4x2x7536x1024)
      slices_S4x2x7536x1024_S4x1x7536x1024_0_1_0_0) shapeCasts_S4x1x7536x1024_S4x7536x1024)) shapeCasts_S4x7536x1024_S30144x1024

theorem both_apply (v : Sums) (p : Fin 4) (r : Fin 7536) (l : Fin 1024) :
    both v (ix2 (Blocks.row p r) l)
      = gradOf (F := Ideal) (v (ix2 (Blocks.row8 (member p 0) r) l)) (v (ix2 (Blocks.row8 (member p 1) r) l)) := by
  refine (shapeCast_apply _ _ (ix2 (Blocks.row p r) l) (ix3 p r l : S4x7536x1024.Idx)
    (by rw [Shape.rowMajor_val_three, Shape.rowMajor_val_two]; rfl)).trans ?_
  exact congr (congrArg (FloatOps.addf (F := Ideal) (φ := .f32)) (plane_apply v 0 _ rfl _ p r l)) (plane_apply v 1 _ rfl _ p r l)

/-- Addition at the extended reals doesn't see which of the pair a device is. -/
theorem grad_comm (x y : Ideal .f32) : gradOf x y = gradOf y x := add_comm (G := EReal) x y

theorem members (c : Dev 8) : (member (pos c) 0 = c ∧ member (pos c) 1 = sibling c) ∨ (member (pos c) 0 = sibling c ∧ member (pos c) 1 = c) := by
  revert c; decide

/-- At a device's rows, the sum of its part and its sibling's. -/
theorem both_at (v : Sums) (c : Dev 8) (r : Fin 7536) (l : Fin 1024) :
    both v (ix2 (Blocks.row (pos c) r) l)
      = gradOf (F := Ideal) (v (ix2 (Blocks.row8 c r) l)) (v (ix2 (Blocks.row8 (sibling c) r) l)) := by
  refine (both_apply v (pos c) r l).trans ?_
  rcases members c with ⟨h0, h1⟩ | ⟨h0, h1⟩
  · rw [h0, h1]
  · rw [h0, h1]; exact grad_comm _ _

/-! ## The update, entry by entry -/

abbrev konst (b : BitVec 32) : Whole := broadcastInDim S30144x1024 ![] bcast_S_S30144x1024 (constant (F := Ideal) S_ .f32 b)

abbrev refMean (x G : Whole) : Whole := addf (mulf (konst 0x3F666666#32) x) (mulf (konst 0x3DCCCCCD#32) G)
abbrev refVar (x G : Whole) : Whole := addf (mulf (konst 0x3F7FBE77#32) x) (mulf (konst 0x3A83126F#32) (mulf G G))
abbrev refDelta (w x y G : Whole) : Whole := mulf (konst 0xBA83126F#32)
  (addf (Host.divf (Host.divf (refMean x G) (konst 0x3F26BD02#32))
    (addf (Host.sqrt (Host.divf (refVar y G) (konst 0x3C231ACC#32))) (konst 0x322BCC77#32))) (mulf (konst 0x3C23D70A#32) w))

theorem mean_at (x G : Whole) (j : S30144x1024.Idx) (a b : Ideal .f32) (h : G j = gradOf a b) : refMean x G j = meanOf (F := Ideal) (x j) a b := by
  show FloatOps.addf (F := Ideal) (φ := .f32) _ (FloatOps.mulf (F := Ideal) (φ := .f32) _ (G j)) = _
  rw [h]
  rfl

theorem var_at (x G : Whole) (j : S30144x1024.Idx) (a b : Ideal .f32) (h : G j = gradOf a b) : refVar x G j = varOf (F := Ideal) (x j) a b := by
  show FloatOps.addf (F := Ideal) (φ := .f32) _ (FloatOps.mulf (F := Ideal) (φ := .f32) _ (FloatOps.mulf (F := Ideal) (φ := .f32) (G j) (G j))) = _
  rw [h]
  rfl

theorem delta_at (w x y G : Whole) (j : S30144x1024.Idx) (a b : Ideal .f32) (h : G j = gradOf a b) :
    refDelta w x y G j = deltaOf (F := Ideal) (w j) (x j) (y j) a b := by
  have h1 := mean_at x G j a b h
  have h2 := var_at y G j a b h
  unfold deltaOf
  rw [← h1, ← h2]
  rfl

section Values

variable (m : (ℓ : Loc Cert.UpdateIdeal.nD Cert.UpdateIdeal.τ Cert.UpdateIdeal.sig) → Buf (Elt Ideal) ℓ)

abbrev part (c : Dev 8) (v : Whole) : Cert.UpdateIdeal.S7536x1024.Idx → Elt Ideal .f32 :=
  Layout.blockN ⟨2, ![7536, 1024]⟩ ⟨2, ![30144, 1024]⟩ (Layout.meshBlock [2, 2, 2] ![[0, 1], []] c) v

variable (v : Sums) (hm : ∀ c : Dev 8, UpdateRun.own m c = Layout.block ⟨2, ![7536, 1024]⟩ ⟨2, ![60288, 1024]⟩ 0 8 c v)
include hm

theorem own_at (c : Dev 8) (i : Cert.UpdateIdeal.S7536x1024.Idx) : UpdateRun.own m c i = v (ix2 (Blocks.row8 c (i 0)) (i 1)) :=
  (congrFun (hm c) i).trans (Blocks.part_eight c v i)

theorem sum_at (c : Dev 8) (i : Cert.UpdateIdeal.S7536x1024.Idx) :
    both v (ix2 (Blocks.row (pos c) (i 0)) (i 1)) = gradOf (F := Ideal) (UpdateRun.own m c i) (UpdateRun.fin m c i) :=
  (both_at v c (i 0) (i 1)).trans
    (congr (congrArg (gradOf (F := Ideal)) (own_at m v hm c i).symm) (own_at m v hm (sibling c) i).symm)

theorem grad_eq (c : Dev 8) : UpdateRun.grad m c = part c (both v) := funext fun i =>
  (sum_at m v hm c i).symm.trans (Blocks.part_plane c (both v) i).symm

variable (w x y : Whole) (c : Dev 8)

theorem mean_eq (hx : m ((c : Thread Cert.UpdateIdeal.nD Cert.UpdateIdeal.τ).loc Cert.UpdateIdeal.main_arg1) = part c x) :
    UpdateRun.mean m c = part c (refMean x (both v)) := funext fun i =>
  Eq.trans (congrArg (fun t => meanOf (F := Ideal) t (UpdateRun.own m c i) (UpdateRun.fin m c i)) ((congrFun hx i).trans (Blocks.part_plane c x i)))
    ((mean_at x (both v) _ _ _ (sum_at m v hm c i)).symm.trans (Blocks.part_plane c (refMean x (both v)) i).symm)

theorem var_eq (hy : m ((c : Thread Cert.UpdateIdeal.nD Cert.UpdateIdeal.τ).loc Cert.UpdateIdeal.main_arg2) = part c y) :
    UpdateRun.var m c = part c (refVar y (both v)) := funext fun i =>
  Eq.trans (congrArg (fun t => varOf (F := Ideal) t (UpdateRun.own m c i) (UpdateRun.fin m c i)) ((congrFun hy i).trans (Blocks.part_plane c y i)))
    ((var_at y (both v) _ _ _ (sum_at m v hm c i)).symm.trans (Blocks.part_plane c (refVar y (both v)) i).symm)

theorem delta_eq (hw : m ((c : Thread Cert.UpdateIdeal.nD Cert.UpdateIdeal.τ).loc Cert.UpdateIdeal.main_arg0) = part c w)
    (hx : m ((c : Thread Cert.UpdateIdeal.nD Cert.UpdateIdeal.τ).loc Cert.UpdateIdeal.main_arg1) = part c x)
    (hy : m ((c : Thread Cert.UpdateIdeal.nD Cert.UpdateIdeal.τ).loc Cert.UpdateIdeal.main_arg2) = part c y) :
    UpdateRun.delta m c = part c (refDelta w x y (both v)) := funext fun i =>
  Eq.trans (congrFun (congrFun (congr (congr (congrArg (deltaOf (F := Ideal)) ((congrFun hw i).trans (Blocks.part_plane c w i)))
      ((congrFun hx i).trans (Blocks.part_plane c x i))) ((congrFun hy i).trans (Blocks.part_plane c y i))) (UpdateRun.own m c i)) (UpdateRun.fin m c i))
    ((delta_at w x y (both v) _ _ _ (sum_at m v hm c i)).symm.trans (Blocks.part_plane c (refDelta w x y (both v)) i).symm)

end Values

/-- The reference's run, its results in the terms above. -/
theorem ref_run (m' : (ℓ : Loc Cert.UpdateRefIdeal.nD Cert.UpdateRefIdeal.τ Cert.UpdateRefIdeal.sig) → Buf (Elt Ideal) ℓ)
    (g' : Dev Cert.UpdateRefIdeal.nD → PrngReg) (w x y : Whole) (v : Sums)
    (hw : m' (((0 : Dev Cert.UpdateRefIdeal.nD).tc : Thread Cert.UpdateRefIdeal.nD Cert.UpdateRefIdeal.τ).loc main_arg0) = w)
    (hx : m' (((0 : Dev Cert.UpdateRefIdeal.nD).tc : Thread Cert.UpdateRefIdeal.nD Cert.UpdateRefIdeal.τ).loc main_arg1) = x)
    (hy : m' (((0 : Dev Cert.UpdateRefIdeal.nD).tc : Thread Cert.UpdateRefIdeal.nD Cert.UpdateRefIdeal.τ).loc main_arg2) = y)
    (hv : m' (((0 : Dev Cert.UpdateRefIdeal.nD).tc : Thread Cert.UpdateRefIdeal.nD Cert.UpdateRefIdeal.τ).loc main_arg3) = v) :
    θ_run (Cert.UpdateRefIdeal.defs (F := Ideal)) (onTc (τ := Cert.UpdateRefIdeal.τ) (Cert.UpdateRefIdeal.main (F := Ideal))) ⟨m', fun _ => 0, g'⟩ fun r =>
      r.2.mem (((0 : Dev Cert.UpdateRefIdeal.nD).tc : Thread Cert.UpdateRefIdeal.nD Cert.UpdateRefIdeal.τ).loc main_v6) = both v
      ∧ r.2.mem (((0 : Dev Cert.UpdateRefIdeal.nD).tc : Thread Cert.UpdateRefIdeal.nD Cert.UpdateRefIdeal.τ).loc main_v30) = refDelta w x y (both v)
      ∧ r.2.mem (((0 : Dev Cert.UpdateRefIdeal.nD).tc : Thread Cert.UpdateRefIdeal.nD Cert.UpdateRefIdeal.τ).loc main_v11) = refMean x (both v)
      ∧ r.2.mem (((0 : Dev Cert.UpdateRefIdeal.nD).tc : Thread Cert.UpdateRefIdeal.nD Cert.UpdateRefIdeal.τ).loc main_v17) = refVar y (both v)
      ∧ r.2.mem (((0 : Dev Cert.UpdateRefIdeal.nD).tc : Thread Cert.UpdateRefIdeal.nD Cert.UpdateRefIdeal.τ).loc main_arg0) = w
      ∧ r.2.mem (((0 : Dev Cert.UpdateRefIdeal.nD).tc : Thread Cert.UpdateRefIdeal.nD Cert.UpdateRefIdeal.τ).loc main_arg1) = x
      ∧ r.2.mem (((0 : Dev Cert.UpdateRefIdeal.nD).tc : Thread Cert.UpdateRefIdeal.nD Cert.UpdateRefIdeal.τ).loc main_arg2) = y
      ∧ r.2.mem (((0 : Dev Cert.UpdateRefIdeal.nD).tc : Thread Cert.UpdateRefIdeal.nD Cert.UpdateRefIdeal.τ).loc main_arg3) = v := by
  subst hw hx hy hv
  refine (θ_run Cert.UpdateRefIdeal.defs _ _).mono (fun r h => ?_) (Cert.UpdateRefIdeal.Value.run m' g')
  obtain ⟨h6, h30, h11, h17, ha⟩ := h 0
  exact ⟨h6, h30, h11, h17, ha⟩

theorem algebraic : Cert.algebraic_UpdateIdeal_UpdateRefIdeal := fun m g m' g' _ hm =>
  ⟨_, _, _, _, (θ_run Cert.UpdateIdeal.defs _ _).mono (fun _ h c =>
      have hs := fun d => (hm d).2.2.2
      have ⟨h0, h1, h2, h3, hg, hd, hn, hv⟩ := h.1 c
      ⟨hg.trans (grad_eq m _ hs c), hd.trans (delta_eq m _ hs _ _ _ c (hm c).1 (hm c).2.1 (hm c).2.2.1),
        hn.trans (mean_eq m _ hs _ c (hm c).2.1), hv.trans (var_eq m _ hs _ c (hm c).2.2.1), h0, h1, h2, h3⟩) (UpdateRun.run_main (F := Ideal) m g),
    ref_run m' g' _ _ _ _ rfl rfl rfl rfl⟩

end Cert.UpdateClaims

end
-- ==== Proof.LossClaims.lean ====
/- The loss of the example: both frames, the reference's, and the equation of the results. -/
module

public import proofs.«01_k».proof.Defs
public import proofs.«01_k».proof.Proof.Gen.Loss
public import proofs.«01_k».proof.Proof.Gen.LossIdeal
public import proofs.«01_k».proof.Proof.Gen.LossIdeal.Value
public import proofs.«01_k».proof.Proof.Gen.LossRefIdeal.Run
public import Idealize.ShloMosaic.Lib.Pipeline.ValueKit
public import Idealize.ShloMosaic.Lib.Quiescent

@[expose] public section

set_option maxRecDepth 16384

noncomputable section

namespace Cert.LossClaims

open Idealize.ShloMosaic Idealize.ShloMosaic.TcCoe Idealize.SL.Sem
open Idealize.ShloMosaic.Pipeline (Dat)
open Cert.LossIdeal Cert.LossIdeal.Gen

/-- Where each window stands at a tile: the stream's at the tile itself, the target's one tile earlier, for it has no context. -/
theorem places : ∀ t : Fin cfg0.N, win0_0.index t = ![t.val, 0] ∧ win0_1.index t = ![t.val, 0] ∧ win0_2.index t = ![0, 5]
    ∧ win0_3.index t = ![0, 0] ∧ win0_4.index t = ![t.val - 1, 0] ∧ win0_5.index t = ![0, 0]
    ∧ win0_6.index t = ![t.val, 0] ∧ win0_7.index t = ![t.val, 0] ∧ win0_8.index t = ![0, 0] ∧ win0_9.index t = ![0, 0] :=
  (by decide +kernel : ∀ t : Fin grid0.N, _)

/-- The last tile alone writes the loss back. -/
theorem last : ∀ t : Fin cfg0.N, (cfg0.win 5).flush t = true → t.val = 32 :=
  (by decide +kernel : ∀ t : Fin grid0.N, win0_5.flush t = true → t.val = 32)

/-! ## Half a sum

Multiplication by one half passes through a sum of extended reals, whatever the terms. -/

abbrev half : EReal := Ideal.ofBits .f32 0x3F000000#32

theorem half_eq : half = ((1 / 2 : ℝ) : EReal) := by
  have hn : (((0x3F000000#32 : BitVec 32).extractLsb' 31 1 == 1#1) : Bool) = false := by decide
  have he : ((0x3F000000#32 : BitVec 32).extractLsb' 23 8).toNat = 126 := by decide
  have hf : ((0x3F000000#32 : BitVec 32).extractLsb' 0 23).toNat = 0 := by decide
  show Ideal.ieee 8 23 (0x3F000000#32 : BitVec 32) = _
  unfold Ideal.ieee
  simp only [hn, he, hf]
  norm_num

theorem half_sum {ι : Type*} (s : Finset ι) (f : ι → EReal) : half * ∑ i ∈ s, f i = ∑ i ∈ s, half * f i := by
  classical
  induction s using Finset.induction_on with
  | empty => simp
  | insert a s ha ih =>
    rw [Finset.sum_insert ha, Finset.sum_insert ha, ← ih]
    refine EReal.left_distrib_of_nonneg_of_ne_top ?_ ?_ _ _
    · rw [half_eq]; exact_mod_cast (by norm_num : (0 : ℝ) ≤ 1 / 2)
    · rw [half_eq]; exact EReal.coe_ne_top _

/-- Tiles of which the first adds nothing and the others half of their 256 rows each: half of all the rows. -/
theorem tiles {N : Nat} (hN : N = 33) (S : Fin N → EReal) (g : Fin 8192 → EReal) (h0 : ∀ p : Fin N, p.val = 0 → S p = 0)
    (h1 : ∀ (p : Fin N) (s : Fin 32), p.val = s.val + 1 → S p = half * ∑ r : Fin 256, g ⟨s.val * 256 + r.val, by omega⟩) :
    ∑ p, S p = half * ∑ x, g x := by
  subst hN
  rw [Fin.sum_univ_succ, h0 0 rfl, zero_add, ← Fin.sum_mul_add_fin 32 256 g, half_sum]
  exact Finset.sum_congr rfl fun s _ => h1 _ s rfl

/-! ## The tiles' shares -/

/-- Whether a tile counts. -/
theorem counts_first : ∀ t : Fin cfg0.N, t.val = 0 → Scalar.cmpi .slt (BitVec.ofNat 32 (grid0.coords t 0).val) 1#32 = 1#1 :=
  (by decide +kernel : ∀ t : Fin grid0.N, t.val = 0 → Scalar.cmpi .slt (BitVec.ofNat 32 (grid0.coords t 0).val) 1#32 = 1#1)

theorem counts_later : ∀ t : Fin cfg0.N, 1 ≤ t.val → Scalar.cmpi .slt (BitVec.ofNat 32 (grid0.coords t 0).val) 1#32 = 0#1 :=
  (by decide +kernel : ∀ t : Fin grid0.N, 1 ≤ t.val → Scalar.cmpi .slt (BitVec.ofNat 32 (grid0.coords t 0).val) 1#32 = 0#1)

theorem weight_first (t : Fin cfg0.N) (h : t.val = 0) : k0_pay6 (F := Ideal) (grid0.coords t) = (0 : EReal) := by
  have := counts_first t h
  pointwise [k0_pay6, this]

theorem weight_later (t : Fin cfg0.N) (h : 1 ≤ t.val) : k0_pay6 (F := Ideal) (grid0.coords t) = (1 : EReal) := by
  have := counts_later t h
  pointwise [k0_pay6, this]

theorem share (v : EReal) (a : FVec Ideal S1x1 .f32) (j : S8x128.Idx) :
    k0_pay2 (F := Ideal) (k0_pay17 v a k0_pay16) j = half * a (ix2 0 0) * v := by
  pointwise [k0_pay2, k0_pay17, k0_pay16]

theorem added (v : EReal) (a : FVec Ideal S1x1 .f32) (b : Vec Ideal S8x128 .f32) (j : S8x128.Idx) :
    k0_pay3 (F := Ideal) (k0_pay17 v a k0_pay16) b j = b j + half * a (ix2 0 0) * v := by
  pointwise [k0_pay3, k0_pay2, k0_pay17, k0_pay16]

theorem width_ne : Ideal.ofBits .f32 0x44800000#32 ≠ 0 := by
  have hn : (((0x44800000#32 : BitVec 32).extractLsb' 31 1 == 1#1) : Bool) = false := by decide
  have he : ((0x44800000#32 : BitVec 32).extractLsb' 23 8).toNat = 137 := by decide
  have hf : ((0x44800000#32 : BitVec 32).extractLsb' 0 23).toNat = 0 := by decide
  show Ideal.ieee 8 23 (0x44800000#32 : BitVec 32) ≠ _
  unfold Ideal.ieee
  simp only [hn, he, hf]
  norm_num

/-- The cotangent of one squared error. -/
abbrev unit : EReal := Ideal.div half (Ideal.ofBits .f32 0x44800000#32)

/-- The cotangent of a tile that doesn't count is zero, and so is all that comes of it. -/
theorem back_first (a : FVec Ideal S256x1024 .f32) (j : S256x1024.Idx) : k0_pay18 (F := Ideal) (0 : EReal) a j = (0 : EReal) := by
  pointwise [k0_pay18]
  simp only [mul_zero, zero_mul, Ideal.zero_div width_ne, Finset.sum_const_zero]

theorem back_later (a : FVec Ideal S256x1024 .f32) (j : S256x1024.Idx) :
    k0_pay18 (F := Ideal) (1 : EReal) a j = unit * a j := by
  pointwise [k0_pay18]
  simp only [mul_one, Finset.univ_unique, Finset.sum_singleton]

theorem none_res (v5 : Vec Ideal S1x1024 .f32) (v10 : FVec Ideal S256x1024 .f32) (v18 v21 : FVec Ideal S256x1 .f32)
    (v29 : FVec Ideal S256x1024 .f32) (j : S256x1024.Idx) : k0_pay20 (F := Ideal) (0 : EReal) v5 v10 v18 v21 v29 j = (0 : EReal) := by
  pointwise [k0_pay20, back_first]
  simp only [mul_zero, zero_mul, add_zero, Ideal.zero_div width_ne, Finset.sum_const_zero]

/-- What a tile that counts sends back to the residual. -/
theorem some_res (v5 : Vec Ideal S1x1024 .f32) (v10 : FVec Ideal S256x1024 .f32) (v18 v21 : FVec Ideal S256x1 .f32)
    (v29 : FVec Ideal S256x1024 .f32) (j : S256x1024.Idx) : k0_pay20 (F := Ideal) (1 : EReal) v5 v10 v18 v21 v29 j
      = unit * v29 j * v5 (ix2 0 (j 1)) * v18 (ix2 (j 0) 0)
        + v10 j * Ideal.div ((∑ k : Fin 1024, v10 (ix2 (j 0) k) * (unit * v29 (ix2 (j 0) k) * v5 (ix2 0 k))) * v21 (ix2 (j 0) 0)) (Ideal.ofBits .f32 0x44800000#32)
        + Ideal.div ((∑ k : Fin 1024, v10 (ix2 (j 0) k) * (unit * v29 (ix2 (j 0) k) * v5 (ix2 0 k))) * v21 (ix2 (j 0) 0)) (Ideal.ofBits .f32 0x44800000#32) * v10 j := by
  pointwise [k0_pay20]
  simp only [back_later, Finset.univ_unique, Finset.sum_singleton]
  rfl

/-! ## One token

The loss of one token and its cotangents, from the token's residual `r`, the norm's weights `w` and the target `t`. -/

def den (r : Fin 1024 → EReal) : EReal :=
  Ideal.div (∑ k, r k * r k) (Ideal.ofBits .f32 0x44800000#32) + Ideal.ofBits .f32 0x358637BD#32

def back (r w t : Fin 1024 → EReal) (k : Fin 1024) : EReal :=
  unit * (Ideal.ofBits .f32 0x40000000#32 * (r k * Ideal.rsqrt (den r) * w k - t k))

def spread (r w t : Fin 1024 → EReal) : EReal :=
  Ideal.div ((∑ k, r k * (back r w t k * w k)) * (Ideal.ofBits .f32 0xBF000000#32 * Ideal.div (Ideal.rsqrt (den r)) (den r)))
    (Ideal.ofBits .f32 0x44800000#32)

def dres (r w t : Fin 1024 → EReal) (k : Fin 1024) : EReal :=
  back r w t k * w k * Ideal.rsqrt (den r) + r k * spread r w t + spread r w t * r k

/-- The residual of a tile's row, and its weights and target. -/
abbrev tileRes (v2 v3 : Vec Ideal S256x1024 .f32) (v4 : Vec Ideal S8x1024 .f32) (i : Fin 256) (k : Fin 1024) : EReal :=
  v2 (ix2 i k) + v4 (ix2 0 k) * v3 (ix2 i k)

theorem tile_den (v2 v3 : Vec Ideal S256x1024 .f32) (v4 : Vec Ideal S8x1024 .f32) (j : S256x1.Idx) :
    k0_pay9 (F := Ideal) v2 v3 v4 j = den (tileRes v2 v3 v4 (j 0)) := by
  pointwise [k0_pay9, k0_pay8, k0_pay7, den]

theorem tile_back (v2 v3 : Vec Ideal S256x1024 .f32) (v4 : Vec Ideal S8x1024 .f32) (v5 : Vec Ideal S1x1024 .f32) (v6 : Vec Ideal S256x1024 .f32)
    (i : Fin 256) (k : Fin 1024) :
    unit * k0_pay14 (F := Ideal) v2 v3 v4 v5 v6 (ix2 i k) = back (tileRes v2 v3 v4 i) (fun k => v5 (ix2 0 k)) (fun k => v6 (ix2 i k)) k := by
  unfold back
  pointwise [k0_pay14, k0_pay13, k0_pay12, k0_pay10, k0_pay8, k0_pay7, tile_den]

theorem tile_dres (v2 v3 : Vec Ideal S256x1024 .f32) (v4 : Vec Ideal S8x1024 .f32) (v5 : Vec Ideal S1x1024 .f32) (v6 : Vec Ideal S256x1024 .f32)
    (j : S256x1024.Idx) :
    k0_pay20 (F := Ideal) (1 : EReal) v5 (k0_pay8 v2 v3 v4) (k0_pay10 v2 v3 v4) (k0_pay11 v2 v3 v4) (k0_pay14 v2 v3 v4 v5 v6) j
      = dres (tileRes v2 v3 v4 (j 0)) (fun k => v5 (ix2 0 k)) (fun k => v6 (ix2 (j 0) k)) (j 1) := by
  obtain ⟨i, k, rfl⟩ : ∃ i k, j = ix2 i k := ⟨j 0, j 1, eq_ix2 j⟩
  rw [some_res]
  unfold dres spread
  pointwise [k0_pay8, k0_pay7, k0_pay10, k0_pay11, tile_den]
  simp only [tile_back]

theorem none_ff (v5 : Vec Ideal S1x1024 .f32) (v7 : FVec Ideal S1x1024 .f32) (v10 : FVec Ideal S256x1024 .f32) (v18 v21 : FVec Ideal S256x1 .f32)
    (v29 : FVec Ideal S256x1024 .f32) (j : S256x1024.Idx) : k0_pay1 (F := Ideal) (k0_pay21 (0 : EReal) v5 v7 v10 v18 v21 v29) j = (0 : EReal) := by
  pointwise [k0_pay1, k0_pay21, none_res]
  simp only [mul_zero]

theorem none_gate (v3 : Vec Ideal S256x1024 .f32) (v5 : Vec Ideal S1x1024 .f32) (v10 : FVec Ideal S256x1024 .f32) (v18 v21 : FVec Ideal S256x1 .f32)
    (v29 : FVec Ideal S256x1024 .f32) (j : S8x1024.Idx) : k0_pay22 (F := Ideal) (0 : EReal) v3 v5 v10 v18 v21 v29 j = (0 : EReal) := by
  pointwise [k0_pay22, none_res]
  simp only [zero_mul, Finset.sum_const_zero, ite_self, dite_eq_ite]

theorem none_norm (v23 v29 : FVec Ideal S256x1024 .f32) (j : S1x1024.Idx) : k0_pay19 (F := Ideal) (0 : EReal) v23 v29 j = (0 : EReal) := by
  pointwise [k0_pay19, back_first]
  simp only [mul_zero, Finset.sum_const_zero]

theorem tile_ff (v2 v3 : Vec Ideal S256x1024 .f32) (v4 : Vec Ideal S8x1024 .f32) (v5 : Vec Ideal S1x1024 .f32) (v6 : Vec Ideal S256x1024 .f32)
    (j : S256x1024.Idx) :
    k0_pay1 (F := Ideal) (k0_pay21 (1 : EReal) v5 (k0_pay7 v4) (k0_pay8 v2 v3 v4) (k0_pay10 v2 v3 v4) (k0_pay11 v2 v3 v4) (k0_pay14 v2 v3 v4 v5 v6)) j
      = v4 (ix2 0 (j 1)) * dres (tileRes v2 v3 v4 (j 0)) (fun k => v5 (ix2 0 k)) (fun k => v6 (ix2 (j 0) k)) (j 1) := by
  pointwise [k0_pay1, k0_pay21, k0_pay7, tile_dres]

theorem tile_gate (v2 v3 : Vec Ideal S256x1024 .f32) (v4 : Vec Ideal S8x1024 .f32) (v5 : Vec Ideal S1x1024 .f32) (v6 : Vec Ideal S256x1024 .f32)
    (i : Fin 8) (k : Fin 1024) :
    k0_pay22 (F := Ideal) (1 : EReal) v3 v5 (k0_pay8 v2 v3 v4) (k0_pay10 v2 v3 v4) (k0_pay11 v2 v3 v4) (k0_pay14 v2 v3 v4 v5 v6) (ix2 i k)
      = if h : i.val < 1 then ∑ r : Fin 256, dres (tileRes v2 v3 v4 r) (fun k => v5 (ix2 0 k)) (fun k => v6 (ix2 r k)) k * v3 (ix2 r k) else 0 := by
  pointwise [k0_pay22, tile_dres]

theorem tile_norm (v2 v3 : Vec Ideal S256x1024 .f32) (v4 : Vec Ideal S8x1024 .f32) (v5 : Vec Ideal S1x1024 .f32) (v6 : Vec Ideal S256x1024 .f32)
    (i : Fin 1) (k : Fin 1024) :
    k0_pay19 (F := Ideal) (1 : EReal) (k0_pay12 v2 v3 v4) (k0_pay14 v2 v3 v4 v5 v6) (ix2 i k)
      = ∑ r : Fin 256, tileRes v2 v3 v4 r k * Ideal.rsqrt (den (tileRes v2 v3 v4 r))
          * back (tileRes v2 v3 v4 r) (fun k => v5 (ix2 0 k)) (fun k => v6 (ix2 r k)) k := by
  pointwise [k0_pay19, k0_pay12, k0_pay10, k0_pay8, k0_pay7, tile_den, back_later]
  simp only [tile_back]

theorem plus_gate (a : FVec Ideal S8x1024 .f32) (b : Vec Ideal S8x1024 .f32) (j : S8x1024.Idx) : k0_pay4 (F := Ideal) a b j = b j + a j := by
  pointwise [k0_pay4]

theorem plus_norm (a : FVec Ideal S1x1024 .f32) (b : Vec Ideal S1x1024 .f32) (j : S1x1024.Idx) : k0_pay5 (F := Ideal) a b j = b j + a j := by
  pointwise [k0_pay5]

/-- Tiles of which the first adds nothing and the others their 256 rows each: all the rows. -/
theorem rows {N : Nat} (hN : N = 33) (S : Fin N → EReal) (g : Fin 8192 → EReal) (h0 : ∀ p : Fin N, p.val = 0 → S p = 0)
    (h1 : ∀ (p : Fin N) (s : Fin 32), p.val = s.val + 1 → S p = ∑ r : Fin 256, g ⟨s.val * 256 + r.val, by omega⟩) :
    ∑ p, S p = ∑ x, g x := by
  subst hN
  rw [Fin.sum_univ_succ, h0 0 rfl, zero_add, ← Fin.sum_mul_add_fin 32 256 g]
  exact Finset.sum_congr rfl fun s _ => h1 _ s rfl

theorem nothing {N : Nat} (S : Fin N → EReal) (h : ∀ p, S p = 0) : ∑ p, S p = 0 :=
  Finset.sum_eq_zero fun p _ => h p

/-- The residual, the norm's weights and the target of a token of the example, in the whole arrays. -/
abbrev rowRes (a0 a1 : Vec Ideal S8448x1024 .f32) (a2 : Vec Ideal S8x6144 .f32) (r : Fin 8192) (k : Fin 1024) : EReal :=
  a0 (ix2 ⟨256 + r.val, by omega⟩ k) + a2 (ix2 0 ⟨5120 + k.val, by omega⟩) * a1 (ix2 ⟨256 + r.val, by omega⟩ k)

variable (m : (ℓ : Loc nD τ sig) → Buf (Elt Ideal) ℓ)
  (m' : (ℓ : Loc Cert.LossRefIdeal.nD Cert.LossRefIdeal.τ Cert.LossRefIdeal.sig) → Buf (Elt Ideal) ℓ)

theorem frame_ideal : Cert.quiescent_LossIdeal := fun m g _ => Cert.LossIdeal.Gen.frame (F := Ideal) m g

/-- The program read at the machine's own numbers calls the same body. -/
theorem bodies : Cert.Loss.defs₀ (F := Bits) = Cert.LossIdeal.defs₀ (F := Bits) :=
  congrArg Defs.onTc (funext fun l => funext fun _ => match l with | 0 => rfl)

theorem frame_bits : Cert.quiescent_Loss := fun m g _ => by
  have hd : Cert.Loss.defs (F := Bits) = Cert.LossIdeal.defs (F := Bits) := congrArg (Pipeline.defs Cert.LossIdeal.pcfgs) bodies
  rw [hd]
  exact Cert.LossIdeal.Gen.frame (F := Bits) m g

theorem frame_ref : Cert.quiescent_LossRefIdeal := fun m g _ =>
  (θ_run Cert.LossRefIdeal.defs _ _).mono (fun r h => ⟨fun c => (h c).2.2.2.2.2, sem_eq_zero_of_no_sems (by decide) r.2⟩)
    (Cert.LossRefIdeal.Value.run m g)

variable (c : Dev nD)
  (h0 : m' ((c.tc : Thread Cert.LossRefIdeal.nD Cert.LossRefIdeal.τ).loc Cert.LossRefIdeal.main_arg0) = m ((c.tc : Thread nD τ).loc main_arg0))
  (h1 : m' ((c.tc : Thread Cert.LossRefIdeal.nD Cert.LossRefIdeal.τ).loc Cert.LossRefIdeal.main_arg1) = m ((c.tc : Thread nD τ).loc main_arg1))
  (h2 : m' ((c.tc : Thread Cert.LossRefIdeal.nD Cert.LossRefIdeal.τ).loc Cert.LossRefIdeal.main_arg2) = m ((c.tc : Thread nD τ).loc main_arg2))
  (h3 : m' ((c.tc : Thread Cert.LossRefIdeal.nD Cert.LossRefIdeal.τ).loc Cert.LossRefIdeal.main_arg3) = m ((c.tc : Thread nD τ).loc main_arg3))
  (h4 : m' ((c.tc : Thread Cert.LossRefIdeal.nD Cert.LossRefIdeal.τ).loc Cert.LossRefIdeal.main_arg4) = m ((c.tc : Thread nD τ).loc main_arg4))

include h0 h1 h2 h3 h4

/-- The loss the tiles add up is the reference's. -/
theorem final :
    (dats m 0 c).arrAt 5 cfg0.N = Cert.LossRefIdeal.Value.res_main_v64 m' c := by
  refine (dats m 0 c).arrAt_eq_of_covers 5 _ (by decide +kernel) fun t hf y => ?_
  blk_simp
  rw [after0_5, Pipeline.eq_sum_fin_of_reset_step_apply_last (fun n h => (outsAt0 m c n h).1) 33 (fun _ => (0 : EReal))
    (fun p _ => half * k0_pay15 (F := Ideal) (iblk m c 0 p) (iblk m c 1 p) (iblk m c 2 p) (iblk m c 3 p) (iblk m c 4 p) (ix2 0 0)
      * k0_pay6 (F := Ideal) (grid0.coords p))
    (fun t h j => by rw [outsAt0_A m c t h (by have := lt_of_lt_of_eq t.isLt N_0; omega)]; frame_out; rw [share, zero_add])
    (fun t h j => by rw [outsAt0_B m c t h (by omega)]; frame_out; rw [added])
    (le_of_eq N_0) t ((congrArg (· + 1) (last t hf)).trans N_0.symm) y, zero_add]
  unfold Cert.LossRefIdeal.Value.res_main_v64
  rw [h0, h1, h2, h3, h4]
  pointwise
  refine tiles N_0 _ _ (fun p hp => ?_) fun p s hp => ?_
  · rw [weight_first p hp, mul_zero]
  · rw [weight_later p (by omega), mul_one]
    refine congrArg (half * ·) ?_
    pointwise [k0_pay15, k0_pay13, k0_pay12, k0_pay10, k0_pay9, k0_pay8, k0_pay7]
    blk_point [iblk, V, places p]

theorem ref_h (r : Fin 8192) (k : Fin 1024) : Cert.LossRefIdeal.Value.res_main_v63 m' c (ix2 ⟨256 + r.val, by omega⟩ k)
    = dres (rowRes (m ((c.tc : Thread nD τ).loc main_arg0)) (m ((c.tc : Thread nD τ).loc main_arg1)) (m ((c.tc : Thread nD τ).loc main_arg2)) r)
      (fun k => (m ((c.tc : Thread nD τ).loc main_arg3)) (ix2 0 k)) (fun k => (m ((c.tc : Thread nD τ).loc main_arg4)) (ix2 r k)) k := by
  unfold Cert.LossRefIdeal.Value.res_main_v63 dres spread back den
  rw [h0, h1, h2, h3, h4]
  pointwise
  simp only [Finset.univ_unique, Finset.sum_singleton]

theorem ref_ff (r : Fin 8192) (k : Fin 1024) : Cert.LossRefIdeal.Value.res_main_v65 m' c (ix2 ⟨256 + r.val, by omega⟩ k)
    = (show EReal from (m ((c.tc : Thread nD τ).loc main_arg2)) (ix2 0 ⟨5120 + k.val, by omega⟩)) * dres (rowRes (m ((c.tc : Thread nD τ).loc main_arg0)) (m ((c.tc : Thread nD τ).loc main_arg1)) (m ((c.tc : Thread nD τ).loc main_arg2)) r)
      (fun k => (m ((c.tc : Thread nD τ).loc main_arg3)) (ix2 0 k)) (fun k => (m ((c.tc : Thread nD τ).loc main_arg4)) (ix2 r k)) k := by
  unfold Cert.LossRefIdeal.Value.res_main_v65 dres spread back den
  rw [h0, h1, h2, h3, h4]
  pointwise
  simp only [Finset.univ_unique, Finset.sum_singleton]

theorem ref_gate (i : Fin 8) (k : Fin 1024) : Cert.LossRefIdeal.Value.res_main_v62 m' c (ix2 i k)
    = if h : i.val < 1 then ∑ r : Fin 8192, dres (rowRes (m ((c.tc : Thread nD τ).loc main_arg0)) (m ((c.tc : Thread nD τ).loc main_arg1)) (m ((c.tc : Thread nD τ).loc main_arg2)) r)
      (fun k => (m ((c.tc : Thread nD τ).loc main_arg3)) (ix2 0 k)) (fun k => (m ((c.tc : Thread nD τ).loc main_arg4)) (ix2 r k)) k * (m ((c.tc : Thread nD τ).loc main_arg1)) (ix2 ⟨256 + r.val, by omega⟩ k) else 0 := by
  unfold Cert.LossRefIdeal.Value.res_main_v62 dres spread back den
  rw [h0, h1, h2, h3, h4]
  pointwise
  simp only [Finset.univ_unique, Finset.sum_singleton]

theorem ref_norm (i : Fin 1) (k : Fin 1024) : Cert.LossRefIdeal.Value.res_main_v39 m' c (ix2 i k)
    = ∑ r : Fin 8192, rowRes (m ((c.tc : Thread nD τ).loc main_arg0)) (m ((c.tc : Thread nD τ).loc main_arg1)) (m ((c.tc : Thread nD τ).loc main_arg2)) r k * Ideal.rsqrt (den (rowRes (m ((c.tc : Thread nD τ).loc main_arg0)) (m ((c.tc : Thread nD τ).loc main_arg1)) (m ((c.tc : Thread nD τ).loc main_arg2)) r)) * back (rowRes (m ((c.tc : Thread nD τ).loc main_arg0)) (m ((c.tc : Thread nD τ).loc main_arg1)) (m ((c.tc : Thread nD τ).loc main_arg2)) r)
      (fun k => (m ((c.tc : Thread nD τ).loc main_arg3)) (ix2 0 k)) (fun k => (m ((c.tc : Thread nD τ).loc main_arg4)) (ix2 r k)) k := by
  unfold Cert.LossRefIdeal.Value.res_main_v39 back den
  rw [h0, h1, h2, h3, h4]
  pointwise

/-! ### A tile's rows in the whole arrays -/

omit h0 h1 h2 h3 h4

omit m m' c in
theorem row_of (t : Fin cfg0.N) (ht : t.val ≠ 0) (i : Fin 256) : ∃ r : Fin 8192, t.val * 256 + i.val = 256 + r.val := by
  have := lt_of_lt_of_eq t.isLt N_0
  exact ⟨⟨t.val * 256 + i.val - 256, by omega⟩, by simp only; omega⟩

theorem same_res (t : Fin cfg0.N) (i : Fin 256) (r : Fin 8192) (hr : t.val * 256 + i.val = 256 + r.val) :
    tileRes (iblk m c 0 t) (iblk m c 1 t) (iblk m c 2 t) i = rowRes (m ((c.tc : Thread nD τ).loc main_arg0)) (m ((c.tc : Thread nD τ).loc main_arg1)) (m ((c.tc : Thread nD τ).loc main_arg2)) r := by
  funext k
  unfold tileRes rowRes
  blk_point [iblk, V, places t]

theorem same_weight (t : Fin cfg0.N) :
    (fun k : Fin 1024 => (iblk m c 3 t : Vec Ideal S1x1024 .f32) (ix2 0 k)) = fun k => (m ((c.tc : Thread nD τ).loc main_arg3)) (ix2 0 k) := by
  funext k
  blk_point [iblk, V, places t]

theorem same_target (t : Fin cfg0.N) (ht : t.val ≠ 0) (i : Fin 256) (r : Fin 8192) (hr : t.val * 256 + i.val = 256 + r.val) :
    (fun k : Fin 1024 => (iblk m c 4 t : Vec Ideal S256x1024 .f32) (ix2 i k)) = fun k => (m ((c.tc : Thread nD τ).loc main_arg4)) (ix2 r k) := by
  funext k
  blk_point [iblk, V, places t]

theorem same_ff (t : Fin cfg0.N) (i : Fin 256) (r : Fin 8192) (hr : t.val * 256 + i.val = 256 + r.val) (k : Fin 1024) :
    (iblk m c 1 t : Vec Ideal S256x1024 .f32) (ix2 i k) = (m ((c.tc : Thread nD τ).loc main_arg1)) (ix2 ⟨256 + r.val, by omega⟩ k) := by
  blk_point [iblk, V, places t]

theorem same_gate (t : Fin cfg0.N) (k : Fin 1024) :
    (iblk m c 2 t : Vec Ideal S8x1024 .f32) (ix2 0 k) = (m ((c.tc : Thread nD τ).loc main_arg2)) (ix2 0 ⟨5120 + k.val, by omega⟩) := by
  blk_point [iblk, V, places t]

include h0 h1 h2 h3 h4

/-- The cotangents of the residual's two summands are the reference's, zero on the context. -/
theorem grad_h :
    (dats m 0 c).arrAt 6 cfg0.N = Cert.LossRefIdeal.Value.res_main_v63 m' c := by
  refine (dats m 0 c).arrAt_eq_of_covers 6 _ (by decide +kernel) fun t hf y => ?_
  blk_simp
  rw [after0_6]
  by_cases ht : t.val = 0
  · rw [outsAt0_A m c t (by omega) (by omega)]
    frame_out
    rw [weight_first t ht, none_res]
    unfold Cert.LossRefIdeal.Value.res_main_v63
    rw [h0, h1, h2, h3, h4]
    pointwise
    blk_simp [places t]
    have : (y 0).val < 256 := (y 0).isLt
    rw [dif_neg (by omega)]
  · rw [outsAt0_B m c t (by have := lt_of_lt_of_eq t.isLt N_0; omega) (by omega)]
    frame_out
    rw [weight_later t (by omega)]
    rw [tile_dres]
    obtain ⟨r, hr⟩ := row_of t ht (y 0)
    rw [same_res m c t (y 0) r hr, same_weight m c t, same_target m c t ht (y 0) r hr]
    refine (ref_h m m' c h0 h1 h2 h3 h4 r (y 1)).symm.trans ?_
    blk_point [places t]

theorem grad_ff :
    (dats m 0 c).arrAt 7 cfg0.N = Cert.LossRefIdeal.Value.res_main_v65 m' c := by
  refine (dats m 0 c).arrAt_eq_of_covers 7 _ (by decide +kernel) fun t hf y => ?_
  blk_simp
  rw [after0_7]
  by_cases ht : t.val = 0
  · rw [outsAt0_A m c t (by omega) (by omega)]
    frame_out
    rw [weight_first t ht, none_ff]
    unfold Cert.LossRefIdeal.Value.res_main_v65
    rw [h0, h1, h2, h3, h4]
    pointwise
    blk_simp [places t]
    have : (y 0).val < 256 := (y 0).isLt
    rw [dif_neg (by omega)]
  · rw [outsAt0_B m c t (by have := lt_of_lt_of_eq t.isLt N_0; omega) (by omega)]
    frame_out
    rw [weight_later t (by omega), tile_ff]
    obtain ⟨r, hr⟩ := row_of t ht (y 0)
    rw [same_res m c t (y 0) r hr, same_weight m c t, same_target m c t ht (y 0) r hr, same_gate m c t (y 1)]
    refine (ref_ff m m' c h0 h1 h2 h3 h4 r (y 1)).symm.trans ?_
    blk_point [places t]

omit m m' c h0 h1 h2 h3 h4 in
theorem last_gate : ∀ t : Fin cfg0.N, (cfg0.win 8).flush t = true → t.val = 32 :=
  (by decide +kernel : ∀ t : Fin grid0.N, win0_8.flush t = true → t.val = 32)

omit m m' c h0 h1 h2 h3 h4 in
theorem last_norm : ∀ t : Fin cfg0.N, (cfg0.win 9).flush t = true → t.val = 32 :=
  (by decide +kernel : ∀ t : Fin grid0.N, win0_9.flush t = true → t.val = 32)

/-- The gate's gradient. -/
theorem grad_gate :
    (dats m 0 c).arrAt 8 cfg0.N = Cert.LossRefIdeal.Value.res_main_v62 m' c := by
  refine (dats m 0 c).arrAt_eq_of_covers 8 _ (by decide +kernel) fun t hf y => ?_
  blk_simp
  rw [after0_8, Pipeline.eq_sum_fin_of_reset_step_apply_last (fun n h => (outsAt0 m c n h).2.2.2.1) 33 (fun _ => (0 : EReal))
    (fun p j => k0_pay22 (F := Ideal) (k0_pay6 (F := Ideal) (grid0.coords p)) (iblk m c 1 p) (iblk m c 3 p)
      (k0_pay8 (iblk m c 0 p) (iblk m c 1 p) (iblk m c 2 p)) (k0_pay10 (iblk m c 0 p) (iblk m c 1 p) (iblk m c 2 p))
      (k0_pay11 (iblk m c 0 p) (iblk m c 1 p) (iblk m c 2 p))
      (k0_pay14 (iblk m c 0 p) (iblk m c 1 p) (iblk m c 2 p) (iblk m c 3 p) (iblk m c 4 p)) j)
    (fun t h j => by rw [outsAt0_A m c t h (by have := lt_of_lt_of_eq t.isLt N_0; omega)]; frame_out; rw [zero_add])
    (fun t h j => by rw [outsAt0_B m c t h (by omega)]; frame_out; rw [plus_gate])
    (le_of_eq N_0) t ((congrArg (· + 1) (last_gate t hf)).trans N_0.symm) y, zero_add]
  refine Eq.trans ?_ ((ref_gate m m' c h0 h1 h2 h3 h4 (y 0) (y 1)).symm.trans (by blk_point [places t]))
  obtain ⟨i, k, rfl⟩ : ∃ (i : Fin 8) (k : Fin 1024), y = ix2 i k := ⟨y 0, y 1, eq_ix2 y⟩
  by_cases hi : i.val < 1
  · refine Eq.trans ?_ (dif_pos hi).symm
    refine rows N_0 _ _ (fun p hp => ?_) fun p s hp => ?_
    · rw [weight_first p hp, none_gate]
    · rw [weight_later p (by omega), tile_gate, dif_pos hi]
      refine Finset.sum_congr rfl fun q _ => ?_
      have hr : p.val * 256 + q.val = 256 + (⟨s.val * 256 + q.val, by omega⟩ : Fin 8192).val := by simp only; omega
      rw [same_res m c p q _ hr, same_weight m c p, same_target m c p (by omega) q _ hr, same_ff m c p q _ hr k]
      rfl
  · refine Eq.trans ?_ (dif_neg hi).symm
    refine nothing _ fun p => ?_
    by_cases hp : p.val = 0
    · rw [weight_first p hp, none_gate]
    · rw [weight_later p (by omega), tile_gate, dif_neg hi]

/-- The last norm's gradient. -/
theorem grad_norm :
    (dats m 0 c).arrAt 9 cfg0.N = Cert.LossRefIdeal.Value.res_main_v39 m' c := by
  refine (dats m 0 c).arrAt_eq_of_covers 9 _ (by decide +kernel) fun t hf y => ?_
  blk_simp
  rw [after0_9, Pipeline.eq_sum_fin_of_reset_step_apply_last (fun n h => (outsAt0 m c n h).2.2.2.2) 33 (fun _ => (0 : EReal))
    (fun p j => k0_pay19 (F := Ideal) (k0_pay6 (F := Ideal) (grid0.coords p))
      (k0_pay12 (iblk m c 0 p) (iblk m c 1 p) (iblk m c 2 p))
      (k0_pay14 (iblk m c 0 p) (iblk m c 1 p) (iblk m c 2 p) (iblk m c 3 p) (iblk m c 4 p)) j)
    (fun t h j => by rw [outsAt0_A m c t h (by have := lt_of_lt_of_eq t.isLt N_0; omega)]; frame_out; rw [zero_add])
    (fun t h j => by rw [outsAt0_B m c t h (by omega)]; frame_out; rw [plus_norm])
    (le_of_eq N_0) t ((congrArg (· + 1) (last_norm t hf)).trans N_0.symm) y, zero_add]
  refine Eq.trans ?_ ((ref_norm m m' c h0 h1 h2 h3 h4 (y 0) (y 1)).symm.trans (by blk_point [places t]))
  obtain ⟨i, k, rfl⟩ : ∃ (i : Fin 1) (k : Fin 1024), y = ix2 i k := ⟨y 0, y 1, eq_ix2 y⟩
  refine rows N_0 _ _ (fun p hp => ?_) fun p s hp => ?_
  · rw [weight_first p hp, none_norm]
  · rw [weight_later p (by omega), tile_norm]
    refine Finset.sum_congr rfl fun q _ => ?_
    have hr : p.val * 256 + q.val = 256 + (⟨s.val * 256 + q.val, by omega⟩ : Fin 8192).val := by simp only; omega
    rw [same_res m c p q _ hr, same_weight m c p, same_target m c p (by omega) q _ hr]
    rfl

omit h0 h1 h2 h3 h4

theorem algebraic : Cert.algebraic_LossIdeal_LossRefIdeal := fun m g m' g' _ hm =>
  have a := fun c => (hm c).1
  have b := fun c => (hm c).2.1
  have d := fun c => (hm c).2.2.1
  have e := fun c => (hm c).2.2.2.1
  have f := fun c => (hm c).2.2.2.2
  ⟨fun c => Cert.LossRefIdeal.Value.res_main_v64 m' c, fun c => Cert.LossRefIdeal.Value.res_main_v63 m' c,
    fun c => Cert.LossRefIdeal.Value.res_main_v65 m' c, fun c => Cert.LossRefIdeal.Value.res_main_v62 m' c,
    fun c => Cert.LossRefIdeal.Value.res_main_v39 m' c,
    (θ_run Cert.LossIdeal.defs _ _).mono (fun _ h c => ⟨(h c).1.trans (final m m' c (a c) (b c) (d c) (e c) (f c)),
      (h c).2.1.trans (grad_h m m' c (a c) (b c) (d c) (e c) (f c)), (h c).2.2.1.trans (grad_ff m m' c (a c) (b c) (d c) (e c) (f c)),
      (h c).2.2.2.1.trans (grad_gate m m' c (a c) (b c) (d c) (e c) (f c)),
      (h c).2.2.2.2.1.trans (grad_norm m m' c (a c) (b c) (d c) (e c) (f c)),
      (h c).2.2.2.2.2⟩) (Cert.LossIdeal.Value.run_blocks m g),
    Cert.LossRefIdeal.Value.run m' g'⟩

end Cert.LossClaims

end
-- ==== Proof.Norms.lean ====
/- What the calls around a norm share: one token's norm, its modulation, their gradients, and the reference's test for the context. -/
module

public import Idealize.ShloMosaic.Lib.Pipeline.ValueKit

@[expose] public section

noncomputable section

namespace Cert.Norms

open Idealize.ShloMosaic

/-- A token's mean square, with the norm's epsilon. -/
def den (x : Fin 1024 → EReal) : EReal :=
  Ideal.div (∑ k, x k * x k) (Ideal.ofBits .f32 0x44800000#32) + Ideal.ofBits .f32 0x358637BD#32

/-- The token normed, weighted, scaled and shifted. -/
def normed (x w s h : Fin 1024 → EReal) (k : Fin 1024) : EReal := x k * Ideal.rsqrt (den x) * w k * (1 + s k) + h k

/-- The reference's test for the context. -/
theorem masked {r : Nat} (hr : r < 8448) (a b : EReal) :
    Scalar.select (IntOp.cmpi CmpIPredicate.slt (BitVec.ofNat 32 r) 256#32) a b = if r < 256 then a else b := by
  have h : (BitVec.ofNat 32 r).slt 256#32 = decide (r < 256) := by
    rw [BitVec.slt_eq_decide]
    have : (BitVec.ofNat 32 r).toInt = r := by
      rw [BitVec.toInt_eq_toNat_of_lt (by rw [BitVec.toNat_ofNat]; omega), BitVec.toNat_ofNat, Nat.mod_eq_of_lt (by omega)]
    rw [this]
    exact decide_eq_decide.2 (by rw [show (256#32 : BitVec 32).toInt = 256 from rfl]; omega)
  unfold Scalar.select IntOp.cmpi
  by_cases hc : r < 256 <;> simp [h, hc]

/-! ## One token, backward

The gradients of one token's share, from the token's stream `x`, the norm's weights `w`, the cotangent `c` and the scale `s`. -/

/-- The cotangent of the normed and weighted token. -/
def scaled (c s : Fin 1024 → EReal) (k : Fin 1024) : EReal := c k * (1 + s k)

/-- What every entry of the token is given through the mean square. -/
def spread (x w c s : Fin 1024 → EReal) : EReal :=
  Ideal.div ((∑ k, x k * (scaled c s k * w k)) * (Ideal.ofBits .f32 0xBF000000#32 * Ideal.div (Ideal.rsqrt (den x)) (den x)))
    (Ideal.ofBits .f32 0x44800000#32)

/-- The gradient of the token. -/
def dx (x w c s : Fin 1024 → EReal) (k : Fin 1024) : EReal :=
  scaled c s k * w k * Ideal.rsqrt (den x) + x k * spread x w c s + spread x w c s * x k

/-- Its share of the gradient of the weights. -/
def dw (x c s : Fin 1024 → EReal) (k : Fin 1024) : EReal := x k * Ideal.rsqrt (den x) * scaled c s k

/-- Its share of the gradient of the scale. -/
def dscale (x w c : Fin 1024 → EReal) (k : Fin 1024) : EReal := x k * Ideal.rsqrt (den x) * w k * c k

/-- Every row of the stream, tile by tile. -/
theorem rows {N : Nat} (hN : N = 33) (S : Fin N → EReal) (g : Fin 8448 → EReal)
    (h : ∀ p : Fin N, S p = ∑ r : Fin 256, g ⟨p.val * 256 + r.val, by omega⟩) : ∑ p, S p = ∑ x, g x := by
  subst hN
  exact (Finset.sum_congr rfl fun p _ => h p).trans (Fin.sum_mul_add_fin 33 256 g)

end Cert.Norms

end
-- ==== Proof.GradXClaims.lean ====
/- The backward pass of the first norm: both frames, the reference's, and the equation of the results. -/
module

public import proofs.«01_k».proof.Defs
public import proofs.«01_k».proof.Proof.Gen.GradX
public import proofs.«01_k».proof.Proof.Gen.GradXIdeal
public import proofs.«01_k».proof.Proof.Gen.GradXIdeal.Value
public import proofs.«01_k».proof.Proof.Gen.GradXRefIdeal.Run
public import proofs.«01_k».proof.Proof.Norms
public import Idealize.ShloMosaic.Lib.Pipeline.ValueKit
public import Idealize.ShloMosaic.Lib.Quiescent

@[expose] public section

set_option maxRecDepth 16384

noncomputable section

namespace Cert.GradXClaims

open Idealize.ShloMosaic Idealize.ShloMosaic.TcCoe Idealize.SL.Sem
open Idealize.ShloMosaic.Pipeline (Dat)
open Cert.GradXIdeal Cert.GradXIdeal.Gen Cert.Norms

/-- Where each window stands at a tile: the stream's at the tile itself, the result's one tile earlier, for it skips the context. -/
theorem places : ∀ t : Fin cfg0.N, win0_0.index t = ![t.val, 0] ∧ win0_1.index t = ![0, 0] ∧ win0_2.index t = ![0, 1]
    ∧ win0_4.index t = ![t.val, 0] ∧ win0_5.index t = ![t.val, 0] ∧ win0_6.index t = ![t.val - 1, 0]
    ∧ win0_7.index t = ![0, 0] ∧ win0_8.index t = ![0, 0] ∧ win0_9.index t = ![0, 0] :=
  (by decide +kernel : ∀ t : Fin grid0.N, _)

/-- In the context the test for it holds. -/
theorem within : ∀ t : Fin cfg0.N, t.val = 0 → Scalar.cmpi .slt (BitVec.ofNat 32 (grid0.coords t 1).val) 1#32 = 1#1 :=
  (by decide +kernel : ∀ t : Fin grid0.N, t.val = 0 → Scalar.cmpi .slt (BitVec.ofNat 32 (grid0.coords t 1).val) 1#32 = 1#1)

/-- The result is written back after the tiles past the context. -/
theorem late : ∀ t : Fin cfg0.N, (cfg0.win 6).flush t = true → 1 ≤ t.val :=
  (by decide +kernel : ∀ t : Fin grid0.N, win0_6.flush t = true → 1 ≤ t.val)

/-- Past the context the test for the context fails. -/
theorem past : ∀ t : Fin cfg0.N, 1 ≤ t.val → Scalar.cmpi .slt (BitVec.ofNat 32 (grid0.coords t 1).val) 1#32 = 0#1 :=
  (by decide +kernel : ∀ t : Fin grid0.N, 1 ≤ t.val → Scalar.cmpi .slt (BitVec.ofNat 32 (grid0.coords t 1).val) 1#32 = 0#1)

/-! ## The modulation -/

/-- A row of the modulation is the context's or the example's, and takes the share of its own tokens. -/
def share (i : Fin 8) (ctx : Prop) [Decidable ctx] (v : EReal) : EReal :=
  if i.val = 0 ∧ ¬ ctx ∨ i.val = 1 ∧ ctx then v else 0

/-- The two rows of the modulation, each with its own tokens, are the shares. -/
theorem shares {N : Nat} (i : Fin 8) (p : Fin N → Prop) [DecidablePred p] (f : Fin N → EReal) :
    ((if h : i.val < 1 then ∑ x, (if p x then 0 else f x) else 0) + if h : 1 ≤ i.val ∧ i.val - 1 < 1 then ∑ x, (if p x then f x else 0) else 0)
      = ∑ x, share i (p x) (f x) := by
  unfold share
  by_cases h0 : i.val = 0
  · rw [dif_pos (by omega), dif_neg (by omega), add_zero]
    refine Finset.sum_congr rfl fun x _ => ?_
    by_cases hp : p x <;> simp [hp, h0]
  · by_cases h1 : i.val = 1
    · rw [dif_neg (by omega), dif_pos (by omega), zero_add]
      refine Finset.sum_congr rfl fun x _ => ?_
      by_cases hp : p x <;> simp [hp, h1]
    · rw [dif_neg (by omega), dif_neg (by omega), add_zero]
      symm
      exact Finset.sum_eq_zero fun x _ => if_neg (by omega)

theorem same_share (i : Fin 8) {p q : Prop} [Decidable p] [Decidable q] (h : p ↔ q) (v : EReal) : share i p v = share i q v := by
  unfold share
  simp only [h]

/-! ## A tile -/

theorem tile_den (v0 : Vec Ideal S256x1024 .f32) (j : S256x1.Idx) : k0_pay4 (F := Ideal) v0 j = den (fun k => v0 (ix2 (j 0) k)) := by
  pointwise [k0_pay4, den]

/-- The scale a tile takes. -/
abbrev tileScale (t : Fin cfg0.N) (v2 : Vec Ideal S8x1024 .f32) (k : Fin 1024) : EReal :=
  if t.val = 0 then v2 (ix2 1 k) else v2 (ix2 0 k)

theorem tile_scaled (t : Fin cfg0.N) (v2 : Vec Ideal S8x1024 .f32) (v24 : Vec Ideal S256x1024 .f32) (i : Fin 256) (k : Fin 1024) :
    k0_pay11 (F := Ideal) (grid0.coords t) v2 v24 (ix2 i k) = scaled (fun k => v24 (ix2 i k)) (tileScale t v2) k := by
  unfold scaled tileScale
  by_cases ht : t.val = 0
  · have := within t ht
    rw [if_pos ht]
    pointwise [k0_pay11, k0_pay8, this]
  · have := past t (by omega)
    rw [if_neg ht]
    pointwise [k0_pay11, k0_pay8, this]

theorem tile_dx (t : Fin cfg0.N) (v0 : Vec Ideal S256x1024 .f32) (v1 : Vec Ideal S1x1024 .f32) (v2 : Vec Ideal S8x1024 .f32) (v24 v73 : Vec Ideal S256x1024 .f32)
    (j : S256x1024.Idx) :
    k0_pay17 (F := Ideal) v0 (k0_pay5 v0) (k0_pay6 v0) (k0_pay13 (grid0.coords t) v1 v2 v24) (k0_pay14 (grid0.coords t) v0 v1 v2 v24) v73 j
      = dx (fun k => v0 (ix2 (j 0) k)) (fun k => v1 (ix2 0 k)) (fun k => v24 (ix2 (j 0) k)) (tileScale t v2) (j 1) + v73 j := by
  obtain ⟨i, k, rfl⟩ : ∃ i k, j = ix2 i k := ⟨j 0, j 1, eq_ix2 j⟩
  unfold dx spread
  pointwise [k0_pay17, k0_pay14, k0_pay13, k0_pay5, k0_pay6, tile_den, tile_scaled]
  simp only [Finset.univ_unique, Finset.sum_singleton]

theorem tile_dw (t : Fin cfg0.N) (v0 : Vec Ideal S256x1024 .f32) (v2 : Vec Ideal S8x1024 .f32) (v24 : Vec Ideal S256x1024 .f32)
    (i : Fin 1) (k : Fin 1024) :
    k0_pay12 (F := Ideal) (grid0.coords t) v0 v2 v24 (ix2 i k)
      = ∑ r : Fin 256, dw (fun k => v0 (ix2 r k)) (fun k => v24 (ix2 r k)) (tileScale t v2) k := by
  unfold dw
  pointwise [k0_pay12, k0_pay7, k0_pay5, tile_den, tile_scaled]

/-- The tile's test, and the row of the modulation its sum goes to. -/
theorem tile_share (t : Fin cfg0.N) (i : Fin 8) (f : Fin 256 → EReal) :
    ((if h : i.val < 1 then Scalar.select (Scalar.cmpi CmpIPredicate.slt (BitVec.ofNat 32 (grid0.coords t 1).val) 1#32) 0 (∑ x, f x) else 0)
      + if h : i.val < 2 then if h : i.val < 1 then 0
        else Scalar.select (Scalar.cmpi CmpIPredicate.slt (BitVec.ofNat 32 (grid0.coords t 1).val) 1#32) (∑ x, f x) 0 else 0)
      = ∑ x, share i (t.val = 0) (f x) := by
  unfold share
  have hc : Scalar.cmpi CmpIPredicate.slt (BitVec.ofNat 32 (grid0.coords t 1).val) 1#32 = if t.val = 0 then 1#1 else 0#1 := by
    by_cases ht : t.val = 0
    · rw [if_pos ht, within t ht]
    · rw [if_neg ht, past t (by omega)]
  rw [hc]
  by_cases ht : t.val = 0 <;> by_cases h0 : i.val = 0 <;> by_cases h1 : i.val = 1 <;>
    first
    | omega
    | (have h2 : i.val < 2 ↔ i.val = 0 ∨ i.val = 1 := by omega
       simp [Scalar.select, ht, h0, h1, h2])

theorem tile_dscale (t : Fin cfg0.N) (v0 : Vec Ideal S256x1024 .f32) (v1 : Vec Ideal S1x1024 .f32) (v24 : Vec Ideal S256x1024 .f32)
    (i : Fin 8) (k : Fin 1024) :
    k0_pay16 (F := Ideal) (Scalar.cmpi .slt (BitVec.ofNat 32 (grid0.coords t 1).val) 1#32) (k0_pay10 v0 v1 v24) (ix2 i k)
      = ∑ r : Fin 256, share i (t.val = 0) (dscale (fun k => v0 (ix2 r k)) (fun k => v1 (ix2 0 k)) (fun k => v24 (ix2 r k)) k) := by
  unfold dscale
  pointwise [k0_pay16, k0_pay10, k0_pay8, k0_pay7, k0_pay5, tile_den]
  exact tile_share t i _

theorem tile_dshift (t : Fin cfg0.N) (v24 : Vec Ideal S256x1024 .f32) (i : Fin 8) (k : Fin 1024) :
    k0_pay15 (F := Ideal) (Scalar.cmpi .slt (BitVec.ofNat 32 (grid0.coords t 1).val) 1#32) (k0_pay9 v24) (ix2 i k)
      = ∑ r : Fin 256, share i (t.val = 0) (v24 (ix2 r k)) := by
  pointwise [k0_pay15, k0_pay9]
  exact tile_share t i fun r => v24 (ix2 r k)

/-- The scale a token takes, in the whole array. -/
abbrev rowScale (a2 : Vec Ideal S8x6144 .f32) (r : Nat) (k : Fin 1024) : EReal :=
  if r < 256 then a2 (ix2 1 ⟨1024 + k.val, by omega⟩) else a2 (ix2 0 ⟨1024 + k.val, by omega⟩)

theorem idx_lt (j : S8192x1024.Idx) : (j 0).val < 8192 := (j 0).isLt

/-- The results in the whole arrays. -/
def gradX (a0 : Vec Ideal S8448x1024 .f32) (a1 : Vec Ideal S1x1024 .f32) (a2 : Vec Ideal S8x6144 .f32) (a3 a4 : Vec Ideal S8448x1024 .f32) : Vec Ideal S8192x1024 .f32 :=
  fun j => dx (fun k => a0 (ix2 ⟨256 + (j 0).val, by have := idx_lt j; omega⟩ k)) (fun k => a1 (ix2 0 k)) (fun k => a3 (ix2 ⟨256 + (j 0).val, by have := idx_lt j; omega⟩ k))
    (rowScale a2 (256 + (j 0).val)) (j 1) + a4 (ix2 ⟨256 + (j 0).val, by have := idx_lt j; omega⟩ (j 1))

def gradW (a0 : Vec Ideal S8448x1024 .f32) (a2 : Vec Ideal S8x6144 .f32) (a3 : Vec Ideal S8448x1024 .f32) : Vec Ideal S1x1024 .f32 :=
  fun j => ∑ r : Fin 8448, dw (fun k => a0 (ix2 r k)) (fun k => a3 (ix2 r k)) (rowScale a2 r.val) (j 1)

def gradScale (a0 : Vec Ideal S8448x1024 .f32) (a1 : Vec Ideal S1x1024 .f32) (a3 : Vec Ideal S8448x1024 .f32) : Vec Ideal S8x1024 .f32 :=
  fun j => ∑ r : Fin 8448, share (j 0) (r.val < 256) (dscale (fun k => a0 (ix2 r k)) (fun k => a1 (ix2 0 k)) (fun k => a3 (ix2 r k)) (j 1))

def gradShift (a3 : Vec Ideal S8448x1024 .f32) : Vec Ideal S8x1024 .f32 :=
  fun j => ∑ r : Fin 8448, share (j 0) (r.val < 256) (a3 (ix2 r (j 1)))

variable (m : (ℓ : Loc nD τ sig) → Buf (Elt Ideal) ℓ)
  (m' : (ℓ : Loc Cert.GradXRefIdeal.nD Cert.GradXRefIdeal.τ Cert.GradXRefIdeal.sig) → Buf (Elt Ideal) ℓ)

theorem frame_ideal : Cert.quiescent_GradXIdeal := fun m g _ => Cert.GradXIdeal.Gen.frame (F := Ideal) m g

/-- The program read at the machine's own numbers calls the same body. -/
theorem bodies : Cert.GradX.defs₀ (F := Bits) = Cert.GradXIdeal.defs₀ (F := Bits) :=
  congrArg Defs.onTc (funext fun l => funext fun _ => match l with | 0 => rfl)

theorem frame_bits : Cert.quiescent_GradX := fun m g _ => by
  have hd : Cert.GradX.defs (F := Bits) = Cert.GradXIdeal.defs (F := Bits) := congrArg (Pipeline.defs Cert.GradXIdeal.pcfgs) bodies
  rw [hd]
  exact Cert.GradXIdeal.Gen.frame (F := Bits) m g

theorem frame_ref : Cert.quiescent_GradXRefIdeal := fun m g _ =>
  (θ_run Cert.GradXRefIdeal.defs _ _).mono (fun r h => ⟨fun c => (h c).2.2.2.2, sem_eq_zero_of_no_sems (by decide) r.2⟩)
    (Cert.GradXRefIdeal.Value.run m g)

/-- What the reference computes is the four results. -/
theorem reference (g : Dev Cert.GradXRefIdeal.nD → PrngReg) :
    θ_run Cert.GradXRefIdeal.defs (onTc (τ := Cert.GradXRefIdeal.τ) (Cert.GradXRefIdeal.main (F := Ideal))) ⟨m', fun _ => 0, g⟩ fun r => ∀ c : Dev Cert.GradXRefIdeal.nD,
      r.2.mem ((c.tc : Thread Cert.GradXRefIdeal.nD Cert.GradXRefIdeal.τ).loc Cert.GradXRefIdeal.main_v64) = gradX (m' ((c.tc : Thread Cert.GradXRefIdeal.nD Cert.GradXRefIdeal.τ).loc Cert.GradXRefIdeal.main_arg0)) (m' ((c.tc : Thread Cert.GradXRefIdeal.nD Cert.GradXRefIdeal.τ).loc Cert.GradXRefIdeal.main_arg1)) (m' ((c.tc : Thread Cert.GradXRefIdeal.nD Cert.GradXRefIdeal.τ).loc Cert.GradXRefIdeal.main_arg2)) (m' ((c.tc : Thread Cert.GradXRefIdeal.nD Cert.GradXRefIdeal.τ).loc Cert.GradXRefIdeal.main_arg3)) (m' ((c.tc : Thread Cert.GradXRefIdeal.nD Cert.GradXRefIdeal.τ).loc Cert.GradXRefIdeal.main_arg4))
      ∧ r.2.mem ((c.tc : Thread Cert.GradXRefIdeal.nD Cert.GradXRefIdeal.τ).loc Cert.GradXRefIdeal.main_v45) = gradW (m' ((c.tc : Thread Cert.GradXRefIdeal.nD Cert.GradXRefIdeal.τ).loc Cert.GradXRefIdeal.main_arg0)) (m' ((c.tc : Thread Cert.GradXRefIdeal.nD Cert.GradXRefIdeal.τ).loc Cert.GradXRefIdeal.main_arg2)) (m' ((c.tc : Thread Cert.GradXRefIdeal.nD Cert.GradXRefIdeal.τ).loc Cert.GradXRefIdeal.main_arg3))
      ∧ r.2.mem ((c.tc : Thread Cert.GradXRefIdeal.nD Cert.GradXRefIdeal.τ).loc Cert.GradXRefIdeal.main_v42) = gradScale (m' ((c.tc : Thread Cert.GradXRefIdeal.nD Cert.GradXRefIdeal.τ).loc Cert.GradXRefIdeal.main_arg0)) (m' ((c.tc : Thread Cert.GradXRefIdeal.nD Cert.GradXRefIdeal.τ).loc Cert.GradXRefIdeal.main_arg1)) (m' ((c.tc : Thread Cert.GradXRefIdeal.nD Cert.GradXRefIdeal.τ).loc Cert.GradXRefIdeal.main_arg3))
      ∧ r.2.mem ((c.tc : Thread Cert.GradXRefIdeal.nD Cert.GradXRefIdeal.τ).loc Cert.GradXRefIdeal.main_v36) = gradShift (m' ((c.tc : Thread Cert.GradXRefIdeal.nD Cert.GradXRefIdeal.τ).loc Cert.GradXRefIdeal.main_arg3))
      ∧ r.2.mem ((c.tc : Thread Cert.GradXRefIdeal.nD Cert.GradXRefIdeal.τ).loc Cert.GradXRefIdeal.main_arg0) = (m' ((c.tc : Thread Cert.GradXRefIdeal.nD Cert.GradXRefIdeal.τ).loc Cert.GradXRefIdeal.main_arg0))
      ∧ r.2.mem ((c.tc : Thread Cert.GradXRefIdeal.nD Cert.GradXRefIdeal.τ).loc Cert.GradXRefIdeal.main_arg1) = (m' ((c.tc : Thread Cert.GradXRefIdeal.nD Cert.GradXRefIdeal.τ).loc Cert.GradXRefIdeal.main_arg1))
      ∧ r.2.mem ((c.tc : Thread Cert.GradXRefIdeal.nD Cert.GradXRefIdeal.τ).loc Cert.GradXRefIdeal.main_arg2) = (m' ((c.tc : Thread Cert.GradXRefIdeal.nD Cert.GradXRefIdeal.τ).loc Cert.GradXRefIdeal.main_arg2))
      ∧ r.2.mem ((c.tc : Thread Cert.GradXRefIdeal.nD Cert.GradXRefIdeal.τ).loc Cert.GradXRefIdeal.main_arg3) = (m' ((c.tc : Thread Cert.GradXRefIdeal.nD Cert.GradXRefIdeal.τ).loc Cert.GradXRefIdeal.main_arg3))
      ∧ r.2.mem ((c.tc : Thread Cert.GradXRefIdeal.nD Cert.GradXRefIdeal.τ).loc Cert.GradXRefIdeal.main_arg4) = (m' ((c.tc : Thread Cert.GradXRefIdeal.nD Cert.GradXRefIdeal.τ).loc Cert.GradXRefIdeal.main_arg4)) := by
  refine (θ_run Cert.GradXRefIdeal.defs _ _).mono (fun r h c => ⟨(h c).1.trans ?_, (h c).2.1.trans ?_, (h c).2.2.1.trans ?_, (h c).2.2.2.1.trans ?_, (h c).2.2.2.2⟩)
    (Cert.GradXRefIdeal.Value.run m' g)
  · funext j
    unfold Cert.GradXRefIdeal.Value.res_main_v64
    pointwise
    simp (discharger := omega) only [masked, Finset.univ_unique, Finset.sum_singleton]
    unfold gradX dx spread scaled den rowScale
    rfl
  · funext j
    pointwise
    simp only [fun x : Fin 8448 => masked x.isLt]
    unfold gradW dw scaled den rowScale
    rfl
  · funext j
    pointwise
    simp only [fun x : Fin 8448 => masked x.isLt]
    exact shares (j 0) (fun x : Fin 8448 => x.val < 256) _
  · funext j
    pointwise
    simp only [fun x : Fin 8448 => masked x.isLt]
    exact shares (j 0) (fun x : Fin 8448 => x.val < 256) _

/-! ## What the tiles leave -/

theorem plus_w (a : FVec Ideal S1x1024 .f32) (b : Vec Ideal S1x1024 .f32) (j : S1x1024.Idx) : k0_pay1 (F := Ideal) a b j = b j + a j := by
  pointwise [k0_pay1]

theorem plus_scale (a : FVec Ideal S8x1024 .f32) (b : Vec Ideal S8x1024 .f32) (j : S8x1024.Idx) : k0_pay2 (F := Ideal) a b j = b j + a j := by
  pointwise [k0_pay2]

theorem plus_shift (a : FVec Ideal S8x1024 .f32) (b : Vec Ideal S8x1024 .f32) (j : S8x1024.Idx) : k0_pay3 (F := Ideal) a b j = b j + a j := by
  pointwise [k0_pay3]

theorem ends : ∀ t : Fin cfg0.N, ((cfg0.win 7).flush t = true → t.val = 32) ∧ ((cfg0.win 8).flush t = true → t.val = 32)
    ∧ ((cfg0.win 9).flush t = true → t.val = 32) :=
  (by decide +kernel : ∀ t : Fin grid0.N, (win0_7.flush t = true → t.val = 32) ∧ (win0_8.flush t = true → t.val = 32) ∧ (win0_9.flush t = true → t.val = 32))

variable (c : Dev nD)

theorem same_x (t : Fin cfg0.N) (i : Fin 256) (r : Fin 8448) (hr : r.val = t.val * 256 + i.val) :
    (fun k : Fin 1024 => (iblk m c 0 t : Vec Ideal S256x1024 .f32) (ix2 i k)) = fun k => (m ((c.tc : Thread nD τ).loc main_arg0)) (ix2 r k) := by
  funext k
  blk_point [iblk, V, places t]

theorem same_w (t : Fin cfg0.N) :
    (fun k : Fin 1024 => (iblk m c 1 t : Vec Ideal S1x1024 .f32) (ix2 0 k)) = fun k => (m ((c.tc : Thread nD τ).loc main_arg1)) (ix2 0 k) := by
  funext k
  blk_point [iblk, V, places t]

theorem same_scale (t : Fin cfg0.N) (i : Fin 256) (r : Nat) (hr : r = t.val * 256 + i.val) :
    tileScale t (iblk m c 2 t) = rowScale (m ((c.tc : Thread nD τ).loc main_arg2)) r := by
  funext k
  unfold tileScale rowScale
  by_cases ht : t.val = 0
  · rw [if_pos ht, if_pos (by omega)]
    blk_point [iblk, V, places t]
  · rw [if_neg ht, if_neg (by omega)]
    blk_point [iblk, V, places t]

theorem same_c (t : Fin cfg0.N) (i : Fin 256) (r : Fin 8448) (hr : r.val = t.val * 256 + i.val) :
    (fun k : Fin 1024 => (iblk m c 4 t : Vec Ideal S256x1024 .f32) (ix2 i k)) = fun k => (m ((c.tc : Thread nD τ).loc main_arg3)) (ix2 r k) := by
  funext k
  blk_point [iblk, V, places t]

/-- The stream's gradient: each tile past the context stores what belongs at its rows. -/
theorem final_x : (dats m 0 c).arrAt 6 cfg0.N = gradX (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 6 _ (by decide +kernel) fun t hf y => ?_
  have ht := late t hf
  have hN := lt_of_lt_of_eq t.isLt N_0
  blk_simp
  rw [after0_6, outsAt0_B m c t (by omega) ht]
  frame_out
  rw [tile_dx]
  have hy : (y 0).val < 256 := (y 0).isLt
  refine Eq.trans ?_ ((fun G : Vec Ideal S8192x1024 .f32 => (by blk_point [places t] : G (ix2 ⟨(t.val - 1) * 256 + (y 0).val, by omega⟩ (y 1)) = G _))
    (gradX (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))))
  have hr : (⟨256 + ((t.val - 1) * 256 + (y 0).val), by omega⟩ : Fin 8448).val = t.val * 256 + (y 0).val := by simp only; omega
  rw [same_x m c t (y 0) _ hr, same_w m c t, same_scale m c t (y 0) _ hr, same_c m c t (y 0) _ hr]
  refine congrArg (dx _ _ _ _ (y 1) + ·) ?_
  blk_point [iblk, V, places t]

/-- The norm's. -/
theorem final_w : (dats m 0 c).arrAt 7 cfg0.N = gradW (m ((c.tc : Thread nD τ).loc main_arg0)) (m ((c.tc : Thread nD τ).loc main_arg2)) (m ((c.tc : Thread nD τ).loc main_arg3)) := by
  refine (dats m 0 c).arrAt_eq_of_covers 7 _ (by decide +kernel) fun t hf y => ?_
  blk_simp
  rw [after0_7, Pipeline.eq_sum_fin_of_reset_step_apply_last (fun n h => (outsAt0 m c n h).2.1) 33 (fun _ => (0 : EReal))
    (fun p j => k0_pay12 (F := Ideal) (grid0.coords p) (iblk m c 0 p) (iblk m c 2 p) (iblk m c 4 p) j)
    (fun t h j => by rw [outsAt0_A m c t h (by have := lt_of_lt_of_eq t.isLt N_0; omega)]; frame_out; rw [zero_add])
    (fun t h j => by rw [outsAt0_B m c t h (by omega)]; frame_out; rw [plus_w])
    (le_of_eq N_0) t ((congrArg (· + 1) ((ends t).1 hf)).trans N_0.symm) y, zero_add]
  obtain ⟨i, k, rfl⟩ : ∃ (i : Fin 1) (k : Fin 1024), y = ix2 i k := ⟨y 0, y 1, eq_ix2 y⟩
  refine Eq.trans ?_ ((fun G : Vec Ideal S1x1024 .f32 => (by blk_point [places t] : G (ix2 i k) = G _)) (gradW (m ((c.tc : Thread nD τ).loc main_arg0)) (m ((c.tc : Thread nD τ).loc main_arg2)) (m ((c.tc : Thread nD τ).loc main_arg3))))
  refine rows N_0 _ _ fun p => ?_
  rw [tile_dw]
  refine Finset.sum_congr rfl fun q _ => ?_
  have hp := lt_of_lt_of_eq p.isLt N_0
  have hr : (⟨p.val * 256 + q.val, by omega⟩ : Fin 8448).val = p.val * 256 + q.val := rfl
  rw [same_x m c p q _ hr, same_scale m c p q _ hr, same_c m c p q _ hr]
  rfl

/-- The scale's. -/
theorem final_scale : (dats m 0 c).arrAt 8 cfg0.N = gradScale (m ((c.tc : Thread nD τ).loc main_arg0)) (m ((c.tc : Thread nD τ).loc main_arg1)) (m ((c.tc : Thread nD τ).loc main_arg3)) := by
  refine (dats m 0 c).arrAt_eq_of_covers 8 _ (by decide +kernel) fun t hf y => ?_
  blk_simp
  rw [after0_8, Pipeline.eq_sum_fin_of_reset_step_apply_last (fun n h => (outsAt0 m c n h).2.2.1) 33 (fun _ => (0 : EReal))
    (fun p j => k0_pay16 (F := Ideal) (Scalar.cmpi .slt (BitVec.ofNat 32 (grid0.coords p 1).val) 1#32)
      (k0_pay10 (iblk m c 0 p) (iblk m c 1 p) (iblk m c 4 p)) j)
    (fun t h j => by rw [outsAt0_A m c t h (by have := lt_of_lt_of_eq t.isLt N_0; omega)]; frame_out; rw [zero_add])
    (fun t h j => by rw [outsAt0_B m c t h (by omega)]; frame_out; rw [plus_scale])
    (le_of_eq N_0) t ((congrArg (· + 1) ((ends t).2.1 hf)).trans N_0.symm) y, zero_add]
  obtain ⟨i, k, rfl⟩ : ∃ (i : Fin 8) (k : Fin 1024), y = ix2 i k := ⟨y 0, y 1, eq_ix2 y⟩
  refine Eq.trans ?_ ((fun G : Vec Ideal S8x1024 .f32 => (by blk_point [places t] : G (ix2 i k) = G _)) (gradScale (m ((c.tc : Thread nD τ).loc main_arg0)) (m ((c.tc : Thread nD τ).loc main_arg1)) (m ((c.tc : Thread nD τ).loc main_arg3))))
  refine rows N_0 _ _ fun p => ?_
  rw [tile_dscale]
  refine Finset.sum_congr rfl fun q _ => ?_
  have hp := lt_of_lt_of_eq p.isLt N_0
  have hr : (⟨p.val * 256 + q.val, by omega⟩ : Fin 8448).val = p.val * 256 + q.val := rfl
  rw [same_x m c p q _ hr, same_w m c p, same_c m c p q _ hr]
  exact same_share i (by simp only; omega) _

/-- The shift's. -/
theorem final_shift : (dats m 0 c).arrAt 9 cfg0.N = gradShift (m ((c.tc : Thread nD τ).loc main_arg3)) := by
  refine (dats m 0 c).arrAt_eq_of_covers 9 _ (by decide +kernel) fun t hf y => ?_
  blk_simp
  rw [after0_9, Pipeline.eq_sum_fin_of_reset_step_apply_last (fun n h => (outsAt0 m c n h).2.2.2) 33 (fun _ => (0 : EReal))
    (fun p j => k0_pay15 (F := Ideal) (Scalar.cmpi .slt (BitVec.ofNat 32 (grid0.coords p 1).val) 1#32) (k0_pay9 (iblk m c 4 p)) j)
    (fun t h j => by rw [outsAt0_A m c t h (by have := lt_of_lt_of_eq t.isLt N_0; omega)]; frame_out; rw [zero_add])
    (fun t h j => by rw [outsAt0_B m c t h (by omega)]; frame_out; rw [plus_shift])
    (le_of_eq N_0) t ((congrArg (· + 1) ((ends t).2.2 hf)).trans N_0.symm) y, zero_add]
  obtain ⟨i, k, rfl⟩ : ∃ (i : Fin 8) (k : Fin 1024), y = ix2 i k := ⟨y 0, y 1, eq_ix2 y⟩
  refine Eq.trans ?_ ((fun G : Vec Ideal S8x1024 .f32 => (by blk_point [places t] : G (ix2 i k) = G _)) (gradShift (m ((c.tc : Thread nD τ).loc main_arg3))))
  refine rows N_0 _ _ fun p => ?_
  rw [tile_dshift]
  refine Finset.sum_congr rfl fun q _ => ?_
  have hp := lt_of_lt_of_eq p.isLt N_0
  have hr : (⟨p.val * 256 + q.val, by omega⟩ : Fin 8448).val = p.val * 256 + q.val := rfl
  exact (same_share i (by simp only; omega) _).trans (congrArg (share i _) (congrFun (same_c m c p q _ hr) k))

omit c

theorem algebraic : Cert.algebraic_GradXIdeal_GradXRefIdeal := fun m g m' g' _ hm => by
  refine ⟨_, _, _, _, (θ_run Cert.GradXIdeal.defs _ _).mono (fun _ h c => ⟨(h c).1.trans ?_, (h c).2.1.trans ?_, (h c).2.2.1.trans ?_, (h c).2.2.2.1.trans ?_,
      (h c).2.2.2.2⟩) (Cert.GradXIdeal.Value.run_blocks m g),
    reference m' g'⟩
  · rw [(hm c).1, (hm c).2.1, (hm c).2.2.1, (hm c).2.2.2.1, (hm c).2.2.2.2]
    exact final_x m c
  · rw [(hm c).1, (hm c).2.2.1, (hm c).2.2.2.1]
    exact final_w m c
  · rw [(hm c).1, (hm c).2.1, (hm c).2.2.2.1]
    exact final_scale m c
  · rw [(hm c).2.2.2.1]
    exact final_shift m c

end Cert.GradXClaims

end
-- ==== Proof.PrenormClaims.lean ====
/- The first norm and its modulation: both frames, the reference's, and the equation of the results. -/
module

public import proofs.«01_k».proof.Defs
public import proofs.«01_k».proof.Proof.Gen.Prenorm
public import proofs.«01_k».proof.Proof.Gen.PrenormIdeal
public import proofs.«01_k».proof.Proof.Gen.PrenormIdeal.Value
public import proofs.«01_k».proof.Proof.Gen.PrenormRefIdeal.Run
public import proofs.«01_k».proof.Proof.Norms
public import Idealize.ShloMosaic.Lib.Pipeline.ValueKit
public import Idealize.ShloMosaic.Lib.Quiescent

@[expose] public section

set_option maxRecDepth 16384

noncomputable section

namespace Cert.PrenormClaims

open Idealize.ShloMosaic Idealize.ShloMosaic.TcCoe Idealize.SL.Sem
open Idealize.ShloMosaic.Pipeline (Dat)
open Cert.PrenormIdeal Cert.PrenormIdeal.Gen Cert.Norms

theorem frame_ideal : Cert.quiescent_PrenormIdeal := fun m g _ => Cert.PrenormIdeal.Gen.frame (F := Ideal) m g

/-- The program read at the machine's own numbers calls the same body. -/
theorem bodies : Cert.Prenorm.defs₀ (F := Bits) = Cert.PrenormIdeal.defs₀ (F := Bits) :=
  congrArg Defs.onTc (funext fun l => funext fun _ => match l with | 0 => rfl)

theorem frame_bits : Cert.quiescent_Prenorm := fun m g _ => by
  have hd : Cert.Prenorm.defs (F := Bits) = Cert.PrenormIdeal.defs (F := Bits) := congrArg (Pipeline.defs Cert.PrenormIdeal.pcfgs) bodies
  rw [hd]
  exact Cert.PrenormIdeal.Gen.frame (F := Bits) m g

theorem frame_ref : Cert.quiescent_PrenormRefIdeal := fun m g _ =>
  (θ_run Cert.PrenormRefIdeal.defs _ _).mono (fun r h => ⟨fun c => (h c).2, sem_eq_zero_of_no_sems (by decide) r.2⟩)
    (Cert.PrenormRefIdeal.Value.run m g)

/-- The modulation's row at a token: the context's or the example's. -/
def turn (i : Fin 8448) : Fin 8 := if i.val < 256 then 1 else 0

/-- The normed and modulated array. -/
def modulated (a0 : Vec Ideal S8448x1024 .f32) (a1 : Vec Ideal S1x1024 .f32) (a2 : Vec Ideal S8x6144 .f32) : Vec Ideal S8448x1024 .bf16 := fun j =>
  normed (fun k => a0 (ix2 (j 0) k)) (fun k => a1 (ix2 0 k)) (fun k => a2 (ix2 (turn (j 0)) ⟨1024 + k.val, by omega⟩)) (fun k => a2 (ix2 (turn (j 0)) ⟨k.val, by omega⟩)) (j 1)

/-- The reference takes the modulation's row by its test for the context. -/
theorem taken (r : Fin 8448) (f : Fin 8 → EReal) :
    Scalar.select (IntOp.cmpi CmpIPredicate.slt (BitVec.ofNat 32 r.val) 256#32) (f 1) (f 0) = f (turn r) := by
  rw [masked r.isLt]
  unfold turn
  by_cases hc : r.val < 256 <;> simp only [hc, if_true, if_false]

/-- The reference's result is the modulated array. -/
theorem reference
    (m' : (ℓ : Loc Cert.PrenormRefIdeal.nD Cert.PrenormRefIdeal.τ Cert.PrenormRefIdeal.sig) → Buf (Elt Ideal) ℓ) (g : Dev Cert.PrenormRefIdeal.nD → PrngReg) :
    θ_run Cert.PrenormRefIdeal.defs (onTc (τ := Cert.PrenormRefIdeal.τ) (Cert.PrenormRefIdeal.main (F := Ideal))) ⟨m', fun _ => 0, g⟩ fun r => ∀ c : Dev Cert.PrenormRefIdeal.nD,
      r.2.mem ((c.tc : Thread Cert.PrenormRefIdeal.nD Cert.PrenormRefIdeal.τ).loc Cert.PrenormRefIdeal.main_v28)
        = modulated (m' ((c.tc : Thread Cert.PrenormRefIdeal.nD Cert.PrenormRefIdeal.τ).loc Cert.PrenormRefIdeal.main_arg0)) (m' ((c.tc : Thread Cert.PrenormRefIdeal.nD Cert.PrenormRefIdeal.τ).loc Cert.PrenormRefIdeal.main_arg1)) (m' ((c.tc : Thread Cert.PrenormRefIdeal.nD Cert.PrenormRefIdeal.τ).loc Cert.PrenormRefIdeal.main_arg2))
      ∧ r.2.mem ((c.tc : Thread Cert.PrenormRefIdeal.nD Cert.PrenormRefIdeal.τ).loc Cert.PrenormRefIdeal.main_arg0) = m' ((c.tc : Thread Cert.PrenormRefIdeal.nD Cert.PrenormRefIdeal.τ).loc Cert.PrenormRefIdeal.main_arg0)
      ∧ r.2.mem ((c.tc : Thread Cert.PrenormRefIdeal.nD Cert.PrenormRefIdeal.τ).loc Cert.PrenormRefIdeal.main_arg1) = m' ((c.tc : Thread Cert.PrenormRefIdeal.nD Cert.PrenormRefIdeal.τ).loc Cert.PrenormRefIdeal.main_arg1)
      ∧ r.2.mem ((c.tc : Thread Cert.PrenormRefIdeal.nD Cert.PrenormRefIdeal.τ).loc Cert.PrenormRefIdeal.main_arg2) = m' ((c.tc : Thread Cert.PrenormRefIdeal.nD Cert.PrenormRefIdeal.τ).loc Cert.PrenormRefIdeal.main_arg2) := by
  refine (θ_run Cert.PrenormRefIdeal.defs _ _).mono (fun r h c => ⟨(h c).1.trans ?_, (h c).2⟩) (Cert.PrenormRefIdeal.Value.run m' g)
  funext j
  obtain ⟨i, k, rfl⟩ : ∃ i k, j = ix2 i k := ⟨j 0, j 1, eq_ix2 j⟩
  pointwise
  unfold modulated normed den
  exact congrArg₂ (fun a b : EReal => _ * (1 + a) + b)
    (taken i fun q => m' ((c.tc : Thread Cert.PrenormRefIdeal.nD Cert.PrenormRefIdeal.τ).loc Cert.PrenormRefIdeal.main_arg2) (ix2 q ⟨1024 + k.val, by omega⟩))
    (taken i fun q => m' ((c.tc : Thread Cert.PrenormRefIdeal.nD Cert.PrenormRefIdeal.τ).loc Cert.PrenormRefIdeal.main_arg2) (ix2 q ⟨k.val, by omega⟩))

/-! ## A tile -/

/-- Where each window stands at a tile. -/
theorem places : ∀ t : Fin cfg0.N, win0_0.index t = ![t.val, 0] ∧ win0_1.index t = ![0, 0] ∧ win0_2.index t = ![0, 1] ∧ win0_3.index t = ![0, 0]
    ∧ win0_4.index t = ![t.val, 0] :=
  (by decide +kernel : ∀ t : Fin grid0.N, _)

/-- In the context the test for it holds. -/
theorem within : ∀ t : Fin cfg0.N, t.val = 0 → Scalar.cmpi .slt (BitVec.ofNat 32 (grid0.coords t 1).val) 1#32 = 1#1 :=
  (by decide +kernel : ∀ t : Fin grid0.N, t.val = 0 → Scalar.cmpi .slt (BitVec.ofNat 32 (grid0.coords t 1).val) 1#32 = 1#1)

/-- Past the context the test for the context fails. -/
theorem past : ∀ t : Fin cfg0.N, 1 ≤ t.val → Scalar.cmpi .slt (BitVec.ofNat 32 (grid0.coords t 1).val) 1#32 = 0#1 :=
  (by decide +kernel : ∀ t : Fin grid0.N, 1 ≤ t.val → Scalar.cmpi .slt (BitVec.ofNat 32 (grid0.coords t 1).val) 1#32 = 0#1)

/-- The modulation's row at a tile. -/
def tileTurn (t : Fin cfg0.N) : Fin 8 := if t.val = 0 then 1 else 0

/-- A tile norms and modulates its tokens. -/
theorem tile (t : Fin cfg0.N) (v0 : Vec Ideal S256x1024 .f32) (v1 : Vec Ideal S1x1024 .f32) (v2 v3 : Vec Ideal S8x1024 .f32) (i : Fin 256) (k : Fin 1024) :
    k0_pay1 (F := Ideal) (grid0.coords t) v0 v1 v2 v3 (ix2 i k)
      = normed (fun k => v0 (ix2 i k)) (fun k => v1 (ix2 0 k)) (fun k => v2 (ix2 (tileTurn t) k)) (fun k => v3 (ix2 (tileTurn t) k)) k := by
  unfold normed den tileTurn
  by_cases ht : t.val = 0
  · have := within t ht
    rw [if_pos ht]
    pointwise [k0_pay1, this]
  · have := past t (by omega)
    rw [if_neg ht]
    pointwise [k0_pay1, this]

variable (m : (ℓ : Loc nD τ sig) → Buf (Elt Ideal) ℓ) (c : Dev nD)

/-- The result is the modulated array. -/
theorem final : (dats m 0 c).arrAt 4 cfg0.N = modulated (m ((c.tc : Thread nD τ).loc main_arg0)) (m ((c.tc : Thread nD τ).loc main_arg1)) (m ((c.tc : Thread nD τ).loc main_arg2)) := by
  refine (dats m 0 c).arrAt_eq_of_covers 4 _ (by decide +kernel) fun t hf y => ?_
  have hN := lt_of_lt_of_eq t.isLt N_0
  blk_simp
  rw [after0_4]
  frame_out
  obtain ⟨i, k, rfl⟩ : ∃ (i : Fin 256) (k : Fin 1024), y = ix2 i k := ⟨y 0, y 1, eq_ix2 y⟩
  have hi := i.isLt
  refine Eq.trans ?_ ((fun G : Vec Ideal S8448x1024 .bf16 => (by blk_point [places t] : G (ix2 ⟨t.val * 256 + i.val, by omega⟩ k) = G _))
    (modulated (m ((c.tc : Thread nD τ).loc main_arg0)) (m ((c.tc : Thread nD τ).loc main_arg1)) (m ((c.tc : Thread nD τ).loc main_arg2))))
  have hrow : tileTurn t = turn ⟨t.val * 256 + i.val, by omega⟩ := by
    unfold tileTurn turn
    exact if_congr (by simp only; omega) rfl rfl
  have h0 : (fun k => (iblk m c 0 t : Vec Ideal S256x1024 .f32) (ix2 i k)) = fun k => (m ((c.tc : Thread nD τ).loc main_arg0)) (ix2 ⟨t.val * 256 + i.val, by omega⟩ k) := by
    funext k
    blk_point [iblk, V, places t]
  have h1 : (fun k => (iblk m c 1 t : Vec Ideal S1x1024 .f32) (ix2 0 k)) = fun k => (m ((c.tc : Thread nD τ).loc main_arg1)) (ix2 0 k) := by
    funext k
    blk_point [iblk, V, places t]
  have h2 : ∀ q : Fin 8, (fun k => (iblk m c 2 t : Vec Ideal S8x1024 .f32) (ix2 q k)) = fun k : Fin 1024 => (m ((c.tc : Thread nD τ).loc main_arg2)) (ix2 q ⟨1024 + k.val, by omega⟩) := by
    intro q
    funext k
    blk_point [iblk, V, places t]
  have h3 : ∀ q : Fin 8, (fun k => (iblk m c 3 t : Vec Ideal S8x1024 .f32) (ix2 q k)) = fun k : Fin 1024 => (m ((c.tc : Thread nD τ).loc main_arg2)) (ix2 q ⟨k.val, by omega⟩) := by
    intro q
    funext k
    blk_point [iblk, V, places t]
  rw [tile, h0, h1, h2, h3, hrow]
  rfl

omit c

theorem algebraic : Cert.algebraic_PrenormIdeal_PrenormRefIdeal := fun m g m' g' _ hm => by
  refine ⟨_, (θ_run Cert.PrenormIdeal.defs _ _).mono (fun _ h c => ⟨(h c).1.trans ?_, (h c).2⟩) (Cert.PrenormIdeal.Value.run_blocks m g), reference m' g'⟩
  rw [(hm c).1, (hm c).2.1, (hm c).2.2]
  exact final m c

end Cert.PrenormClaims

end
-- ==== Proof.InProjClaims.lean ====
/- The product with the packed weights: both frames, the reference's, and the equation of the results. -/
module

public import proofs.«01_k».proof.Defs
public import proofs.«01_k».proof.Proof.Gen.InProj
public import proofs.«01_k».proof.Proof.Gen.InProjIdeal
public import proofs.«01_k».proof.Proof.Gen.InProjIdeal.Value
public import proofs.«01_k».proof.Proof.Gen.InProjRefIdeal.Run
public import Idealize.ShloMosaic.Lib.Pipeline.ValueKit
public import Idealize.ShloMosaic.Lib.Quiescent

@[expose] public section

set_option maxRecDepth 16384

noncomputable section

namespace Cert.InProjClaims

open Idealize.ShloMosaic Idealize.ShloMosaic.TcCoe Idealize.SL.Sem
open Idealize.ShloMosaic.Pipeline (Dat)
open Cert.InProjIdeal Cert.InProjIdeal.Gen

theorem frame_ideal : Cert.quiescent_InProjIdeal := fun m g _ => Cert.InProjIdeal.Gen.frame (F := Ideal) m g

/-- The program read at the machine's own numbers calls the same body. -/
theorem bodies : Cert.InProj.defs₀ (F := Bits) = Cert.InProjIdeal.defs₀ (F := Bits) :=
  congrArg Defs.onTc (funext fun l => funext fun _ => match l with | 0 => rfl)

theorem frame_bits : Cert.quiescent_InProj := fun m g _ => by
  have hd : Cert.InProj.defs (F := Bits) = Cert.InProjIdeal.defs (F := Bits) := congrArg (Pipeline.defs Cert.InProjIdeal.pcfgs) bodies
  rw [hd]
  exact Cert.InProjIdeal.Gen.frame (F := Bits) m g

theorem frame_ref : Cert.quiescent_InProjRefIdeal := fun m g _ =>
  (θ_run Cert.InProjRefIdeal.defs _ _).mono (fun r h => ⟨fun c => (h c).2, sem_eq_zero_of_no_sems (by decide) r.2⟩)
    (Cert.InProjRefIdeal.Value.run m g)

/-- The product of the whole arrays. -/
def product (a : Vec Ideal S8448x1024 .bf16) (b : Vec Ideal S1024x11776 .bf16) : Vec Ideal S8448x11776 .f32 :=
  fun j => ∑ x : Fin 1024, a (ix2 (j 0) x) * b (ix2 x (j 1))

/-- The reference's result is the product. -/
theorem reference (m' : (ℓ : Loc Cert.InProjRefIdeal.nD Cert.InProjRefIdeal.τ Cert.InProjRefIdeal.sig) → Buf (Elt Ideal) ℓ) (g : Dev Cert.InProjRefIdeal.nD → PrngReg) :
    θ_run Cert.InProjRefIdeal.defs (onTc (τ := Cert.InProjRefIdeal.τ) (Cert.InProjRefIdeal.main (F := Ideal))) ⟨m', fun _ => 0, g⟩ fun r => ∀ c : Dev Cert.InProjRefIdeal.nD,
      r.2.mem ((c.tc : Thread Cert.InProjRefIdeal.nD Cert.InProjRefIdeal.τ).loc Cert.InProjRefIdeal.main_v0)
        = product (m' ((c.tc : Thread Cert.InProjRefIdeal.nD Cert.InProjRefIdeal.τ).loc Cert.InProjRefIdeal.main_arg0)) (m' ((c.tc : Thread Cert.InProjRefIdeal.nD Cert.InProjRefIdeal.τ).loc Cert.InProjRefIdeal.main_arg1))
      ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1) := by
  refine (θ_run Cert.InProjRefIdeal.defs _ _).mono (fun r h c => ⟨(h c).1.trans ?_, (h c).2⟩) (Cert.InProjRefIdeal.Value.run m' g)
  funext j
  obtain ⟨i, k, rfl⟩ : ∃ i k, j = ix2 i k := ⟨j 0, j 1, eq_ix2 j⟩
  pointwise
  unfold product
  rfl

/-- Where each window stands at a point, which takes a block's whole contraction. -/
theorem places : ∀ t : Fin cfg0.N, win0_0.index t = ![t.val / 23, 0] ∧ win0_1.index t = ![0, t.val % 23] ∧ win0_2.index t = ![t.val / 23, t.val % 23] :=
  (by decide +kernel : ∀ t : Fin grid0.N, _)

/-- What a point computes is its block of the product. -/
theorem part (v0 : Vec Ideal S768x1024 .bf16) (v1 : Vec Ideal S1024x512 .bf16) (i : Fin 768) (k : Fin 512) :
    k0_pay2 (F := Ideal) v0 v1 (ix2 i k) = ∑ x : Fin 1024, v0 (ix2 i x) * v1 (ix2 x k) := by
  pointwise [k0_pay2, k0_pay1]

variable (m : (ℓ : Loc nD τ sig) → Buf (Elt Ideal) ℓ) (c : Dev nD)

/-- What a point writes back. -/
theorem written (t : Fin cfg0.N) (y : S768x512.Idx) : outsAt0 m c t y = k0_pay2 (F := Ideal) (iblk m c 0 t) (iblk m c 1 t) y := by
  unfold outsAt0
  frame_out

/-- The result is the product. -/
theorem final : (dats m 0 c).arrAt 2 cfg0.N = product (m ((c.tc : Thread nD τ).loc main_arg0)) (m ((c.tc : Thread nD τ).loc main_arg1)) := by
  refine (dats m 0 c).arrAt_eq_of_covers 2 _ (by decide +kernel) fun t hf y => ?_
  have hN := lt_of_lt_of_eq t.isLt N_0
  blk_simp
  rw [after0_2, written]
  obtain ⟨i, k, rfl⟩ : ∃ (i : Fin 768) (k : Fin 512), y = ix2 i k := ⟨y 0, y 1, eq_ix2 y⟩
  have hi := i.isLt
  have hk := k.isLt
  refine Eq.trans ?_ ((fun G : Vec Ideal S8448x11776 .f32 => (by blk_point [places t] : G (ix2 ⟨t.val / 23 * 768 + i.val, by omega⟩ ⟨t.val % 23 * 512 + k.val, by omega⟩) = G _))
    (product (m ((c.tc : Thread nD τ).loc main_arg0)) (m ((c.tc : Thread nD τ).loc main_arg1))))
  rw [part]
  unfold product
  change @Eq EReal _ _
  refine Finset.sum_congr rfl fun q _ => ?_
  refine congrArg₂ (fun a b : EReal => a * b) ?_ ?_
  · blk_point [iblk, V, places t]
  · blk_point [iblk, V, places t]

omit c

theorem algebraic : Cert.algebraic_InProjIdeal_InProjRefIdeal := fun m g m' g' _ hm => by
  refine ⟨_, (θ_run Cert.InProjIdeal.defs _ _).mono (fun _ h c => ⟨(h c).1.trans ?_, (h c).2⟩) (Cert.InProjIdeal.Value.run_blocks m g), reference m' g'⟩
  rw [(hm c).1, (hm c).2]
  exact final m c

end Cert.InProjClaims

end
-- ==== Proof.Norm2Claims.lean ====
/- The gated residual, the second norm and its modulation: both frames, the reference's, and the equation of the results. -/
module

public import proofs.«01_k».proof.Defs
public import proofs.«01_k».proof.Proof.Gen.Norm2
public import proofs.«01_k».proof.Proof.Gen.Norm2Ideal
public import proofs.«01_k».proof.Proof.Gen.Norm2Ideal.Value
public import proofs.«01_k».proof.Proof.Gen.Norm2RefIdeal.Run
public import proofs.«01_k».proof.Proof.Norms
public import Idealize.ShloMosaic.Lib.Pipeline.ValueKit
public import Idealize.ShloMosaic.Lib.Quiescent

@[expose] public section

set_option maxRecDepth 16384

noncomputable section

namespace Cert.Norm2Claims

open Idealize.ShloMosaic Idealize.ShloMosaic.TcCoe Idealize.SL.Sem
open Idealize.ShloMosaic.Pipeline (Dat)
open Cert.Norm2Ideal Cert.Norm2Ideal.Gen Cert.Norms

theorem frame_ideal : Cert.quiescent_Norm2Ideal := fun m g _ => Cert.Norm2Ideal.Gen.frame (F := Ideal) m g

/-- The program read at the machine's own numbers calls the same body. -/
theorem bodies : Cert.Norm2.defs₀ (F := Bits) = Cert.Norm2Ideal.defs₀ (F := Bits) :=
  congrArg Defs.onTc (funext fun l => funext fun _ => match l with | 0 => rfl)

theorem frame_bits : Cert.quiescent_Norm2 := fun m g _ => by
  have hd : Cert.Norm2.defs (F := Bits) = Cert.Norm2Ideal.defs (F := Bits) := congrArg (Pipeline.defs Cert.Norm2Ideal.pcfgs) bodies
  rw [hd]
  exact Cert.Norm2Ideal.Gen.frame (F := Bits) m g

theorem frame_ref : Cert.quiescent_Norm2RefIdeal := fun m g _ =>
  (θ_run Cert.Norm2RefIdeal.defs _ _).mono (fun r h => ⟨fun c => (h c).2.2, sem_eq_zero_of_no_sems (by decide) r.2⟩)
    (Cert.Norm2RefIdeal.Value.run m g)

/-- The residual's row with the gated branch added. -/
def joined (a0 a1 : Vec Ideal S8448x1024 .f32) (a2 : Vec Ideal S8x6144 .f32) (i : Fin 8448) (k : Fin 1024) : EReal :=
  a0 (ix2 i k) + a2 (ix2 0 ⟨2048 + k.val, by omega⟩) * a1 (ix2 i k)

/-- The residual. -/
def residual (a0 a1 : Vec Ideal S8448x1024 .f32) (a2 : Vec Ideal S8x6144 .f32) : Vec Ideal S8448x1024 .f32 := fun j => joined a0 a1 a2 (j 0) (j 1)

/-- The residual, normed and modulated. -/
def modulated (a0 a1 : Vec Ideal S8448x1024 .f32) (a2 : Vec Ideal S8x6144 .f32) (a3 : Vec Ideal S1x1024 .f32) : Vec Ideal S8448x1024 .bf16 := fun j =>
  normed (joined a0 a1 a2 (j 0)) (fun k => a3 (ix2 0 k)) (fun k => a2 (ix2 0 ⟨4096 + k.val, by omega⟩)) (fun k => a2 (ix2 0 ⟨3072 + k.val, by omega⟩)) (j 1)

/-- The reference's results are the residual and the modulated array. -/
theorem reference
    (m' : (ℓ : Loc Cert.Norm2RefIdeal.nD Cert.Norm2RefIdeal.τ Cert.Norm2RefIdeal.sig) → Buf (Elt Ideal) ℓ) (g : Dev Cert.Norm2RefIdeal.nD → PrngReg) :
    θ_run Cert.Norm2RefIdeal.defs (onTc (τ := Cert.Norm2RefIdeal.τ) (Cert.Norm2RefIdeal.main (F := Ideal))) ⟨m', fun _ => 0, g⟩ fun r => ∀ c : Dev Cert.Norm2RefIdeal.nD,
      r.2.mem ((c.tc : Thread Cert.Norm2RefIdeal.nD Cert.Norm2RefIdeal.τ).loc Cert.Norm2RefIdeal.main_v6)
        = residual (m' ((c.tc : Thread Cert.Norm2RefIdeal.nD Cert.Norm2RefIdeal.τ).loc Cert.Norm2RefIdeal.main_arg0)) (m' ((c.tc : Thread Cert.Norm2RefIdeal.nD Cert.Norm2RefIdeal.τ).loc Cert.Norm2RefIdeal.main_arg1)) (m' ((c.tc : Thread Cert.Norm2RefIdeal.nD Cert.Norm2RefIdeal.τ).loc Cert.Norm2RefIdeal.main_arg2))
      ∧ r.2.mem ((c.tc : Thread Cert.Norm2RefIdeal.nD Cert.Norm2RefIdeal.τ).loc Cert.Norm2RefIdeal.main_v27)
        = modulated (m' ((c.tc : Thread Cert.Norm2RefIdeal.nD Cert.Norm2RefIdeal.τ).loc Cert.Norm2RefIdeal.main_arg0)) (m' ((c.tc : Thread Cert.Norm2RefIdeal.nD Cert.Norm2RefIdeal.τ).loc Cert.Norm2RefIdeal.main_arg1)) (m' ((c.tc : Thread Cert.Norm2RefIdeal.nD Cert.Norm2RefIdeal.τ).loc Cert.Norm2RefIdeal.main_arg2)) (m' ((c.tc : Thread Cert.Norm2RefIdeal.nD Cert.Norm2RefIdeal.τ).loc Cert.Norm2RefIdeal.main_arg3))
      ∧ r.2.mem ((c.tc : Thread Cert.Norm2RefIdeal.nD Cert.Norm2RefIdeal.τ).loc Cert.Norm2RefIdeal.main_arg0) = m' ((c.tc : Thread Cert.Norm2RefIdeal.nD Cert.Norm2RefIdeal.τ).loc Cert.Norm2RefIdeal.main_arg0)
      ∧ r.2.mem ((c.tc : Thread Cert.Norm2RefIdeal.nD Cert.Norm2RefIdeal.τ).loc Cert.Norm2RefIdeal.main_arg1) = m' ((c.tc : Thread Cert.Norm2RefIdeal.nD Cert.Norm2RefIdeal.τ).loc Cert.Norm2RefIdeal.main_arg1)
      ∧ r.2.mem ((c.tc : Thread Cert.Norm2RefIdeal.nD Cert.Norm2RefIdeal.τ).loc Cert.Norm2RefIdeal.main_arg2) = m' ((c.tc : Thread Cert.Norm2RefIdeal.nD Cert.Norm2RefIdeal.τ).loc Cert.Norm2RefIdeal.main_arg2)
      ∧ r.2.mem ((c.tc : Thread Cert.Norm2RefIdeal.nD Cert.Norm2RefIdeal.τ).loc Cert.Norm2RefIdeal.main_arg3) = m' ((c.tc : Thread Cert.Norm2RefIdeal.nD Cert.Norm2RefIdeal.τ).loc Cert.Norm2RefIdeal.main_arg3) := by
  refine (θ_run Cert.Norm2RefIdeal.defs _ _).mono (fun r h c => ⟨(h c).1.trans ?_, (h c).2.1.trans ?_, (h c).2.2⟩) (Cert.Norm2RefIdeal.Value.run m' g)
  · funext j
    obtain ⟨i, k, rfl⟩ : ∃ i k, j = ix2 i k := ⟨j 0, j 1, eq_ix2 j⟩
    pointwise
    unfold residual joined
    rfl
  · funext j
    obtain ⟨i, k, rfl⟩ : ∃ i k, j = ix2 i k := ⟨j 0, j 1, eq_ix2 j⟩
    pointwise
    unfold modulated normed den joined
    rfl

/-! ## A tile -/

/-- Where each window stands at a tile. -/
theorem places : ∀ t : Fin cfg0.N, win0_0.index t = ![t.val, 0] ∧ win0_1.index t = ![t.val, 0] ∧ win0_2.index t = ![0, 2] ∧ win0_3.index t = ![0, 0]
    ∧ win0_4.index t = ![0, 4] ∧ win0_5.index t = ![0, 3] ∧ win0_6.index t = ![t.val, 0] ∧ win0_7.index t = ![t.val, 0] :=
  (by decide +kernel : ∀ t : Fin grid0.N, _)

/-- A tile's row with the gated branch added. -/
def summed (v0 v1 : Vec Ideal S256x1024 .f32) (v2 : Vec Ideal S8x1024 .f32) (i : Fin 256) (k : Fin 1024) : EReal :=
  v0 (ix2 i k) + v2 (ix2 0 k) * v1 (ix2 i k)

/-- A tile's residual. -/
theorem tile_joined (v0 v1 : Vec Ideal S256x1024 .f32) (v2 : Vec Ideal S8x1024 .f32) (i : Fin 256) (k : Fin 1024) :
    k0_pay1 (F := Ideal) v0 v1 v2 (ix2 i k) = summed v0 v1 v2 i k := by
  pointwise [k0_pay1]
  rfl

/-- A tile norms and modulates its tokens. -/
theorem tile_normed (v0 v1 : Vec Ideal S256x1024 .f32) (v2 : Vec Ideal S8x1024 .f32) (v3 : Vec Ideal S1x1024 .f32) (v4 v5 : Vec Ideal S8x1024 .f32) (i : Fin 256) (k : Fin 1024) :
    k0_pay2 (F := Ideal) v0 v1 v2 v3 v4 v5 (ix2 i k)
      = normed (summed v0 v1 v2 i) (fun k => v3 (ix2 0 k)) (fun k => v4 (ix2 0 k)) (fun k => v5 (ix2 0 k)) k := by
  unfold normed den
  pointwise [k0_pay2, tile_joined]

variable (m : (ℓ : Loc nD τ sig) → Buf (Elt Ideal) ℓ) (c : Dev nD)

/-- The residual that a tile reads is the array's. -/
theorem same_joined (t : Fin cfg0.N) (i : Fin 256) (r : Fin 8448) (hr : r.val = t.val * 256 + i.val) :
    summed (iblk m c 0 t) (iblk m c 1 t) (iblk m c 2 t) i
      = joined (m ((c.tc : Thread nD τ).loc main_arg0)) (m ((c.tc : Thread nD τ).loc main_arg1)) (m ((c.tc : Thread nD τ).loc main_arg2)) r := by
  have hlt : t.val * 256 + i.val < 8448 := hr ▸ r.isLt
  rw [show r = ⟨t.val * 256 + i.val, hlt⟩ from Fin.ext hr]
  funext k
  unfold joined summed
  refine congrArg₂ (fun a b : EReal => a + b) ?_ (congrArg₂ (fun a b : EReal => a * b) ?_ ?_)
  · blk_point [iblk, V, places t]
  · blk_point [iblk, V, places t]
  · blk_point [iblk, V, places t]

theorem final_residual : (dats m 0 c).arrAt 6 cfg0.N = residual (m ((c.tc : Thread nD τ).loc main_arg0)) (m ((c.tc : Thread nD τ).loc main_arg1)) (m ((c.tc : Thread nD τ).loc main_arg2)) := by
  refine (dats m 0 c).arrAt_eq_of_covers 6 _ (by decide +kernel) fun t hf y => ?_
  have hN := lt_of_lt_of_eq t.isLt N_0
  blk_simp
  rw [after0_6]
  frame_out
  obtain ⟨i, k, rfl⟩ : ∃ (i : Fin 256) (k : Fin 1024), y = ix2 i k := ⟨y 0, y 1, eq_ix2 y⟩
  have hi := i.isLt
  refine Eq.trans ?_ ((fun G : Vec Ideal S8448x1024 .f32 => (by blk_point [places t] : G (ix2 ⟨t.val * 256 + i.val, by omega⟩ k) = G _))
    (residual (m ((c.tc : Thread nD τ).loc main_arg0)) (m ((c.tc : Thread nD τ).loc main_arg1)) (m ((c.tc : Thread nD τ).loc main_arg2))))
  rw [tile_joined]
  exact congrFun (same_joined m c t i ⟨t.val * 256 + i.val, by omega⟩ rfl) k

theorem final_modulated : (dats m 0 c).arrAt 7 cfg0.N = modulated (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 7 _ (by decide +kernel) fun t hf y => ?_
  have hN := lt_of_lt_of_eq t.isLt N_0
  blk_simp
  rw [after0_7]
  frame_out
  obtain ⟨i, k, rfl⟩ : ∃ (i : Fin 256) (k : Fin 1024), y = ix2 i k := ⟨y 0, y 1, eq_ix2 y⟩
  have hi := i.isLt
  refine Eq.trans ?_ ((fun G : Vec Ideal S8448x1024 .bf16 => (by blk_point [places t] : G (ix2 ⟨t.val * 256 + i.val, by omega⟩ k) = G _))
    (modulated (m ((c.tc : Thread nD τ).loc main_arg0)) (m ((c.tc : Thread nD τ).loc main_arg1)) (m ((c.tc : Thread nD τ).loc main_arg2)) (m ((c.tc : Thread nD τ).loc main_arg3))))
  have h3 : (fun k => (iblk m c 3 t : Vec Ideal S1x1024 .f32) (ix2 0 k)) = fun k => (m ((c.tc : Thread nD τ).loc main_arg3)) (ix2 0 k) := by
    funext k
    blk_point [iblk, V, places t]
  have h4 : (fun k => (iblk m c 4 t : Vec Ideal S8x1024 .f32) (ix2 0 k)) = fun k : Fin 1024 => (m ((c.tc : Thread nD τ).loc main_arg2)) (ix2 0 ⟨4096 + k.val, by omega⟩) := by
    funext k
    blk_point [iblk, V, places t]
  have h5 : (fun k => (iblk m c 5 t : Vec Ideal S8x1024 .f32) (ix2 0 k)) = fun k : Fin 1024 => (m ((c.tc : Thread nD τ).loc main_arg2)) (ix2 0 ⟨3072 + k.val, by omega⟩) := by
    funext k
    blk_point [iblk, V, places t]
  rw [tile_normed, same_joined m c t i ⟨t.val * 256 + i.val, by omega⟩ rfl, h3, h4, h5]
  rfl

omit c

theorem algebraic : Cert.algebraic_Norm2Ideal_Norm2RefIdeal := fun m g m' g' _ hm => by
  refine ⟨_, _, (θ_run Cert.Norm2Ideal.defs _ _).mono (fun _ h c => ⟨(h c).1.trans ?_, (h c).2.1.trans ?_, (h c).2.2⟩) (Cert.Norm2Ideal.Value.run_blocks m g), reference m' g'⟩
  · rw [(hm c).1, (hm c).2.1, (hm c).2.2.1]
    exact final_residual m c
  · rw [(hm c).1, (hm c).2.1, (hm c).2.2.1, (hm c).2.2.2]
    exact final_modulated m c

end Cert.Norm2Claims

end
-- ==== Proof.FfnInClaims.lean ====
/- The product that begins the feed-forward layer: both frames, the reference's, and the equation of the results. -/
module

public import proofs.«01_k».proof.Defs
public import proofs.«01_k».proof.Proof.Gen.FfnIn
public import proofs.«01_k».proof.Proof.Gen.FfnInIdeal
public import proofs.«01_k».proof.Proof.Gen.FfnInIdeal.Value
public import proofs.«01_k».proof.Proof.Gen.FfnInRefIdeal.Run
public import Idealize.ShloMosaic.Lib.Pipeline.ValueKit
public import Idealize.ShloMosaic.Lib.Quiescent

@[expose] public section

set_option maxRecDepth 16384

noncomputable section

namespace Cert.FfnInClaims

open Idealize.ShloMosaic Idealize.ShloMosaic.TcCoe Idealize.SL.Sem
open Idealize.ShloMosaic.Pipeline (Dat)
open Cert.FfnInIdeal Cert.FfnInIdeal.Gen

theorem frame_ideal : Cert.quiescent_FfnInIdeal := fun m g _ => Cert.FfnInIdeal.Gen.frame (F := Ideal) m g

/-- The program read at the machine's own numbers calls the same body. -/
theorem bodies : Cert.FfnIn.defs₀ (F := Bits) = Cert.FfnInIdeal.defs₀ (F := Bits) :=
  congrArg Defs.onTc (funext fun l => funext fun _ => match l with | 0 => rfl)

theorem frame_bits : Cert.quiescent_FfnIn := fun m g _ => by
  have hd : Cert.FfnIn.defs (F := Bits) = Cert.FfnInIdeal.defs (F := Bits) := congrArg (Pipeline.defs Cert.FfnInIdeal.pcfgs) bodies
  rw [hd]
  exact Cert.FfnInIdeal.Gen.frame (F := Bits) m g

theorem frame_ref : Cert.quiescent_FfnInRefIdeal := fun m g _ =>
  (θ_run Cert.FfnInRefIdeal.defs _ _).mono (fun r h => ⟨fun c => (h c).2, sem_eq_zero_of_no_sems (by decide) r.2⟩)
    (Cert.FfnInRefIdeal.Value.run m g)

/-- The product of the whole arrays. -/
def product (a : Vec Ideal S8448x1024 .bf16) (b : Vec Ideal S1024x5632 .bf16) : Vec Ideal S8448x5632 .f32 :=
  fun j => ∑ x : Fin 1024, a (ix2 (j 0) x) * b (ix2 x (j 1))

/-- The reference's result is the product. -/
theorem reference (m' : (ℓ : Loc Cert.FfnInRefIdeal.nD Cert.FfnInRefIdeal.τ Cert.FfnInRefIdeal.sig) → Buf (Elt Ideal) ℓ) (g : Dev Cert.FfnInRefIdeal.nD → PrngReg) :
    θ_run Cert.FfnInRefIdeal.defs (onTc (τ := Cert.FfnInRefIdeal.τ) (Cert.FfnInRefIdeal.main (F := Ideal))) ⟨m', fun _ => 0, g⟩ fun r => ∀ c : Dev Cert.FfnInRefIdeal.nD,
      r.2.mem ((c.tc : Thread Cert.FfnInRefIdeal.nD Cert.FfnInRefIdeal.τ).loc Cert.FfnInRefIdeal.main_v0)
        = product (m' ((c.tc : Thread Cert.FfnInRefIdeal.nD Cert.FfnInRefIdeal.τ).loc Cert.FfnInRefIdeal.main_arg0)) (m' ((c.tc : Thread Cert.FfnInRefIdeal.nD Cert.FfnInRefIdeal.τ).loc Cert.FfnInRefIdeal.main_arg1))
      ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1) := by
  refine (θ_run Cert.FfnInRefIdeal.defs _ _).mono (fun r h c => ⟨(h c).1.trans ?_, (h c).2⟩) (Cert.FfnInRefIdeal.Value.run m' g)
  funext j
  obtain ⟨i, k, rfl⟩ : ∃ i k, j = ix2 i k := ⟨j 0, j 1, eq_ix2 j⟩
  pointwise
  unfold product
  rfl

/-- Where each window stands at a point, which takes a block's whole contraction. -/
theorem places : ∀ t : Fin cfg0.N, win0_0.index t = ![t.val / 11, 0] ∧ win0_1.index t = ![0, t.val % 11] ∧ win0_2.index t = ![t.val / 11, t.val % 11] :=
  (by decide +kernel : ∀ t : Fin grid0.N, _)

/-- What a point computes is its block of the product. -/
theorem part (v0 : Vec Ideal S768x1024 .bf16) (v1 : Vec Ideal S1024x512 .bf16) (i : Fin 768) (k : Fin 512) :
    k0_pay2 (F := Ideal) v0 v1 (ix2 i k) = ∑ x : Fin 1024, v0 (ix2 i x) * v1 (ix2 x k) := by
  pointwise [k0_pay2, k0_pay1]

variable (m : (ℓ : Loc nD τ sig) → Buf (Elt Ideal) ℓ) (c : Dev nD)

/-- What a point writes back. -/
theorem written (t : Fin cfg0.N) (y : S768x512.Idx) : outsAt0 m c t y = k0_pay2 (F := Ideal) (iblk m c 0 t) (iblk m c 1 t) y := by
  unfold outsAt0
  frame_out

/-- The result is the product. -/
theorem final : (dats m 0 c).arrAt 2 cfg0.N = product (m ((c.tc : Thread nD τ).loc main_arg0)) (m ((c.tc : Thread nD τ).loc main_arg1)) := by
  refine (dats m 0 c).arrAt_eq_of_covers 2 _ (by decide +kernel) fun t hf y => ?_
  have hN := lt_of_lt_of_eq t.isLt N_0
  blk_simp
  rw [after0_2, written]
  obtain ⟨i, k, rfl⟩ : ∃ (i : Fin 768) (k : Fin 512), y = ix2 i k := ⟨y 0, y 1, eq_ix2 y⟩
  have hi := i.isLt
  have hk := k.isLt
  refine Eq.trans ?_ ((fun G : Vec Ideal S8448x5632 .f32 => (by blk_point [places t] : G (ix2 ⟨t.val / 11 * 768 + i.val, by omega⟩ ⟨t.val % 11 * 512 + k.val, by omega⟩) = G _))
    (product (m ((c.tc : Thread nD τ).loc main_arg0)) (m ((c.tc : Thread nD τ).loc main_arg1))))
  rw [part]
  unfold product
  change @Eq EReal _ _
  refine Finset.sum_congr rfl fun q _ => ?_
  refine congrArg₂ (fun a b : EReal => a * b) ?_ ?_
  · blk_point [iblk, V, places t]
  · blk_point [iblk, V, places t]

omit c

theorem algebraic : Cert.algebraic_FfnInIdeal_FfnInRefIdeal := fun m g m' g' _ hm => by
  refine ⟨_, (θ_run Cert.FfnInIdeal.defs _ _).mono (fun _ h c => ⟨(h c).1.trans ?_, (h c).2⟩) (Cert.FfnInIdeal.Value.run_blocks m g), reference m' g'⟩
  rw [(hm c).1, (hm c).2]
  exact final m c

end Cert.FfnInClaims

end
-- ==== Proof.Gates.lean ====
/- What the gates compute at a place: the sigmoid, its slope, and the activation made of it. -/
module

public import Idealize.ShloMosaic.Lib.Pipeline.ValueKit

@[expose] public section

noncomputable section

namespace Cert.Gates

open Idealize.ShloMosaic

/-- The sigmoid. -/
def squash (x : EReal) : EReal := Ideal.div 1 (1 + Ideal.exp (-x))

/-- Its slope. -/
def steep (x : EReal) : EReal := squash x * (1 - squash x)

/-- The activation: an entry times its sigmoid. -/
def silu (x : EReal) : EReal := x * squash x

/-- The activation's derivative, times what comes back. -/
def siluBack (x d : EReal) : EReal := d * squash x + x * d * steep x

end Cert.Gates

end
-- ==== Proof.SwigluClaims.lean ====
/- The gate of the feed-forward layer: both frames, the reference's, and the equation of the results. -/
module

public import proofs.«01_k».proof.Defs
public import proofs.«01_k».proof.Proof.Gen.Swiglu
public import proofs.«01_k».proof.Proof.Gen.SwigluIdeal
public import proofs.«01_k».proof.Proof.Gen.SwigluIdeal.Value
public import proofs.«01_k».proof.Proof.Gen.SwigluRefIdeal.Run
public import proofs.«01_k».proof.Proof.Gates
public import Idealize.ShloMosaic.Lib.Pipeline.ValueKit
public import Idealize.ShloMosaic.Lib.Quiescent

@[expose] public section

set_option maxRecDepth 16384

noncomputable section

namespace Cert.SwigluClaims

open Idealize.ShloMosaic Idealize.ShloMosaic.TcCoe Idealize.SL.Sem
open Idealize.ShloMosaic.Pipeline (Dat)
open Cert.Gates
open Cert.SwigluIdeal Cert.SwigluIdeal.Gen

theorem frame_ideal : Cert.quiescent_SwigluIdeal := fun m g _ => Cert.SwigluIdeal.Gen.frame (F := Ideal) m g

/-- The program read at the machine's own numbers calls the same body. -/
theorem bodies : Cert.Swiglu.defs₀ (F := Bits) = Cert.SwigluIdeal.defs₀ (F := Bits) :=
  congrArg Defs.onTc (funext fun l => funext fun _ => match l with | 0 => rfl)

theorem frame_bits : Cert.quiescent_Swiglu := fun m g _ => by
  have hd : Cert.Swiglu.defs (F := Bits) = Cert.SwigluIdeal.defs (F := Bits) := congrArg (Pipeline.defs Cert.SwigluIdeal.pcfgs) bodies
  rw [hd]
  exact Cert.SwigluIdeal.Gen.frame (F := Bits) m g

theorem frame_ref : Cert.quiescent_SwigluRefIdeal := fun m g _ =>
  (θ_run Cert.SwigluRefIdeal.defs _ _).mono (fun r h => ⟨fun c => (h c).2, sem_eq_zero_of_no_sems (by decide) r.2⟩)
    (Cert.SwigluRefIdeal.Value.run m g)

/-- The gate's activation, times what it lets through. -/
def gate (u : Vec Ideal S8448x5632 .f32) (i : Fin 8448) (k : Fin 2816) : EReal :=
  silu (u (ix2 i ⟨k.val, by omega⟩)) * u (ix2 i ⟨2816 + k.val, by omega⟩)

/-- The gated array. -/
def gated (u : Vec Ideal S8448x5632 .f32) : Vec Ideal S8448x2816 .bf16 := fun j => gate u (j 0) (j 1)

/-- The reference's result is the gated array. -/
theorem reference
    (m' : (ℓ : Loc Cert.SwigluRefIdeal.nD Cert.SwigluRefIdeal.τ Cert.SwigluRefIdeal.sig) → Buf (Elt Ideal) ℓ) (g : Dev Cert.SwigluRefIdeal.nD → PrngReg) :
    θ_run Cert.SwigluRefIdeal.defs (onTc (τ := Cert.SwigluRefIdeal.τ) (Cert.SwigluRefIdeal.main (F := Ideal))) ⟨m', fun _ => 0, g⟩ fun r => ∀ c : Dev Cert.SwigluRefIdeal.nD,
      r.2.mem ((c.tc : Thread Cert.SwigluRefIdeal.nD Cert.SwigluRefIdeal.τ).loc Cert.SwigluRefIdeal.main_v10)
        = gated (m' ((c.tc : Thread Cert.SwigluRefIdeal.nD Cert.SwigluRefIdeal.τ).loc Cert.SwigluRefIdeal.main_arg0))
      ∧ r.2.mem ((c.tc : Thread Cert.SwigluRefIdeal.nD Cert.SwigluRefIdeal.τ).loc Cert.SwigluRefIdeal.main_arg0) = m' ((c.tc : Thread Cert.SwigluRefIdeal.nD Cert.SwigluRefIdeal.τ).loc Cert.SwigluRefIdeal.main_arg0) := by
  refine (θ_run Cert.SwigluRefIdeal.defs _ _).mono (fun r h c => ⟨(h c).1.trans ?_, (h c).2⟩) (Cert.SwigluRefIdeal.Value.run m' g)
  funext j
  obtain ⟨i, k, rfl⟩ : ∃ i k, j = ix2 i k := ⟨j 0, j 1, eq_ix2 j⟩
  pointwise
  unfold gated gate silu squash
  rfl

/-- Where each window stands at a point: the gate's in the first half of the columns, the other's as far into the second. -/
theorem places : ∀ t : Fin cfg0.N, win0_0.index t = ![t.val % 33, t.val / 33] ∧ win0_1.index t = ![t.val % 33, 11 + t.val / 33] ∧ win0_2.index t = ![t.val % 33, t.val / 33] :=
  (by decide +kernel : ∀ t : Fin grid0.N, _)

variable (m : (ℓ : Loc nD τ sig) → Buf (Elt Ideal) ℓ) (c : Dev nD)

/-- A tile is gated place by place. -/
theorem tile (v0 v1 : Vec Ideal S256x256 .f32) (i k : Fin 256) :
    k0_pay1 (F := Ideal) v0 v1 (ix2 i k) = silu (v0 (ix2 i k)) * v1 (ix2 i k) := by
  unfold silu squash
  pointwise [k0_pay1, Ideal.logistic]

/-- The result is the gated array. -/
theorem final : (dats m 0 c).arrAt 2 cfg0.N = gated (m ((c.tc : Thread nD τ).loc main_arg0)) := by
  refine (dats m 0 c).arrAt_eq_of_covers 2 _ (by decide +kernel) fun t hf y => ?_
  have hN := lt_of_lt_of_eq t.isLt N_0
  blk_simp
  rw [after0_2]
  frame_out
  obtain ⟨i, k, rfl⟩ : ∃ (i k : Fin 256), y = ix2 i k := ⟨y 0, y 1, eq_ix2 y⟩
  have hi := i.isLt
  have hk := k.isLt
  refine Eq.trans ?_ ((fun G : Vec Ideal S8448x2816 .bf16 => (by blk_point [places t] : G (ix2 ⟨t.val % 33 * 256 + i.val, by omega⟩ ⟨t.val / 33 * 256 + k.val, by omega⟩) = G _))
    (gated (m ((c.tc : Thread nD τ).loc main_arg0))))
  have h0 : (iblk m c 0 t : Vec Ideal S256x256 .f32) (ix2 i k) = m ((c.tc : Thread nD τ).loc main_arg0) (ix2 ⟨t.val % 33 * 256 + i.val, by omega⟩ ⟨t.val / 33 * 256 + k.val, by omega⟩) := by
    blk_point [iblk, V, places t]
  have h1 : (iblk m c 1 t : Vec Ideal S256x256 .f32) (ix2 i k) = m ((c.tc : Thread nD τ).loc main_arg0) (ix2 ⟨t.val % 33 * 256 + i.val, by omega⟩ ⟨2816 + (t.val / 33 * 256 + k.val), by omega⟩) := by
    blk_point [iblk, V, places t]
  rw [tile, h0, h1]
  rfl

omit c

theorem algebraic : Cert.algebraic_SwigluIdeal_SwigluRefIdeal := fun m g m' g' _ hm => by
  refine ⟨_, (θ_run Cert.SwigluIdeal.defs _ _).mono (fun _ h c => ⟨(h c).1.trans ?_, (h c).2⟩) (Cert.SwigluIdeal.Value.run_blocks m g), reference m' g'⟩
  rw [hm c]
  exact final m c

end Cert.SwigluClaims

end
-- ==== Proof.Products.lean ====
/- What the products share: a block whose contraction its points take a stretch each. -/
module

public import Idealize.ShloMosaic.Lib.Pipeline.ValueKit

@[expose] public section

noncomputable section

namespace Cert.Products

open Idealize.ShloMosaic

/-- The points of a block add their shares one after the other, and the last hands on the sum. Where each share is a
stretch of the contraction, what is handed on is the whole contraction. -/
theorem block {N n L : ℕ} {ι : Type} (J : ℕ) [NeZero J] (outs : (k : ℕ) → k < N → (ι → EReal) × (ι → EReal)) (share : Fin N → ι → EReal)
    (first : ∀ t : Fin N, t.val % J = 0 → ∀ y, (outs t.val t.isLt).2 y = share t y)
    (next : ∀ t : Fin N, ¬ t.val % J = 0 → ∀ y,
      (outs t.val t.isLt).2 y = (outs (t.val - 1) (Nat.lt_of_le_of_lt (Nat.sub_le _ _) t.isLt)).2 y + share t y)
    (handed : ∀ t : Fin N, t.val % J = J - 1 → ∀ y, (outs t.val t.isLt).1 y = (outs t.val t.isLt).2 y)
    (t : Fin N) (ht : t.val % J = J - 1) (y : ι) (f : Fin L → EReal) (hL : L = J * n)
    (stretch : ∀ (s : Fin J) (p : Fin N), p.val / J = t.val / J → p.val % J = s.val →
      share p y = ∑ q : Fin n, f ⟨s.val * n + q.val, Fin.mul_add_lt_of_eq_mul hL s q⟩) :
    (outs t.val t.isLt).1 y = ∑ x, f x := by
  rw [handed t ht, Pipeline.eq_sum_fin_of_reset_step_apply_of_flush (fun k h => (outs k h).2) J (fun _ => 0) share
    (fun t h y => by rw [first t h, zero_add]) next t ht y, zero_add, ← Fin.sum_mul_add_fin J n f hL]
  refine Finset.sum_congr rfl fun s _ => stretch s _ ?_ ?_
  · show (J * (t.val / J) + s.val) / J = t.val / J
    rw [Nat.mul_add_div (Nat.pos_of_neZero J), Nat.div_eq_of_lt s.isLt, Nat.add_zero]
  · show (J * (t.val / J) + s.val) % J = s.val
    rw [Nat.mul_add_mod, Nat.mod_eq_of_lt s.isLt]

end Cert.Products

end
-- ==== Proof.FfnOutClaims.lean ====
/- The product that ends the feed-forward layer: both frames, the reference's, and the equation of the results. -/
module

public import proofs.«01_k».proof.Defs
public import proofs.«01_k».proof.Proof.Gen.FfnOut
public import proofs.«01_k».proof.Proof.Gen.FfnOutIdeal
public import proofs.«01_k».proof.Proof.Gen.FfnOutIdeal.Value
public import proofs.«01_k».proof.Proof.Gen.FfnOutRefIdeal.Run
public import proofs.«01_k».proof.Proof.Products
public import Idealize.ShloMosaic.Lib.Pipeline.ValueKit
public import Idealize.ShloMosaic.Lib.Quiescent

@[expose] public section

set_option maxRecDepth 16384

noncomputable section

namespace Cert.FfnOutClaims

open Idealize.ShloMosaic Idealize.ShloMosaic.TcCoe Idealize.SL.Sem
open Idealize.ShloMosaic.Pipeline (Dat)
open Cert.FfnOutIdeal Cert.FfnOutIdeal.Gen

theorem frame_ideal : Cert.quiescent_FfnOutIdeal := fun m g _ => Cert.FfnOutIdeal.Gen.frame (F := Ideal) m g

/-- The program read at the machine's own numbers calls the same body. -/
theorem bodies : Cert.FfnOut.defs₀ (F := Bits) = Cert.FfnOutIdeal.defs₀ (F := Bits) :=
  congrArg Defs.onTc (funext fun l => funext fun _ => match l with | 0 => rfl)

theorem frame_bits : Cert.quiescent_FfnOut := fun m g _ => by
  have hd : Cert.FfnOut.defs (F := Bits) = Cert.FfnOutIdeal.defs (F := Bits) := congrArg (Pipeline.defs Cert.FfnOutIdeal.pcfgs) bodies
  rw [hd]
  exact Cert.FfnOutIdeal.Gen.frame (F := Bits) m g

theorem frame_ref : Cert.quiescent_FfnOutRefIdeal := fun m g _ =>
  (θ_run Cert.FfnOutRefIdeal.defs _ _).mono (fun r h => ⟨fun c => (h c).2, sem_eq_zero_of_no_sems (by decide) r.2⟩)
    (Cert.FfnOutRefIdeal.Value.run m g)

/-- The product of the whole arrays. -/
def product (a : Vec Ideal S8448x2816 .bf16) (b : Vec Ideal S2816x1024 .bf16) : Vec Ideal S8448x1024 .f32 :=
  fun j => ∑ x : Fin 2816, a (ix2 (j 0) x) * b (ix2 x (j 1))

/-- The reference's result is the product. -/
theorem reference (m' : (ℓ : Loc Cert.FfnOutRefIdeal.nD Cert.FfnOutRefIdeal.τ Cert.FfnOutRefIdeal.sig) → Buf (Elt Ideal) ℓ) (g : Dev Cert.FfnOutRefIdeal.nD → PrngReg) :
    θ_run Cert.FfnOutRefIdeal.defs (onTc (τ := Cert.FfnOutRefIdeal.τ) (Cert.FfnOutRefIdeal.main (F := Ideal))) ⟨m', fun _ => 0, g⟩ fun r => ∀ c : Dev Cert.FfnOutRefIdeal.nD,
      r.2.mem ((c.tc : Thread Cert.FfnOutRefIdeal.nD Cert.FfnOutRefIdeal.τ).loc Cert.FfnOutRefIdeal.main_v0)
        = product (m' ((c.tc : Thread Cert.FfnOutRefIdeal.nD Cert.FfnOutRefIdeal.τ).loc Cert.FfnOutRefIdeal.main_arg0)) (m' ((c.tc : Thread Cert.FfnOutRefIdeal.nD Cert.FfnOutRefIdeal.τ).loc Cert.FfnOutRefIdeal.main_arg1))
      ∧ r.2.mem ((c.tc : Thread Cert.FfnOutRefIdeal.nD Cert.FfnOutRefIdeal.τ).loc Cert.FfnOutRefIdeal.main_arg0) = m' ((c.tc : Thread Cert.FfnOutRefIdeal.nD Cert.FfnOutRefIdeal.τ).loc Cert.FfnOutRefIdeal.main_arg0)
      ∧ r.2.mem ((c.tc : Thread Cert.FfnOutRefIdeal.nD Cert.FfnOutRefIdeal.τ).loc Cert.FfnOutRefIdeal.main_arg1) = m' ((c.tc : Thread Cert.FfnOutRefIdeal.nD Cert.FfnOutRefIdeal.τ).loc Cert.FfnOutRefIdeal.main_arg1) := by
  refine (θ_run Cert.FfnOutRefIdeal.defs _ _).mono (fun r h c => ⟨(h c).1.trans ?_, (h c).2⟩) (Cert.FfnOutRefIdeal.Value.run m' g)
  funext j
  obtain ⟨i, k, rfl⟩ : ∃ i k, j = ix2 i k := ⟨j 0, j 1, eq_ix2 j⟩
  pointwise
  unfold product
  rfl

/-- Where each window stands at a point: the points of a block run over its contraction. -/
theorem places : ∀ t : Fin cfg0.N, win0_0.index t = ![t.val / 22, t.val % 11] ∧ win0_1.index t = ![t.val % 11, t.val / 11 % 2] ∧ win0_2.index t = ![t.val / 22, t.val / 11 % 2] :=
  (by decide +kernel : ∀ t : Fin grid0.N, _)

/-- A point's share of its block. -/
theorem part (v0 : Vec Ideal S768x256 .bf16) (v1 : Vec Ideal S256x512 .bf16) (i : Fin 768) (k : Fin 512) :
    k0_pay2 (F := Ideal) v0 v1 (ix2 i k) = ∑ x : Fin 256, v0 (ix2 i x) * v1 (ix2 x k) := by
  pointwise [k0_pay2, k0_pay1]

/-- What a later point computes is what it found and its share. -/
theorem plus (v0 : Vec Ideal S768x256 .bf16) (v1 : Vec Ideal S256x512 .bf16) (v12 : Vec Ideal S768x512 .f32) (j : S768x512.Idx) :
    k0_pay3 (F := Ideal) v0 v1 v12 j = v12 j + k0_pay2 (F := Ideal) v0 v1 j := by
  pointwise [k0_pay3, k0_pay2]

variable (m : (ℓ : Loc nD τ sig) → Buf (Elt Ideal) ℓ) (c : Dev nD)

/-- A point finds what the point before left. -/
theorem held (v : Vec Ideal S768x512 .f32) (h : scM0_0.IsWhole) : View.read (Elt Ideal) (View.whole cc0_scratch0) (h.unread v) = v :=
  h.read_unread v

/-- A point's share of its block, from what its windows hold. -/
def share (p : Fin cfg0.N) (y : S768x512.Idx) : EReal := k0_pay2 (F := Ideal) (iblk m c 0 p) (iblk m c 1 p) y

/-- A block's first point leaves its share. -/
theorem first (t : Fin cfg0.N) (h : t.val % 11 = 0) (y : S768x512.Idx) : (outsAt0 m c t.val t.isLt).2 y = share m c t y := by
  rw [outsAt0_A m c t h (by omega) (by omega)]
  frame_out
  rfl

/-- A later point adds its share. -/
theorem next (t : Fin cfg0.N) (h : ¬ t.val % 11 = 0) (y : S768x512.Idx) :
    (outsAt0 m c t.val t.isLt).2 y = (outsAt0 m c (t.val - 1) (Nat.lt_of_le_of_lt (Nat.sub_le _ _) t.isLt)).2 y + share m c t y := by
  by_cases h2 : t.val % 11 = 10
  · rw [outsAt0_C m c t h (by omega) h2]
    frame_out
    rw [plus, held]
    rfl
  · rw [outsAt0_B m c t h (by omega) h2]
    frame_out
    rw [plus, held]
    rfl

/-- The last point of a block hands on what the block's points have added up. -/
theorem handed (t : Fin cfg0.N) (ht : t.val % 11 = 10) (y : S768x512.Idx) : (outsAt0 m c t.val t.isLt).1 y = (outsAt0 m c t.val t.isLt).2 y := by
  rw [outsAt0_C m c t (by omega) (by omega) ht]
  frame_out

/-- The result is the product. -/
theorem final : (dats m 0 c).arrAt 2 cfg0.N = product (m ((c.tc : Thread nD τ).loc main_arg0)) (m ((c.tc : Thread nD τ).loc main_arg1)) := by
  refine (dats m 0 c).arrAt_eq_of_covers 2 _ (by decide +kernel) fun t hf y => ?_
  have ht : t.val % 11 = 10 := (flush0_2 t).mp hf
  have hN := lt_of_lt_of_eq t.isLt N_0
  blk_simp
  rw [after0_2]
  obtain ⟨i, k, rfl⟩ : ∃ (i : Fin 768) (k : Fin 512), y = ix2 i k := ⟨y 0, y 1, eq_ix2 y⟩
  have hi := i.isLt
  have hk := k.isLt
  refine Eq.trans ?_ ((fun G : Vec Ideal S8448x1024 .f32 => (by blk_point [places t] : G (ix2 ⟨t.val / 22 * 768 + i.val, by omega⟩ ⟨t.val / 11 % 2 * 512 + k.val, by omega⟩) = G _))
    (product (m ((c.tc : Thread nD τ).loc main_arg0)) (m ((c.tc : Thread nD τ).loc main_arg1))))
  unfold product
  refine Products.block (n := 256) 11 (outsAt0 m c) (share m c) (first m c) (next m c) (handed m c) t ht (ix2 i k) _ rfl fun s p hd hm => ?_
  unfold share
  rw [part]
  refine Finset.sum_congr rfl fun q _ => congrArg₂ (fun a b : EReal => a * b) ?_ ?_
  · blk_point [iblk, V, places p]
  · blk_point [iblk, V, places p]

omit c

theorem algebraic : Cert.algebraic_FfnOutIdeal_FfnOutRefIdeal := fun m g m' g' _ hm => by
  refine ⟨_, (θ_run Cert.FfnOutIdeal.defs _ _).mono (fun _ h c => ⟨(h c).1.trans ?_, (h c).2⟩) (Cert.FfnOutIdeal.Value.run_blocks m g), reference m' g'⟩
  rw [(hm c).1, (hm c).2]
  exact final m c

end Cert.FfnOutClaims

end
-- ==== Proof.GradWInClaims.lean ====
/- The gradient of the packed weights: both frames, the reference's, and the equation of the results. -/
module

public import proofs.«01_k».proof.Defs
public import proofs.«01_k».proof.Proof.Gen.GradWIn
public import proofs.«01_k».proof.Proof.Gen.GradWInIdeal
public import proofs.«01_k».proof.Proof.Gen.GradWInIdeal.Value
public import proofs.«01_k».proof.Proof.Gen.GradWInRefIdeal.Run
public import proofs.«01_k».proof.Proof.Products
public import Idealize.ShloMosaic.Lib.Pipeline.ValueKit
public import Idealize.ShloMosaic.Lib.Quiescent

@[expose] public section

set_option maxRecDepth 16384

noncomputable section

namespace Cert.GradWInClaims

open Idealize.ShloMosaic Idealize.ShloMosaic.TcCoe Idealize.SL.Sem
open Idealize.ShloMosaic.Pipeline (Dat)
open Cert.GradWInIdeal Cert.GradWInIdeal.Gen

theorem frame_ideal : Cert.quiescent_GradWInIdeal := fun m g _ => Cert.GradWInIdeal.Gen.frame (F := Ideal) m g

/-- The program read at the machine's own numbers calls the same body. -/
theorem bodies : Cert.GradWIn.defs₀ (F := Bits) = Cert.GradWInIdeal.defs₀ (F := Bits) :=
  congrArg Defs.onTc (funext fun l => funext fun _ => match l with | 0 => rfl)

theorem frame_bits : Cert.quiescent_GradWIn := fun m g _ => by
  have hd : Cert.GradWIn.defs (F := Bits) = Cert.GradWInIdeal.defs (F := Bits) := congrArg (Pipeline.defs Cert.GradWInIdeal.pcfgs) bodies
  rw [hd]
  exact Cert.GradWInIdeal.Gen.frame (F := Bits) m g

theorem frame_ref : Cert.quiescent_GradWInRefIdeal := fun m g _ =>
  (θ_run Cert.GradWInRefIdeal.defs _ _).mono (fun r h => ⟨fun c => (h c).2, sem_eq_zero_of_no_sems (by decide) r.2⟩)
    (Cert.GradWInRefIdeal.Value.run m g)

/-- The product of the whole arrays. -/
def product (a : Vec Ideal S8448x1024 .bf16) (b : Vec Ideal S8448x11776 .bf16) : Vec Ideal S1024x11776 .f32 :=
  fun j => ∑ x : Fin 8448, a (ix2 x (j 0)) * b (ix2 x (j 1))

/-- The reference's result is the product. -/
theorem reference (m' : (ℓ : Loc Cert.GradWInRefIdeal.nD Cert.GradWInRefIdeal.τ Cert.GradWInRefIdeal.sig) → Buf (Elt Ideal) ℓ) (g : Dev Cert.GradWInRefIdeal.nD → PrngReg) :
    θ_run Cert.GradWInRefIdeal.defs (onTc (τ := Cert.GradWInRefIdeal.τ) (Cert.GradWInRefIdeal.main (F := Ideal))) ⟨m', fun _ => 0, g⟩ fun r => ∀ c : Dev Cert.GradWInRefIdeal.nD,
      r.2.mem ((c.tc : Thread Cert.GradWInRefIdeal.nD Cert.GradWInRefIdeal.τ).loc Cert.GradWInRefIdeal.main_v1)
        = product (m' ((c.tc : Thread Cert.GradWInRefIdeal.nD Cert.GradWInRefIdeal.τ).loc Cert.GradWInRefIdeal.main_arg0)) (m' ((c.tc : Thread Cert.GradWInRefIdeal.nD Cert.GradWInRefIdeal.τ).loc Cert.GradWInRefIdeal.main_arg1))
      ∧ r.2.mem ((c.tc : Thread Cert.GradWInRefIdeal.nD Cert.GradWInRefIdeal.τ).loc Cert.GradWInRefIdeal.main_arg0) = m' ((c.tc : Thread Cert.GradWInRefIdeal.nD Cert.GradWInRefIdeal.τ).loc Cert.GradWInRefIdeal.main_arg0)
      ∧ r.2.mem ((c.tc : Thread Cert.GradWInRefIdeal.nD Cert.GradWInRefIdeal.τ).loc Cert.GradWInRefIdeal.main_arg1) = m' ((c.tc : Thread Cert.GradWInRefIdeal.nD Cert.GradWInRefIdeal.τ).loc Cert.GradWInRefIdeal.main_arg1) := by
  refine (θ_run Cert.GradWInRefIdeal.defs _ _).mono (fun r h c => ⟨(h c).1.trans ?_, (h c).2⟩) (Cert.GradWInRefIdeal.Value.run m' g)
  funext j
  obtain ⟨i, k, rfl⟩ : ∃ i k, j = ix2 i k := ⟨j 0, j 1, eq_ix2 j⟩
  pointwise
  unfold product
  rfl

/-- Where each window stands at a point: the points of a block run over its contraction. -/
theorem places : ∀ t : Fin cfg0.N, win0_0.index t = ![t.val % 11, 0] ∧ win0_1.index t = ![t.val % 11, t.val / 11] ∧ win0_2.index t = ![0, t.val / 11] :=
  (by decide +kernel : ∀ t : Fin grid0.N, _)

/-- A point's share of its block. -/
theorem part (v0 : Vec Ideal S768x1024 .bf16) (v1 : Vec Ideal S768x512 .bf16) (i : Fin 1024) (k : Fin 512) :
    k0_pay2 (F := Ideal) v0 v1 (ix2 i k) = ∑ x : Fin 768, v0 (ix2 x i) * v1 (ix2 x k) := by
  pointwise [k0_pay2, k0_pay1]

/-- What a later point computes is what it found and its share. -/
theorem plus (v0 : Vec Ideal S768x1024 .bf16) (v1 : Vec Ideal S768x512 .bf16) (v12 : Vec Ideal S1024x512 .f32) (j : S1024x512.Idx) :
    k0_pay3 (F := Ideal) v0 v1 v12 j = v12 j + k0_pay2 (F := Ideal) v0 v1 j := by
  pointwise [k0_pay3, k0_pay2]

variable (m : (ℓ : Loc nD τ sig) → Buf (Elt Ideal) ℓ) (c : Dev nD)

/-- A point finds what the point before left. -/
theorem held (v : Vec Ideal S1024x512 .f32) (h : scM0_0.IsWhole) : View.read (Elt Ideal) (View.whole cc0_scratch0) (h.unread v) = v :=
  h.read_unread v

/-- A point's share of its block, from what its windows hold. -/
def share (p : Fin cfg0.N) (y : S1024x512.Idx) : EReal := k0_pay2 (F := Ideal) (iblk m c 0 p) (iblk m c 1 p) y

/-- A block's first point leaves its share. -/
theorem first (t : Fin cfg0.N) (h : t.val % 11 = 0) (y : S1024x512.Idx) : (outsAt0 m c t.val t.isLt).2 y = share m c t y := by
  rw [outsAt0_A m c t h (by omega) (by omega)]
  frame_out
  rfl

/-- A later point adds its share. -/
theorem next (t : Fin cfg0.N) (h : ¬ t.val % 11 = 0) (y : S1024x512.Idx) :
    (outsAt0 m c t.val t.isLt).2 y = (outsAt0 m c (t.val - 1) (Nat.lt_of_le_of_lt (Nat.sub_le _ _) t.isLt)).2 y + share m c t y := by
  by_cases h2 : t.val % 11 = 10
  · rw [outsAt0_C m c t h (by omega) h2]
    frame_out
    rw [plus, held]
    rfl
  · rw [outsAt0_B m c t h (by omega) h2]
    frame_out
    rw [plus, held]
    rfl

/-- The last point of a block hands on what the block's points have added up. -/
theorem handed (t : Fin cfg0.N) (ht : t.val % 11 = 10) (y : S1024x512.Idx) : (outsAt0 m c t.val t.isLt).1 y = (outsAt0 m c t.val t.isLt).2 y := by
  rw [outsAt0_C m c t (by omega) (by omega) ht]
  frame_out

/-- The result is the product. -/
theorem final : (dats m 0 c).arrAt 2 cfg0.N = product (m ((c.tc : Thread nD τ).loc main_arg0)) (m ((c.tc : Thread nD τ).loc main_arg1)) := by
  refine (dats m 0 c).arrAt_eq_of_covers 2 _ (by decide +kernel) fun t hf y => ?_
  have ht : t.val % 11 = 10 := (flush0_2 t).mp hf
  have hN := lt_of_lt_of_eq t.isLt N_0
  blk_simp
  rw [after0_2]
  obtain ⟨i, k, rfl⟩ : ∃ (i : Fin 1024) (k : Fin 512), y = ix2 i k := ⟨y 0, y 1, eq_ix2 y⟩
  have hi := i.isLt
  have hk := k.isLt
  refine Eq.trans ?_ ((fun G : Vec Ideal S1024x11776 .f32 => (by blk_point [places t] : G (ix2 ⟨0 + i.val, by omega⟩ ⟨t.val / 11 * 512 + k.val, by omega⟩) = G _))
    (product (m ((c.tc : Thread nD τ).loc main_arg0)) (m ((c.tc : Thread nD τ).loc main_arg1))))
  unfold product
  refine Products.block (n := 768) 11 (outsAt0 m c) (share m c) (first m c) (next m c) (handed m c) t ht (ix2 i k) _ rfl fun s p hd hm => ?_
  unfold share
  rw [part]
  refine Finset.sum_congr rfl fun q _ => congrArg₂ (fun a b : EReal => a * b) ?_ ?_
  · blk_point [iblk, V, places p]
  · blk_point [iblk, V, places p]

omit c

theorem algebraic : Cert.algebraic_GradWInIdeal_GradWInRefIdeal := fun m g m' g' _ hm => by
  refine ⟨_, (θ_run Cert.GradWInIdeal.defs _ _).mono (fun _ h c => ⟨(h c).1.trans ?_, (h c).2⟩) (Cert.GradWInIdeal.Value.run_blocks m g), reference m' g'⟩
  rw [(hm c).1, (hm c).2]
  exact final m c

end Cert.GradWInClaims

end
-- ==== Proof.GradAClaims.lean ====
/- The gradient of what the first product read: both frames, the reference's, and the equation of the results. -/
module

public import proofs.«01_k».proof.Defs
public import proofs.«01_k».proof.Proof.Gen.GradA
public import proofs.«01_k».proof.Proof.Gen.GradAIdeal
public import proofs.«01_k».proof.Proof.Gen.GradAIdeal.Value
public import proofs.«01_k».proof.Proof.Gen.GradARefIdeal.Run
public import proofs.«01_k».proof.Proof.Products
public import Idealize.ShloMosaic.Lib.Pipeline.ValueKit
public import Idealize.ShloMosaic.Lib.Quiescent

@[expose] public section

set_option maxRecDepth 16384

noncomputable section

namespace Cert.GradAClaims

open Idealize.ShloMosaic Idealize.ShloMosaic.TcCoe Idealize.SL.Sem
open Idealize.ShloMosaic.Pipeline (Dat)
open Cert.GradAIdeal Cert.GradAIdeal.Gen

theorem frame_ideal : Cert.quiescent_GradAIdeal := fun m g _ => Cert.GradAIdeal.Gen.frame (F := Ideal) m g

/-- The program read at the machine's own numbers calls the same body. -/
theorem bodies : Cert.GradA.defs₀ (F := Bits) = Cert.GradAIdeal.defs₀ (F := Bits) :=
  congrArg Defs.onTc (funext fun l => funext fun _ => match l with | 0 => rfl)

theorem frame_bits : Cert.quiescent_GradA := fun m g _ => by
  have hd : Cert.GradA.defs (F := Bits) = Cert.GradAIdeal.defs (F := Bits) := congrArg (Pipeline.defs Cert.GradAIdeal.pcfgs) bodies
  rw [hd]
  exact Cert.GradAIdeal.Gen.frame (F := Bits) m g

theorem frame_ref : Cert.quiescent_GradARefIdeal := fun m g _ =>
  (θ_run Cert.GradARefIdeal.defs _ _).mono (fun r h => ⟨fun c => (h c).2, sem_eq_zero_of_no_sems (by decide) r.2⟩)
    (Cert.GradARefIdeal.Value.run m g)

/-- The product of the whole arrays. -/
def product (a : Vec Ideal S8448x11776 .bf16) (b : Vec Ideal S1024x11776 .bf16) : Vec Ideal S8448x1024 .f32 :=
  fun j => ∑ x : Fin 11776, a (ix2 (j 0) x) * b (ix2 (j 1) x)

/-- The reference's result is the product. -/
theorem reference (m' : (ℓ : Loc Cert.GradARefIdeal.nD Cert.GradARefIdeal.τ Cert.GradARefIdeal.sig) → Buf (Elt Ideal) ℓ) (g : Dev Cert.GradARefIdeal.nD → PrngReg) :
    θ_run Cert.GradARefIdeal.defs (onTc (τ := Cert.GradARefIdeal.τ) (Cert.GradARefIdeal.main (F := Ideal))) ⟨m', fun _ => 0, g⟩ fun r => ∀ c : Dev Cert.GradARefIdeal.nD,
      r.2.mem ((c.tc : Thread Cert.GradARefIdeal.nD Cert.GradARefIdeal.τ).loc Cert.GradARefIdeal.main_v1)
        = product (m' ((c.tc : Thread Cert.GradARefIdeal.nD Cert.GradARefIdeal.τ).loc Cert.GradARefIdeal.main_arg0)) (m' ((c.tc : Thread Cert.GradARefIdeal.nD Cert.GradARefIdeal.τ).loc Cert.GradARefIdeal.main_arg1))
      ∧ r.2.mem ((c.tc : Thread Cert.GradARefIdeal.nD Cert.GradARefIdeal.τ).loc Cert.GradARefIdeal.main_arg0) = m' ((c.tc : Thread Cert.GradARefIdeal.nD Cert.GradARefIdeal.τ).loc Cert.GradARefIdeal.main_arg0)
      ∧ r.2.mem ((c.tc : Thread Cert.GradARefIdeal.nD Cert.GradARefIdeal.τ).loc Cert.GradARefIdeal.main_arg1) = m' ((c.tc : Thread Cert.GradARefIdeal.nD Cert.GradARefIdeal.τ).loc Cert.GradARefIdeal.main_arg1) := by
  refine (θ_run Cert.GradARefIdeal.defs _ _).mono (fun r h c => ⟨(h c).1.trans ?_, (h c).2⟩) (Cert.GradARefIdeal.Value.run m' g)
  funext j
  obtain ⟨i, k, rfl⟩ : ∃ i k, j = ix2 i k := ⟨j 0, j 1, eq_ix2 j⟩
  pointwise
  unfold product
  rfl

/-- Where each window stands at a point: the points of a block run over its contraction. -/
theorem places : ∀ t : Fin cfg0.N, win0_0.index t = ![t.val / 46, t.val % 23] ∧ win0_1.index t = ![t.val / 23 % 2, t.val % 23] ∧ win0_2.index t = ![t.val / 46, t.val / 23 % 2] :=
  (by decide +kernel : ∀ t : Fin grid0.N, _)

/-- A point's share of its block. -/
theorem part (v0 : Vec Ideal S768x512 .bf16) (v1 : Vec Ideal S512x512 .bf16) (i : Fin 768) (k : Fin 512) :
    k0_pay2 (F := Ideal) v0 v1 (ix2 i k) = ∑ x : Fin 512, v0 (ix2 i x) * v1 (ix2 k x) := by
  pointwise [k0_pay2, k0_pay1]

/-- What a later point computes is what it found and its share. -/
theorem plus (v0 : Vec Ideal S768x512 .bf16) (v1 : Vec Ideal S512x512 .bf16) (v12 : Vec Ideal S768x512 .f32) (j : S768x512.Idx) :
    k0_pay3 (F := Ideal) v0 v1 v12 j = v12 j + k0_pay2 (F := Ideal) v0 v1 j := by
  pointwise [k0_pay3, k0_pay2]

variable (m : (ℓ : Loc nD τ sig) → Buf (Elt Ideal) ℓ) (c : Dev nD)

/-- A point finds what the point before left. -/
theorem held (v : Vec Ideal S768x512 .f32) (h : scM0_0.IsWhole) : View.read (Elt Ideal) (View.whole cc0_scratch0) (h.unread v) = v :=
  h.read_unread v

/-- A point's share of its block, from what its windows hold. -/
def share (p : Fin cfg0.N) (y : S768x512.Idx) : EReal := k0_pay2 (F := Ideal) (iblk m c 0 p) (iblk m c 1 p) y

/-- A block's first point leaves its share. -/
theorem first (t : Fin cfg0.N) (h : t.val % 23 = 0) (y : S768x512.Idx) : (outsAt0 m c t.val t.isLt).2 y = share m c t y := by
  rw [outsAt0_A m c t h (by omega) (by omega)]
  frame_out
  rfl

/-- A later point adds its share. -/
theorem next (t : Fin cfg0.N) (h : ¬ t.val % 23 = 0) (y : S768x512.Idx) :
    (outsAt0 m c t.val t.isLt).2 y = (outsAt0 m c (t.val - 1) (Nat.lt_of_le_of_lt (Nat.sub_le _ _) t.isLt)).2 y + share m c t y := by
  by_cases h2 : t.val % 23 = 22
  · rw [outsAt0_C m c t h (by omega) h2]
    frame_out
    rw [plus, held]
    rfl
  · rw [outsAt0_B m c t h (by omega) h2]
    frame_out
    rw [plus, held]
    rfl

/-- The last point of a block hands on what the block's points have added up. -/
theorem handed (t : Fin cfg0.N) (ht : t.val % 23 = 22) (y : S768x512.Idx) : (outsAt0 m c t.val t.isLt).1 y = (outsAt0 m c t.val t.isLt).2 y := by
  rw [outsAt0_C m c t (by omega) (by omega) ht]
  frame_out

/-- The result is the product. -/
theorem final : (dats m 0 c).arrAt 2 cfg0.N = product (m ((c.tc : Thread nD τ).loc main_arg0)) (m ((c.tc : Thread nD τ).loc main_arg1)) := by
  refine (dats m 0 c).arrAt_eq_of_covers 2 _ (by decide +kernel) fun t hf y => ?_
  have ht : t.val % 23 = 22 := (flush0_2 t).mp hf
  have hN := lt_of_lt_of_eq t.isLt N_0
  blk_simp
  rw [after0_2]
  obtain ⟨i, k, rfl⟩ : ∃ (i : Fin 768) (k : Fin 512), y = ix2 i k := ⟨y 0, y 1, eq_ix2 y⟩
  have hi := i.isLt
  have hk := k.isLt
  refine Eq.trans ?_ ((fun G : Vec Ideal S8448x1024 .f32 => (by blk_point [places t] : G (ix2 ⟨t.val / 46 * 768 + i.val, by omega⟩ ⟨t.val / 23 % 2 * 512 + k.val, by omega⟩) = G _))
    (product (m ((c.tc : Thread nD τ).loc main_arg0)) (m ((c.tc : Thread nD τ).loc main_arg1))))
  unfold product
  refine Products.block (n := 512) 23 (outsAt0 m c) (share m c) (first m c) (next m c) (handed m c) t ht (ix2 i k) _ rfl fun s p hd hm => ?_
  unfold share
  rw [part]
  refine Finset.sum_congr rfl fun q _ => congrArg₂ (fun a b : EReal => a * b) ?_ ?_
  · blk_point [iblk, V, places p]
  · blk_point [iblk, V, places p]

omit c

theorem algebraic : Cert.algebraic_GradAIdeal_GradARefIdeal := fun m g m' g' _ hm => by
  refine ⟨_, (θ_run Cert.GradAIdeal.defs _ _).mono (fun _ h c => ⟨(h c).1.trans ?_, (h c).2⟩) (Cert.GradAIdeal.Value.run_blocks m g), reference m' g'⟩
  rw [(hm c).1, (hm c).2]
  exact final m c

end Cert.GradAClaims

end
-- ==== Proof.AdaClaims.lean ====
/- The product that makes the modulation: both frames, the reference's, and the equation of the results. -/
module

public import proofs.«01_k».proof.Defs
public import proofs.«01_k».proof.Proof.Gen.Ada
public import proofs.«01_k».proof.Proof.Gen.AdaIdeal
public import proofs.«01_k».proof.Proof.Gen.AdaIdeal.Value
public import proofs.«01_k».proof.Proof.Gen.AdaRefIdeal.Run
public import proofs.«01_k».proof.Proof.Gates
public import Idealize.ShloMosaic.Lib.Pipeline.ValueKit
public import Idealize.ShloMosaic.Lib.Quiescent

@[expose] public section

set_option maxRecDepth 16384

noncomputable section

namespace Cert.AdaClaims

open Idealize.ShloMosaic Idealize.ShloMosaic.TcCoe Idealize.SL.Sem
open Idealize.ShloMosaic.Pipeline (Dat)
open Cert.Gates
open Cert.AdaIdeal Cert.AdaIdeal.Gen

theorem frame_ideal : Cert.quiescent_AdaIdeal := fun m g _ => Cert.AdaIdeal.Gen.frame (F := Ideal) m g

/-- The program read at the machine's own numbers calls the same body. -/
theorem bodies : Cert.Ada.defs₀ (F := Bits) = Cert.AdaIdeal.defs₀ (F := Bits) :=
  congrArg Defs.onTc (funext fun l => funext fun _ => match l with | 0 => rfl)

theorem frame_bits : Cert.quiescent_Ada := fun m g _ => by
  have hd : Cert.Ada.defs (F := Bits) = Cert.AdaIdeal.defs (F := Bits) := congrArg (Pipeline.defs Cert.AdaIdeal.pcfgs) bodies
  rw [hd]
  exact Cert.AdaIdeal.Gen.frame (F := Bits) m g

theorem frame_ref : Cert.quiescent_AdaRefIdeal := fun m g _ =>
  (θ_run Cert.AdaRefIdeal.defs _ _).mono (fun r h => ⟨fun c => (h c).2, sem_eq_zero_of_no_sems (by decide) r.2⟩)
    (Cert.AdaRefIdeal.Value.run m g)

/-- The condition, activated, times the weights, with the bias. -/
def modulation (a0 : Vec Ideal S8x1024 .f32) (a1 : Vec Ideal S1024x6144 .bf16) (a2 : Vec Ideal S1x6144 .f32) : Vec Ideal S8x6144 .f32 := fun j =>
  (∑ x : Fin 1024, silu (a0 (ix2 (j 0) x)) * a1 (ix2 x (j 1))) + a2 (ix2 0 (j 1))

/-- The reference's result is the modulation. -/
theorem reference
    (m' : (ℓ : Loc Cert.AdaRefIdeal.nD Cert.AdaRefIdeal.τ Cert.AdaRefIdeal.sig) → Buf (Elt Ideal) ℓ) (g : Dev Cert.AdaRefIdeal.nD → PrngReg) :
    θ_run Cert.AdaRefIdeal.defs (onTc (τ := Cert.AdaRefIdeal.τ) (Cert.AdaRefIdeal.main (F := Ideal))) ⟨m', fun _ => 0, g⟩ fun r => ∀ c : Dev Cert.AdaRefIdeal.nD,
      r.2.mem ((c.tc : Thread Cert.AdaRefIdeal.nD Cert.AdaRefIdeal.τ).loc Cert.AdaRefIdeal.main_v10)
        = modulation (m' ((c.tc : Thread Cert.AdaRefIdeal.nD Cert.AdaRefIdeal.τ).loc Cert.AdaRefIdeal.main_arg0)) (m' ((c.tc : Thread Cert.AdaRefIdeal.nD Cert.AdaRefIdeal.τ).loc Cert.AdaRefIdeal.main_arg1)) (m' ((c.tc : Thread Cert.AdaRefIdeal.nD Cert.AdaRefIdeal.τ).loc Cert.AdaRefIdeal.main_arg2))
      ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2) := by
  refine (θ_run Cert.AdaRefIdeal.defs _ _).mono (fun r h c => ⟨(h c).1.trans ?_, (h c).2⟩) (Cert.AdaRefIdeal.Value.run m' g)
  funext j
  obtain ⟨i, k, rfl⟩ : ∃ i k, j = ix2 i k := ⟨j 0, j 1, eq_ix2 j⟩
  pointwise
  unfold modulation silu squash
  rfl

/-- Where each window stands at a point, which takes a block of columns. -/
theorem places : ∀ t : Fin cfg0.N, win0_0.index t = ![0, 0] ∧ win0_1.index t = ![0, t.val] ∧ win0_2.index t = ![0, t.val] ∧ win0_3.index t = ![0, t.val] :=
  (by decide +kernel : ∀ t : Fin grid0.N, _)

/-- A block of columns of the modulation. -/
theorem tile (v0 : Vec Ideal S8x1024 .f32) (v1 : Vec Ideal S1024x512 .bf16) (v2 : Vec Ideal S1x512 .f32) (i : Fin 8) (k : Fin 512) :
    k0_pay1 (F := Ideal) v0 v1 v2 (ix2 i k) = (∑ x : Fin 1024, silu (v0 (ix2 i x)) * v1 (ix2 x k)) + v2 (ix2 0 k) := by
  unfold silu squash
  pointwise [k0_pay1, Ideal.logistic]

variable (m : (ℓ : Loc nD τ sig) → Buf (Elt Ideal) ℓ) (c : Dev nD)

/-- The result is the modulation. -/
theorem final : (dats m 0 c).arrAt 3 cfg0.N = modulation (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  have hN := lt_of_lt_of_eq t.isLt N_0
  blk_simp
  rw [after0_3]
  frame_out
  obtain ⟨i, k, rfl⟩ : ∃ (i : Fin 8) (k : Fin 512), y = ix2 i k := ⟨y 0, y 1, eq_ix2 y⟩
  have hi := i.isLt
  have hk := k.isLt
  refine Eq.trans ?_ ((fun G : Vec Ideal S8x6144 .f32 => (by blk_point [places t] : G (ix2 i ⟨t.val * 512 + k.val, by omega⟩) = G _))
    (modulation (m ((c.tc : Thread nD τ).loc main_arg0)) (m ((c.tc : Thread nD τ).loc main_arg1)) (m ((c.tc : Thread nD τ).loc main_arg2))))
  rw [tile]
  unfold modulation
  refine congrArg₂ (fun a b : EReal => a + b) (Finset.sum_congr rfl fun x _ => congrArg₂ (fun a b : EReal => silu a * b) ?_ ?_) ?_
  · blk_point [iblk, V, places t]
  · blk_point [iblk, V, places t]
  · blk_point [iblk, V, places t]

omit c

theorem algebraic : Cert.algebraic_AdaIdeal_AdaRefIdeal := fun m g m' g' _ hm => by
  refine ⟨_, (θ_run Cert.AdaIdeal.defs _ _).mono (fun _ h c => ⟨(h c).1.trans ?_, (h c).2⟩) (Cert.AdaIdeal.Value.run_blocks m g), reference m' g'⟩
  rw [(hm c).1, (hm c).2.1, (hm c).2.2]
  exact final m c

end Cert.AdaClaims

end
-- ==== Proof.MergeClaims.lean ====
/- The gated sum of the two branches: both frames, the reference's, and the equation of the results. -/
module

public import proofs.«01_k».proof.Defs
public import proofs.«01_k».proof.Proof.Gen.Merge
public import proofs.«01_k».proof.Proof.Gen.MergeIdeal
public import proofs.«01_k».proof.Proof.Gen.MergeIdeal.Value
public import proofs.«01_k».proof.Proof.Gen.MergeRefIdeal.Run
public import proofs.«01_k».proof.Proof.Gates
public import Idealize.ShloMosaic.Lib.Pipeline.ValueKit
public import Idealize.ShloMosaic.Lib.Quiescent

@[expose] public section

set_option maxRecDepth 16384

noncomputable section

namespace Cert.MergeClaims

open Idealize.ShloMosaic Idealize.ShloMosaic.TcCoe Idealize.SL.Sem
open Idealize.ShloMosaic.Pipeline (Dat)
open Cert.Gates
open Cert.MergeIdeal Cert.MergeIdeal.Gen

theorem frame_ideal : Cert.quiescent_MergeIdeal := fun m g _ => Cert.MergeIdeal.Gen.frame (F := Ideal) m g

/-- The program read at the machine's own numbers calls the same body. -/
theorem bodies : Cert.Merge.defs₀ (F := Bits) = Cert.MergeIdeal.defs₀ (F := Bits) :=
  congrArg Defs.onTc (funext fun l => funext fun _ => match l with | 0 => rfl)

theorem frame_bits : Cert.quiescent_Merge := fun m g _ => by
  have hd : Cert.Merge.defs (F := Bits) = Cert.MergeIdeal.defs (F := Bits) := congrArg (Pipeline.defs Cert.MergeIdeal.pcfgs) bodies
  rw [hd]
  exact Cert.MergeIdeal.Gen.frame (F := Bits) m g

theorem frame_ref : Cert.quiescent_MergeRefIdeal := fun m g _ =>
  (θ_run Cert.MergeRefIdeal.defs _ _).mono (fun r h => ⟨fun c => (h c).2, sem_eq_zero_of_no_sems (by decide) r.2⟩)
    (Cert.MergeRefIdeal.Value.run m g)

/-- The two branches, each under its gate, added. -/
def merged (p : Vec Ideal S8448x11776 .f32) (a b : Vec Ideal S8448x1024 .f32) : Vec Ideal S8448x1024 .bf16 := fun j =>
  squash (p (ix2 (j 0) ⟨9216 + (j 1).val, by have := (j 1).isLt; change _ < 1024 at this; omega⟩)) * a (ix2 (j 0) (j 1))
    + squash (p (ix2 (j 0) ⟨10240 + (j 1).val, by have := (j 1).isLt; change _ < 1024 at this; omega⟩)) * b (ix2 (j 0) (j 1))

/-- The reference's result is the gated sum. -/
theorem reference
    (m' : (ℓ : Loc Cert.MergeRefIdeal.nD Cert.MergeRefIdeal.τ Cert.MergeRefIdeal.sig) → Buf (Elt Ideal) ℓ) (g : Dev Cert.MergeRefIdeal.nD → PrngReg) :
    θ_run Cert.MergeRefIdeal.defs (onTc (τ := Cert.MergeRefIdeal.τ) (Cert.MergeRefIdeal.main (F := Ideal))) ⟨m', fun _ => 0, g⟩ fun r => ∀ c : Dev Cert.MergeRefIdeal.nD,
      r.2.mem ((c.tc : Thread Cert.MergeRefIdeal.nD Cert.MergeRefIdeal.τ).loc Cert.MergeRefIdeal.main_v17)
        = merged (m' ((c.tc : Thread Cert.MergeRefIdeal.nD Cert.MergeRefIdeal.τ).loc Cert.MergeRefIdeal.main_arg0)) (m' ((c.tc : Thread Cert.MergeRefIdeal.nD Cert.MergeRefIdeal.τ).loc Cert.MergeRefIdeal.main_arg1)) (m' ((c.tc : Thread Cert.MergeRefIdeal.nD Cert.MergeRefIdeal.τ).loc Cert.MergeRefIdeal.main_arg2))
      ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2) := by
  refine (θ_run Cert.MergeRefIdeal.defs _ _).mono (fun r h c => ⟨(h c).1.trans ?_, (h c).2⟩) (Cert.MergeRefIdeal.Value.run m' g)
  funext j
  obtain ⟨i, k, rfl⟩ : ∃ i k, j = ix2 i k := ⟨j 0, j 1, eq_ix2 j⟩
  pointwise
  unfold merged squash
  rfl

/-- Where each window stands at a tile: the two gates are blocks of columns of the one array. -/
theorem places : ∀ t : Fin cfg0.N, win0_0.index t = ![t.val, 9] ∧ win0_1.index t = ![t.val, 10] ∧ win0_2.index t = ![t.val, 0] ∧ win0_3.index t = ![t.val, 0] ∧ win0_4.index t = ![t.val, 0] :=
  (by decide +kernel : ∀ t : Fin grid0.N, _)

/-- A tile adds place by place. -/
theorem tile (v0 v1 v2 v3 : Vec Ideal S256x1024 .f32) (i : Fin 256) (k : Fin 1024) :
    k0_pay1 (F := Ideal) v0 v1 v2 v3 (ix2 i k) = squash (v0 (ix2 i k)) * v2 (ix2 i k) + squash (v1 (ix2 i k)) * v3 (ix2 i k) := by
  unfold squash
  pointwise [k0_pay1, Ideal.logistic]

variable (m : (ℓ : Loc nD τ sig) → Buf (Elt Ideal) ℓ) (c : Dev nD)

/-- What a point writes back. -/
theorem written (t : Fin cfg0.N) (y : S256x1024.Idx) : outsAt0 m c t y = k0_pay1 (F := Ideal) (X0_0 m c t) (X0_1 m c t) (iblk m c 2 t) (iblk m c 3 t) y := by
  unfold outsAt0
  frame_out

/-- The first gate's block, as read, is the array's: no block is cut. -/
theorem gate_a (t : Fin cfg0.N) (i : Fin 256) (k : Fin 1024) (r : Fin 8448) (hr : r.val = t.val * 256 + i.val) :
    (X0_0 m c t : Vec Ideal S256x1024 .f32) (ix2 i k) = m ((c.tc : Thread nD τ).loc main_arg0) (ix2 r ⟨9216 + k.val, by omega⟩) := by
  have hlt : t.val * 256 + i.val < 8448 := hr ▸ r.isLt
  rw [show r = ⟨t.val * 256 + i.val, hlt⟩ from Fin.ext hr]
  unfold X0_0 Pipeline.Window.fill
  rw [dif_pos (moved0_0 t _)]
  blk_point [iblk, V, places t]

/-- The second gate's. -/
theorem gate_b (t : Fin cfg0.N) (i : Fin 256) (k : Fin 1024) (r : Fin 8448) (hr : r.val = t.val * 256 + i.val) :
    (X0_1 m c t : Vec Ideal S256x1024 .f32) (ix2 i k) = m ((c.tc : Thread nD τ).loc main_arg0) (ix2 r ⟨10240 + k.val, by omega⟩) := by
  have hlt : t.val * 256 + i.val < 8448 := hr ▸ r.isLt
  rw [show r = ⟨t.val * 256 + i.val, hlt⟩ from Fin.ext hr]
  unfold X0_1 Pipeline.Window.fill
  rw [dif_pos (moved0_1 t _)]
  blk_point [iblk, V, places t]

/-- The result is the gated sum. -/
theorem final : (dats m 0 c).arrAt 4 cfg0.N = merged (m ((c.tc : Thread nD τ).loc main_arg0)) (m ((c.tc : Thread nD τ).loc main_arg1)) (m ((c.tc : Thread nD τ).loc main_arg2)) := by
  refine (dats m 0 c).arrAt_eq_of_covers 4 _ (by decide +kernel) fun t hf y => ?_
  have hN := lt_of_lt_of_eq t.isLt N_0
  blk_simp
  rw [after0_4, written]
  obtain ⟨i, k, rfl⟩ : ∃ (i : Fin 256) (k : Fin 1024), y = ix2 i k := ⟨y 0, y 1, eq_ix2 y⟩
  have hi := i.isLt
  have hk := k.isLt
  refine Eq.trans ?_ ((fun G : Vec Ideal S8448x1024 .bf16 => (by blk_point [places t] : G (ix2 ⟨t.val * 256 + i.val, by omega⟩ k) = G _))
    (merged (m ((c.tc : Thread nD τ).loc main_arg0)) (m ((c.tc : Thread nD τ).loc main_arg1)) (m ((c.tc : Thread nD τ).loc main_arg2))))
  have h2 : (iblk m c 2 t : Vec Ideal S256x1024 .f32) (ix2 i k) = m ((c.tc : Thread nD τ).loc main_arg1) (ix2 ⟨t.val * 256 + i.val, by omega⟩ k) := by
    blk_point [iblk, V, places t]
  have h3 : (iblk m c 3 t : Vec Ideal S256x1024 .f32) (ix2 i k) = m ((c.tc : Thread nD τ).loc main_arg2) (ix2 ⟨t.val * 256 + i.val, by omega⟩ k) := by
    blk_point [iblk, V, places t]
  rw [tile, gate_a m c t i k ⟨t.val * 256 + i.val, by omega⟩ rfl, gate_b m c t i k ⟨t.val * 256 + i.val, by omega⟩ rfl, h2, h3]
  rfl

omit c

theorem algebraic : Cert.algebraic_MergeIdeal_MergeRefIdeal := fun m g m' g' _ hm => by
  refine ⟨_, (θ_run Cert.MergeIdeal.defs _ _).mono (fun _ h c => ⟨(h c).1.trans ?_, (h c).2⟩) (Cert.MergeIdeal.Value.run_blocks m g), reference m' g'⟩
  rw [(hm c).1, (hm c).2.1, (hm c).2.2]
  exact final m c

end Cert.MergeClaims

end
-- ==== Proof.MergeBwdClaims.lean ====
/- The backward pass of the gated sum: both frames, the reference's, and the equation of the results. -/
module

public import proofs.«01_k».proof.Defs
public import proofs.«01_k».proof.Proof.Gen.MergeBwd
public import proofs.«01_k».proof.Proof.Gen.MergeBwdIdeal
public import proofs.«01_k».proof.Proof.Gen.MergeBwdIdeal.Value
public import proofs.«01_k».proof.Proof.Gen.MergeBwdRefIdeal.Run
public import proofs.«01_k».proof.Proof.Gates
public import Idealize.ShloMosaic.Lib.Pipeline.ValueKit
public import Idealize.ShloMosaic.Lib.Quiescent

@[expose] public section

set_option maxRecDepth 16384

noncomputable section

namespace Cert.MergeBwdClaims

open Idealize.ShloMosaic Idealize.ShloMosaic.TcCoe Idealize.SL.Sem
open Idealize.ShloMosaic.Pipeline (Dat)
open Cert.Gates
open Cert.MergeBwdIdeal Cert.MergeBwdIdeal.Gen

theorem frame_ideal : Cert.quiescent_MergeBwdIdeal := fun m g _ => Cert.MergeBwdIdeal.Gen.frame (F := Ideal) m g

/-- The program read at the machine's own numbers calls the same body. -/
theorem bodies : Cert.MergeBwd.defs₀ (F := Bits) = Cert.MergeBwdIdeal.defs₀ (F := Bits) :=
  congrArg Defs.onTc (funext fun l => funext fun _ => match l with | 0 => rfl)

theorem frame_bits : Cert.quiescent_MergeBwd := fun m g _ => by
  have hd : Cert.MergeBwd.defs (F := Bits) = Cert.MergeBwdIdeal.defs (F := Bits) := congrArg (Pipeline.defs Cert.MergeBwdIdeal.pcfgs) bodies
  rw [hd]
  exact Cert.MergeBwdIdeal.Gen.frame (F := Bits) m g

theorem frame_ref : Cert.quiescent_MergeBwdRefIdeal := fun m g _ =>
  (θ_run Cert.MergeBwdRefIdeal.defs _ _).mono (fun r h => ⟨fun c => (h c).2.2.2.2, sem_eq_zero_of_no_sems (by decide) r.2⟩)
    (Cert.MergeBwdRefIdeal.Value.run m g)

/-- The derivative by the gate that stands from column `o` on, times what comes back. -/
def dgate (o : ℕ) (ho : o + 1024 ≤ 11776) (p : Vec Ideal S8448x11776 .f32) (a d : Vec Ideal S8448x1024 .f32) : Vec Ideal S8448x1024 .bf16 := fun j =>
  d (ix2 (j 0) (j 1)) * a (ix2 (j 0) (j 1)) * steep (p (ix2 (j 0) ⟨o + (j 1).val, by have := (j 1).isLt; change _ < 1024 at this; omega⟩))

/-- The derivative by the branch under that gate, times what comes back. -/
def dbranch (o : ℕ) (ho : o + 1024 ≤ 11776) (p : Vec Ideal S8448x11776 .f32) (d : Vec Ideal S8448x1024 .f32) : Vec Ideal S8448x1024 .bf16 := fun j =>
  squash (p (ix2 (j 0) ⟨o + (j 1).val, by have := (j 1).isLt; change _ < 1024 at this; omega⟩)) * d (ix2 (j 0) (j 1))

/-- The reference's results are the four derivatives. -/
theorem reference
    (m' : (ℓ : Loc Cert.MergeBwdRefIdeal.nD Cert.MergeBwdRefIdeal.τ Cert.MergeBwdRefIdeal.sig) → Buf (Elt Ideal) ℓ) (g : Dev Cert.MergeBwdRefIdeal.nD → PrngReg) :
    θ_run Cert.MergeBwdRefIdeal.defs (onTc (τ := Cert.MergeBwdRefIdeal.τ) (Cert.MergeBwdRefIdeal.main (F := Ideal))) ⟨m', fun _ => 0, g⟩ fun r => ∀ c : Dev Cert.MergeBwdRefIdeal.nD,
      r.2.mem ((c.tc : Thread Cert.MergeBwdRefIdeal.nD Cert.MergeBwdRefIdeal.τ).loc Cert.MergeBwdRefIdeal.main_v31)
        = dgate 9216 (by decide) (m' ((c.tc : Thread Cert.MergeBwdRefIdeal.nD Cert.MergeBwdRefIdeal.τ).loc Cert.MergeBwdRefIdeal.main_arg0)) (m' ((c.tc : Thread Cert.MergeBwdRefIdeal.nD Cert.MergeBwdRefIdeal.τ).loc Cert.MergeBwdRefIdeal.main_arg1)) (m' ((c.tc : Thread Cert.MergeBwdRefIdeal.nD Cert.MergeBwdRefIdeal.τ).loc Cert.MergeBwdRefIdeal.main_arg3))
      ∧ r.2.mem ((c.tc : Thread Cert.MergeBwdRefIdeal.nD Cert.MergeBwdRefIdeal.τ).loc Cert.MergeBwdRefIdeal.main_v32)
        = dgate 10240 (by decide) (m' ((c.tc : Thread Cert.MergeBwdRefIdeal.nD Cert.MergeBwdRefIdeal.τ).loc Cert.MergeBwdRefIdeal.main_arg0)) (m' ((c.tc : Thread Cert.MergeBwdRefIdeal.nD Cert.MergeBwdRefIdeal.τ).loc Cert.MergeBwdRefIdeal.main_arg2)) (m' ((c.tc : Thread Cert.MergeBwdRefIdeal.nD Cert.MergeBwdRefIdeal.τ).loc Cert.MergeBwdRefIdeal.main_arg3))
      ∧ r.2.mem ((c.tc : Thread Cert.MergeBwdRefIdeal.nD Cert.MergeBwdRefIdeal.τ).loc Cert.MergeBwdRefIdeal.main_v33)
        = dbranch 9216 (by decide) (m' ((c.tc : Thread Cert.MergeBwdRefIdeal.nD Cert.MergeBwdRefIdeal.τ).loc Cert.MergeBwdRefIdeal.main_arg0)) (m' ((c.tc : Thread Cert.MergeBwdRefIdeal.nD Cert.MergeBwdRefIdeal.τ).loc Cert.MergeBwdRefIdeal.main_arg3))
      ∧ r.2.mem ((c.tc : Thread Cert.MergeBwdRefIdeal.nD Cert.MergeBwdRefIdeal.τ).loc Cert.MergeBwdRefIdeal.main_v34)
        = dbranch 10240 (by decide) (m' ((c.tc : Thread Cert.MergeBwdRefIdeal.nD Cert.MergeBwdRefIdeal.τ).loc Cert.MergeBwdRefIdeal.main_arg0)) (m' ((c.tc : Thread Cert.MergeBwdRefIdeal.nD Cert.MergeBwdRefIdeal.τ).loc Cert.MergeBwdRefIdeal.main_arg3))
      ∧ r.2.mem ((c.tc : Thread Cert.MergeBwdRefIdeal.nD Cert.MergeBwdRefIdeal.τ).loc Cert.MergeBwdRefIdeal.main_arg0) = m' ((c.tc : Thread Cert.MergeBwdRefIdeal.nD Cert.MergeBwdRefIdeal.τ).loc Cert.MergeBwdRefIdeal.main_arg0)
      ∧ r.2.mem ((c.tc : Thread Cert.MergeBwdRefIdeal.nD Cert.MergeBwdRefIdeal.τ).loc Cert.MergeBwdRefIdeal.main_arg1) = m' ((c.tc : Thread Cert.MergeBwdRefIdeal.nD Cert.MergeBwdRefIdeal.τ).loc Cert.MergeBwdRefIdeal.main_arg1)
      ∧ r.2.mem ((c.tc : Thread Cert.MergeBwdRefIdeal.nD Cert.MergeBwdRefIdeal.τ).loc Cert.MergeBwdRefIdeal.main_arg2) = m' ((c.tc : Thread Cert.MergeBwdRefIdeal.nD Cert.MergeBwdRefIdeal.τ).loc Cert.MergeBwdRefIdeal.main_arg2)
      ∧ r.2.mem ((c.tc : Thread Cert.MergeBwdRefIdeal.nD Cert.MergeBwdRefIdeal.τ).loc Cert.MergeBwdRefIdeal.main_arg3) = m' ((c.tc : Thread Cert.MergeBwdRefIdeal.nD Cert.MergeBwdRefIdeal.τ).loc Cert.MergeBwdRefIdeal.main_arg3) := by
  refine (θ_run Cert.MergeBwdRefIdeal.defs _ _).mono (fun r h c => ⟨(h c).1.trans ?_, (h c).2.1.trans ?_, (h c).2.2.1.trans ?_, (h c).2.2.2.1.trans ?_, (h c).2.2.2.2⟩) (Cert.MergeBwdRefIdeal.Value.run m' g)
  · funext j
    obtain ⟨i, k, rfl⟩ : ∃ i k, j = ix2 i k := ⟨j 0, j 1, eq_ix2 j⟩
    pointwise
    unfold dgate steep squash
    rfl
  · funext j
    obtain ⟨i, k, rfl⟩ : ∃ i k, j = ix2 i k := ⟨j 0, j 1, eq_ix2 j⟩
    pointwise
    unfold dgate steep squash
    rfl
  · funext j
    obtain ⟨i, k, rfl⟩ : ∃ i k, j = ix2 i k := ⟨j 0, j 1, eq_ix2 j⟩
    pointwise
    unfold dbranch squash
    rfl
  · funext j
    obtain ⟨i, k, rfl⟩ : ∃ i k, j = ix2 i k := ⟨j 0, j 1, eq_ix2 j⟩
    pointwise
    unfold dbranch squash
    rfl

/-- Where each window stands at a tile: the two gates are blocks of columns of the one array. -/
theorem places : ∀ t : Fin cfg0.N, win0_0.index t = ![t.val, 9] ∧ win0_1.index t = ![t.val, 10] ∧ win0_2.index t = ![t.val, 0] ∧ win0_3.index t = ![t.val, 0] ∧ win0_4.index t = ![t.val, 0]
    ∧ win0_5.index t = ![t.val, 0] ∧ win0_6.index t = ![t.val, 0] ∧ win0_7.index t = ![t.val, 0] ∧ win0_8.index t = ![t.val, 0] :=
  (by decide +kernel : ∀ t : Fin grid0.N, _)

/-- A tile of the derivatives by the gates. -/
theorem tile_gate (v0 v2 v4 : Vec Ideal S256x1024 .f32) (i : Fin 256) (k : Fin 1024) :
    k0_pay5 (F := Ideal) v0 v2 v4 (ix2 i k) = v4 (ix2 i k) * v2 (ix2 i k) * steep (v0 (ix2 i k)) := by
  unfold steep squash
  pointwise [k0_pay5, k0_pay1, k0_pay2, k0_pay3, k0_pay4, Ideal.logistic]

/-- The second gate's is computed as the first's. -/
theorem tile_gate' (v1 v3 v4 : Vec Ideal S256x1024 .f32) (i : Fin 256) (k : Fin 1024) :
    k0_pay6 (F := Ideal) v1 v3 v4 (ix2 i k) = v4 (ix2 i k) * v3 (ix2 i k) * steep (v1 (ix2 i k)) :=
  tile_gate v1 v3 v4 i k

/-- A tile of the derivatives by the branches. -/
theorem tile_branch (v0 v4 : Vec Ideal S256x1024 .f32) (i : Fin 256) (k : Fin 1024) :
    k0_pay7 (F := Ideal) v0 v4 (ix2 i k) = squash (v0 (ix2 i k)) * v4 (ix2 i k) := by
  unfold squash
  pointwise [k0_pay7, k0_pay1, k0_pay2, k0_pay3, k0_pay4, Ideal.logistic]

/-- The second branch's is computed as the first's. -/
theorem tile_branch' (v1 v4 : Vec Ideal S256x1024 .f32) (i : Fin 256) (k : Fin 1024) :
    k0_pay8 (F := Ideal) v1 v4 (ix2 i k) = squash (v1 (ix2 i k)) * v4 (ix2 i k) :=
  tile_branch v1 v4 i k

variable (m : (ℓ : Loc nD τ sig) → Buf (Elt Ideal) ℓ) (c : Dev nD)

/-- What a point writes back. -/
theorem written (t : Fin cfg0.N) (y : S256x1024.Idx) :
    (outsAt0 m c t).1 y = k0_pay5 (F := Ideal) (X0_0 m c t) (iblk m c 2 t) (iblk m c 4 t) y
    ∧ (outsAt0 m c t).2.1 y = k0_pay6 (F := Ideal) (X0_1 m c t) (iblk m c 3 t) (iblk m c 4 t) y
    ∧ (outsAt0 m c t).2.2.1 y = k0_pay7 (F := Ideal) (X0_0 m c t) (iblk m c 4 t) y
    ∧ (outsAt0 m c t).2.2.2 y = k0_pay8 (F := Ideal) (X0_1 m c t) (iblk m c 4 t) y := by
  unfold outsAt0
  refine ⟨?_, ?_, ?_, ?_⟩ <;> frame_out

/-- The first gate's block, as read, is the array's: no block is cut. -/
theorem gate_a (t : Fin cfg0.N) (i : Fin 256) (k : Fin 1024) (r : Fin 8448) (hr : r.val = t.val * 256 + i.val) :
    (X0_0 m c t : Vec Ideal S256x1024 .f32) (ix2 i k) = m ((c.tc : Thread nD τ).loc main_arg0) (ix2 r ⟨9216 + k.val, by omega⟩) := by
  have hlt : t.val * 256 + i.val < 8448 := hr ▸ r.isLt
  rw [show r = ⟨t.val * 256 + i.val, hlt⟩ from Fin.ext hr]
  unfold X0_0 Pipeline.Window.fill
  rw [dif_pos (moved0_0 t _)]
  blk_point [iblk, V, places t]

/-- The second gate's. -/
theorem gate_b (t : Fin cfg0.N) (i : Fin 256) (k : Fin 1024) (r : Fin 8448) (hr : r.val = t.val * 256 + i.val) :
    (X0_1 m c t : Vec Ideal S256x1024 .f32) (ix2 i k) = m ((c.tc : Thread nD τ).loc main_arg0) (ix2 r ⟨10240 + k.val, by omega⟩) := by
  have hlt : t.val * 256 + i.val < 8448 := hr ▸ r.isLt
  rw [show r = ⟨t.val * 256 + i.val, hlt⟩ from Fin.ext hr]
  unfold X0_1 Pipeline.Window.fill
  rw [dif_pos (moved0_1 t _)]
  blk_point [iblk, V, places t]

/-- The first result is the derivative by the first gate. -/
theorem final_gate_a : (dats m 0 c).arrAt 5 cfg0.N = dgate 9216 (by decide) (m ((c.tc : Thread nD τ).loc main_arg0)) (m ((c.tc : Thread nD τ).loc main_arg1)) (m ((c.tc : Thread nD τ).loc main_arg3)) := by
  refine (dats m 0 c).arrAt_eq_of_covers 5 _ (by decide +kernel) fun t hf y => ?_
  have hN := lt_of_lt_of_eq t.isLt N_0
  blk_simp
  rw [after0_5, (written m c t _).1]
  obtain ⟨i, k, rfl⟩ : ∃ (i : Fin 256) (k : Fin 1024), y = ix2 i k := ⟨y 0, y 1, eq_ix2 y⟩
  have hi := i.isLt
  have hk := k.isLt
  refine Eq.trans ?_ ((fun G : Vec Ideal S8448x1024 .bf16 => (by blk_point [places t] : G (ix2 ⟨t.val * 256 + i.val, by omega⟩ k) = G _))
    (dgate 9216 (by decide) (m ((c.tc : Thread nD τ).loc main_arg0)) (m ((c.tc : Thread nD τ).loc main_arg1)) (m ((c.tc : Thread nD τ).loc main_arg3))))
  have h2 : (iblk m c 2 t : Vec Ideal S256x1024 .f32) (ix2 i k) = m ((c.tc : Thread nD τ).loc main_arg1) (ix2 ⟨t.val * 256 + i.val, by omega⟩ k) := by
    blk_point [iblk, V, places t]
  have h4 : (iblk m c 4 t : Vec Ideal S256x1024 .f32) (ix2 i k) = m ((c.tc : Thread nD τ).loc main_arg3) (ix2 ⟨t.val * 256 + i.val, by omega⟩ k) := by
    blk_point [iblk, V, places t]
  rw [tile_gate, gate_a m c t i k ⟨t.val * 256 + i.val, by omega⟩ rfl, h2, h4]
  rfl

/-- The second is the derivative by the second gate. -/
theorem final_gate_b : (dats m 0 c).arrAt 6 cfg0.N = dgate 10240 (by decide) (m ((c.tc : Thread nD τ).loc main_arg0)) (m ((c.tc : Thread nD τ).loc main_arg2)) (m ((c.tc : Thread nD τ).loc main_arg3)) := by
  refine (dats m 0 c).arrAt_eq_of_covers 6 _ (by decide +kernel) fun t hf y => ?_
  have hN := lt_of_lt_of_eq t.isLt N_0
  blk_simp
  rw [after0_6, (written m c t _).2.1]
  obtain ⟨i, k, rfl⟩ : ∃ (i : Fin 256) (k : Fin 1024), y = ix2 i k := ⟨y 0, y 1, eq_ix2 y⟩
  have hi := i.isLt
  have hk := k.isLt
  refine Eq.trans ?_ ((fun G : Vec Ideal S8448x1024 .bf16 => (by blk_point [places t] : G (ix2 ⟨t.val * 256 + i.val, by omega⟩ k) = G _))
    (dgate 10240 (by decide) (m ((c.tc : Thread nD τ).loc main_arg0)) (m ((c.tc : Thread nD τ).loc main_arg2)) (m ((c.tc : Thread nD τ).loc main_arg3))))
  have h3 : (iblk m c 3 t : Vec Ideal S256x1024 .f32) (ix2 i k) = m ((c.tc : Thread nD τ).loc main_arg2) (ix2 ⟨t.val * 256 + i.val, by omega⟩ k) := by
    blk_point [iblk, V, places t]
  have h4 : (iblk m c 4 t : Vec Ideal S256x1024 .f32) (ix2 i k) = m ((c.tc : Thread nD τ).loc main_arg3) (ix2 ⟨t.val * 256 + i.val, by omega⟩ k) := by
    blk_point [iblk, V, places t]
  rw [tile_gate', gate_b m c t i k ⟨t.val * 256 + i.val, by omega⟩ rfl, h3, h4]
  rfl

/-- The third is the derivative by the first branch. -/
theorem final_branch_a : (dats m 0 c).arrAt 7 cfg0.N = dbranch 9216 (by decide) (m ((c.tc : Thread nD τ).loc main_arg0)) (m ((c.tc : Thread nD τ).loc main_arg3)) := by
  refine (dats m 0 c).arrAt_eq_of_covers 7 _ (by decide +kernel) fun t hf y => ?_
  have hN := lt_of_lt_of_eq t.isLt N_0
  blk_simp
  rw [after0_7, (written m c t _).2.2.1]
  obtain ⟨i, k, rfl⟩ : ∃ (i : Fin 256) (k : Fin 1024), y = ix2 i k := ⟨y 0, y 1, eq_ix2 y⟩
  have hi := i.isLt
  have hk := k.isLt
  refine Eq.trans ?_ ((fun G : Vec Ideal S8448x1024 .bf16 => (by blk_point [places t] : G (ix2 ⟨t.val * 256 + i.val, by omega⟩ k) = G _))
    (dbranch 9216 (by decide) (m ((c.tc : Thread nD τ).loc main_arg0)) (m ((c.tc : Thread nD τ).loc main_arg3))))
  have h4 : (iblk m c 4 t : Vec Ideal S256x1024 .f32) (ix2 i k) = m ((c.tc : Thread nD τ).loc main_arg3) (ix2 ⟨t.val * 256 + i.val, by omega⟩ k) := by
    blk_point [iblk, V, places t]
  rw [tile_branch, gate_a m c t i k ⟨t.val * 256 + i.val, by omega⟩ rfl, h4]
  rfl

/-- The fourth is the derivative by the second branch. -/
theorem final_branch_b : (dats m 0 c).arrAt 8 cfg0.N = dbranch 10240 (by decide) (m ((c.tc : Thread nD τ).loc main_arg0)) (m ((c.tc : Thread nD τ).loc main_arg3)) := by
  refine (dats m 0 c).arrAt_eq_of_covers 8 _ (by decide +kernel) fun t hf y => ?_
  have hN := lt_of_lt_of_eq t.isLt N_0
  blk_simp
  rw [after0_8, (written m c t _).2.2.2]
  obtain ⟨i, k, rfl⟩ : ∃ (i : Fin 256) (k : Fin 1024), y = ix2 i k := ⟨y 0, y 1, eq_ix2 y⟩
  have hi := i.isLt
  have hk := k.isLt
  refine Eq.trans ?_ ((fun G : Vec Ideal S8448x1024 .bf16 => (by blk_point [places t] : G (ix2 ⟨t.val * 256 + i.val, by omega⟩ k) = G _))
    (dbranch 10240 (by decide) (m ((c.tc : Thread nD τ).loc main_arg0)) (m ((c.tc : Thread nD τ).loc main_arg3))))
  have h4 : (iblk m c 4 t : Vec Ideal S256x1024 .f32) (ix2 i k) = m ((c.tc : Thread nD τ).loc main_arg3) (ix2 ⟨t.val * 256 + i.val, by omega⟩ k) := by
    blk_point [iblk, V, places t]
  rw [tile_branch', gate_b m c t i k ⟨t.val * 256 + i.val, by omega⟩ rfl, h4]
  rfl

omit c

theorem algebraic : Cert.algebraic_MergeBwdIdeal_MergeBwdRefIdeal := fun m g m' g' _ hm => by
  refine ⟨_, _, _, _, (θ_run Cert.MergeBwdIdeal.defs _ _).mono (fun _ h c => ⟨(h c).1.trans ?_, (h c).2.1.trans ?_, (h c).2.2.1.trans ?_, (h c).2.2.2.1.trans ?_, (h c).2.2.2.2⟩) (Cert.MergeBwdIdeal.Value.run_blocks m g), reference m' g'⟩
  · rw [(hm c).1, (hm c).2.1, (hm c).2.2.2]
    exact final_gate_a m c
  · rw [(hm c).1, (hm c).2.2.1, (hm c).2.2.2]
    exact final_gate_b m c
  · rw [(hm c).1, (hm c).2.2.2]
    exact final_branch_a m c
  · rw [(hm c).1, (hm c).2.2.2]
    exact final_branch_b m c

end Cert.MergeBwdClaims

end
-- ==== Proof.SwigluBwdClaims.lean ====
/- The backward pass of the feed-forward gate: both frames, the reference's, and the equation of the results. -/
module

public import proofs.«01_k».proof.Defs
public import proofs.«01_k».proof.Proof.Gen.SwigluBwd
public import proofs.«01_k».proof.Proof.Gen.SwigluBwdIdeal
public import proofs.«01_k».proof.Proof.Gen.SwigluBwdIdeal.Value
public import proofs.«01_k».proof.Proof.Gen.SwigluBwdRefIdeal.Run
public import proofs.«01_k».proof.Proof.Gates
public import Idealize.ShloMosaic.Lib.Pipeline.ValueKit
public import Idealize.ShloMosaic.Lib.Quiescent

@[expose] public section

set_option maxRecDepth 16384

noncomputable section

namespace Cert.SwigluBwdClaims

open Idealize.ShloMosaic Idealize.ShloMosaic.TcCoe Idealize.SL.Sem
open Idealize.ShloMosaic.Pipeline (Dat)
open Cert.Gates
open Cert.SwigluBwdIdeal Cert.SwigluBwdIdeal.Gen

theorem frame_ideal : Cert.quiescent_SwigluBwdIdeal := fun m g _ => Cert.SwigluBwdIdeal.Gen.frame (F := Ideal) m g

/-- The program read at the machine's own numbers calls the same body. -/
theorem bodies : Cert.SwigluBwd.defs₀ (F := Bits) = Cert.SwigluBwdIdeal.defs₀ (F := Bits) :=
  congrArg Defs.onTc (funext fun l => funext fun _ => match l with | 0 => rfl)

theorem frame_bits : Cert.quiescent_SwigluBwd := fun m g _ => by
  have hd : Cert.SwigluBwd.defs (F := Bits) = Cert.SwigluBwdIdeal.defs (F := Bits) := congrArg (Pipeline.defs Cert.SwigluBwdIdeal.pcfgs) bodies
  rw [hd]
  exact Cert.SwigluBwdIdeal.Gen.frame (F := Bits) m g

theorem frame_ref : Cert.quiescent_SwigluBwdRefIdeal := fun m g _ =>
  (θ_run Cert.SwigluBwdRefIdeal.defs _ _).mono (fun r h => ⟨fun c => (h c).2.2, sem_eq_zero_of_no_sems (by decide) r.2⟩)
    (Cert.SwigluBwdRefIdeal.Value.run m g)

/-- The gated array's derivative by the gate, times what comes back. -/
def dgate (u : Vec Ideal S8448x5632 .f32) (d : Vec Ideal S8448x2816 .f32) : Vec Ideal S8448x2816 .bf16 := fun j =>
  siluBack (u (ix2 (j 0) ⟨(j 1).val, by have := (j 1).isLt; change _ < 2816 at this; omega⟩)) (d (ix2 (j 0) (j 1)) * u (ix2 (j 0) ⟨2816 + (j 1).val, by have := (j 1).isLt; change _ < 2816 at this; omega⟩))

/-- The gated array's derivative by what the gate lets through, times what comes back. -/
def dpassed (u : Vec Ideal S8448x5632 .f32) (d : Vec Ideal S8448x2816 .f32) : Vec Ideal S8448x2816 .bf16 := fun j =>
  silu (u (ix2 (j 0) ⟨(j 1).val, by have := (j 1).isLt; change _ < 2816 at this; omega⟩)) * d (ix2 (j 0) (j 1))

/-- The reference's results are the two derivatives. -/
theorem reference
    (m' : (ℓ : Loc Cert.SwigluBwdRefIdeal.nD Cert.SwigluBwdRefIdeal.τ Cert.SwigluBwdRefIdeal.sig) → Buf (Elt Ideal) ℓ) (g : Dev Cert.SwigluBwdRefIdeal.nD → PrngReg) :
    θ_run Cert.SwigluBwdRefIdeal.defs (onTc (τ := Cert.SwigluBwdRefIdeal.τ) (Cert.SwigluBwdRefIdeal.main (F := Ideal))) ⟨m', fun _ => 0, g⟩ fun r => ∀ c : Dev Cert.SwigluBwdRefIdeal.nD,
      r.2.mem ((c.tc : Thread Cert.SwigluBwdRefIdeal.nD Cert.SwigluBwdRefIdeal.τ).loc Cert.SwigluBwdRefIdeal.main_v19)
        = dgate (m' ((c.tc : Thread Cert.SwigluBwdRefIdeal.nD Cert.SwigluBwdRefIdeal.τ).loc Cert.SwigluBwdRefIdeal.main_arg0)) (m' ((c.tc : Thread Cert.SwigluBwdRefIdeal.nD Cert.SwigluBwdRefIdeal.τ).loc Cert.SwigluBwdRefIdeal.main_arg1))
      ∧ r.2.mem ((c.tc : Thread Cert.SwigluBwdRefIdeal.nD Cert.SwigluBwdRefIdeal.τ).loc Cert.SwigluBwdRefIdeal.main_v20)
        = dpassed (m' ((c.tc : Thread Cert.SwigluBwdRefIdeal.nD Cert.SwigluBwdRefIdeal.τ).loc Cert.SwigluBwdRefIdeal.main_arg0)) (m' ((c.tc : Thread Cert.SwigluBwdRefIdeal.nD Cert.SwigluBwdRefIdeal.τ).loc Cert.SwigluBwdRefIdeal.main_arg1))
      ∧ r.2.mem ((c.tc : Thread Cert.SwigluBwdRefIdeal.nD Cert.SwigluBwdRefIdeal.τ).loc Cert.SwigluBwdRefIdeal.main_arg0) = m' ((c.tc : Thread Cert.SwigluBwdRefIdeal.nD Cert.SwigluBwdRefIdeal.τ).loc Cert.SwigluBwdRefIdeal.main_arg0)
      ∧ r.2.mem ((c.tc : Thread Cert.SwigluBwdRefIdeal.nD Cert.SwigluBwdRefIdeal.τ).loc Cert.SwigluBwdRefIdeal.main_arg1) = m' ((c.tc : Thread Cert.SwigluBwdRefIdeal.nD Cert.SwigluBwdRefIdeal.τ).loc Cert.SwigluBwdRefIdeal.main_arg1) := by
  refine (θ_run Cert.SwigluBwdRefIdeal.defs _ _).mono (fun r h c => ⟨(h c).1.trans ?_, (h c).2.1.trans ?_, (h c).2.2⟩) (Cert.SwigluBwdRefIdeal.Value.run m' g)
  · funext j
    obtain ⟨i, k, rfl⟩ : ∃ i k, j = ix2 i k := ⟨j 0, j 1, eq_ix2 j⟩
    pointwise
    unfold dgate siluBack steep squash
    rfl
  · funext j
    obtain ⟨i, k, rfl⟩ : ∃ i k, j = ix2 i k := ⟨j 0, j 1, eq_ix2 j⟩
    pointwise
    unfold dpassed silu squash
    rfl

/-- Where each window stands at a point: the gate's in the first half of the columns, the other's as far into the second. -/
theorem places : ∀ t : Fin cfg0.N, win0_0.index t = ![t.val % 33, t.val / 33] ∧ win0_1.index t = ![t.val % 33, 11 + t.val / 33] ∧ win0_2.index t = ![t.val % 33, t.val / 33]
    ∧ win0_3.index t = ![t.val % 33, t.val / 33] ∧ win0_4.index t = ![t.val % 33, t.val / 33] :=
  (by decide +kernel : ∀ t : Fin grid0.N, _)

/-- A tile of the derivative by the gate. -/
theorem tile_gate (v0 v1 v2 : Vec Ideal S256x256 .f32) (i k : Fin 256) :
    k0_pay2 (F := Ideal) v0 v1 v2 (ix2 i k) = siluBack (v0 (ix2 i k)) (v2 (ix2 i k) * v1 (ix2 i k)) := by
  unfold siluBack steep squash
  pointwise [k0_pay2, k0_pay1, Ideal.logistic]

/-- A tile of the derivative by what the gate lets through. -/
theorem tile_passed (v0 v2 : Vec Ideal S256x256 .f32) (i k : Fin 256) :
    k0_pay3 (F := Ideal) v0 v2 (ix2 i k) = silu (v0 (ix2 i k)) * v2 (ix2 i k) := by
  unfold silu squash
  pointwise [k0_pay3, k0_pay1, Ideal.logistic]

variable (m : (ℓ : Loc nD τ sig) → Buf (Elt Ideal) ℓ) (c : Dev nD)

/-- The first result is the derivative by the gate. -/
theorem final_gate : (dats m 0 c).arrAt 3 cfg0.N = dgate (m ((c.tc : Thread nD τ).loc main_arg0)) (m ((c.tc : Thread nD τ).loc main_arg1)) := by
  refine (dats m 0 c).arrAt_eq_of_covers 3 _ (by decide +kernel) fun t hf y => ?_
  have hN := lt_of_lt_of_eq t.isLt N_0
  blk_simp
  rw [after0_3]
  frame_out
  obtain ⟨i, k, rfl⟩ : ∃ (i : Fin 256) (k : Fin 256), y = ix2 i k := ⟨y 0, y 1, eq_ix2 y⟩
  have hi := i.isLt
  have hk := k.isLt
  refine Eq.trans ?_ ((fun G : Vec Ideal S8448x2816 .bf16 => (by blk_point [places t] : G (ix2 ⟨t.val % 33 * 256 + i.val, by omega⟩ ⟨t.val / 33 * 256 + k.val, by omega⟩) = G _))
    (dgate (m ((c.tc : Thread nD τ).loc main_arg0)) (m ((c.tc : Thread nD τ).loc main_arg1))))
  have h0 : (iblk m c 0 t : Vec Ideal S256x256 .f32) (ix2 i k) = m ((c.tc : Thread nD τ).loc main_arg0) (ix2 ⟨t.val % 33 * 256 + i.val, by omega⟩ ⟨t.val / 33 * 256 + k.val, by omega⟩) := by
    blk_point [iblk, V, places t]
  have h1 : (iblk m c 1 t : Vec Ideal S256x256 .f32) (ix2 i k) = m ((c.tc : Thread nD τ).loc main_arg0) (ix2 ⟨t.val % 33 * 256 + i.val, by omega⟩ ⟨2816 + (t.val / 33 * 256 + k.val), by omega⟩) := by
    blk_point [iblk, V, places t]
  have h2 : (iblk m c 2 t : Vec Ideal S256x256 .f32) (ix2 i k) = m ((c.tc : Thread nD τ).loc main_arg1) (ix2 ⟨t.val % 33 * 256 + i.val, by omega⟩ ⟨t.val / 33 * 256 + k.val, by omega⟩) := by
    blk_point [iblk, V, places t]
  rw [tile_gate, h0, h1, h2]
  rfl

/-- The second is the derivative by what the gate lets through. -/
theorem final_passed : (dats m 0 c).arrAt 4 cfg0.N = dpassed (m ((c.tc : Thread nD τ).loc main_arg0)) (m ((c.tc : Thread nD τ).loc main_arg1)) := by
  refine (dats m 0 c).arrAt_eq_of_covers 4 _ (by decide +kernel) fun t hf y => ?_
  have hN := lt_of_lt_of_eq t.isLt N_0
  blk_simp
  rw [after0_4]
  frame_out
  obtain ⟨i, k, rfl⟩ : ∃ (i : Fin 256) (k : Fin 256), y = ix2 i k := ⟨y 0, y 1, eq_ix2 y⟩
  have hi := i.isLt
  have hk := k.isLt
  refine Eq.trans ?_ ((fun G : Vec Ideal S8448x2816 .bf16 => (by blk_point [places t] : G (ix2 ⟨t.val % 33 * 256 + i.val, by omega⟩ ⟨t.val / 33 * 256 + k.val, by omega⟩) = G _))
    (dpassed (m ((c.tc : Thread nD τ).loc main_arg0)) (m ((c.tc : Thread nD τ).loc main_arg1))))
  have h0 : (iblk m c 0 t : Vec Ideal S256x256 .f32) (ix2 i k) = m ((c.tc : Thread nD τ).loc main_arg0) (ix2 ⟨t.val % 33 * 256 + i.val, by omega⟩ ⟨t.val / 33 * 256 + k.val, by omega⟩) := by
    blk_point [iblk, V, places t]
  have h2 : (iblk m c 2 t : Vec Ideal S256x256 .f32) (ix2 i k) = m ((c.tc : Thread nD τ).loc main_arg1) (ix2 ⟨t.val % 33 * 256 + i.val, by omega⟩ ⟨t.val / 33 * 256 + k.val, by omega⟩) := by
    blk_point [iblk, V, places t]
  rw [tile_passed, h0, h2]
  rfl

omit c

theorem algebraic : Cert.algebraic_SwigluBwdIdeal_SwigluBwdRefIdeal := fun m g m' g' _ hm => by
  refine ⟨_, _, (θ_run Cert.SwigluBwdIdeal.defs _ _).mono (fun _ h c => ⟨(h c).1.trans ?_, (h c).2.1.trans ?_, (h c).2.2⟩) (Cert.SwigluBwdIdeal.Value.run_blocks m g), reference m' g'⟩
  · rw [(hm c).1, (hm c).2]
    exact final_gate m c
  · rw [(hm c).1, (hm c).2]
    exact final_passed m c

end Cert.SwigluBwdClaims

end
-- ==== Proof.Norm2BwdClaims.lean ====
/- The backward pass of the residual and the second norm: both frames, the reference's, and the equation of the results. -/
module

public import proofs.«01_k».proof.Defs
public import proofs.«01_k».proof.Proof.Gen.Norm2Bwd
public import proofs.«01_k».proof.Proof.Gen.Norm2BwdIdeal
public import proofs.«01_k».proof.Proof.Gen.Norm2BwdIdeal.Value
public import proofs.«01_k».proof.Proof.Gen.Norm2BwdRefIdeal.Run
public import proofs.«01_k».proof.Proof.Norms
public import Idealize.ShloMosaic.Lib.Pipeline.ValueKit
public import Idealize.ShloMosaic.Lib.Quiescent

@[expose] public section

set_option maxRecDepth 16384

noncomputable section

namespace Cert.Norm2BwdClaims

open Idealize.ShloMosaic Idealize.ShloMosaic.TcCoe Idealize.SL.Sem
open Idealize.ShloMosaic.Pipeline (Dat)
open Cert.Norm2BwdIdeal Cert.Norm2BwdIdeal.Gen Cert.Norms

/-- Where each window stands at a tile: the streams' at the tile itself, the others at one place. -/
theorem places : ∀ t : Fin cfg0.N, win0_0.index t = ![t.val, 0] ∧ win0_1.index t = ![t.val, 0] ∧ win0_2.index t = ![0, 2]
    ∧ win0_3.index t = ![0, 0] ∧ win0_4.index t = ![0, 4] ∧ win0_6.index t = ![t.val, 0] ∧ win0_7.index t = ![t.val, 0]
    ∧ win0_8.index t = ![t.val, 0] ∧ win0_9.index t = ![t.val, 0] ∧ win0_10.index t = ![0, 0] ∧ win0_11.index t = ![0, 0]
    ∧ win0_12.index t = ![0, 0] ∧ win0_13.index t = ![0, 0] :=
  (by decide +kernel : ∀ t : Fin grid0.N, _)

/-- The sums are written back after the last tile. -/
theorem ends : ∀ t : Fin cfg0.N, ((cfg0.win 10).flush t = true → t.val = 32) ∧ ((cfg0.win 11).flush t = true → t.val = 32)
    ∧ ((cfg0.win 12).flush t = true → t.val = 32) ∧ ((cfg0.win 13).flush t = true → t.val = 32) :=
  (by decide +kernel : ∀ t : Fin grid0.N, (win0_10.flush t = true → t.val = 32) ∧ (win0_11.flush t = true → t.val = 32)
    ∧ (win0_12.flush t = true → t.val = 32) ∧ (win0_13.flush t = true → t.val = 32))

/-! ## One token -/

/-- The token after the residual: the stream and what the mixer gave it, gated. -/
def resid (x y g : Fin 1024 → EReal) (k : Fin 1024) : EReal := x k + g k * y k

/-- The token's gradient, the norm's added to the one it is handed. -/
def dres (x w c s d : Fin 1024 → EReal) (k : Fin 1024) : EReal :=
  d k + scaled c s k * w k * Ideal.rsqrt (den x) + x k * spread x w c s + spread x w c s * x k

/-- A sum that goes to the first of the eight rows. -/
def first (i : Fin 8) (v : EReal) : EReal := if h : i.val < 1 then v else 0

theorem first_sum {N : Nat} (i : Fin 8) (f : Fin N → EReal) : first i (∑ x, f x) = ∑ x, first i (f x) := by
  unfold first
  by_cases h : i.val < 1
  · simp only [dif_pos h]
  · simp only [dif_neg h, Finset.sum_const_zero]

/-! ## A tile -/

section Tile

variable (v0 v1 : Vec Ideal S256x1024 .f32) (v2 : Vec Ideal S8x1024 .f32) (v3 : Vec Ideal S1x1024 .f32) (v4 : Vec Ideal S8x1024 .f32)
  (v5 v6 : Vec Ideal S256x1024 .f32)

/-- A row of the tile after the residual. -/
abbrev tileRow (i : Fin 256) : Fin 1024 → EReal := resid (fun k => v0 (ix2 i k)) (fun k => v1 (ix2 i k)) (fun k => v2 (ix2 0 k))

theorem tile_row (i : Fin 256) (k : Fin 1024) : k0_pay6 (F := Ideal) v0 v1 v2 (ix2 i k) = tileRow v0 v1 v2 i k := by
  unfold tileRow resid
  pointwise [k0_pay6, k0_pay5]

theorem tile_den (j : S256x1.Idx) : k0_pay7 (F := Ideal) v0 v1 v2 j = den (tileRow v0 v1 v2 (j 0)) := by
  unfold den
  pointwise [k0_pay7, tile_row]

theorem tile_scaled (i : Fin 256) (k : Fin 1024) :
    k0_pay15 (F := Ideal) (k0_pay11 v4) (k0_pay12 v6) (ix2 i k) = scaled (fun k => v6 (ix2 i k)) (fun k => v4 (ix2 0 k)) k := by
  unfold scaled
  pointwise [k0_pay15, k0_pay11, k0_pay12]

/-- A row of the gradient. -/
abbrev tileGrad (i : Fin 256) : Fin 1024 → EReal :=
  dres (tileRow v0 v1 v2 i) (fun k => v3 (ix2 0 k)) (fun k => v6 (ix2 i k)) (fun k => v4 (ix2 0 k)) (fun k => v5 (ix2 i k))

theorem tile_dx (i : Fin 256) (k : Fin 1024) :
    k0_pay18 (F := Ideal) v3 v5 (k0_pay6 v0 v1 v2) (k0_pay8 v0 v1 v2) (k0_pay9 v0 v1 v2) (k0_pay11 v4) (k0_pay12 v6) (ix2 i k)
      = tileGrad v0 v1 v2 v3 v4 v5 v6 i k := by
  unfold tileGrad dres spread
  pointwise [k0_pay18, k0_pay9, k0_pay8, tile_den, tile_row, tile_scaled]
  simp only [Finset.univ_unique, Finset.sum_singleton]

theorem tile_out (i : Fin 256) (k : Fin 1024) :
    k0_pay21 (F := Ideal) v3 v5 (k0_pay5 v2) (k0_pay6 v0 v1 v2) (k0_pay8 v0 v1 v2) (k0_pay9 v0 v1 v2) (k0_pay11 v4) (k0_pay12 v6) (ix2 i k)
      = (show EReal from v2 (ix2 0 k)) * tileGrad v0 v1 v2 v3 v4 v5 v6 i k := by
  pointwise [k0_pay21, k0_pay19, k0_pay5, tile_dx]

theorem tile_gate (i : Fin 8) (k : Fin 1024) :
    k0_pay20 (F := Ideal) v1 v3 v5 (k0_pay6 v0 v1 v2) (k0_pay8 v0 v1 v2) (k0_pay9 v0 v1 v2) (k0_pay11 v4) (k0_pay12 v6) (ix2 i k)
      = ∑ r : Fin 256, first i (tileGrad v0 v1 v2 v3 v4 v5 v6 r k * (show EReal from v1 (ix2 r k))) := by
  rw [← first_sum]
  unfold first
  pointwise [k0_pay20, k0_pay19, tile_dx]

theorem tile_dw (i : Fin 1) (k : Fin 1024) :
    k0_pay17 (F := Ideal) (k0_pay10 v0 v1 v2) (k0_pay11 v4) (k0_pay12 v6) (ix2 i k)
      = ∑ r : Fin 256, dw (tileRow v0 v1 v2 r) (fun k => v6 (ix2 r k)) (fun k => v4 (ix2 0 k)) k := by
  unfold dw
  pointwise [k0_pay17, k0_pay10, k0_pay8, tile_den, tile_row, tile_scaled]

theorem tile_dscale (i : Fin 8) (k : Fin 1024) :
    k0_pay16 (F := Ideal) (k0_pay14 v0 v1 v2 v3 v6) (ix2 i k)
      = ∑ r : Fin 256, first i (dscale (tileRow v0 v1 v2 r) (fun k => v3 (ix2 0 k)) (fun k => v6 (ix2 r k)) k) := by
  rw [← first_sum]
  unfold first dscale
  pointwise [k0_pay16, k0_pay14, k0_pay12, k0_pay10, k0_pay8, tile_den, tile_row]

theorem tile_dshift (i : Fin 8) (k : Fin 1024) :
    k0_pay13 (F := Ideal) v6 (ix2 i k) = ∑ r : Fin 256, first i (v6 (ix2 r k)) := by
  rw [← first_sum]
  unfold first
  pointwise [k0_pay13]

end Tile

theorem plus_gate (a : FVec Ideal S8x1024 .f32) (b : Vec Ideal S8x1024 .f32) (j : S8x1024.Idx) : k0_pay1 (F := Ideal) a b j = b j + a j := by
  pointwise [k0_pay1]

theorem plus_w (a : FVec Ideal S1x1024 .f32) (b : Vec Ideal S1x1024 .f32) (j : S1x1024.Idx) : k0_pay2 (F := Ideal) a b j = b j + a j := by
  pointwise [k0_pay2]

theorem plus_scale (a : FVec Ideal S8x1024 .f32) (b : Vec Ideal S8x1024 .f32) (j : S8x1024.Idx) : k0_pay3 (F := Ideal) a b j = b j + a j := by
  pointwise [k0_pay3]

theorem plus_shift (a : FVec Ideal S8x1024 .f32) (b : Vec Ideal S8x1024 .f32) (j : S8x1024.Idx) : k0_pay4 (F := Ideal) a b j = b j + a j := by
  pointwise [k0_pay4]

/-! ## The results in the whole arrays -/

section Whole

variable (a0 a1 : Vec Ideal S8448x1024 .f32) (a2 : Vec Ideal S8x6144 .f32) (a3 : Vec Ideal S1x1024 .f32) (a4 a5 : Vec Ideal S8448x1024 .f32)

abbrev rowRes (r : Fin 8448) : Fin 1024 → EReal :=
  resid (fun k => a0 (ix2 r k)) (fun k => a1 (ix2 r k)) (fun k => a2 (ix2 0 ⟨2048 + k.val, by omega⟩))

abbrev rowGrad (r : Fin 8448) : Fin 1024 → EReal :=
  dres (rowRes a0 a1 a2 r) (fun k => a3 (ix2 0 k)) (fun k => a5 (ix2 r k)) (fun k => a2 (ix2 0 ⟨4096 + k.val, by omega⟩)) (fun k => a4 (ix2 r k))

def gradX : Vec Ideal S8448x1024 .f32 := fun j => rowGrad a0 a1 a2 a3 a4 a5 (j 0) (j 1)

def gradOut : Vec Ideal S8448x1024 .bf16 := fun j =>
  (show EReal from a2 (ix2 0 ⟨2048 + (j 1).val, by have : (j 1).val < 1024 := (j 1).isLt; omega⟩)) * rowGrad a0 a1 a2 a3 a4 a5 (j 0) (j 1)

def gradGate : Vec Ideal S8x1024 .f32 := fun j =>
  ∑ r : Fin 8448, first (j 0) (rowGrad a0 a1 a2 a3 a4 a5 r (j 1) * (show EReal from a1 (ix2 r (j 1))))

def gradW : Vec Ideal S1x1024 .f32 := fun j =>
  ∑ r : Fin 8448, dw (rowRes a0 a1 a2 r) (fun k => a5 (ix2 r k)) (fun k => a2 (ix2 0 ⟨4096 + k.val, by omega⟩)) (j 1)

def gradScale : Vec Ideal S8x1024 .f32 := fun j =>
  ∑ r : Fin 8448, first (j 0) (dscale (rowRes a0 a1 a2 r) (fun k => a3 (ix2 0 k)) (fun k => a5 (ix2 r k)) (j 1))

def gradShift : Vec Ideal S8x1024 .f32 := fun j => ∑ r : Fin 8448, first (j 0) (a5 (ix2 r (j 1)))

end Whole

variable (m : (ℓ : Loc nD τ sig) → Buf (Elt Ideal) ℓ)
  (m' : (ℓ : Loc Cert.Norm2BwdRefIdeal.nD Cert.Norm2BwdRefIdeal.τ Cert.Norm2BwdRefIdeal.sig) → Buf (Elt Ideal) ℓ)

theorem frame_ideal : Cert.quiescent_Norm2BwdIdeal := fun m g _ => Cert.Norm2BwdIdeal.Gen.frame (F := Ideal) m g

/-- The program read at the machine's own numbers calls the same body. -/
theorem bodies : Cert.Norm2Bwd.defs₀ (F := Bits) = Cert.Norm2BwdIdeal.defs₀ (F := Bits) :=
  congrArg Defs.onTc (funext fun l => funext fun _ => match l with | 0 => rfl)

theorem frame_bits : Cert.quiescent_Norm2Bwd := fun m g _ => by
  have hd : Cert.Norm2Bwd.defs (F := Bits) = Cert.Norm2BwdIdeal.defs (F := Bits) := congrArg (Pipeline.defs Cert.Norm2BwdIdeal.pcfgs) bodies
  rw [hd]
  exact Cert.Norm2BwdIdeal.Gen.frame (F := Bits) m g

theorem frame_ref : Cert.quiescent_Norm2BwdRefIdeal := fun m g _ =>
  (θ_run Cert.Norm2BwdRefIdeal.defs _ _).mono (fun r h => ⟨fun c => (h c).2.2.2.2.2.2, sem_eq_zero_of_no_sems (by decide) r.2⟩)
    (Cert.Norm2BwdRefIdeal.Value.run m g)

/-- What the reference computes is the six results. -/
theorem reference (g : Dev Cert.Norm2BwdRefIdeal.nD → PrngReg) :
    θ_run Cert.Norm2BwdRefIdeal.defs (onTc (τ := Cert.Norm2BwdRefIdeal.τ) (Cert.Norm2BwdRefIdeal.main (F := Ideal))) ⟨m', fun _ => 0, g⟩ fun r => ∀ c : Dev Cert.Norm2BwdRefIdeal.nD,
      r.2.mem ((c.tc : Thread Cert.Norm2BwdRefIdeal.nD Cert.Norm2BwdRefIdeal.τ).loc Cert.Norm2BwdRefIdeal.main_v59) = gradX (m' ((c.tc : Thread Cert.Norm2BwdRefIdeal.nD Cert.Norm2BwdRefIdeal.τ).loc Cert.Norm2BwdRefIdeal.main_arg0)) (m' ((c.tc : Thread Cert.Norm2BwdRefIdeal.nD Cert.Norm2BwdRefIdeal.τ).loc Cert.Norm2BwdRefIdeal.main_arg1)) (m' ((c.tc : Thread Cert.Norm2BwdRefIdeal.nD Cert.Norm2BwdRefIdeal.τ).loc Cert.Norm2BwdRefIdeal.main_arg2)) (m' ((c.tc : Thread Cert.Norm2BwdRefIdeal.nD Cert.Norm2BwdRefIdeal.τ).loc Cert.Norm2BwdRefIdeal.main_arg3)) (m' ((c.tc : Thread Cert.Norm2BwdRefIdeal.nD Cert.Norm2BwdRefIdeal.τ).loc Cert.Norm2BwdRefIdeal.main_arg4)) (m' ((c.tc : Thread Cert.Norm2BwdRefIdeal.nD Cert.Norm2BwdRefIdeal.τ).loc Cert.Norm2BwdRefIdeal.main_arg5))
      ∧ r.2.mem ((c.tc : Thread Cert.Norm2BwdRefIdeal.nD Cert.Norm2BwdRefIdeal.τ).loc Cert.Norm2BwdRefIdeal.main_v67) = gradOut (m' ((c.tc : Thread Cert.Norm2BwdRefIdeal.nD Cert.Norm2BwdRefIdeal.τ).loc Cert.Norm2BwdRefIdeal.main_arg0)) (m' ((c.tc : Thread Cert.Norm2BwdRefIdeal.nD Cert.Norm2BwdRefIdeal.τ).loc Cert.Norm2BwdRefIdeal.main_arg1)) (m' ((c.tc : Thread Cert.Norm2BwdRefIdeal.nD Cert.Norm2BwdRefIdeal.τ).loc Cert.Norm2BwdRefIdeal.main_arg2)) (m' ((c.tc : Thread Cert.Norm2BwdRefIdeal.nD Cert.Norm2BwdRefIdeal.τ).loc Cert.Norm2BwdRefIdeal.main_arg3)) (m' ((c.tc : Thread Cert.Norm2BwdRefIdeal.nD Cert.Norm2BwdRefIdeal.τ).loc Cert.Norm2BwdRefIdeal.main_arg4)) (m' ((c.tc : Thread Cert.Norm2BwdRefIdeal.nD Cert.Norm2BwdRefIdeal.τ).loc Cert.Norm2BwdRefIdeal.main_arg5))
      ∧ r.2.mem ((c.tc : Thread Cert.Norm2BwdRefIdeal.nD Cert.Norm2BwdRefIdeal.τ).loc Cert.Norm2BwdRefIdeal.main_v66) = gradGate (m' ((c.tc : Thread Cert.Norm2BwdRefIdeal.nD Cert.Norm2BwdRefIdeal.τ).loc Cert.Norm2BwdRefIdeal.main_arg0)) (m' ((c.tc : Thread Cert.Norm2BwdRefIdeal.nD Cert.Norm2BwdRefIdeal.τ).loc Cert.Norm2BwdRefIdeal.main_arg1)) (m' ((c.tc : Thread Cert.Norm2BwdRefIdeal.nD Cert.Norm2BwdRefIdeal.τ).loc Cert.Norm2BwdRefIdeal.main_arg2)) (m' ((c.tc : Thread Cert.Norm2BwdRefIdeal.nD Cert.Norm2BwdRefIdeal.τ).loc Cert.Norm2BwdRefIdeal.main_arg3)) (m' ((c.tc : Thread Cert.Norm2BwdRefIdeal.nD Cert.Norm2BwdRefIdeal.τ).loc Cert.Norm2BwdRefIdeal.main_arg4)) (m' ((c.tc : Thread Cert.Norm2BwdRefIdeal.nD Cert.Norm2BwdRefIdeal.τ).loc Cert.Norm2BwdRefIdeal.main_arg5))
      ∧ r.2.mem ((c.tc : Thread Cert.Norm2BwdRefIdeal.nD Cert.Norm2BwdRefIdeal.τ).loc Cert.Norm2BwdRefIdeal.main_v42) = gradW (m' ((c.tc : Thread Cert.Norm2BwdRefIdeal.nD Cert.Norm2BwdRefIdeal.τ).loc Cert.Norm2BwdRefIdeal.main_arg0)) (m' ((c.tc : Thread Cert.Norm2BwdRefIdeal.nD Cert.Norm2BwdRefIdeal.τ).loc Cert.Norm2BwdRefIdeal.main_arg1)) (m' ((c.tc : Thread Cert.Norm2BwdRefIdeal.nD Cert.Norm2BwdRefIdeal.τ).loc Cert.Norm2BwdRefIdeal.main_arg2)) (m' ((c.tc : Thread Cert.Norm2BwdRefIdeal.nD Cert.Norm2BwdRefIdeal.τ).loc Cert.Norm2BwdRefIdeal.main_arg5))
      ∧ r.2.mem ((c.tc : Thread Cert.Norm2BwdRefIdeal.nD Cert.Norm2BwdRefIdeal.τ).loc Cert.Norm2BwdRefIdeal.main_v39) = gradScale (m' ((c.tc : Thread Cert.Norm2BwdRefIdeal.nD Cert.Norm2BwdRefIdeal.τ).loc Cert.Norm2BwdRefIdeal.main_arg0)) (m' ((c.tc : Thread Cert.Norm2BwdRefIdeal.nD Cert.Norm2BwdRefIdeal.τ).loc Cert.Norm2BwdRefIdeal.main_arg1)) (m' ((c.tc : Thread Cert.Norm2BwdRefIdeal.nD Cert.Norm2BwdRefIdeal.τ).loc Cert.Norm2BwdRefIdeal.main_arg2)) (m' ((c.tc : Thread Cert.Norm2BwdRefIdeal.nD Cert.Norm2BwdRefIdeal.τ).loc Cert.Norm2BwdRefIdeal.main_arg3)) (m' ((c.tc : Thread Cert.Norm2BwdRefIdeal.nD Cert.Norm2BwdRefIdeal.τ).loc Cert.Norm2BwdRefIdeal.main_arg5))
      ∧ r.2.mem ((c.tc : Thread Cert.Norm2BwdRefIdeal.nD Cert.Norm2BwdRefIdeal.τ).loc Cert.Norm2BwdRefIdeal.main_v33) = gradShift (m' ((c.tc : Thread Cert.Norm2BwdRefIdeal.nD Cert.Norm2BwdRefIdeal.τ).loc Cert.Norm2BwdRefIdeal.main_arg5))
      ∧ r.2.mem ((c.tc : Thread Cert.Norm2BwdRefIdeal.nD Cert.Norm2BwdRefIdeal.τ).loc Cert.Norm2BwdRefIdeal.main_arg0) = (m' ((c.tc : Thread Cert.Norm2BwdRefIdeal.nD Cert.Norm2BwdRefIdeal.τ).loc Cert.Norm2BwdRefIdeal.main_arg0))
      ∧ r.2.mem ((c.tc : Thread Cert.Norm2BwdRefIdeal.nD Cert.Norm2BwdRefIdeal.τ).loc Cert.Norm2BwdRefIdeal.main_arg1) = (m' ((c.tc : Thread Cert.Norm2BwdRefIdeal.nD Cert.Norm2BwdRefIdeal.τ).loc Cert.Norm2BwdRefIdeal.main_arg1))
      ∧ r.2.mem ((c.tc : Thread Cert.Norm2BwdRefIdeal.nD Cert.Norm2BwdRefIdeal.τ).loc Cert.Norm2BwdRefIdeal.main_arg2) = (m' ((c.tc : Thread Cert.Norm2BwdRefIdeal.nD Cert.Norm2BwdRefIdeal.τ).loc Cert.Norm2BwdRefIdeal.main_arg2))
      ∧ r.2.mem ((c.tc : Thread Cert.Norm2BwdRefIdeal.nD Cert.Norm2BwdRefIdeal.τ).loc Cert.Norm2BwdRefIdeal.main_arg3) = (m' ((c.tc : Thread Cert.Norm2BwdRefIdeal.nD Cert.Norm2BwdRefIdeal.τ).loc Cert.Norm2BwdRefIdeal.main_arg3))
      ∧ r.2.mem ((c.tc : Thread Cert.Norm2BwdRefIdeal.nD Cert.Norm2BwdRefIdeal.τ).loc Cert.Norm2BwdRefIdeal.main_arg4) = (m' ((c.tc : Thread Cert.Norm2BwdRefIdeal.nD Cert.Norm2BwdRefIdeal.τ).loc Cert.Norm2BwdRefIdeal.main_arg4))
      ∧ r.2.mem ((c.tc : Thread Cert.Norm2BwdRefIdeal.nD Cert.Norm2BwdRefIdeal.τ).loc Cert.Norm2BwdRefIdeal.main_arg5) = (m' ((c.tc : Thread Cert.Norm2BwdRefIdeal.nD Cert.Norm2BwdRefIdeal.τ).loc Cert.Norm2BwdRefIdeal.main_arg5)) := by
  refine (θ_run Cert.Norm2BwdRefIdeal.defs _ _).mono (fun r h c => ⟨(h c).1.trans ?_, (h c).2.1.trans ?_, (h c).2.2.1.trans ?_, (h c).2.2.2.1.trans ?_,
      (h c).2.2.2.2.1.trans ?_, (h c).2.2.2.2.2.1.trans ?_, (h c).2.2.2.2.2.2⟩)
    (Cert.Norm2BwdRefIdeal.Value.run m' g)
  · refine funext fun (j : S8448x1024.Idx) => ?_
    obtain ⟨i, k, rfl⟩ : ∃ (i : Fin 8448) (k : Fin 1024), j = ix2 i k := ⟨j 0, j 1, eq_ix2 j⟩
    unfold Cert.Norm2BwdRefIdeal.Value.res_main_v59
    pointwise
    simp only [Finset.univ_unique, Finset.sum_singleton]
    unfold gradX rowGrad dres spread scaled den rowRes resid
    rfl
  · refine funext fun (j : S8448x1024.Idx) => ?_
    obtain ⟨i, k, rfl⟩ : ∃ (i : Fin 8448) (k : Fin 1024), j = ix2 i k := ⟨j 0, j 1, eq_ix2 j⟩
    unfold Cert.Norm2BwdRefIdeal.Value.res_main_v67
    pointwise
    simp only [Finset.univ_unique, Finset.sum_singleton]
    unfold gradOut rowGrad dres spread scaled den rowRes resid
    rfl
  · funext j
    unfold Cert.Norm2BwdRefIdeal.Value.res_main_v66
    pointwise
    simp only [Finset.univ_unique, Finset.sum_singleton]
    unfold gradGate
    refine Eq.trans ?_ (first_sum (j 0) _)
    unfold first rowGrad dres spread scaled den rowRes resid
    rfl
  · funext j
    pointwise
    unfold gradW dw scaled den rowRes resid
    rfl
  · funext j
    pointwise
    unfold gradScale
    refine Eq.trans ?_ (first_sum (j 0) _)
    unfold first dscale den rowRes resid
    rfl
  · funext j
    pointwise
    unfold gradShift
    refine Eq.trans ?_ (first_sum (j 0) _)
    unfold first
    rfl

/-! ## What the tiles leave -/

variable (c : Dev nD)

theorem same_w (t : Fin cfg0.N) :
    (fun k : Fin 1024 => (iblk m c 3 t : Vec Ideal S1x1024 .f32) (ix2 0 k)) = fun k => (m ((c.tc : Thread nD τ).loc main_arg3)) (ix2 0 k) := by
  funext k
  blk_point [iblk, V, places t]

theorem same_scale (t : Fin cfg0.N) :
    (fun k : Fin 1024 => (iblk m c 4 t : Vec Ideal S8x1024 .f32) (ix2 0 k)) = fun k => (m ((c.tc : Thread nD τ).loc main_arg2)) (ix2 0 ⟨4096 + k.val, by omega⟩) := by
  funext k
  blk_point [iblk, V, places t]

theorem same_d (t : Fin cfg0.N) (i : Fin 256) (r : Fin 8448) (hr : r.val = t.val * 256 + i.val) :
    (fun k : Fin 1024 => (iblk m c 6 t : Vec Ideal S256x1024 .f32) (ix2 i k)) = fun k => (m ((c.tc : Thread nD τ).loc main_arg4)) (ix2 r k) := by
  funext k
  blk_point [iblk, V, places t]

theorem same_c (t : Fin cfg0.N) (i : Fin 256) (r : Fin 8448) (hr : r.val = t.val * 256 + i.val) :
    (fun k : Fin 1024 => (iblk m c 7 t : Vec Ideal S256x1024 .f32) (ix2 i k)) = fun k => (m ((c.tc : Thread nD τ).loc main_arg5)) (ix2 r k) := by
  funext k
  blk_point [iblk, V, places t]

theorem same_mix (t : Fin cfg0.N) (i : Fin 256) (r : Fin 8448) (hr : r.val = t.val * 256 + i.val) (k : Fin 1024) :
    (iblk m c 1 t : Vec Ideal S256x1024 .f32) (ix2 i k) = (m ((c.tc : Thread nD τ).loc main_arg1)) (ix2 r k) := by
  blk_point [iblk, V, places t]

theorem same_gate (t : Fin cfg0.N) (k : Fin 1024) :
    (iblk m c 2 t : Vec Ideal S8x1024 .f32) (ix2 0 k) = (m ((c.tc : Thread nD τ).loc main_arg2)) (ix2 0 ⟨2048 + k.val, by omega⟩) := by
  blk_point [iblk, V, places t]

theorem same_x (t : Fin cfg0.N) (i : Fin 256) (r : Fin 8448) (hr : r.val = t.val * 256 + i.val) (k : Fin 1024) :
    (iblk m c 0 t : Vec Ideal S256x1024 .f32) (ix2 i k) = (m ((c.tc : Thread nD τ).loc main_arg0)) (ix2 r k) := by
  blk_point [iblk, V, places t]

theorem same_res (t : Fin cfg0.N) (i : Fin 256) (r : Fin 8448) (hr : r.val = t.val * 256 + i.val) :
    tileRow (iblk m c 0 t) (iblk m c 1 t) (iblk m c 2 t) i = rowRes (m ((c.tc : Thread nD τ).loc main_arg0)) (m ((c.tc : Thread nD τ).loc main_arg1)) (m ((c.tc : Thread nD τ).loc main_arg2)) r := by
  funext k
  unfold tileRow rowRes resid
  exact congrArg₂ (HAdd.hAdd : EReal → EReal → EReal) (same_x m c t i r hr k)
    (congrArg₂ (HMul.hMul : EReal → EReal → EReal) (same_gate m c t k) (same_mix m c t i r hr k))

theorem same_grad (t : Fin cfg0.N) (i : Fin 256) (r : Fin 8448) (hr : r.val = t.val * 256 + i.val) :
    tileGrad (iblk m c 0 t) (iblk m c 1 t) (iblk m c 2 t) (iblk m c 3 t) (iblk m c 4 t) (iblk m c 6 t) (iblk m c 7 t) i
      = rowGrad (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) r := by
  unfold tileGrad rowGrad
  rw [same_res m c t i r hr, same_w m c t, same_scale m c t, same_d m c t i r hr, same_c m c t i r hr]

/-- The stream's gradient: each tile stores what belongs at its rows. -/
theorem final_x : (dats m 0 c).arrAt 8 cfg0.N = gradX (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (dats m 0 c).arrAt_eq_of_covers 8 _ (by decide +kernel) fun t hf y => ?_
  have hN := lt_of_lt_of_eq t.isLt N_0
  blk_simp
  obtain ⟨i, k, rfl⟩ : ∃ (i : Fin 256) (k : Fin 1024), y = ix2 i k := ⟨y 0, y 1, eq_ix2 y⟩
  refine Eq.trans ?_ ((fun G : Vec Ideal S8448x1024 .f32 => (by blk_point [places t] : G (ix2 ⟨t.val * 256 + i.val, by omega⟩ k) = G _))
    (gradX (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))))
  have hr : (⟨t.val * 256 + i.val, by omega⟩ : Fin 8448).val = t.val * 256 + i.val := rfl
  rw [after0_8]
  by_cases ht : t.val = 0
  · rw [outsAt0_A m c t (by omega) (by omega) (by omega) (by omega) (by omega) (by omega) (by omega) (by omega)]
    frame_out
    rw [tile_dx]
    rw [same_grad m c t i _ hr]
    rfl
  · rw [outsAt0_B m c t (by omega) (by omega) (by omega) (by omega) (by omega) (by omega) (by omega) (by omega)]
    frame_out
    rw [tile_dx]
    rw [same_grad m c t i _ hr]
    rfl

/-- What the mixer gave: its gradient, stored likewise. -/
theorem final_out : (dats m 0 c).arrAt 9 cfg0.N = gradOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (dats m 0 c).arrAt_eq_of_covers 9 _ (by decide +kernel) fun t hf y => ?_
  have hN := lt_of_lt_of_eq t.isLt N_0
  blk_simp
  obtain ⟨i, k, rfl⟩ : ∃ (i : Fin 256) (k : Fin 1024), y = ix2 i k := ⟨y 0, y 1, eq_ix2 y⟩
  refine Eq.trans ?_ ((fun G : Vec Ideal S8448x1024 .bf16 => (by blk_point [places t] : G (ix2 ⟨t.val * 256 + i.val, by omega⟩ k) = G _))
    (gradOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))))
  have hr : (⟨t.val * 256 + i.val, by omega⟩ : Fin 8448).val = t.val * 256 + i.val := rfl
  rw [after0_9]
  by_cases ht : t.val = 0
  · rw [outsAt0_A m c t (by omega) (by omega) (by omega) (by omega) (by omega) (by omega) (by omega) (by omega)]
    frame_out
    rw [tile_out]
    rw [same_grad m c t i _ hr, same_gate m c t k]
    rfl
  · rw [outsAt0_B m c t (by omega) (by omega) (by omega) (by omega) (by omega) (by omega) (by omega) (by omega)]
    frame_out
    rw [tile_out]
    rw [same_grad m c t i _ hr, same_gate m c t k]
    rfl

/-- The gate's. -/
theorem final_gate : (dats m 0 c).arrAt 10 cfg0.N = gradGate (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (dats m 0 c).arrAt_eq_of_covers 10 _ (by decide +kernel) fun t hf y => ?_
  blk_simp
  rw [after0_10, Pipeline.eq_sum_fin_of_reset_step_apply_last (fun n h => (outsAt0 m c n h).2.2.1) 33 (fun _ => (0 : EReal))
    (fun p j => k0_pay20 (F := Ideal) (iblk m c 1 p) (iblk m c 3 p) (iblk m c 6 p) (k0_pay6 (iblk m c 0 p) (iblk m c 1 p) (iblk m c 2 p)) (k0_pay8 (iblk m c 0 p) (iblk m c 1 p) (iblk m c 2 p)) (k0_pay9 (iblk m c 0 p) (iblk m c 1 p) (iblk m c 2 p)) (k0_pay11 (iblk m c 4 p)) (k0_pay12 (iblk m c 7 p)) j)
    (fun t h j => by
      have h1 : ¬ 1 ≤ t.val := by have := lt_of_lt_of_eq t.isLt N_0; omega
      rw [outsAt0_A m c t h h1 h h1 h h1 h h1]; frame_out; rw [zero_add])
    (fun t h j => by
      have h1 : 1 ≤ t.val := by omega
      rw [outsAt0_B m c t h h1 h h1 h h1 h h1]; frame_out; rw [plus_gate])
    (le_of_eq N_0) t ((congrArg (· + 1) ((ends t).1 hf)).trans N_0.symm) y, zero_add]
  obtain ⟨i, k, rfl⟩ : ∃ (i : Fin 8) (k : Fin 1024), y = ix2 i k := ⟨y 0, y 1, eq_ix2 y⟩
  refine Eq.trans ?_ ((fun G : Vec Ideal S8x1024 .f32 => (by blk_point [places t] : G (ix2 i k) = G _)) (gradGate (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))))
  refine rows N_0 _ _ fun p => ?_
  rw [tile_gate]
  refine Finset.sum_congr rfl fun q _ => ?_
  have hp := lt_of_lt_of_eq p.isLt N_0
  have hr : (⟨p.val * 256 + q.val, by omega⟩ : Fin 8448).val = p.val * 256 + q.val := rfl
  rw [same_grad m c p q _ hr, same_mix m c p q _ hr]
  rfl

/-- The norm's. -/
theorem final_w : (dats m 0 c).arrAt 11 cfg0.N = gradW (m ((c.tc : Thread nD τ).loc main_arg0)) (m ((c.tc : Thread nD τ).loc main_arg1)) (m ((c.tc : Thread nD τ).loc main_arg2)) (m ((c.tc : Thread nD τ).loc main_arg5)) := by
  refine (dats m 0 c).arrAt_eq_of_covers 11 _ (by decide +kernel) fun t hf y => ?_
  blk_simp
  rw [after0_11, Pipeline.eq_sum_fin_of_reset_step_apply_last (fun n h => (outsAt0 m c n h).2.2.2.1) 33 (fun _ => (0 : EReal))
    (fun p j => k0_pay17 (F := Ideal) (k0_pay10 (iblk m c 0 p) (iblk m c 1 p) (iblk m c 2 p)) (k0_pay11 (iblk m c 4 p)) (k0_pay12 (iblk m c 7 p)) j)
    (fun t h j => by
      have h1 : ¬ 1 ≤ t.val := by have := lt_of_lt_of_eq t.isLt N_0; omega
      rw [outsAt0_A m c t h h1 h h1 h h1 h h1]; frame_out; rw [zero_add])
    (fun t h j => by
      have h1 : 1 ≤ t.val := by omega
      rw [outsAt0_B m c t h h1 h h1 h h1 h h1]; frame_out; rw [plus_w])
    (le_of_eq N_0) t ((congrArg (· + 1) ((ends t).2.1 hf)).trans N_0.symm) y, zero_add]
  obtain ⟨i, k, rfl⟩ : ∃ (i : Fin 1) (k : Fin 1024), y = ix2 i k := ⟨y 0, y 1, eq_ix2 y⟩
  refine Eq.trans ?_ ((fun G : Vec Ideal S1x1024 .f32 => (by blk_point [places t] : G (ix2 i k) = G _)) (gradW (m ((c.tc : Thread nD τ).loc main_arg0)) (m ((c.tc : Thread nD τ).loc main_arg1)) (m ((c.tc : Thread nD τ).loc main_arg2)) (m ((c.tc : Thread nD τ).loc main_arg5))))
  refine rows N_0 _ _ fun p => ?_
  rw [tile_dw]
  refine Finset.sum_congr rfl fun q _ => ?_
  have hp := lt_of_lt_of_eq p.isLt N_0
  have hr : (⟨p.val * 256 + q.val, by omega⟩ : Fin 8448).val = p.val * 256 + q.val := rfl
  rw [same_res m c p q _ hr, same_scale m c p, same_c m c p q _ hr]
  rfl

/-- The scale's. -/
theorem final_scale : (dats m 0 c).arrAt 12 cfg0.N = gradScale (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) := by
  refine (dats m 0 c).arrAt_eq_of_covers 12 _ (by decide +kernel) fun t hf y => ?_
  blk_simp
  rw [after0_12, Pipeline.eq_sum_fin_of_reset_step_apply_last (fun n h => (outsAt0 m c n h).2.2.2.2.1) 33 (fun _ => (0 : EReal))
    (fun p j => k0_pay16 (F := Ideal) (k0_pay14 (iblk m c 0 p) (iblk m c 1 p) (iblk m c 2 p) (iblk m c 3 p) (iblk m c 7 p)) j)
    (fun t h j => by
      have h1 : ¬ 1 ≤ t.val := by have := lt_of_lt_of_eq t.isLt N_0; omega
      rw [outsAt0_A m c t h h1 h h1 h h1 h h1]; frame_out; rw [zero_add])
    (fun t h j => by
      have h1 : 1 ≤ t.val := by omega
      rw [outsAt0_B m c t h h1 h h1 h h1 h h1]; frame_out; rw [plus_scale])
    (le_of_eq N_0) t ((congrArg (· + 1) ((ends t).2.2.1 hf)).trans N_0.symm) y, zero_add]
  obtain ⟨i, k, rfl⟩ : ∃ (i : Fin 8) (k : Fin 1024), y = ix2 i k := ⟨y 0, y 1, eq_ix2 y⟩
  refine Eq.trans ?_ ((fun G : Vec Ideal S8x1024 .f32 => (by blk_point [places t] : G (ix2 i k) = G _)) (gradScale (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5))))
  refine rows N_0 _ _ fun p => ?_
  rw [tile_dscale]
  refine Finset.sum_congr rfl fun q _ => ?_
  have hp := lt_of_lt_of_eq p.isLt N_0
  have hr : (⟨p.val * 256 + q.val, by omega⟩ : Fin 8448).val = p.val * 256 + q.val := rfl
  rw [same_res m c p q _ hr, same_w m c p, same_c m c p q _ hr]
  rfl

/-- The shift's. -/
theorem final_shift : (dats m 0 c).arrAt 13 cfg0.N = gradShift (m ((c.tc : Thread nD τ).loc main_arg5)) := by
  refine (dats m 0 c).arrAt_eq_of_covers 13 _ (by decide +kernel) fun t hf y => ?_
  blk_simp
  rw [after0_13, Pipeline.eq_sum_fin_of_reset_step_apply_last (fun n h => (outsAt0 m c n h).2.2.2.2.2) 33 (fun _ => (0 : EReal))
    (fun p j => k0_pay13 (F := Ideal) (iblk m c 7 p) j)
    (fun t h j => by
      have h1 : ¬ 1 ≤ t.val := by have := lt_of_lt_of_eq t.isLt N_0; omega
      rw [outsAt0_A m c t h h1 h h1 h h1 h h1]; frame_out; rw [zero_add])
    (fun t h j => by
      have h1 : 1 ≤ t.val := by omega
      rw [outsAt0_B m c t h h1 h h1 h h1 h h1]; frame_out; rw [plus_shift])
    (le_of_eq N_0) t ((congrArg (· + 1) ((ends t).2.2.2 hf)).trans N_0.symm) y, zero_add]
  obtain ⟨i, k, rfl⟩ : ∃ (i : Fin 8) (k : Fin 1024), y = ix2 i k := ⟨y 0, y 1, eq_ix2 y⟩
  refine Eq.trans ?_ ((fun G : Vec Ideal S8x1024 .f32 => (by blk_point [places t] : G (ix2 i k) = G _)) (gradShift (m ((c.tc : Thread nD τ).loc main_arg5))))
  refine rows N_0 _ _ fun p => ?_
  rw [tile_dshift]
  refine Finset.sum_congr rfl fun q _ => ?_
  have hp := lt_of_lt_of_eq p.isLt N_0
  have hr : (⟨p.val * 256 + q.val, by omega⟩ : Fin 8448).val = p.val * 256 + q.val := rfl
  exact congrArg (first i) (congrFun (same_c m c p q _ hr) k)

omit c

theorem algebraic : Cert.algebraic_Norm2BwdIdeal_Norm2BwdRefIdeal := fun m g m' g' _ hm => by
  refine ⟨_, _, _, _, _, _, (θ_run Cert.Norm2BwdIdeal.defs _ _).mono (fun _ h c => ⟨(h c).1.trans ?_, (h c).2.1.trans ?_, (h c).2.2.1.trans ?_, (h c).2.2.2.1.trans ?_,
      (h c).2.2.2.2.1.trans ?_, (h c).2.2.2.2.2.1.trans ?_, (h c).2.2.2.2.2.2⟩) (Cert.Norm2BwdIdeal.Value.run_blocks m g),
    reference m' g'⟩
  · rw [(hm c).1, (hm c).2.1, (hm c).2.2.1, (hm c).2.2.2.1, (hm c).2.2.2.2.1, (hm c).2.2.2.2.2]
    exact final_x m c
  · rw [(hm c).1, (hm c).2.1, (hm c).2.2.1, (hm c).2.2.2.1, (hm c).2.2.2.2.1, (hm c).2.2.2.2.2]
    exact final_out m c
  · rw [(hm c).1, (hm c).2.1, (hm c).2.2.1, (hm c).2.2.2.1, (hm c).2.2.2.2.1, (hm c).2.2.2.2.2]
    exact final_gate m c
  · rw [(hm c).1, (hm c).2.1, (hm c).2.2.1, (hm c).2.2.2.2.2]
    exact final_w m c
  · rw [(hm c).1, (hm c).2.1, (hm c).2.2.1, (hm c).2.2.2.1, (hm c).2.2.2.2.2]
    exact final_scale m c
  · rw [(hm c).2.2.2.2.2]
    exact final_shift m c

end Cert.Norm2BwdClaims

end
-- ==== Proof.GradFfnOutClaims.lean ====
/- The gradient of the weights of the feed-forward layer's last product: both frames, the reference's, and the equation of the results. -/
module

public import proofs.«01_k».proof.Defs
public import proofs.«01_k».proof.Proof.Gen.GradFfnOut
public import proofs.«01_k».proof.Proof.Gen.GradFfnOutIdeal
public import proofs.«01_k».proof.Proof.Gen.GradFfnOutIdeal.Value
public import proofs.«01_k».proof.Proof.Gen.GradFfnOutRefIdeal.Run
public import proofs.«01_k».proof.Proof.Products
public import Idealize.ShloMosaic.Lib.Pipeline.ValueKit
public import Idealize.ShloMosaic.Lib.Quiescent

@[expose] public section

set_option maxRecDepth 16384

noncomputable section

namespace Cert.GradFfnOutClaims

open Idealize.ShloMosaic Idealize.ShloMosaic.TcCoe Idealize.SL.Sem
open Idealize.ShloMosaic.Pipeline (Dat)
open Cert.GradFfnOutIdeal Cert.GradFfnOutIdeal.Gen

theorem frame_ideal : Cert.quiescent_GradFfnOutIdeal := fun m g _ => Cert.GradFfnOutIdeal.Gen.frame (F := Ideal) m g

/-- The program read at the machine's own numbers calls the same body. -/
theorem bodies : Cert.GradFfnOut.defs₀ (F := Bits) = Cert.GradFfnOutIdeal.defs₀ (F := Bits) :=
  congrArg Defs.onTc (funext fun l => funext fun _ => match l with | 0 => rfl)

theorem frame_bits : Cert.quiescent_GradFfnOut := fun m g _ => by
  have hd : Cert.GradFfnOut.defs (F := Bits) = Cert.GradFfnOutIdeal.defs (F := Bits) := congrArg (Pipeline.defs Cert.GradFfnOutIdeal.pcfgs) bodies
  rw [hd]
  exact Cert.GradFfnOutIdeal.Gen.frame (F := Bits) m g

theorem frame_ref : Cert.quiescent_GradFfnOutRefIdeal := fun m g _ =>
  (θ_run Cert.GradFfnOutRefIdeal.defs _ _).mono (fun r h => ⟨fun c => (h c).2, sem_eq_zero_of_no_sems (by decide) r.2⟩)
    (Cert.GradFfnOutRefIdeal.Value.run m g)

/-- The product of the whole arrays. -/
def product (a : Vec Ideal S8448x2816 .bf16) (b : Vec Ideal S8448x1024 .bf16) : Vec Ideal S2816x1024 .f32 :=
  fun j => ∑ x : Fin 8448, a (ix2 x (j 0)) * b (ix2 x (j 1))

/-- The reference's result is the product. -/
theorem reference (m' : (ℓ : Loc Cert.GradFfnOutRefIdeal.nD Cert.GradFfnOutRefIdeal.τ Cert.GradFfnOutRefIdeal.sig) → Buf (Elt Ideal) ℓ) (g : Dev Cert.GradFfnOutRefIdeal.nD → PrngReg) :
    θ_run Cert.GradFfnOutRefIdeal.defs (onTc (τ := Cert.GradFfnOutRefIdeal.τ) (Cert.GradFfnOutRefIdeal.main (F := Ideal))) ⟨m', fun _ => 0, g⟩ fun r => ∀ c : Dev Cert.GradFfnOutRefIdeal.nD,
      r.2.mem ((c.tc : Thread Cert.GradFfnOutRefIdeal.nD Cert.GradFfnOutRefIdeal.τ).loc Cert.GradFfnOutRefIdeal.main_v1)
        = product (m' ((c.tc : Thread Cert.GradFfnOutRefIdeal.nD Cert.GradFfnOutRefIdeal.τ).loc Cert.GradFfnOutRefIdeal.main_arg0)) (m' ((c.tc : Thread Cert.GradFfnOutRefIdeal.nD Cert.GradFfnOutRefIdeal.τ).loc Cert.GradFfnOutRefIdeal.main_arg1))
      ∧ r.2.mem ((c.tc : Thread Cert.GradFfnOutRefIdeal.nD Cert.GradFfnOutRefIdeal.τ).loc Cert.GradFfnOutRefIdeal.main_arg0) = m' ((c.tc : Thread Cert.GradFfnOutRefIdeal.nD Cert.GradFfnOutRefIdeal.τ).loc Cert.GradFfnOutRefIdeal.main_arg0)
      ∧ r.2.mem ((c.tc : Thread Cert.GradFfnOutRefIdeal.nD Cert.GradFfnOutRefIdeal.τ).loc Cert.GradFfnOutRefIdeal.main_arg1) = m' ((c.tc : Thread Cert.GradFfnOutRefIdeal.nD Cert.GradFfnOutRefIdeal.τ).loc Cert.GradFfnOutRefIdeal.main_arg1) := by
  refine (θ_run Cert.GradFfnOutRefIdeal.defs _ _).mono (fun r h c => ⟨(h c).1.trans ?_, (h c).2⟩) (Cert.GradFfnOutRefIdeal.Value.run m' g)
  funext j
  obtain ⟨i, k, rfl⟩ : ∃ i k, j = ix2 i k := ⟨j 0, j 1, eq_ix2 j⟩
  pointwise
  unfold product
  rfl

/-- Where each window stands at a point: the points of a block run over its contraction. -/
theorem places : ∀ t : Fin cfg0.N, win0_0.index t = ![t.val % 11, 0] ∧ win0_1.index t = ![t.val % 11, t.val / 11] ∧ win0_2.index t = ![0, t.val / 11] :=
  (by decide +kernel : ∀ t : Fin grid0.N, _)

/-- A point's share of its block. -/
theorem part (v0 : Vec Ideal S768x2816 .bf16) (v1 : Vec Ideal S768x512 .bf16) (i : Fin 2816) (k : Fin 512) :
    k0_pay2 (F := Ideal) v0 v1 (ix2 i k) = ∑ x : Fin 768, v0 (ix2 x i) * v1 (ix2 x k) := by
  pointwise [k0_pay2, k0_pay1]

/-- What a later point computes is what it found and its share. -/
theorem plus (v0 : Vec Ideal S768x2816 .bf16) (v1 : Vec Ideal S768x512 .bf16) (v12 : Vec Ideal S2816x512 .f32) (j : S2816x512.Idx) :
    k0_pay3 (F := Ideal) v0 v1 v12 j = v12 j + k0_pay2 (F := Ideal) v0 v1 j := by
  pointwise [k0_pay3, k0_pay2]

variable (m : (ℓ : Loc nD τ sig) → Buf (Elt Ideal) ℓ) (c : Dev nD)

/-- A point finds what the point before left. -/
theorem held (v : Vec Ideal S2816x512 .f32) (h : scM0_0.IsWhole) : View.read (Elt Ideal) (View.whole cc0_scratch0) (h.unread v) = v :=
  h.read_unread v

/-- A point's share of its block, from what its windows hold. -/
def share (p : Fin cfg0.N) (y : S2816x512.Idx) : EReal := k0_pay2 (F := Ideal) (iblk m c 0 p) (iblk m c 1 p) y

/-- A block's first point leaves its share. -/
theorem first (t : Fin cfg0.N) (h : t.val % 11 = 0) (y : S2816x512.Idx) : (outsAt0 m c t.val t.isLt).2 y = share m c t y := by
  rw [outsAt0_A m c t h (by omega) (by omega)]
  frame_out
  rfl

/-- A later point adds its share. -/
theorem next (t : Fin cfg0.N) (h : ¬ t.val % 11 = 0) (y : S2816x512.Idx) :
    (outsAt0 m c t.val t.isLt).2 y = (outsAt0 m c (t.val - 1) (Nat.lt_of_le_of_lt (Nat.sub_le _ _) t.isLt)).2 y + share m c t y := by
  by_cases h2 : t.val % 11 = 10
  · rw [outsAt0_C m c t h (by omega) h2]
    frame_out
    rw [plus, held]
    rfl
  · rw [outsAt0_B m c t h (by omega) h2]
    frame_out
    rw [plus, held]
    rfl

/-- The last point of a block hands on what the block's points have added up. -/
theorem handed (t : Fin cfg0.N) (ht : t.val % 11 = 10) (y : S2816x512.Idx) : (outsAt0 m c t.val t.isLt).1 y = (outsAt0 m c t.val t.isLt).2 y := by
  rw [outsAt0_C m c t (by omega) (by omega) ht]
  frame_out

/-- The result is the product. -/
theorem final : (dats m 0 c).arrAt 2 cfg0.N = product (m ((c.tc : Thread nD τ).loc main_arg0)) (m ((c.tc : Thread nD τ).loc main_arg1)) := by
  refine (dats m 0 c).arrAt_eq_of_covers 2 _ (by decide +kernel) fun t hf y => ?_
  have ht : t.val % 11 = 10 := (flush0_2 t).mp hf
  have hN := lt_of_lt_of_eq t.isLt N_0
  blk_simp
  rw [after0_2]
  obtain ⟨i, k, rfl⟩ : ∃ (i : Fin 2816) (k : Fin 512), y = ix2 i k := ⟨y 0, y 1, eq_ix2 y⟩
  have hi := i.isLt
  have hk := k.isLt
  refine Eq.trans ?_ ((fun G : Vec Ideal S2816x1024 .f32 => (by blk_point [places t] : G (ix2 ⟨0 + i.val, by omega⟩ ⟨t.val / 11 * 512 + k.val, by omega⟩) = G _))
    (product (m ((c.tc : Thread nD τ).loc main_arg0)) (m ((c.tc : Thread nD τ).loc main_arg1))))
  unfold product
  refine Products.block (n := 768) 11 (outsAt0 m c) (share m c) (first m c) (next m c) (handed m c) t ht (ix2 i k) _ rfl fun s p hd hm => ?_
  unfold share
  rw [part]
  refine Finset.sum_congr rfl fun q _ => congrArg₂ (fun a b : EReal => a * b) ?_ ?_
  · blk_point [iblk, V, places p]
  · blk_point [iblk, V, places p]

omit c

theorem algebraic : Cert.algebraic_GradFfnOutIdeal_GradFfnOutRefIdeal := fun m g m' g' _ hm => by
  refine ⟨_, (θ_run Cert.GradFfnOutIdeal.defs _ _).mono (fun _ h c => ⟨(h c).1.trans ?_, (h c).2⟩) (Cert.GradFfnOutIdeal.Value.run_blocks m g), reference m' g'⟩
  rw [(hm c).1, (hm c).2]
  exact final m c

end Cert.GradFfnOutClaims

end
-- ==== Proof.GradGatedClaims.lean ====
/- The gradient of the gated array: both frames, the reference's, and the equation of the results. -/
module

public import proofs.«01_k».proof.Defs
public import proofs.«01_k».proof.Proof.Gen.GradGated
public import proofs.«01_k».proof.Proof.Gen.GradGatedIdeal
public import proofs.«01_k».proof.Proof.Gen.GradGatedIdeal.Value
public import proofs.«01_k».proof.Proof.Gen.GradGatedRefIdeal.Run
public import Idealize.ShloMosaic.Lib.Pipeline.ValueKit
public import Idealize.ShloMosaic.Lib.Quiescent

@[expose] public section

set_option maxRecDepth 16384

noncomputable section

namespace Cert.GradGatedClaims

open Idealize.ShloMosaic Idealize.ShloMosaic.TcCoe Idealize.SL.Sem
open Idealize.ShloMosaic.Pipeline (Dat)
open Cert.GradGatedIdeal Cert.GradGatedIdeal.Gen

theorem frame_ideal : Cert.quiescent_GradGatedIdeal := fun m g _ => Cert.GradGatedIdeal.Gen.frame (F := Ideal) m g

/-- The program read at the machine's own numbers calls the same body. -/
theorem bodies : Cert.GradGated.defs₀ (F := Bits) = Cert.GradGatedIdeal.defs₀ (F := Bits) :=
  congrArg Defs.onTc (funext fun l => funext fun _ => match l with | 0 => rfl)

theorem frame_bits : Cert.quiescent_GradGated := fun m g _ => by
  have hd : Cert.GradGated.defs (F := Bits) = Cert.GradGatedIdeal.defs (F := Bits) := congrArg (Pipeline.defs Cert.GradGatedIdeal.pcfgs) bodies
  rw [hd]
  exact Cert.GradGatedIdeal.Gen.frame (F := Bits) m g

theorem frame_ref : Cert.quiescent_GradGatedRefIdeal := fun m g _ =>
  (θ_run Cert.GradGatedRefIdeal.defs _ _).mono (fun r h => ⟨fun c => (h c).2, sem_eq_zero_of_no_sems (by decide) r.2⟩)
    (Cert.GradGatedRefIdeal.Value.run m g)

/-- The product of the whole arrays. -/
def product (a : Vec Ideal S8448x1024 .bf16) (b : Vec Ideal S2816x1024 .bf16) : Vec Ideal S8448x2816 .f32 :=
  fun j => ∑ x : Fin 1024, a (ix2 (j 0) x) * b (ix2 (j 1) x)

/-- The reference's result is the product. -/
theorem reference (m' : (ℓ : Loc Cert.GradGatedRefIdeal.nD Cert.GradGatedRefIdeal.τ Cert.GradGatedRefIdeal.sig) → Buf (Elt Ideal) ℓ) (g : Dev Cert.GradGatedRefIdeal.nD → PrngReg) :
    θ_run Cert.GradGatedRefIdeal.defs (onTc (τ := Cert.GradGatedRefIdeal.τ) (Cert.GradGatedRefIdeal.main (F := Ideal))) ⟨m', fun _ => 0, g⟩ fun r => ∀ c : Dev Cert.GradGatedRefIdeal.nD,
      r.2.mem ((c.tc : Thread Cert.GradGatedRefIdeal.nD Cert.GradGatedRefIdeal.τ).loc Cert.GradGatedRefIdeal.main_v1)
        = product (m' ((c.tc : Thread Cert.GradGatedRefIdeal.nD Cert.GradGatedRefIdeal.τ).loc Cert.GradGatedRefIdeal.main_arg0)) (m' ((c.tc : Thread Cert.GradGatedRefIdeal.nD Cert.GradGatedRefIdeal.τ).loc Cert.GradGatedRefIdeal.main_arg1))
      ∧ r.2.mem ((c.tc : Thread Cert.GradGatedRefIdeal.nD Cert.GradGatedRefIdeal.τ).loc Cert.GradGatedRefIdeal.main_arg0) = m' ((c.tc : Thread Cert.GradGatedRefIdeal.nD Cert.GradGatedRefIdeal.τ).loc Cert.GradGatedRefIdeal.main_arg0)
      ∧ r.2.mem ((c.tc : Thread Cert.GradGatedRefIdeal.nD Cert.GradGatedRefIdeal.τ).loc Cert.GradGatedRefIdeal.main_arg1) = m' ((c.tc : Thread Cert.GradGatedRefIdeal.nD Cert.GradGatedRefIdeal.τ).loc Cert.GradGatedRefIdeal.main_arg1) := by
  refine (θ_run Cert.GradGatedRefIdeal.defs _ _).mono (fun r h c => ⟨(h c).1.trans ?_, (h c).2⟩) (Cert.GradGatedRefIdeal.Value.run m' g)
  funext j
  obtain ⟨i, k, rfl⟩ : ∃ i k, j = ix2 i k := ⟨j 0, j 1, eq_ix2 j⟩
  pointwise
  unfold product
  rfl

/-- Where each window stands at a point, which takes a block's whole contraction. -/
theorem places : ∀ t : Fin cfg0.N, win0_0.index t = ![t.val / 11, 0] ∧ win0_1.index t = ![t.val % 11, 0] ∧ win0_2.index t = ![t.val / 11, t.val % 11] :=
  (by decide +kernel : ∀ t : Fin grid0.N, _)

/-- What a point computes is its block of the product. -/
theorem part (v0 : Vec Ideal S768x1024 .bf16) (v1 : Vec Ideal S256x1024 .bf16) (i : Fin 768) (k : Fin 256) :
    k0_pay2 (F := Ideal) v0 v1 (ix2 i k) = ∑ x : Fin 1024, v0 (ix2 i x) * v1 (ix2 k x) := by
  pointwise [k0_pay2, k0_pay1]

variable (m : (ℓ : Loc nD τ sig) → Buf (Elt Ideal) ℓ) (c : Dev nD)

/-- What a point writes back. -/
theorem written (t : Fin cfg0.N) (y : S768x256.Idx) : outsAt0 m c t y = k0_pay2 (F := Ideal) (iblk m c 0 t) (iblk m c 1 t) y := by
  unfold outsAt0
  frame_out

/-- The result is the product. -/
theorem final : (dats m 0 c).arrAt 2 cfg0.N = product (m ((c.tc : Thread nD τ).loc main_arg0)) (m ((c.tc : Thread nD τ).loc main_arg1)) := by
  refine (dats m 0 c).arrAt_eq_of_covers 2 _ (by decide +kernel) fun t hf y => ?_
  have hN := lt_of_lt_of_eq t.isLt N_0
  blk_simp
  rw [after0_2, written]
  obtain ⟨i, k, rfl⟩ : ∃ (i : Fin 768) (k : Fin 256), y = ix2 i k := ⟨y 0, y 1, eq_ix2 y⟩
  have hi := i.isLt
  have hk := k.isLt
  refine Eq.trans ?_ ((fun G : Vec Ideal S8448x2816 .f32 => (by blk_point [places t] : G (ix2 ⟨t.val / 11 * 768 + i.val, by omega⟩ ⟨t.val % 11 * 256 + k.val, by omega⟩) = G _))
    (product (m ((c.tc : Thread nD τ).loc main_arg0)) (m ((c.tc : Thread nD τ).loc main_arg1))))
  rw [part]
  unfold product
  change @Eq EReal _ _
  refine Finset.sum_congr rfl fun q _ => ?_
  refine congrArg₂ (fun a b : EReal => a * b) ?_ ?_
  · blk_point [iblk, V, places t]
  · blk_point [iblk, V, places t]

omit c

theorem algebraic : Cert.algebraic_GradGatedIdeal_GradGatedRefIdeal := fun m g m' g' _ hm => by
  refine ⟨_, (θ_run Cert.GradGatedIdeal.defs _ _).mono (fun _ h c => ⟨(h c).1.trans ?_, (h c).2⟩) (Cert.GradGatedIdeal.Value.run_blocks m g), reference m' g'⟩
  rw [(hm c).1, (hm c).2]
  exact final m c

end Cert.GradGatedClaims

end
-- ==== Proof.GradFfnInClaims.lean ====
/- The gradient of the weights of the feed-forward layer's first product: both frames, the reference's, and the equation of the results. -/
module

public import proofs.«01_k».proof.Defs
public import proofs.«01_k».proof.Proof.Gen.GradFfnIn
public import proofs.«01_k».proof.Proof.Gen.GradFfnInIdeal
public import proofs.«01_k».proof.Proof.Gen.GradFfnInIdeal.Value
public import proofs.«01_k».proof.Proof.Gen.GradFfnInRefIdeal.Run
public import proofs.«01_k».proof.Proof.Products
public import Idealize.ShloMosaic.Lib.Pipeline.ValueKit
public import Idealize.ShloMosaic.Lib.Quiescent

@[expose] public section

set_option maxRecDepth 16384

noncomputable section

namespace Cert.GradFfnInClaims

open Idealize.ShloMosaic Idealize.ShloMosaic.TcCoe Idealize.SL.Sem
open Idealize.ShloMosaic.Pipeline (Dat)
open Cert.GradFfnInIdeal Cert.GradFfnInIdeal.Gen

theorem frame_ideal : Cert.quiescent_GradFfnInIdeal := fun m g _ => Cert.GradFfnInIdeal.Gen.frame (F := Ideal) m g

/-- The program read at the machine's own numbers calls the same body. -/
theorem bodies : Cert.GradFfnIn.defs₀ (F := Bits) = Cert.GradFfnInIdeal.defs₀ (F := Bits) :=
  congrArg Defs.onTc (funext fun l => funext fun _ => match l with | 0 => rfl)

theorem frame_bits : Cert.quiescent_GradFfnIn := fun m g _ => by
  have hd : Cert.GradFfnIn.defs (F := Bits) = Cert.GradFfnInIdeal.defs (F := Bits) := congrArg (Pipeline.defs Cert.GradFfnInIdeal.pcfgs) bodies
  rw [hd]
  exact Cert.GradFfnInIdeal.Gen.frame (F := Bits) m g

theorem frame_ref : Cert.quiescent_GradFfnInRefIdeal := fun m g _ =>
  (θ_run Cert.GradFfnInRefIdeal.defs _ _).mono (fun r h => ⟨fun c => (h c).2, sem_eq_zero_of_no_sems (by decide) r.2⟩)
    (Cert.GradFfnInRefIdeal.Value.run m g)

/-- The product of the whole arrays. -/
def product (a : Vec Ideal S8448x1024 .bf16) (b : Vec Ideal S8448x5632 .bf16) : Vec Ideal S1024x5632 .f32 :=
  fun j => ∑ x : Fin 8448, a (ix2 x (j 0)) * b (ix2 x (j 1))

/-- The reference's result is the product. -/
theorem reference (m' : (ℓ : Loc Cert.GradFfnInRefIdeal.nD Cert.GradFfnInRefIdeal.τ Cert.GradFfnInRefIdeal.sig) → Buf (Elt Ideal) ℓ) (g : Dev Cert.GradFfnInRefIdeal.nD → PrngReg) :
    θ_run Cert.GradFfnInRefIdeal.defs (onTc (τ := Cert.GradFfnInRefIdeal.τ) (Cert.GradFfnInRefIdeal.main (F := Ideal))) ⟨m', fun _ => 0, g⟩ fun r => ∀ c : Dev Cert.GradFfnInRefIdeal.nD,
      r.2.mem ((c.tc : Thread Cert.GradFfnInRefIdeal.nD Cert.GradFfnInRefIdeal.τ).loc Cert.GradFfnInRefIdeal.main_v1)
        = product (m' ((c.tc : Thread Cert.GradFfnInRefIdeal.nD Cert.GradFfnInRefIdeal.τ).loc Cert.GradFfnInRefIdeal.main_arg0)) (m' ((c.tc : Thread Cert.GradFfnInRefIdeal.nD Cert.GradFfnInRefIdeal.τ).loc Cert.GradFfnInRefIdeal.main_arg1))
      ∧ r.2.mem ((c.tc : Thread Cert.GradFfnInRefIdeal.nD Cert.GradFfnInRefIdeal.τ).loc Cert.GradFfnInRefIdeal.main_arg0) = m' ((c.tc : Thread Cert.GradFfnInRefIdeal.nD Cert.GradFfnInRefIdeal.τ).loc Cert.GradFfnInRefIdeal.main_arg0)
      ∧ r.2.mem ((c.tc : Thread Cert.GradFfnInRefIdeal.nD Cert.GradFfnInRefIdeal.τ).loc Cert.GradFfnInRefIdeal.main_arg1) = m' ((c.tc : Thread Cert.GradFfnInRefIdeal.nD Cert.GradFfnInRefIdeal.τ).loc Cert.GradFfnInRefIdeal.main_arg1) := by
  refine (θ_run Cert.GradFfnInRefIdeal.defs _ _).mono (fun r h c => ⟨(h c).1.trans ?_, (h c).2⟩) (Cert.GradFfnInRefIdeal.Value.run m' g)
  funext j
  obtain ⟨i, k, rfl⟩ : ∃ i k, j = ix2 i k := ⟨j 0, j 1, eq_ix2 j⟩
  pointwise
  unfold product
  rfl

/-- Where each window stands at a point: the points of a block run over its contraction. -/
theorem places : ∀ t : Fin cfg0.N, win0_0.index t = ![t.val % 11, 0] ∧ win0_1.index t = ![t.val % 11, t.val / 11] ∧ win0_2.index t = ![0, t.val / 11] :=
  (by decide +kernel : ∀ t : Fin grid0.N, _)

/-- A point's share of its block. -/
theorem part (v0 : Vec Ideal S768x1024 .bf16) (v1 : Vec Ideal S768x512 .bf16) (i : Fin 1024) (k : Fin 512) :
    k0_pay2 (F := Ideal) v0 v1 (ix2 i k) = ∑ x : Fin 768, v0 (ix2 x i) * v1 (ix2 x k) := by
  pointwise [k0_pay2, k0_pay1]

/-- What a later point computes is what it found and its share. -/
theorem plus (v0 : Vec Ideal S768x1024 .bf16) (v1 : Vec Ideal S768x512 .bf16) (v12 : Vec Ideal S1024x512 .f32) (j : S1024x512.Idx) :
    k0_pay3 (F := Ideal) v0 v1 v12 j = v12 j + k0_pay2 (F := Ideal) v0 v1 j := by
  pointwise [k0_pay3, k0_pay2]

variable (m : (ℓ : Loc nD τ sig) → Buf (Elt Ideal) ℓ) (c : Dev nD)

/-- A point finds what the point before left. -/
theorem held (v : Vec Ideal S1024x512 .f32) (h : scM0_0.IsWhole) : View.read (Elt Ideal) (View.whole cc0_scratch0) (h.unread v) = v :=
  h.read_unread v

/-- A point's share of its block, from what its windows hold. -/
def share (p : Fin cfg0.N) (y : S1024x512.Idx) : EReal := k0_pay2 (F := Ideal) (iblk m c 0 p) (iblk m c 1 p) y

/-- A block's first point leaves its share. -/
theorem first (t : Fin cfg0.N) (h : t.val % 11 = 0) (y : S1024x512.Idx) : (outsAt0 m c t.val t.isLt).2 y = share m c t y := by
  rw [outsAt0_A m c t h (by omega) (by omega)]
  frame_out
  rfl

/-- A later point adds its share. -/
theorem next (t : Fin cfg0.N) (h : ¬ t.val % 11 = 0) (y : S1024x512.Idx) :
    (outsAt0 m c t.val t.isLt).2 y = (outsAt0 m c (t.val - 1) (Nat.lt_of_le_of_lt (Nat.sub_le _ _) t.isLt)).2 y + share m c t y := by
  by_cases h2 : t.val % 11 = 10
  · rw [outsAt0_C m c t h (by omega) h2]
    frame_out
    rw [plus, held]
    rfl
  · rw [outsAt0_B m c t h (by omega) h2]
    frame_out
    rw [plus, held]
    rfl

/-- The last point of a block hands on what the block's points have added up. -/
theorem handed (t : Fin cfg0.N) (ht : t.val % 11 = 10) (y : S1024x512.Idx) : (outsAt0 m c t.val t.isLt).1 y = (outsAt0 m c t.val t.isLt).2 y := by
  rw [outsAt0_C m c t (by omega) (by omega) ht]
  frame_out

/-- The result is the product. -/
theorem final : (dats m 0 c).arrAt 2 cfg0.N = product (m ((c.tc : Thread nD τ).loc main_arg0)) (m ((c.tc : Thread nD τ).loc main_arg1)) := by
  refine (dats m 0 c).arrAt_eq_of_covers 2 _ (by decide +kernel) fun t hf y => ?_
  have ht : t.val % 11 = 10 := (flush0_2 t).mp hf
  have hN := lt_of_lt_of_eq t.isLt N_0
  blk_simp
  rw [after0_2]
  obtain ⟨i, k, rfl⟩ : ∃ (i : Fin 1024) (k : Fin 512), y = ix2 i k := ⟨y 0, y 1, eq_ix2 y⟩
  have hi := i.isLt
  have hk := k.isLt
  refine Eq.trans ?_ ((fun G : Vec Ideal S1024x5632 .f32 => (by blk_point [places t] : G (ix2 ⟨0 + i.val, by omega⟩ ⟨t.val / 11 * 512 + k.val, by omega⟩) = G _))
    (product (m ((c.tc : Thread nD τ).loc main_arg0)) (m ((c.tc : Thread nD τ).loc main_arg1))))
  unfold product
  refine Products.block (n := 768) 11 (outsAt0 m c) (share m c) (first m c) (next m c) (handed m c) t ht (ix2 i k) _ rfl fun s p hd hm => ?_
  unfold share
  rw [part]
  refine Finset.sum_congr rfl fun q _ => congrArg₂ (fun a b : EReal => a * b) ?_ ?_
  · blk_point [iblk, V, places p]
  · blk_point [iblk, V, places p]

omit c

theorem algebraic : Cert.algebraic_GradFfnInIdeal_GradFfnInRefIdeal := fun m g m' g' _ hm => by
  refine ⟨_, (θ_run Cert.GradFfnInIdeal.defs _ _).mono (fun _ h c => ⟨(h c).1.trans ?_, (h c).2⟩) (Cert.GradFfnInIdeal.Value.run_blocks m g), reference m' g'⟩
  rw [(hm c).1, (hm c).2]
  exact final m c

end Cert.GradFfnInClaims

end
-- ==== Proof.GradNormedClaims.lean ====
/- The gradient of what the feed-forward layer read: both frames, the reference's, and the equation of the results. -/
module

public import proofs.«01_k».proof.Defs
public import proofs.«01_k».proof.Proof.Gen.GradNormed
public import proofs.«01_k».proof.Proof.Gen.GradNormedIdeal
public import proofs.«01_k».proof.Proof.Gen.GradNormedIdeal.Value
public import proofs.«01_k».proof.Proof.Gen.GradNormedRefIdeal.Run
public import proofs.«01_k».proof.Proof.Products
public import Idealize.ShloMosaic.Lib.Pipeline.ValueKit
public import Idealize.ShloMosaic.Lib.Quiescent

@[expose] public section

set_option maxRecDepth 16384

noncomputable section

namespace Cert.GradNormedClaims

open Idealize.ShloMosaic Idealize.ShloMosaic.TcCoe Idealize.SL.Sem
open Idealize.ShloMosaic.Pipeline (Dat)
open Cert.GradNormedIdeal Cert.GradNormedIdeal.Gen

theorem frame_ideal : Cert.quiescent_GradNormedIdeal := fun m g _ => Cert.GradNormedIdeal.Gen.frame (F := Ideal) m g

/-- The program read at the machine's own numbers calls the same body. -/
theorem bodies : Cert.GradNormed.defs₀ (F := Bits) = Cert.GradNormedIdeal.defs₀ (F := Bits) :=
  congrArg Defs.onTc (funext fun l => funext fun _ => match l with | 0 => rfl)

theorem frame_bits : Cert.quiescent_GradNormed := fun m g _ => by
  have hd : Cert.GradNormed.defs (F := Bits) = Cert.GradNormedIdeal.defs (F := Bits) := congrArg (Pipeline.defs Cert.GradNormedIdeal.pcfgs) bodies
  rw [hd]
  exact Cert.GradNormedIdeal.Gen.frame (F := Bits) m g

theorem frame_ref : Cert.quiescent_GradNormedRefIdeal := fun m g _ =>
  (θ_run Cert.GradNormedRefIdeal.defs _ _).mono (fun r h => ⟨fun c => (h c).2, sem_eq_zero_of_no_sems (by decide) r.2⟩)
    (Cert.GradNormedRefIdeal.Value.run m g)

/-- The product of the whole arrays. -/
def product (a : Vec Ideal S8448x5632 .bf16) (b : Vec Ideal S1024x5632 .bf16) : Vec Ideal S8448x1024 .f32 :=
  fun j => ∑ x : Fin 5632, a (ix2 (j 0) x) * b (ix2 (j 1) x)

/-- The reference's result is the product. -/
theorem reference (m' : (ℓ : Loc Cert.GradNormedRefIdeal.nD Cert.GradNormedRefIdeal.τ Cert.GradNormedRefIdeal.sig) → Buf (Elt Ideal) ℓ) (g : Dev Cert.GradNormedRefIdeal.nD → PrngReg) :
    θ_run Cert.GradNormedRefIdeal.defs (onTc (τ := Cert.GradNormedRefIdeal.τ) (Cert.GradNormedRefIdeal.main (F := Ideal))) ⟨m', fun _ => 0, g⟩ fun r => ∀ c : Dev Cert.GradNormedRefIdeal.nD,
      r.2.mem ((c.tc : Thread Cert.GradNormedRefIdeal.nD Cert.GradNormedRefIdeal.τ).loc Cert.GradNormedRefIdeal.main_v1)
        = product (m' ((c.tc : Thread Cert.GradNormedRefIdeal.nD Cert.GradNormedRefIdeal.τ).loc Cert.GradNormedRefIdeal.main_arg0)) (m' ((c.tc : Thread Cert.GradNormedRefIdeal.nD Cert.GradNormedRefIdeal.τ).loc Cert.GradNormedRefIdeal.main_arg1))
      ∧ r.2.mem ((c.tc : Thread Cert.GradNormedRefIdeal.nD Cert.GradNormedRefIdeal.τ).loc Cert.GradNormedRefIdeal.main_arg0) = m' ((c.tc : Thread Cert.GradNormedRefIdeal.nD Cert.GradNormedRefIdeal.τ).loc Cert.GradNormedRefIdeal.main_arg0)
      ∧ r.2.mem ((c.tc : Thread Cert.GradNormedRefIdeal.nD Cert.GradNormedRefIdeal.τ).loc Cert.GradNormedRefIdeal.main_arg1) = m' ((c.tc : Thread Cert.GradNormedRefIdeal.nD Cert.GradNormedRefIdeal.τ).loc Cert.GradNormedRefIdeal.main_arg1) := by
  refine (θ_run Cert.GradNormedRefIdeal.defs _ _).mono (fun r h c => ⟨(h c).1.trans ?_, (h c).2⟩) (Cert.GradNormedRefIdeal.Value.run m' g)
  funext j
  obtain ⟨i, k, rfl⟩ : ∃ i k, j = ix2 i k := ⟨j 0, j 1, eq_ix2 j⟩
  pointwise
  unfold product
  rfl

/-- Where each window stands at a point: the points of a block run over its contraction. -/
theorem places : ∀ t : Fin cfg0.N, win0_0.index t = ![t.val / 22, t.val % 11] ∧ win0_1.index t = ![t.val / 11 % 2, t.val % 11] ∧ win0_2.index t = ![t.val / 22, t.val / 11 % 2] :=
  (by decide +kernel : ∀ t : Fin grid0.N, _)

/-- A point's share of its block. -/
theorem part (v0 : Vec Ideal S768x512 .bf16) (v1 : Vec Ideal S512x512 .bf16) (i : Fin 768) (k : Fin 512) :
    k0_pay2 (F := Ideal) v0 v1 (ix2 i k) = ∑ x : Fin 512, v0 (ix2 i x) * v1 (ix2 k x) := by
  pointwise [k0_pay2, k0_pay1]

/-- What a later point computes is what it found and its share. -/
theorem plus (v0 : Vec Ideal S768x512 .bf16) (v1 : Vec Ideal S512x512 .bf16) (v12 : Vec Ideal S768x512 .f32) (j : S768x512.Idx) :
    k0_pay3 (F := Ideal) v0 v1 v12 j = v12 j + k0_pay2 (F := Ideal) v0 v1 j := by
  pointwise [k0_pay3, k0_pay2]

variable (m : (ℓ : Loc nD τ sig) → Buf (Elt Ideal) ℓ) (c : Dev nD)

/-- A point finds what the point before left. -/
theorem held (v : Vec Ideal S768x512 .f32) (h : scM0_0.IsWhole) : View.read (Elt Ideal) (View.whole cc0_scratch0) (h.unread v) = v :=
  h.read_unread v

/-- A point's share of its block, from what its windows hold. -/
def share (p : Fin cfg0.N) (y : S768x512.Idx) : EReal := k0_pay2 (F := Ideal) (iblk m c 0 p) (iblk m c 1 p) y

/-- A block's first point leaves its share. -/
theorem first (t : Fin cfg0.N) (h : t.val % 11 = 0) (y : S768x512.Idx) : (outsAt0 m c t.val t.isLt).2 y = share m c t y := by
  rw [outsAt0_A m c t h (by omega) (by omega)]
  frame_out
  rfl

/-- A later point adds its share. -/
theorem next (t : Fin cfg0.N) (h : ¬ t.val % 11 = 0) (y : S768x512.Idx) :
    (outsAt0 m c t.val t.isLt).2 y = (outsAt0 m c (t.val - 1) (Nat.lt_of_le_of_lt (Nat.sub_le _ _) t.isLt)).2 y + share m c t y := by
  by_cases h2 : t.val % 11 = 10
  · rw [outsAt0_C m c t h (by omega) h2]
    frame_out
    rw [plus, held]
    rfl
  · rw [outsAt0_B m c t h (by omega) h2]
    frame_out
    rw [plus, held]
    rfl

/-- The last point of a block hands on what the block's points have added up. -/
theorem handed (t : Fin cfg0.N) (ht : t.val % 11 = 10) (y : S768x512.Idx) : (outsAt0 m c t.val t.isLt).1 y = (outsAt0 m c t.val t.isLt).2 y := by
  rw [outsAt0_C m c t (by omega) (by omega) ht]
  frame_out

/-- The result is the product. -/
theorem final : (dats m 0 c).arrAt 2 cfg0.N = product (m ((c.tc : Thread nD τ).loc main_arg0)) (m ((c.tc : Thread nD τ).loc main_arg1)) := by
  refine (dats m 0 c).arrAt_eq_of_covers 2 _ (by decide +kernel) fun t hf y => ?_
  have ht : t.val % 11 = 10 := (flush0_2 t).mp hf
  have hN := lt_of_lt_of_eq t.isLt N_0
  blk_simp
  rw [after0_2]
  obtain ⟨i, k, rfl⟩ : ∃ (i : Fin 768) (k : Fin 512), y = ix2 i k := ⟨y 0, y 1, eq_ix2 y⟩
  have hi := i.isLt
  have hk := k.isLt
  refine Eq.trans ?_ ((fun G : Vec Ideal S8448x1024 .f32 => (by blk_point [places t] : G (ix2 ⟨t.val / 22 * 768 + i.val, by omega⟩ ⟨t.val / 11 % 2 * 512 + k.val, by omega⟩) = G _))
    (product (m ((c.tc : Thread nD τ).loc main_arg0)) (m ((c.tc : Thread nD τ).loc main_arg1))))
  unfold product
  refine Products.block (n := 512) 11 (outsAt0 m c) (share m c) (first m c) (next m c) (handed m c) t ht (ix2 i k) _ rfl fun s p hd hm => ?_
  unfold share
  rw [part]
  refine Finset.sum_congr rfl fun q _ => congrArg₂ (fun a b : EReal => a * b) ?_ ?_
  · blk_point [iblk, V, places p]
  · blk_point [iblk, V, places p]

omit c

theorem algebraic : Cert.algebraic_GradNormedIdeal_GradNormedRefIdeal := fun m g m' g' _ hm => by
  refine ⟨_, (θ_run Cert.GradNormedIdeal.defs _ _).mono (fun _ h c => ⟨(h c).1.trans ?_, (h c).2⟩) (Cert.GradNormedIdeal.Value.run_blocks m g), reference m' g'⟩
  rw [(hm c).1, (hm c).2]
  exact final m c

end Cert.GradNormedClaims

end
-- ==== Proof.MixOutClaims.lean ====
/- The product of the merged branches with the weights: both frames, the reference's, and the equation of the results. -/
module

public import proofs.«01_k».proof.Defs
public import proofs.«01_k».proof.Proof.Gen.MixOut
public import proofs.«01_k».proof.Proof.Gen.MixOutIdeal
public import proofs.«01_k».proof.Proof.Gen.MixOutIdeal.Value
public import proofs.«01_k».proof.Proof.Gen.MixOutRefIdeal.Run
public import Idealize.ShloMosaic.Lib.Pipeline.ValueKit
public import Idealize.ShloMosaic.Lib.Quiescent

@[expose] public section

set_option maxRecDepth 16384

noncomputable section

namespace Cert.MixOutClaims

open Idealize.ShloMosaic Idealize.ShloMosaic.TcCoe Idealize.SL.Sem
open Idealize.ShloMosaic.Pipeline (Dat)
open Cert.MixOutIdeal Cert.MixOutIdeal.Gen

theorem frame_ideal : Cert.quiescent_MixOutIdeal := fun m g _ => Cert.MixOutIdeal.Gen.frame (F := Ideal) m g

/-- The program read at the machine's own numbers calls the same body. -/
theorem bodies : Cert.MixOut.defs₀ (F := Bits) = Cert.MixOutIdeal.defs₀ (F := Bits) :=
  congrArg Defs.onTc (funext fun l => funext fun _ => match l with | 0 => rfl)

theorem frame_bits : Cert.quiescent_MixOut := fun m g _ => by
  have hd : Cert.MixOut.defs (F := Bits) = Cert.MixOutIdeal.defs (F := Bits) := congrArg (Pipeline.defs Cert.MixOutIdeal.pcfgs) bodies
  rw [hd]
  exact Cert.MixOutIdeal.Gen.frame (F := Bits) m g

theorem frame_ref : Cert.quiescent_MixOutRefIdeal := fun m g _ =>
  (θ_run Cert.MixOutRefIdeal.defs _ _).mono (fun r h => ⟨fun c => (h c).2, sem_eq_zero_of_no_sems (by decide) r.2⟩)
    (Cert.MixOutRefIdeal.Value.run m g)

/-- The product of the whole arrays. -/
def product (a : Vec Ideal S8448x1024 .bf16) (b : Vec Ideal S1024x1024 .bf16) : Vec Ideal S8448x1024 .f32 :=
  fun j => ∑ x : Fin 1024, a (ix2 (j 0) x) * b (ix2 x (j 1))

/-- The reference's result is the product. -/
theorem reference (m' : (ℓ : Loc Cert.MixOutRefIdeal.nD Cert.MixOutRefIdeal.τ Cert.MixOutRefIdeal.sig) → Buf (Elt Ideal) ℓ) (g : Dev Cert.MixOutRefIdeal.nD → PrngReg) :
    θ_run Cert.MixOutRefIdeal.defs (onTc (τ := Cert.MixOutRefIdeal.τ) (Cert.MixOutRefIdeal.main (F := Ideal))) ⟨m', fun _ => 0, g⟩ fun r => ∀ c : Dev Cert.MixOutRefIdeal.nD,
      r.2.mem ((c.tc : Thread Cert.MixOutRefIdeal.nD Cert.MixOutRefIdeal.τ).loc Cert.MixOutRefIdeal.main_v0)
        = product (m' ((c.tc : Thread Cert.MixOutRefIdeal.nD Cert.MixOutRefIdeal.τ).loc Cert.MixOutRefIdeal.main_arg0)) (m' ((c.tc : Thread Cert.MixOutRefIdeal.nD Cert.MixOutRefIdeal.τ).loc Cert.MixOutRefIdeal.main_arg1))
      ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1) := by
  refine (θ_run Cert.MixOutRefIdeal.defs _ _).mono (fun r h c => ⟨(h c).1.trans ?_, (h c).2⟩) (Cert.MixOutRefIdeal.Value.run m' g)
  funext j
  obtain ⟨i, k, rfl⟩ : ∃ i k, j = ix2 i k := ⟨j 0, j 1, eq_ix2 j⟩
  pointwise
  unfold product
  rfl

/-- Where each window stands at a point, which takes a block's whole contraction. -/
theorem places : ∀ t : Fin cfg0.N, win0_0.index t = ![t.val / 2, 0] ∧ win0_1.index t = ![0, t.val % 2] ∧ win0_2.index t = ![t.val / 2, t.val % 2] :=
  (by decide +kernel : ∀ t : Fin grid0.N, _)

/-- What a point computes is its block of the product. -/
theorem part (v0 : Vec Ideal S768x1024 .bf16) (v1 : Vec Ideal S1024x512 .bf16) (i : Fin 768) (k : Fin 512) :
    k0_pay2 (F := Ideal) v0 v1 (ix2 i k) = ∑ x : Fin 1024, v0 (ix2 i x) * v1 (ix2 x k) := by
  pointwise [k0_pay2, k0_pay1]

variable (m : (ℓ : Loc nD τ sig) → Buf (Elt Ideal) ℓ) (c : Dev nD)

/-- What a point writes back. -/
theorem written (t : Fin cfg0.N) (y : S768x512.Idx) : outsAt0 m c t y = k0_pay2 (F := Ideal) (iblk m c 0 t) (iblk m c 1 t) y := by
  unfold outsAt0
  frame_out

/-- The result is the product. -/
theorem final : (dats m 0 c).arrAt 2 cfg0.N = product (m ((c.tc : Thread nD τ).loc main_arg0)) (m ((c.tc : Thread nD τ).loc main_arg1)) := by
  refine (dats m 0 c).arrAt_eq_of_covers 2 _ (by decide +kernel) fun t hf y => ?_
  have hN := lt_of_lt_of_eq t.isLt N_0
  blk_simp
  rw [after0_2, written]
  obtain ⟨i, k, rfl⟩ : ∃ (i : Fin 768) (k : Fin 512), y = ix2 i k := ⟨y 0, y 1, eq_ix2 y⟩
  have hi := i.isLt
  have hk := k.isLt
  refine Eq.trans ?_ ((fun G : Vec Ideal S8448x1024 .f32 => (by blk_point [places t] : G (ix2 ⟨t.val / 2 * 768 + i.val, by omega⟩ ⟨t.val % 2 * 512 + k.val, by omega⟩) = G _))
    (product (m ((c.tc : Thread nD τ).loc main_arg0)) (m ((c.tc : Thread nD τ).loc main_arg1))))
  rw [part]
  unfold product
  change @Eq EReal _ _
  refine Finset.sum_congr rfl fun q _ => ?_
  refine congrArg₂ (fun a b : EReal => a * b) ?_ ?_
  · blk_point [iblk, V, places t]
  · blk_point [iblk, V, places t]

omit c

theorem algebraic : Cert.algebraic_MixOutIdeal_MixOutRefIdeal := fun m g m' g' _ hm => by
  refine ⟨_, (θ_run Cert.MixOutIdeal.defs _ _).mono (fun _ h c => ⟨(h c).1.trans ?_, (h c).2⟩) (Cert.MixOutIdeal.Value.run_blocks m g), reference m' g'⟩
  rw [(hm c).1, (hm c).2]
  exact final m c

end Cert.MixOutClaims

end
-- ==== Proof.BranchSsmClaims.lean ====
/- The product of what the state-space mixer gives: both frames, the reference's, and the equation of the results. -/
module

public import proofs.«01_k».proof.Defs
public import proofs.«01_k».proof.Proof.Gen.BranchSsm
public import proofs.«01_k».proof.Proof.Gen.BranchSsmIdeal
public import proofs.«01_k».proof.Proof.Gen.BranchSsmIdeal.Value
public import proofs.«01_k».proof.Proof.Gen.BranchSsmRefIdeal.Run
public import Idealize.ShloMosaic.Lib.Pipeline.ValueKit
public import Idealize.ShloMosaic.Lib.Quiescent

@[expose] public section

set_option maxRecDepth 16384

noncomputable section

namespace Cert.BranchSsmClaims

open Idealize.ShloMosaic Idealize.ShloMosaic.TcCoe Idealize.SL.Sem
open Idealize.ShloMosaic.Pipeline (Dat)
open Cert.BranchSsmIdeal Cert.BranchSsmIdeal.Gen

theorem frame_ideal : Cert.quiescent_BranchSsmIdeal := fun m g _ => Cert.BranchSsmIdeal.Gen.frame (F := Ideal) m g

/-- The program read at the machine's own numbers calls the same body. -/
theorem bodies : Cert.BranchSsm.defs₀ (F := Bits) = Cert.BranchSsmIdeal.defs₀ (F := Bits) :=
  congrArg Defs.onTc (funext fun l => funext fun _ => match l with | 0 => rfl)

theorem frame_bits : Cert.quiescent_BranchSsm := fun m g _ => by
  have hd : Cert.BranchSsm.defs (F := Bits) = Cert.BranchSsmIdeal.defs (F := Bits) := congrArg (Pipeline.defs Cert.BranchSsmIdeal.pcfgs) bodies
  rw [hd]
  exact Cert.BranchSsmIdeal.Gen.frame (F := Bits) m g

theorem frame_ref : Cert.quiescent_BranchSsmRefIdeal := fun m g _ =>
  (θ_run Cert.BranchSsmRefIdeal.defs _ _).mono (fun r h => ⟨fun c => (h c).2, sem_eq_zero_of_no_sems (by decide) r.2⟩)
    (Cert.BranchSsmRefIdeal.Value.run m g)

/-- The product of the whole arrays. -/
def product (a : Vec Ideal S8448x2048 .bf16) (b : Vec Ideal S2048x1024 .bf16) : Vec Ideal S8448x1024 .f32 :=
  fun j => ∑ x : Fin 2048, a (ix2 (j 0) x) * b (ix2 x (j 1))

/-- The reference's result is the product. -/
theorem reference (m' : (ℓ : Loc Cert.BranchSsmRefIdeal.nD Cert.BranchSsmRefIdeal.τ Cert.BranchSsmRefIdeal.sig) → Buf (Elt Ideal) ℓ) (g : Dev Cert.BranchSsmRefIdeal.nD → PrngReg) :
    θ_run Cert.BranchSsmRefIdeal.defs (onTc (τ := Cert.BranchSsmRefIdeal.τ) (Cert.BranchSsmRefIdeal.main (F := Ideal))) ⟨m', fun _ => 0, g⟩ fun r => ∀ c : Dev Cert.BranchSsmRefIdeal.nD,
      r.2.mem ((c.tc : Thread Cert.BranchSsmRefIdeal.nD Cert.BranchSsmRefIdeal.τ).loc Cert.BranchSsmRefIdeal.main_v0)
        = product (m' ((c.tc : Thread Cert.BranchSsmRefIdeal.nD Cert.BranchSsmRefIdeal.τ).loc Cert.BranchSsmRefIdeal.main_arg0)) (m' ((c.tc : Thread Cert.BranchSsmRefIdeal.nD Cert.BranchSsmRefIdeal.τ).loc Cert.BranchSsmRefIdeal.main_arg1))
      ∧ r.2.mem ((c.tc : Thread Cert.BranchSsmRefIdeal.nD Cert.BranchSsmRefIdeal.τ).loc Cert.BranchSsmRefIdeal.main_arg0) = m' ((c.tc : Thread Cert.BranchSsmRefIdeal.nD Cert.BranchSsmRefIdeal.τ).loc Cert.BranchSsmRefIdeal.main_arg0)
      ∧ r.2.mem ((c.tc : Thread Cert.BranchSsmRefIdeal.nD Cert.BranchSsmRefIdeal.τ).loc Cert.BranchSsmRefIdeal.main_arg1) = m' ((c.tc : Thread Cert.BranchSsmRefIdeal.nD Cert.BranchSsmRefIdeal.τ).loc Cert.BranchSsmRefIdeal.main_arg1) := by
  refine (θ_run Cert.BranchSsmRefIdeal.defs _ _).mono (fun r h c => ⟨(h c).1.trans ?_, (h c).2⟩) (Cert.BranchSsmRefIdeal.Value.run m' g)
  funext j
  obtain ⟨i, k, rfl⟩ : ∃ i k, j = ix2 i k := ⟨j 0, j 1, eq_ix2 j⟩
  pointwise
  unfold product
  rfl

/-- Where each window stands at a point, which takes a block's whole contraction. -/
theorem places : ∀ t : Fin cfg0.N, win0_0.index t = ![t.val / 2, 0] ∧ win0_1.index t = ![0, t.val % 2] ∧ win0_2.index t = ![t.val / 2, t.val % 2] :=
  (by decide +kernel : ∀ t : Fin grid0.N, _)

/-- What a point computes is its block of the product. -/
theorem part (v0 : Vec Ideal S768x2048 .bf16) (v1 : Vec Ideal S2048x512 .bf16) (i : Fin 768) (k : Fin 512) :
    k0_pay2 (F := Ideal) v0 v1 (ix2 i k) = ∑ x : Fin 2048, v0 (ix2 i x) * v1 (ix2 x k) := by
  pointwise [k0_pay2, k0_pay1]

variable (m : (ℓ : Loc nD τ sig) → Buf (Elt Ideal) ℓ) (c : Dev nD)

/-- What a point writes back. -/
theorem written (t : Fin cfg0.N) (y : S768x512.Idx) : outsAt0 m c t y = k0_pay2 (F := Ideal) (iblk m c 0 t) (iblk m c 1 t) y := by
  unfold outsAt0
  frame_out

/-- The result is the product. -/
theorem final : (dats m 0 c).arrAt 2 cfg0.N = product (m ((c.tc : Thread nD τ).loc main_arg0)) (m ((c.tc : Thread nD τ).loc main_arg1)) := by
  refine (dats m 0 c).arrAt_eq_of_covers 2 _ (by decide +kernel) fun t hf y => ?_
  have hN := lt_of_lt_of_eq t.isLt N_0
  blk_simp
  rw [after0_2, written]
  obtain ⟨i, k, rfl⟩ : ∃ (i : Fin 768) (k : Fin 512), y = ix2 i k := ⟨y 0, y 1, eq_ix2 y⟩
  have hi := i.isLt
  have hk := k.isLt
  refine Eq.trans ?_ ((fun G : Vec Ideal S8448x1024 .f32 => (by blk_point [places t] : G (ix2 ⟨t.val / 2 * 768 + i.val, by omega⟩ ⟨t.val % 2 * 512 + k.val, by omega⟩) = G _))
    (product (m ((c.tc : Thread nD τ).loc main_arg0)) (m ((c.tc : Thread nD τ).loc main_arg1))))
  rw [part]
  unfold product
  change @Eq EReal _ _
  refine Finset.sum_congr rfl fun q _ => ?_
  refine congrArg₂ (fun a b : EReal => a * b) ?_ ?_
  · blk_point [iblk, V, places t]
  · blk_point [iblk, V, places t]

omit c

theorem algebraic : Cert.algebraic_BranchSsmIdeal_BranchSsmRefIdeal := fun m g m' g' _ hm => by
  refine ⟨_, (θ_run Cert.BranchSsmIdeal.defs _ _).mono (fun _ h c => ⟨(h c).1.trans ?_, (h c).2⟩) (Cert.BranchSsmIdeal.Value.run_blocks m g), reference m' g'⟩
  rw [(hm c).1, (hm c).2]
  exact final m c

end Cert.BranchSsmClaims

end
-- ==== Proof.GradWOutClaims.lean ====
/- The gradient of the weights of the product after the merge: both frames, the reference's, and the equation of the results. -/
module

public import proofs.«01_k».proof.Defs
public import proofs.«01_k».proof.Proof.Gen.GradWOut
public import proofs.«01_k».proof.Proof.Gen.GradWOutIdeal
public import proofs.«01_k».proof.Proof.Gen.GradWOutIdeal.Value
public import proofs.«01_k».proof.Proof.Gen.GradWOutRefIdeal.Run
public import proofs.«01_k».proof.Proof.Products
public import Idealize.ShloMosaic.Lib.Pipeline.ValueKit
public import Idealize.ShloMosaic.Lib.Quiescent

@[expose] public section

set_option maxRecDepth 16384

noncomputable section

namespace Cert.GradWOutClaims

open Idealize.ShloMosaic Idealize.ShloMosaic.TcCoe Idealize.SL.Sem
open Idealize.ShloMosaic.Pipeline (Dat)
open Cert.GradWOutIdeal Cert.GradWOutIdeal.Gen

theorem frame_ideal : Cert.quiescent_GradWOutIdeal := fun m g _ => Cert.GradWOutIdeal.Gen.frame (F := Ideal) m g

/-- The program read at the machine's own numbers calls the same body. -/
theorem bodies : Cert.GradWOut.defs₀ (F := Bits) = Cert.GradWOutIdeal.defs₀ (F := Bits) :=
  congrArg Defs.onTc (funext fun l => funext fun _ => match l with | 0 => rfl)

theorem frame_bits : Cert.quiescent_GradWOut := fun m g _ => by
  have hd : Cert.GradWOut.defs (F := Bits) = Cert.GradWOutIdeal.defs (F := Bits) := congrArg (Pipeline.defs Cert.GradWOutIdeal.pcfgs) bodies
  rw [hd]
  exact Cert.GradWOutIdeal.Gen.frame (F := Bits) m g

theorem frame_ref : Cert.quiescent_GradWOutRefIdeal := fun m g _ =>
  (θ_run Cert.GradWOutRefIdeal.defs _ _).mono (fun r h => ⟨fun c => (h c).2, sem_eq_zero_of_no_sems (by decide) r.2⟩)
    (Cert.GradWOutRefIdeal.Value.run m g)

/-- The product of the whole arrays. -/
def product (a : Vec Ideal S8448x1024 .bf16) (b : Vec Ideal S8448x1024 .bf16) : Vec Ideal S1024x1024 .f32 :=
  fun j => ∑ x : Fin 8448, a (ix2 x (j 0)) * b (ix2 x (j 1))

/-- The reference's result is the product. -/
theorem reference (m' : (ℓ : Loc Cert.GradWOutRefIdeal.nD Cert.GradWOutRefIdeal.τ Cert.GradWOutRefIdeal.sig) → Buf (Elt Ideal) ℓ) (g : Dev Cert.GradWOutRefIdeal.nD → PrngReg) :
    θ_run Cert.GradWOutRefIdeal.defs (onTc (τ := Cert.GradWOutRefIdeal.τ) (Cert.GradWOutRefIdeal.main (F := Ideal))) ⟨m', fun _ => 0, g⟩ fun r => ∀ c : Dev Cert.GradWOutRefIdeal.nD,
      r.2.mem ((c.tc : Thread Cert.GradWOutRefIdeal.nD Cert.GradWOutRefIdeal.τ).loc Cert.GradWOutRefIdeal.main_v1)
        = product (m' ((c.tc : Thread Cert.GradWOutRefIdeal.nD Cert.GradWOutRefIdeal.τ).loc Cert.GradWOutRefIdeal.main_arg0)) (m' ((c.tc : Thread Cert.GradWOutRefIdeal.nD Cert.GradWOutRefIdeal.τ).loc Cert.GradWOutRefIdeal.main_arg1))
      ∧ r.2.mem ((c.tc : Thread Cert.GradWOutRefIdeal.nD Cert.GradWOutRefIdeal.τ).loc Cert.GradWOutRefIdeal.main_arg0) = m' ((c.tc : Thread Cert.GradWOutRefIdeal.nD Cert.GradWOutRefIdeal.τ).loc Cert.GradWOutRefIdeal.main_arg0)
      ∧ r.2.mem ((c.tc : Thread Cert.GradWOutRefIdeal.nD Cert.GradWOutRefIdeal.τ).loc Cert.GradWOutRefIdeal.main_arg1) = m' ((c.tc : Thread Cert.GradWOutRefIdeal.nD Cert.GradWOutRefIdeal.τ).loc Cert.GradWOutRefIdeal.main_arg1) := by
  refine (θ_run Cert.GradWOutRefIdeal.defs _ _).mono (fun r h c => ⟨(h c).1.trans ?_, (h c).2⟩) (Cert.GradWOutRefIdeal.Value.run m' g)
  funext j
  obtain ⟨i, k, rfl⟩ : ∃ i k, j = ix2 i k := ⟨j 0, j 1, eq_ix2 j⟩
  pointwise
  unfold product
  rfl

/-- Where each window stands at a point: the points of a block run over its contraction. -/
theorem places : ∀ t : Fin cfg0.N, win0_0.index t = ![t.val % 11, 0] ∧ win0_1.index t = ![t.val % 11, t.val / 11] ∧ win0_2.index t = ![0, t.val / 11] :=
  (by decide +kernel : ∀ t : Fin grid0.N, _)

/-- A point's share of its block. -/
theorem part (v0 : Vec Ideal S768x1024 .bf16) (v1 : Vec Ideal S768x512 .bf16) (i : Fin 1024) (k : Fin 512) :
    k0_pay2 (F := Ideal) v0 v1 (ix2 i k) = ∑ x : Fin 768, v0 (ix2 x i) * v1 (ix2 x k) := by
  pointwise [k0_pay2, k0_pay1]

/-- What a later point computes is what it found and its share. -/
theorem plus (v0 : Vec Ideal S768x1024 .bf16) (v1 : Vec Ideal S768x512 .bf16) (v12 : Vec Ideal S1024x512 .f32) (j : S1024x512.Idx) :
    k0_pay3 (F := Ideal) v0 v1 v12 j = v12 j + k0_pay2 (F := Ideal) v0 v1 j := by
  pointwise [k0_pay3, k0_pay2]

variable (m : (ℓ : Loc nD τ sig) → Buf (Elt Ideal) ℓ) (c : Dev nD)

/-- A point finds what the point before left. -/
theorem held (v : Vec Ideal S1024x512 .f32) (h : scM0_0.IsWhole) : View.read (Elt Ideal) (View.whole cc0_scratch0) (h.unread v) = v :=
  h.read_unread v

/-- A point's share of its block, from what its windows hold. -/
def share (p : Fin cfg0.N) (y : S1024x512.Idx) : EReal := k0_pay2 (F := Ideal) (iblk m c 0 p) (iblk m c 1 p) y

/-- A block's first point leaves its share. -/
theorem first (t : Fin cfg0.N) (h : t.val % 11 = 0) (y : S1024x512.Idx) : (outsAt0 m c t.val t.isLt).2 y = share m c t y := by
  rw [outsAt0_A m c t h (by omega) (by omega)]
  frame_out
  rfl

/-- A later point adds its share. -/
theorem next (t : Fin cfg0.N) (h : ¬ t.val % 11 = 0) (y : S1024x512.Idx) :
    (outsAt0 m c t.val t.isLt).2 y = (outsAt0 m c (t.val - 1) (Nat.lt_of_le_of_lt (Nat.sub_le _ _) t.isLt)).2 y + share m c t y := by
  by_cases h2 : t.val % 11 = 10
  · rw [outsAt0_C m c t h (by omega) h2]
    frame_out
    rw [plus, held]
    rfl
  · rw [outsAt0_B m c t h (by omega) h2]
    frame_out
    rw [plus, held]
    rfl

/-- The last point of a block hands on what the block's points have added up. -/
theorem handed (t : Fin cfg0.N) (ht : t.val % 11 = 10) (y : S1024x512.Idx) : (outsAt0 m c t.val t.isLt).1 y = (outsAt0 m c t.val t.isLt).2 y := by
  rw [outsAt0_C m c t (by omega) (by omega) ht]
  frame_out

/-- The result is the product. -/
theorem final : (dats m 0 c).arrAt 2 cfg0.N = product (m ((c.tc : Thread nD τ).loc main_arg0)) (m ((c.tc : Thread nD τ).loc main_arg1)) := by
  refine (dats m 0 c).arrAt_eq_of_covers 2 _ (by decide +kernel) fun t hf y => ?_
  have ht : t.val % 11 = 10 := (flush0_2 t).mp hf
  have hN := lt_of_lt_of_eq t.isLt N_0
  blk_simp
  rw [after0_2]
  obtain ⟨i, k, rfl⟩ : ∃ (i : Fin 1024) (k : Fin 512), y = ix2 i k := ⟨y 0, y 1, eq_ix2 y⟩
  have hi := i.isLt
  have hk := k.isLt
  refine Eq.trans ?_ ((fun G : Vec Ideal S1024x1024 .f32 => (by blk_point [places t] : G (ix2 ⟨0 + i.val, by omega⟩ ⟨t.val / 11 * 512 + k.val, by omega⟩) = G _))
    (product (m ((c.tc : Thread nD τ).loc main_arg0)) (m ((c.tc : Thread nD τ).loc main_arg1))))
  unfold product
  refine Products.block (n := 768) 11 (outsAt0 m c) (share m c) (first m c) (next m c) (handed m c) t ht (ix2 i k) _ rfl fun s p hd hm => ?_
  unfold share
  rw [part]
  refine Finset.sum_congr rfl fun q _ => congrArg₂ (fun a b : EReal => a * b) ?_ ?_
  · blk_point [iblk, V, places p]
  · blk_point [iblk, V, places p]

omit c

theorem algebraic : Cert.algebraic_GradWOutIdeal_GradWOutRefIdeal := fun m g m' g' _ hm => by
  refine ⟨_, (θ_run Cert.GradWOutIdeal.defs _ _).mono (fun _ h c => ⟨(h c).1.trans ?_, (h c).2⟩) (Cert.GradWOutIdeal.Value.run_blocks m g), reference m' g'⟩
  rw [(hm c).1, (hm c).2]
  exact final m c

end Cert.GradWOutClaims

end
-- ==== Proof.GradWSsmClaims.lean ====
/- The gradient of the weights of the state-space branch: both frames, the reference's, and the equation of the results. -/
module

public import proofs.«01_k».proof.Defs
public import proofs.«01_k».proof.Proof.Gen.GradWSsm
public import proofs.«01_k».proof.Proof.Gen.GradWSsmIdeal
public import proofs.«01_k».proof.Proof.Gen.GradWSsmIdeal.Value
public import proofs.«01_k».proof.Proof.Gen.GradWSsmRefIdeal.Run
public import proofs.«01_k».proof.Proof.Products
public import Idealize.ShloMosaic.Lib.Pipeline.ValueKit
public import Idealize.ShloMosaic.Lib.Quiescent

@[expose] public section

set_option maxRecDepth 16384

noncomputable section

namespace Cert.GradWSsmClaims

open Idealize.ShloMosaic Idealize.ShloMosaic.TcCoe Idealize.SL.Sem
open Idealize.ShloMosaic.Pipeline (Dat)
open Cert.GradWSsmIdeal Cert.GradWSsmIdeal.Gen

theorem frame_ideal : Cert.quiescent_GradWSsmIdeal := fun m g _ => Cert.GradWSsmIdeal.Gen.frame (F := Ideal) m g

/-- The program read at the machine's own numbers calls the same body. -/
theorem bodies : Cert.GradWSsm.defs₀ (F := Bits) = Cert.GradWSsmIdeal.defs₀ (F := Bits) :=
  congrArg Defs.onTc (funext fun l => funext fun _ => match l with | 0 => rfl)

theorem frame_bits : Cert.quiescent_GradWSsm := fun m g _ => by
  have hd : Cert.GradWSsm.defs (F := Bits) = Cert.GradWSsmIdeal.defs (F := Bits) := congrArg (Pipeline.defs Cert.GradWSsmIdeal.pcfgs) bodies
  rw [hd]
  exact Cert.GradWSsmIdeal.Gen.frame (F := Bits) m g

theorem frame_ref : Cert.quiescent_GradWSsmRefIdeal := fun m g _ =>
  (θ_run Cert.GradWSsmRefIdeal.defs _ _).mono (fun r h => ⟨fun c => (h c).2, sem_eq_zero_of_no_sems (by decide) r.2⟩)
    (Cert.GradWSsmRefIdeal.Value.run m g)

/-- The product of the whole arrays. -/
def product (a : Vec Ideal S8448x2048 .bf16) (b : Vec Ideal S8448x1024 .bf16) : Vec Ideal S2048x1024 .f32 :=
  fun j => ∑ x : Fin 8448, a (ix2 x (j 0)) * b (ix2 x (j 1))

/-- The reference's result is the product. -/
theorem reference (m' : (ℓ : Loc Cert.GradWSsmRefIdeal.nD Cert.GradWSsmRefIdeal.τ Cert.GradWSsmRefIdeal.sig) → Buf (Elt Ideal) ℓ) (g : Dev Cert.GradWSsmRefIdeal.nD → PrngReg) :
    θ_run Cert.GradWSsmRefIdeal.defs (onTc (τ := Cert.GradWSsmRefIdeal.τ) (Cert.GradWSsmRefIdeal.main (F := Ideal))) ⟨m', fun _ => 0, g⟩ fun r => ∀ c : Dev Cert.GradWSsmRefIdeal.nD,
      r.2.mem ((c.tc : Thread Cert.GradWSsmRefIdeal.nD Cert.GradWSsmRefIdeal.τ).loc Cert.GradWSsmRefIdeal.main_v1)
        = product (m' ((c.tc : Thread Cert.GradWSsmRefIdeal.nD Cert.GradWSsmRefIdeal.τ).loc Cert.GradWSsmRefIdeal.main_arg0)) (m' ((c.tc : Thread Cert.GradWSsmRefIdeal.nD Cert.GradWSsmRefIdeal.τ).loc Cert.GradWSsmRefIdeal.main_arg1))
      ∧ r.2.mem ((c.tc : Thread Cert.GradWSsmRefIdeal.nD Cert.GradWSsmRefIdeal.τ).loc Cert.GradWSsmRefIdeal.main_arg0) = m' ((c.tc : Thread Cert.GradWSsmRefIdeal.nD Cert.GradWSsmRefIdeal.τ).loc Cert.GradWSsmRefIdeal.main_arg0)
      ∧ r.2.mem ((c.tc : Thread Cert.GradWSsmRefIdeal.nD Cert.GradWSsmRefIdeal.τ).loc Cert.GradWSsmRefIdeal.main_arg1) = m' ((c.tc : Thread Cert.GradWSsmRefIdeal.nD Cert.GradWSsmRefIdeal.τ).loc Cert.GradWSsmRefIdeal.main_arg1) := by
  refine (θ_run Cert.GradWSsmRefIdeal.defs _ _).mono (fun r h c => ⟨(h c).1.trans ?_, (h c).2⟩) (Cert.GradWSsmRefIdeal.Value.run m' g)
  funext j
  obtain ⟨i, k, rfl⟩ : ∃ i k, j = ix2 i k := ⟨j 0, j 1, eq_ix2 j⟩
  pointwise
  unfold product
  rfl

/-- Where each window stands at a point: the points of a block run over its contraction. -/
theorem places : ∀ t : Fin cfg0.N, win0_0.index t = ![t.val % 11, 0] ∧ win0_1.index t = ![t.val % 11, t.val / 11] ∧ win0_2.index t = ![0, t.val / 11] :=
  (by decide +kernel : ∀ t : Fin grid0.N, _)

/-- A point's share of its block. -/
theorem part (v0 : Vec Ideal S768x2048 .bf16) (v1 : Vec Ideal S768x512 .bf16) (i : Fin 2048) (k : Fin 512) :
    k0_pay2 (F := Ideal) v0 v1 (ix2 i k) = ∑ x : Fin 768, v0 (ix2 x i) * v1 (ix2 x k) := by
  pointwise [k0_pay2, k0_pay1]

/-- What a later point computes is what it found and its share. -/
theorem plus (v0 : Vec Ideal S768x2048 .bf16) (v1 : Vec Ideal S768x512 .bf16) (v12 : Vec Ideal S2048x512 .f32) (j : S2048x512.Idx) :
    k0_pay3 (F := Ideal) v0 v1 v12 j = v12 j + k0_pay2 (F := Ideal) v0 v1 j := by
  pointwise [k0_pay3, k0_pay2]

variable (m : (ℓ : Loc nD τ sig) → Buf (Elt Ideal) ℓ) (c : Dev nD)

/-- A point finds what the point before left. -/
theorem held (v : Vec Ideal S2048x512 .f32) (h : scM0_0.IsWhole) : View.read (Elt Ideal) (View.whole cc0_scratch0) (h.unread v) = v :=
  h.read_unread v

/-- A point's share of its block, from what its windows hold. -/
def share (p : Fin cfg0.N) (y : S2048x512.Idx) : EReal := k0_pay2 (F := Ideal) (iblk m c 0 p) (iblk m c 1 p) y

/-- A block's first point leaves its share. -/
theorem first (t : Fin cfg0.N) (h : t.val % 11 = 0) (y : S2048x512.Idx) : (outsAt0 m c t.val t.isLt).2 y = share m c t y := by
  rw [outsAt0_A m c t h (by omega) (by omega)]
  frame_out
  rfl

/-- A later point adds its share. -/
theorem next (t : Fin cfg0.N) (h : ¬ t.val % 11 = 0) (y : S2048x512.Idx) :
    (outsAt0 m c t.val t.isLt).2 y = (outsAt0 m c (t.val - 1) (Nat.lt_of_le_of_lt (Nat.sub_le _ _) t.isLt)).2 y + share m c t y := by
  by_cases h2 : t.val % 11 = 10
  · rw [outsAt0_C m c t h (by omega) h2]
    frame_out
    rw [plus, held]
    rfl
  · rw [outsAt0_B m c t h (by omega) h2]
    frame_out
    rw [plus, held]
    rfl

/-- The last point of a block hands on what the block's points have added up. -/
theorem handed (t : Fin cfg0.N) (ht : t.val % 11 = 10) (y : S2048x512.Idx) : (outsAt0 m c t.val t.isLt).1 y = (outsAt0 m c t.val t.isLt).2 y := by
  rw [outsAt0_C m c t (by omega) (by omega) ht]
  frame_out

/-- The result is the product. -/
theorem final : (dats m 0 c).arrAt 2 cfg0.N = product (m ((c.tc : Thread nD τ).loc main_arg0)) (m ((c.tc : Thread nD τ).loc main_arg1)) := by
  refine (dats m 0 c).arrAt_eq_of_covers 2 _ (by decide +kernel) fun t hf y => ?_
  have ht : t.val % 11 = 10 := (flush0_2 t).mp hf
  have hN := lt_of_lt_of_eq t.isLt N_0
  blk_simp
  rw [after0_2]
  obtain ⟨i, k, rfl⟩ : ∃ (i : Fin 2048) (k : Fin 512), y = ix2 i k := ⟨y 0, y 1, eq_ix2 y⟩
  have hi := i.isLt
  have hk := k.isLt
  refine Eq.trans ?_ ((fun G : Vec Ideal S2048x1024 .f32 => (by blk_point [places t] : G (ix2 ⟨0 + i.val, by omega⟩ ⟨t.val / 11 * 512 + k.val, by omega⟩) = G _))
    (product (m ((c.tc : Thread nD τ).loc main_arg0)) (m ((c.tc : Thread nD τ).loc main_arg1))))
  unfold product
  refine Products.block (n := 768) 11 (outsAt0 m c) (share m c) (first m c) (next m c) (handed m c) t ht (ix2 i k) _ rfl fun s p hd hm => ?_
  unfold share
  rw [part]
  refine Finset.sum_congr rfl fun q _ => congrArg₂ (fun a b : EReal => a * b) ?_ ?_
  · blk_point [iblk, V, places p]
  · blk_point [iblk, V, places p]

omit c

theorem algebraic : Cert.algebraic_GradWSsmIdeal_GradWSsmRefIdeal := fun m g m' g' _ hm => by
  refine ⟨_, (θ_run Cert.GradWSsmIdeal.defs _ _).mono (fun _ h c => ⟨(h c).1.trans ?_, (h c).2⟩) (Cert.GradWSsmIdeal.Value.run_blocks m g), reference m' g'⟩
  rw [(hm c).1, (hm c).2]
  exact final m c

end Cert.GradWSsmClaims

end
-- ==== Proof.GradMergedClaims.lean ====
/- The gradient of the merged branches: both frames, the reference's, and the equation of the results. -/
module

public import proofs.«01_k».proof.Defs
public import proofs.«01_k».proof.Proof.Gen.GradMerged
public import proofs.«01_k».proof.Proof.Gen.GradMergedIdeal
public import proofs.«01_k».proof.Proof.Gen.GradMergedIdeal.Value
public import proofs.«01_k».proof.Proof.Gen.GradMergedRefIdeal.Run
public import Idealize.ShloMosaic.Lib.Pipeline.ValueKit
public import Idealize.ShloMosaic.Lib.Quiescent

@[expose] public section

set_option maxRecDepth 16384

noncomputable section

namespace Cert.GradMergedClaims

open Idealize.ShloMosaic Idealize.ShloMosaic.TcCoe Idealize.SL.Sem
open Idealize.ShloMosaic.Pipeline (Dat)
open Cert.GradMergedIdeal Cert.GradMergedIdeal.Gen

theorem frame_ideal : Cert.quiescent_GradMergedIdeal := fun m g _ => Cert.GradMergedIdeal.Gen.frame (F := Ideal) m g

/-- The program read at the machine's own numbers calls the same body. -/
theorem bodies : Cert.GradMerged.defs₀ (F := Bits) = Cert.GradMergedIdeal.defs₀ (F := Bits) :=
  congrArg Defs.onTc (funext fun l => funext fun _ => match l with | 0 => rfl)

theorem frame_bits : Cert.quiescent_GradMerged := fun m g _ => by
  have hd : Cert.GradMerged.defs (F := Bits) = Cert.GradMergedIdeal.defs (F := Bits) := congrArg (Pipeline.defs Cert.GradMergedIdeal.pcfgs) bodies
  rw [hd]
  exact Cert.GradMergedIdeal.Gen.frame (F := Bits) m g

theorem frame_ref : Cert.quiescent_GradMergedRefIdeal := fun m g _ =>
  (θ_run Cert.GradMergedRefIdeal.defs _ _).mono (fun r h => ⟨fun c => (h c).2, sem_eq_zero_of_no_sems (by decide) r.2⟩)
    (Cert.GradMergedRefIdeal.Value.run m g)

/-- The product of the whole arrays. -/
def product (a : Vec Ideal S8448x1024 .bf16) (b : Vec Ideal S1024x1024 .bf16) : Vec Ideal S8448x1024 .f32 :=
  fun j => ∑ x : Fin 1024, a (ix2 (j 0) x) * b (ix2 (j 1) x)

/-- The reference's result is the product. -/
theorem reference (m' : (ℓ : Loc Cert.GradMergedRefIdeal.nD Cert.GradMergedRefIdeal.τ Cert.GradMergedRefIdeal.sig) → Buf (Elt Ideal) ℓ) (g : Dev Cert.GradMergedRefIdeal.nD → PrngReg) :
    θ_run Cert.GradMergedRefIdeal.defs (onTc (τ := Cert.GradMergedRefIdeal.τ) (Cert.GradMergedRefIdeal.main (F := Ideal))) ⟨m', fun _ => 0, g⟩ fun r => ∀ c : Dev Cert.GradMergedRefIdeal.nD,
      r.2.mem ((c.tc : Thread Cert.GradMergedRefIdeal.nD Cert.GradMergedRefIdeal.τ).loc Cert.GradMergedRefIdeal.main_v1)
        = product (m' ((c.tc : Thread Cert.GradMergedRefIdeal.nD Cert.GradMergedRefIdeal.τ).loc Cert.GradMergedRefIdeal.main_arg0)) (m' ((c.tc : Thread Cert.GradMergedRefIdeal.nD Cert.GradMergedRefIdeal.τ).loc Cert.GradMergedRefIdeal.main_arg1))
      ∧ r.2.mem ((c.tc : Thread Cert.GradMergedRefIdeal.nD Cert.GradMergedRefIdeal.τ).loc Cert.GradMergedRefIdeal.main_arg0) = m' ((c.tc : Thread Cert.GradMergedRefIdeal.nD Cert.GradMergedRefIdeal.τ).loc Cert.GradMergedRefIdeal.main_arg0)
      ∧ r.2.mem ((c.tc : Thread Cert.GradMergedRefIdeal.nD Cert.GradMergedRefIdeal.τ).loc Cert.GradMergedRefIdeal.main_arg1) = m' ((c.tc : Thread Cert.GradMergedRefIdeal.nD Cert.GradMergedRefIdeal.τ).loc Cert.GradMergedRefIdeal.main_arg1) := by
  refine (θ_run Cert.GradMergedRefIdeal.defs _ _).mono (fun r h c => ⟨(h c).1.trans ?_, (h c).2⟩) (Cert.GradMergedRefIdeal.Value.run m' g)
  funext j
  obtain ⟨i, k, rfl⟩ : ∃ i k, j = ix2 i k := ⟨j 0, j 1, eq_ix2 j⟩
  pointwise
  unfold product
  rfl

/-- Where each window stands at a point, which takes a block's whole contraction. -/
theorem places : ∀ t : Fin cfg0.N, win0_0.index t = ![t.val / 2, 0] ∧ win0_1.index t = ![t.val % 2, 0] ∧ win0_2.index t = ![t.val / 2, t.val % 2] :=
  (by decide +kernel : ∀ t : Fin grid0.N, _)

/-- What a point computes is its block of the product. -/
theorem part (v0 : Vec Ideal S768x1024 .bf16) (v1 : Vec Ideal S512x1024 .bf16) (i : Fin 768) (k : Fin 512) :
    k0_pay2 (F := Ideal) v0 v1 (ix2 i k) = ∑ x : Fin 1024, v0 (ix2 i x) * v1 (ix2 k x) := by
  pointwise [k0_pay2, k0_pay1]

variable (m : (ℓ : Loc nD τ sig) → Buf (Elt Ideal) ℓ) (c : Dev nD)

/-- What a point writes back. -/
theorem written (t : Fin cfg0.N) (y : S768x512.Idx) : outsAt0 m c t y = k0_pay2 (F := Ideal) (iblk m c 0 t) (iblk m c 1 t) y := by
  unfold outsAt0
  frame_out

/-- The result is the product. -/
theorem final : (dats m 0 c).arrAt 2 cfg0.N = product (m ((c.tc : Thread nD τ).loc main_arg0)) (m ((c.tc : Thread nD τ).loc main_arg1)) := by
  refine (dats m 0 c).arrAt_eq_of_covers 2 _ (by decide +kernel) fun t hf y => ?_
  have hN := lt_of_lt_of_eq t.isLt N_0
  blk_simp
  rw [after0_2, written]
  obtain ⟨i, k, rfl⟩ : ∃ (i : Fin 768) (k : Fin 512), y = ix2 i k := ⟨y 0, y 1, eq_ix2 y⟩
  have hi := i.isLt
  have hk := k.isLt
  refine Eq.trans ?_ ((fun G : Vec Ideal S8448x1024 .f32 => (by blk_point [places t] : G (ix2 ⟨t.val / 2 * 768 + i.val, by omega⟩ ⟨t.val % 2 * 512 + k.val, by omega⟩) = G _))
    (product (m ((c.tc : Thread nD τ).loc main_arg0)) (m ((c.tc : Thread nD τ).loc main_arg1))))
  rw [part]
  unfold product
  change @Eq EReal _ _
  refine Finset.sum_congr rfl fun q _ => ?_
  refine congrArg₂ (fun a b : EReal => a * b) ?_ ?_
  · blk_point [iblk, V, places t]
  · blk_point [iblk, V, places t]

omit c

theorem algebraic : Cert.algebraic_GradMergedIdeal_GradMergedRefIdeal := fun m g m' g' _ hm => by
  refine ⟨_, (θ_run Cert.GradMergedIdeal.defs _ _).mono (fun _ h c => ⟨(h c).1.trans ?_, (h c).2⟩) (Cert.GradMergedIdeal.Value.run_blocks m g), reference m' g'⟩
  rw [(hm c).1, (hm c).2]
  exact final m c

end Cert.GradMergedClaims

end
-- ==== Proof.GradSsmClaims.lean ====
/- The gradient of what the state-space mixer gives: both frames, the reference's, and the equation of the results. -/
module

public import proofs.«01_k».proof.Defs
public import proofs.«01_k».proof.Proof.Gen.GradSsm
public import proofs.«01_k».proof.Proof.Gen.GradSsmIdeal
public import proofs.«01_k».proof.Proof.Gen.GradSsmIdeal.Value
public import proofs.«01_k».proof.Proof.Gen.GradSsmRefIdeal.Run
public import Idealize.ShloMosaic.Lib.Pipeline.ValueKit
public import Idealize.ShloMosaic.Lib.Quiescent

@[expose] public section

set_option maxRecDepth 16384

noncomputable section

namespace Cert.GradSsmClaims

open Idealize.ShloMosaic Idealize.ShloMosaic.TcCoe Idealize.SL.Sem
open Idealize.ShloMosaic.Pipeline (Dat)
open Cert.GradSsmIdeal Cert.GradSsmIdeal.Gen

theorem frame_ideal : Cert.quiescent_GradSsmIdeal := fun m g _ => Cert.GradSsmIdeal.Gen.frame (F := Ideal) m g

/-- The program read at the machine's own numbers calls the same body. -/
theorem bodies : Cert.GradSsm.defs₀ (F := Bits) = Cert.GradSsmIdeal.defs₀ (F := Bits) :=
  congrArg Defs.onTc (funext fun l => funext fun _ => match l with | 0 => rfl)

theorem frame_bits : Cert.quiescent_GradSsm := fun m g _ => by
  have hd : Cert.GradSsm.defs (F := Bits) = Cert.GradSsmIdeal.defs (F := Bits) := congrArg (Pipeline.defs Cert.GradSsmIdeal.pcfgs) bodies
  rw [hd]
  exact Cert.GradSsmIdeal.Gen.frame (F := Bits) m g

theorem frame_ref : Cert.quiescent_GradSsmRefIdeal := fun m g _ =>
  (θ_run Cert.GradSsmRefIdeal.defs _ _).mono (fun r h => ⟨fun c => (h c).2, sem_eq_zero_of_no_sems (by decide) r.2⟩)
    (Cert.GradSsmRefIdeal.Value.run m g)

/-- The product of the whole arrays. -/
def product (a : Vec Ideal S8448x1024 .bf16) (b : Vec Ideal S2048x1024 .bf16) : Vec Ideal S8448x2048 .f32 :=
  fun j => ∑ x : Fin 1024, a (ix2 (j 0) x) * b (ix2 (j 1) x)

/-- The reference's result is the product. -/
theorem reference (m' : (ℓ : Loc Cert.GradSsmRefIdeal.nD Cert.GradSsmRefIdeal.τ Cert.GradSsmRefIdeal.sig) → Buf (Elt Ideal) ℓ) (g : Dev Cert.GradSsmRefIdeal.nD → PrngReg) :
    θ_run Cert.GradSsmRefIdeal.defs (onTc (τ := Cert.GradSsmRefIdeal.τ) (Cert.GradSsmRefIdeal.main (F := Ideal))) ⟨m', fun _ => 0, g⟩ fun r => ∀ c : Dev Cert.GradSsmRefIdeal.nD,
      r.2.mem ((c.tc : Thread Cert.GradSsmRefIdeal.nD Cert.GradSsmRefIdeal.τ).loc Cert.GradSsmRefIdeal.main_v1)
        = product (m' ((c.tc : Thread Cert.GradSsmRefIdeal.nD Cert.GradSsmRefIdeal.τ).loc Cert.GradSsmRefIdeal.main_arg0)) (m' ((c.tc : Thread Cert.GradSsmRefIdeal.nD Cert.GradSsmRefIdeal.τ).loc Cert.GradSsmRefIdeal.main_arg1))
      ∧ r.2.mem ((c.tc : Thread Cert.GradSsmRefIdeal.nD Cert.GradSsmRefIdeal.τ).loc Cert.GradSsmRefIdeal.main_arg0) = m' ((c.tc : Thread Cert.GradSsmRefIdeal.nD Cert.GradSsmRefIdeal.τ).loc Cert.GradSsmRefIdeal.main_arg0)
      ∧ r.2.mem ((c.tc : Thread Cert.GradSsmRefIdeal.nD Cert.GradSsmRefIdeal.τ).loc Cert.GradSsmRefIdeal.main_arg1) = m' ((c.tc : Thread Cert.GradSsmRefIdeal.nD Cert.GradSsmRefIdeal.τ).loc Cert.GradSsmRefIdeal.main_arg1) := by
  refine (θ_run Cert.GradSsmRefIdeal.defs _ _).mono (fun r h c => ⟨(h c).1.trans ?_, (h c).2⟩) (Cert.GradSsmRefIdeal.Value.run m' g)
  funext j
  obtain ⟨i, k, rfl⟩ : ∃ i k, j = ix2 i k := ⟨j 0, j 1, eq_ix2 j⟩
  pointwise
  unfold product
  rfl

/-- Where each window stands at a point, which takes a block's whole contraction. -/
theorem places : ∀ t : Fin cfg0.N, win0_0.index t = ![t.val / 4, 0] ∧ win0_1.index t = ![t.val % 4, 0] ∧ win0_2.index t = ![t.val / 4, t.val % 4] :=
  (by decide +kernel : ∀ t : Fin grid0.N, _)

/-- What a point computes is its block of the product. -/
theorem part (v0 : Vec Ideal S768x1024 .bf16) (v1 : Vec Ideal S512x1024 .bf16) (i : Fin 768) (k : Fin 512) :
    k0_pay2 (F := Ideal) v0 v1 (ix2 i k) = ∑ x : Fin 1024, v0 (ix2 i x) * v1 (ix2 k x) := by
  pointwise [k0_pay2, k0_pay1]

variable (m : (ℓ : Loc nD τ sig) → Buf (Elt Ideal) ℓ) (c : Dev nD)

/-- What a point writes back. -/
theorem written (t : Fin cfg0.N) (y : S768x512.Idx) : outsAt0 m c t y = k0_pay2 (F := Ideal) (iblk m c 0 t) (iblk m c 1 t) y := by
  unfold outsAt0
  frame_out

/-- The result is the product. -/
theorem final : (dats m 0 c).arrAt 2 cfg0.N = product (m ((c.tc : Thread nD τ).loc main_arg0)) (m ((c.tc : Thread nD τ).loc main_arg1)) := by
  refine (dats m 0 c).arrAt_eq_of_covers 2 _ (by decide +kernel) fun t hf y => ?_
  have hN := lt_of_lt_of_eq t.isLt N_0
  blk_simp
  rw [after0_2, written]
  obtain ⟨i, k, rfl⟩ : ∃ (i : Fin 768) (k : Fin 512), y = ix2 i k := ⟨y 0, y 1, eq_ix2 y⟩
  have hi := i.isLt
  have hk := k.isLt
  refine Eq.trans ?_ ((fun G : Vec Ideal S8448x2048 .f32 => (by blk_point [places t] : G (ix2 ⟨t.val / 4 * 768 + i.val, by omega⟩ ⟨t.val % 4 * 512 + k.val, by omega⟩) = G _))
    (product (m ((c.tc : Thread nD τ).loc main_arg0)) (m ((c.tc : Thread nD τ).loc main_arg1))))
  rw [part]
  unfold product
  change @Eq EReal _ _
  refine Finset.sum_congr rfl fun q _ => ?_
  refine congrArg₂ (fun a b : EReal => a * b) ?_ ?_
  · blk_point [iblk, V, places t]
  · blk_point [iblk, V, places t]

omit c

theorem algebraic : Cert.algebraic_GradSsmIdeal_GradSsmRefIdeal := fun m g m' g' _ hm => by
  refine ⟨_, (θ_run Cert.GradSsmIdeal.defs _ _).mono (fun _ h c => ⟨(h c).1.trans ?_, (h c).2⟩) (Cert.GradSsmIdeal.Value.run_blocks m g), reference m' g'⟩
  rw [(hm c).1, (hm c).2]
  exact final m c

end Cert.GradSsmClaims

end
-- ==== Proof.AdaBwdClaims.lean ====
/- The backward pass of what makes the modulation: both frames, the reference's, and the equations of the results. -/
module

public import proofs.«01_k».proof.Defs
public import proofs.«01_k».proof.Proof.Gen.AdaBwd
public import proofs.«01_k».proof.Proof.Gen.AdaBwdIdeal
public import proofs.«01_k».proof.Proof.Gen.AdaBwdIdeal.Value
public import proofs.«01_k».proof.Proof.Gen.AdaBwdRefIdeal.Run
public import proofs.«01_k».proof.Proof.Gates
public import proofs.«01_k».proof.Proof.Products
public import Idealize.ShloMosaic.Lib.Pipeline.ValueKit
public import Idealize.ShloMosaic.Lib.Quiescent

@[expose] public section

set_option maxRecDepth 16384

noncomputable section

namespace Cert.AdaBwdClaims

open Idealize.ShloMosaic Idealize.ShloMosaic.TcCoe Idealize.SL.Sem
open Idealize.ShloMosaic.Pipeline (Dat)
open Cert.Gates
open Cert.AdaBwdIdeal Cert.AdaBwdIdeal.Gen

theorem frame_ideal : Cert.quiescent_AdaBwdIdeal := fun m g _ => Cert.AdaBwdIdeal.Gen.frame (F := Ideal) m g

/-- The program read at the machine's own numbers calls the same body. -/
theorem bodies : Cert.AdaBwd.defs₀ (F := Bits) = Cert.AdaBwdIdeal.defs₀ (F := Bits) :=
  congrArg Defs.onTc (funext fun l => funext fun _ => match l with | 0 => rfl)

theorem frame_bits : Cert.quiescent_AdaBwd := fun m g _ => by
  have hd : Cert.AdaBwd.defs (F := Bits) = Cert.AdaBwdIdeal.defs (F := Bits) := congrArg (Pipeline.defs Cert.AdaBwdIdeal.pcfgs) bodies
  rw [hd]
  exact Cert.AdaBwdIdeal.Gen.frame (F := Bits) m g

theorem frame_ref : Cert.quiescent_AdaBwdRefIdeal := fun m g _ =>
  (θ_run Cert.AdaBwdRefIdeal.defs _ _).mono (fun r h => ⟨fun c => (h c).2.2.2, sem_eq_zero_of_no_sems (by decide) r.2⟩)
    (Cert.AdaBwdRefIdeal.Value.run m g)

/-- A gradient counts in the two rows that stand for something, and the others are padding. -/
def kept (i : Fin 8) (x : EReal) : EReal := if i.val < 2 then x else 0

/-- The weights' gradient. -/
def gradW (a0 : Vec Ideal S8x1024 .f32) (a2 : Vec Ideal S8x6144 .f32) : Vec Ideal S1024x6144 .f32 := fun j =>
  ∑ r : Fin 8, silu (a0 (ix2 r (j 0))) * kept r (a2 (ix2 r (j 1)))

/-- The bias's gradient. -/
def gradB (a2 : Vec Ideal S8x6144 .f32) : Vec Ideal S1x6144 .f32 := fun j => ∑ r : Fin 8, kept r (a2 (ix2 r (j 1)))

/-- The condition's gradient. -/
def gradC (a0 : Vec Ideal S8x1024 .f32) (a1 : Vec Ideal S1024x6144 .bf16) (a2 : Vec Ideal S8x6144 .f32) : Vec Ideal S8x1024 .f32 := fun j =>
  siluBack (a0 (ix2 (j 0) (j 1))) (∑ x : Fin 6144, kept (j 0) (a2 (ix2 (j 0) x)) * a1 (ix2 (j 1) x))

/-- The reference asks the same of the row. -/
theorem counted (i : Fin 8) (x : EReal) :
    Scalar.select (IntOp.cmpi .slt (BitVec.ofNat 32 i.val) 2#32) x (id (constant (F := Ideal) Cert.AdaBwdRefIdeal.S_ .f32 0x00000000#32) ix0) = kept i x := by
  have hz : (id (constant (F := Ideal) Cert.AdaBwdRefIdeal.S_ .f32 0x00000000#32) ix0 : EReal) = 0 := by
    change constant (F := Ideal) Cert.AdaBwdRefIdeal.S_ .f32 0x00000000#32 ix0 = 0
    pointwise
  rw [hz]
  fin_cases i <;> rfl

/-- The reference's results are the gradients. -/
theorem reference
    (m' : (ℓ : Loc Cert.AdaBwdRefIdeal.nD Cert.AdaBwdRefIdeal.τ Cert.AdaBwdRefIdeal.sig) → Buf (Elt Ideal) ℓ) (g : Dev Cert.AdaBwdRefIdeal.nD → PrngReg) :
    θ_run Cert.AdaBwdRefIdeal.defs (onTc (τ := Cert.AdaBwdRefIdeal.τ) (Cert.AdaBwdRefIdeal.main (F := Ideal))) ⟨m', fun _ => 0, g⟩ fun r => ∀ c : Dev Cert.AdaBwdRefIdeal.nD,
      r.2.mem ((c.tc : Thread Cert.AdaBwdRefIdeal.nD Cert.AdaBwdRefIdeal.τ).loc Cert.AdaBwdRefIdeal.main_v18)
        = gradW (m' ((c.tc : Thread Cert.AdaBwdRefIdeal.nD Cert.AdaBwdRefIdeal.τ).loc Cert.AdaBwdRefIdeal.main_arg0)) (m' ((c.tc : Thread Cert.AdaBwdRefIdeal.nD Cert.AdaBwdRefIdeal.τ).loc Cert.AdaBwdRefIdeal.main_arg2))
      ∧ r.2.mem ((c.tc : Thread Cert.AdaBwdRefIdeal.nD Cert.AdaBwdRefIdeal.τ).loc Cert.AdaBwdRefIdeal.main_v23)
        = gradB (m' ((c.tc : Thread Cert.AdaBwdRefIdeal.nD Cert.AdaBwdRefIdeal.τ).loc Cert.AdaBwdRefIdeal.main_arg2))
      ∧ r.2.mem ((c.tc : Thread Cert.AdaBwdRefIdeal.nD Cert.AdaBwdRefIdeal.τ).loc Cert.AdaBwdRefIdeal.main_v27)
        = gradC (m' ((c.tc : Thread Cert.AdaBwdRefIdeal.nD Cert.AdaBwdRefIdeal.τ).loc Cert.AdaBwdRefIdeal.main_arg0)) (m' ((c.tc : Thread Cert.AdaBwdRefIdeal.nD Cert.AdaBwdRefIdeal.τ).loc Cert.AdaBwdRefIdeal.main_arg1)) (m' ((c.tc : Thread Cert.AdaBwdRefIdeal.nD Cert.AdaBwdRefIdeal.τ).loc Cert.AdaBwdRefIdeal.main_arg2))
      ∧ r.2.mem ((c.tc : Thread Cert.AdaBwdRefIdeal.nD Cert.AdaBwdRefIdeal.τ).loc Cert.AdaBwdRefIdeal.main_arg0) = m' ((c.tc : Thread Cert.AdaBwdRefIdeal.nD Cert.AdaBwdRefIdeal.τ).loc Cert.AdaBwdRefIdeal.main_arg0)
      ∧ r.2.mem ((c.tc : Thread Cert.AdaBwdRefIdeal.nD Cert.AdaBwdRefIdeal.τ).loc Cert.AdaBwdRefIdeal.main_arg1) = m' ((c.tc : Thread Cert.AdaBwdRefIdeal.nD Cert.AdaBwdRefIdeal.τ).loc Cert.AdaBwdRefIdeal.main_arg1)
      ∧ r.2.mem ((c.tc : Thread Cert.AdaBwdRefIdeal.nD Cert.AdaBwdRefIdeal.τ).loc Cert.AdaBwdRefIdeal.main_arg2) = m' ((c.tc : Thread Cert.AdaBwdRefIdeal.nD Cert.AdaBwdRefIdeal.τ).loc Cert.AdaBwdRefIdeal.main_arg2) := by
  refine (θ_run Cert.AdaBwdRefIdeal.defs _ _).mono (fun r h c => ⟨(h c).1.trans ?_, (h c).2.1.trans ?_, (h c).2.2.1.trans ?_, (h c).2.2.2⟩) (Cert.AdaBwdRefIdeal.Value.run m' g)
  all_goals
    funext j
    obtain ⟨i, k, rfl⟩ : ∃ i k, j = ix2 i k := ⟨j 0, j 1, eq_ix2 j⟩
    pointwise
  · exact Finset.sum_congr rfl fun r _ => congrArg (_ * ·) (counted r _)
  · exact Finset.sum_congr rfl fun r _ => counted r _
  · unfold gradC siluBack steep squash
    simp only [counted]
    rfl

/-- Where each window stands at a point, which takes a block of columns. -/
theorem places : ∀ t : Fin cfg0.N, win0_0.index t = ![0, 0] ∧ win0_1.index t = ![0, t.val] ∧ win0_2.index t = ![0, t.val]
    ∧ win0_3.index t = ![0, t.val] ∧ win0_4.index t = ![0, t.val] ∧ win0_5.index t = ![0, 0] :=
  (by decide +kernel : ∀ t : Fin grid0.N, _)

/-- What a point takes of the gradients in its columns. -/
theorem tile_kept (v1 : Vec Ideal S8x512 .f32) (i : Fin 8) (k : Fin 512) : k0_pay1 (F := Ideal) v1 (ix2 i k) = kept i (v1 (ix2 i k)) := by
  pointwise [k0_pay1]
  fin_cases i <;> rfl

/-- The weights' gradient in a block of columns. -/
theorem tile_w (v0 : Vec Ideal S8x1024 .f32) (v1 : Vec Ideal S8x512 .f32) (i : Fin 1024) (k : Fin 512) :
    k0_pay3 (F := Ideal) v0 v1 (ix2 i k) = ∑ r : Fin 8, silu (v0 (ix2 r i)) * kept r (v1 (ix2 r k)) := by
  unfold silu squash
  pointwise [k0_pay3, k0_pay2, tile_kept, Ideal.logistic]

/-- The bias's gradient in a block of columns. -/
theorem tile_b (v1 : Vec Ideal S8x512 .f32) (i : Fin 1) (k : Fin 512) : k0_pay4 (F := Ideal) v1 (ix2 i k) = ∑ r : Fin 8, kept r (v1 (ix2 r k)) := by
  pointwise [k0_pay4, tile_kept]

/-- A point's share of the product with the weights. -/
theorem part (v1 : Vec Ideal S8x512 .f32) (v20 : Vec Ideal S1024x512 .bf16) (i : Fin 8) (k : Fin 1024) :
    k0_pay5 (F := Ideal) v1 v20 (ix2 i k) = ∑ q : Fin 512, kept i (v1 (ix2 i q)) * v20 (ix2 k q) := by
  pointwise [k0_pay5, tile_kept]

/-- What a later point computes is what it found and its share. -/
theorem plus (v1 : Vec Ideal S8x512 .f32) (v20 : Vec Ideal S1024x512 .bf16) (v31 : Vec Ideal S8x1024 .f32) (j : S8x1024.Idx) :
    k0_pay6 (F := Ideal) v1 v20 v31 j = v31 j + k0_pay5 (F := Ideal) v1 v20 j := by
  pointwise [k0_pay6]

/-- What the last point makes of the sum. -/
theorem back (v0 v31 : Vec Ideal S8x1024 .f32) (j : S8x1024.Idx) : k0_pay7 (F := Ideal) v0 v31 j = siluBack (v0 j) (v31 j) := by
  unfold siluBack steep squash
  pointwise [k0_pay7, k0_pay2, Ideal.logistic]

variable (m : (ℓ : Loc nD τ sig) → Buf (Elt Ideal) ℓ) (c : Dev nD)

/-- The first result is the weights' gradient. -/
theorem final_w : (dats m 0 c).arrAt 3 cfg0.N = gradW (m ((c.tc : Thread nD τ).loc main_arg0)) (m ((c.tc : Thread nD τ).loc main_arg2)) := by
  refine (dats m 0 c).arrAt_eq_of_covers 3 _ (by decide +kernel) fun t hf y => ?_
  have hN := lt_of_lt_of_eq t.isLt N_0
  blk_simp
  rw [after0_3]
  have hs : (outsAt0 m c t.val t.isLt).1 y = k0_pay3 (F := Ideal) (iblk m c 0 t) (iblk m c 2 t) y := by
    by_cases h0 : t.val % 12 = 0
    · rw [outsAt0_A m c t h0 (by omega) (by omega)]; frame_out
    · by_cases h2 : t.val % 12 = 11
      · rw [outsAt0_C m c t h0 (by omega) h2]; frame_out
      · rw [outsAt0_B m c t h0 (by omega) h2]; frame_out
  rw [hs]
  obtain ⟨i, k, rfl⟩ : ∃ (i : Fin 1024) (k : Fin 512), y = ix2 i k := ⟨y 0, y 1, eq_ix2 y⟩
  have hi := i.isLt
  have hk := k.isLt
  refine Eq.trans ?_ ((fun G : Vec Ideal S1024x6144 .f32 => (by blk_point [places t] : G (ix2 i ⟨t.val * 512 + k.val, by omega⟩) = G _))
    (gradW (m ((c.tc : Thread nD τ).loc main_arg0)) (m ((c.tc : Thread nD τ).loc main_arg2))))
  rw [tile_w]
  unfold gradW
  change @Eq EReal _ _
  refine Finset.sum_congr rfl fun x _ => congrArg₂ (fun a b : EReal => silu a * kept x b) ?_ ?_
  · blk_point [iblk, V, places t]
  · blk_point [iblk, V, places t]

/-- The second result is the bias's gradient. -/
theorem final_b : (dats m 0 c).arrAt 4 cfg0.N = gradB (m ((c.tc : Thread nD τ).loc main_arg2)) := by
  refine (dats m 0 c).arrAt_eq_of_covers 4 _ (by decide +kernel) fun t hf y => ?_
  have hN := lt_of_lt_of_eq t.isLt N_0
  blk_simp
  rw [after0_4]
  have hs : (outsAt0 m c t.val t.isLt).2.1 y = k0_pay4 (F := Ideal) (iblk m c 2 t) y := by
    by_cases h0 : t.val % 12 = 0
    · rw [outsAt0_A m c t h0 (by omega) (by omega)]; frame_out
    · by_cases h2 : t.val % 12 = 11
      · rw [outsAt0_C m c t h0 (by omega) h2]; frame_out
      · rw [outsAt0_B m c t h0 (by omega) h2]; frame_out
  rw [hs]
  obtain ⟨i, k, rfl⟩ : ∃ (i : Fin 1) (k : Fin 512), y = ix2 i k := ⟨y 0, y 1, eq_ix2 y⟩
  have hi := i.isLt
  have hk := k.isLt
  refine Eq.trans ?_ ((fun G : Vec Ideal S1x6144 .f32 => (by blk_point [places t] : G (ix2 i ⟨t.val * 512 + k.val, by omega⟩) = G _))
    (gradB (m ((c.tc : Thread nD τ).loc main_arg2))))
  rw [tile_b]
  unfold gradB
  change @Eq EReal _ _
  refine Finset.sum_congr rfl fun x _ => congrArg (kept x) ?_
  blk_point [iblk, V, places t]

/-- A point's share of the product with the weights, from what its windows hold. -/
def share (p : Fin cfg0.N) (y : S8x1024.Idx) : EReal := k0_pay5 (F := Ideal) (iblk m c 2 p) (iblk m c 1 p) y

/-- What the points up to one have added up: before the last it is what the point leaves, and the last makes something of it. -/
def sofar (n : ℕ) (h : n < cfg0.N) (y : S8x1024.Idx) : EReal :=
  if n % 12 = 11 then (outsAt0 m c (n - 1) (Nat.lt_of_le_of_lt (Nat.sub_le _ _) h)).2.2 y + share m c ⟨n, h⟩ y else (outsAt0 m c n h).2.2 y

/-- The first point leaves its share. -/
theorem first (t : Fin cfg0.N) (h : t.val % 12 = 0) (y : S8x1024.Idx) : sofar m c t.val t.isLt y = share m c t y := by
  have hN := lt_of_lt_of_eq t.isLt N_0
  unfold sofar
  rw [if_neg (by omega), outsAt0_A m c t h (by omega) (by omega)]
  frame_out
  rfl

/-- A later point adds its share. -/
theorem next (t : Fin cfg0.N) (h : ¬ t.val % 12 = 0) (y : S8x1024.Idx) :
    sofar m c t.val t.isLt y = sofar m c (t.val - 1) (Nat.lt_of_le_of_lt (Nat.sub_le _ _) t.isLt) y + share m c t y := by
  have hN := lt_of_lt_of_eq t.isLt N_0
  unfold sofar
  rw [if_neg (by omega : ¬ (t.val - 1) % 12 = 11)]
  by_cases h2 : t.val % 12 = 11
  · rw [if_pos h2]
  · rw [if_neg h2, outsAt0_B m c t h (by omega) h2]
    frame_out
    rw [plus]
    rfl

/-- The last point hands on what it makes of the sum. -/
theorem handed (t : Fin cfg0.N) (h : t.val % 12 = 11) (y : S8x1024.Idx) :
    (outsAt0 m c t.val t.isLt).2.2 y = siluBack ((iblk m c 0 t : Vec Ideal S8x1024 .f32) y) (sofar m c t.val t.isLt y) := by
  unfold sofar
  rw [if_pos h, outsAt0_C m c t (by omega) (by omega) h]
  frame_out
  rw [back, plus]
  rfl

/-- The third result is the condition's gradient. -/
theorem final_c : (dats m 0 c).arrAt 5 cfg0.N
    = gradC (m ((c.tc : Thread nD τ).loc main_arg0)) (m ((c.tc : Thread nD τ).loc main_arg1)) (m ((c.tc : Thread nD τ).loc main_arg2)) := by
  refine (dats m 0 c).arrAt_eq_of_covers 5 _ (by decide +kernel) fun t hf y => ?_
  have ht : t.val % 12 = 11 := (flush0_5 t).mp hf
  have hN := lt_of_lt_of_eq t.isLt N_0
  blk_simp
  rw [after0_5, handed m c t ht]
  obtain ⟨i, k, rfl⟩ : ∃ (i : Fin 8) (k : Fin 1024), y = ix2 i k := ⟨y 0, y 1, eq_ix2 y⟩
  refine Eq.trans ?_ ((fun G : Vec Ideal S8x1024 .f32 => (by blk_point [places t] : G (ix2 i k) = G _))
    (gradC (m ((c.tc : Thread nD τ).loc main_arg0)) (m ((c.tc : Thread nD τ).loc main_arg1)) (m ((c.tc : Thread nD τ).loc main_arg2))))
  unfold gradC
  refine congrArg₂ siluBack (by blk_point [iblk, V, places t]) ?_
  refine Products.block (n := 512) 12 (fun n h => (sofar m c n h, sofar m c n h)) (share m c) (first m c) (next m c) (fun _ _ _ => rfl) t ht (ix2 i k) _ rfl fun s p hd hm => ?_
  have hp := lt_of_lt_of_eq p.isLt N_0
  unfold share
  rw [part]
  refine Finset.sum_congr rfl fun q _ => congrArg₂ (fun a b : EReal => kept i a * b) ?_ ?_
  · blk_point [iblk, V, places p]
  · blk_point [iblk, V, places p]

omit c

theorem algebraic : Cert.algebraic_AdaBwdIdeal_AdaBwdRefIdeal := fun m g m' g' _ hm => by
  refine ⟨_, _, _, (θ_run Cert.AdaBwdIdeal.defs _ _).mono (fun _ h c => ⟨(h c).1.trans ?_, (h c).2.1.trans ?_, (h c).2.2.1.trans ?_, (h c).2.2.2⟩) (Cert.AdaBwdIdeal.Value.run_blocks m g), reference m' g'⟩
  · rw [(hm c).1, (hm c).2.2]
    exact final_w m c
  · rw [(hm c).2.2]
    exact final_b m c
  · rw [(hm c).1, (hm c).2.1, (hm c).2.2]
    exact final_c m c

end Cert.AdaBwdClaims

end
-- ==== Proof.lean ====
module

public import proofs.«01_k».proof.Defs
public import proofs.«01_k».proof.Proof.Gen.Gather
public import proofs.«01_k».proof.Proof.Gen.Gather.Skeleton
public import proofs.«01_k».proof.Proof.Gen.Gather.Launch
public import proofs.«01_k».proof.Proof.Gen.Gather.Points
public import proofs.«01_k».proof.Proof.Gen.Gather.Frame
public import proofs.«01_k».proof.Proof.Gen.GatherIdeal
public import proofs.«01_k».proof.Proof.Gen.GatherIdeal.Skeleton
public import proofs.«01_k».proof.Proof.Gen.GatherIdeal.Launch
public import proofs.«01_k».proof.Proof.Gen.GatherIdeal.Points
public import proofs.«01_k».proof.Proof.Gen.GatherIdeal.Frame
public import proofs.«01_k».proof.Proof.Gen.GatherRefIdeal
public import proofs.«01_k».proof.Proof.Gen.GatherRefIdeal.Run
public import proofs.«01_k».proof.Proof.Gen.Scatter
public import proofs.«01_k».proof.Proof.Gen.Scatter.Skeleton
public import proofs.«01_k».proof.Proof.Gen.Scatter.Launch
public import proofs.«01_k».proof.Proof.Gen.Scatter.Regions
public import proofs.«01_k».proof.Proof.Gen.Scatter.Points
public import proofs.«01_k».proof.Proof.Gen.ScatterIdeal
public import proofs.«01_k».proof.Proof.Gen.ScatterIdeal.Skeleton
public import proofs.«01_k».proof.Proof.Gen.ScatterIdeal.Launch
public import proofs.«01_k».proof.Proof.Gen.ScatterIdeal.Regions
public import proofs.«01_k».proof.Proof.Gen.ScatterIdeal.Points
public import proofs.«01_k».proof.Proof.Gen.ScatterRefIdeal
public import proofs.«01_k».proof.Proof.Gen.ScatterRefIdeal.Run
public import proofs.«01_k».proof.Proof.Gen.Update
public import proofs.«01_k».proof.Proof.Gen.Update.Skeleton
public import proofs.«01_k».proof.Proof.Gen.Update.Launch
public import proofs.«01_k».proof.Proof.Gen.Update.Regions
public import proofs.«01_k».proof.Proof.Gen.Update.Points
public import proofs.«01_k».proof.Proof.Gen.UpdateIdeal
public import proofs.«01_k».proof.Proof.Gen.UpdateIdeal.Skeleton
public import proofs.«01_k».proof.Proof.Gen.UpdateIdeal.Launch
public import proofs.«01_k».proof.Proof.Gen.UpdateIdeal.Regions
public import proofs.«01_k».proof.Proof.Gen.UpdateIdeal.Points
public import proofs.«01_k».proof.Proof.Gen.UpdateRefIdeal
public import proofs.«01_k».proof.Proof.Gen.UpdateRefIdeal.Run
public import proofs.«01_k».proof.Proof.GatherClaims
public import proofs.«01_k».proof.Proof.ScatterClaims
public import proofs.«01_k».proof.Proof.UpdateClaims
public import proofs.«01_k».proof.Proof.LossClaims
public import proofs.«01_k».proof.Proof.GradXClaims
public import proofs.«01_k».proof.Proof.PrenormClaims
public import proofs.«01_k».proof.Proof.InProjClaims
public import proofs.«01_k».proof.Proof.Norm2Claims
public import proofs.«01_k».proof.Proof.FfnInClaims
public import proofs.«01_k».proof.Proof.SwigluClaims
public import proofs.«01_k».proof.Proof.FfnOutClaims
public import proofs.«01_k».proof.Proof.GradWInClaims
public import proofs.«01_k».proof.Proof.GradAClaims
public import proofs.«01_k».proof.Proof.AdaClaims
public import proofs.«01_k».proof.Proof.MergeClaims
public import proofs.«01_k».proof.Proof.MergeBwdClaims
public import proofs.«01_k».proof.Proof.SwigluBwdClaims
public import proofs.«01_k».proof.Proof.Norm2BwdClaims
public import proofs.«01_k».proof.Proof.GradFfnOutClaims
public import proofs.«01_k».proof.Proof.GradGatedClaims
public import proofs.«01_k».proof.Proof.GradFfnInClaims
public import proofs.«01_k».proof.Proof.GradNormedClaims
public import proofs.«01_k».proof.Proof.MixOutClaims
public import proofs.«01_k».proof.Proof.BranchSsmClaims
public import proofs.«01_k».proof.Proof.GradWOutClaims
public import proofs.«01_k».proof.Proof.GradWSsmClaims
public import proofs.«01_k».proof.Proof.GradMergedClaims
public import proofs.«01_k».proof.Proof.GradSsmClaims
public import proofs.«01_k».proof.Proof.AdaBwdClaims
public import Idealize.ShloMosaic.Adequacy
public import Idealize.ShloMosaic.Init

@[expose] public section

noncomputable section

namespace Cert.Proof

open Idealize.ShloMosaic Idealize.SL.Sem Cert.Gather

theorem claim : Cert.Claim :=
  ⟨Cert.Gather.Gen.facts, Cert.GatherIdeal.Gen.facts, Cert.GatherRefIdeal.Gen.facts, Cert.Scatter.Gen.facts, Cert.ScatterIdeal.Gen.facts, Cert.ScatterRefIdeal.Gen.facts, Cert.Update.Gen.facts, Cert.UpdateIdeal.Gen.facts, Cert.UpdateRefIdeal.Gen.facts, Cert.GatherRef.Gen.facts, Cert.ScatterRef.Gen.facts, Cert.Loss.Gen.facts, Cert.LossIdeal.Gen.facts, Cert.LossRefIdeal.Gen.facts, Cert.GradX.Gen.facts, Cert.GradXIdeal.Gen.facts, Cert.GradXRefIdeal.Gen.facts,
    Cert.Prenorm.Gen.facts, Cert.PrenormIdeal.Gen.facts, Cert.PrenormRefIdeal.Gen.facts,
    Cert.InProj.Gen.facts, Cert.InProjIdeal.Gen.facts, Cert.InProjRefIdeal.Gen.facts,
    Cert.Norm2.Gen.facts, Cert.Norm2Ideal.Gen.facts, Cert.Norm2RefIdeal.Gen.facts,
    Cert.FfnIn.Gen.facts, Cert.FfnInIdeal.Gen.facts, Cert.FfnInRefIdeal.Gen.facts,
    Cert.Swiglu.Gen.facts, Cert.SwigluIdeal.Gen.facts, Cert.SwigluRefIdeal.Gen.facts,
    Cert.FfnOut.Gen.facts, Cert.FfnOutIdeal.Gen.facts, Cert.FfnOutRefIdeal.Gen.facts,
    Cert.GradWIn.Gen.facts, Cert.GradWInIdeal.Gen.facts, Cert.GradWInRefIdeal.Gen.facts,
    Cert.GradA.Gen.facts, Cert.GradAIdeal.Gen.facts, Cert.GradARefIdeal.Gen.facts,
    Cert.Ada.Gen.facts, Cert.AdaIdeal.Gen.facts, Cert.AdaRefIdeal.Gen.facts,
    Cert.Merge.Gen.facts, Cert.MergeIdeal.Gen.facts, Cert.MergeRefIdeal.Gen.facts,
    Cert.MergeBwd.Gen.facts, Cert.MergeBwdIdeal.Gen.facts, Cert.MergeBwdRefIdeal.Gen.facts,
    Cert.SwigluBwd.Gen.facts, Cert.SwigluBwdIdeal.Gen.facts, Cert.SwigluBwdRefIdeal.Gen.facts,
    Cert.Norm2Bwd.Gen.facts, Cert.Norm2BwdIdeal.Gen.facts, Cert.Norm2BwdRefIdeal.Gen.facts,
    Cert.GradFfnOut.Gen.facts, Cert.GradFfnOutIdeal.Gen.facts, Cert.GradFfnOutRefIdeal.Gen.facts,
    Cert.GradGated.Gen.facts, Cert.GradGatedIdeal.Gen.facts, Cert.GradGatedRefIdeal.Gen.facts,
    Cert.GradFfnIn.Gen.facts, Cert.GradFfnInIdeal.Gen.facts, Cert.GradFfnInRefIdeal.Gen.facts,
    Cert.GradNormed.Gen.facts, Cert.GradNormedIdeal.Gen.facts, Cert.GradNormedRefIdeal.Gen.facts,
    Cert.MixOut.Gen.facts, Cert.MixOutIdeal.Gen.facts, Cert.MixOutRefIdeal.Gen.facts,
    Cert.BranchSsm.Gen.facts, Cert.BranchSsmIdeal.Gen.facts, Cert.BranchSsmRefIdeal.Gen.facts,
    Cert.GradWOut.Gen.facts, Cert.GradWOutIdeal.Gen.facts, Cert.GradWOutRefIdeal.Gen.facts,
    Cert.GradWSsm.Gen.facts, Cert.GradWSsmIdeal.Gen.facts, Cert.GradWSsmRefIdeal.Gen.facts,
    Cert.GradMerged.Gen.facts, Cert.GradMergedIdeal.Gen.facts, Cert.GradMergedRefIdeal.Gen.facts,
    Cert.GradSsm.Gen.facts, Cert.GradSsmIdeal.Gen.facts, Cert.GradSsmRefIdeal.Gen.facts,
    Cert.AdaBwd.Gen.facts, Cert.AdaBwdIdeal.Gen.facts, Cert.AdaBwdRefIdeal.Gen.facts,
    GatherClaims.frame_bits, GatherClaims.frame_ideal, GatherClaims.frame_ref,
    ScatterClaims.frame_bits, ScatterClaims.frame_ideal, ScatterClaims.frame_ref,
    UpdateClaims.frame_bits, UpdateClaims.frame_ideal, UpdateClaims.frame_ref,
    GatherClaims.frame_ref_bits, ScatterClaims.frame_ref_bits,
    LossClaims.frame_bits, LossClaims.frame_ideal, LossClaims.frame_ref,
    GradXClaims.frame_bits, GradXClaims.frame_ideal, GradXClaims.frame_ref,
    PrenormClaims.frame_bits, PrenormClaims.frame_ideal, PrenormClaims.frame_ref,
    InProjClaims.frame_bits, InProjClaims.frame_ideal, InProjClaims.frame_ref,
    Norm2Claims.frame_bits, Norm2Claims.frame_ideal, Norm2Claims.frame_ref,
    FfnInClaims.frame_bits, FfnInClaims.frame_ideal, FfnInClaims.frame_ref,
    SwigluClaims.frame_bits, SwigluClaims.frame_ideal, SwigluClaims.frame_ref,
    FfnOutClaims.frame_bits, FfnOutClaims.frame_ideal, FfnOutClaims.frame_ref,
    GradWInClaims.frame_bits, GradWInClaims.frame_ideal, GradWInClaims.frame_ref,
    GradAClaims.frame_bits, GradAClaims.frame_ideal, GradAClaims.frame_ref,
    AdaClaims.frame_bits, AdaClaims.frame_ideal, AdaClaims.frame_ref,
    MergeClaims.frame_bits, MergeClaims.frame_ideal, MergeClaims.frame_ref,
    MergeBwdClaims.frame_bits, MergeBwdClaims.frame_ideal, MergeBwdClaims.frame_ref,
    SwigluBwdClaims.frame_bits, SwigluBwdClaims.frame_ideal, SwigluBwdClaims.frame_ref,
    Norm2BwdClaims.frame_bits, Norm2BwdClaims.frame_ideal, Norm2BwdClaims.frame_ref,
    GradFfnOutClaims.frame_bits, GradFfnOutClaims.frame_ideal, GradFfnOutClaims.frame_ref,
    GradGatedClaims.frame_bits, GradGatedClaims.frame_ideal, GradGatedClaims.frame_ref,
    GradFfnInClaims.frame_bits, GradFfnInClaims.frame_ideal, GradFfnInClaims.frame_ref,
    GradNormedClaims.frame_bits, GradNormedClaims.frame_ideal, GradNormedClaims.frame_ref,
    MixOutClaims.frame_bits, MixOutClaims.frame_ideal, MixOutClaims.frame_ref,
    BranchSsmClaims.frame_bits, BranchSsmClaims.frame_ideal, BranchSsmClaims.frame_ref,
    GradWOutClaims.frame_bits, GradWOutClaims.frame_ideal, GradWOutClaims.frame_ref,
    GradWSsmClaims.frame_bits, GradWSsmClaims.frame_ideal, GradWSsmClaims.frame_ref,
    GradMergedClaims.frame_bits, GradMergedClaims.frame_ideal, GradMergedClaims.frame_ref,
    GradSsmClaims.frame_bits, GradSsmClaims.frame_ideal, GradSsmClaims.frame_ref,
    AdaBwdClaims.frame_bits, AdaBwdClaims.frame_ideal, AdaBwdClaims.frame_ref,
    trivial, GatherClaims.algebraic, trivial, ScatterClaims.algebraic, trivial, UpdateClaims.algebraic,
    GatherClaims.bitexact, ScatterClaims.bitexact, trivial, LossClaims.algebraic, trivial, GradXClaims.algebraic,
    trivial, PrenormClaims.algebraic, trivial, InProjClaims.algebraic, trivial, Norm2Claims.algebraic, trivial, FfnInClaims.algebraic, trivial, SwigluClaims.algebraic, trivial, FfnOutClaims.algebraic, trivial, GradWInClaims.algebraic, trivial, GradAClaims.algebraic,
    trivial, AdaClaims.algebraic, trivial, MergeClaims.algebraic, trivial, MergeBwdClaims.algebraic, trivial, SwigluBwdClaims.algebraic,
    trivial, Norm2BwdClaims.algebraic, trivial, GradFfnOutClaims.algebraic, trivial, GradGatedClaims.algebraic, trivial, GradFfnInClaims.algebraic, trivial, GradNormedClaims.algebraic,
    trivial, MixOutClaims.algebraic, trivial, BranchSsmClaims.algebraic, trivial, GradWOutClaims.algebraic, trivial, GradWSsmClaims.algebraic, trivial, GradMergedClaims.algebraic, trivial, GradSsmClaims.algebraic, trivial, AdaBwdClaims.algebraic⟩

end Cert.Proof

end
